-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelMoe [hPre_experts_in_range : Cert.Pre_experts_in_range.Facts] (m : (ℓ : Loc Cert.KernelMoe.nD Cert.KernelMoe.τ Cert.KernelMoe.sig) → Buf (Elt Bits) ℓ) : Prop :=
  ∀ c : Dev Cert.KernelMoe.nD,
    (Cert.Pre_experts_in_range.fn (F := Bits) (m ((c.tc : Thread Cert.KernelMoe.nD Cert.KernelMoe.τ).loc Cert.KernelMoe.main_arg0)) (m ((c.tc : Thread Cert.KernelMoe.nD Cert.KernelMoe.τ).loc Cert.KernelMoe.main_arg1)) (m ((c.tc : Thread Cert.KernelMoe.nD Cert.KernelMoe.τ).loc Cert.KernelMoe.main_arg2)) (m ((c.tc : Thread Cert.KernelMoe.nD Cert.KernelMoe.τ).loc Cert.KernelMoe.main_arg3)) (m ((c.tc : Thread Cert.KernelMoe.nD Cert.KernelMoe.τ).loc Cert.KernelMoe.main_arg4)) (m ((c.tc : Thread Cert.KernelMoe.nD Cert.KernelMoe.τ).loc Cert.KernelMoe.main_arg5))) = (fun _ => 1#1)

def Pre_KernelMoeIdeal [hPre_experts_in_range : Cert.Pre_experts_in_range.Facts] (m : (ℓ : Loc Cert.KernelMoeIdeal.nD Cert.KernelMoeIdeal.τ Cert.KernelMoeIdeal.sig) → Buf (Elt Ideal) ℓ) : Prop :=
  ∀ c : Dev Cert.KernelMoeIdeal.nD,
    (Cert.Pre_experts_in_range.fn (F := Ideal) (m ((c.tc : Thread Cert.KernelMoeIdeal.nD Cert.KernelMoeIdeal.τ).loc Cert.KernelMoeIdeal.main_arg0)) (m ((c.tc : Thread Cert.KernelMoeIdeal.nD Cert.KernelMoeIdeal.τ).loc Cert.KernelMoeIdeal.main_arg1)) (m ((c.tc : Thread Cert.KernelMoeIdeal.nD Cert.KernelMoeIdeal.τ).loc Cert.KernelMoeIdeal.main_arg2)) (m ((c.tc : Thread Cert.KernelMoeIdeal.nD Cert.KernelMoeIdeal.τ).loc Cert.KernelMoeIdeal.main_arg3)) (m ((c.tc : Thread Cert.KernelMoeIdeal.nD Cert.KernelMoeIdeal.τ).loc Cert.KernelMoeIdeal.main_arg4)) (m ((c.tc : Thread Cert.KernelMoeIdeal.nD Cert.KernelMoeIdeal.τ).loc Cert.KernelMoeIdeal.main_arg5))) = (fun _ => 1#1)

def Pre_ReferenceMoeIdeal (m : (ℓ : Loc Cert.ReferenceMoeIdeal.nD Cert.ReferenceMoeIdeal.τ Cert.ReferenceMoeIdeal.sig) → Buf (Elt Ideal) ℓ) : Prop :=
  True

def Pre_ReferenceMoeIdeal_experts_in_range [hPre_experts_in_range : Cert.Pre_experts_in_range.Facts] (m : (ℓ : Loc Cert.ReferenceMoeIdeal.nD Cert.ReferenceMoeIdeal.τ Cert.ReferenceMoeIdeal.sig) → Buf (Elt Ideal) ℓ) : Prop :=
  ∀ c : Dev Cert.ReferenceMoeIdeal.nD,
    (Cert.Pre_experts_in_range.fn (F := Ideal) (m ((c.tc : Thread Cert.ReferenceMoeIdeal.nD Cert.ReferenceMoeIdeal.τ).loc Cert.ReferenceMoeIdeal.main_arg0)) (m ((c.tc : Thread Cert.ReferenceMoeIdeal.nD Cert.ReferenceMoeIdeal.τ).loc Cert.ReferenceMoeIdeal.main_arg1)) (m ((c.tc : Thread Cert.ReferenceMoeIdeal.nD Cert.ReferenceMoeIdeal.τ).loc Cert.ReferenceMoeIdeal.main_arg2)) (m ((c.tc : Thread Cert.ReferenceMoeIdeal.nD Cert.ReferenceMoeIdeal.τ).loc Cert.ReferenceMoeIdeal.main_arg3)) (m ((c.tc : Thread Cert.ReferenceMoeIdeal.nD Cert.ReferenceMoeIdeal.τ).loc Cert.ReferenceMoeIdeal.main_arg4)) (m ((c.tc : Thread Cert.ReferenceMoeIdeal.nD Cert.ReferenceMoeIdeal.τ).loc Cert.ReferenceMoeIdeal.main_arg5))) = (fun _ => 1#1)

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_KernelMixIdeal_finite_rows [hPre_finite_rows : Cert.Pre_finite_rows.Facts] (m : (ℓ : Loc Cert.KernelMixIdeal.nD Cert.KernelMixIdeal.τ Cert.KernelMixIdeal.sig) → Buf (Elt Ideal) ℓ) : Prop :=
  ∀ c : Dev Cert.KernelMixIdeal.nD,
    (Cert.Pre_finite_rows.fn (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3)) (m ((c.tc : Thread Cert.KernelMixIdeal.nD Cert.KernelMixIdeal.τ).loc Cert.KernelMixIdeal.main_arg4)) (m ((c.tc : Thread Cert.KernelMixIdeal.nD Cert.KernelMixIdeal.τ).loc Cert.KernelMixIdeal.main_arg5)) (m ((c.tc : Thread Cert.KernelMixIdeal.nD Cert.KernelMixIdeal.τ).loc Cert.KernelMixIdeal.main_arg6)) (m ((c.tc : Thread Cert.KernelMixIdeal.nD Cert.KernelMixIdeal.τ).loc Cert.KernelMixIdeal.main_arg7)) (m ((c.tc : Thread Cert.KernelMixIdeal.nD Cert.KernelMixIdeal.τ).loc Cert.KernelMixIdeal.main_arg8)) (m ((c.tc : Thread Cert.KernelMixIdeal.nD Cert.KernelMixIdeal.τ).loc Cert.KernelMixIdeal.main_arg9)) (m ((c.tc : Thread Cert.KernelMixIdeal.nD Cert.KernelMixIdeal.τ).loc Cert.KernelMixIdeal.main_arg10)) (m ((c.tc : Thread Cert.KernelMixIdeal.nD Cert.KernelMixIdeal.τ).loc Cert.KernelMixIdeal.main_arg11))) = (fun _ => 1#1)

def Pre_ReferenceMixIdeal (m : (ℓ : Loc Cert.ReferenceMixIdeal.nD Cert.ReferenceMixIdeal.τ Cert.ReferenceMixIdeal.sig) → Buf (Elt Ideal) ℓ) : Prop :=
  True

def Pre_ReferenceMixIdeal_finite_rows [hPre_finite_rows : Cert.Pre_finite_rows.Facts] (m : (ℓ : Loc Cert.ReferenceMixIdeal.nD Cert.ReferenceMixIdeal.τ Cert.ReferenceMixIdeal.sig) → Buf (Elt Ideal) ℓ) : Prop :=
  ∀ c : Dev Cert.ReferenceMixIdeal.nD,
    (Cert.Pre_finite_rows.fn (F := Ideal) (m ((c.tc : Thread Cert.ReferenceMixIdeal.nD Cert.ReferenceMixIdeal.τ).loc Cert.ReferenceMixIdeal.main_arg0)) (m ((c.tc : Thread Cert.ReferenceMixIdeal.nD Cert.ReferenceMixIdeal.τ).loc Cert.ReferenceMixIdeal.main_arg1)) (m ((c.tc : Thread Cert.ReferenceMixIdeal.nD Cert.ReferenceMixIdeal.τ).loc Cert.ReferenceMixIdeal.main_arg2)) (m ((c.tc : Thread Cert.ReferenceMixIdeal.nD Cert.ReferenceMixIdeal.τ).loc Cert.ReferenceMixIdeal.main_arg3)) (m ((c.tc : Thread Cert.ReferenceMixIdeal.nD Cert.ReferenceMixIdeal.τ).loc Cert.ReferenceMixIdeal.main_arg4)) (m ((c.tc : Thread Cert.ReferenceMixIdeal.nD Cert.ReferenceMixIdeal.τ).loc Cert.ReferenceMixIdeal.main_arg5)) (m ((c.tc : Thread Cert.ReferenceMixIdeal.nD Cert.ReferenceMixIdeal.τ).loc Cert.ReferenceMixIdeal.main_arg6)) (m ((c.tc : Thread Cert.ReferenceMixIdeal.nD Cert.ReferenceMixIdeal.τ).loc Cert.ReferenceMixIdeal.main_arg7)) (m ((c.tc : Thread Cert.ReferenceMixIdeal.nD Cert.ReferenceMixIdeal.τ).loc Cert.ReferenceMixIdeal.main_arg8)) (m ((c.tc : Thread Cert.ReferenceMixIdeal.nD Cert.ReferenceMixIdeal.τ).loc Cert.ReferenceMixIdeal.main_arg9)) (m ((c.tc : Thread Cert.ReferenceMixIdeal.nD Cert.ReferenceMixIdeal.τ).loc Cert.ReferenceMixIdeal.main_arg10)) (m ((c.tc : Thread Cert.ReferenceMixIdeal.nD Cert.ReferenceMixIdeal.τ).loc Cert.ReferenceMixIdeal.main_arg11))) = (fun _ => 1#1)

def Pre_KernelScan (m : (ℓ : Loc Cert.KernelScan.nD Cert.KernelScan.τ Cert.KernelScan.sig) → Buf (Elt Bits) ℓ) : Prop :=
  True

def Pre_KernelScanIdeal (m : (ℓ : Loc Cert.KernelScanIdeal.nD Cert.KernelScanIdeal.τ Cert.KernelScanIdeal.sig) → Buf (Elt Ideal) ℓ) : Prop :=
  True

def Pre_KernelScanIdeal_finite_scan [hPre_finite_scan : Cert.Pre_finite_scan.Facts] (m : (ℓ : Loc Cert.KernelScanIdeal.nD Cert.KernelScanIdeal.τ Cert.KernelScanIdeal.sig) → Buf (Elt Ideal) ℓ) : Prop :=
  ∀ c : Dev Cert.KernelScanIdeal.nD,
    (Cert.Pre_finite_scan.fn (F := Ideal) (m ((c.tc : Thread Cert.KernelScanIdeal.nD Cert.KernelScanIdeal.τ).loc Cert.KernelScanIdeal.main_arg0)) (m ((c.tc : Thread Cert.KernelScanIdeal.nD Cert.KernelScanIdeal.τ).loc Cert.KernelScanIdeal.main_arg1)) (m ((c.tc : Thread Cert.KernelScanIdeal.nD Cert.KernelScanIdeal.τ).loc Cert.KernelScanIdeal.main_arg2)) (m ((c.tc : Thread Cert.KernelScanIdeal.nD Cert.KernelScanIdeal.τ).loc Cert.KernelScanIdeal.main_arg3)) (m ((c.tc : Thread Cert.KernelScanIdeal.nD Cert.KernelScanIdeal.τ).loc Cert.KernelScanIdeal.main_arg4)) (m ((c.tc : Thread Cert.KernelScanIdeal.nD Cert.KernelScanIdeal.τ).loc Cert.KernelScanIdeal.main_arg5)) (m ((c.tc : Thread Cert.KernelScanIdeal.nD Cert.KernelScanIdeal.τ).loc Cert.KernelScanIdeal.main_arg6)) (m ((c.tc : Thread Cert.KernelScanIdeal.nD Cert.KernelScanIdeal.τ).loc Cert.KernelScanIdeal.main_arg7)) (m ((c.tc : Thread Cert.KernelScanIdeal.nD Cert.KernelScanIdeal.τ).loc Cert.KernelScanIdeal.main_arg8)) (m ((c.tc : Thread Cert.KernelScanIdeal.nD Cert.KernelScanIdeal.τ).loc Cert.KernelScanIdeal.main_arg9)) (m ((c.tc : Thread Cert.KernelScanIdeal.nD Cert.KernelScanIdeal.τ).loc Cert.KernelScanIdeal.main_arg10))) = (fun _ => 1#1)

def Pre_ReferenceScanIdeal (m : (ℓ : Loc Cert.ReferenceScanIdeal.nD Cert.ReferenceScanIdeal.τ Cert.ReferenceScanIdeal.sig) → Buf (Elt Ideal) ℓ) : Prop :=
  True

def Pre_ReferenceScanIdeal_finite_scan [hPre_finite_scan : Cert.Pre_finite_scan.Facts] (m : (ℓ : Loc Cert.ReferenceScanIdeal.nD Cert.ReferenceScanIdeal.τ Cert.ReferenceScanIdeal.sig) → Buf (Elt Ideal) ℓ) : Prop :=
  ∀ c : Dev Cert.ReferenceScanIdeal.nD,
    (Cert.Pre_finite_scan.fn (F := Ideal) (m ((c.tc : Thread Cert.ReferenceScanIdeal.nD Cert.ReferenceScanIdeal.τ).loc Cert.ReferenceScanIdeal.main_arg0)) (m ((c.tc : Thread Cert.ReferenceScanIdeal.nD Cert.ReferenceScanIdeal.τ).loc Cert.ReferenceScanIdeal.main_arg1)) (m ((c.tc : Thread Cert.ReferenceScanIdeal.nD Cert.ReferenceScanIdeal.τ).loc Cert.ReferenceScanIdeal.main_arg2)) (m ((c.tc : Thread Cert.ReferenceScanIdeal.nD Cert.ReferenceScanIdeal.τ).loc Cert.ReferenceScanIdeal.main_arg3)) (m ((c.tc : Thread Cert.ReferenceScanIdeal.nD Cert.ReferenceScanIdeal.τ).loc Cert.ReferenceScanIdeal.main_arg4)) (m ((c.tc : Thread Cert.ReferenceScanIdeal.nD Cert.ReferenceScanIdeal.τ).loc Cert.ReferenceScanIdeal.main_arg5)) (m ((c.tc : Thread Cert.ReferenceScanIdeal.nD Cert.ReferenceScanIdeal.τ).loc Cert.ReferenceScanIdeal.main_arg6)) (m ((c.tc : Thread Cert.ReferenceScanIdeal.nD Cert.ReferenceScanIdeal.τ).loc Cert.ReferenceScanIdeal.main_arg7)) (m ((c.tc : Thread Cert.ReferenceScanIdeal.nD Cert.ReferenceScanIdeal.τ).loc Cert.ReferenceScanIdeal.main_arg8)) (m ((c.tc : Thread Cert.ReferenceScanIdeal.nD Cert.ReferenceScanIdeal.τ).loc Cert.ReferenceScanIdeal.main_arg9)) (m ((c.tc : Thread Cert.ReferenceScanIdeal.nD Cert.ReferenceScanIdeal.τ).loc Cert.ReferenceScanIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5)
      ∧ r.2.mem ((c.tc : Thread Cert.KernelOut.nD Cert.KernelOut.τ).loc Cert.KernelOut.main_arg6) = m ((c.tc : Thread Cert.KernelOut.nD Cert.KernelOut.τ).loc Cert.KernelOut.main_arg6))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
      ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5)
      ∧ r.2.mem ((c.tc : Thread Cert.ReferenceOutIdeal.nD Cert.ReferenceOutIdeal.τ).loc Cert.ReferenceOutIdeal.main_arg6) = m ((c.tc : Thread Cert.ReferenceOutIdeal.nD Cert.ReferenceOutIdeal.τ).loc Cert.ReferenceOutIdeal.main_arg6))
      ∧ r.2.sem = fun _ => 0)

def quiescent_KernelMoe [hKernelMoe : Cert.KernelMoe.Facts] [hPre_experts_in_range : Cert.Pre_experts_in_range.Facts] : Prop :=
  ∀ (m : (ℓ : Loc Cert.KernelMoe.nD Cert.KernelMoe.τ Cert.KernelMoe.sig) → Buf (Elt Bits) ℓ) (g : Dev Cert.KernelMoe.nD → PrngReg), Pre_KernelMoe m →
    θ_run (Cert.KernelMoe.defs (F := Bits)) (onTc (τ := Cert.KernelMoe.τ) (Cert.KernelMoe.main (F := Bits))) ⟨m, fun _ => 0, g⟩ (fun r => (∀ c : Dev Cert.KernelMoe.nD,
      r.2.mem ((c.tc : Thread Cert.KernelMoe.nD Cert.KernelMoe.τ).loc Cert.KernelMoe.main_arg0) = m ((c.tc : Thread Cert.KernelMoe.nD Cert.KernelMoe.τ).loc Cert.KernelMoe.main_arg0)
      ∧ r.2.mem ((c.tc : Thread Cert.KernelMoe.nD Cert.KernelMoe.τ).loc Cert.KernelMoe.main_arg1) = m ((c.tc : Thread Cert.KernelMoe.nD Cert.KernelMoe.τ).loc Cert.KernelMoe.main_arg1)
      ∧ r.2.mem ((c.tc : Thread Cert.KernelMoe.nD Cert.KernelMoe.τ).loc Cert.KernelMoe.main_arg2) = m ((c.tc : Thread Cert.KernelMoe.nD Cert.KernelMoe.τ).loc Cert.KernelMoe.main_arg2)
      ∧ r.2.mem ((c.tc : Thread Cert.KernelMoe.nD Cert.KernelMoe.τ).loc Cert.KernelMoe.main_arg3) = m ((c.tc : Thread Cert.KernelMoe.nD Cert.KernelMoe.τ).loc Cert.KernelMoe.main_arg3)
      ∧ r.2.mem ((c.tc : Thread Cert.KernelMoe.nD Cert.KernelMoe.τ).loc Cert.KernelMoe.main_arg4) = m ((c.tc : Thread Cert.KernelMoe.nD Cert.KernelMoe.τ).loc Cert.KernelMoe.main_arg4)
      ∧ r.2.mem ((c.tc : Thread Cert.KernelMoe.nD Cert.KernelMoe.τ).loc Cert.KernelMoe.main_arg5) = m ((c.tc : Thread Cert.KernelMoe.nD Cert.KernelMoe.τ).loc Cert.KernelMoe.main_arg5))
      ∧ r.2.sem = fun _ => 0)

def quiescent_KernelMoeIdeal [hKernelMoeIdeal : Cert.KernelMoeIdeal.Facts] [hPre_experts_in_range : Cert.Pre_experts_in_range.Facts] : Prop :=
  ∀ (m : (ℓ : Loc Cert.KernelMoeIdeal.nD Cert.KernelMoeIdeal.τ Cert.KernelMoeIdeal.sig) → Buf (Elt Ideal) ℓ) (g : Dev Cert.KernelMoeIdeal.nD → PrngReg), Pre_KernelMoeIdeal m →
    θ_run (Cert.KernelMoeIdeal.defs (F := Ideal)) (onTc (τ := Cert.KernelMoeIdeal.τ) (Cert.KernelMoeIdeal.main (F := Ideal))) ⟨m, fun _ => 0, g⟩ (fun r => (∀ c : Dev Cert.KernelMoeIdeal.nD,
      r.2.mem ((c.tc : Thread Cert.KernelMoeIdeal.nD Cert.KernelMoeIdeal.τ).loc Cert.KernelMoeIdeal.main_arg0) = m ((c.tc : Thread Cert.KernelMoeIdeal.nD Cert.KernelMoeIdeal.τ).loc Cert.KernelMoeIdeal.main_arg0)
      ∧ r.2.mem ((c.tc : Thread Cert.KernelMoeIdeal.nD Cert.KernelMoeIdeal.τ).loc Cert.KernelMoeIdeal.main_arg1) = m ((c.tc : Thread Cert.KernelMoeIdeal.nD Cert.KernelMoeIdeal.τ).loc Cert.KernelMoeIdeal.main_arg1)
      ∧ r.2.mem ((c.tc : Thread Cert.KernelMoeIdeal.nD Cert.KernelMoeIdeal.τ).loc Cert.KernelMoeIdeal.main_arg2) = m ((c.tc : Thread Cert.KernelMoeIdeal.nD Cert.KernelMoeIdeal.τ).loc Cert.KernelMoeIdeal.main_arg2)
      ∧ r.2.mem ((c.tc : Thread Cert.KernelMoeIdeal.nD Cert.KernelMoeIdeal.τ).loc Cert.KernelMoeIdeal.main_arg3) = m ((c.tc : Thread Cert.KernelMoeIdeal.nD Cert.KernelMoeIdeal.τ).loc Cert.KernelMoeIdeal.main_arg3)
      ∧ r.2.mem ((c.tc : Thread Cert.KernelMoeIdeal.nD Cert.KernelMoeIdeal.τ).loc Cert.KernelMoeIdeal.main_arg4) = m ((c.tc : Thread Cert.KernelMoeIdeal.nD Cert.KernelMoeIdeal.τ).loc Cert.KernelMoeIdeal.main_arg4)
      ∧ r.2.mem ((c.tc : Thread Cert.KernelMoeIdeal.nD Cert.KernelMoeIdeal.τ).loc Cert.KernelMoeIdeal.main_arg5) = m ((c.tc : Thread Cert.KernelMoeIdeal.nD Cert.KernelMoeIdeal.τ).loc Cert.KernelMoeIdeal.main_arg5))
      ∧ r.2.sem = fun _ => 0)

def quiescent_ReferenceMoeIdeal [hReferenceMoeIdeal : Cert.ReferenceMoeIdeal.Facts] : Prop :=
  ∀ (m : (ℓ : Loc Cert.ReferenceMoeIdeal.nD Cert.ReferenceMoeIdeal.τ Cert.ReferenceMoeIdeal.sig) → Buf (Elt Ideal) ℓ) (g : Dev Cert.ReferenceMoeIdeal.nD → PrngReg), Pre_ReferenceMoeIdeal m →
    θ_run (Cert.ReferenceMoeIdeal.defs (F := Ideal)) (onTc (τ := Cert.ReferenceMoeIdeal.τ) (Cert.ReferenceMoeIdeal.main (F := Ideal))) ⟨m, fun _ => 0, g⟩ (fun r => (∀ c : Dev Cert.ReferenceMoeIdeal.nD,
      r.2.mem ((c.tc : Thread Cert.ReferenceMoeIdeal.nD Cert.ReferenceMoeIdeal.τ).loc Cert.ReferenceMoeIdeal.main_arg0) = m ((c.tc : Thread Cert.ReferenceMoeIdeal.nD Cert.ReferenceMoeIdeal.τ).loc Cert.ReferenceMoeIdeal.main_arg0)
      ∧ r.2.mem ((c.tc : Thread Cert.ReferenceMoeIdeal.nD Cert.ReferenceMoeIdeal.τ).loc Cert.ReferenceMoeIdeal.main_arg1) = m ((c.tc : Thread Cert.ReferenceMoeIdeal.nD Cert.ReferenceMoeIdeal.τ).loc Cert.ReferenceMoeIdeal.main_arg1)
      ∧ r.2.mem ((c.tc : Thread Cert.ReferenceMoeIdeal.nD Cert.ReferenceMoeIdeal.τ).loc Cert.ReferenceMoeIdeal.main_arg2) = m ((c.tc : Thread Cert.ReferenceMoeIdeal.nD Cert.ReferenceMoeIdeal.τ).loc Cert.ReferenceMoeIdeal.main_arg2)
      ∧ r.2.mem ((c.tc : Thread Cert.ReferenceMoeIdeal.nD Cert.ReferenceMoeIdeal.τ).loc Cert.ReferenceMoeIdeal.main_arg3) = m ((c.tc : Thread Cert.ReferenceMoeIdeal.nD Cert.ReferenceMoeIdeal.τ).loc Cert.ReferenceMoeIdeal.main_arg3)
      ∧ r.2.mem ((c.tc : Thread Cert.ReferenceMoeIdeal.nD Cert.ReferenceMoeIdeal.τ).loc Cert.ReferenceMoeIdeal.main_arg4) = m ((c.tc : Thread Cert.ReferenceMoeIdeal.nD Cert.ReferenceMoeIdeal.τ).loc Cert.ReferenceMoeIdeal.main_arg4)
      ∧ r.2.mem ((c.tc : Thread Cert.ReferenceMoeIdeal.nD Cert.ReferenceMoeIdeal.τ).loc Cert.ReferenceMoeIdeal.main_arg5) = m ((c.tc : Thread Cert.ReferenceMoeIdeal.nD Cert.ReferenceMoeIdeal.τ).loc Cert.ReferenceMoeIdeal.main_arg5))
      ∧ r.2.sem = fun _ => 0)

def quiescent_ReferenceMoeIdeal_pre_experts_in_range [hReferenceMoeIdeal : Cert.ReferenceMoeIdeal.Facts] [hPre_experts_in_range : Cert.Pre_experts_in_range.Facts] : Prop :=
  ∀ (m : (ℓ : Loc Cert.ReferenceMoeIdeal.nD Cert.ReferenceMoeIdeal.τ Cert.ReferenceMoeIdeal.sig) → Buf (Elt Ideal) ℓ) (g : Dev Cert.ReferenceMoeIdeal.nD → PrngReg), Pre_ReferenceMoeIdeal_experts_in_range m →
    θ_run (Cert.ReferenceMoeIdeal.defs (F := Ideal)) (onTc (τ := Cert.ReferenceMoeIdeal.τ) (Cert.ReferenceMoeIdeal.main (F := Ideal))) ⟨m, fun _ => 0, g⟩ (fun r => (∀ c : Dev Cert.ReferenceMoeIdeal.nD,
      r.2.mem ((c.tc : Thread Cert.ReferenceMoeIdeal.nD Cert.ReferenceMoeIdeal.τ).loc Cert.ReferenceMoeIdeal.main_arg0) = m ((c.tc : Thread Cert.ReferenceMoeIdeal.nD Cert.ReferenceMoeIdeal.τ).loc Cert.ReferenceMoeIdeal.main_arg0)
      ∧ r.2.mem ((c.tc : Thread Cert.ReferenceMoeIdeal.nD Cert.ReferenceMoeIdeal.τ).loc Cert.ReferenceMoeIdeal.main_arg1) = m ((c.tc : Thread Cert.ReferenceMoeIdeal.nD Cert.ReferenceMoeIdeal.τ).loc Cert.ReferenceMoeIdeal.main_arg1)
      ∧ r.2.mem ((c.tc : Thread Cert.ReferenceMoeIdeal.nD Cert.ReferenceMoeIdeal.τ).loc Cert.ReferenceMoeIdeal.main_arg2) = m ((c.tc : Thread Cert.ReferenceMoeIdeal.nD Cert.ReferenceMoeIdeal.τ).loc Cert.ReferenceMoeIdeal.main_arg2)
      ∧ r.2.mem ((c.tc : Thread Cert.ReferenceMoeIdeal.nD Cert.ReferenceMoeIdeal.τ).loc Cert.ReferenceMoeIdeal.main_arg3) = m ((c.tc : Thread Cert.ReferenceMoeIdeal.nD Cert.ReferenceMoeIdeal.τ).loc Cert.ReferenceMoeIdeal.main_arg3)
      ∧ r.2.mem ((c.tc : Thread Cert.ReferenceMoeIdeal.nD Cert.ReferenceMoeIdeal.τ).loc Cert.ReferenceMoeIdeal.main_arg4) = m ((c.tc : Thread Cert.ReferenceMoeIdeal.nD Cert.ReferenceMoeIdeal.τ).loc Cert.ReferenceMoeIdeal.main_arg4)
      ∧ r.2.mem ((c.tc : Thread Cert.ReferenceMoeIdeal.nD Cert.ReferenceMoeIdeal.τ).loc Cert.ReferenceMoeIdeal.main_arg5) = m ((c.tc : Thread Cert.ReferenceMoeIdeal.nD Cert.ReferenceMoeIdeal.τ).loc Cert.ReferenceMoeIdeal.main_arg5))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5)
      ∧ r.2.mem ((c.tc : Thread Cert.KernelMix.nD Cert.KernelMix.τ).loc Cert.KernelMix.main_arg6) = m ((c.tc : Thread Cert.KernelMix.nD Cert.KernelMix.τ).loc Cert.KernelMix.main_arg6)
      ∧ r.2.mem ((c.tc : Thread Cert.KernelMix.nD Cert.KernelMix.τ).loc Cert.KernelMix.main_arg7) = m ((c.tc : Thread Cert.KernelMix.nD Cert.KernelMix.τ).loc Cert.KernelMix.main_arg7)
      ∧ r.2.mem ((c.tc : Thread Cert.KernelMix.nD Cert.KernelMix.τ).loc Cert.KernelMix.main_arg8) = m ((c.tc : Thread Cert.KernelMix.nD Cert.KernelMix.τ).loc Cert.KernelMix.main_arg8)
      ∧ r.2.mem ((c.tc : Thread Cert.KernelMix.nD Cert.KernelMix.τ).loc Cert.KernelMix.main_arg9) = m ((c.tc : Thread Cert.KernelMix.nD Cert.KernelMix.τ).loc Cert.KernelMix.main_arg9)
      ∧ r.2.mem ((c.tc : Thread Cert.KernelMix.nD Cert.KernelMix.τ).loc Cert.KernelMix.main_arg10) = m ((c.tc : Thread Cert.KernelMix.nD Cert.KernelMix.τ).loc Cert.KernelMix.main_arg10)
      ∧ r.2.mem ((c.tc : Thread Cert.KernelMix.nD Cert.KernelMix.τ).loc Cert.KernelMix.main_arg11) = m ((c.tc : Thread Cert.KernelMix.nD Cert.KernelMix.τ).loc Cert.KernelMix.main_arg11))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
      ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7)
      ∧ r.2.mem ((c.tc : Thread Cert.KernelMixIdeal.nD Cert.KernelMixIdeal.τ).loc Cert.KernelMixIdeal.main_arg8) = m ((c.tc : Thread Cert.KernelMixIdeal.nD Cert.KernelMixIdeal.τ).loc Cert.KernelMixIdeal.main_arg8)
      ∧ r.2.mem ((c.tc : Thread Cert.KernelMixIdeal.nD Cert.KernelMixIdeal.τ).loc Cert.KernelMixIdeal.main_arg9) = m ((c.tc : Thread Cert.KernelMixIdeal.nD Cert.KernelMixIdeal.τ).loc Cert.KernelMixIdeal.main_arg9)
      ∧ r.2.mem ((c.tc : Thread Cert.KernelMixIdeal.nD Cert.KernelMixIdeal.τ).loc Cert.KernelMixIdeal.main_arg10) = m ((c.tc : Thread Cert.KernelMixIdeal.nD Cert.KernelMixIdeal.τ).loc Cert.KernelMixIdeal.main_arg10)
      ∧ r.2.mem ((c.tc : Thread Cert.KernelMixIdeal.nD Cert.KernelMixIdeal.τ).loc Cert.KernelMixIdeal.main_arg11) = m ((c.tc : Thread Cert.KernelMixIdeal.nD Cert.KernelMixIdeal.τ).loc Cert.KernelMixIdeal.main_arg11))
      ∧ r.2.sem = fun _ => 0)

def quiescent_KernelMixIdeal_pre_finite_rows [hKernelMixIdeal : Cert.KernelMixIdeal.Facts] [hPre_finite_rows : Cert.Pre_finite_rows.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal_finite_rows m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
      ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7)
      ∧ r.2.mem ((c.tc : Thread Cert.KernelMixIdeal.nD Cert.KernelMixIdeal.τ).loc Cert.KernelMixIdeal.main_arg8) = m ((c.tc : Thread Cert.KernelMixIdeal.nD Cert.KernelMixIdeal.τ).loc Cert.KernelMixIdeal.main_arg8)
      ∧ r.2.mem ((c.tc : Thread Cert.KernelMixIdeal.nD Cert.KernelMixIdeal.τ).loc Cert.KernelMixIdeal.main_arg9) = m ((c.tc : Thread Cert.KernelMixIdeal.nD Cert.KernelMixIdeal.τ).loc Cert.KernelMixIdeal.main_arg9)
      ∧ r.2.mem ((c.tc : Thread Cert.KernelMixIdeal.nD Cert.KernelMixIdeal.τ).loc Cert.KernelMixIdeal.main_arg10) = m ((c.tc : Thread Cert.KernelMixIdeal.nD Cert.KernelMixIdeal.τ).loc Cert.KernelMixIdeal.main_arg10)
      ∧ r.2.mem ((c.tc : Thread Cert.KernelMixIdeal.nD Cert.KernelMixIdeal.τ).loc Cert.KernelMixIdeal.main_arg11) = m ((c.tc : Thread Cert.KernelMixIdeal.nD Cert.KernelMixIdeal.τ).loc Cert.KernelMixIdeal.main_arg11))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6)
      ∧ r.2.mem ((c.tc : Thread Cert.ReferenceMixIdeal.nD Cert.ReferenceMixIdeal.τ).loc Cert.ReferenceMixIdeal.main_arg7) = m ((c.tc : Thread Cert.ReferenceMixIdeal.nD Cert.ReferenceMixIdeal.τ).loc Cert.ReferenceMixIdeal.main_arg7)
      ∧ r.2.mem ((c.tc : Thread Cert.ReferenceMixIdeal.nD Cert.ReferenceMixIdeal.τ).loc Cert.ReferenceMixIdeal.main_arg8) = m ((c.tc : Thread Cert.ReferenceMixIdeal.nD Cert.ReferenceMixIdeal.τ).loc Cert.ReferenceMixIdeal.main_arg8)
      ∧ r.2.mem ((c.tc : Thread Cert.ReferenceMixIdeal.nD Cert.ReferenceMixIdeal.τ).loc Cert.ReferenceMixIdeal.main_arg9) = m ((c.tc : Thread Cert.ReferenceMixIdeal.nD Cert.ReferenceMixIdeal.τ).loc Cert.ReferenceMixIdeal.main_arg9)
      ∧ r.2.mem ((c.tc : Thread Cert.ReferenceMixIdeal.nD Cert.ReferenceMixIdeal.τ).loc Cert.ReferenceMixIdeal.main_arg10) = m ((c.tc : Thread Cert.ReferenceMixIdeal.nD Cert.ReferenceMixIdeal.τ).loc Cert.ReferenceMixIdeal.main_arg10)
      ∧ r.2.mem ((c.tc : Thread Cert.ReferenceMixIdeal.nD Cert.ReferenceMixIdeal.τ).loc Cert.ReferenceMixIdeal.main_arg11) = m ((c.tc : Thread Cert.ReferenceMixIdeal.nD Cert.ReferenceMixIdeal.τ).loc Cert.ReferenceMixIdeal.main_arg11))
      ∧ r.2.sem = fun _ => 0)

def quiescent_ReferenceMixIdeal_pre_finite_rows [hReferenceMixIdeal : Cert.ReferenceMixIdeal.Facts] [hPre_finite_rows : Cert.Pre_finite_rows.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal_finite_rows m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6)
      ∧ r.2.mem ((c.tc : Thread Cert.ReferenceMixIdeal.nD Cert.ReferenceMixIdeal.τ).loc Cert.ReferenceMixIdeal.main_arg7) = m ((c.tc : Thread Cert.ReferenceMixIdeal.nD Cert.ReferenceMixIdeal.τ).loc Cert.ReferenceMixIdeal.main_arg7)
      ∧ r.2.mem ((c.tc : Thread Cert.ReferenceMixIdeal.nD Cert.ReferenceMixIdeal.τ).loc Cert.ReferenceMixIdeal.main_arg8) = m ((c.tc : Thread Cert.ReferenceMixIdeal.nD Cert.ReferenceMixIdeal.τ).loc Cert.ReferenceMixIdeal.main_arg8)
      ∧ r.2.mem ((c.tc : Thread Cert.ReferenceMixIdeal.nD Cert.ReferenceMixIdeal.τ).loc Cert.ReferenceMixIdeal.main_arg9) = m ((c.tc : Thread Cert.ReferenceMixIdeal.nD Cert.ReferenceMixIdeal.τ).loc Cert.ReferenceMixIdeal.main_arg9)
      ∧ r.2.mem ((c.tc : Thread Cert.ReferenceMixIdeal.nD Cert.ReferenceMixIdeal.τ).loc Cert.ReferenceMixIdeal.main_arg10) = m ((c.tc : Thread Cert.ReferenceMixIdeal.nD Cert.ReferenceMixIdeal.τ).loc Cert.ReferenceMixIdeal.main_arg10)
      ∧ r.2.mem ((c.tc : Thread Cert.ReferenceMixIdeal.nD Cert.ReferenceMixIdeal.τ).loc Cert.ReferenceMixIdeal.main_arg11) = m ((c.tc : Thread Cert.ReferenceMixIdeal.nD Cert.ReferenceMixIdeal.τ).loc Cert.ReferenceMixIdeal.main_arg11))
      ∧ r.2.sem = fun _ => 0)

def quiescent_KernelScan [hKernelScan : Cert.KernelScan.Facts] : Prop :=
  ∀ (m : (ℓ : Loc Cert.KernelScan.nD Cert.KernelScan.τ Cert.KernelScan.sig) → Buf (Elt Bits) ℓ) (g : Dev Cert.KernelScan.nD → PrngReg), Pre_KernelScan m →
    θ_run (Cert.KernelScan.defs (F := Bits)) (onTc (τ := Cert.KernelScan.τ) (Cert.KernelScan.main (F := Bits))) ⟨m, fun _ => 0, g⟩ (fun r => (∀ c : Dev Cert.KernelScan.nD,
      r.2.mem ((c.tc : Thread Cert.KernelScan.nD Cert.KernelScan.τ).loc Cert.KernelScan.main_arg0) = m ((c.tc : Thread Cert.KernelScan.nD Cert.KernelScan.τ).loc Cert.KernelScan.main_arg0)
      ∧ r.2.mem ((c.tc : Thread Cert.KernelScan.nD Cert.KernelScan.τ).loc Cert.KernelScan.main_arg1) = m ((c.tc : Thread Cert.KernelScan.nD Cert.KernelScan.τ).loc Cert.KernelScan.main_arg1)
      ∧ r.2.mem ((c.tc : Thread Cert.KernelScan.nD Cert.KernelScan.τ).loc Cert.KernelScan.main_arg2) = m ((c.tc : Thread Cert.KernelScan.nD Cert.KernelScan.τ).loc Cert.KernelScan.main_arg2)
      ∧ r.2.mem ((c.tc : Thread Cert.KernelScan.nD Cert.KernelScan.τ).loc Cert.KernelScan.main_arg3) = m ((c.tc : Thread Cert.KernelScan.nD Cert.KernelScan.τ).loc Cert.KernelScan.main_arg3)
      ∧ r.2.mem ((c.tc : Thread Cert.KernelScan.nD Cert.KernelScan.τ).loc Cert.KernelScan.main_arg4) = m ((c.tc : Thread Cert.KernelScan.nD Cert.KernelScan.τ).loc Cert.KernelScan.main_arg4)
      ∧ r.2.mem ((c.tc : Thread Cert.KernelScan.nD Cert.KernelScan.τ).loc Cert.KernelScan.main_arg5) = m ((c.tc : Thread Cert.KernelScan.nD Cert.KernelScan.τ).loc Cert.KernelScan.main_arg5)
      ∧ r.2.mem ((c.tc : Thread Cert.KernelScan.nD Cert.KernelScan.τ).loc Cert.KernelScan.main_arg6) = m ((c.tc : Thread Cert.KernelScan.nD Cert.KernelScan.τ).loc Cert.KernelScan.main_arg6)
      ∧ r.2.mem ((c.tc : Thread Cert.KernelScan.nD Cert.KernelScan.τ).loc Cert.KernelScan.main_arg7) = m ((c.tc : Thread Cert.KernelScan.nD Cert.KernelScan.τ).loc Cert.KernelScan.main_arg7)
      ∧ r.2.mem ((c.tc : Thread Cert.KernelScan.nD Cert.KernelScan.τ).loc Cert.KernelScan.main_arg8) = m ((c.tc : Thread Cert.KernelScan.nD Cert.KernelScan.τ).loc Cert.KernelScan.main_arg8)
      ∧ r.2.mem ((c.tc : Thread Cert.KernelScan.nD Cert.KernelScan.τ).loc Cert.KernelScan.main_arg9) = m ((c.tc : Thread Cert.KernelScan.nD Cert.KernelScan.τ).loc Cert.KernelScan.main_arg9)
      ∧ r.2.mem ((c.tc : Thread Cert.KernelScan.nD Cert.KernelScan.τ).loc Cert.KernelScan.main_arg10) = m ((c.tc : Thread Cert.KernelScan.nD Cert.KernelScan.τ).loc Cert.KernelScan.main_arg10))
      ∧ r.2.sem = fun _ => 0)

def quiescent_KernelScanIdeal [hKernelScanIdeal : Cert.KernelScanIdeal.Facts] : Prop :=
  ∀ (m : (ℓ : Loc Cert.KernelScanIdeal.nD Cert.KernelScanIdeal.τ Cert.KernelScanIdeal.sig) → Buf (Elt Ideal) ℓ) (g : Dev Cert.KernelScanIdeal.nD → PrngReg), Pre_KernelScanIdeal m →
    θ_run (Cert.KernelScanIdeal.defs (F := Ideal)) (onTc (τ := Cert.KernelScanIdeal.τ) (Cert.KernelScanIdeal.main (F := Ideal))) ⟨m, fun _ => 0, g⟩ (fun r => (∀ c : Dev Cert.KernelScanIdeal.nD,
      r.2.mem ((c.tc : Thread Cert.KernelScanIdeal.nD Cert.KernelScanIdeal.τ).loc Cert.KernelScanIdeal.main_arg0) = m ((c.tc : Thread Cert.KernelScanIdeal.nD Cert.KernelScanIdeal.τ).loc Cert.KernelScanIdeal.main_arg0)
      ∧ r.2.mem ((c.tc : Thread Cert.KernelScanIdeal.nD Cert.KernelScanIdeal.τ).loc Cert.KernelScanIdeal.main_arg1) = m ((c.tc : Thread Cert.KernelScanIdeal.nD Cert.KernelScanIdeal.τ).loc Cert.KernelScanIdeal.main_arg1)
      ∧ r.2.mem ((c.tc : Thread Cert.KernelScanIdeal.nD Cert.KernelScanIdeal.τ).loc Cert.KernelScanIdeal.main_arg2) = m ((c.tc : Thread Cert.KernelScanIdeal.nD Cert.KernelScanIdeal.τ).loc Cert.KernelScanIdeal.main_arg2)
      ∧ r.2.mem ((c.tc : Thread Cert.KernelScanIdeal.nD Cert.KernelScanIdeal.τ).loc Cert.KernelScanIdeal.main_arg3) = m ((c.tc : Thread Cert.KernelScanIdeal.nD Cert.KernelScanIdeal.τ).loc Cert.KernelScanIdeal.main_arg3)
      ∧ r.2.mem ((c.tc : Thread Cert.KernelScanIdeal.nD Cert.KernelScanIdeal.τ).loc Cert.KernelScanIdeal.main_arg4) = m ((c.tc : Thread Cert.KernelScanIdeal.nD Cert.KernelScanIdeal.τ).loc Cert.KernelScanIdeal.main_arg4)
      ∧ r.2.mem ((c.tc : Thread Cert.KernelScanIdeal.nD Cert.KernelScanIdeal.τ).loc Cert.KernelScanIdeal.main_arg5) = m ((c.tc : Thread Cert.KernelScanIdeal.nD Cert.KernelScanIdeal.τ).loc Cert.KernelScanIdeal.main_arg5)
      ∧ r.2.mem ((c.tc : Thread Cert.KernelScanIdeal.nD Cert.KernelScanIdeal.τ).loc Cert.KernelScanIdeal.main_arg6) = m ((c.tc : Thread Cert.KernelScanIdeal.nD Cert.KernelScanIdeal.τ).loc Cert.KernelScanIdeal.main_arg6)
      ∧ r.2.mem ((c.tc : Thread Cert.KernelScanIdeal.nD Cert.KernelScanIdeal.τ).loc Cert.KernelScanIdeal.main_arg7) = m ((c.tc : Thread Cert.KernelScanIdeal.nD Cert.KernelScanIdeal.τ).loc Cert.KernelScanIdeal.main_arg7)
      ∧ r.2.mem ((c.tc : Thread Cert.KernelScanIdeal.nD Cert.KernelScanIdeal.τ).loc Cert.KernelScanIdeal.main_arg8) = m ((c.tc : Thread Cert.KernelScanIdeal.nD Cert.KernelScanIdeal.τ).loc Cert.KernelScanIdeal.main_arg8)
      ∧ r.2.mem ((c.tc : Thread Cert.KernelScanIdeal.nD Cert.KernelScanIdeal.τ).loc Cert.KernelScanIdeal.main_arg9) = m ((c.tc : Thread Cert.KernelScanIdeal.nD Cert.KernelScanIdeal.τ).loc Cert.KernelScanIdeal.main_arg9)
      ∧ r.2.mem ((c.tc : Thread Cert.KernelScanIdeal.nD Cert.KernelScanIdeal.τ).loc Cert.KernelScanIdeal.main_arg10) = m ((c.tc : Thread Cert.KernelScanIdeal.nD Cert.KernelScanIdeal.τ).loc Cert.KernelScanIdeal.main_arg10))
      ∧ r.2.sem = fun _ => 0)

def quiescent_KernelScanIdeal_pre_finite_scan [hKernelScanIdeal : Cert.KernelScanIdeal.Facts] [hPre_finite_scan : Cert.Pre_finite_scan.Facts] : Prop :=
  ∀ (m : (ℓ : Loc Cert.KernelScanIdeal.nD Cert.KernelScanIdeal.τ Cert.KernelScanIdeal.sig) → Buf (Elt Ideal) ℓ) (g : Dev Cert.KernelScanIdeal.nD → PrngReg), Pre_KernelScanIdeal_finite_scan m →
    θ_run (Cert.KernelScanIdeal.defs (F := Ideal)) (onTc (τ := Cert.KernelScanIdeal.τ) (Cert.KernelScanIdeal.main (F := Ideal))) ⟨m, fun _ => 0, g⟩ (fun r => (∀ c : Dev Cert.KernelScanIdeal.nD,
      r.2.mem ((c.tc : Thread Cert.KernelScanIdeal.nD Cert.KernelScanIdeal.τ).loc Cert.KernelScanIdeal.main_arg0) = m ((c.tc : Thread Cert.KernelScanIdeal.nD Cert.KernelScanIdeal.τ).loc Cert.KernelScanIdeal.main_arg0)
      ∧ r.2.mem ((c.tc : Thread Cert.KernelScanIdeal.nD Cert.KernelScanIdeal.τ).loc Cert.KernelScanIdeal.main_arg1) = m ((c.tc : Thread Cert.KernelScanIdeal.nD Cert.KernelScanIdeal.τ).loc Cert.KernelScanIdeal.main_arg1)
      ∧ r.2.mem ((c.tc : Thread Cert.KernelScanIdeal.nD Cert.KernelScanIdeal.τ).loc Cert.KernelScanIdeal.main_arg2) = m ((c.tc : Thread Cert.KernelScanIdeal.nD Cert.KernelScanIdeal.τ).loc Cert.KernelScanIdeal.main_arg2)
      ∧ r.2.mem ((c.tc : Thread Cert.KernelScanIdeal.nD Cert.KernelScanIdeal.τ).loc Cert.KernelScanIdeal.main_arg3) = m ((c.tc : Thread Cert.KernelScanIdeal.nD Cert.KernelScanIdeal.τ).loc Cert.KernelScanIdeal.main_arg3)
      ∧ r.2.mem ((c.tc : Thread Cert.KernelScanIdeal.nD Cert.KernelScanIdeal.τ).loc Cert.KernelScanIdeal.main_arg4) = m ((c.tc : Thread Cert.KernelScanIdeal.nD Cert.KernelScanIdeal.τ).loc Cert.KernelScanIdeal.main_arg4)
      ∧ r.2.mem ((c.tc : Thread Cert.KernelScanIdeal.nD Cert.KernelScanIdeal.τ).loc Cert.KernelScanIdeal.main_arg5) = m ((c.tc : Thread Cert.KernelScanIdeal.nD Cert.KernelScanIdeal.τ).loc Cert.KernelScanIdeal.main_arg5)
      ∧ r.2.mem ((c.tc : Thread Cert.KernelScanIdeal.nD Cert.KernelScanIdeal.τ).loc Cert.KernelScanIdeal.main_arg6) = m ((c.tc : Thread Cert.KernelScanIdeal.nD Cert.KernelScanIdeal.τ).loc Cert.KernelScanIdeal.main_arg6)
      ∧ r.2.mem ((c.tc : Thread Cert.KernelScanIdeal.nD Cert.KernelScanIdeal.τ).loc Cert.KernelScanIdeal.main_arg7) = m ((c.tc : Thread Cert.KernelScanIdeal.nD Cert.KernelScanIdeal.τ).loc Cert.KernelScanIdeal.main_arg7)
      ∧ r.2.mem ((c.tc : Thread Cert.KernelScanIdeal.nD Cert.KernelScanIdeal.τ).loc Cert.KernelScanIdeal.main_arg8) = m ((c.tc : Thread Cert.KernelScanIdeal.nD Cert.KernelScanIdeal.τ).loc Cert.KernelScanIdeal.main_arg8)
      ∧ r.2.mem ((c.tc : Thread Cert.KernelScanIdeal.nD Cert.KernelScanIdeal.τ).loc Cert.KernelScanIdeal.main_arg9) = m ((c.tc : Thread Cert.KernelScanIdeal.nD Cert.KernelScanIdeal.τ).loc Cert.KernelScanIdeal.main_arg9)
      ∧ r.2.mem ((c.tc : Thread Cert.KernelScanIdeal.nD Cert.KernelScanIdeal.τ).loc Cert.KernelScanIdeal.main_arg10) = m ((c.tc : Thread Cert.KernelScanIdeal.nD Cert.KernelScanIdeal.τ).loc Cert.KernelScanIdeal.main_arg10))
      ∧ r.2.sem = fun _ => 0)

def quiescent_ReferenceScanIdeal [hReferenceScanIdeal : Cert.ReferenceScanIdeal.Facts] : Prop :=
  ∀ (m : (ℓ : Loc Cert.ReferenceScanIdeal.nD Cert.ReferenceScanIdeal.τ Cert.ReferenceScanIdeal.sig) → Buf (Elt Ideal) ℓ) (g : Dev Cert.ReferenceScanIdeal.nD → PrngReg), Pre_ReferenceScanIdeal m →
    θ_run (Cert.ReferenceScanIdeal.defs (F := Ideal)) (onTc (τ := Cert.ReferenceScanIdeal.τ) (Cert.ReferenceScanIdeal.main (F := Ideal))) ⟨m, fun _ => 0, g⟩ (fun r => (∀ c : Dev Cert.ReferenceScanIdeal.nD,
      r.2.mem ((c.tc : Thread Cert.ReferenceScanIdeal.nD Cert.ReferenceScanIdeal.τ).loc Cert.ReferenceScanIdeal.main_arg0) = m ((c.tc : Thread Cert.ReferenceScanIdeal.nD Cert.ReferenceScanIdeal.τ).loc Cert.ReferenceScanIdeal.main_arg0)
      ∧ r.2.mem ((c.tc : Thread Cert.ReferenceScanIdeal.nD Cert.ReferenceScanIdeal.τ).loc Cert.ReferenceScanIdeal.main_arg1) = m ((c.tc : Thread Cert.ReferenceScanIdeal.nD Cert.ReferenceScanIdeal.τ).loc Cert.ReferenceScanIdeal.main_arg1)
      ∧ r.2.mem ((c.tc : Thread Cert.ReferenceScanIdeal.nD Cert.ReferenceScanIdeal.τ).loc Cert.ReferenceScanIdeal.main_arg2) = m ((c.tc : Thread Cert.ReferenceScanIdeal.nD Cert.ReferenceScanIdeal.τ).loc Cert.ReferenceScanIdeal.main_arg2)
      ∧ r.2.mem ((c.tc : Thread Cert.ReferenceScanIdeal.nD Cert.ReferenceScanIdeal.τ).loc Cert.ReferenceScanIdeal.main_arg3) = m ((c.tc : Thread Cert.ReferenceScanIdeal.nD Cert.ReferenceScanIdeal.τ).loc Cert.ReferenceScanIdeal.main_arg3)
      ∧ r.2.mem ((c.tc : Thread Cert.ReferenceScanIdeal.nD Cert.ReferenceScanIdeal.τ).loc Cert.ReferenceScanIdeal.main_arg4) = m ((c.tc : Thread Cert.ReferenceScanIdeal.nD Cert.ReferenceScanIdeal.τ).loc Cert.ReferenceScanIdeal.main_arg4)
      ∧ r.2.mem ((c.tc : Thread Cert.ReferenceScanIdeal.nD Cert.ReferenceScanIdeal.τ).loc Cert.ReferenceScanIdeal.main_arg5) = m ((c.tc : Thread Cert.ReferenceScanIdeal.nD Cert.ReferenceScanIdeal.τ).loc Cert.ReferenceScanIdeal.main_arg5)
      ∧ r.2.mem ((c.tc : Thread Cert.ReferenceScanIdeal.nD Cert.ReferenceScanIdeal.τ).loc Cert.ReferenceScanIdeal.main_arg6) = m ((c.tc : Thread Cert.ReferenceScanIdeal.nD Cert.ReferenceScanIdeal.τ).loc Cert.ReferenceScanIdeal.main_arg6)
      ∧ r.2.mem ((c.tc : Thread Cert.ReferenceScanIdeal.nD Cert.ReferenceScanIdeal.τ).loc Cert.ReferenceScanIdeal.main_arg7) = m ((c.tc : Thread Cert.ReferenceScanIdeal.nD Cert.ReferenceScanIdeal.τ).loc Cert.ReferenceScanIdeal.main_arg7)
      ∧ r.2.mem ((c.tc : Thread Cert.ReferenceScanIdeal.nD Cert.ReferenceScanIdeal.τ).loc Cert.ReferenceScanIdeal.main_arg8) = m ((c.tc : Thread Cert.ReferenceScanIdeal.nD Cert.ReferenceScanIdeal.τ).loc Cert.ReferenceScanIdeal.main_arg8)
      ∧ r.2.mem ((c.tc : Thread Cert.ReferenceScanIdeal.nD Cert.ReferenceScanIdeal.τ).loc Cert.ReferenceScanIdeal.main_arg9) = m ((c.tc : Thread Cert.ReferenceScanIdeal.nD Cert.ReferenceScanIdeal.τ).loc Cert.ReferenceScanIdeal.main_arg9)
      ∧ r.2.mem ((c.tc : Thread Cert.ReferenceScanIdeal.nD Cert.ReferenceScanIdeal.τ).loc Cert.ReferenceScanIdeal.main_arg10) = m ((c.tc : Thread Cert.ReferenceScanIdeal.nD Cert.ReferenceScanIdeal.τ).loc Cert.ReferenceScanIdeal.main_arg10))
      ∧ r.2.sem = fun _ => 0)

def quiescent_ReferenceScanIdeal_pre_finite_scan [hReferenceScanIdeal : Cert.ReferenceScanIdeal.Facts] [hPre_finite_scan : Cert.Pre_finite_scan.Facts] : Prop :=
  ∀ (m : (ℓ : Loc Cert.ReferenceScanIdeal.nD Cert.ReferenceScanIdeal.τ Cert.ReferenceScanIdeal.sig) → Buf (Elt Ideal) ℓ) (g : Dev Cert.ReferenceScanIdeal.nD → PrngReg), Pre_ReferenceScanIdeal_finite_scan m →
    θ_run (Cert.ReferenceScanIdeal.defs (F := Ideal)) (onTc (τ := Cert.ReferenceScanIdeal.τ) (Cert.ReferenceScanIdeal.main (F := Ideal))) ⟨m, fun _ => 0, g⟩ (fun r => (∀ c : Dev Cert.ReferenceScanIdeal.nD,
      r.2.mem ((c.tc : Thread Cert.ReferenceScanIdeal.nD Cert.ReferenceScanIdeal.τ).loc Cert.ReferenceScanIdeal.main_arg0) = m ((c.tc : Thread Cert.ReferenceScanIdeal.nD Cert.ReferenceScanIdeal.τ).loc Cert.ReferenceScanIdeal.main_arg0)
      ∧ r.2.mem ((c.tc : Thread Cert.ReferenceScanIdeal.nD Cert.ReferenceScanIdeal.τ).loc Cert.ReferenceScanIdeal.main_arg1) = m ((c.tc : Thread Cert.ReferenceScanIdeal.nD Cert.ReferenceScanIdeal.τ).loc Cert.ReferenceScanIdeal.main_arg1)
      ∧ r.2.mem ((c.tc : Thread Cert.ReferenceScanIdeal.nD Cert.ReferenceScanIdeal.τ).loc Cert.ReferenceScanIdeal.main_arg2) = m ((c.tc : Thread Cert.ReferenceScanIdeal.nD Cert.ReferenceScanIdeal.τ).loc Cert.ReferenceScanIdeal.main_arg2)
      ∧ r.2.mem ((c.tc : Thread Cert.ReferenceScanIdeal.nD Cert.ReferenceScanIdeal.τ).loc Cert.ReferenceScanIdeal.main_arg3) = m ((c.tc : Thread Cert.ReferenceScanIdeal.nD Cert.ReferenceScanIdeal.τ).loc Cert.ReferenceScanIdeal.main_arg3)
      ∧ r.2.mem ((c.tc : Thread Cert.ReferenceScanIdeal.nD Cert.ReferenceScanIdeal.τ).loc Cert.ReferenceScanIdeal.main_arg4) = m ((c.tc : Thread Cert.ReferenceScanIdeal.nD Cert.ReferenceScanIdeal.τ).loc Cert.ReferenceScanIdeal.main_arg4)
      ∧ r.2.mem ((c.tc : Thread Cert.ReferenceScanIdeal.nD Cert.ReferenceScanIdeal.τ).loc Cert.ReferenceScanIdeal.main_arg5) = m ((c.tc : Thread Cert.ReferenceScanIdeal.nD Cert.ReferenceScanIdeal.τ).loc Cert.ReferenceScanIdeal.main_arg5)
      ∧ r.2.mem ((c.tc : Thread Cert.ReferenceScanIdeal.nD Cert.ReferenceScanIdeal.τ).loc Cert.ReferenceScanIdeal.main_arg6) = m ((c.tc : Thread Cert.ReferenceScanIdeal.nD Cert.ReferenceScanIdeal.τ).loc Cert.ReferenceScanIdeal.main_arg6)
      ∧ r.2.mem ((c.tc : Thread Cert.ReferenceScanIdeal.nD Cert.ReferenceScanIdeal.τ).loc Cert.ReferenceScanIdeal.main_arg7) = m ((c.tc : Thread Cert.ReferenceScanIdeal.nD Cert.ReferenceScanIdeal.τ).loc Cert.ReferenceScanIdeal.main_arg7)
      ∧ r.2.mem ((c.tc : Thread Cert.ReferenceScanIdeal.nD Cert.ReferenceScanIdeal.τ).loc Cert.ReferenceScanIdeal.main_arg8) = m ((c.tc : Thread Cert.ReferenceScanIdeal.nD Cert.ReferenceScanIdeal.τ).loc Cert.ReferenceScanIdeal.main_arg8)
      ∧ r.2.mem ((c.tc : Thread Cert.ReferenceScanIdeal.nD Cert.ReferenceScanIdeal.τ).loc Cert.ReferenceScanIdeal.main_arg9) = m ((c.tc : Thread Cert.ReferenceScanIdeal.nD Cert.ReferenceScanIdeal.τ).loc Cert.ReferenceScanIdeal.main_arg9)
      ∧ r.2.mem ((c.tc : Thread Cert.ReferenceScanIdeal.nD Cert.ReferenceScanIdeal.τ).loc Cert.ReferenceScanIdeal.main_arg10) = m ((c.tc : Thread Cert.ReferenceScanIdeal.nD Cert.ReferenceScanIdeal.τ).loc Cert.ReferenceScanIdeal.main_arg10))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)) →
    ∃ (v0 : (c : Dev Cert.KernelFfnIdeal.nD) → Buf (Elt Ideal) ((c.tc : Thread Cert.KernelFfnIdeal.nD Cert.KernelFfnIdeal.τ).loc Cert.KernelFfnIdeal.main_v4)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v4) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v18) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)) →
    ∃ (v0 : (c : Dev Cert.KernelProjIdeal.nD) → Buf (Elt Ideal) ((c.tc : Thread Cert.KernelProjIdeal.nD Cert.KernelProjIdeal.τ).loc Cert.KernelProjIdeal.main_v2)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v2) = v0 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v13) = v0 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)
      ∧ m' ((c.tc : Thread Cert.ReferenceOutIdeal.nD Cert.ReferenceOutIdeal.τ).loc Cert.ReferenceOutIdeal.main_arg6) = m ((c.tc : Thread Cert.KernelOutIdeal.nD Cert.KernelOutIdeal.τ).loc Cert.KernelOutIdeal.main_arg6)) →
    ∃ (v0 : (c : Dev Cert.KernelOutIdeal.nD) → Buf (Elt Ideal) ((c.tc : Thread Cert.KernelOutIdeal.nD Cert.KernelOutIdeal.τ).loc Cert.KernelOutIdeal.main_v2)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v2) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
          ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v7) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5)
          ∧ r.2.mem ((c.tc : Thread Cert.ReferenceOutIdeal.nD Cert.ReferenceOutIdeal.τ).loc Cert.ReferenceOutIdeal.main_arg6) = m' ((c.tc : Thread Cert.ReferenceOutIdeal.nD Cert.ReferenceOutIdeal.τ).loc Cert.ReferenceOutIdeal.main_arg6))

def preserves_KernelMoe_KernelMoeIdeal : Prop :=
  True

def algebraic_KernelMoeIdeal_ReferenceMoeIdeal [hKernelMoeIdeal : Cert.KernelMoeIdeal.Facts] [hReferenceMoeIdeal : Cert.ReferenceMoeIdeal.Facts] [hPre_experts_in_range : Cert.Pre_experts_in_range.Facts] : Prop :=
  ∀ (m : (ℓ : Loc Cert.KernelMoeIdeal.nD Cert.KernelMoeIdeal.τ Cert.KernelMoeIdeal.sig) → Buf (Elt Ideal) ℓ) (g : Dev Cert.KernelMoeIdeal.nD → PrngReg)
    (m' : (ℓ : Loc Cert.ReferenceMoeIdeal.nD Cert.ReferenceMoeIdeal.τ Cert.ReferenceMoeIdeal.sig) → Buf (Elt Ideal) ℓ) (g' : Dev Cert.ReferenceMoeIdeal.nD → PrngReg), Pre_KernelMoeIdeal m →
    (∀ c : Dev Cert.KernelMoeIdeal.nD,
      m' ((c.tc : Thread Cert.ReferenceMoeIdeal.nD Cert.ReferenceMoeIdeal.τ).loc Cert.ReferenceMoeIdeal.main_arg0) = m ((c.tc : Thread Cert.KernelMoeIdeal.nD Cert.KernelMoeIdeal.τ).loc Cert.KernelMoeIdeal.main_arg0)
      ∧ m' ((c.tc : Thread Cert.ReferenceMoeIdeal.nD Cert.ReferenceMoeIdeal.τ).loc Cert.ReferenceMoeIdeal.main_arg1) = m ((c.tc : Thread Cert.KernelMoeIdeal.nD Cert.KernelMoeIdeal.τ).loc Cert.KernelMoeIdeal.main_arg1)
      ∧ m' ((c.tc : Thread Cert.ReferenceMoeIdeal.nD Cert.ReferenceMoeIdeal.τ).loc Cert.ReferenceMoeIdeal.main_arg2) = m ((c.tc : Thread Cert.KernelMoeIdeal.nD Cert.KernelMoeIdeal.τ).loc Cert.KernelMoeIdeal.main_arg2)
      ∧ m' ((c.tc : Thread Cert.ReferenceMoeIdeal.nD Cert.ReferenceMoeIdeal.τ).loc Cert.ReferenceMoeIdeal.main_arg3) = m ((c.tc : Thread Cert.KernelMoeIdeal.nD Cert.KernelMoeIdeal.τ).loc Cert.KernelMoeIdeal.main_arg3)
      ∧ m' ((c.tc : Thread Cert.ReferenceMoeIdeal.nD Cert.ReferenceMoeIdeal.τ).loc Cert.ReferenceMoeIdeal.main_arg4) = m ((c.tc : Thread Cert.KernelMoeIdeal.nD Cert.KernelMoeIdeal.τ).loc Cert.KernelMoeIdeal.main_arg4)
      ∧ m' ((c.tc : Thread Cert.ReferenceMoeIdeal.nD Cert.ReferenceMoeIdeal.τ).loc Cert.ReferenceMoeIdeal.main_arg5) = m ((c.tc : Thread Cert.KernelMoeIdeal.nD Cert.KernelMoeIdeal.τ).loc Cert.KernelMoeIdeal.main_arg5)) →
    ∃ (v0 : (c : Dev Cert.KernelMoeIdeal.nD) → Buf (Elt Ideal) ((c.tc : Thread Cert.KernelMoeIdeal.nD Cert.KernelMoeIdeal.τ).loc Cert.KernelMoeIdeal.main_v0)),
      θ_run (Cert.KernelMoeIdeal.defs (F := Ideal)) (onTc (τ := Cert.KernelMoeIdeal.τ) (Cert.KernelMoeIdeal.main (F := Ideal))) ⟨m, fun _ => 0, g⟩ (fun r => ∀ c : Dev Cert.KernelMoeIdeal.nD,
          r.2.mem ((c.tc : Thread Cert.KernelMoeIdeal.nD Cert.KernelMoeIdeal.τ).loc Cert.KernelMoeIdeal.main_v0) = v0 c
          ∧ r.2.mem ((c.tc : Thread Cert.KernelMoeIdeal.nD Cert.KernelMoeIdeal.τ).loc Cert.KernelMoeIdeal.main_arg0) = m ((c.tc : Thread Cert.KernelMoeIdeal.nD Cert.KernelMoeIdeal.τ).loc Cert.KernelMoeIdeal.main_arg0)
          ∧ r.2.mem ((c.tc : Thread Cert.KernelMoeIdeal.nD Cert.KernelMoeIdeal.τ).loc Cert.KernelMoeIdeal.main_arg1) = m ((c.tc : Thread Cert.KernelMoeIdeal.nD Cert.KernelMoeIdeal.τ).loc Cert.KernelMoeIdeal.main_arg1)
          ∧ r.2.mem ((c.tc : Thread Cert.KernelMoeIdeal.nD Cert.KernelMoeIdeal.τ).loc Cert.KernelMoeIdeal.main_arg2) = m ((c.tc : Thread Cert.KernelMoeIdeal.nD Cert.KernelMoeIdeal.τ).loc Cert.KernelMoeIdeal.main_arg2)
          ∧ r.2.mem ((c.tc : Thread Cert.KernelMoeIdeal.nD Cert.KernelMoeIdeal.τ).loc Cert.KernelMoeIdeal.main_arg3) = m ((c.tc : Thread Cert.KernelMoeIdeal.nD Cert.KernelMoeIdeal.τ).loc Cert.KernelMoeIdeal.main_arg3)
          ∧ r.2.mem ((c.tc : Thread Cert.KernelMoeIdeal.nD Cert.KernelMoeIdeal.τ).loc Cert.KernelMoeIdeal.main_arg4) = m ((c.tc : Thread Cert.KernelMoeIdeal.nD Cert.KernelMoeIdeal.τ).loc Cert.KernelMoeIdeal.main_arg4)
          ∧ r.2.mem ((c.tc : Thread Cert.KernelMoeIdeal.nD Cert.KernelMoeIdeal.τ).loc Cert.KernelMoeIdeal.main_arg5) = m ((c.tc : Thread Cert.KernelMoeIdeal.nD Cert.KernelMoeIdeal.τ).loc Cert.KernelMoeIdeal.main_arg5))
      ∧ θ_run (Cert.ReferenceMoeIdeal.defs (F := Ideal)) (onTc (τ := Cert.ReferenceMoeIdeal.τ) (Cert.ReferenceMoeIdeal.main (F := Ideal))) ⟨m', fun _ => 0, g'⟩ (fun r => ∀ c : Dev Cert.ReferenceMoeIdeal.nD,
          r.2.mem ((c.tc : Thread Cert.ReferenceMoeIdeal.nD Cert.ReferenceMoeIdeal.τ).loc Cert.ReferenceMoeIdeal.main_v160) = v0 c
          ∧ r.2.mem ((c.tc : Thread Cert.ReferenceMoeIdeal.nD Cert.ReferenceMoeIdeal.τ).loc Cert.ReferenceMoeIdeal.main_arg0) = m' ((c.tc : Thread Cert.ReferenceMoeIdeal.nD Cert.ReferenceMoeIdeal.τ).loc Cert.ReferenceMoeIdeal.main_arg0)
          ∧ r.2.mem ((c.tc : Thread Cert.ReferenceMoeIdeal.nD Cert.ReferenceMoeIdeal.τ).loc Cert.ReferenceMoeIdeal.main_arg1) = m' ((c.tc : Thread Cert.ReferenceMoeIdeal.nD Cert.ReferenceMoeIdeal.τ).loc Cert.ReferenceMoeIdeal.main_arg1)
          ∧ r.2.mem ((c.tc : Thread Cert.ReferenceMoeIdeal.nD Cert.ReferenceMoeIdeal.τ).loc Cert.ReferenceMoeIdeal.main_arg2) = m' ((c.tc : Thread Cert.ReferenceMoeIdeal.nD Cert.ReferenceMoeIdeal.τ).loc Cert.ReferenceMoeIdeal.main_arg2)
          ∧ r.2.mem ((c.tc : Thread Cert.ReferenceMoeIdeal.nD Cert.ReferenceMoeIdeal.τ).loc Cert.ReferenceMoeIdeal.main_arg3) = m' ((c.tc : Thread Cert.ReferenceMoeIdeal.nD Cert.ReferenceMoeIdeal.τ).loc Cert.ReferenceMoeIdeal.main_arg3)
          ∧ r.2.mem ((c.tc : Thread Cert.ReferenceMoeIdeal.nD Cert.ReferenceMoeIdeal.τ).loc Cert.ReferenceMoeIdeal.main_arg4) = m' ((c.tc : Thread Cert.ReferenceMoeIdeal.nD Cert.ReferenceMoeIdeal.τ).loc Cert.ReferenceMoeIdeal.main_arg4)
          ∧ r.2.mem ((c.tc : Thread Cert.ReferenceMoeIdeal.nD Cert.ReferenceMoeIdeal.τ).loc Cert.ReferenceMoeIdeal.main_arg5) = m' ((c.tc : Thread Cert.ReferenceMoeIdeal.nD Cert.ReferenceMoeIdeal.τ).loc Cert.ReferenceMoeIdeal.main_arg5))

def preserves_KernelMix_KernelMixIdeal : Prop :=
  True

def algebraic_KernelMixIdeal_ReferenceMixIdeal_pre_finite_rows [hKernelMixIdeal : Cert.KernelMixIdeal.Facts] [hReferenceMixIdeal : Cert.ReferenceMixIdeal.Facts] [hPre_finite_rows : Cert.Pre_finite_rows.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal_finite_rows m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)
      ∧ m' ((c.tc : Thread Cert.ReferenceMixIdeal.nD Cert.ReferenceMixIdeal.τ).loc Cert.ReferenceMixIdeal.main_arg6) = m ((c.tc : Thread Cert.KernelMixIdeal.nD Cert.KernelMixIdeal.τ).loc Cert.KernelMixIdeal.main_arg6)
      ∧ m' ((c.tc : Thread Cert.ReferenceMixIdeal.nD Cert.ReferenceMixIdeal.τ).loc Cert.ReferenceMixIdeal.main_arg7) = m ((c.tc : Thread Cert.KernelMixIdeal.nD Cert.KernelMixIdeal.τ).loc Cert.KernelMixIdeal.main_arg7)
      ∧ m' ((c.tc : Thread Cert.ReferenceMixIdeal.nD Cert.ReferenceMixIdeal.τ).loc Cert.ReferenceMixIdeal.main_arg8) = m ((c.tc : Thread Cert.KernelMixIdeal.nD Cert.KernelMixIdeal.τ).loc Cert.KernelMixIdeal.main_arg8)
      ∧ m' ((c.tc : Thread Cert.ReferenceMixIdeal.nD Cert.ReferenceMixIdeal.τ).loc Cert.ReferenceMixIdeal.main_arg9) = m ((c.tc : Thread Cert.KernelMixIdeal.nD Cert.KernelMixIdeal.τ).loc Cert.KernelMixIdeal.main_arg9)
      ∧ m' ((c.tc : Thread Cert.ReferenceMixIdeal.nD Cert.ReferenceMixIdeal.τ).loc Cert.ReferenceMixIdeal.main_arg10) = m ((c.tc : Thread Cert.KernelMixIdeal.nD Cert.KernelMixIdeal.τ).loc Cert.KernelMixIdeal.main_arg10)
      ∧ m' ((c.tc : Thread Cert.ReferenceMixIdeal.nD Cert.ReferenceMixIdeal.τ).loc Cert.ReferenceMixIdeal.main_arg11) = m ((c.tc : Thread Cert.KernelMixIdeal.nD Cert.KernelMixIdeal.τ).loc Cert.KernelMixIdeal.main_arg11)) →
    ∃ (v0 : (c : Dev Cert.KernelMixIdeal.nD) → Buf (Elt Ideal) ((c.tc : Thread Cert.KernelMixIdeal.nD Cert.KernelMixIdeal.τ).loc Cert.KernelMixIdeal.main_v22_0)) (v1 : (c : Dev Cert.KernelMixIdeal.nD) → Buf (Elt Ideal) ((c.tc : Thread Cert.KernelMixIdeal.nD Cert.KernelMixIdeal.τ).loc Cert.KernelMixIdeal.main_v22_1)) (v2 : (c : Dev Cert.KernelMixIdeal.nD) → Buf (Elt Ideal) ((c.tc : Thread Cert.KernelMixIdeal.nD Cert.KernelMixIdeal.τ).loc Cert.KernelMixIdeal.main_v22_2)) (v3 : (c : Dev Cert.KernelMixIdeal.nD) → Buf (Elt Ideal) ((c.tc : Thread Cert.KernelMixIdeal.nD Cert.KernelMixIdeal.τ).loc Cert.KernelMixIdeal.main_v22_3)) (v4 : (c : Dev Cert.KernelMixIdeal.nD) → Buf (Elt Ideal) ((c.tc : Thread Cert.KernelMixIdeal.nD Cert.KernelMixIdeal.τ).loc Cert.KernelMixIdeal.main_v22_4)) (v5 : (c : Dev Cert.KernelMixIdeal.nD) → Buf (Elt Ideal) ((c.tc : Thread Cert.KernelMixIdeal.nD Cert.KernelMixIdeal.τ).loc Cert.KernelMixIdeal.main_v22_5)) (v6 : (c : Dev Cert.KernelMixIdeal.nD) → Buf (Elt Ideal) ((c.tc : Thread Cert.KernelMixIdeal.nD Cert.KernelMixIdeal.τ).loc Cert.KernelMixIdeal.main_v22_6)) (v7 : (c : Dev Cert.KernelMixIdeal.nD) → Buf (Elt Ideal) ((c.tc : Thread Cert.KernelMixIdeal.nD Cert.KernelMixIdeal.τ).loc Cert.KernelMixIdeal.main_v22_7)) (v8 : (c : Dev Cert.KernelMixIdeal.nD) → Buf (Elt Ideal) ((c.tc : Thread Cert.KernelMixIdeal.nD Cert.KernelMixIdeal.τ).loc Cert.KernelMixIdeal.main_v22_8)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v22_0) = v0 c
          ∧ r.2.mem ((c.tc : Thread Cert.KernelMixIdeal.nD Cert.KernelMixIdeal.τ).loc Cert.KernelMixIdeal.main_v22_1) = v1 c
          ∧ r.2.mem ((c.tc : Thread Cert.KernelMixIdeal.nD Cert.KernelMixIdeal.τ).loc Cert.KernelMixIdeal.main_v22_2) = v2 c
          ∧ r.2.mem ((c.tc : Thread Cert.KernelMixIdeal.nD Cert.KernelMixIdeal.τ).loc Cert.KernelMixIdeal.main_v22_3) = v3 c
          ∧ r.2.mem ((c.tc : Thread Cert.KernelMixIdeal.nD Cert.KernelMixIdeal.τ).loc Cert.KernelMixIdeal.main_v22_4) = v4 c
          ∧ r.2.mem ((c.tc : Thread Cert.KernelMixIdeal.nD Cert.KernelMixIdeal.τ).loc Cert.KernelMixIdeal.main_v22_5) = v5 c
          ∧ r.2.mem ((c.tc : Thread Cert.KernelMixIdeal.nD Cert.KernelMixIdeal.τ).loc Cert.KernelMixIdeal.main_v22_6) = v6 c
          ∧ r.2.mem ((c.tc : Thread Cert.KernelMixIdeal.nD Cert.KernelMixIdeal.τ).loc Cert.KernelMixIdeal.main_v22_7) = v7 c
          ∧ r.2.mem ((c.tc : Thread Cert.KernelMixIdeal.nD Cert.KernelMixIdeal.τ).loc Cert.KernelMixIdeal.main_v22_8) = v8 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
          ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
          ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7)
          ∧ r.2.mem ((c.tc : Thread Cert.KernelMixIdeal.nD Cert.KernelMixIdeal.τ).loc Cert.KernelMixIdeal.main_arg8) = m ((c.tc : Thread Cert.KernelMixIdeal.nD Cert.KernelMixIdeal.τ).loc Cert.KernelMixIdeal.main_arg8)
          ∧ r.2.mem ((c.tc : Thread Cert.KernelMixIdeal.nD Cert.KernelMixIdeal.τ).loc Cert.KernelMixIdeal.main_arg9) = m ((c.tc : Thread Cert.KernelMixIdeal.nD Cert.KernelMixIdeal.τ).loc Cert.KernelMixIdeal.main_arg9)
          ∧ r.2.mem ((c.tc : Thread Cert.KernelMixIdeal.nD Cert.KernelMixIdeal.τ).loc Cert.KernelMixIdeal.main_arg10) = m ((c.tc : Thread Cert.KernelMixIdeal.nD Cert.KernelMixIdeal.τ).loc Cert.KernelMixIdeal.main_arg10)
          ∧ r.2.mem ((c.tc : Thread Cert.KernelMixIdeal.nD Cert.KernelMixIdeal.τ).loc Cert.KernelMixIdeal.main_arg11) = m ((c.tc : Thread Cert.KernelMixIdeal.nD Cert.KernelMixIdeal.τ).loc Cert.KernelMixIdeal.main_arg11))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v105) = v0 c
          ∧ r.2.mem ((c.tc : Thread Cert.ReferenceMixIdeal.nD Cert.ReferenceMixIdeal.τ).loc Cert.ReferenceMixIdeal.main_v106) = v1 c
          ∧ r.2.mem ((c.tc : Thread Cert.ReferenceMixIdeal.nD Cert.ReferenceMixIdeal.τ).loc Cert.ReferenceMixIdeal.main_v52) = v2 c
          ∧ r.2.mem ((c.tc : Thread Cert.ReferenceMixIdeal.nD Cert.ReferenceMixIdeal.τ).loc Cert.ReferenceMixIdeal.main_v108) = v3 c
          ∧ r.2.mem ((c.tc : Thread Cert.ReferenceMixIdeal.nD Cert.ReferenceMixIdeal.τ).loc Cert.ReferenceMixIdeal.main_v104) = v4 c
          ∧ r.2.mem ((c.tc : Thread Cert.ReferenceMixIdeal.nD Cert.ReferenceMixIdeal.τ).loc Cert.ReferenceMixIdeal.main_v54) = v5 c
          ∧ r.2.mem ((c.tc : Thread Cert.ReferenceMixIdeal.nD Cert.ReferenceMixIdeal.τ).loc Cert.ReferenceMixIdeal.main_v110) = v6 c
          ∧ r.2.mem ((c.tc : Thread Cert.ReferenceMixIdeal.nD Cert.ReferenceMixIdeal.τ).loc Cert.ReferenceMixIdeal.main_v112) = v7 c
          ∧ r.2.mem ((c.tc : Thread Cert.ReferenceMixIdeal.nD Cert.ReferenceMixIdeal.τ).loc Cert.ReferenceMixIdeal.main_v84) = v8 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5)
          ∧ r.2.mem ((c.tc : Thread Cert.ReferenceMixIdeal.nD Cert.ReferenceMixIdeal.τ).loc Cert.ReferenceMixIdeal.main_arg6) = m' ((c.tc : Thread Cert.ReferenceMixIdeal.nD Cert.ReferenceMixIdeal.τ).loc Cert.ReferenceMixIdeal.main_arg6)
          ∧ r.2.mem ((c.tc : Thread Cert.ReferenceMixIdeal.nD Cert.ReferenceMixIdeal.τ).loc Cert.ReferenceMixIdeal.main_arg7) = m' ((c.tc : Thread Cert.ReferenceMixIdeal.nD Cert.ReferenceMixIdeal.τ).loc Cert.ReferenceMixIdeal.main_arg7)
          ∧ r.2.mem ((c.tc : Thread Cert.ReferenceMixIdeal.nD Cert.ReferenceMixIdeal.τ).loc Cert.ReferenceMixIdeal.main_arg8) = m' ((c.tc : Thread Cert.ReferenceMixIdeal.nD Cert.ReferenceMixIdeal.τ).loc Cert.ReferenceMixIdeal.main_arg8)
          ∧ r.2.mem ((c.tc : Thread Cert.ReferenceMixIdeal.nD Cert.ReferenceMixIdeal.τ).loc Cert.ReferenceMixIdeal.main_arg9) = m' ((c.tc : Thread Cert.ReferenceMixIdeal.nD Cert.ReferenceMixIdeal.τ).loc Cert.ReferenceMixIdeal.main_arg9)
          ∧ r.2.mem ((c.tc : Thread Cert.ReferenceMixIdeal.nD Cert.ReferenceMixIdeal.τ).loc Cert.ReferenceMixIdeal.main_arg10) = m' ((c.tc : Thread Cert.ReferenceMixIdeal.nD Cert.ReferenceMixIdeal.τ).loc Cert.ReferenceMixIdeal.main_arg10)
          ∧ r.2.mem ((c.tc : Thread Cert.ReferenceMixIdeal.nD Cert.ReferenceMixIdeal.τ).loc Cert.ReferenceMixIdeal.main_arg11) = m' ((c.tc : Thread Cert.ReferenceMixIdeal.nD Cert.ReferenceMixIdeal.τ).loc Cert.ReferenceMixIdeal.main_arg11))

def preserves_KernelScan_KernelScanIdeal : Prop :=
  True

def algebraic_KernelScanIdeal_ReferenceScanIdeal_pre_finite_scan [hKernelScanIdeal : Cert.KernelScanIdeal.Facts] [hReferenceScanIdeal : Cert.ReferenceScanIdeal.Facts] [hPre_finite_scan : Cert.Pre_finite_scan.Facts] : Prop :=
  ∀ (m : (ℓ : Loc Cert.KernelScanIdeal.nD Cert.KernelScanIdeal.τ Cert.KernelScanIdeal.sig) → Buf (Elt Ideal) ℓ) (g : Dev Cert.KernelScanIdeal.nD → PrngReg)
    (m' : (ℓ : Loc Cert.ReferenceScanIdeal.nD Cert.ReferenceScanIdeal.τ Cert.ReferenceScanIdeal.sig) → Buf (Elt Ideal) ℓ) (g' : Dev Cert.ReferenceScanIdeal.nD → PrngReg), Pre_KernelScanIdeal_finite_scan m →
    (∀ c : Dev Cert.KernelScanIdeal.nD,
      m' ((c.tc : Thread Cert.ReferenceScanIdeal.nD Cert.ReferenceScanIdeal.τ).loc Cert.ReferenceScanIdeal.main_arg0) = m ((c.tc : Thread Cert.KernelScanIdeal.nD Cert.KernelScanIdeal.τ).loc Cert.KernelScanIdeal.main_arg0)
      ∧ m' ((c.tc : Thread Cert.ReferenceScanIdeal.nD Cert.ReferenceScanIdeal.τ).loc Cert.ReferenceScanIdeal.main_arg1) = m ((c.tc : Thread Cert.KernelScanIdeal.nD Cert.KernelScanIdeal.τ).loc Cert.KernelScanIdeal.main_arg1)
      ∧ m' ((c.tc : Thread Cert.ReferenceScanIdeal.nD Cert.ReferenceScanIdeal.τ).loc Cert.ReferenceScanIdeal.main_arg2) = m ((c.tc : Thread Cert.KernelScanIdeal.nD Cert.KernelScanIdeal.τ).loc Cert.KernelScanIdeal.main_arg2)
      ∧ m' ((c.tc : Thread Cert.ReferenceScanIdeal.nD Cert.ReferenceScanIdeal.τ).loc Cert.ReferenceScanIdeal.main_arg3) = m ((c.tc : Thread Cert.KernelScanIdeal.nD Cert.KernelScanIdeal.τ).loc Cert.KernelScanIdeal.main_arg3)
      ∧ m' ((c.tc : Thread Cert.ReferenceScanIdeal.nD Cert.ReferenceScanIdeal.τ).loc Cert.ReferenceScanIdeal.main_arg4) = m ((c.tc : Thread Cert.KernelScanIdeal.nD Cert.KernelScanIdeal.τ).loc Cert.KernelScanIdeal.main_arg4)
      ∧ m' ((c.tc : Thread Cert.ReferenceScanIdeal.nD Cert.ReferenceScanIdeal.τ).loc Cert.ReferenceScanIdeal.main_arg5) = m ((c.tc : Thread Cert.KernelScanIdeal.nD Cert.KernelScanIdeal.τ).loc Cert.KernelScanIdeal.main_arg5)
      ∧ m' ((c.tc : Thread Cert.ReferenceScanIdeal.nD Cert.ReferenceScanIdeal.τ).loc Cert.ReferenceScanIdeal.main_arg6) = m ((c.tc : Thread Cert.KernelScanIdeal.nD Cert.KernelScanIdeal.τ).loc Cert.KernelScanIdeal.main_arg6)
      ∧ m' ((c.tc : Thread Cert.ReferenceScanIdeal.nD Cert.ReferenceScanIdeal.τ).loc Cert.ReferenceScanIdeal.main_arg7) = m ((c.tc : Thread Cert.KernelScanIdeal.nD Cert.KernelScanIdeal.τ).loc Cert.KernelScanIdeal.main_arg7)
      ∧ m' ((c.tc : Thread Cert.ReferenceScanIdeal.nD Cert.ReferenceScanIdeal.τ).loc Cert.ReferenceScanIdeal.main_arg8) = m ((c.tc : Thread Cert.KernelScanIdeal.nD Cert.KernelScanIdeal.τ).loc Cert.KernelScanIdeal.main_arg8)
      ∧ m' ((c.tc : Thread Cert.ReferenceScanIdeal.nD Cert.ReferenceScanIdeal.τ).loc Cert.ReferenceScanIdeal.main_arg9) = m ((c.tc : Thread Cert.KernelScanIdeal.nD Cert.KernelScanIdeal.τ).loc Cert.KernelScanIdeal.main_arg9)
      ∧ m' ((c.tc : Thread Cert.ReferenceScanIdeal.nD Cert.ReferenceScanIdeal.τ).loc Cert.ReferenceScanIdeal.main_arg10) = m ((c.tc : Thread Cert.KernelScanIdeal.nD Cert.KernelScanIdeal.τ).loc Cert.KernelScanIdeal.main_arg10)) →
    ∃ (v0 : (c : Dev Cert.KernelScanIdeal.nD) → Buf (Elt Ideal) ((c.tc : Thread Cert.KernelScanIdeal.nD Cert.KernelScanIdeal.τ).loc Cert.KernelScanIdeal.main_v3_0)) (v1 : (c : Dev Cert.KernelScanIdeal.nD) → Buf (Elt Ideal) ((c.tc : Thread Cert.KernelScanIdeal.nD Cert.KernelScanIdeal.τ).loc Cert.KernelScanIdeal.main_v3_1)),
      θ_run (Cert.KernelScanIdeal.defs (F := Ideal)) (onTc (τ := Cert.KernelScanIdeal.τ) (Cert.KernelScanIdeal.main (F := Ideal))) ⟨m, fun _ => 0, g⟩ (fun r => ∀ c : Dev Cert.KernelScanIdeal.nD,
          r.2.mem ((c.tc : Thread Cert.KernelScanIdeal.nD Cert.KernelScanIdeal.τ).loc Cert.KernelScanIdeal.main_v3_0) = v0 c
          ∧ r.2.mem ((c.tc : Thread Cert.KernelScanIdeal.nD Cert.KernelScanIdeal.τ).loc Cert.KernelScanIdeal.main_v3_1) = v1 c
          ∧ r.2.mem ((c.tc : Thread Cert.KernelScanIdeal.nD Cert.KernelScanIdeal.τ).loc Cert.KernelScanIdeal.main_arg0) = m ((c.tc : Thread Cert.KernelScanIdeal.nD Cert.KernelScanIdeal.τ).loc Cert.KernelScanIdeal.main_arg0)
          ∧ r.2.mem ((c.tc : Thread Cert.KernelScanIdeal.nD Cert.KernelScanIdeal.τ).loc Cert.KernelScanIdeal.main_arg1) = m ((c.tc : Thread Cert.KernelScanIdeal.nD Cert.KernelScanIdeal.τ).loc Cert.KernelScanIdeal.main_arg1)
          ∧ r.2.mem ((c.tc : Thread Cert.KernelScanIdeal.nD Cert.KernelScanIdeal.τ).loc Cert.KernelScanIdeal.main_arg2) = m ((c.tc : Thread Cert.KernelScanIdeal.nD Cert.KernelScanIdeal.τ).loc Cert.KernelScanIdeal.main_arg2)
          ∧ r.2.mem ((c.tc : Thread Cert.KernelScanIdeal.nD Cert.KernelScanIdeal.τ).loc Cert.KernelScanIdeal.main_arg3) = m ((c.tc : Thread Cert.KernelScanIdeal.nD Cert.KernelScanIdeal.τ).loc Cert.KernelScanIdeal.main_arg3)
          ∧ r.2.mem ((c.tc : Thread Cert.KernelScanIdeal.nD Cert.KernelScanIdeal.τ).loc Cert.KernelScanIdeal.main_arg4) = m ((c.tc : Thread Cert.KernelScanIdeal.nD Cert.KernelScanIdeal.τ).loc Cert.KernelScanIdeal.main_arg4)
          ∧ r.2.mem ((c.tc : Thread Cert.KernelScanIdeal.nD Cert.KernelScanIdeal.τ).loc Cert.KernelScanIdeal.main_arg5) = m ((c.tc : Thread Cert.KernelScanIdeal.nD Cert.KernelScanIdeal.τ).loc Cert.KernelScanIdeal.main_arg5)
          ∧ r.2.mem ((c.tc : Thread Cert.KernelScanIdeal.nD Cert.KernelScanIdeal.τ).loc Cert.KernelScanIdeal.main_arg6) = m ((c.tc : Thread Cert.KernelScanIdeal.nD Cert.KernelScanIdeal.τ).loc Cert.KernelScanIdeal.main_arg6)
          ∧ r.2.mem ((c.tc : Thread Cert.KernelScanIdeal.nD Cert.KernelScanIdeal.τ).loc Cert.KernelScanIdeal.main_arg7) = m ((c.tc : Thread Cert.KernelScanIdeal.nD Cert.KernelScanIdeal.τ).loc Cert.KernelScanIdeal.main_arg7)
          ∧ r.2.mem ((c.tc : Thread Cert.KernelScanIdeal.nD Cert.KernelScanIdeal.τ).loc Cert.KernelScanIdeal.main_arg8) = m ((c.tc : Thread Cert.KernelScanIdeal.nD Cert.KernelScanIdeal.τ).loc Cert.KernelScanIdeal.main_arg8)
          ∧ r.2.mem ((c.tc : Thread Cert.KernelScanIdeal.nD Cert.KernelScanIdeal.τ).loc Cert.KernelScanIdeal.main_arg9) = m ((c.tc : Thread Cert.KernelScanIdeal.nD Cert.KernelScanIdeal.τ).loc Cert.KernelScanIdeal.main_arg9)
          ∧ r.2.mem ((c.tc : Thread Cert.KernelScanIdeal.nD Cert.KernelScanIdeal.τ).loc Cert.KernelScanIdeal.main_arg10) = m ((c.tc : Thread Cert.KernelScanIdeal.nD Cert.KernelScanIdeal.τ).loc Cert.KernelScanIdeal.main_arg10))
      ∧ θ_run (Cert.ReferenceScanIdeal.defs (F := Ideal)) (onTc (τ := Cert.ReferenceScanIdeal.τ) (Cert.ReferenceScanIdeal.main (F := Ideal))) ⟨m', fun _ => 0, g'⟩ (fun r => ∀ c : Dev Cert.ReferenceScanIdeal.nD,
          r.2.mem ((c.tc : Thread Cert.ReferenceScanIdeal.nD Cert.ReferenceScanIdeal.τ).loc Cert.ReferenceScanIdeal.main_v290) = v0 c
          ∧ r.2.mem ((c.tc : Thread Cert.ReferenceScanIdeal.nD Cert.ReferenceScanIdeal.τ).loc Cert.ReferenceScanIdeal.main_v241) = v1 c
          ∧ r.2.mem ((c.tc : Thread Cert.ReferenceScanIdeal.nD Cert.ReferenceScanIdeal.τ).loc Cert.ReferenceScanIdeal.main_arg0) = m' ((c.tc : Thread Cert.ReferenceScanIdeal.nD Cert.ReferenceScanIdeal.τ).loc Cert.ReferenceScanIdeal.main_arg0)
          ∧ r.2.mem ((c.tc : Thread Cert.ReferenceScanIdeal.nD Cert.ReferenceScanIdeal.τ).loc Cert.ReferenceScanIdeal.main_arg1) = m' ((c.tc : Thread Cert.ReferenceScanIdeal.nD Cert.ReferenceScanIdeal.τ).loc Cert.ReferenceScanIdeal.main_arg1)
          ∧ r.2.mem ((c.tc : Thread Cert.ReferenceScanIdeal.nD Cert.ReferenceScanIdeal.τ).loc Cert.ReferenceScanIdeal.main_arg2) = m' ((c.tc : Thread Cert.ReferenceScanIdeal.nD Cert.ReferenceScanIdeal.τ).loc Cert.ReferenceScanIdeal.main_arg2)
          ∧ r.2.mem ((c.tc : Thread Cert.ReferenceScanIdeal.nD Cert.ReferenceScanIdeal.τ).loc Cert.ReferenceScanIdeal.main_arg3) = m' ((c.tc : Thread Cert.ReferenceScanIdeal.nD Cert.ReferenceScanIdeal.τ).loc Cert.ReferenceScanIdeal.main_arg3)
          ∧ r.2.mem ((c.tc : Thread Cert.ReferenceScanIdeal.nD Cert.ReferenceScanIdeal.τ).loc Cert.ReferenceScanIdeal.main_arg4) = m' ((c.tc : Thread Cert.ReferenceScanIdeal.nD Cert.ReferenceScanIdeal.τ).loc Cert.ReferenceScanIdeal.main_arg4)
          ∧ r.2.mem ((c.tc : Thread Cert.ReferenceScanIdeal.nD Cert.ReferenceScanIdeal.τ).loc Cert.ReferenceScanIdeal.main_arg5) = m' ((c.tc : Thread Cert.ReferenceScanIdeal.nD Cert.ReferenceScanIdeal.τ).loc Cert.ReferenceScanIdeal.main_arg5)
          ∧ r.2.mem ((c.tc : Thread Cert.ReferenceScanIdeal.nD Cert.ReferenceScanIdeal.τ).loc Cert.ReferenceScanIdeal.main_arg6) = m' ((c.tc : Thread Cert.ReferenceScanIdeal.nD Cert.ReferenceScanIdeal.τ).loc Cert.ReferenceScanIdeal.main_arg6)
          ∧ r.2.mem ((c.tc : Thread Cert.ReferenceScanIdeal.nD Cert.ReferenceScanIdeal.τ).loc Cert.ReferenceScanIdeal.main_arg7) = m' ((c.tc : Thread Cert.ReferenceScanIdeal.nD Cert.ReferenceScanIdeal.τ).loc Cert.ReferenceScanIdeal.main_arg7)
          ∧ r.2.mem ((c.tc : Thread Cert.ReferenceScanIdeal.nD Cert.ReferenceScanIdeal.τ).loc Cert.ReferenceScanIdeal.main_arg8) = m' ((c.tc : Thread Cert.ReferenceScanIdeal.nD Cert.ReferenceScanIdeal.τ).loc Cert.ReferenceScanIdeal.main_arg8)
          ∧ r.2.mem ((c.tc : Thread Cert.ReferenceScanIdeal.nD Cert.ReferenceScanIdeal.τ).loc Cert.ReferenceScanIdeal.main_arg9) = m' ((c.tc : Thread Cert.ReferenceScanIdeal.nD Cert.ReferenceScanIdeal.τ).loc Cert.ReferenceScanIdeal.main_arg9)
          ∧ r.2.mem ((c.tc : Thread Cert.ReferenceScanIdeal.nD Cert.ReferenceScanIdeal.τ).loc Cert.ReferenceScanIdeal.main_arg10) = m' ((c.tc : Thread Cert.ReferenceScanIdeal.nD Cert.ReferenceScanIdeal.τ).loc Cert.ReferenceScanIdeal.main_arg10))

def Claim : Prop :=
  ∃ (hKernel : Cert.Kernel.Facts) (hKernelIdeal : Cert.KernelIdeal.Facts) (hReferenceIdeal : Cert.ReferenceIdeal.Facts) (hKernelFfn : Cert.KernelFfn.Facts) (hKernelFfnIdeal : Cert.KernelFfnIdeal.Facts) (hReferenceFfnIdeal : Cert.ReferenceFfnIdeal.Facts) (hKernelProj : Cert.KernelProj.Facts) (hKernelProjIdeal : Cert.KernelProjIdeal.Facts) (hReferenceProjIdeal : Cert.ReferenceProjIdeal.Facts) (hKernelOut : Cert.KernelOut.Facts) (hKernelOutIdeal : Cert.KernelOutIdeal.Facts) (hReferenceOutIdeal : Cert.ReferenceOutIdeal.Facts) (hKernelMoe : Cert.KernelMoe.Facts) (hKernelMoeIdeal : Cert.KernelMoeIdeal.Facts) (hReferenceMoeIdeal : Cert.ReferenceMoeIdeal.Facts) (hKernelMix : Cert.KernelMix.Facts) (hKernelMixIdeal : Cert.KernelMixIdeal.Facts) (hReferenceMixIdeal : Cert.ReferenceMixIdeal.Facts) (hKernelScan : Cert.KernelScan.Facts) (hKernelScanIdeal : Cert.KernelScanIdeal.Facts) (hReferenceScanIdeal : Cert.ReferenceScanIdeal.Facts) (hPre_finite_scores : Cert.Pre_finite_scores.Facts) (hPre_experts_in_range : Cert.Pre_experts_in_range.Facts) (hPre_finite_rows : Cert.Pre_finite_rows.Facts) (hPre_finite_scan : Cert.Pre_finite_scan.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelMoe (hKernelMoe := hKernelMoe) (hPre_experts_in_range := hPre_experts_in_range)
    ∧ quiescent_KernelMoeIdeal (hKernelMoeIdeal := hKernelMoeIdeal) (hPre_experts_in_range := hPre_experts_in_range)
    ∧ quiescent_ReferenceMoeIdeal (hReferenceMoeIdeal := hReferenceMoeIdeal)
    ∧ quiescent_ReferenceMoeIdeal_pre_experts_in_range (hReferenceMoeIdeal := hReferenceMoeIdeal) (hPre_experts_in_range := hPre_experts_in_range)
    ∧ quiescent_KernelMix (hKernelMix := hKernelMix)
    ∧ quiescent_KernelMixIdeal (hKernelMixIdeal := hKernelMixIdeal)
    ∧ quiescent_KernelMixIdeal_pre_finite_rows (hKernelMixIdeal := hKernelMixIdeal) (hPre_finite_rows := hPre_finite_rows)
    ∧ quiescent_ReferenceMixIdeal (hReferenceMixIdeal := hReferenceMixIdeal)
    ∧ quiescent_ReferenceMixIdeal_pre_finite_rows (hReferenceMixIdeal := hReferenceMixIdeal) (hPre_finite_rows := hPre_finite_rows)
    ∧ quiescent_KernelScan (hKernelScan := hKernelScan)
    ∧ quiescent_KernelScanIdeal (hKernelScanIdeal := hKernelScanIdeal)
    ∧ quiescent_KernelScanIdeal_pre_finite_scan (hKernelScanIdeal := hKernelScanIdeal) (hPre_finite_scan := hPre_finite_scan)
    ∧ quiescent_ReferenceScanIdeal (hReferenceScanIdeal := hReferenceScanIdeal)
    ∧ quiescent_ReferenceScanIdeal_pre_finite_scan (hReferenceScanIdeal := hReferenceScanIdeal) (hPre_finite_scan := hPre_finite_scan)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelProj_KernelProjIdeal
    ∧ algebraic_KernelProjIdeal_ReferenceProjIdeal (hKernelProjIdeal := hKernelProjIdeal) (hReferenceProjIdeal := hReferenceProjIdeal)
    ∧ preserves_KernelOut_KernelOutIdeal
    ∧ algebraic_KernelOutIdeal_ReferenceOutIdeal (hKernelOutIdeal := hKernelOutIdeal) (hReferenceOutIdeal := hReferenceOutIdeal)
    ∧ preserves_KernelMoe_KernelMoeIdeal
    ∧ algebraic_KernelMoeIdeal_ReferenceMoeIdeal (hKernelMoeIdeal := hKernelMoeIdeal) (hReferenceMoeIdeal := hReferenceMoeIdeal) (hPre_experts_in_range := hPre_experts_in_range)
    ∧ preserves_KernelMix_KernelMixIdeal
    ∧ algebraic_KernelMixIdeal_ReferenceMixIdeal_pre_finite_rows (hKernelMixIdeal := hKernelMixIdeal) (hReferenceMixIdeal := hReferenceMixIdeal) (hPre_finite_rows := hPre_finite_rows)
    ∧ preserves_KernelScan_KernelScanIdeal
    ∧ algebraic_KernelScanIdeal_ReferenceScanIdeal_pre_finite_scan (hKernelScanIdeal := hKernelScanIdeal) (hReferenceScanIdeal := hReferenceScanIdeal) (hPre_finite_scan := hPre_finite_scan)
-- ==== Pre_experts_in_range.lean ====
abbrev S44 : Shape := ⟨1, ![44]⟩
abbrev S22528x2048 : Shape := ⟨2, ![22528, 2048]⟩
abbrev S8x2048x2816 : Shape := ⟨3, ![8, 2048, 2816]⟩
abbrev S8x2816x2048 : Shape := ⟨3, ![8, 2816, 2048]⟩
abbrev S_ : Shape := ⟨0, ![]⟩

class Facts : Prop where
  bcast_S_S44 : S_.BroadcastsInDim S44 (![] : Fin 0 → Fin S44.rank)

variable [Facts]

def fn {F : FTy → Type} [FloatOps F] (main_arg0 : IVec S44 32) (main_arg1 : IVec S44 32) (main_arg2 : FVec F S22528x2048 .f32) (main_arg3 : FVec F S8x2048x2816 .bf16) (main_arg4 : FVec F S8x2048x2816 .bf16) (main_arg5 : FVec F S8x2816x2048 .bf16) : IVec S44 1 :=
  let main_c : IVec S_ 32 := constantI S_ 32 0#32
  let main_v0 : IVec S44 32 := broadcastInDim S44 ![] bcast_S_S44 main_c
  let main_v1 : IVec S44 1 := cmpi .sge main_arg0 main_v0
  let main_c_0 : IVec S_ 32 := constantI S_ 32 8#32
  let main_v2 : IVec S44 32 := broadcastInDim S44 ![] bcast_S_S44 main_c_0
  let main_v3 : IVec S44 1 := cmpi .slt main_arg0 main_v2
  let main_v4 : IVec S44 1 := andi main_v1 main_v3
  main_v4
-- ==== Pre_finite_rows.lean ====
abbrev S9216x6400 : Shape := ⟨2, ![9216, 6400]⟩
abbrev S128x3328 : Shape := ⟨2, ![128, 3328]⟩
abbrev S3328 : Shape := ⟨1, ![3328]⟩
abbrev S64 : Shape := ⟨1, ![64]⟩
abbrev S1024 : Shape := ⟨1, ![1024]⟩
abbrev S64x1024 : Shape := ⟨2, ![64, 1024]⟩
abbrev S128x1024 : Shape := ⟨2, ![128, 1024]⟩
abbrev S1x128x3328 : Shape := ⟨3, ![1, 128, 3328]⟩
abbrev S72x128x3328 : Shape := ⟨3, ![72, 128, 3328]⟩
abbrev S9216x3328 : Shape := ⟨2, ![9216, 3328]⟩
abbrev S1x1024 : Shape := ⟨2, ![1, 1024]⟩
abbrev S9216x1024 : Shape := ⟨2, ![9216, 1024]⟩
abbrev S3072 : Shape := ⟨1, ![3072]⟩
abbrev S6400 : Shape := ⟨1, ![6400]⟩
abbrev S_ : Shape := ⟨0, ![]⟩
abbrev S1x6400 : Shape := ⟨2, ![1, 6400]⟩

class Facts : Prop where
  bcast_S128x3328_S1x128x3328_1_2 : S128x3328.BroadcastsInDim S1x128x3328 (![1, 2] : Fin 2 → Fin S1x128x3328.rank)
  bcast_S1x128x3328_S72x128x3328_0_1_2 : S1x128x3328.BroadcastsInDim S72x128x3328 (![0, 1, 2] : Fin 3 → Fin S72x128x3328.rank)
  shapeCasts_S72x128x3328_S9216x3328 : S72x128x3328.ShapeCasts S9216x3328
  bcast_S1024_S1x1024_1 : S1024.BroadcastsInDim S1x1024 (![1] : Fin 1 → Fin S1x1024.rank)
  bcast_S1x1024_S9216x1024_0_1 : S1x1024.BroadcastsInDim S9216x1024 (![0, 1] : Fin 2 → Fin S9216x1024.rank)
  concatenates_S9216x1024_S9216x1024_S9216x1024_S9216x3328_S9216x6400_d1 : Shape.Concatenates [S9216x1024, S9216x1024, S9216x1024, S9216x3328] S9216x6400 1
  slices_S3328_S3072_0 : S3328.Slices ![0] S3072
  concatenates_S3072_S3328_S6400_d0 : Shape.Concatenates [S3072, S3328] S6400 0
  bcast_S_S9216x6400 : S_.BroadcastsInDim S9216x6400 (![] : Fin 0 → Fin S9216x6400.rank)
  bcast_S6400_S1x6400_1 : S6400.BroadcastsInDim S1x6400 (![1] : Fin 1 → Fin S1x6400.rank)
  bcast_S_S1x6400 : S_.BroadcastsInDim S1x6400 (![] : Fin 0 → Fin S1x6400.rank)
  bcast_S1x6400_S9216x6400_0_1 : S1x6400.BroadcastsInDim S9216x6400 (![0, 1] : Fin 2 → Fin S9216x6400.rank)

variable [Facts]

def fn_part1 {F : FTy → Type} [FloatOps F] (main_v15 : IVec S9216x6400 1) (main_v20 : IVec S9216x6400 1) : IVec S9216x6400 1 :=
  let main_v21 : IVec S9216x6400 1 := andi main_v15 main_v20
  main_v21

def fn {F : FTy → Type} [FloatOps F] (main_arg0 : FVec F S9216x6400 .f32) (main_arg1 : FVec F S128x3328 .f32) (main_arg2 : FVec F S3328 .f32) (main_arg3 : FVec F S64 .f32) (main_arg4 : FVec F S64 .f32) (main_arg5 : FVec F S1024 .f32) (main_arg6 : FVec F S64x1024 .f32) (main_arg7 : FVec F S1024 .f32) (main_arg8 : FVec F S64x1024 .f32) (main_arg9 : FVec F S128x1024 .f32) (main_arg10 : FVec F S1024 .f32) (main_arg11 : FVec F S1024 .f32) : IVec S9216x6400 1 :=
  let main_v0 : FVec F S128x3328 .f32 := Host.absf main_arg1
  let main_v1 : FVec F S1x128x3328 .f32 := broadcastInDim S1x128x3328 ![1, 2] bcast_S128x3328_S1x128x3328_1_2 main_v0
  let main_v2 : FVec F S72x128x3328 .f32 := broadcastInDim S72x128x3328 ![0, 1, 2] bcast_S1x128x3328_S72x128x3328_0_1_2 main_v1
  let main_v3 : FVec F S9216x3328 .f32 := shapeCast S9216x3328 main_v2 shapeCasts_S72x128x3328_S9216x3328
  let main_v4 : FVec F S1024 .f32 := Host.absf main_arg10
  let main_v5 : FVec F S1x1024 .f32 := broadcastInDim S1x1024 ![1] bcast_S1024_S1x1024_1 main_v4
  let main_v6 : FVec F S9216x1024 .f32 := broadcastInDim S9216x1024 ![0, 1] bcast_S1x1024_S9216x1024_0_1 main_v5
  let main_v7 : FVec F S9216x6400 .f32 := concatenate S9216x6400 1 [⟨S9216x1024, main_v6⟩, ⟨S9216x1024, main_v6⟩, ⟨S9216x1024, main_v6⟩, ⟨S9216x3328, main_v3⟩] concatenates_S9216x1024_S9216x1024_S9216x1024_S9216x3328_S9216x6400_d1
  let main_v8 : FVec F S3072 .f32 := (extractStridedSlice S3072 ![0] · slices_S3328_S3072_0) main_arg2
  let main_v9 : FVec F S6400 .f32 := (fun a b => concatenate S6400 0 [⟨S3072, a⟩, ⟨S3328, b⟩] concatenates_S3072_S3328_S6400_d0) main_v8 main_arg2
  let main_v10 : FVec F S9216x6400 .f32 := Host.absf main_arg0
  let main_cst : FVec F S_ .f32 := constant S_ .f32 0x7F800000#32
  let main_v11 : FVec F S9216x6400 .f32 := broadcastInDim S9216x6400 ![] bcast_S_S9216x6400 main_cst
  let main_v12 : IVec S9216x6400 1 := cmpf .olt main_v10 main_v11
  let main_cst_0 : FVec F S_ .f32 := constant S_ .f32 0x7F800000#32
  let main_v13 : FVec F S9216x6400 .f32 := broadcastInDim S9216x6400 ![] bcast_S_S9216x6400 main_cst_0
  let main_v14 : IVec S9216x6400 1 := cmpf .olt main_v7 main_v13
  let main_v15 : IVec S9216x6400 1 := andi main_v12 main_v14
  let main_v16 : FVec F S6400 .f32 := Host.absf main_v9
  let main_v17 : FVec F S1x6400 .f32 := broadcastInDim S1x6400 ![1] bcast_S6400_S1x6400_1 main_v16
  let main_cst_1 : FVec F S_ .f32 := constant S_ .f32 0x7F800000#32
  let main_v18 : FVec F S1x6400 .f32 := broadcastInDim S1x6400 ![] bcast_S_S1x6400 main_cst_1
  let main_v19 : IVec S1x6400 1 := cmpf .olt main_v17 main_v18
  let main_v20 : IVec S9216x6400 1 := broadcastInDim S9216x6400 ![0, 1] bcast_S1x6400_S9216x6400_0_1 main_v19
  fn_part1 (F := F) main_v15 main_v20
-- ==== Pre_finite_scan.lean ====
abbrev S9216x1024 : Shape := ⟨2, ![9216, 1024]⟩
abbrev S16x64 : Shape := ⟨2, ![16, 64]⟩
abbrev S1024 : Shape := ⟨1, ![1024]⟩
abbrev S128x16x64x64 : Shape := ⟨4, ![128, 16, 64, 64]⟩
abbrev S_ : Shape := ⟨0, ![]⟩
abbrev S1024x1024 : Shape := ⟨2, ![1024, 1024]⟩
abbrev S128x8x16x64 : Shape := ⟨4, ![128, 8, 16, 64]⟩
abbrev S128x16x8x64 : Shape := ⟨4, ![128, 16, 8, 64]⟩
abbrev S128x16x8x1x64 : Shape := ⟨5, ![128, 16, 8, 1, 64]⟩
abbrev S128x16x1x64x64 : Shape := ⟨5, ![128, 16, 1, 64, 64]⟩
abbrev S128x16x8x64x64 : Shape := ⟨5, ![128, 16, 8, 64, 64]⟩

class Facts : Prop where
  bcast_S_S1024x1024 : S_.BroadcastsInDim S1024x1024 (![] : Fin 0 → Fin S1024x1024.rank)
  slices_S9216x1024_S1024x1024_8192_0 : S9216x1024.Slices ![8192, 0] S1024x1024
  shapeCasts_S1024x1024_S128x8x16x64 : S1024x1024.ShapeCasts S128x8x16x64
  transposes_S128x8x16x64_S128x16x8x64_0_2_1_3 : S128x8x16x64.Transposes [0, 2, 1, 3] S128x16x8x64
  bcast_S128x16x8x64_S128x16x8x1x64_0_1_2_4 : S128x16x8x64.BroadcastsInDim S128x16x8x1x64 (![0, 1, 2, 4] : Fin 4 → Fin S128x16x8x1x64.rank)
  bcast_S_S128x16x64x64 : S_.BroadcastsInDim S128x16x64x64 (![] : Fin 0 → Fin S128x16x64x64.rank)
  bcast_S128x16x64x64_S128x16x1x64x64_0_1_3_4 : S128x16x64x64.BroadcastsInDim S128x16x1x64x64 (![0, 1, 3, 4] : Fin 4 → Fin S128x16x1x64x64.rank)
  bcast_S128x16x8x1x64_S128x16x8x64x64_0_1_2_3_4 : S128x16x8x1x64.BroadcastsInDim S128x16x8x64x64 (![0, 1, 2, 3, 4] : Fin 5 → Fin S128x16x8x64x64.rank)
  bcast_S128x16x1x64x64_S128x16x8x64x64_0_1_2_3_4 : S128x16x1x64x64.BroadcastsInDim S128x16x8x64x64 (![0, 1, 2, 3, 4] : Fin 5 → Fin S128x16x8x64x64.rank)

variable [Facts]

def fn_part2 {F : FTy → Type} [FloatOps F] (main_v38 : IVec S128x16x8x64x64 1) (main_v39 : IVec S128x16x8x64x64 1) : IVec S128x16x8x64x64 1 :=
  let main_v40 : IVec S128x16x8x64x64 1 := andi main_v38 main_v39
  main_v40

def fn_part1 {F : FTy → Type} [FloatOps F] (main_arg4 : FVec F S9216x1024 .f32) (main_arg5 : FVec F S9216x1024 .f32) (main_arg10 : FVec F S128x16x64x64 .f32) (main_v15 : IVec S1024x1024 1) (main_v17 : FVec F S1024x1024 .f32) (main_v18 : FVec F S1024x1024 .f32) : IVec S128x16x8x64x64 1 :=
  let main_v19 : IVec S1024x1024 1 := cmpf .olt main_v17 main_v18
  let main_v20 : IVec S1024x1024 1 := andi main_v15 main_v19
  let main_v21 : FVec F S1024x1024 .f32 := (extractStridedSlice S1024x1024 ![8192, 0] · slices_S9216x1024_S1024x1024_8192_0) main_arg4
  let main_v22 : FVec F S1024x1024 .f32 := Host.absf main_v21
  let main_cst_3 : FVec F S_ .f32 := constant S_ .f32 0x7F800000#32
  let main_v23 : FVec F S1024x1024 .f32 := broadcastInDim S1024x1024 ![] bcast_S_S1024x1024 main_cst_3
  let main_v24 : IVec S1024x1024 1 := cmpf .olt main_v22 main_v23
  let main_v25 : IVec S1024x1024 1 := andi main_v20 main_v24
  let main_v26 : FVec F S1024x1024 .f32 := (extractStridedSlice S1024x1024 ![8192, 0] · slices_S9216x1024_S1024x1024_8192_0) main_arg5
  let main_v27 : FVec F S1024x1024 .f32 := Host.absf main_v26
  let main_cst_4 : FVec F S_ .f32 := constant S_ .f32 0x7F800000#32
  let main_v28 : FVec F S1024x1024 .f32 := broadcastInDim S1024x1024 ![] bcast_S_S1024x1024 main_cst_4
  let main_v29 : IVec S1024x1024 1 := cmpf .olt main_v27 main_v28
  let main_v30 : IVec S1024x1024 1 := andi main_v25 main_v29
  let main_v31 : IVec S128x8x16x64 1 := shapeCast S128x8x16x64 main_v30 shapeCasts_S1024x1024_S128x8x16x64
  let main_v32 : IVec S128x16x8x64 1 := (transpose S128x16x8x64 [0, 2, 1, 3] · transposes_S128x8x16x64_S128x16x8x64_0_2_1_3) main_v31
  let main_v33 : IVec S128x16x8x1x64 1 := broadcastInDim S128x16x8x1x64 ![0, 1, 2, 4] bcast_S128x16x8x64_S128x16x8x1x64_0_1_2_4 main_v32
  let main_v34 : FVec F S128x16x64x64 .f32 := Host.absf main_arg10
  let main_cst_5 : FVec F S_ .f32 := constant S_ .f32 0x7F800000#32
  let main_v35 : FVec F S128x16x64x64 .f32 := broadcastInDim S128x16x64x64 ![] bcast_S_S128x16x64x64 main_cst_5
  let main_v36 : IVec S128x16x64x64 1 := cmpf .olt main_v34 main_v35
  let main_v37 : IVec S128x16x1x64x64 1 := broadcastInDim S128x16x1x64x64 ![0, 1, 3, 4] bcast_S128x16x64x64_S128x16x1x64x64_0_1_3_4 main_v36
  let main_v38 : IVec S128x16x8x64x64 1 := broadcastInDim S128x16x8x64x64 ![0, 1, 2, 3, 4] bcast_S128x16x8x1x64_S128x16x8x64x64_0_1_2_3_4 main_v33
  let main_v39 : IVec S128x16x8x64x64 1 := broadcastInDim S128x16x8x64x64 ![0, 1, 2, 3, 4] bcast_S128x16x1x64x64_S128x16x8x64x64_0_1_2_3_4 main_v37
  fn_part2 (F := F) main_v38 main_v39

def fn {F : FTy → Type} [FloatOps F] (main_arg0 : FVec F S9216x1024 .f32) (main_arg1 : FVec F S9216x1024 .f32) (main_arg2 : FVec F S9216x1024 .f32) (main_arg3 : FVec F S9216x1024 .f32) (main_arg4 : FVec F S9216x1024 .f32) (main_arg5 : FVec F S9216x1024 .f32) (main_arg6 : FVec F S9216x1024 .f32) (main_arg7 : FVec F S16x64 .f32) (main_arg8 : FVec F S1024 .f32) (main_arg9 : FVec F S1024 .f32) (main_arg10 : FVec F S128x16x64x64 .f32) : IVec S128x16x8x64x64 1 :=
  let main_c : IVec S_ 1 := constantI S_ 1 1#1
  let main_v0 : IVec S1024x1024 1 := broadcastInDim S1024x1024 ![] bcast_S_S1024x1024 main_c
  let main_v1 : FVec F S1024x1024 .f32 := (extractStridedSlice S1024x1024 ![8192, 0] · slices_S9216x1024_S1024x1024_8192_0) main_arg0
  let main_v2 : FVec F S1024x1024 .f32 := Host.absf main_v1
  let main_cst : FVec F S_ .f32 := constant S_ .f32 0x7F800000#32
  let main_v3 : FVec F S1024x1024 .f32 := broadcastInDim S1024x1024 ![] bcast_S_S1024x1024 main_cst
  let main_v4 : IVec S1024x1024 1 := cmpf .olt main_v2 main_v3
  let main_v5 : IVec S1024x1024 1 := andi main_v0 main_v4
  let main_v6 : FVec F S1024x1024 .f32 := (extractStridedSlice S1024x1024 ![8192, 0] · slices_S9216x1024_S1024x1024_8192_0) main_arg1
  let main_v7 : FVec F S1024x1024 .f32 := Host.absf main_v6
  let main_cst_0 : FVec F S_ .f32 := constant S_ .f32 0x7F800000#32
  let main_v8 : FVec F S1024x1024 .f32 := broadcastInDim S1024x1024 ![] bcast_S_S1024x1024 main_cst_0
  let main_v9 : IVec S1024x1024 1 := cmpf .olt main_v7 main_v8
  let main_v10 : IVec S1024x1024 1 := andi main_v5 main_v9
  let main_v11 : FVec F S1024x1024 .f32 := (extractStridedSlice S1024x1024 ![8192, 0] · slices_S9216x1024_S1024x1024_8192_0) main_arg2
  let main_v12 : FVec F S1024x1024 .f32 := Host.absf main_v11
  let main_cst_1 : FVec F S_ .f32 := constant S_ .f32 0x7F800000#32
  let main_v13 : FVec F S1024x1024 .f32 := broadcastInDim S1024x1024 ![] bcast_S_S1024x1024 main_cst_1
  let main_v14 : IVec S1024x1024 1 := cmpf .olt main_v12 main_v13
  let main_v15 : IVec S1024x1024 1 := andi main_v10 main_v14
  let main_v16 : FVec F S1024x1024 .f32 := (extractStridedSlice S1024x1024 ![8192, 0] · slices_S9216x1024_S1024x1024_8192_0) main_arg3
  let main_v17 : FVec F S1024x1024 .f32 := Host.absf main_v16
  let main_cst_2 : FVec F S_ .f32 := constant S_ .f32 0x7F800000#32
  let main_v18 : FVec F S1024x1024 .f32 := broadcastInDim S1024x1024 ![] bcast_S_S1024x1024 main_cst_2
  fn_part1 (F := F) main_arg4 main_arg5 main_arg10 main_v15 main_v17 main_v18
-- ==== Pre_finite_scores.lean ====
abbrev S9216x1024 : Shape := ⟨2, ![9216, 1024]⟩
abbrev S9216x6400 : Shape := ⟨2, ![9216, 6400]⟩
abbrev S16 : Shape := ⟨1, ![16]⟩
abbrev S8192x1024 : Shape := ⟨2, ![8192, 1024]⟩
abbrev S8192x16x64 : Shape := ⟨3, ![8192, 16, 64]⟩
abbrev S_ : Shape := ⟨0, ![]⟩
abbrev S1x16x1 : Shape := ⟨3, ![1, 16, 1]⟩

class Facts : Prop where
  slices_S9216x1024_S8192x1024_0_0 : S9216x1024.Slices ![0, 0] S8192x1024
  shapeCasts_S8192x1024_S8192x16x64 : S8192x1024.ShapeCasts S8192x16x64
  bcast_S_S8192x16x64 : S_.BroadcastsInDim S8192x16x64 (![] : Fin 0 → Fin S8192x16x64.rank)
  bcast_S16_S1x16x1_1 : S16.BroadcastsInDim S1x16x1 (![1] : Fin 1 → Fin S1x16x1.rank)
  bcast_S_S1x16x1 : S_.BroadcastsInDim S1x16x1 (![] : Fin 0 → Fin S1x16x1.rank)
  bcast_S1x16x1_S8192x16x64_0_1_2 : S1x16x1.BroadcastsInDim S8192x16x64 (![0, 1, 2] : Fin 3 → Fin S8192x16x64.rank)

variable [Facts]

def fn {F : FTy → Type} [FloatOps F] (main_arg0 : FVec F S9216x1024 .f32) (main_arg1 : FVec F S9216x1024 .f32) (main_arg2 : FVec F S9216x6400 .f32) (main_arg3 : FVec F S16 .f32) : IVec S8192x16x64 1 :=
  let main_v0 : FVec F S8192x1024 .f32 := (extractStridedSlice S8192x1024 ![0, 0] · slices_S9216x1024_S8192x1024_0_0) main_arg0
  let main_v1 : FVec F S8192x1024 .f32 := Host.absf main_v0
  let main_v2 : FVec F S8192x16x64 .f32 := shapeCast S8192x16x64 main_v1 shapeCasts_S8192x1024_S8192x16x64
  let main_v3 : FVec F S8192x1024 .f32 := (extractStridedSlice S8192x1024 ![0, 0] · slices_S9216x1024_S8192x1024_0_0) main_arg1
  let main_v4 : FVec F S8192x1024 .f32 := Host.absf main_v3
  let main_v5 : FVec F S8192x16x64 .f32 := shapeCast S8192x16x64 main_v4 shapeCasts_S8192x1024_S8192x16x64
  let main_cst : FVec F S_ .f32 := constant S_ .f32 0x7F800000#32
  let main_v6 : FVec F S8192x16x64 .f32 := broadcastInDim S8192x16x64 ![] bcast_S_S8192x16x64 main_cst
  let main_v7 : IVec S8192x16x64 1 := cmpf .olt main_v2 main_v6
  let main_cst_0 : FVec F S_ .f32 := constant S_ .f32 0x7F800000#32
  let main_v8 : FVec F S8192x16x64 .f32 := broadcastInDim S8192x16x64 ![] bcast_S_S8192x16x64 main_cst_0
  let main_v9 : IVec S8192x16x64 1 := cmpf .olt main_v5 main_v8
  let main_v10 : IVec S8192x16x64 1 := andi main_v7 main_v9
  let main_v11 : FVec F S16 .f32 := Host.absf main_arg3
  let main_v12 : FVec F S1x16x1 .f32 := broadcastInDim S1x16x1 ![1] bcast_S16_S1x16x1_1 main_v11
  let main_cst_1 : FVec F S_ .f32 := constant S_ .f32 0x7F800000#32
  let main_v13 : FVec F S1x16x1 .f32 := broadcastInDim S1x16x1 ![] bcast_S_S1x16x1 main_cst_1
  let main_v14 : IVec S1x16x1 1 := cmpf .olt main_v12 main_v13
  let main_v15 : IVec S8192x16x64 1 := broadcastInDim S8192x16x64 ![0, 1, 2] bcast_S1x16x1_S8192x16x64_0_1_2 main_v14
  let main_v16 : IVec S8192x16x64 1 := andi main_v10 main_v15
  main_v16
-- ==== Kernel.lean ====
abbrev S9216x1024 : Shape := ⟨2, ![9216, 1024]⟩
abbrev S9216x6400 : Shape := ⟨2, ![9216, 6400]⟩
abbrev S16 : Shape := ⟨1, ![16]⟩
abbrev S4x4x1 : Shape := ⟨3, ![4, 4, 1]⟩
abbrev S4x4x128 : Shape := ⟨3, ![4, 4, 128]⟩
abbrev S256x128 : Shape := ⟨2, ![256, 128]⟩
abbrev S_ : Shape := ⟨0, ![]⟩
abbrev S8192x1024 : Shape := ⟨2, ![8192, 1024]⟩
abbrev S512x256 : Shape := ⟨2, ![512, 256]⟩
abbrev S2048x256 : Shape := ⟨2, ![2048, 256]⟩
abbrev S1x4x128 : Shape := ⟨3, ![1, 4, 128]⟩
abbrev S512x1 : Shape := ⟨2, ![512, 1]⟩
abbrev S1x1x128 : Shape := ⟨3, ![1, 1, 128]⟩
abbrev S1x128 : Shape := ⟨2, ![1, 128]⟩
abbrev S128x256 : Shape := ⟨2, ![128, 256]⟩
abbrev S128x128 : Shape := ⟨2, ![128, 128]⟩
abbrev S128 : Shape := ⟨1, ![128]⟩
abbrev S128x1 : Shape := ⟨2, ![128, 1]⟩
abbrev S256x256 : Shape := ⟨2, ![256, 256]⟩
abbrev S256 : Shape := ⟨1, ![256]⟩
abbrev S256x1 : Shape := ⟨2, ![256, 1]⟩
abbrev S384x128 : Shape := ⟨2, ![384, 128]⟩
abbrev S384x256 : Shape := ⟨2, ![384, 256]⟩
abbrev S384 : Shape := ⟨1, ![384]⟩
abbrev S384x1 : Shape := ⟨2, ![384, 1]⟩
abbrev S512x128 : Shape := ⟨2, ![512, 128]⟩
abbrev S512 : Shape := ⟨1, ![512]⟩

abbrev nBuf : Space → Nat
  | .hbm => 38
  | .vmem => 16
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S9216x6400, .f32⟩
  | .hbm, ⟨3, _⟩ => ⟨S16, .f32⟩
  | .hbm, ⟨4, _⟩ => ⟨S4x4x1, .f32⟩
  | .hbm, ⟨5, _⟩ => ⟨S4x4x128, .f32⟩
  | .hbm, ⟨6, _⟩ => ⟨S256x128, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S256x128, .i32⟩
  | .hbm, ⟨14, _⟩ => ⟨S256x128, .i32⟩
  | .hbm, ⟨15, _⟩ => ⟨S_, .i32⟩
  | .hbm, ⟨16, _⟩ => ⟨S256x128, .i32⟩
  | .hbm, ⟨17, _⟩ => ⟨S256x128, .i1⟩
  | .hbm, ⟨18, _⟩ => ⟨S_, .i32⟩
  | .hbm, ⟨19, _⟩ => ⟨S256x128, .i32⟩
  | .hbm, ⟨20, _⟩ => ⟨S256x128, .i1⟩
  | .hbm, ⟨21, _⟩ => ⟨S_, .i32⟩
  | .hbm, ⟨22, _⟩ => ⟨S_, .i1⟩
  | .hbm, ⟨23, _⟩ => ⟨S256x128, .i1⟩
  | .hbm, ⟨24, _⟩ => ⟨S256x128, .i1⟩
  | .hbm, ⟨25, _⟩ => ⟨S256x128, .i1⟩
  | .hbm, ⟨26, _⟩ => ⟨S256x128, .i32⟩
  | .hbm, ⟨27, _⟩ => ⟨S256x128, .i32⟩
  | .hbm, ⟨28, _⟩ => ⟨S256x128, .i32⟩
  | .hbm, ⟨29, _⟩ => ⟨S256x128, .i32⟩
  | .hbm, ⟨30, _⟩ => ⟨S256x128, .i1⟩
  | .hbm, ⟨31, _⟩ => ⟨S_, .f32⟩
  | .hbm, ⟨32, _⟩ => ⟨S_, .f32⟩
  | .hbm, ⟨33, _⟩ => ⟨S256x128, .f32⟩
  | .hbm, ⟨34, _⟩ => ⟨S256x128, .f32⟩
  | .hbm, ⟨35, _⟩ => ⟨S256x128, .f32⟩
  | .hbm, ⟨36, _⟩ => ⟨S256x128, .bf16⟩
  | .hbm, ⟨37, _⟩ => ⟨S8192x1024, .f32⟩
  | .local _ .vmem, ⟨0, _⟩ => ⟨S512x256, .f32⟩
  | .local _ .vmem, ⟨1, _⟩ => ⟨S512x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S1x4x128, .f32⟩
  | .local _ .vmem, ⟨7, _⟩ => ⟨S1x4x128, .f32⟩
  | .local _ .vmem, ⟨8, _⟩ => ⟨S256x128, .bf16⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_cst : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 4, 4], ![false, false, false]⟩

def k0_mult1 (i : grid0.Coords) : BitVec 32 :=
  let arg2 : BitVec 32 := BitVec.ofNat 32 (i 2).val
  let c4_i32 : BitVec 32 := 4#32
  let v76 : BitVec 32 := Scalar.muli arg2 c4_i32
  let c3_i32_36 : BitVec 32 := 3#32
  let v77 : BitVec 32 := Scalar.addi v76 c3_i32_36
  let c128_i32 : BitVec 32 := 128#32
  let v78 : BitVec 32 := Scalar.muli v77 c128_i32
  v78
def k0_off1 (i : grid0.Coords) (c3_i32_36 : BitVec 32) : Fin 2 → Nat :=
  let arg2 : BitVec 32 := BitVec.ofNat 32 (i 2).val
  let c4_i32 : BitVec 32 := 4#32
  let v76 : BitVec 32 := Scalar.muli arg2 c4_i32
  let v77 : BitVec 32 := Scalar.addi v76 c3_i32_36
  let c128_i32 : BitVec 32 := 128#32
  let v78 : BitVec 32 := Scalar.muli v77 c128_i32
  let v79 : BitVec 32 := v78
  let v80 : Index := Scalar.indexCast v79
  let c0_37 : Index := 0#32
  ![v80.toNat, 0]
def k0_mult2 (i : grid0.Coords) : BitVec 32 :=
  let arg2 : BitVec 32 := BitVec.ofNat 32 (i 2).val
  let c4_i32_100 : BitVec 32 := 4#32
  let v271 : BitVec 32 := Scalar.muli arg2 c4_i32_100
  let c2_i32_101 : BitVec 32 := 2#32
  let v272 : BitVec 32 := Scalar.addi v271 c2_i32_101
  let c128_i32_102 : BitVec 32 := 128#32
  let v273 : BitVec 32 := Scalar.muli v272 c128_i32_102
  v273
def k0_mult3 (i : grid0.Coords) : BitVec 32 :=
  let arg2 : BitVec 32 := BitVec.ofNat 32 (i 2).val
  let c4_i32_167 : BitVec 32 := 4#32
  let v466 : BitVec 32 := Scalar.muli arg2 c4_i32_167
  let c1_i32_168 : BitVec 32 := 1#32
  let v467 : BitVec 32 := Scalar.addi v466 c1_i32_168
  let c128_i32_169 : BitVec 32 := 128#32
  let v468 : BitVec 32 := Scalar.muli v467 c128_i32_169
  v468
def k0_mult4 (i : grid0.Coords) : BitVec 32 :=
  let arg2 : BitVec 32 := BitVec.ofNat 32 (i 2).val
  let c4_i32_235 : BitVec 32 := 4#32
  let v661 : BitVec 32 := Scalar.muli arg2 c4_i32_235
  let c0_i32_236 : BitVec 32 := 0#32
  let v662 : BitVec 32 := Scalar.addi v661 c0_i32_236
  let c128_i32_237 : BitVec 32 := 128#32
  let v663 : BitVec 32 := Scalar.muli v662 c128_i32_237
  v663
@[reducible] def k0_t1_loop (i : grid0.Coords) : Scf.Loop 32 :=
  let c0_i32_306 : BitVec 32 := 0#32
  let arg2 : BitVec 32 := BitVec.ofNat 32 (i 2).val
  let c4_i32_304 : BitVec 32 := 4#32
  let v852 : BitVec 32 := Scalar.muli arg2 c4_i32_304
  let v853 : BitVec 32 := Scalar.subi v852 c0_i32_306
  let c1_i32_307 : BitVec 32 := 1#32
  let v855 : BitVec 32 := Scalar.divsi v853 c1_i32_307
  let v856 : BitVec 32 := Scalar.muli v855 c1_i32_307
  let v857 : BitVec 32 := Scalar.addi c0_i32_306 v856
  let c1_i32_308 : BitVec 32 := 1#32
  ⟨c0_i32_306, v857, c1_i32_308⟩
def k0_mult5 (i : grid0.Coords) (k0_t1 : Fin (k0_t1_loop i).trips) : BitVec 32 :=
  let arg2 : BitVec 32 := BitVec.ofNat 32 (i 2).val
  let c4_i32_314 : BitVec 32 := 4#32
  let v860 : BitVec 32 := Scalar.muli arg2 c4_i32_314
  let c1_i32_315 : BitVec 32 := 1#32
  let v861 : BitVec 32 := Scalar.subi v860 c1_i32_315
  let c0_i32_306 : BitVec 32 := 0#32
  let c1_i32_308 : BitVec 32 := 1#32
  let arg14 : BitVec 32 := Scf.iv c0_i32_306 c1_i32_308 k0_t1
  let v862 : BitVec 32 := Scalar.subi v861 arg14
  let c128_i32_316 : BitVec 32 := 128#32
  let v863 : BitVec 32 := Scalar.muli v862 c128_i32_316
  v863
def k0_off2 (i : grid0.Coords) (k0_t1 : Fin (k0_t1_loop i).trips) : Fin 2 → Nat :=
  let arg2 : BitVec 32 := BitVec.ofNat 32 (i 2).val
  let c4_i32_314 : BitVec 32 := 4#32
  let v860 : BitVec 32 := Scalar.muli arg2 c4_i32_314
  let c1_i32_315 : BitVec 32 := 1#32
  let v861 : BitVec 32 := Scalar.subi v860 c1_i32_315
  let c0_i32_306 : BitVec 32 := 0#32
  let c1_i32_308 : BitVec 32 := 1#32
  let arg14 : BitVec 32 := Scf.iv c0_i32_306 c1_i32_308 k0_t1
  let v862 : BitVec 32 := Scalar.subi v861 arg14
  let c128_i32_316 : BitVec 32 := 128#32
  let v863 : BitVec 32 := Scalar.muli v862 c128_i32_316
  let v864 : BitVec 32 := v863
  let v865 : Index := Scalar.indexCast v864
  let c0_317 : Index := 0#32
  ![v865.toNat, 0]
@[reducible] def k0_t2_loop (i : grid0.Coords) : Scf.Loop 32 :=
  let c0_i32_306 : BitVec 32 := 0#32
  let arg2 : BitVec 32 := BitVec.ofNat 32 (i 2).val
  let c4_i32_304 : BitVec 32 := 4#32
  let v852 : BitVec 32 := Scalar.muli arg2 c4_i32_304
  let v853 : BitVec 32 := Scalar.subi v852 c0_i32_306
  let c1_i32_307 : BitVec 32 := 1#32
  let v855 : BitVec 32 := Scalar.divsi v853 c1_i32_307
  let v856 : BitVec 32 := Scalar.muli v855 c1_i32_307
  let v857 : BitVec 32 := Scalar.addi c0_i32_306 v856
  let v854 : BitVec 32 := Scalar.addi c0_i32_306 v853
  let c1_i32_309 : BitVec 32 := 1#32
  ⟨v857, v854, c1_i32_309⟩
def k0_mult6 (i : grid0.Coords) (k0_t2 : Fin (k0_t2_loop i).trips) : BitVec 32 :=
  let arg2 : BitVec 32 := BitVec.ofNat 32 (i 2).val
  let c4_i32_314 : BitVec 32 := 4#32
  let v860 : BitVec 32 := Scalar.muli arg2 c4_i32_314
  let c1_i32_315 : BitVec 32 := 1#32
  let v861 : BitVec 32 := Scalar.subi v860 c1_i32_315
  let c0_i32_306 : BitVec 32 := 0#32
  let c4_i32_304 : BitVec 32 := 4#32
  let v852 : BitVec 32 := Scalar.muli arg2 c4_i32_304
  let v853 : BitVec 32 := Scalar.subi v852 c0_i32_306
  let c1_i32_307 : BitVec 32 := 1#32
  let v855 : BitVec 32 := Scalar.divsi v853 c1_i32_307
  let v856 : BitVec 32 := Scalar.muli v855 c1_i32_307
  let v857 : BitVec 32 := Scalar.addi c0_i32_306 v856
  let c1_i32_309 : BitVec 32 := 1#32
  let arg14 : BitVec 32 := Scf.iv v857 c1_i32_309 k0_t2
  let v862 : BitVec 32 := Scalar.subi v861 arg14
  let c128_i32_316 : BitVec 32 := 128#32
  let v863 : BitVec 32 := Scalar.muli v862 c128_i32_316
  v863
def k0_off3 (i : grid0.Coords) (k0_t2 : Fin (k0_t2_loop i).trips) : Fin 2 → Nat :=
  let arg2 : BitVec 32 := BitVec.ofNat 32 (i 2).val
  let c4_i32_314 : BitVec 32 := 4#32
  let v860 : BitVec 32 := Scalar.muli arg2 c4_i32_314
  let c1_i32_315 : BitVec 32 := 1#32
  let v861 : BitVec 32 := Scalar.subi v860 c1_i32_315
  let c0_i32_306 : BitVec 32 := 0#32
  let c4_i32_304 : BitVec 32 := 4#32
  let v852 : BitVec 32 := Scalar.muli arg2 c4_i32_304
  let v853 : BitVec 32 := Scalar.subi v852 c0_i32_306
  let c1_i32_307 : BitVec 32 := 1#32
  let v855 : BitVec 32 := Scalar.divsi v853 c1_i32_307
  let v856 : BitVec 32 := Scalar.muli v855 c1_i32_307
  let v857 : BitVec 32 := Scalar.addi c0_i32_306 v856
  let c1_i32_309 : BitVec 32 := 1#32
  let arg14 : BitVec 32 := Scf.iv v857 c1_i32_309 k0_t2
  let v862 : BitVec 32 := Scalar.subi v861 arg14
  let c128_i32_316 : BitVec 32 := 128#32
  let v863 : BitVec 32 := Scalar.muli v862 c128_i32_316
  let v864 : BitVec 32 := v863
  let v865 : Index := Scalar.indexCast v864
  let c0_317 : Index := 0#32
  ![v865.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S9216x1024 : Shape := ⟨2, ![9216, 1024]⟩
abbrev S9216x6400 : Shape := ⟨2, ![9216, 6400]⟩
abbrev S16 : Shape := ⟨1, ![16]⟩
abbrev S8192x1024 : Shape := ⟨2, ![8192, 1024]⟩
abbrev S4x2048x16x64 : Shape := ⟨4, ![4, 2048, 16, 64]⟩
abbrev S4x16x2048x2048 : Shape := ⟨4, ![4, 16, 2048, 2048]⟩
abbrev S1x16x1x1 : Shape := ⟨4, ![1, 16, 1, 1]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S4x16x64x2048 : Shape := ⟨4, ![4, 16, 64, 2048]⟩

abbrev nBuf : Space → Nat
  | .hbm => 72
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S9216x6400, .f32⟩
  | .hbm, ⟨3, _⟩ => ⟨S16, .f32⟩
  | .hbm, ⟨4, _⟩ => ⟨S8192x1024, .f32⟩
  | .hbm, ⟨5, _⟩ => ⟨S4x2048x16x64, .f32⟩
  | .hbm, ⟨6, _⟩ => ⟨S8192x1024, .f32⟩
  | .hbm, ⟨7, _⟩ => ⟨S4x2048x16x64, .f32⟩
  | .hbm, ⟨8, _⟩ => ⟨S8192x1024, .f32⟩
  | .hbm, ⟨9, _⟩ => ⟨S4x2048x16x64, .f32⟩
  | .hbm, ⟨10, _⟩ => ⟨S4x16x2048x2048, .f32⟩
  | .hbm, ⟨11, _⟩ => ⟨S1x16x1x1, .f32⟩
  | .hbm, ⟨12, _⟩ => ⟨S4x16x2048x2048, .f32⟩
  | .hbm, ⟨13, _⟩ => ⟨S4x16x2048x2048, .f32⟩
  | .hbm, ⟨14, _⟩ => ⟨S2048, .i32⟩
  | .hbm, ⟨15, _⟩ => ⟨S1x2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S4x16x2048x2048, .f32⟩
  | .hbm, ⟨21, _⟩ => ⟨S_, .f32⟩
  | .hbm, ⟨22, _⟩ => ⟨S4x16x2048x2048, .f32⟩
  | .hbm, ⟨23, _⟩ => ⟨S4x16x2048x2048, .f32⟩
  | .hbm, ⟨24, _⟩ => ⟨S4x16x2048x2048, .f32⟩
  | .hbm, ⟨25, _⟩ => ⟨S4x16x2048x2048, .f32⟩
  | .hbm, ⟨26, _⟩ => ⟨S4x16x2048x2048, .i1⟩
  | .hbm, ⟨27, _⟩ => ⟨S4x16x2048x2048, .f32⟩
  | .hbm, ⟨28, _⟩ => ⟨S4x16x2048x2048, .f32⟩
  | .hbm, ⟨29, _⟩ => ⟨S4x16x2048x2048, .f32⟩
  | .hbm, ⟨30, _⟩ => ⟨S4x16x2048x2048, .f32⟩
  | .hbm, ⟨31, _⟩ => ⟨S4x16x2048x2048, .f32⟩
  | .hbm, ⟨32, _⟩ => ⟨S4x16x2048x2048, .f32⟩
  | .hbm, ⟨33, _⟩ => ⟨S4x16x2048x2048, .f32⟩
  | .hbm, ⟨34, _⟩ => ⟨S4x16x2048x2048, .f32⟩
  | .hbm, ⟨35, _⟩ => ⟨S4x16x2048x2048, .f32⟩
  | .hbm, ⟨36, _⟩ => ⟨S4x16x2048x2048, .f32⟩
  | .hbm, ⟨37, _⟩ => ⟨S4x16x2048x2048, .f32⟩
  | .hbm, ⟨38, _⟩ => ⟨S_, .f32⟩
  | .hbm, ⟨39, _⟩ => ⟨S4x16x2048x2048, .f32⟩
  | .hbm, ⟨40, _⟩ => ⟨S4x16x2048x2048, .f32⟩
  | .hbm, ⟨41, _⟩ => ⟨S4x16x2048x2048, .f32⟩
  | .hbm, ⟨42, _⟩ => ⟨S4x16x2048x2048, .f32⟩
  | .hbm, ⟨43, _⟩ => ⟨S4x16x2048x2048, .i1⟩
  | .hbm, ⟨44, _⟩ => ⟨S4x16x2048x2048, .f32⟩
  | .hbm, ⟨45, _⟩ => ⟨S4x16x2048x2048, .f32⟩
  | .hbm, ⟨46, _⟩ => ⟨S4x16x2048x2048, .f32⟩
  | .hbm, ⟨47, _⟩ => ⟨S4x16x2048x2048, .f32⟩
  | .hbm, ⟨48, _⟩ => ⟨S4x16x2048x2048, .f32⟩
  | .hbm, ⟨49, _⟩ => ⟨S4x16x2048x2048, .f32⟩
  | .hbm, ⟨50, _⟩ => ⟨S4x16x2048x2048, .f32⟩
  | .hbm, ⟨51, _⟩ => ⟨S4x16x2048x2048, .f32⟩
  | .hbm, ⟨52, _⟩ => ⟨S4x16x2048x2048, .f32⟩
  | .hbm, ⟨53, _⟩ => ⟨S_, .f32⟩
  | .hbm, ⟨54, _⟩ => ⟨S_, .f32⟩
  | .hbm, ⟨55, _⟩ => ⟨S4x16x2048x2048, .i1⟩
  | .hbm, ⟨56, _⟩ => ⟨S4x16x2048x2048, .f32⟩
  | .hbm, ⟨57, _⟩ => ⟨S4x16x2048x2048, .f32⟩
  | .hbm, ⟨58, _⟩ => ⟨S_, .f32⟩
  | .hbm, ⟨59, _⟩ => ⟨S_, .f32⟩
  | .hbm, ⟨60, _⟩ => ⟨S4x16x2048x2048, .f32⟩
  | .hbm, ⟨61, _⟩ => ⟨S4x16x2048x2048, .f32⟩
  | .hbm, ⟨62, _⟩ => ⟨S4x16x2048x2048, .f32⟩
  | .hbm, ⟨63, _⟩ => ⟨S4x16x2048x2048, .f32⟩
  | .hbm, ⟨64, _⟩ => ⟨S_, .f32⟩
  | .hbm, ⟨65, _⟩ => ⟨S_, .f32⟩
  | .hbm, ⟨66, _⟩ => ⟨S4x16x2048x2048, .i1⟩
  | .hbm, ⟨67, _⟩ => ⟨S4x16x2048x2048, .f32⟩
  | .hbm, ⟨68, _⟩ => ⟨S4x16x2048x2048, .f32⟩
  | .hbm, ⟨69, _⟩ => ⟨S4x16x64x2048, .f32⟩
  | .hbm, ⟨70, _⟩ => ⟨S4x2048x16x64, .f32⟩
  | .hbm, ⟨71, _⟩ => ⟨S8192x1024, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v16 : Ref sig .tc := ⟨.hbm, 35, rfl⟩
abbrev main_v17 : Ref sig .tc := ⟨.hbm, 36, rfl⟩
abbrev main_call1_v0 : Ref sig .tc := ⟨.hbm, 37, rfl⟩
abbrev main_call1_call0_cst : Ref sig .tc := ⟨.hbm, 38, rfl⟩
abbrev main_call1_call0_v0 : Ref sig .tc := ⟨.hbm, 39, rfl⟩
abbrev main_call1_call0_v1 : Ref sig .tc := ⟨.hbm, 40, rfl⟩
abbrev main_call1_call0_v2 : Ref sig .tc := ⟨.hbm, 41, rfl⟩
abbrev main_call1_call0_v3 : Ref sig .tc := ⟨.hbm, 42, rfl⟩
abbrev main_call1_call0_v4 : Ref sig .tc := ⟨.hbm, 43, rfl⟩
abbrev main_call1_call0_v5 : Ref sig .tc := ⟨.hbm, 44, rfl⟩
abbrev main_call1_call0_v6 : Ref sig .tc := ⟨.hbm, 45, rfl⟩
abbrev main_call1_call0_v7 : Ref sig .tc := ⟨.hbm, 46, rfl⟩
abbrev main_call1_call0_v8 : Ref sig .tc := ⟨.hbm, 47, rfl⟩
abbrev main_call1_call0_v9 : Ref sig .tc := ⟨.hbm, 48, rfl⟩
abbrev main_call1_call0_v10 : Ref sig .tc := ⟨.hbm, 49, rfl⟩
abbrev main_call1_call0_v11 : Ref sig .tc := ⟨.hbm, 50, rfl⟩
abbrev main_call1_v1 : Ref sig .tc := ⟨.hbm, 51, rfl⟩
abbrev main_v18 : Ref sig .tc := ⟨.hbm, 52, rfl⟩
abbrev main_cst : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v19 : Ref sig .tc := ⟨.hbm, 57, rfl⟩
abbrev main_call3_cst : Ref sig .tc := ⟨.hbm, 58, rfl⟩
abbrev main_call3_v0 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_cst_0 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩

abbrev nD : Nat := 1
abbrev τ : Topo := Topo.v7x

variable {F : FTy → Type} [FloatOps F]
-- ==== KernelFfn.lean ====
abbrev S9216x2048 : Shape := ⟨2, ![9216, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 10
  | .vmem => 12
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048x5632, .bf16⟩
  | .hbm, ⟨6, _⟩ => ⟨S2048x5632, .bf16⟩
  | .hbm, ⟨7, _⟩ => ⟨S5632x2048, .bf16⟩
  | .hbm, ⟨8, _⟩ => ⟨S1x2048, .f32⟩
  | .hbm, ⟨9, _⟩ => ⟨S9216x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![18, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceFfnIdeal.lean ====
abbrev S9216x2048 : Shape := ⟨2, ![9216, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S9216 : Shape := ⟨1, ![9216]⟩
abbrev S9216x1 : Shape := ⟨2, ![9216, 1]⟩
abbrev S1x2048 : Shape := ⟨2, ![1, 2048]⟩
abbrev S9216x5632 : Shape := ⟨2, ![9216, 5632]⟩

abbrev nBuf : Space → Nat
  | .hbm => 35
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S9216x2048, .f32⟩
  | .hbm, ⟨6, _⟩ => ⟨S_, .f32⟩
  | .hbm, ⟨7, _⟩ => ⟨S9216, .f32⟩
  | .hbm, ⟨8, _⟩ => ⟨S9216x1, .f32⟩
  | .hbm, ⟨9, _⟩ => ⟨S_, .f32⟩
  | .hbm, ⟨10, _⟩ => ⟨S9216x1, .f32⟩
  | .hbm, ⟨11, _⟩ => ⟨S9216x1, .f32⟩
  | .hbm, ⟨12, _⟩ => ⟨S_, .f32⟩
  | .hbm, ⟨13, _⟩ => ⟨S9216x1, .f32⟩
  | .hbm, ⟨14, _⟩ => ⟨S9216x1, .f32⟩
  | .hbm, ⟨15, _⟩ => ⟨S9216x1, .f32⟩
  | .hbm, ⟨16, _⟩ => ⟨S9216x2048, .f32⟩
  | .hbm, ⟨17, _⟩ => ⟨S9216x2048, .f32⟩
  | .hbm, ⟨18, _⟩ => ⟨S1x2048, .f32⟩
  | .hbm, ⟨19, _⟩ => ⟨S9216x2048, .f32⟩
  | .hbm, ⟨20, _⟩ => ⟨S9216x2048, .f32⟩
  | .hbm, ⟨21, _⟩ => ⟨S9216x5632, .f32⟩
  | .hbm, ⟨22, _⟩ => ⟨S9216x5632, .f32⟩
  | .hbm, ⟨23, _⟩ => ⟨S9216x5632, .f32⟩
  | .hbm, ⟨24, _⟩ => ⟨S_, .f32⟩
  | .hbm, ⟨25, _⟩ => ⟨S9216x5632, .f32⟩
  | .hbm, ⟨26, _⟩ => ⟨S9216x5632, .f32⟩
  | .hbm, ⟨27, _⟩ => ⟨S_, .f32⟩
  | .hbm, ⟨28, _⟩ => ⟨S9216x5632, .f32⟩
  | .hbm, ⟨29, _⟩ => ⟨S9216x5632, .f32⟩
  | .hbm, ⟨30, _⟩ => ⟨S9216x5632, .f32⟩
  | .hbm, ⟨31, _⟩ => ⟨S9216x5632, .f32⟩
  | .hbm, ⟨32, _⟩ => ⟨S9216x5632, .f32⟩
  | .hbm, ⟨33, _⟩ => ⟨S9216x2048, .f32⟩
  | .hbm, ⟨34, _⟩ => ⟨S9216x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== KernelProj.lean ====
abbrev S9216x2048 : Shape := ⟨2, ![9216, 2048]⟩
abbrev S2048 : Shape := ⟨1, ![2048]⟩
abbrev S2048x6400 : Shape := ⟨2, ![2048, 6400]⟩
abbrev S1x2048 : Shape := ⟨2, ![1, 2048]⟩
abbrev S9216x6400 : Shape := ⟨2, ![9216, 6400]⟩
abbrev S512x2048 : Shape := ⟨2, ![512, 2048]⟩
abbrev S2048x1280 : Shape := ⟨2, ![2048, 1280]⟩
abbrev S512x1280 : Shape := ⟨2, ![512, 1280]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S2048x6400, .f32⟩
  | .hbm, ⟨3, _⟩ => ⟨S2048x6400, .bf16⟩
  | .hbm, ⟨4, _⟩ => ⟨S1x2048, .f32⟩
  | .hbm, ⟨5, _⟩ => ⟨S9216x6400, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1280, .bf16⟩
  | .local _ .vmem, ⟨4, _⟩ => ⟨S2048x1280, .bf16⟩
  | .local _ .vmem, ⟨5, _⟩ => ⟨S512x1280, .f32⟩
  | .local _ .vmem, ⟨6, _⟩ => ⟨S512x1280, .f32⟩
  | .local _ .vmem, ⟨7, _⟩ => ⟨S512x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![18, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceProjIdeal.lean ====
abbrev S9216x2048 : Shape := ⟨2, ![9216, 2048]⟩
abbrev S2048 : Shape := ⟨1, ![2048]⟩
abbrev S2048x6400 : Shape := ⟨2, ![2048, 6400]⟩
abbrev S_ : Shape := ⟨0, ![]⟩
abbrev S9216 : Shape := ⟨1, ![9216]⟩
abbrev S9216x1 : Shape := ⟨2, ![9216, 1]⟩
abbrev S1x2048 : Shape := ⟨2, ![1, 2048]⟩
abbrev S9216x6400 : Shape := ⟨2, ![9216, 6400]⟩

abbrev nBuf : Space → Nat
  | .hbm => 20
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048, .f32⟩
  | .hbm, ⟨2, _⟩ => ⟨S2048x6400, .f32⟩
  | .hbm, ⟨3, _⟩ => ⟨S9216x2048, .f32⟩
  | .hbm, ⟨4, _⟩ => ⟨S_, .f32⟩
  | .hbm, ⟨5, _⟩ => ⟨S9216, .f32⟩
  | .hbm, ⟨6, _⟩ => ⟨S9216x1, .f32⟩
  | .hbm, ⟨7, _⟩ => ⟨S_, .f32⟩
  | .hbm, ⟨8, _⟩ => ⟨S9216x1, .f32⟩
  | .hbm, ⟨9, _⟩ => ⟨S9216x1, .f32⟩
  | .hbm, ⟨10, _⟩ => ⟨S_, .f32⟩
  | .hbm, ⟨11, _⟩ => ⟨S9216x1, .f32⟩
  | .hbm, ⟨12, _⟩ => ⟨S9216x1, .f32⟩
  | .hbm, ⟨13, _⟩ => ⟨S9216x1, .f32⟩
  | .hbm, ⟨14, _⟩ => ⟨S9216x2048, .f32⟩
  | .hbm, ⟨15, _⟩ => ⟨S9216x2048, .f32⟩
  | .hbm, ⟨16, _⟩ => ⟨S1x2048, .f32⟩
  | .hbm, ⟨17, _⟩ => ⟨S9216x2048, .f32⟩
  | .hbm, ⟨18, _⟩ => ⟨S9216x2048, .f32⟩
  | .hbm, ⟨19, _⟩ => ⟨S9216x6400, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== KernelOut.lean ====
abbrev S9216x2048 : Shape := ⟨2, ![9216, 2048]⟩
abbrev S8192x1024 : Shape := ⟨2, ![8192, 1024]⟩
abbrev S1024x1024 : Shape := ⟨2, ![1024, 1024]⟩
abbrev S1024 : Shape := ⟨1, ![1024]⟩
abbrev S2048x2048 : Shape := ⟨2, ![2048, 2048]⟩
abbrev S1x1024 : Shape := ⟨2, ![1, 1024]⟩
abbrev S512x2048 : Shape := ⟨2, ![512, 2048]⟩
abbrev S512x1024 : Shape := ⟨2, ![512, 1024]⟩
abbrev S1024x2048 : Shape := ⟨2, ![1024, 2048]⟩

abbrev nBuf : Space → Nat
  | .hbm => 10
  | .vmem => 14
  | .smem => 0
  | _ => 0

abbrev bufTy : (tb : Table) → Fin (tcTables nBuf tb) → BufTy
  | .hbm, ⟨0, _⟩ => ⟨S9216x2048, .f32⟩
  | .hbm, ⟨1, _⟩ => ⟨S8192x1024, .f32⟩
  | .hbm, ⟨2, _⟩ => ⟨S1024x1024, .f32⟩
  | .hbm, ⟨3, _⟩ => ⟨S8192x1024, .f32⟩
  | .hbm, ⟨4, _⟩ => ⟨S1024x1024, .f32⟩
  | .hbm, ⟨5, _⟩ => ⟨S1024, .f32⟩
  | .hbm, ⟨6, _⟩ => ⟨S2048x2048, .f32⟩
  | .hbm, ⟨7, _⟩ => ⟨S2048x2048, .bf16⟩
  | .hbm, ⟨8, _⟩ => ⟨S1x1024, .f32⟩
  | .hbm, ⟨9, _⟩ => ⟨S9216x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S2048x2048, .bf16⟩
  | .local _ .vmem, ⟨12, _⟩ => ⟨S512x2048, .f32⟩
  | .local _ .vmem, ⟨13, _⟩ => ⟨S512x2048, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceOutIdeal.lean ====
abbrev S9216x2048 : Shape := ⟨2, ![9216, 2048]⟩
abbrev S8192x1024 : Shape := ⟨2, ![8192, 1024]⟩
abbrev S1024x1024 : Shape := ⟨2, ![1024, 1024]⟩
abbrev S1024 : Shape := ⟨1, ![1024]⟩
abbrev S2048x2048 : Shape := ⟨2, ![2048, 2048]⟩
abbrev S9216x1024 : Shape := ⟨2, ![9216, 1024]⟩
abbrev S1x1024 : Shape := ⟨2, ![1, 1024]⟩

abbrev nBuf : Space → Nat
  | .hbm => 15
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S8192x1024, .f32⟩
  | .hbm, ⟨2, _⟩ => ⟨S1024x1024, .f32⟩
  | .hbm, ⟨3, _⟩ => ⟨S8192x1024, .f32⟩
  | .hbm, ⟨4, _⟩ => ⟨S1024x1024, .f32⟩
  | .hbm, ⟨5, _⟩ => ⟨S1024, .f32⟩
  | .hbm, ⟨6, _⟩ => ⟨S2048x2048, .f32⟩
  | .hbm, ⟨7, _⟩ => ⟨S9216x1024, .f32⟩
  | .hbm, ⟨8, _⟩ => ⟨S9216x1024, .f32⟩
  | .hbm, ⟨9, _⟩ => ⟨S1x1024, .f32⟩
  | .hbm, ⟨10, _⟩ => ⟨S9216x1024, .f32⟩
  | .hbm, ⟨11, _⟩ => ⟨S9216x1024, .f32⟩
  | .hbm, ⟨12, _⟩ => ⟨S9216x2048, .f32⟩
  | .hbm, ⟨13, _⟩ => ⟨S9216x2048, .f32⟩
  | .hbm, ⟨14, _⟩ => ⟨S9216x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== KernelMoe.lean ====
abbrev S44 : Shape := ⟨1, ![44]⟩
abbrev S22528x2048 : Shape := ⟨2, ![22528, 2048]⟩
abbrev S8x2048x2816 : Shape := ⟨3, ![8, 2048, 2816]⟩
abbrev S8x2816x2048 : Shape := ⟨3, ![8, 2816, 2048]⟩
abbrev S512x2048 : Shape := ⟨2, ![512, 2048]⟩
abbrev S1x2048x256 : Shape := ⟨3, ![1, 2048, 256]⟩
abbrev S1 : Shape := ⟨1, ![1]⟩
abbrev S1x256x2048 : Shape := ⟨3, ![1, 256, 2048]⟩
abbrev S2048x256 : Shape := ⟨2, ![2048, 256]⟩
abbrev S512x256 : Shape := ⟨2, ![512, 256]⟩
abbrev S256x2048 : Shape := ⟨2, ![256, 2048]⟩

abbrev nBuf : Space → Nat
  | .hbm => 5
  | .vmem => 12
  | .smem => 2
  | _ => 0

abbrev bufTy : (tb : Table) → Fin (tcTables nBuf tb) → BufTy
  | .hbm, ⟨0, _⟩ => ⟨S22528x2048, .f32⟩
  | .hbm, ⟨1, _⟩ => ⟨S8x2048x2816, .bf16⟩
  | .hbm, ⟨2, _⟩ => ⟨S8x2048x2816, .bf16⟩
  | .hbm, ⟨3, _⟩ => ⟨S8x2816x2048, .bf16⟩
  | .hbm, ⟨4, _⟩ => ⟨S22528x2048, .f32⟩
  | .local _ .vmem, ⟨0, _⟩ => ⟨S512x2048, .f32⟩
  | .local _ .vmem, ⟨1, _⟩ => ⟨S512x2048, .f32⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x256x2048, .bf16⟩
  | .local _ .vmem, ⟨7, _⟩ => ⟨S1x256x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | .local _ .smem, ⟨0, _⟩ => ⟨S44, .i32⟩
  | .local _ .smem, ⟨1, _⟩ => ⟨S44, .i32⟩
  | _, _ => ⟨S22528x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![44, 11], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) (v1 : BitVec 32) : BitVec 1 :=
  let c0_i32 : BitVec 32 := 0#32
  let v2 : BitVec 1 := Scalar.cmpi .sgt v1 c0_i32
  let arg1 : BitVec 32 := BitVec.ofNat 32 (i 1).val
  let c10_i32 : BitVec 32 := 10#32
  let v3 : BitVec 1 := Scalar.cmpi .eq arg1 c10_i32
  let v10 : BitVec 1 := Scalar.andi v2 v3
  let v11 : BitVec 32 := Scalar.extui v10
  let c0_i32_3 : BitVec 32 := 0#32
  let v12 : BitVec 1 := Scalar.cmpi .ne v11 c0_i32_3
  v12

def k0_cond4 (i : grid0.Coords) (v1 : BitVec 32) : BitVec 1 :=
  let c0_i32 : BitVec 32 := 0#32
  let v2 : BitVec 1 := Scalar.cmpi .sgt v1 c0_i32
  let v_true : BitVec 1 := 1#1
  let v13 : BitVec 1 := Scalar.xori v2 v_true
  let arg1 : BitVec 32 := BitVec.ofNat 32 (i 1).val
  let c10_i32 : BitVec 32 := 10#32
  let v3 : BitVec 1 := Scalar.cmpi .eq arg1 c10_i32
  let v14 : BitVec 1 := Scalar.andi v13 v3
  let v15 : BitVec 32 := Scalar.extui v14
  let c0_i32_4 : BitVec 32 := 0#32
  let v16 : BitVec 1 := Scalar.cmpi .ne v15 c0_i32_4
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S44.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S44) ![v0.toNat] S1.size (k0_off1_inb i)) numel1_S1
  let v2 : Index := Scalar.indexCast arg0
  let v3 : BitVec 32 := pf.at 1 (Rect.unit (s := S44) ![v2.toNat] S1.size (k0_off1_inb i)) numel1_S1
  let c0_i32 : BitVec 32 := 0#32
  let v4 : BitVec 1 := Scalar.cmpi .sgt v3 c0_i32
  let c10_i32 : BitVec 32 := 10#32
  let v5 : BitVec 32 := Scalar.select v4 arg1 c10_i32
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S44.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S44) ![v0.toNat] S1.size (k0_off1_inb i)) numel1_S1
  let v2 : Index := Scalar.indexCast arg0
  let v3 : BitVec 32 := pf.at 1 (Rect.unit (s := S44) ![v2.toNat] S1.size (k0_off1_inb i)) numel1_S1
  let c0_i32 : BitVec 32 := 0#32
  let v4 : BitVec 1 := Scalar.cmpi .sgt v3 c0_i32
  let c10_i32 : BitVec 32 := 10#32
  let v5 : BitVec 32 := Scalar.select v4 arg1 c10_i32
  let c0_i32_0 : BitVec 32 := 0#32
  let c0_i32_1 : BitVec 32 := 0#32
  ![v1.toNat, c0_i32_0.toNat, v5.toNat]

def cc0_transform_3 (k0_off1_inb : ∀ i : grid0.Coords, ∀ a, (k0_off1 i) a + S1.size a ≤ S44.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S44) ![v0.toNat] S1.size (k0_off1_inb i)) numel1_S1
  let v2 : Index := Scalar.indexCast arg0
  let v3 : BitVec 32 := pf.at 1 (Rect.unit (s := S44) ![v2.toNat] S1.size (k0_off1_inb i)) numel1_S1
  let c0_i32 : BitVec 32 := 0#32
  let v4 : BitVec 1 := Scalar.cmpi .sgt v3 c0_i32
  let c10_i32 : BitVec 32 := 10#32
  let v5 : BitVec 32 := Scalar.select v4 arg1 c10_i32
  let c0_i32_0 : BitVec 32 := 0#32
  let c0_i32_1 : BitVec 32 := 0#32
  ![v1.toNat, v5.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceMoeIdeal.lean ====
abbrev S44 : Shape := ⟨1, ![44]⟩
abbrev S22528x2048 : Shape := ⟨2, ![22528, 2048]⟩
abbrev S8x2048x2816 : Shape := ⟨3, ![8, 2048, 2816]⟩
abbrev S8x2816x2048 : Shape := ⟨3, ![8, 2816, 2048]⟩
abbrev S44x512 : Shape := ⟨2, ![44, 512]⟩
abbrev S22528 : Shape := ⟨1, ![22528]⟩
abbrev S22528x1 : Shape := ⟨2, ![22528, 1]⟩
abbrev S_ : Shape := ⟨0, ![]⟩
abbrev S1x2048x2816 : Shape := ⟨3, ![1, 2048, 2816]⟩
abbrev S2048x2816 : Shape := ⟨2, ![2048, 2816]⟩
abbrev S1x2816x2048 : Shape := ⟨3, ![1, 2816, 2048]⟩
abbrev S2816x2048 : Shape := ⟨2, ![2816, 2048]⟩
abbrev S22528x2816 : Shape := ⟨2, ![22528, 2816]⟩

abbrev nBuf : Space → Nat
  | .hbm => 273
  | .vmem => 0
  | .smem => 0
  | _ => 0

abbrev hbmTy0_0 (i : Nat) : BufTy := match i % 128 with
  | 0 => ⟨S44, .i32⟩
  | 1 => ⟨S44, .i32⟩
  | 2 => ⟨S22528x2048, .f32⟩
  | 3 => ⟨S8x2048x2816, .bf16⟩
  | 4 => ⟨S8x2048x2816, .bf16⟩
  | 5 => ⟨S8x2816x2048, .bf16⟩
  | 6 => ⟨S44x512, .i32⟩
  | 7 => ⟨S22528, .i32⟩
  | 8 => ⟨S22528x1, .i32⟩
  | 9 => ⟨S44x512, .i32⟩
  | 10 => ⟨S22528, .i32⟩
  | 11 => ⟨S22528x1, .i32⟩
  | 12 => ⟨S_, .i32⟩
  | 13 => ⟨S22528x1, .i32⟩
  | 14 => ⟨S22528x1, .i1⟩
  | 15 => ⟨S_, .f32⟩
  | 16 => ⟨S22528x2048, .f32⟩
  | 17 => ⟨S_, .i32⟩
  | 18 => ⟨S22528x1, .i32⟩
  | 19 => ⟨S22528x1, .i1⟩
  | 20 => ⟨S22528x1, .i1⟩
  | 21 => ⟨S1x2048x2816, .bf16⟩
  | 22 => ⟨S2048x2816, .bf16⟩
  | 23 => ⟨S2048x2816, .f32⟩
  | 24 => ⟨S1x2048x2816, .bf16⟩
  | 25 => ⟨S2048x2816, .bf16⟩
  | 26 => ⟨S2048x2816, .f32⟩
  | 27 => ⟨S1x2816x2048, .bf16⟩
  | 28 => ⟨S2816x2048, .bf16⟩
  | 29 => ⟨S2816x2048, .f32⟩
  | 30 => ⟨S22528x2816, .f32⟩
  | 31 => ⟨S22528x2816, .f32⟩
  | 32 => ⟨S22528x2816, .f32⟩
  | 33 => ⟨S_, .f32⟩
  | 34 => ⟨S22528x2816, .f32⟩
  | 35 => ⟨S22528x2816, .f32⟩
  | 36 => ⟨S_, .f32⟩
  | 37 => ⟨S22528x2816, .f32⟩
  | 38 => ⟨S22528x2816, .f32⟩
  | 39 => ⟨S22528x2816, .f32⟩
  | 40 => ⟨S22528x2816, .f32⟩
  | 41 => ⟨S22528x2816, .f32⟩
  | 42 => ⟨S22528x2048, .f32⟩
  | 43 => ⟨S_, .f32⟩
  | 44 => ⟨S_, .f32⟩
  | 45 => ⟨S22528x2048, .i1⟩
  | 46 => ⟨S22528x2048, .f32⟩
  | 47 => ⟨S22528x2048, .f32⟩
  | 48 => ⟨S22528x2048, .f32⟩
  | 49 => ⟨S_, .i32⟩
  | 50 => ⟨S22528x1, .i32⟩
  | 51 => ⟨S22528x1, .i1⟩
  | 52 => ⟨S22528x1, .i1⟩
  | 53 => ⟨S1x2048x2816, .bf16⟩
  | 54 => ⟨S2048x2816, .bf16⟩
  | 55 => ⟨S2048x2816, .f32⟩
  | 56 => ⟨S1x2048x2816, .bf16⟩
  | 57 => ⟨S2048x2816, .bf16⟩
  | 58 => ⟨S2048x2816, .f32⟩
  | 59 => ⟨S1x2816x2048, .bf16⟩
  | 60 => ⟨S2816x2048, .bf16⟩
  | 61 => ⟨S2816x2048, .f32⟩
  | 62 => ⟨S22528x2816, .f32⟩
  | 63 => ⟨S22528x2816, .f32⟩
  | 64 => ⟨S22528x2816, .f32⟩
  | 65 => ⟨S_, .f32⟩
  | 66 => ⟨S22528x2816, .f32⟩
  | 67 => ⟨S22528x2816, .f32⟩
  | 68 => ⟨S_, .f32⟩
  | 69 => ⟨S22528x2816, .f32⟩
  | 70 => ⟨S22528x2816, .f32⟩
  | 71 => ⟨S22528x2816, .f32⟩
  | 72 => ⟨S22528x2816, .f32⟩
  | 73 => ⟨S22528x2816, .f32⟩
  | 74 => ⟨S22528x2048, .f32⟩
  | 75 => ⟨S_, .f32⟩
  | 76 => ⟨S_, .f32⟩
  | 77 => ⟨S22528x2048, .i1⟩
  | 78 => ⟨S22528x2048, .f32⟩
  | 79 => ⟨S22528x2048, .f32⟩
  | 80 => ⟨S22528x2048, .f32⟩
  | 81 => ⟨S_, .i32⟩
  | 82 => ⟨S22528x1, .i32⟩
  | 83 => ⟨S22528x1, .i1⟩
  | 84 => ⟨S22528x1, .i1⟩
  | 85 => ⟨S1x2048x2816, .bf16⟩
  | 86 => ⟨S2048x2816, .bf16⟩
  | 87 => ⟨S2048x2816, .f32⟩
  | 88 => ⟨S1x2048x2816, .bf16⟩
  | 89 => ⟨S2048x2816, .bf16⟩
  | 90 => ⟨S2048x2816, .f32⟩
  | 91 => ⟨S1x2816x2048, .bf16⟩
  | 92 => ⟨S2816x2048, .bf16⟩
  | 93 => ⟨S2816x2048, .f32⟩
  | 94 => ⟨S22528x2816, .f32⟩
  | 95 => ⟨S22528x2816, .f32⟩
  | 96 => ⟨S22528x2816, .f32⟩
  | 97 => ⟨S_, .f32⟩
  | 98 => ⟨S22528x2816, .f32⟩
  | 99 => ⟨S22528x2816, .f32⟩
  | 100 => ⟨S_, .f32⟩
  | 101 => ⟨S22528x2816, .f32⟩
  | 102 => ⟨S22528x2816, .f32⟩
  | 103 => ⟨S22528x2816, .f32⟩
  | 104 => ⟨S22528x2816, .f32⟩
  | 105 => ⟨S22528x2816, .f32⟩
  | 106 => ⟨S22528x2048, .f32⟩
  | 107 => ⟨S_, .f32⟩
  | 108 => ⟨S_, .f32⟩
  | 109 => ⟨S22528x2048, .i1⟩
  | 110 => ⟨S22528x2048, .f32⟩
  | 111 => ⟨S22528x2048, .f32⟩
  | 112 => ⟨S22528x2048, .f32⟩
  | 113 => ⟨S_, .i32⟩
  | 114 => ⟨S22528x1, .i32⟩
  | 115 => ⟨S22528x1, .i1⟩
  | 116 => ⟨S22528x1, .i1⟩
  | 117 => ⟨S1x2048x2816, .bf16⟩
  | 118 => ⟨S2048x2816, .bf16⟩
  | 119 => ⟨S2048x2816, .f32⟩
  | 120 => ⟨S1x2048x2816, .bf16⟩
  | 121 => ⟨S2048x2816, .bf16⟩
  | 122 => ⟨S2048x2816, .f32⟩
  | 123 => ⟨S1x2816x2048, .bf16⟩
  | 124 => ⟨S2816x2048, .bf16⟩
  | 125 => ⟨S2816x2048, .f32⟩
  | 126 => ⟨S22528x2816, .f32⟩
  | 127 => ⟨S22528x2816, .f32⟩
  | _ => ⟨S44, .i32⟩

abbrev hbmTy0_1 (i : Nat) : BufTy := match i % 128 with
  | 0 => ⟨S22528x2816, .f32⟩
  | 1 => ⟨S_, .f32⟩
  | 2 => ⟨S22528x2816, .f32⟩
  | 3 => ⟨S22528x2816, .f32⟩
  | 4 => ⟨S_, .f32⟩
  | 5 => ⟨S22528x2816, .f32⟩
  | 6 => ⟨S22528x2816, .f32⟩
  | 7 => ⟨S22528x2816, .f32⟩
  | 8 => ⟨S22528x2816, .f32⟩
  | 9 => ⟨S22528x2816, .f32⟩
  | 10 => ⟨S22528x2048, .f32⟩
  | 11 => ⟨S_, .f32⟩
  | 12 => ⟨S_, .f32⟩
  | 13 => ⟨S22528x2048, .i1⟩
  | 14 => ⟨S22528x2048, .f32⟩
  | 15 => ⟨S22528x2048, .f32⟩
  | 16 => ⟨S22528x2048, .f32⟩
  | 17 => ⟨S_, .i32⟩
  | 18 => ⟨S22528x1, .i32⟩
  | 19 => ⟨S22528x1, .i1⟩
  | 20 => ⟨S22528x1, .i1⟩
  | 21 => ⟨S1x2048x2816, .bf16⟩
  | 22 => ⟨S2048x2816, .bf16⟩
  | 23 => ⟨S2048x2816, .f32⟩
  | 24 => ⟨S1x2048x2816, .bf16⟩
  | 25 => ⟨S2048x2816, .bf16⟩
  | 26 => ⟨S2048x2816, .f32⟩
  | 27 => ⟨S1x2816x2048, .bf16⟩
  | 28 => ⟨S2816x2048, .bf16⟩
  | 29 => ⟨S2816x2048, .f32⟩
  | 30 => ⟨S22528x2816, .f32⟩
  | 31 => ⟨S22528x2816, .f32⟩
  | 32 => ⟨S22528x2816, .f32⟩
  | 33 => ⟨S_, .f32⟩
  | 34 => ⟨S22528x2816, .f32⟩
  | 35 => ⟨S22528x2816, .f32⟩
  | 36 => ⟨S_, .f32⟩
  | 37 => ⟨S22528x2816, .f32⟩
  | 38 => ⟨S22528x2816, .f32⟩
  | 39 => ⟨S22528x2816, .f32⟩
  | 40 => ⟨S22528x2816, .f32⟩
  | 41 => ⟨S22528x2816, .f32⟩
  | 42 => ⟨S22528x2048, .f32⟩
  | 43 => ⟨S_, .f32⟩
  | 44 => ⟨S_, .f32⟩
  | 45 => ⟨S22528x2048, .i1⟩
  | 46 => ⟨S22528x2048, .f32⟩
  | 47 => ⟨S22528x2048, .f32⟩
  | 48 => ⟨S22528x2048, .f32⟩
  | 49 => ⟨S_, .i32⟩
  | 50 => ⟨S22528x1, .i32⟩
  | 51 => ⟨S22528x1, .i1⟩
  | 52 => ⟨S22528x1, .i1⟩
  | 53 => ⟨S1x2048x2816, .bf16⟩
  | 54 => ⟨S2048x2816, .bf16⟩
  | 55 => ⟨S2048x2816, .f32⟩
  | 56 => ⟨S1x2048x2816, .bf16⟩
  | 57 => ⟨S2048x2816, .bf16⟩
  | 58 => ⟨S2048x2816, .f32⟩
  | 59 => ⟨S1x2816x2048, .bf16⟩
  | 60 => ⟨S2816x2048, .bf16⟩
  | 61 => ⟨S2816x2048, .f32⟩
  | 62 => ⟨S22528x2816, .f32⟩
  | 63 => ⟨S22528x2816, .f32⟩
  | 64 => ⟨S22528x2816, .f32⟩
  | 65 => ⟨S_, .f32⟩
  | 66 => ⟨S22528x2816, .f32⟩
  | 67 => ⟨S22528x2816, .f32⟩
  | 68 => ⟨S_, .f32⟩
  | 69 => ⟨S22528x2816, .f32⟩
  | 70 => ⟨S22528x2816, .f32⟩
  | 71 => ⟨S22528x2816, .f32⟩
  | 72 => ⟨S22528x2816, .f32⟩
  | 73 => ⟨S22528x2816, .f32⟩
  | 74 => ⟨S22528x2048, .f32⟩
  | 75 => ⟨S_, .f32⟩
  | 76 => ⟨S_, .f32⟩
  | 77 => ⟨S22528x2048, .i1⟩
  | 78 => ⟨S22528x2048, .f32⟩
  | 79 => ⟨S22528x2048, .f32⟩
  | 80 => ⟨S22528x2048, .f32⟩
  | 81 => ⟨S_, .i32⟩
  | 82 => ⟨S22528x1, .i32⟩
  | 83 => ⟨S22528x1, .i1⟩
  | 84 => ⟨S22528x1, .i1⟩
  | 85 => ⟨S1x2048x2816, .bf16⟩
  | 86 => ⟨S2048x2816, .bf16⟩
  | 87 => ⟨S2048x2816, .f32⟩
  | 88 => ⟨S1x2048x2816, .bf16⟩
  | 89 => ⟨S2048x2816, .bf16⟩
  | 90 => ⟨S2048x2816, .f32⟩
  | 91 => ⟨S1x2816x2048, .bf16⟩
  | 92 => ⟨S2816x2048, .bf16⟩
  | 93 => ⟨S2816x2048, .f32⟩
  | 94 => ⟨S22528x2816, .f32⟩
  | 95 => ⟨S22528x2816, .f32⟩
  | 96 => ⟨S22528x2816, .f32⟩
  | 97 => ⟨S_, .f32⟩
  | 98 => ⟨S22528x2816, .f32⟩
  | 99 => ⟨S22528x2816, .f32⟩
  | 100 => ⟨S_, .f32⟩
  | 101 => ⟨S22528x2816, .f32⟩
  | 102 => ⟨S22528x2816, .f32⟩
  | 103 => ⟨S22528x2816, .f32⟩
  | 104 => ⟨S22528x2816, .f32⟩
  | 105 => ⟨S22528x2816, .f32⟩
  | 106 => ⟨S22528x2048, .f32⟩
  | 107 => ⟨S_, .f32⟩
  | 108 => ⟨S_, .f32⟩
  | 109 => ⟨S22528x2048, .i1⟩
  | 110 => ⟨S22528x2048, .f32⟩
  | 111 => ⟨S22528x2048, .f32⟩
  | 112 => ⟨S22528x2048, .f32⟩
  | 113 => ⟨S_, .i32⟩
  | 114 => ⟨S22528x1, .i32⟩
  | 115 => ⟨S22528x1, .i1⟩
  | 116 => ⟨S22528x1, .i1⟩
  | 117 => ⟨S1x2048x2816, .bf16⟩
  | 118 => ⟨S2048x2816, .bf16⟩
  | 119 => ⟨S2048x2816, .f32⟩
  | 120 => ⟨S1x2048x2816, .bf16⟩
  | 121 => ⟨S2048x2816, .bf16⟩
  | 122 => ⟨S2048x2816, .f32⟩
  | 123 => ⟨S1x2816x2048, .bf16⟩
  | 124 => ⟨S2816x2048, .bf16⟩
  | 125 => ⟨S2816x2048, .f32⟩
  | 126 => ⟨S22528x2816, .f32⟩
  | 127 => ⟨S22528x2816, .f32⟩
  | _ => ⟨S44, .i32⟩

abbrev hbmTy0_2 (i : Nat) : BufTy := match i % 128 with
  | 0 => ⟨S22528x2816, .f32⟩
  | 1 => ⟨S_, .f32⟩
  | 2 => ⟨S22528x2816, .f32⟩
  | 3 => ⟨S22528x2816, .f32⟩
  | 4 => ⟨S_, .f32⟩
  | 5 => ⟨S22528x2816, .f32⟩
  | 6 => ⟨S22528x2816, .f32⟩
  | 7 => ⟨S22528x2816, .f32⟩
  | 8 => ⟨S22528x2816, .f32⟩
  | 9 => ⟨S22528x2816, .f32⟩
  | 10 => ⟨S22528x2048, .f32⟩
  | 11 => ⟨S_, .f32⟩
  | 12 => ⟨S_, .f32⟩
  | 13 => ⟨S22528x2048, .i1⟩
  | 14 => ⟨S22528x2048, .f32⟩
  | 15 => ⟨S22528x2048, .f32⟩
  | 16 => ⟨S22528x2048, .f32⟩
  | _ => ⟨S44, .i32⟩

abbrev hbmTy (i : Nat) : BufTy := match i / 128 with
  | 0 => hbmTy0_0 i
  | 1 => hbmTy0_1 i
  | 2 => hbmTy0_2 i
  | _ => ⟨S44, .i32⟩

abbrev bufTy : (tb : Table) → Fin (tcTables nBuf tb) → BufTy
  | .hbm, ⟨i, _⟩ => hbmTy i
  | _, _ => ⟨S44, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_1 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v26 : Ref sig .tc := ⟨.hbm, 47, rfl⟩
abbrev main_v27 : Ref sig .tc := ⟨.hbm, 48, rfl⟩
abbrev main_c_2 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call2_v0 : Ref sig .tc := ⟨.hbm, 63, rfl⟩
abbrev main_call2_v1 : Ref sig .tc := ⟨.hbm, 64, rfl⟩
abbrev main_call2_cst : Ref sig .tc := ⟨.hbm, 65, rfl⟩
abbrev main_call2_v2 : Ref sig .tc := ⟨.hbm, 66, rfl⟩
abbrev main_call2_v3 : Ref sig .tc := ⟨.hbm, 67, rfl⟩
abbrev main_call2_cst_0 : Ref sig .tc := ⟨.hbm, 68, rfl⟩
abbrev main_call2_v4 : Ref sig .tc := ⟨.hbm, 69, rfl⟩
abbrev main_call2_v5 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_3 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v45 : Ref sig .tc := ⟨.hbm, 79, rfl⟩
abbrev main_v46 : Ref sig .tc := ⟨.hbm, 80, rfl⟩
abbrev main_c_4 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_call4_v0 : Ref sig .tc := ⟨.hbm, 95, rfl⟩
abbrev main_call4_v1 : Ref sig .tc := ⟨.hbm, 96, rfl⟩
abbrev main_call4_cst : Ref sig .tc := ⟨.hbm, 97, rfl⟩
abbrev main_call4_v2 : Ref sig .tc := ⟨.hbm, 98, rfl⟩
abbrev main_call4_v3 : Ref sig .tc := ⟨.hbm, 99, rfl⟩
abbrev main_call4_cst_0 : Ref sig .tc := ⟨.hbm, 100, rfl⟩
abbrev main_call4_v4 : Ref sig .tc := ⟨.hbm, 101, rfl⟩
abbrev main_call4_v5 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_cst_5 : Ref sig .tc := ⟨.hbm, 107, rfl⟩
abbrev main_call5_v0 : Ref sig .tc := ⟨.hbm, 108, rfl⟩
abbrev main_call5_v1 : Ref sig .tc := ⟨.hbm, 109, rfl⟩
abbrev main_call5_v2 : Ref sig .tc := ⟨.hbm, 110, rfl⟩
abbrev main_v64 : Ref sig .tc := ⟨.hbm, 111, rfl⟩
abbrev main_v65 : Ref sig .tc := ⟨.hbm, 112, rfl⟩
abbrev main_c_6 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_call6_v0 : Ref sig .tc := ⟨.hbm, 127, rfl⟩
abbrev main_call6_v1 : Ref sig .tc := ⟨.hbm, 128, rfl⟩
abbrev main_call6_cst : Ref sig .tc := ⟨.hbm, 129, rfl⟩
abbrev main_call6_v2 : Ref sig .tc := ⟨.hbm, 130, rfl⟩
abbrev main_call6_v3 : Ref sig .tc := ⟨.hbm, 131, rfl⟩
abbrev main_call6_cst_0 : Ref sig .tc := ⟨.hbm, 132, rfl⟩
abbrev main_call6_v4 : Ref sig .tc := ⟨.hbm, 133, rfl⟩
abbrev main_call6_v5 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_cst_7 : Ref sig .tc := ⟨.hbm, 139, rfl⟩
abbrev main_call7_v0 : Ref sig .tc := ⟨.hbm, 140, rfl⟩
abbrev main_call7_v1 : Ref sig .tc := ⟨.hbm, 141, rfl⟩
abbrev main_call7_v2 : Ref sig .tc := ⟨.hbm, 142, rfl⟩
abbrev main_v83 : Ref sig .tc := ⟨.hbm, 143, rfl⟩
abbrev main_v84 : Ref sig .tc := ⟨.hbm, 144, rfl⟩
abbrev main_c_8 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_call8_v0 : Ref sig .tc := ⟨.hbm, 159, rfl⟩
abbrev main_call8_v1 : Ref sig .tc := ⟨.hbm, 160, rfl⟩
abbrev main_call8_cst : Ref sig .tc := ⟨.hbm, 161, rfl⟩
abbrev main_call8_v2 : Ref sig .tc := ⟨.hbm, 162, rfl⟩
abbrev main_call8_v3 : Ref sig .tc := ⟨.hbm, 163, rfl⟩
abbrev main_call8_cst_0 : Ref sig .tc := ⟨.hbm, 164, rfl⟩
abbrev main_call8_v4 : Ref sig .tc := ⟨.hbm, 165, rfl⟩
abbrev main_call8_v5 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_cst_9 : Ref sig .tc := ⟨.hbm, 171, rfl⟩
abbrev main_call9_v0 : Ref sig .tc := ⟨.hbm, 172, rfl⟩
abbrev main_call9_v1 : Ref sig .tc := ⟨.hbm, 173, rfl⟩
abbrev main_call9_v2 : Ref sig .tc := ⟨.hbm, 174, rfl⟩
abbrev main_v102 : Ref sig .tc := ⟨.hbm, 175, rfl⟩
abbrev main_v103 : Ref sig .tc := ⟨.hbm, 176, rfl⟩
abbrev main_c_10 : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_call10_v0 : Ref sig .tc := ⟨.hbm, 191, rfl⟩
abbrev main_call10_v1 : Ref sig .tc := ⟨.hbm, 192, rfl⟩
abbrev main_call10_cst : Ref sig .tc := ⟨.hbm, 193, rfl⟩
abbrev main_call10_v2 : Ref sig .tc := ⟨.hbm, 194, rfl⟩
abbrev main_call10_v3 : Ref sig .tc := ⟨.hbm, 195, rfl⟩
abbrev main_call10_cst_0 : Ref sig .tc := ⟨.hbm, 196, rfl⟩
abbrev main_call10_v4 : Ref sig .tc := ⟨.hbm, 197, rfl⟩
abbrev main_call10_v5 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_cst_11 : Ref sig .tc := ⟨.hbm, 203, rfl⟩
abbrev main_call11_v0 : Ref sig .tc := ⟨.hbm, 204, rfl⟩
abbrev main_call11_v1 : Ref sig .tc := ⟨.hbm, 205, rfl⟩
abbrev main_call11_v2 : Ref sig .tc := ⟨.hbm, 206, rfl⟩
abbrev main_v121 : Ref sig .tc := ⟨.hbm, 207, rfl⟩
abbrev main_v122 : Ref sig .tc := ⟨.hbm, 208, rfl⟩
abbrev main_c_12 : Ref sig .tc := ⟨.hbm, 209, rfl⟩
abbrev main_v123 : Ref sig .tc := ⟨.hbm, 210, rfl⟩
abbrev main_v124 : Ref sig .tc := ⟨.hbm, 211, rfl⟩
abbrev main_v125 : Ref sig .tc := ⟨.hbm, 212, rfl⟩
abbrev main_v126 : Ref sig .tc := ⟨.hbm, 213, rfl⟩
abbrev main_v127 : Ref sig .tc := ⟨.hbm, 214, rfl⟩
abbrev main_v128 : Ref sig .tc := ⟨.hbm, 215, rfl⟩
abbrev main_v129 : Ref sig .tc := ⟨.hbm, 216, rfl⟩
abbrev main_v130 : Ref sig .tc := ⟨.hbm, 217, rfl⟩
abbrev main_v131 : Ref sig .tc := ⟨.hbm, 218, rfl⟩
abbrev main_v132 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_call12_v0 : Ref sig .tc := ⟨.hbm, 223, rfl⟩
abbrev main_call12_v1 : Ref sig .tc := ⟨.hbm, 224, rfl⟩
abbrev main_call12_cst : Ref sig .tc := ⟨.hbm, 225, rfl⟩
abbrev main_call12_v2 : Ref sig .tc := ⟨.hbm, 226, rfl⟩
abbrev main_call12_v3 : Ref sig .tc := ⟨.hbm, 227, rfl⟩
abbrev main_call12_cst_0 : Ref sig .tc := ⟨.hbm, 228, rfl⟩
abbrev main_call12_v4 : Ref sig .tc := ⟨.hbm, 229, rfl⟩
abbrev main_call12_v5 : Ref sig .tc := ⟨.hbm, 230, rfl⟩
abbrev main_v136 : Ref sig .tc := ⟨.hbm, 231, rfl⟩
abbrev main_v137 : Ref sig .tc := ⟨.hbm, 232, rfl⟩
abbrev main_v138 : Ref sig .tc := ⟨.hbm, 233, rfl⟩
abbrev main_v139 : Ref sig .tc := ⟨.hbm, 234, rfl⟩
abbrev main_cst_13 : Ref sig .tc := ⟨.hbm, 235, rfl⟩
abbrev main_call13_v0 : Ref sig .tc := ⟨.hbm, 236, rfl⟩
abbrev main_call13_v1 : Ref sig .tc := ⟨.hbm, 237, rfl⟩
abbrev main_call13_v2 : Ref sig .tc := ⟨.hbm, 238, rfl⟩
abbrev main_v140 : Ref sig .tc := ⟨.hbm, 239, rfl⟩
abbrev main_v141 : Ref sig .tc := ⟨.hbm, 240, rfl⟩
abbrev main_c_14 : Ref sig .tc := ⟨.hbm, 241, rfl⟩
abbrev main_v142 : Ref sig .tc := ⟨.hbm, 242, rfl⟩
abbrev main_v143 : Ref sig .tc := ⟨.hbm, 243, rfl⟩
abbrev main_v144 : Ref sig .tc := ⟨.hbm, 244, rfl⟩
abbrev main_v145 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_v149 : Ref sig .tc := ⟨.hbm, 249, rfl⟩
abbrev main_v150 : Ref sig .tc := ⟨.hbm, 250, rfl⟩
abbrev main_v151 : Ref sig .tc := ⟨.hbm, 251, rfl⟩
abbrev main_v152 : Ref sig .tc := ⟨.hbm, 252, rfl⟩
abbrev main_v153 : Ref sig .tc := ⟨.hbm, 253, rfl⟩
abbrev main_v154 : Ref sig .tc := ⟨.hbm, 254, rfl⟩
abbrev main_call14_v0 : Ref sig .tc := ⟨.hbm, 255, rfl⟩
abbrev main_call14_v1 : Ref sig .tc := ⟨.hbm, 256, rfl⟩
abbrev main_call14_cst : Ref sig .tc := ⟨.hbm, 257, rfl⟩
abbrev main_call14_v2 : Ref sig .tc := ⟨.hbm, 258, rfl⟩
abbrev main_call14_v3 : Ref sig .tc := ⟨.hbm, 259, rfl⟩
abbrev main_call14_cst_0 : Ref sig .tc := ⟨.hbm, 260, rfl⟩
abbrev main_call14_v4 : Ref sig .tc := ⟨.hbm, 261, rfl⟩
abbrev main_call14_v5 : Ref sig .tc := ⟨.hbm, 262, rfl⟩
abbrev main_v155 : Ref sig .tc := ⟨.hbm, 263, rfl⟩
abbrev main_v156 : Ref sig .tc := ⟨.hbm, 264, rfl⟩
abbrev main_v157 : Ref sig .tc := ⟨.hbm, 265, rfl⟩
abbrev main_v158 : Ref sig .tc := ⟨.hbm, 266, rfl⟩
abbrev main_cst_15 : Ref sig .tc := ⟨.hbm, 267, rfl⟩
abbrev main_call15_v0 : Ref sig .tc := ⟨.hbm, 268, rfl⟩
abbrev main_call15_v1 : Ref sig .tc := ⟨.hbm, 269, rfl⟩
abbrev main_call15_v2 : Ref sig .tc := ⟨.hbm, 270, rfl⟩
abbrev main_v159 : Ref sig .tc := ⟨.hbm, 271, rfl⟩
abbrev main_v160 : Ref sig .tc := ⟨.hbm, 272, rfl⟩

abbrev nD : Nat := 1
abbrev τ : Topo := Topo.v7x

variable {F : FTy → Type} [FloatOps F]
-- ==== KernelMix.lean ====
abbrev S9216x6400 : Shape := ⟨2, ![9216, 6400]⟩
abbrev S128x3328 : Shape := ⟨2, ![128, 3328]⟩
abbrev S3328 : Shape := ⟨1, ![3328]⟩
abbrev S64 : Shape := ⟨1, ![64]⟩
abbrev S1024 : Shape := ⟨1, ![1024]⟩
abbrev S64x1024 : Shape := ⟨2, ![64, 1024]⟩
abbrev S128x1024 : Shape := ⟨2, ![128, 1024]⟩
abbrev S1024x128 : Shape := ⟨2, ![1024, 128]⟩
abbrev S_ : Shape := ⟨0, ![]⟩
abbrev S1x3328 : Shape := ⟨2, ![1, 3328]⟩
abbrev S1x64 : Shape := ⟨2, ![1, 64]⟩
abbrev S16x64 : Shape := ⟨2, ![16, 64]⟩
abbrev S1x1024 : Shape := ⟨2, ![1, 1024]⟩
abbrev S9216x1024 : Shape := ⟨2, ![9216, 1024]⟩
abbrev S128x6400 : Shape := ⟨2, ![128, 6400]⟩
abbrev S8x6400 : Shape := ⟨2, ![8, 6400]⟩
abbrev S16x3328 : Shape := ⟨2, ![16, 3328]⟩
abbrev S128x1 : Shape := ⟨2, ![128, 1]⟩
abbrev S128x16 : Shape := ⟨2, ![128, 16]⟩
abbrev S128x128 : Shape := ⟨2, ![128, 128]⟩
abbrev S16x1024 : Shape := ⟨2, ![16, 1024]⟩
abbrev S128x256 : Shape := ⟨2, ![128, 256]⟩
abbrev S1x256 : Shape := ⟨2, ![1, 256]⟩
abbrev S16x256 : Shape := ⟨2, ![16, 256]⟩
abbrev S128x64 : Shape := ⟨2, ![128, 64]⟩

abbrev nBuf : Space → Nat
  | .hbm => 60
  | .vmem => 36
  | .smem => 0
  | _ => 0

abbrev bufTy : (tb : Table) → Fin (tcTables nBuf tb) → BufTy
  | .hbm, ⟨0, _⟩ => ⟨S9216x6400, .f32⟩
  | .hbm, ⟨1, _⟩ => ⟨S128x3328, .f32⟩
  | .hbm, ⟨2, _⟩ => ⟨S3328, .f32⟩
  | .hbm, ⟨3, _⟩ => ⟨S64, .f32⟩
  | .hbm, ⟨4, _⟩ => ⟨S64, .f32⟩
  | .hbm, ⟨5, _⟩ => ⟨S1024, .f32⟩
  | .hbm, ⟨6, _⟩ => ⟨S64x1024, .f32⟩
  | .hbm, ⟨7, _⟩ => ⟨S1024, .f32⟩
  | .hbm, ⟨8, _⟩ => ⟨S64x1024, .f32⟩
  | .hbm, ⟨9, _⟩ => ⟨S128x1024, .f32⟩
  | .hbm, ⟨10, _⟩ => ⟨S1024, .f32⟩
  | .hbm, ⟨11, _⟩ => ⟨S1024, .f32⟩
  | .hbm, ⟨12, _⟩ => ⟨S1024x128, .i32⟩
  | .hbm, ⟨13, _⟩ => ⟨S_, .i32⟩
  | .hbm, ⟨14, _⟩ => ⟨S_, .i32⟩
  | .hbm, ⟨15, _⟩ => ⟨S1024x128, .i32⟩
  | .hbm, ⟨16, _⟩ => ⟨S1024x128, .i32⟩
  | .hbm, ⟨17, _⟩ => ⟨S1024x128, .i32⟩
  | .hbm, ⟨18, _⟩ => ⟨S_, .i32⟩
  | .hbm, ⟨19, _⟩ => ⟨S1024x128, .i32⟩
  | .hbm, ⟨20, _⟩ => ⟨S1024x128, .i1⟩
  | .hbm, ⟨21, _⟩ => ⟨S1024x128, .i32⟩
  | .hbm, ⟨22, _⟩ => ⟨S1024x128, .i32⟩
  | .hbm, ⟨23, _⟩ => ⟨S_, .i32⟩
  | .hbm, ⟨24, _⟩ => ⟨S1024x128, .i32⟩
  | .hbm, ⟨25, _⟩ => ⟨S1024x128, .i1⟩
  | .hbm, ⟨26, _⟩ => ⟨S1024x128, .i1⟩
  | .hbm, ⟨27, _⟩ => ⟨S_, .i32⟩
  | .hbm, ⟨28, _⟩ => ⟨S1024x128, .i32⟩
  | .hbm, ⟨29, _⟩ => ⟨S1024x128, .i32⟩
  | .hbm, ⟨30, _⟩ => ⟨S1024x128, .i32⟩
  | .hbm, ⟨31, _⟩ => ⟨S1024x128, .i32⟩
  | .hbm, ⟨32, _⟩ => ⟨S1024x128, .i1⟩
  | .hbm, ⟨33, _⟩ => ⟨S1024x128, .bf16⟩
  | .hbm, ⟨34, _⟩ => ⟨S128x1024, .bf16⟩
  | .hbm, ⟨35, _⟩ => ⟨S1x3328, .f32⟩
  | .hbm, ⟨36, _⟩ => ⟨S1x64, .f32⟩
  | .hbm, ⟨37, _⟩ => ⟨S16x64, .f32⟩
  | .hbm, ⟨38, _⟩ => ⟨S1024, .f32⟩
  | .hbm, ⟨39, _⟩ => ⟨S1x1024, .f32⟩
  | .hbm, ⟨40, _⟩ => ⟨S1x64, .f32⟩
  | .hbm, ⟨41, _⟩ => ⟨S16x64, .f32⟩
  | .hbm, ⟨42, _⟩ => ⟨S1024, .f32⟩
  | .hbm, ⟨43, _⟩ => ⟨S1x1024, .f32⟩
  | .hbm, ⟨44, _⟩ => ⟨S1x1024, .f32⟩
  | .hbm, ⟨45, _⟩ => ⟨S64x1024, .bf16⟩
  | .hbm, ⟨46, _⟩ => ⟨S1x1024, .f32⟩
  | .hbm, ⟨47, _⟩ => ⟨S64x1024, .bf16⟩
  | .hbm, ⟨48, _⟩ => ⟨S128x1024, .bf16⟩
  | .hbm, ⟨49, _⟩ => ⟨S1x1024, .f32⟩
  | .hbm, ⟨50, _⟩ => ⟨S1x1024, .f32⟩
  | .hbm, ⟨51, _⟩ => ⟨S9216x1024, .f32⟩
  | .hbm, ⟨52, _⟩ => ⟨S9216x1024, .f32⟩
  | .hbm, ⟨53, _⟩ => ⟨S9216x1024, .f32⟩
  | .hbm, ⟨54, _⟩ => ⟨S9216x1024, .f32⟩
  | .hbm, ⟨55, _⟩ => ⟨S9216x1024, .f32⟩
  | .hbm, ⟨56, _⟩ => ⟨S9216x1024, .f32⟩
  | .hbm, ⟨57, _⟩ => ⟨S9216x1024, .f32⟩
  | .hbm, ⟨58, _⟩ => ⟨S9216x1024, .f32⟩
  | .hbm, ⟨59, _⟩ => ⟨S9216x1024, .f32⟩
  | .local _ .vmem, ⟨0, _⟩ => ⟨S128x6400, .f32⟩
  | .local _ .vmem, ⟨1, _⟩ => ⟨S128x6400, .f32⟩
  | .local _ .vmem, ⟨2, _⟩ => ⟨S8x6400, .f32⟩
  | .local _ .vmem, ⟨3, _⟩ => ⟨S8x6400, .f32⟩
  | .local _ .vmem, ⟨4, _⟩ => ⟨S16x3328, .f32⟩
  | .local _ .vmem, ⟨5, _⟩ => ⟨S16x3328, .f32⟩
  | .local _ .vmem, ⟨6, _⟩ => ⟨S1x3328, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S64x1024, .bf16⟩
  | .local _ .vmem, ⟨11, _⟩ => ⟨S1x1024, .f32⟩
  | .local _ .vmem, ⟨12, _⟩ => ⟨S64x1024, .bf16⟩
  | .local _ .vmem, ⟨13, _⟩ => ⟨S128x1024, .bf16⟩
  | .local _ .vmem, ⟨14, _⟩ => ⟨S1x1024, .f32⟩
  | .local _ .vmem, ⟨15, _⟩ => ⟨S1x1024, .f32⟩
  | .local _ .vmem, ⟨16, _⟩ => ⟨S1024x128, .bf16⟩
  | .local _ .vmem, ⟨17, _⟩ => ⟨S128x1024, .bf16⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S128x1024, .f32⟩
  | .local _ .vmem, ⟨25, _⟩ => ⟨S128x1024, .f32⟩
  | .local _ .vmem, ⟨26, _⟩ => ⟨S128x1024, .f32⟩
  | .local _ .vmem, ⟨27, _⟩ => ⟨S128x1024, .f32⟩
  | .local _ .vmem, ⟨28, _⟩ => ⟨S128x1024, .f32⟩
  | .local _ .vmem, ⟨29, _⟩ => ⟨S128x1024, .f32⟩
  | .local _ .vmem, ⟨30, _⟩ => ⟨S128x1024, .f32⟩
  | .local _ .vmem, ⟨31, _⟩ => ⟨S128x1024, .f32⟩
  | .local _ .vmem, ⟨32, _⟩ => ⟨S128x1024, .f32⟩
  | .local _ .vmem, ⟨33, _⟩ => ⟨S128x1024, .f32⟩
  | .local _ .vmem, ⟨34, _⟩ => ⟨S128x1024, .f32⟩
  | .local _ .vmem, ⟨35, _⟩ => ⟨S128x1024, .f32⟩
  | _, _ => ⟨S9216x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22_0 : Ref sig .tc := ⟨.hbm, 51, rfl⟩
abbrev main_v22_1 : Ref sig .tc := ⟨.hbm, 52, rfl⟩
abbrev main_v22_2 : Ref sig .tc := ⟨.hbm, 53, rfl⟩
abbrev main_v22_3 : Ref sig .tc := ⟨.hbm, 54, rfl⟩
abbrev main_v22_4 : Ref sig .tc := ⟨.hbm, 55, rfl⟩
abbrev main_v22_5 : Ref sig .tc := ⟨.hbm, 56, rfl⟩
abbrev main_v22_6 : Ref sig .tc := ⟨.hbm, 57, rfl⟩
abbrev main_v22_7 : Ref sig .tc := ⟨.hbm, 58, rfl⟩
abbrev main_v22_8 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34
abbrev cc0_sem23_1 : DmaSem sig := 35

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x6400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x3328 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x3328 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S128x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S128x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S128x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S128x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S128x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S128x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== ReferenceMixIdeal.lean ====
abbrev S9216x6400 : Shape := ⟨2, ![9216, 6400]⟩
abbrev S128x3328 : Shape := ⟨2, ![128, 3328]⟩
abbrev S3328 : Shape := ⟨1, ![3328]⟩
abbrev S64 : Shape := ⟨1, ![64]⟩
abbrev S1024 : Shape := ⟨1, ![1024]⟩
abbrev S64x1024 : Shape := ⟨2, ![64, 1024]⟩
abbrev S128x1024 : Shape := ⟨2, ![128, 1024]⟩
abbrev S9216x1024 : Shape := ⟨2, ![9216, 1024]⟩
abbrev S9216x16x64 : Shape := ⟨3, ![9216, 16, 64]⟩
abbrev S_ : Shape := ⟨0, ![]⟩
abbrev S9216x16 : Shape := ⟨2, ![9216, 16]⟩
abbrev S9216x16x1 : Shape := ⟨3, ![9216, 16, 1]⟩
abbrev S1x1x64 : Shape := ⟨3, ![1, 1, 64]⟩
abbrev S9216x3328 : Shape := ⟨2, ![9216, 3328]⟩
abbrev S8192x3328 : Shape := ⟨2, ![8192, 3328]⟩
abbrev S4x2048x3328 : Shape := ⟨3, ![4, 2048, 3328]⟩
abbrev S4x3328 : Shape := ⟨2, ![4, 3328]⟩
abbrev S4x1x3328 : Shape := ⟨3, ![4, 1, 3328]⟩
abbrev S4x2047x3328 : Shape := ⟨3, ![4, 2047, 3328]⟩
abbrev S1024x3328 : Shape := ⟨2, ![1024, 3328]⟩
abbrev S128x8x3328 : Shape := ⟨3, ![128, 8, 3328]⟩
abbrev S128x1x3328 : Shape := ⟨3, ![128, 1, 3328]⟩
abbrev S128x7x3328 : Shape := ⟨3, ![128, 7, 3328]⟩
abbrev S1x3328 : Shape := ⟨2, ![1, 3328]⟩
abbrev S9216x64 : Shape := ⟨2, ![9216, 64]⟩
abbrev S9216x128 : Shape := ⟨2, ![9216, 128]⟩
abbrev S1x1024 : Shape := ⟨2, ![1, 1024]⟩

abbrev nBuf : Space → Nat
  | .hbm => 155
  | .vmem => 0
  | .smem => 0
  | _ => 0

abbrev hbmTy0_0 (i : Nat) : BufTy := match i % 128 with
  | 0 => ⟨S9216x6400, .f32⟩
  | 1 => ⟨S128x3328, .f32⟩
  | 2 => ⟨S3328, .f32⟩
  | 3 => ⟨S64, .f32⟩
  | 4 => ⟨S64, .f32⟩
  | 5 => ⟨S1024, .f32⟩
  | 6 => ⟨S64x1024, .f32⟩
  | 7 => ⟨S1024, .f32⟩
  | 8 => ⟨S64x1024, .f32⟩
  | 9 => ⟨S128x1024, .f32⟩
  | 10 => ⟨S1024, .f32⟩
  | 11 => ⟨S1024, .f32⟩
  | 12 => ⟨S9216x1024, .f32⟩
  | 13 => ⟨S9216x16x64, .f32⟩
  | 14 => ⟨S9216x16x64, .f32⟩
  | 15 => ⟨S_, .f32⟩
  | 16 => ⟨S9216x16, .f32⟩
  | 17 => ⟨S9216x16x1, .f32⟩
  | 18 => ⟨S_, .f32⟩
  | 19 => ⟨S9216x16x1, .f32⟩
  | 20 => ⟨S9216x16x1, .f32⟩
  | 21 => ⟨S_, .f32⟩
  | 22 => ⟨S9216x16x1, .f32⟩
  | 23 => ⟨S9216x16x1, .f32⟩
  | 24 => ⟨S9216x16x1, .f32⟩
  | 25 => ⟨S9216x16x64, .f32⟩
  | 26 => ⟨S9216x16x64, .f32⟩
  | 27 => ⟨S1x1x64, .f32⟩
  | 28 => ⟨S9216x16x64, .f32⟩
  | 29 => ⟨S9216x16x64, .f32⟩
  | 30 => ⟨S_, .f32⟩
  | 31 => ⟨S9216x16x64, .f32⟩
  | 32 => ⟨S9216x16x64, .f32⟩
  | 33 => ⟨S9216x1024, .f32⟩
  | 34 => ⟨S9216x16x64, .f32⟩
  | 35 => ⟨S9216x16x64, .f32⟩
  | 36 => ⟨S_, .f32⟩
  | 37 => ⟨S9216x16, .f32⟩
  | 38 => ⟨S9216x16x1, .f32⟩
  | 39 => ⟨S_, .f32⟩
  | 40 => ⟨S9216x16x1, .f32⟩
  | 41 => ⟨S9216x16x1, .f32⟩
  | 42 => ⟨S_, .f32⟩
  | 43 => ⟨S9216x16x1, .f32⟩
  | 44 => ⟨S9216x16x1, .f32⟩
  | 45 => ⟨S9216x16x1, .f32⟩
  | 46 => ⟨S9216x16x64, .f32⟩
  | 47 => ⟨S9216x16x64, .f32⟩
  | 48 => ⟨S1x1x64, .f32⟩
  | 49 => ⟨S9216x16x64, .f32⟩
  | 50 => ⟨S9216x16x64, .f32⟩
  | 51 => ⟨S9216x3328, .f32⟩
  | 52 => ⟨S8192x3328, .f32⟩
  | 53 => ⟨S4x2048x3328, .f32⟩
  | 54 => ⟨S_, .f32⟩
  | 55 => ⟨S4x3328, .f32⟩
  | 56 => ⟨S4x1x3328, .f32⟩
  | 57 => ⟨S4x2047x3328, .f32⟩
  | 58 => ⟨S4x2048x3328, .f32⟩
  | 59 => ⟨S1024x3328, .f32⟩
  | 60 => ⟨S128x8x3328, .f32⟩
  | 61 => ⟨S128x1x3328, .f32⟩
  | 62 => ⟨S128x7x3328, .f32⟩
  | 63 => ⟨S128x8x3328, .f32⟩
  | 64 => ⟨S8192x3328, .f32⟩
  | 65 => ⟨S1024x3328, .f32⟩
  | 66 => ⟨S9216x3328, .f32⟩
  | 67 => ⟨S9216x3328, .f32⟩
  | 68 => ⟨S1x3328, .f32⟩
  | 69 => ⟨S9216x3328, .f32⟩
  | 70 => ⟨S9216x3328, .f32⟩
  | 71 => ⟨S9216x3328, .f32⟩
  | 72 => ⟨S9216x1024, .f32⟩
  | 73 => ⟨S9216x1024, .f32⟩
  | 74 => ⟨S9216x1024, .f32⟩
  | 75 => ⟨S9216x64, .f32⟩
  | 76 => ⟨S9216x64, .f32⟩
  | 77 => ⟨S9216x128, .f32⟩
  | 78 => ⟨S9216x64, .f32⟩
  | 79 => ⟨S9216x1024, .f32⟩
  | 80 => ⟨S1x1024, .f32⟩
  | 81 => ⟨S9216x1024, .f32⟩
  | 82 => ⟨S9216x1024, .f32⟩
  | 83 => ⟨S9216x1024, .f32⟩
  | 84 => ⟨S_, .f32⟩
  | 85 => ⟨S9216x1024, .f32⟩
  | 86 => ⟨S9216x1024, .f32⟩
  | 87 => ⟨S9216x1024, .f32⟩
  | 88 => ⟨S9216x1024, .f32⟩
  | 89 => ⟨S9216x1024, .i1⟩
  | 90 => ⟨S9216x1024, .f32⟩
  | 91 => ⟨S9216x1024, .f32⟩
  | 92 => ⟨S9216x1024, .f32⟩
  | 93 => ⟨S9216x1024, .f32⟩
  | 94 => ⟨S9216x1024, .f32⟩
  | 95 => ⟨S9216x1024, .f32⟩
  | 96 => ⟨S9216x1024, .f32⟩
  | 97 => ⟨S9216x1024, .f32⟩
  | 98 => ⟨S9216x1024, .f32⟩
  | 99 => ⟨S_, .f32⟩
  | 100 => ⟨S9216x1024, .f32⟩
  | 101 => ⟨S9216x1024, .f32⟩
  | 102 => ⟨S9216x1024, .f32⟩
  | 103 => ⟨S1x1024, .f32⟩
  | 104 => ⟨S9216x1024, .f32⟩
  | 105 => ⟨S9216x1024, .f32⟩
  | 106 => ⟨S9216x1024, .f32⟩
  | 107 => ⟨S9216x1024, .f32⟩
  | 108 => ⟨S_, .f32⟩
  | 109 => ⟨S9216x1024, .f32⟩
  | 110 => ⟨S9216x1024, .f32⟩
  | 111 => ⟨S_, .f32⟩
  | 112 => ⟨S9216x1024, .f32⟩
  | 113 => ⟨S9216x1024, .f32⟩
  | 114 => ⟨S9216x128, .f32⟩
  | 115 => ⟨S9216x128, .f32⟩
  | 116 => ⟨S_, .f32⟩
  | 117 => ⟨S9216x128, .f32⟩
  | 118 => ⟨S9216x128, .f32⟩
  | 119 => ⟨S_, .f32⟩
  | 120 => ⟨S9216x128, .f32⟩
  | 121 => ⟨S9216x128, .f32⟩
  | 122 => ⟨S9216x1024, .f32⟩
  | 123 => ⟨S1x1024, .f32⟩
  | 124 => ⟨S9216x1024, .f32⟩
  | 125 => ⟨S9216x1024, .f32⟩
  | 126 => ⟨S9216x16x64, .f32⟩
  | 127 => ⟨S9216x16x64, .f32⟩
  | _ => ⟨S9216x6400, .f32⟩

abbrev hbmTy0_1 (i : Nat) : BufTy := match i % 128 with
  | 0 => ⟨S_, .f32⟩
  | 1 => ⟨S9216x16, .f32⟩
  | 2 => ⟨S9216x16x1, .f32⟩
  | 3 => ⟨S_, .f32⟩
  | 4 => ⟨S9216x16x1, .f32⟩
  | 5 => ⟨S9216x16x1, .f32⟩
  | 6 => ⟨S9216x16x1, .f32⟩
  | 7 => ⟨S9216x16x64, .f32⟩
  | 8 => ⟨S9216x16x64, .f32⟩
  | 9 => ⟨S_, .f32⟩
  | 10 => ⟨S9216x1024, .f32⟩
  | 11 => ⟨S9216x1024, .f32⟩
  | 12 => ⟨S1x1024, .f32⟩
  | 13 => ⟨S9216x1024, .f32⟩
  | 14 => ⟨S9216x1024, .f32⟩
  | 15 => ⟨S_, .f32⟩
  | 16 => ⟨S9216x1024, .f32⟩
  | 17 => ⟨S9216x1024, .f32⟩
  | 18 => ⟨S9216x1024, .f32⟩
  | 19 => ⟨S9216x1024, .f32⟩
  | 20 => ⟨S9216x1024, .f32⟩
  | 21 => ⟨S9216x1024, .f32⟩
  | 22 => ⟨S9216x1024, .f32⟩
  | 23 => ⟨S9216x16x64, .f32⟩
  | 24 => ⟨S9216x1024, .f32⟩
  | 25 => ⟨S9216x1024, .f32⟩
  | 26 => ⟨S9216x1024, .f32⟩
  | _ => ⟨S9216x6400, .f32⟩

abbrev hbmTy (i : Nat) : BufTy := match i / 128 with
  | 0 => hbmTy0_0 i
  | 1 => hbmTy0_1 i
  | _ => ⟨S9216x6400, .f32⟩

abbrev bufTy : (tb : Table) → Fin (tcTables nBuf tb) → BufTy
  | .hbm, ⟨i, _⟩ => hbmTy i
  | _, _ => ⟨S9216x6400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_call0_cst : Ref sig .tc := ⟨.hbm, 84, rfl⟩
abbrev main_call0_v0 : Ref sig .tc := ⟨.hbm, 85, rfl⟩
abbrev main_call0_v1 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_call0_v5 : Ref sig .tc := ⟨.hbm, 90, rfl⟩
abbrev main_call0_v6 : Ref sig .tc := ⟨.hbm, 91, rfl⟩
abbrev main_call0_v7 : Ref sig .tc := ⟨.hbm, 92, rfl⟩
abbrev main_call0_v8 : Ref sig .tc := ⟨.hbm, 93, rfl⟩
abbrev main_call0_v9 : Ref sig .tc := ⟨.hbm, 94, rfl⟩
abbrev main_call0_v10 : Ref sig .tc := ⟨.hbm, 95, rfl⟩
abbrev main_call0_v11 : Ref sig .tc := ⟨.hbm, 96, rfl⟩
abbrev main_v64 : Ref sig .tc := ⟨.hbm, 97, rfl⟩
abbrev main_v65 : Ref sig .tc := ⟨.hbm, 98, rfl⟩
abbrev main_cst_7 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_8 : Ref sig .tc := ⟨.hbm, 108, rfl⟩
abbrev main_v74 : Ref sig .tc := ⟨.hbm, 109, rfl⟩
abbrev main_v75 : Ref sig .tc := ⟨.hbm, 110, rfl⟩
abbrev main_cst_9 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_10 : Ref sig .tc := ⟨.hbm, 116, rfl⟩
abbrev main_v80 : Ref sig .tc := ⟨.hbm, 117, rfl⟩
abbrev main_v81 : Ref sig .tc := ⟨.hbm, 118, rfl⟩
abbrev main_cst_11 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_12 : Ref sig .tc := ⟨.hbm, 128, rfl⟩
abbrev main_v90 : Ref sig .tc := ⟨.hbm, 129, rfl⟩
abbrev main_v91 : Ref sig .tc := ⟨.hbm, 130, rfl⟩
abbrev main_cst_13 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_14 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_15 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩

abbrev nD : Nat := 1
abbrev τ : Topo := Topo.v7x

variable {F : FTy → Type} [FloatOps F]
-- ==== KernelScan.lean ====
abbrev S9216x1024 : Shape := ⟨2, ![9216, 1024]⟩
abbrev S16x64 : Shape := ⟨2, ![16, 64]⟩
abbrev S1024 : Shape := ⟨1, ![1024]⟩
abbrev S128x16x64x64 : Shape := ⟨4, ![128, 16, 64, 64]⟩
abbrev S1x1024 : Shape := ⟨2, ![1, 1024]⟩
abbrev S1024x1024 : Shape := ⟨2, ![1024, 1024]⟩
abbrev S8x1024 : Shape := ⟨2, ![8, 1024]⟩
abbrev S1x16x64x64 : Shape := ⟨4, ![1, 16, 64, 64]⟩
abbrev S16x64x64 : Shape := ⟨3, ![16, 64, 64]⟩
abbrev S8x8 : Shape := ⟨2, ![8, 8]⟩
abbrev S16x16 : Shape := ⟨2, ![16, 16]⟩
abbrev S8x64 : Shape := ⟨2, ![8, 64]⟩
abbrev S1x64x64 : Shape := ⟨3, ![1, 64, 64]⟩
abbrev S64x64 : Shape := ⟨2, ![64, 64]⟩
abbrev S8x16 : Shape := ⟨2, ![8, 16]⟩
abbrev S1x64 : Shape := ⟨2, ![1, 64]⟩
abbrev S8 : Shape := ⟨1, ![8]⟩
abbrev S8x1 : Shape := ⟨2, ![8, 1]⟩

abbrev nBuf : Space → Nat
  | .hbm => 16
  | .vmem => 24
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S9216x1024, .f32⟩
  | .hbm, ⟨3, _⟩ => ⟨S9216x1024, .f32⟩
  | .hbm, ⟨4, _⟩ => ⟨S9216x1024, .f32⟩
  | .hbm, ⟨5, _⟩ => ⟨S9216x1024, .f32⟩
  | .hbm, ⟨6, _⟩ => ⟨S9216x1024, .f32⟩
  | .hbm, ⟨7, _⟩ => ⟨S16x64, .f32⟩
  | .hbm, ⟨8, _⟩ => ⟨S1024, .f32⟩
  | .hbm, ⟨9, _⟩ => ⟨S1024, .f32⟩
  | .hbm, ⟨10, _⟩ => ⟨S128x16x64x64, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1024x1024, .f32⟩
  | .hbm, ⟨15, _⟩ => ⟨S128x16x64x64, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x16x64x64, .f32⟩
  | .local _ .vmem, ⟨18, _⟩ => ⟨S1x16x64x64, .f32⟩
  | .local _ .vmem, ⟨19, _⟩ => ⟨S8x1024, .f32⟩
  | .local _ .vmem, ⟨20, _⟩ => ⟨S8x1024, .f32⟩
  | .local _ .vmem, ⟨21, _⟩ => ⟨S1x16x64x64, .f32⟩
  | .local _ .vmem, ⟨22, _⟩ => ⟨S1x16x64x64, .f32⟩
  | .local _ .vmem, ⟨23, _⟩ => ⟨S16x64x64, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![128, 1], ![false, false]⟩

def k0_mult1 : BitVec 32 :=
  let c0_i32_9 : BitVec 32 := 0#32
  let c8_i32_10 : BitVec 32 := 8#32
  let v36 : BitVec 32 := Scalar.muli c0_i32_9 c8_i32_10
  v36
def k0_off1 : Fin 2 → Nat :=
  let c0_i32_9 : BitVec 32 := 0#32
  let c8_i32_10 : BitVec 32 := 8#32
  let v36 : BitVec 32 := Scalar.muli c0_i32_9 c8_i32_10
  let v37 : BitVec 32 := v36
  let v38 : Index := Scalar.indexCast v37
  let c0 : Index := 0#32
  ![v38.toNat, 0]
def k0_off2 : Fin 2 → Nat :=
  let c0_i32_9 : BitVec 32 := 0#32
  let c8_i32_10 : BitVec 32 := 8#32
  let v36 : BitVec 32 := Scalar.muli c0_i32_9 c8_i32_10
  let v37 : BitVec 32 := v36
  let v2791 : Index := Scalar.indexCast v37
  let c0_678 : Index := 0#32
  ![v2791.toNat, 0]
def k0_off3 : Fin 2 → Nat :=
  let c0_i32_9 : BitVec 32 := 0#32
  let c8_i32_10 : BitVec 32 := 8#32
  let v36 : BitVec 32 := Scalar.muli c0_i32_9 c8_i32_10
  let v37 : BitVec 32 := v36
  let v2835 : Index := Scalar.indexCast v37
  let c64_694 : Index := 64#32
  ![v2835.toNat, 64]
def k0_off4 : Fin 2 → Nat :=
  let c0_i32_9 : BitVec 32 := 0#32
  let c8_i32_10 : BitVec 32 := 8#32
  let v36 : BitVec 32 := Scalar.muli c0_i32_9 c8_i32_10
  let v37 : BitVec 32 := v36
  let v2879 : Index := Scalar.indexCast v37
  let c128_710 : Index := 128#32
  ![v2879.toNat, 128]
def k0_off5 : Fin 2 → Nat :=
  let c0_i32_9 : BitVec 32 := 0#32
  let c8_i32_10 : BitVec 32 := 8#32
  let v36 : BitVec 32 := Scalar.muli c0_i32_9 c8_i32_10
  let v37 : BitVec 32 := v36
  let v2923 : Index := Scalar.indexCast v37
  let c192_726 : Index := 192#32
  ![v2923.toNat, 192]
def k0_off6 : Fin 2 → Nat :=
  let c0_i32_9 : BitVec 32 := 0#32
  let c8_i32_10 : BitVec 32 := 8#32
  let v36 : BitVec 32 := Scalar.muli c0_i32_9 c8_i32_10
  let v37 : BitVec 32 := v36
  let v2967 : Index := Scalar.indexCast v37
  let c256_742 : Index := 256#32
  ![v2967.toNat, 256]
def k0_off7 : Fin 2 → Nat :=
  let c0_i32_9 : BitVec 32 := 0#32
  let c8_i32_10 : BitVec 32 := 8#32
  let v36 : BitVec 32 := Scalar.muli c0_i32_9 c8_i32_10
  let v37 : BitVec 32 := v36
  let v3011 : Index := Scalar.indexCast v37
  let c320_758 : Index := 320#32
  ![v3011.toNat, 320]
def k0_off8 : Fin 2 → Nat :=
  let c0_i32_9 : BitVec 32 := 0#32
  let c8_i32_10 : BitVec 32 := 8#32
  let v36 : BitVec 32 := Scalar.muli c0_i32_9 c8_i32_10
  let v37 : BitVec 32 := v36
  let v3055 : Index := Scalar.indexCast v37
  let c384_774 : Index := 384#32
  ![v3055.toNat, 384]
def k0_off9 : Fin 2 → Nat :=
  let c0_i32_9 : BitVec 32 := 0#32
  let c8_i32_10 : BitVec 32 := 8#32
  let v36 : BitVec 32 := Scalar.muli c0_i32_9 c8_i32_10
  let v37 : BitVec 32 := v36
  let v3099 : Index := Scalar.indexCast v37
  let c448_790 : Index := 448#32
  ![v3099.toNat, 448]
def k0_off10 : Fin 2 → Nat :=
  let c0_i32_9 : BitVec 32 := 0#32
  let c8_i32_10 : BitVec 32 := 8#32
  let v36 : BitVec 32 := Scalar.muli c0_i32_9 c8_i32_10
  let v37 : BitVec 32 := v36
  let v3143 : Index := Scalar.indexCast v37
  let c512_806 : Index := 512#32
  ![v3143.toNat, 512]
def k0_off11 : Fin 2 → Nat :=
  let c0_i32_9 : BitVec 32 := 0#32
  let c8_i32_10 : BitVec 32 := 8#32
  let v36 : BitVec 32 := Scalar.muli c0_i32_9 c8_i32_10
  let v37 : BitVec 32 := v36
  let v3187 : Index := Scalar.indexCast v37
  let c576_822 : Index := 576#32
  ![v3187.toNat, 576]
def k0_off12 : Fin 2 → Nat :=
  let c0_i32_9 : BitVec 32 := 0#32
  let c8_i32_10 : BitVec 32 := 8#32
  let v36 : BitVec 32 := Scalar.muli c0_i32_9 c8_i32_10
  let v37 : BitVec 32 := v36
  let v3231 : Index := Scalar.indexCast v37
  let c640_838 : Index := 640#32
  ![v3231.toNat, 640]
def k0_off13 : Fin 2 → Nat :=
  let c0_i32_9 : BitVec 32 := 0#32
  let c8_i32_10 : BitVec 32 := 8#32
  let v36 : BitVec 32 := Scalar.muli c0_i32_9 c8_i32_10
  let v37 : BitVec 32 := v36
  let v3275 : Index := Scalar.indexCast v37
  let c704_854 : Index := 704#32
  ![v3275.toNat, 704]
def k0_off14 : Fin 2 → Nat :=
  let c0_i32_9 : BitVec 32 := 0#32
  let c8_i32_10 : BitVec 32 := 8#32
  let v36 : BitVec 32 := Scalar.muli c0_i32_9 c8_i32_10
  let v37 : BitVec 32 := v36
  let v3319 : Index := Scalar.indexCast v37
  let c768_870 : Index := 768#32
  ![v3319.toNat, 768]
def k0_off15 : Fin 2 → Nat :=
  let c0_i32_9 : BitVec 32 := 0#32
  let c8_i32_10 : BitVec 32 := 8#32
  let v36 : BitVec 32 := Scalar.muli c0_i32_9 c8_i32_10
  let v37 : BitVec 32 := v36
  let v3363 : Index := Scalar.indexCast v37
  let c832_886 : Index := 832#32
  ![v3363.toNat, 832]
def k0_off16 : Fin 2 → Nat :=
  let c0_i32_9 : BitVec 32 := 0#32
  let c8_i32_10 : BitVec 32 := 8#32
  let v36 : BitVec 32 := Scalar.muli c0_i32_9 c8_i32_10
  let v37 : BitVec 32 := v36
  let v3407 : Index := Scalar.indexCast v37
  let c896_902 : Index := 896#32
  ![v3407.toNat, 896]
def k0_off17 : Fin 2 → Nat :=
  let c0_i32_9 : BitVec 32 := 0#32
  let c8_i32_10 : BitVec 32 := 8#32
  let v36 : BitVec 32 := Scalar.muli c0_i32_9 c8_i32_10
  let v37 : BitVec 32 := v36
  let v3451 : Index := Scalar.indexCast v37
  let c960_918 : Index := 960#32
  ![v3451.toNat, 960]
def k0_cond2 (i : grid0.Coords) : BitVec 1 :=
  let arg1 : BitVec 32 := BitVec.ofNat 32 (i 1).val
  let c0_i32_921 : BitVec 32 := 0#32
  let v3456 : BitVec 1 := Scalar.cmpi .eq arg1 c0_i32_921
  let v3457 : BitVec 32 := Scalar.extui v3456
  let c0_i32_922 : BitVec 32 := 0#32
  let v3458 : BitVec 1 := Scalar.cmpi .ne v3457 c0_i32_922
  v3458

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x16x64x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x64x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceScanIdeal.lean ====
abbrev S9216x1024 : Shape := ⟨2, ![9216, 1024]⟩
abbrev S16x64 : Shape := ⟨2, ![16, 64]⟩
abbrev S1024 : Shape := ⟨1, ![1024]⟩
abbrev S128x16x64x64 : Shape := ⟨4, ![128, 16, 64, 64]⟩
abbrev S1024x1024 : Shape := ⟨2, ![1024, 1024]⟩
abbrev S128x8x16x64 : Shape := ⟨4, ![128, 8, 16, 64]⟩
abbrev S128x1x16x64 : Shape := ⟨4, ![128, 1, 16, 64]⟩
abbrev S128x16x64 : Shape := ⟨3, ![128, 16, 64]⟩
abbrev S128x16x1x64 : Shape := ⟨4, ![128, 16, 1, 64]⟩
abbrev S128x16x64x1 : Shape := ⟨4, ![128, 16, 64, 1]⟩
abbrev S_ : Shape := ⟨0, ![]⟩
abbrev S128x8x16 : Shape := ⟨3, ![128, 8, 16]⟩
abbrev S128x8x16x1 : Shape := ⟨4, ![128, 8, 16, 1]⟩
abbrev S1x1024 : Shape := ⟨2, ![1, 1024]⟩
abbrev S1x1x16x64 : Shape := ⟨4, ![1, 1, 16, 64]⟩

abbrev nBuf : Space → Nat
  | .hbm => 308
  | .vmem => 0
  | .smem => 0
  | _ => 0

abbrev hbmTy0_0 (i : Nat) : BufTy := match i % 128 with
  | 0 => ⟨S9216x1024, .f32⟩
  | 1 => ⟨S9216x1024, .f32⟩
  | 2 => ⟨S9216x1024, .f32⟩
  | 3 => ⟨S9216x1024, .f32⟩
  | 4 => ⟨S9216x1024, .f32⟩
  | 5 => ⟨S9216x1024, .f32⟩
  | 6 => ⟨S9216x1024, .f32⟩
  | 7 => ⟨S16x64, .f32⟩
  | 8 => ⟨S1024, .f32⟩
  | 9 => ⟨S1024, .f32⟩
  | 10 => ⟨S128x16x64x64, .f32⟩
  | 11 => ⟨S1024x1024, .f32⟩
  | 12 => ⟨S128x8x16x64, .f32⟩
  | 13 => ⟨S1024x1024, .f32⟩
  | 14 => ⟨S128x8x16x64, .f32⟩
  | 15 => ⟨S1024x1024, .f32⟩
  | 16 => ⟨S128x8x16x64, .f32⟩
  | 17 => ⟨S1024x1024, .f32⟩
  | 18 => ⟨S128x8x16x64, .f32⟩
  | 19 => ⟨S1024x1024, .f32⟩
  | 20 => ⟨S128x8x16x64, .f32⟩
  | 21 => ⟨S1024x1024, .f32⟩
  | 22 => ⟨S128x8x16x64, .f32⟩
  | 23 => ⟨S128x8x16x64, .f32⟩
  | 24 => ⟨S128x1x16x64, .f32⟩
  | 25 => ⟨S128x16x64, .f32⟩
  | 26 => ⟨S128x16x64, .f32⟩
  | 27 => ⟨S128x1x16x64, .f32⟩
  | 28 => ⟨S128x16x64, .f32⟩
  | 29 => ⟨S128x16x1x64, .f32⟩
  | 30 => ⟨S128x16x64x64, .f32⟩
  | 31 => ⟨S128x16x64x64, .f32⟩
  | 32 => ⟨S128x16x64x1, .f32⟩
  | 33 => ⟨S128x1x16x64, .f32⟩
  | 34 => ⟨S128x16x64, .f32⟩
  | 35 => ⟨S128x16x1x64, .f32⟩
  | 36 => ⟨S128x16x64x64, .f32⟩
  | 37 => ⟨S128x16x64x64, .f32⟩
  | 38 => ⟨S128x16x64x64, .f32⟩
  | 39 => ⟨S128x16x64x64, .f32⟩
  | 40 => ⟨S128x1x16x64, .f32⟩
  | 41 => ⟨S128x16x64, .f32⟩
  | 42 => ⟨S128x16x64x1, .f32⟩
  | 43 => ⟨S128x1x16x64, .f32⟩
  | 44 => ⟨S128x16x64, .f32⟩
  | 45 => ⟨S128x16x1x64, .f32⟩
  | 46 => ⟨S128x16x64x64, .f32⟩
  | 47 => ⟨S128x16x64x64, .f32⟩
  | 48 => ⟨S128x16x64x64, .f32⟩
  | 49 => ⟨S128x16x64x64, .f32⟩
  | 50 => ⟨S128x1x16x64, .f32⟩
  | 51 => ⟨S128x16x64, .f32⟩
  | 52 => ⟨S128x16x64, .f32⟩
  | 53 => ⟨S128x1x16x64, .f32⟩
  | 54 => ⟨S128x16x64, .f32⟩
  | 55 => ⟨S128x16x64, .f32⟩
  | 56 => ⟨S128x1x16x64, .f32⟩
  | 57 => ⟨S128x16x64, .f32⟩
  | 58 => ⟨S128x16x1x64, .f32⟩
  | 59 => ⟨S128x16x64x64, .f32⟩
  | 60 => ⟨S128x16x64x64, .f32⟩
  | 61 => ⟨S128x16x64x1, .f32⟩
  | 62 => ⟨S128x1x16x64, .f32⟩
  | 63 => ⟨S128x16x64, .f32⟩
  | 64 => ⟨S128x16x1x64, .f32⟩
  | 65 => ⟨S128x16x64x64, .f32⟩
  | 66 => ⟨S128x16x64x64, .f32⟩
  | 67 => ⟨S128x16x64x64, .f32⟩
  | 68 => ⟨S128x16x64x64, .f32⟩
  | 69 => ⟨S128x1x16x64, .f32⟩
  | 70 => ⟨S128x16x64, .f32⟩
  | 71 => ⟨S128x16x64x1, .f32⟩
  | 72 => ⟨S128x1x16x64, .f32⟩
  | 73 => ⟨S128x16x64, .f32⟩
  | 74 => ⟨S128x16x1x64, .f32⟩
  | 75 => ⟨S128x16x64x64, .f32⟩
  | 76 => ⟨S128x16x64x64, .f32⟩
  | 77 => ⟨S128x16x64x64, .f32⟩
  | 78 => ⟨S128x16x64x64, .f32⟩
  | 79 => ⟨S128x1x16x64, .f32⟩
  | 80 => ⟨S128x16x64, .f32⟩
  | 81 => ⟨S128x16x64, .f32⟩
  | 82 => ⟨S128x1x16x64, .f32⟩
  | 83 => ⟨S128x16x64, .f32⟩
  | 84 => ⟨S128x16x64, .f32⟩
  | 85 => ⟨S128x1x16x64, .f32⟩
  | 86 => ⟨S128x16x64, .f32⟩
  | 87 => ⟨S128x16x1x64, .f32⟩
  | 88 => ⟨S128x16x64x64, .f32⟩
  | 89 => ⟨S128x16x64x64, .f32⟩
  | 90 => ⟨S128x16x64x1, .f32⟩
  | 91 => ⟨S128x1x16x64, .f32⟩
  | 92 => ⟨S128x16x64, .f32⟩
  | 93 => ⟨S128x16x1x64, .f32⟩
  | 94 => ⟨S128x16x64x64, .f32⟩
  | 95 => ⟨S128x16x64x64, .f32⟩
  | 96 => ⟨S128x16x64x64, .f32⟩
  | 97 => ⟨S128x16x64x64, .f32⟩
  | 98 => ⟨S128x1x16x64, .f32⟩
  | 99 => ⟨S128x16x64, .f32⟩
  | 100 => ⟨S128x16x64x1, .f32⟩
  | 101 => ⟨S128x1x16x64, .f32⟩
  | 102 => ⟨S128x16x64, .f32⟩
  | 103 => ⟨S128x16x1x64, .f32⟩
  | 104 => ⟨S128x16x64x64, .f32⟩
  | 105 => ⟨S128x16x64x64, .f32⟩
  | 106 => ⟨S128x16x64x64, .f32⟩
  | 107 => ⟨S128x16x64x64, .f32⟩
  | 108 => ⟨S128x1x16x64, .f32⟩
  | 109 => ⟨S128x16x64, .f32⟩
  | 110 => ⟨S128x16x64, .f32⟩
  | 111 => ⟨S128x1x16x64, .f32⟩
  | 112 => ⟨S128x16x64, .f32⟩
  | 113 => ⟨S128x16x64, .f32⟩
  | 114 => ⟨S128x1x16x64, .f32⟩
  | 115 => ⟨S128x16x64, .f32⟩
  | 116 => ⟨S128x16x1x64, .f32⟩
  | 117 => ⟨S128x16x64x64, .f32⟩
  | 118 => ⟨S128x16x64x64, .f32⟩
  | 119 => ⟨S128x16x64x1, .f32⟩
  | 120 => ⟨S128x1x16x64, .f32⟩
  | 121 => ⟨S128x16x64, .f32⟩
  | 122 => ⟨S128x16x1x64, .f32⟩
  | 123 => ⟨S128x16x64x64, .f32⟩
  | 124 => ⟨S128x16x64x64, .f32⟩
  | 125 => ⟨S128x16x64x64, .f32⟩
  | 126 => ⟨S128x16x64x64, .f32⟩
  | 127 => ⟨S128x1x16x64, .f32⟩
  | _ => ⟨S9216x1024, .f32⟩

abbrev hbmTy0_1 (i : Nat) : BufTy := match i % 128 with
  | 0 => ⟨S128x16x64, .f32⟩
  | 1 => ⟨S128x16x64x1, .f32⟩
  | 2 => ⟨S128x1x16x64, .f32⟩
  | 3 => ⟨S128x16x64, .f32⟩
  | 4 => ⟨S128x16x1x64, .f32⟩
  | 5 => ⟨S128x16x64x64, .f32⟩
  | 6 => ⟨S128x16x64x64, .f32⟩
  | 7 => ⟨S128x16x64x64, .f32⟩
  | 8 => ⟨S128x16x64x64, .f32⟩
  | 9 => ⟨S128x1x16x64, .f32⟩
  | 10 => ⟨S128x16x64, .f32⟩
  | 11 => ⟨S128x16x64, .f32⟩
  | 12 => ⟨S128x1x16x64, .f32⟩
  | 13 => ⟨S128x16x64, .f32⟩
  | 14 => ⟨S128x16x64, .f32⟩
  | 15 => ⟨S128x1x16x64, .f32⟩
  | 16 => ⟨S128x16x64, .f32⟩
  | 17 => ⟨S128x16x1x64, .f32⟩
  | 18 => ⟨S128x16x64x64, .f32⟩
  | 19 => ⟨S128x16x64x64, .f32⟩
  | 20 => ⟨S128x16x64x1, .f32⟩
  | 21 => ⟨S128x1x16x64, .f32⟩
  | 22 => ⟨S128x16x64, .f32⟩
  | 23 => ⟨S128x16x1x64, .f32⟩
  | 24 => ⟨S128x16x64x64, .f32⟩
  | 25 => ⟨S128x16x64x64, .f32⟩
  | 26 => ⟨S128x16x64x64, .f32⟩
  | 27 => ⟨S128x16x64x64, .f32⟩
  | 28 => ⟨S128x1x16x64, .f32⟩
  | 29 => ⟨S128x16x64, .f32⟩
  | 30 => ⟨S128x16x64x1, .f32⟩
  | 31 => ⟨S128x1x16x64, .f32⟩
  | 32 => ⟨S128x16x64, .f32⟩
  | 33 => ⟨S128x16x1x64, .f32⟩
  | 34 => ⟨S128x16x64x64, .f32⟩
  | 35 => ⟨S128x16x64x64, .f32⟩
  | 36 => ⟨S128x16x64x64, .f32⟩
  | 37 => ⟨S128x16x64x64, .f32⟩
  | 38 => ⟨S128x1x16x64, .f32⟩
  | 39 => ⟨S128x16x64, .f32⟩
  | 40 => ⟨S128x16x64, .f32⟩
  | 41 => ⟨S128x1x16x64, .f32⟩
  | 42 => ⟨S128x16x64, .f32⟩
  | 43 => ⟨S128x16x64, .f32⟩
  | 44 => ⟨S128x1x16x64, .f32⟩
  | 45 => ⟨S128x16x64, .f32⟩
  | 46 => ⟨S128x16x1x64, .f32⟩
  | 47 => ⟨S128x16x64x64, .f32⟩
  | 48 => ⟨S128x16x64x64, .f32⟩
  | 49 => ⟨S128x16x64x1, .f32⟩
  | 50 => ⟨S128x1x16x64, .f32⟩
  | 51 => ⟨S128x16x64, .f32⟩
  | 52 => ⟨S128x16x1x64, .f32⟩
  | 53 => ⟨S128x16x64x64, .f32⟩
  | 54 => ⟨S128x16x64x64, .f32⟩
  | 55 => ⟨S128x16x64x64, .f32⟩
  | 56 => ⟨S128x16x64x64, .f32⟩
  | 57 => ⟨S128x1x16x64, .f32⟩
  | 58 => ⟨S128x16x64, .f32⟩
  | 59 => ⟨S128x16x64x1, .f32⟩
  | 60 => ⟨S128x1x16x64, .f32⟩
  | 61 => ⟨S128x16x64, .f32⟩
  | 62 => ⟨S128x16x1x64, .f32⟩
  | 63 => ⟨S128x16x64x64, .f32⟩
  | 64 => ⟨S128x16x64x64, .f32⟩
  | 65 => ⟨S128x16x64x64, .f32⟩
  | 66 => ⟨S128x16x64x64, .f32⟩
  | 67 => ⟨S128x1x16x64, .f32⟩
  | 68 => ⟨S128x16x64, .f32⟩
  | 69 => ⟨S128x16x64, .f32⟩
  | 70 => ⟨S128x1x16x64, .f32⟩
  | 71 => ⟨S128x16x64, .f32⟩
  | 72 => ⟨S128x16x64, .f32⟩
  | 73 => ⟨S128x1x16x64, .f32⟩
  | 74 => ⟨S128x16x64, .f32⟩
  | 75 => ⟨S128x16x1x64, .f32⟩
  | 76 => ⟨S128x16x64x64, .f32⟩
  | 77 => ⟨S128x16x64x64, .f32⟩
  | 78 => ⟨S128x16x64x1, .f32⟩
  | 79 => ⟨S128x1x16x64, .f32⟩
  | 80 => ⟨S128x16x64, .f32⟩
  | 81 => ⟨S128x16x1x64, .f32⟩
  | 82 => ⟨S128x16x64x64, .f32⟩
  | 83 => ⟨S128x16x64x64, .f32⟩
  | 84 => ⟨S128x16x64x64, .f32⟩
  | 85 => ⟨S128x16x64x64, .f32⟩
  | 86 => ⟨S128x1x16x64, .f32⟩
  | 87 => ⟨S128x16x64, .f32⟩
  | 88 => ⟨S128x16x64x1, .f32⟩
  | 89 => ⟨S128x1x16x64, .f32⟩
  | 90 => ⟨S128x16x64, .f32⟩
  | 91 => ⟨S128x16x1x64, .f32⟩
  | 92 => ⟨S128x16x64x64, .f32⟩
  | 93 => ⟨S128x16x64x64, .f32⟩
  | 94 => ⟨S128x16x64x64, .f32⟩
  | 95 => ⟨S128x16x64x64, .f32⟩
  | 96 => ⟨S128x1x16x64, .f32⟩
  | 97 => ⟨S128x16x64, .f32⟩
  | 98 => ⟨S128x16x64, .f32⟩
  | 99 => ⟨S128x1x16x64, .f32⟩
  | 100 => ⟨S128x16x64, .f32⟩
  | 101 => ⟨S128x16x64, .f32⟩
  | 102 => ⟨S128x1x16x64, .f32⟩
  | 103 => ⟨S128x16x64, .f32⟩
  | 104 => ⟨S128x16x1x64, .f32⟩
  | 105 => ⟨S128x16x64x64, .f32⟩
  | 106 => ⟨S128x16x64x64, .f32⟩
  | 107 => ⟨S128x16x64x1, .f32⟩
  | 108 => ⟨S128x1x16x64, .f32⟩
  | 109 => ⟨S128x16x64, .f32⟩
  | 110 => ⟨S128x16x1x64, .f32⟩
  | 111 => ⟨S128x16x64x64, .f32⟩
  | 112 => ⟨S128x16x64x64, .f32⟩
  | 113 => ⟨S128x16x64x64, .f32⟩
  | 114 => ⟨S128x16x64x64, .f32⟩
  | 115 => ⟨S128x1x16x64, .f32⟩
  | 116 => ⟨S128x16x64, .f32⟩
  | 117 => ⟨S128x16x64x1, .f32⟩
  | 118 => ⟨S128x1x16x64, .f32⟩
  | 119 => ⟨S128x16x64, .f32⟩
  | 120 => ⟨S128x16x1x64, .f32⟩
  | 121 => ⟨S128x16x64x64, .f32⟩
  | 122 => ⟨S128x16x64x64, .f32⟩
  | 123 => ⟨S128x16x64x64, .f32⟩
  | 124 => ⟨S128x16x64x64, .f32⟩
  | 125 => ⟨S128x1x16x64, .f32⟩
  | 126 => ⟨S128x16x64, .f32⟩
  | 127 => ⟨S128x16x64, .f32⟩
  | _ => ⟨S9216x1024, .f32⟩

abbrev hbmTy0_2 (i : Nat) : BufTy := match i % 128 with
  | 0 => ⟨S128x1x16x64, .f32⟩
  | 1 => ⟨S128x1x16x64, .f32⟩
  | 2 => ⟨S128x1x16x64, .f32⟩
  | 3 => ⟨S128x1x16x64, .f32⟩
  | 4 => ⟨S128x1x16x64, .f32⟩
  | 5 => ⟨S128x1x16x64, .f32⟩
  | 6 => ⟨S128x1x16x64, .f32⟩
  | 7 => ⟨S128x1x16x64, .f32⟩
  | 8 => ⟨S128x8x16x64, .f32⟩
  | 9 => ⟨S_, .f32⟩
  | 10 => ⟨S128x8x16, .f32⟩
  | 11 => ⟨S128x8x16x1, .f32⟩
  | 12 => ⟨S_, .f32⟩
  | 13 => ⟨S128x8x16x1, .f32⟩
  | 14 => ⟨S128x8x16x1, .f32⟩
  | 15 => ⟨S128x8x16x64, .f32⟩
  | 16 => ⟨S128x8x16x64, .f32⟩
  | 17 => ⟨S128x8x16x64, .f32⟩
  | 18 => ⟨S_, .f32⟩
  | 19 => ⟨S128x8x16, .f32⟩
  | 20 => ⟨S128x8x16x1, .f32⟩
  | 21 => ⟨S_, .f32⟩
  | 22 => ⟨S128x8x16x1, .f32⟩
  | 23 => ⟨S128x8x16x1, .f32⟩
  | 24 => ⟨S128x8x16x64, .f32⟩
  | 25 => ⟨S128x8x16x64, .f32⟩
  | 26 => ⟨S_, .f32⟩
  | 27 => ⟨S128x8x16x1, .f32⟩
  | 28 => ⟨S128x8x16x1, .f32⟩
  | 29 => ⟨S128x8x16x1, .f32⟩
  | 30 => ⟨S128x8x16x64, .f32⟩
  | 31 => ⟨S128x8x16x64, .f32⟩
  | 32 => ⟨S1024x1024, .f32⟩
  | 33 => ⟨S1x1024, .f32⟩
  | 34 => ⟨S1024x1024, .f32⟩
  | 35 => ⟨S1024x1024, .f32⟩
  | 36 => ⟨S1x1024, .f32⟩
  | 37 => ⟨S1024x1024, .f32⟩
  | 38 => ⟨S1024x1024, .f32⟩
  | 39 => ⟨S128x8x16x64, .f32⟩
  | 40 => ⟨S1x1x16x64, .f32⟩
  | 41 => ⟨S128x8x16x64, .f32⟩
  | 42 => ⟨S128x8x16x64, .f32⟩
  | 43 => ⟨S_, .f32⟩
  | 44 => ⟨S128x8x16, .f32⟩
  | 45 => ⟨S128x8x16x1, .f32⟩
  | 46 => ⟨S128x8x16x64, .f32⟩
  | 47 => ⟨S128x8x16x64, .f32⟩
  | 48 => ⟨S1024x1024, .f32⟩
  | 49 => ⟨S1024x1024, .f32⟩
  | 50 => ⟨S1024x1024, .f32⟩
  | 51 => ⟨S1024x1024, .f32⟩
  | _ => ⟨S9216x1024, .f32⟩

abbrev hbmTy (i : Nat) : BufTy := match i / 128 with
  | 0 => hbmTy0_0 i
  | 1 => hbmTy0_1 i
  | 2 => hbmTy0_2 i
  | _ => ⟨S9216x1024, .f32⟩

abbrev bufTy : (tb : Table) → Fin (tcTables nBuf tb) → BufTy
  | .hbm, ⟨i, _⟩ => hbmTy i
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_v240 : Ref sig .tc := ⟨.hbm, 251, rfl⟩
abbrev main_v241 : Ref sig .tc := ⟨.hbm, 252, rfl⟩
abbrev main_v242 : Ref sig .tc := ⟨.hbm, 253, rfl⟩
abbrev main_v243 : Ref sig .tc := ⟨.hbm, 254, rfl⟩
abbrev main_v244 : Ref sig .tc := ⟨.hbm, 255, rfl⟩
abbrev main_v245 : Ref sig .tc := ⟨.hbm, 256, rfl⟩
abbrev main_v246 : Ref sig .tc := ⟨.hbm, 257, rfl⟩
abbrev main_v247 : Ref sig .tc := ⟨.hbm, 258, rfl⟩
abbrev main_v248 : Ref sig .tc := ⟨.hbm, 259, rfl⟩
abbrev main_v249 : Ref sig .tc := ⟨.hbm, 260, rfl⟩
abbrev main_v250 : Ref sig .tc := ⟨.hbm, 261, rfl⟩
abbrev main_v251 : Ref sig .tc := ⟨.hbm, 262, rfl⟩
abbrev main_v252 : Ref sig .tc := ⟨.hbm, 263, rfl⟩
abbrev main_v253 : Ref sig .tc := ⟨.hbm, 264, rfl⟩
abbrev main_cst : Ref sig .tc := ⟨.hbm, 265, rfl⟩
abbrev main_v254 : Ref sig .tc := ⟨.hbm, 266, rfl⟩
abbrev main_v255 : Ref sig .tc := ⟨.hbm, 267, rfl⟩
abbrev main_cst_0 : Ref sig .tc := ⟨.hbm, 268, rfl⟩
abbrev main_v256 : Ref sig .tc := ⟨.hbm, 269, rfl⟩
abbrev main_v257 : Ref sig .tc := ⟨.hbm, 270, rfl⟩
abbrev main_v258 : Ref sig .tc := ⟨.hbm, 271, rfl⟩
abbrev main_v259 : Ref sig .tc := ⟨.hbm, 272, rfl⟩
abbrev main_v260 : Ref sig .tc := ⟨.hbm, 273, rfl⟩
abbrev main_cst_1 : Ref sig .tc := ⟨.hbm, 274, rfl⟩
abbrev main_v261 : Ref sig .tc := ⟨.hbm, 275, rfl⟩
abbrev main_v262 : Ref sig .tc := ⟨.hbm, 276, rfl⟩
abbrev main_cst_2 : Ref sig .tc := ⟨.hbm, 277, rfl⟩
abbrev main_v263 : Ref sig .tc := ⟨.hbm, 278, rfl⟩
abbrev main_v264 : Ref sig .tc := ⟨.hbm, 279, rfl⟩
abbrev main_v265 : Ref sig .tc := ⟨.hbm, 280, rfl⟩
abbrev main_v266 : Ref sig .tc := ⟨.hbm, 281, rfl⟩
abbrev main_cst_3 : Ref sig .tc := ⟨.hbm, 282, rfl⟩
abbrev main_v267 : Ref sig .tc := ⟨.hbm, 283, rfl⟩
abbrev main_v268 : Ref sig .tc := ⟨.hbm, 284, rfl⟩
abbrev main_v269 : Ref sig .tc := ⟨.hbm, 285, rfl⟩
abbrev main_v270 : Ref sig .tc := ⟨.hbm, 286, rfl⟩
abbrev main_v271 : Ref sig .tc := ⟨.hbm, 287, rfl⟩
abbrev main_v272 : Ref sig .tc := ⟨.hbm, 288, rfl⟩
abbrev main_v273 : Ref sig .tc := ⟨.hbm, 289, rfl⟩
abbrev main_v274 : Ref sig .tc := ⟨.hbm, 290, rfl⟩
abbrev main_v275 : Ref sig .tc := ⟨.hbm, 291, rfl⟩
abbrev main_v276 : Ref sig .tc := ⟨.hbm, 292, rfl⟩
abbrev main_v277 : Ref sig .tc := ⟨.hbm, 293, rfl⟩
abbrev main_v278 : Ref sig .tc := ⟨.hbm, 294, rfl⟩
abbrev main_v279 : Ref sig .tc := ⟨.hbm, 295, rfl⟩
abbrev main_v280 : Ref sig .tc := ⟨.hbm, 296, rfl⟩
abbrev main_v281 : Ref sig .tc := ⟨.hbm, 297, rfl⟩
abbrev main_v282 : Ref sig .tc := ⟨.hbm, 298, rfl⟩
abbrev main_cst_4 : Ref sig .tc := ⟨.hbm, 299, rfl⟩
abbrev main_v283 : Ref sig .tc := ⟨.hbm, 300, rfl⟩
abbrev main_v284 : Ref sig .tc := ⟨.hbm, 301, rfl⟩
abbrev main_v285 : Ref sig .tc := ⟨.hbm, 302, rfl⟩
abbrev main_v286 : Ref sig .tc := ⟨.hbm, 303, rfl⟩
abbrev main_v287 : Ref sig .tc := ⟨.hbm, 304, rfl⟩
abbrev main_v288 : Ref sig .tc := ⟨.hbm, 305, rfl⟩
abbrev main_v289 : Ref sig .tc := ⟨.hbm, 306, rfl⟩
abbrev main_v290 : Ref sig .tc := ⟨.hbm, 307, rfl⟩

abbrev nD : Nat := 1
abbrev τ : Topo := Topo.v7x

variable {F : FTy → Type} [FloatOps F]
-- ==== Proof.Common.lean ====
/-
  Scalar functions that the layer's calls and their references share, over the extended reals: a row's root-mean-square
  norm, and the gated unit `silu(a) · b`. Each call and each reference is read down to these.
-/
module

public import Idealize.ShloMosaic.Lib.Pointwise

@[expose] public section

noncomputable section

open Idealize.ShloMosaic

namespace Cert.Layer

/-- Entry `k` of a row `x` of 2048 numbers divided by the root of its mean square (plus the layer's epsilon), times the
    gain `g`. -/
def rms (x g : Fin 2048 → EReal) (k : Fin 2048) : EReal :=
  x k * Ideal.rsqrt (Ideal.div (∑ l, x l * x l) (Ideal.ofBits .f32 0x45000000#32) + Ideal.ofBits .f32 0x358637BD#32) * g k

/-- The all-zero offset of a two-axis access, as the constant function. -/
theorem off2 : (![0, 0] : Fin 2 → Nat) = fun _ => 0 := funext fun a => by fin_cases a <;> rfl

/-- The all-zero offset of a three-axis access, as the constant function. -/
theorem off3 : (![0, 0, 0] : Fin 3 → Nat) = fun _ => 0 := funext fun a => by fin_cases a <;> rfl

end Cert.Layer

end
-- ==== Proof.ProjValue.lean ====
/-
  The normed projection, `rms_norm(x) · w`: what the call leaves in its result array, entry by entry, what the
  reference computes, and that the two are one sum over the 2048 features.

  The grid is 18 row blocks by 5 column blocks. The first column block of a row block norms the 512 rows and keeps them
  in the carried scratch; all five multiply the kept rows with their 1280 columns of the weight.
-/
module

public import proofs.«01_k».proof.Defs
public import proofs.«01_k».proof.Proof.Common
public import proofs.«01_k».proof.Proof.Gen.KernelProjIdeal.Value
public import proofs.«01_k».proof.Proof.Gen.ReferenceProjIdeal.Run
public import proofs.«01_k».proof.Proof.Gen.ReferenceProjIdeal.Read

@[expose] public section

set_option maxRecDepth 16384

noncomputable section

open Idealize.ShloMosaic Idealize.ShloMosaic.TcCoe Idealize.SL.Sem
open Cert.Layer

namespace Cert.KernelProjIdeal.Value
open Cert.KernelProjIdeal Cert.KernelProjIdeal.Gen

/-- The rows the first column block keeps are the normed rows of its block. -/
theorem pay1_apply (x : Vec Ideal S512x2048 .f32) (g : Vec Ideal S1x2048 .f32) (r : Fin 512) (k : Fin 2048) :
    k0_pay1 x g (ix2 r k) = rms (fun l => x (ix2 r l)) (fun l => g (ix2 0 l)) k := by
  pointwise [k0_pay1, rms]

/-- What a point stores is the product of the kept rows with its columns. -/
theorem pay2_apply (h : Vec Ideal S512x2048 .bf16) (w : Vec Ideal S2048x1280 .bf16) (r : Fin 512) (j : Fin 1280) :
    k0_pay2 h w (ix2 r j) = ∑ k : Fin 2048, h (ix2 r k) * w (ix2 k j) := by
  pointwise [k0_pay2]

/-- The first column block's store: the product of the rows it has just normed. -/
theorem out_A (c : Dev nD) (i : grid0.Coords) (a2 : Memref sig .tc .vmem S512x2048 .f32) (h2 : a2.IsWhole)
    (a3 : Memref sig .tc .vmem S1x2048 .f32) (h3 : a3.IsWhole) (a4 : Memref sig .tc .vmem S2048x1280 .bf16) (h4 : a4.IsWhole)
    (a5 : Memref sig .tc .vmem S512x1280 .f32) (h5 : a5.IsWhole) (a6 : Memref sig .tc .vmem S512x2048 .bf16) (h6 : a6.IsWhole)
    (hc : cond0_0 i) (x : Vec Ideal S512x2048 .f32) (g : Vec Ideal S1x2048 .f32) (w : Vec Ideal S2048x1280 .bf16) :
    out0_A_3 c i a2 h2 a3 h3 a4 h4 a5 h5 a6 h6 hc x g w = k0_pay2 (k0_pay1 x g) w := by
  unfold out0_A_3
  rw [View.read_writes_eq_canon _ _ _ (cover0_A_3 c i a2 h2 a3 h3 a4 h4 a5 h5 a6 h6 hc x g w)]
  unfold kernelRun0_A
  dsimp only
  sl_unfold_words
  rw [View.canon_unit_zero off2, View.readCov_unit_zero (S := S512x2048) _ off2]
  simp only [View.readAt_eq_ld, h2.read_unread, h3.read_unread, h4.read_unread, View.ld_unit_zero (S := S512x2048) off2,
    View.ld_unit_zero (S := S1x2048) off2, View.ld_unit_zero (S := S2048x1280) off2]

/-- The first column block leaves the normed rows in the scratch. -/
theorem kept_A (c : Dev nD) (i : grid0.Coords) (a2 : Memref sig .tc .vmem S512x2048 .f32) (h2 : a2.IsWhole)
    (a3 : Memref sig .tc .vmem S1x2048 .f32) (h3 : a3.IsWhole) (a4 : Memref sig .tc .vmem S2048x1280 .bf16) (h4 : a4.IsWhole)
    (a5 : Memref sig .tc .vmem S512x1280 .f32) (h5 : a5.IsWhole) (a6 : Memref sig .tc .vmem S512x2048 .bf16) (h6 : a6.IsWhole)
    (hc : cond0_0 i) (x : Vec Ideal S512x2048 .f32) (g : Vec Ideal S1x2048 .f32) (w : Vec Ideal S2048x1280 .bf16) :
    sout0_A_0 c i a2 h2 a3 h3 a4 h4 a5 h5 a6 h6 hc x g w = k0_pay1 x g := by
  unfold sout0_A_0
  rw [View.read_writes_eq_canon _ _ _ (scover0_A_0 c i a2 h2 a3 h3 a4 h4 a5 h5 a6 h6 hc x g w)]
  unfold kernelRun0_A
  dsimp only
  sl_unfold_words
  rw [View.canon_unit_zero off2]
  simp only [View.readAt_eq_ld, h2.read_unread, h3.read_unread, View.ld_unit_zero (S := S512x2048) off2,
    View.ld_unit_zero (S := S1x2048) off2]

/-- A later column block's store: the product of the rows found in the scratch. -/
theorem out_B (c : Dev nD) (i : grid0.Coords) (a2 : Memref sig .tc .vmem S512x2048 .f32) (h2 : a2.IsWhole)
    (a3 : Memref sig .tc .vmem S1x2048 .f32) (h3 : a3.IsWhole) (a4 : Memref sig .tc .vmem S2048x1280 .bf16) (h4 : a4.IsWhole)
    (a5 : Memref sig .tc .vmem S512x1280 .f32) (h5 : a5.IsWhole) (a6 : Memref sig .tc .vmem S512x2048 .bf16) (h6 : a6.IsWhole)
    (hc : ¬cond0_0 i) (x : Vec Ideal S512x2048 .f32) (g : Vec Ideal S1x2048 .f32) (w : Vec Ideal S2048x1280 .bf16)
    (s : Vec Ideal S512x2048 .bf16) :
    out0_B_3 c i a2 h2 a3 h3 a4 h4 a5 h5 a6 h6 hc x g w s = k0_pay2 s w := by
  unfold out0_B_3
  rw [View.read_writes_eq_canon _ _ _ (cover0_B_3 c i a2 h2 a3 h3 a4 h4 a5 h5 a6 h6 hc x g w s)]
  unfold kernelRun0_B
  dsimp only
  rw [View.canon_unit_zero off2]
  simp only [View.readAt_eq_ld, h4.read_unread, h6.read_unread, View.ld_unit_zero (S := S512x2048) off2,
    View.ld_unit_zero (S := S2048x1280) off2]

variable (m : (ℓ : Loc nD τ sig) → Buf (Elt Ideal) ℓ) (ρ : Dev nD → PrngReg)

/-- The weight the region reads is the argument: its cast changes no number. -/
theorem V_w (c : Dev nD) : V m c main_v0 = m ((c : Thread nD τ).loc main_arg2) := by
  unfold V
  after_results
  rfl

/-- The gain the region reads is the argument as one row. -/
theorem V_g (c : Dev nD) (k : Fin 2048) :
    (V m c main_v1 : Vec Ideal S1x2048 .f32) (ix2 0 k) = (m ((c : Thread nD τ).loc main_arg1) : Vec Ideal S2048 .f32) (ix1 k) := by
  unfold V
  after_results
  show shapeCast S1x2048 (m ((c : Thread nD τ).loc main_arg1) : Vec Ideal S2048 .f32) shapeCasts_S2048_S1x2048 (ix2 0 k) = _
  pointwise

/-- Which blocks a point reads: row block `t / 5` of the rows, the gain whole, column block `t % 5` of the weight. -/
theorem idx_in : ∀ t : Fin cfg0.N, win0_0.index t (0 : Fin 2) = t.val / 5 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 5 :=
  (by decide +kernel : ∀ t : Fin grid0.N, _)

/-- A point's rows. -/
theorem iblk_x (c : Dev nD) (t : Fin cfg0.N) (r : Fin 512) (k : Fin 2048) (R : Fin 9216) (hR : R.val = 512 * (t.val / 5) + r.val) :
    (iblk m c 0 t : Vec Ideal S512x2048 .f32) (ix2 r k) = (m ((c : Thread nD τ).loc main_arg0) : Vec Ideal S9216x2048 .f32) (ix2 R k) := by
  obtain ⟨e0, e1, -⟩ := idx_in t
  unfold iblk
  rw [View.read_apply, ← V_main_arg0 m c]
  show (V m c main_arg0 : Vec Ideal S9216x2048 .f32) _ = _
  congr 1
  funext a
  apply Fin.ext
  match a with
  | ⟨0, _⟩ => show win0_0.index t 0 * 512 + 1 * r.val = R.val; rw [e0, hR]; omega
  | ⟨1, _⟩ => show win0_0.index t 1 * 2048 + 1 * k.val = k.val; rw [e1]; omega

/-- A point's gain. -/
theorem iblk_g (c : Dev nD) (t : Fin cfg0.N) (k : Fin 2048) :
    (iblk m c 1 t : Vec Ideal S1x2048 .f32) (ix2 0 k) = (m ((c : Thread nD τ).loc main_arg1) : Vec Ideal S2048 .f32) (ix1 k) := by
  obtain ⟨-, -, e0, e1, -⟩ := idx_in t
  unfold iblk
  rw [View.read_apply, ← V_g m c]
  show (V m c main_v1 : Vec Ideal S1x2048 .f32) _ = _
  congr 1
  funext a
  apply Fin.ext
  match a with
  | ⟨0, _⟩ => show win0_1.index t 0 * 1 + 1 * 0 = 0; rw [e0]
  | ⟨1, _⟩ => show win0_1.index t 1 * 2048 + 1 * k.val = k.val; rw [e1]; omega

/-- A point's columns of the weight. -/
theorem iblk_w (c : Dev nD) (t : Fin cfg0.N) (k : Fin 2048) (j : Fin 1280) (J : Fin 6400) (hJ : J.val = 1280 * (t.val % 5) + j.val) :
    (iblk m c 2 t : Vec Ideal S2048x1280 .bf16) (ix2 k j) = (m ((c : Thread nD τ).loc main_arg2) : Vec Ideal S2048x6400 .f32) (ix2 k J) := by
  obtain ⟨-, -, -, -, e0, e1⟩ := idx_in t
  unfold iblk
  rw [View.read_apply, ← V_w m c]
  show (V m c main_v0 : Vec Ideal S2048x6400 .bf16) _ = _
  congr 1
  funext a
  apply Fin.ext
  match a with
  | ⟨0, _⟩ => show win0_2.index t 0 * 2048 + 1 * k.val = k.val; rw [e0]; omega
  | ⟨1, _⟩ => show win0_2.index t 1 * 1280 + 1 * j.val = J.val; rw [e1, hJ]; omega

/-- Row `R` of the argument, normed. -/
def normed (c : Dev nD) (R : Fin 9216) (k : Fin 2048) : EReal :=
  rms (fun l => (m ((c : Thread nD τ).loc main_arg0) : Vec Ideal S9216x2048 .f32) (ix2 R l))
    (fun l => (m ((c : Thread nD τ).loc main_arg1) : Vec Ideal S2048 .f32) (ix1 l)) k

/-- After point `n` the scratch holds the normed rows of the point's row block. -/
theorem kept (c : Dev nD) : ∀ (n : ℕ) (hn : n < cfg0.N) (r : Fin 512) (k : Fin 2048) (R : Fin 9216),
    R.val = 512 * (n / 5) + r.val → ((outsAt0 m c n hn).2 : Vec Ideal S512x2048 .bf16) (ix2 r k) = normed m c R k := by
  intro n
  induction n with
  | zero =>
    intro hn r k R hR
    rw [outsAt0_A m c ⟨0, hn⟩ rfl]
    dsimp only
    rw [kept_A, pay1_apply]
    unfold normed
    congr 1
    · funext l; exact iblk_x m c _ r l R hR
    · funext l; exact iblk_g m c _ l
  | succ n ih =>
    intro hn r k R hR
    by_cases h0 : (n + 1) % 5 = 0
    · rw [outsAt0_A m c ⟨n + 1, hn⟩ h0]
      dsimp only
      rw [kept_A, pay1_apply]
      unfold normed
      congr 1
      · funext l; exact iblk_x m c _ r l R hR
      · funext l; exact iblk_g m c _ l
    · rw [outsAt0_B m c ⟨n + 1, hn⟩ h0]
      dsimp only
      unfold sout0_B_0
      exact ih _ r k R (by rw [hR]; congr 2; omega)

/-- What point `n` leaves in the output's staging buffer: the product of the normed rows with its columns. -/
theorem stored (c : Dev nD) (n : ℕ) (hn : n < cfg0.N) (r : Fin 512) (j : Fin 1280) (R : Fin 9216) (J : Fin 6400)
    (hR : R.val = 512 * (n / 5) + r.val) (hJ : J.val = 1280 * (n % 5) + j.val) :
    ((outsAt0 m c n hn).1 : Vec Ideal S512x1280 .f32) (ix2 r j)
      = ∑ k : Fin 2048, normed m c R k * (m ((c : Thread nD τ).loc main_arg2) : Vec Ideal S2048x6400 .f32) (ix2 k J) := by
  have hw : ∀ k, (iblk m c 2 ⟨n, hn⟩ : Vec Ideal S2048x1280 .bf16) (ix2 k j) = (m ((c : Thread nD τ).loc main_arg2) : Vec Ideal S2048x6400 .f32) (ix2 k J) :=
    fun k => iblk_w m c ⟨n, hn⟩ k j J hJ
  have hk : ∀ k, ((outsAt0 m c n hn).2 : Vec Ideal S512x2048 .bf16) (ix2 r k) = normed m c R k := fun k => kept m c n hn r k R hR
  by_cases h0 : n % 5 = 0
  · have e := outsAt0_A m c ⟨n, hn⟩ h0
    rw [show (outsAt0 m c n hn) = _ from e] at hk ⊢
    dsimp only at hk ⊢
    rw [out_A, pay2_apply]
    refine Finset.sum_congr rfl fun k _ => ?_
    rw [hw, ← hk, kept_A]
  · have e := outsAt0_B m c ⟨n, hn⟩ h0
    rw [show (outsAt0 m c n hn) = _ from e] at hk ⊢
    dsimp only at hk ⊢
    unfold sout0_B_0 at hk
    rw [out_B, pay2_apply]
    refine Finset.sum_congr rfl fun k _ => ?_
    rw [hw, ← hk]

/-- The result array, entry by entry: `rms_norm(x) · w`. -/
theorem result_apply (c : Dev nD) (R : Fin 9216) (J : Fin 6400) :
    (G3 m c : Vec Ideal S9216x6400 .f32) (ix2 R J)
      = ∑ k : Fin 2048, normed m c R k * (m ((c : Thread nD τ).loc main_arg2) : Vec Ideal S2048x6400 .f32) (ix2 k J) := by
  have hR := R.isLt
  have hJ := J.isLt
  have hN : cfg0.N = 90 := N_0
  have hp : pt3Of (ix2 R J) = 5 * (R.val / 512) + J.val / 1280 := by
    show 5 * (R.val / 512 - 0) + 1 * (J.val / 1280 - 0) = _
    omega
  have hlt : pt3Of (ix2 R J) < cfg0.N := by rw [hp, hN]; omega
  unfold G3
  rw [dif_pos hlt, ← outsAt0_sweep m c _ hlt]
  have hl : loc3Of (ix2 R J) = ix2 ⟨R.val % 512, Nat.mod_lt _ (by decide)⟩ ⟨J.val % 1280, Nat.mod_lt _ (by decide)⟩ := by
    funext a; match a with
    | ⟨0, _⟩ => rfl
    | ⟨1, _⟩ => rfl
  rw [hl]
  refine stored m c _ hlt _ _ R J ?_ ?_
  · show R.val = 512 * (pt3Of (ix2 R J) / 5) + R.val % 512
    rw [hp]; omega
  · show J.val = 1280 * (pt3Of (ix2 R J) % 5) + J.val % 1280
    rw [hp]; omega

end Cert.KernelProjIdeal.Value

namespace Cert.ReferenceProjIdeal.Read

/-- The reference's normed rows. -/
theorem normed_apply (x : (⟨S9216x2048, .f32⟩ : BufTy).Contents (Elt Ideal)) (g : (⟨S2048, .f32⟩ : BufTy).Contents (Elt Ideal))
    (R : Fin 9216) (k : Fin 2048) :
    val_main_v12 (F := Ideal) x g (ix2 R k) = rms (fun l => x (ix2 R l)) (fun l => g (ix1 l)) k := by
  unfold val_main_v12 val_main_v11 val_main_v10 val_main_v9 val_main_v8 val_main_v7 val_main_v6 val_main_v5 val_main_v4
    val_main_v3 val_main_v2 val_main_v1 val_main_v0 val_main_cst val_main_cst_0 val_main_cst_1
  pointwise [rms]

/-- The reference's result, entry by entry. -/
theorem result_apply (x : (⟨S9216x2048, .f32⟩ : BufTy).Contents (Elt Ideal)) (g : (⟨S2048, .f32⟩ : BufTy).Contents (Elt Ideal))
    (w : (⟨S2048x6400, .f32⟩ : BufTy).Contents (Elt Ideal)) (R : Fin 9216) (J : Fin 6400) :
    val_main_v13 (F := Ideal) x g w (ix2 R J)
      = ∑ k : Fin 2048, rms (fun l => x (ix2 R l)) (fun l => g (ix1 l)) k * w (ix2 k J) := by
  unfold val_main_v13
  pointwise
  refine Finset.sum_congr rfl fun k _ => ?_
  rw [normed_apply]

end Cert.ReferenceProjIdeal.Read

namespace Cert.Layer

/-- The call's result array is the reference's result of the same arguments. -/
theorem proj_eq (m : (ℓ : Loc Cert.KernelProjIdeal.nD Cert.KernelProjIdeal.τ Cert.KernelProjIdeal.sig) → Buf (Elt Ideal) ℓ)
    (c : Dev Cert.KernelProjIdeal.nD) :
    (Cert.ReferenceProjIdeal.Read.val_main_v13 (F := Ideal) (m ((c.tc : Thread Cert.KernelProjIdeal.nD Cert.KernelProjIdeal.τ).loc Cert.KernelProjIdeal.main_arg0))
      (m ((c.tc : Thread Cert.KernelProjIdeal.nD Cert.KernelProjIdeal.τ).loc Cert.KernelProjIdeal.main_arg1))
      (m ((c.tc : Thread Cert.KernelProjIdeal.nD Cert.KernelProjIdeal.τ).loc Cert.KernelProjIdeal.main_arg2)))
      = Cert.KernelProjIdeal.Value.G3 m c := by
  funext i
  obtain ⟨R, J, rfl⟩ : ∃ (R : Fin 9216) (J : Fin 6400), i = ix2 R J := ⟨i 0, i 1, eq_ix2 i⟩
  exact (Cert.ReferenceProjIdeal.Read.result_apply _ _ _ R J).trans (Cert.KernelProjIdeal.Value.result_apply m c R J).symm

/-- The projection's value claim: from the same arguments both programs run and end with the same result. -/
theorem proj_algebraic [hK : Cert.KernelProjIdeal.Facts] [hR : Cert.ReferenceProjIdeal.Facts] :
    Cert.algebraic_KernelProjIdeal_ReferenceProjIdeal := by
  intro m g m' g' _ hagree
  refine ⟨fun c => Cert.KernelProjIdeal.Value.G3 m c, ?_, ?_⟩
  · exact Cert.KernelProjIdeal.Value.run m g
  · refine (θ_run _ _ _).mono (fun r h c => ?_) (Cert.ReferenceProjIdeal.Value.run (F := Ideal) m' g')
    refine ⟨((h c).1.trans ?_), (h c).2⟩
    rw [(hagree c).1, (hagree c).2.1, (hagree c).2.2]
    exact proj_eq m c

end Cert.Layer

end
-- ==== Proof.OutValue.lean ====
/-
  The output projection, `x + concat(o_sb · scale, o_rw) · w`: what the call leaves in its result array, entry by entry,
  what the reference computes, and that the two are one.

  The grid is 18 row blocks; the first 16 read the prompt's rows, the last 2 the samples'. A block multiplies the two
  halves of the features with the two halves of the weight and adds the products.
-/
module

public import proofs.«01_k».proof.Defs
public import proofs.«01_k».proof.Proof.Common
public import proofs.«01_k».proof.Proof.Gen.KernelOutIdeal.Value
public import proofs.«01_k».proof.Proof.Gen.ReferenceOutIdeal.Run
public import proofs.«01_k».proof.Proof.Gen.ReferenceOutIdeal.Read

@[expose] public section

set_option maxRecDepth 16384

noncomputable section

open Idealize.ShloMosaic Idealize.ShloMosaic.TcCoe Idealize.SL.Sem
open Cert.Layer

namespace Cert.KernelOutIdeal.Value
open Cert.KernelOutIdeal Cert.KernelOutIdeal.Gen

/-- The bit by which a block picks the samples' rows: set from row block 16 on. -/
theorem pick : ∀ t : Fin cfg0.N, Scalar.cmpi .sge (BitVec.ofNat 32 (grid0.coords t 0).val) 16#32 = if 16 ≤ t.val then 1#1 else 0#1 :=
  (by decide +kernel : ∀ t : Fin grid0.N, _)

/-- What a block's body leaves: its rows of `x` plus the two half products, of the picked rows. -/
theorem out_apply (t : Fin cfg0.N) (x0 : Vec Ideal S512x2048 .f32) (x1 x2 x3 x4 : Vec Ideal S512x1024 .f32) (x5 : Vec Ideal S1x1024 .f32)
    (x6 : Vec Ideal S2048x2048 .bf16) (r : Fin 512) (j : Fin 2048) :
    out0_7 (grid0.coords t) x0 x1 x2 x3 x4 x5 x6 (ix2 r j)
      = x0 (ix2 r j) + ((∑ k : Fin 1024, (if 16 ≤ t.val then x2 (ix2 r k) else x1 (ix2 r k)) * x5 (ix2 0 k) * x6 (ix2 ⟨k.val, by omega⟩ j))
          + ∑ k : Fin 1024, (if 16 ≤ t.val then x4 (ix2 r k) else x3 (ix2 r k)) * x6 (ix2 ⟨1024 + k.val, by omega⟩ j)) := by
  unfold out0_7
  rw [View.canon_unit_zero off2]
  simp only [View.ld_unit_zero (S := S512x1024) off2, View.ld_unit_zero (S := S1x1024) off2, View.ld_unit_zero (S := S512x2048) off2]
  unfold k0_pay1
  dsimp only
  rw [pick]
  by_cases h : 16 ≤ t.val
  · simp only [if_pos h, show ∀ a b : Vec Ideal S512x1024 .f32, Scalar.select 1#1 a b = a from fun _ _ => rfl]
    pointwise
  · simp only [if_neg h, show ∀ a b : Vec Ideal S512x1024 .f32, Scalar.select 0#1 a b = b from fun _ _ => rfl]
    pointwise

variable (m : (ℓ : Loc nD τ sig) → Buf (Elt Ideal) ℓ) (ρ : Dev nD → PrngReg)

/-- The weight the region reads is the argument: its cast changes no number. -/
theorem V_w (c : Dev nD) : V m c main_v0 = m ((c : Thread nD τ).loc main_arg6) := by
  unfold V
  after_results
  rfl

/-- The scale the region reads is the argument as one row. -/
theorem V_s (c : Dev nD) (k : Fin 1024) :
    (V m c main_v1 : Vec Ideal S1x1024 .f32) (ix2 0 k) = (m ((c : Thread nD τ).loc main_arg5) : Vec Ideal S1024 .f32) (ix1 k) := by
  unfold V
  after_results
  show shapeCast S1x1024 (m ((c : Thread nD τ).loc main_arg5) : Vec Ideal S1024 .f32) shapeCasts_S1024_S1x1024 (ix2 0 k) = _
  pointwise

/-- Which blocks a point reads. -/
theorem idx_in : ∀ t : Fin cfg0.N, (win0_0.index t (0 : Fin 2) = t.val ∧ win0_0.index t (1 : Fin 2) = 0)
    ∧ (win0_1.index t (0 : Fin 2) = min t.val 15 ∧ win0_1.index t (1 : Fin 2) = 0)
    ∧ (win0_2.index t (0 : Fin 2) = t.val - 16 ∧ win0_2.index t (1 : Fin 2) = 0)
    ∧ (win0_3.index t (0 : Fin 2) = min t.val 15 ∧ win0_3.index t (1 : Fin 2) = 0)
    ∧ (win0_4.index t (0 : Fin 2) = t.val - 16 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

/-- A block's rows of `x`. -/
theorem iblk0 (c : Dev nD) (t : Fin cfg0.N) (r : Fin 512) (k : Fin 2048) (R : Fin 9216) (hR : R.val = 512 * t.val + r.val) :
    (iblk m c 0 t : Vec Ideal S512x2048 .f32) (ix2 r k) = (m ((c : Thread nD τ).loc main_arg0) : Vec Ideal S9216x2048 .f32) (ix2 R k) := by
  obtain ⟨⟨e0, e1⟩, -⟩ := idx_in t
  unfold iblk
  rw [View.read_apply, ← V_main_arg0 m c]
  show (V m c main_arg0 : Vec Ideal S9216x2048 .f32) _ = _
  congr 1
  funext a
  apply Fin.ext
  match a with
  | ⟨0, _⟩ => show win0_0.index t 0 * 512 + 1 * r.val = R.val; rw [e0, hR]; omega
  | ⟨1, _⟩ => show win0_0.index t 1 * 2048 + 1 * k.val = k.val; rw [e1]; omega

/-- A prompt block's attention rows. -/
theorem iblk1 (c : Dev nD) (t : Fin cfg0.N) (ht : t.val < 16) (r : Fin 512) (k : Fin 1024) (R : Fin 8192) (hR : R.val = 512 * t.val + r.val) :
    (iblk m c 1 t : Vec Ideal S512x1024 .f32) (ix2 r k) = (m ((c : Thread nD τ).loc main_arg1) : Vec Ideal S8192x1024 .f32) (ix2 R k) := by
  obtain ⟨-, ⟨e0, e1⟩, -⟩ := idx_in t
  unfold iblk
  rw [View.read_apply, ← V_main_arg1 m c]
  show (V m c main_arg1 : Vec Ideal S8192x1024 .f32) _ = _
  congr 1
  funext a
  apply Fin.ext
  match a with
  | ⟨0, _⟩ => show win0_1.index t 0 * 512 + 1 * r.val = R.val; rw [e0, hR]; omega
  | ⟨1, _⟩ => show win0_1.index t 1 * 1024 + 1 * k.val = k.val; rw [e1]; omega

/-- A sample block's attention rows. -/
theorem iblk2 (c : Dev nD) (t : Fin cfg0.N) (r : Fin 512) (k : Fin 1024) (R : Fin 1024) (hR : R.val = 512 * (t.val - 16) + r.val) :
    (iblk m c 2 t : Vec Ideal S512x1024 .f32) (ix2 r k) = (m ((c : Thread nD τ).loc main_arg2) : Vec Ideal S1024x1024 .f32) (ix2 R k) := by
  obtain ⟨-, -, ⟨e0, e1⟩, -⟩ := idx_in t
  unfold iblk
  rw [View.read_apply, ← V_main_arg2 m c]
  show (V m c main_arg2 : Vec Ideal S1024x1024 .f32) _ = _
  congr 1
  funext a
  apply Fin.ext
  match a with
  | ⟨0, _⟩ => show win0_2.index t 0 * 512 + 1 * r.val = R.val; rw [e0, hR]; omega
  | ⟨1, _⟩ => show win0_2.index t 1 * 1024 + 1 * k.val = k.val; rw [e1]; omega

/-- A prompt block's recurrence rows. -/
theorem iblk3 (c : Dev nD) (t : Fin cfg0.N) (ht : t.val < 16) (r : Fin 512) (k : Fin 1024) (R : Fin 8192) (hR : R.val = 512 * t.val + r.val) :
    (iblk m c 3 t : Vec Ideal S512x1024 .f32) (ix2 r k) = (m ((c : Thread nD τ).loc main_arg3) : Vec Ideal S8192x1024 .f32) (ix2 R k) := by
  obtain ⟨-, -, -, ⟨e0, e1⟩, -⟩ := idx_in t
  unfold iblk
  rw [View.read_apply, ← V_main_arg3 m c]
  show (V m c main_arg3 : Vec Ideal S8192x1024 .f32) _ = _
  congr 1
  funext a
  apply Fin.ext
  match a with
  | ⟨0, _⟩ => show win0_3.index t 0 * 512 + 1 * r.val = R.val; rw [e0, hR]; omega
  | ⟨1, _⟩ => show win0_3.index t 1 * 1024 + 1 * k.val = k.val; rw [e1]; omega

/-- A sample block's recurrence rows. -/
theorem iblk4 (c : Dev nD) (t : Fin cfg0.N) (r : Fin 512) (k : Fin 1024) (R : Fin 1024) (hR : R.val = 512 * (t.val - 16) + r.val) :
    (iblk m c 4 t : Vec Ideal S512x1024 .f32) (ix2 r k) = (m ((c : Thread nD τ).loc main_arg4) : Vec Ideal S1024x1024 .f32) (ix2 R k) := by
  obtain ⟨-, -, -, -, ⟨e0, e1⟩, -⟩ := idx_in t
  unfold iblk
  rw [View.read_apply, ← V_main_arg4 m c]
  show (V m c main_arg4 : Vec Ideal S1024x1024 .f32) _ = _
  congr 1
  funext a
  apply Fin.ext
  match a with
  | ⟨0, _⟩ => show win0_4.index t 0 * 512 + 1 * r.val = R.val; rw [e0, hR]; omega
  | ⟨1, _⟩ => show win0_4.index t 1 * 1024 + 1 * k.val = k.val; rw [e1]; omega

/-- A block's scale. -/
theorem iblk5 (c : Dev nD) (t : Fin cfg0.N) (k : Fin 1024) :
    (iblk m c 5 t : Vec Ideal S1x1024 .f32) (ix2 0 k) = (m ((c : Thread nD τ).loc main_arg5) : Vec Ideal S1024 .f32) (ix1 k) := by
  obtain ⟨-, -, -, -, -, ⟨e0, e1⟩, -⟩ := idx_in t
  unfold iblk
  rw [View.read_apply, ← V_s m c]
  show (V m c main_v1 : Vec Ideal S1x1024 .f32) _ = _
  congr 1
  funext a
  apply Fin.ext
  match a with
  | ⟨0, _⟩ => show win0_5.index t 0 * 1 + 1 * 0 = 0; rw [e0]
  | ⟨1, _⟩ => show win0_5.index t 1 * 1024 + 1 * k.val = k.val; rw [e1]; omega

/-- A block's weight. -/
theorem iblk6 (c : Dev nD) (t : Fin cfg0.N) (k j : Fin 2048) :
    (iblk m c 6 t : Vec Ideal S2048x2048 .bf16) (ix2 k j) = (m ((c : Thread nD τ).loc main_arg6) : Vec Ideal S2048x2048 .f32) (ix2 k j) := by
  obtain ⟨-, -, -, -, -, -, ⟨e0, e1⟩, -⟩ := idx_in t
  unfold iblk
  rw [View.read_apply, ← V_w m c]
  show (V m c main_v0 : Vec Ideal S2048x2048 .bf16) _ = _
  congr 1
  funext a
  apply Fin.ext
  match a with
  | ⟨0, _⟩ => show win0_6.index t 0 * 2048 + 1 * k.val = k.val; rw [e0]; omega
  | ⟨1, _⟩ => show win0_6.index t 1 * 2048 + 1 * j.val = j.val; rw [e1]; omega

/-- An entry of the result array is its block's, at its place in the block. -/
theorem result_block (c : Dev nD) (t : Fin cfg0.N) (r : Fin 512) (j : Fin 2048) (R : Fin 9216) (hR : R.val = 512 * t.val + r.val) :
    ((dats m 0 c).arrAt 7 cfg0.N : Vec Ideal S9216x2048 .f32) (ix2 R j)
      = out0_7 (grid0.coords t) (iblk m c 0 t) (iblk m c 1 t) (iblk m c 2 t) (iblk m c 3 t) (iblk m c 4 t) (iblk m c 5 t) (iblk m c 6 t) (ix2 r j) := by
  obtain ⟨-, -, -, -, -, -, -, ⟨e0, e1⟩⟩ := idx_in t
  have h := congrFun (blocks7 m c t (flush0_7 t)) (ix2 r j)
  rw [flushed7, View.read_apply] at h
  have he : ((cfg0.win 7).blk t).view.emb (ix2 r j) = ix2 R j := by
    funext a
    apply Fin.ext
    match a with
    | ⟨0, _⟩ => show win0_7.index t 0 * 512 + 1 * r.val = R.val; rw [e0, hR]; omega
    | ⟨1, _⟩ => show win0_7.index t 1 * 2048 + 1 * j.val = j.val; rw [e1]; omega
  rw [he] at h
  refine h.trans ?_
  show out0_7 _ _ _ _ _ _ _ _ ((cfg0.win 7).xinj (grid0.coords t) (ix2 r j)) = _
  congr 1

end Cert.KernelOutIdeal.Value

namespace Cert.ReferenceOutIdeal.Read

/-- The reference's result, entry by entry: the two halves of the features, prompt rows before sample rows. -/
theorem result_apply (x0 : (⟨S9216x2048, .f32⟩ : BufTy).Contents (Elt Ideal)) (x1 x3 : (⟨S8192x1024, .f32⟩ : BufTy).Contents (Elt Ideal))
    (x2 x4 : (⟨S1024x1024, .f32⟩ : BufTy).Contents (Elt Ideal)) (x5 : (⟨S1024, .f32⟩ : BufTy).Contents (Elt Ideal))
    (x6 : (⟨S2048x2048, .f32⟩ : BufTy).Contents (Elt Ideal)) (R : Fin 9216) (J : Fin 2048) :
    val_main_v7 (F := Ideal) x0 x1 x2 x3 x4 x5 x6 (ix2 R J)
      = x0 (ix2 R J) + ((∑ k : Fin 1024, (if h : R.val < 8192 then x1 (ix2 ⟨R.val, h⟩ k) else x2 (ix2 ⟨R.val - 8192, by omega⟩ k)) * x5 (ix1 k)
            * x6 (ix2 ⟨k.val, by omega⟩ J))
          + ∑ k : Fin 1024, (if h : R.val < 8192 then x3 (ix2 ⟨R.val, h⟩ k) else x4 (ix2 ⟨R.val - 8192, by omega⟩ k))
            * x6 (ix2 ⟨1024 + k.val, by omega⟩ J)) := by
  unfold val_main_v7 val_main_v6 val_main_v5 val_main_v4 val_main_v3 val_main_v2 val_main_v1 val_main_v0
  pointwise

end Cert.ReferenceOutIdeal.Read

namespace Cert.Layer
open Cert.KernelOutIdeal

/-- The call's result array is the reference's result of the same arguments. -/
theorem out_eq (m : (ℓ : Loc nD τ sig) → Buf (Elt Ideal) ℓ) (c : Dev nD) :
    (Cert.ReferenceOutIdeal.Read.val_main_v7 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)))
      = (Cert.KernelOutIdeal.Gen.dats m 0 c).arrAt 7 cfg0.N := by
  funext i
  obtain ⟨R, J, rfl⟩ : ∃ (R : Fin 9216) (J : Fin 2048), i = ix2 R J := ⟨i 0, i 1, eq_ix2 i⟩
  have hN : cfg0.N = 18 := Cert.KernelOutIdeal.Gen.N_0
  have hR9 := R.isLt
  obtain ⟨t, ht⟩ : ∃ t : Fin cfg0.N, t.val = R.val / 512 := ⟨⟨R.val / 512, by rw [hN]; omega⟩, rfl⟩
  obtain ⟨r, hr⟩ : ∃ r : Fin 512, r.val = R.val % 512 := ⟨⟨R.val % 512, Nat.mod_lt _ (by decide)⟩, rfl⟩
  have hR : R.val = 512 * t.val + r.val := by omega
  refine (Cert.ReferenceOutIdeal.Read.result_apply _ _ _ _ _ _ _ R J).trans ?_
  refine Eq.trans ?_ (Cert.KernelOutIdeal.Value.result_block m c t r J R hR).symm
  rw [Cert.KernelOutIdeal.Value.out_apply, Cert.KernelOutIdeal.Value.iblk0 m c t r J R hR]
  by_cases h : R.val < 8192
  · have h' : ¬16 ≤ t.val := by omega
    simp only [dif_pos h, if_neg h']
    refine congrArg₂ (· + ·) rfl (congrArg₂ (· + ·) (Finset.sum_congr rfl fun k _ => ?_) (Finset.sum_congr rfl fun k _ => ?_))
    · rw [Cert.KernelOutIdeal.Value.iblk1 m c t (by omega) r k ⟨R.val, h⟩ hR, Cert.KernelOutIdeal.Value.iblk5, Cert.KernelOutIdeal.Value.iblk6]
    · rw [Cert.KernelOutIdeal.Value.iblk3 m c t (by omega) r k ⟨R.val, h⟩ hR, Cert.KernelOutIdeal.Value.iblk6]
  · have h' : 16 ≤ t.val := by omega
    have hS : R.val - 8192 = 512 * (t.val - 16) + r.val := by omega
    have hlt : R.val - 8192 < 1024 := by omega
    simp only [dif_neg h, if_pos h']
    refine congrArg₂ (· + ·) rfl (congrArg₂ (· + ·) (Finset.sum_congr rfl fun k _ => ?_) (Finset.sum_congr rfl fun k _ => ?_))
    · rw [Cert.KernelOutIdeal.Value.iblk2 m c t r k ⟨R.val - 8192, hlt⟩ hS, Cert.KernelOutIdeal.Value.iblk5, Cert.KernelOutIdeal.Value.iblk6]
    · rw [Cert.KernelOutIdeal.Value.iblk4 m c t r k ⟨R.val - 8192, hlt⟩ hS, Cert.KernelOutIdeal.Value.iblk6]

/-- The output projection's value claim: from the same arguments both programs run and end with the same result. -/
theorem out_algebraic [hK : Cert.KernelOutIdeal.Facts] [hR : Cert.ReferenceOutIdeal.Facts] :
    Cert.algebraic_KernelOutIdeal_ReferenceOutIdeal := by
  intro m g m' g' _ hagree
  refine ⟨fun c => (Cert.KernelOutIdeal.Gen.dats m 0 c).arrAt 7 cfg0.N, ?_, ?_⟩
  · exact Cert.KernelOutIdeal.Value.run_blocks m g
  · refine (θ_run _ _ _).mono (fun r h c => ?_) (Cert.ReferenceOutIdeal.Value.run (F := Ideal) m' g')
    obtain ⟨a0, a1, a2, a3, a4, a5, a6⟩ := hagree c
    refine ⟨((h c).1.trans ?_), (h c).2⟩
    rw [a0, a1, a2, a3, a4, a5, a6]
    exact (Cert.ReferenceOutIdeal.Read.val_main_v7_eq _ _ _ _ _ _ _).trans (out_eq m c)

end Cert.Layer

end
-- ==== Proof.FfnValue.lean ====
/-
  The dense feed-forward call, `x + (silu(h·wg) · (h·wu)) · wd` with `h = rms_norm(x)`: what the call leaves in its result
  array, entry by entry, what the reference computes, and that the two are one sum over the 5632 features.

  The grid is 18 row blocks by 11 feature blocks. The first feature block of a row block norms the 512 rows into the
  carried scratch and starts the output block from `x`; all eleven add the product of their 512 gated features.
-/
module

public import proofs.«01_k».proof.Defs
public import proofs.«01_k».proof.Proof.Common
public import proofs.«01_k».proof.Proof.Gen.KernelFfnIdeal.Value
public import proofs.«01_k».proof.Proof.Gen.ReferenceFfnIdeal.Run
public import proofs.«01_k».proof.Proof.Gen.ReferenceFfnIdeal.Read
public import Idealize.ShloMosaic.Lib.IdealHost

@[expose] public section

set_option maxRecDepth 16384

noncomputable section

open Idealize.ShloMosaic Idealize.ShloMosaic.TcCoe Idealize.SL.Sem
open Cert.Layer

namespace Cert.Layer

/-- The gated unit, `silu(a) · b`. -/
def gated (a b : EReal) : EReal := a * Ideal.logistic a * b

end Cert.Layer

namespace Cert.KernelFfnIdeal.Value
open Cert.KernelFfnIdeal Cert.KernelFfnIdeal.Gen

/-- The rows the first feature block keeps are the normed rows of its block. -/
theorem pay1_apply (x : Vec Ideal S512x2048 .f32) (g : Vec Ideal S1x2048 .f32) (r : Fin 512) (k : Fin 2048) :
    k0_pay1 x g (ix2 r k) = rms (fun l => x (ix2 r l)) (fun l => g (ix2 0 l)) k := by
  pointwise [k0_pay1, rms]

/-- What a point stores: what the block held plus the product of its gated features. -/
theorem pay2_apply (h : Vec Ideal S512x2048 .bf16) (wg wu : Vec Ideal S2048x512 .bf16) (acc : Vec Ideal S512x2048 .f32)
    (wd : Vec Ideal S512x2048 .bf16) (r : Fin 512) (j : Fin 2048) :
    k0_pay2 h wg wu acc wd (ix2 r j) = acc (ix2 r j) + ∑ e : Fin 512,
      gated (∑ k : Fin 2048, h (ix2 r k) * wg (ix2 k e)) (∑ k : Fin 2048, h (ix2 r k) * wu (ix2 k e)) * wd (ix2 e j) := by
  pointwise [k0_pay2, gated]

section
variable (c : Dev nD) (i : grid0.Coords) (a2 : Memref sig .tc .vmem S512x2048 .f32) (h2 : a2.IsWhole)
    (a3 : Memref sig .tc .vmem S1x2048 .f32) (h3 : a3.IsWhole) (a4 : Memref sig .tc .vmem S2048x512 .bf16) (h4 : a4.IsWhole)
    (a5 : Memref sig .tc .vmem S2048x512 .bf16) (h5 : a5.IsWhole) (a6 : Memref sig .tc .vmem S512x2048 .bf16) (h6 : a6.IsWhole)
    (a7 : Memref sig .tc .vmem S512x2048 .f32) (h7 : a7.IsWhole) (a8 : Memref sig .tc .vmem S512x2048 .bf16) (h8 : a8.IsWhole)
    (x : Vec Ideal S512x2048 .f32) (g : Vec Ideal S1x2048 .f32) (wg wu : Vec Ideal S2048x512 .bf16) (wd : Vec Ideal S512x2048 .bf16)

/-- The first feature block's store: `x` plus the product over the rows it has just normed. -/
theorem out_A (hc : cond0_0 i) :
    out0_A_5 c i a2 h2 a3 h3 a4 h4 a5 h5 a6 h6 a7 h7 a8 h8 hc x g wg wu wd = k0_pay2 (k0_pay1 x g) wg wu x wd := by
  unfold out0_A_5
  rw [View.read_writes_eq_canon _ _ _ (cover0_A_5 c i a2 h2 a3 h3 a4 h4 a5 h5 a6 h6 a7 h7 a8 h8 hc x g wg wu wd)]
  unfold kernelRun0_A
  dsimp only
  sl_unfold_words
  rw [View.canon_cons_unit_zero (S := S512x2048) off2]
  simp only [View.readCov_unit_zero (S := S512x2048) _ off2]
  simp only [View.readAt_eq_ld, h2.read_unread, h3.read_unread, h4.read_unread, h5.read_unread, h6.read_unread,
    View.ld_unit_zero (S := S512x2048) off2, View.ld_unit_zero (S := S1x2048) off2, View.ld_unit_zero (S := S2048x512) off2]

/-- The first feature block leaves the normed rows in the scratch. -/
theorem kept_A (hc : cond0_0 i) :
    sout0_A_0 c i a2 h2 a3 h3 a4 h4 a5 h5 a6 h6 a7 h7 a8 h8 hc x g wg wu wd = k0_pay1 x g := by
  unfold sout0_A_0
  rw [View.read_writes_eq_canon _ _ _ (scover0_A_0 c i a2 h2 a3 h3 a4 h4 a5 h5 a6 h6 a7 h7 a8 h8 hc x g wg wu wd)]
  unfold kernelRun0_A
  dsimp only
  sl_unfold_words
  rw [View.canon_unit_zero off2]
  simp only [View.readAt_eq_ld, h2.read_unread, h3.read_unread, View.ld_unit_zero (S := S512x2048) off2,
    View.ld_unit_zero (S := S1x2048) off2]

/-- A later feature block's store: what the block held plus the product over the rows found in the scratch. -/
theorem out_B (hc : ¬cond0_0 i) (o : Vec Ideal S512x2048 .f32) (s : Vec Ideal S512x2048 .bf16) :
    out0_B_5 c i a2 h2 a3 h3 a4 h4 a5 h5 a6 h6 a7 h7 a8 h8 hc x g wg wu wd o s = k0_pay2 s wg wu o wd := by
  unfold out0_B_5
  rw [View.read_writes_eq_canon _ _ _ (cover0_B_5 c i a2 h2 a3 h3 a4 h4 a5 h5 a6 h6 a7 h7 a8 h8 hc x g wg wu wd o s)]
  unfold kernelRun0_B
  dsimp only
  sl_unfold_words
  rw [View.canon_unit_zero off2]
  simp only [View.readAt_eq_ld, h4.read_unread, h5.read_unread, h6.read_unread, h7.read_unread, h8.read_unread,
    View.ld_unit_zero (S := S512x2048) off2, View.ld_unit_zero (S := S2048x512) off2]

end

variable (m : (ℓ : Loc nD τ sig) → Buf (Elt Ideal) ℓ) (ρ : Dev nD → PrngReg)

/-- The weights the region reads are the arguments: their casts change no number. -/
theorem V_wg (c : Dev nD) : V m c main_v0 = m ((c : Thread nD τ).loc main_arg2) := by
  unfold V
  after_results
  rfl

theorem V_wu (c : Dev nD) : V m c main_v1 = m ((c : Thread nD τ).loc main_arg3) := by
  unfold V
  after_results
  rfl

theorem V_wd (c : Dev nD) : V m c main_v2 = m ((c : Thread nD τ).loc main_arg4) := by
  unfold V
  after_results
  rfl

/-- The gain the region reads is the argument as one row. -/
theorem V_g (c : Dev nD) (k : Fin 2048) :
    (V m c main_v3 : Vec Ideal S1x2048 .f32) (ix2 0 k) = (m ((c : Thread nD τ).loc main_arg1) : Vec Ideal S2048 .f32) (ix1 k) := by
  unfold V
  after_results
  show shapeCast S1x2048 (m ((c : Thread nD τ).loc main_arg1) : Vec Ideal S2048 .f32) shapeCasts_S2048_S1x2048 (ix2 0 k) = _
  pointwise

/-- Which blocks a point reads: row block `t / 11` of the rows, feature block `t % 11` of the weights. -/
theorem idx_in : ∀ t : Fin cfg0.N, (win0_0.index t (0 : Fin 2) = t.val / 11 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 11)
    ∧ (win0_3.index t (0 : Fin 2) = 0 ∧ win0_3.index t (1 : Fin 2) = t.val % 11)
    ∧ (win0_4.index t (0 : Fin 2) = t.val % 11 ∧ win0_4.index t (1 : Fin 2) = 0) :=
  (by decide +kernel : ∀ t : Fin grid0.N, _)

/-- A point's rows. -/
theorem iblk_x (c : Dev nD) (t : Fin cfg0.N) (r : Fin 512) (k : Fin 2048) (R : Fin 9216) (hR : R.val = 512 * (t.val / 11) + r.val) :
    (iblk m c 0 t : Vec Ideal S512x2048 .f32) (ix2 r k) = (m ((c : Thread nD τ).loc main_arg0) : Vec Ideal S9216x2048 .f32) (ix2 R k) := by
  obtain ⟨⟨e0, e1⟩, -⟩ := idx_in t
  unfold iblk
  rw [View.read_apply, ← V_main_arg0 m c]
  show (V m c main_arg0 : Vec Ideal S9216x2048 .f32) _ = _
  congr 1
  funext a
  apply Fin.ext
  match a with
  | ⟨0, _⟩ => show win0_0.index t 0 * 512 + 1 * r.val = R.val; rw [e0, hR]; omega
  | ⟨1, _⟩ => show win0_0.index t 1 * 2048 + 1 * k.val = k.val; rw [e1]; omega

/-- A point's gain. -/
theorem iblk_g (c : Dev nD) (t : Fin cfg0.N) (k : Fin 2048) :
    (iblk m c 1 t : Vec Ideal S1x2048 .f32) (ix2 0 k) = (m ((c : Thread nD τ).loc main_arg1) : Vec Ideal S2048 .f32) (ix1 k) := by
  obtain ⟨-, ⟨e0, e1⟩, -⟩ := idx_in t
  unfold iblk
  rw [View.read_apply, ← V_g m c]
  show (V m c main_v3 : Vec Ideal S1x2048 .f32) _ = _
  congr 1
  funext a
  apply Fin.ext
  match a with
  | ⟨0, _⟩ => show win0_1.index t 0 * 1 + 1 * 0 = 0; rw [e0]
  | ⟨1, _⟩ => show win0_1.index t 1 * 2048 + 1 * k.val = k.val; rw [e1]; omega

/-- A point's columns of the gate's weight. -/
theorem iblk_wg (c : Dev nD) (t : Fin cfg0.N) (k : Fin 2048) (e : Fin 512) (E : Fin 5632) (hE : E.val = 512 * (t.val % 11) + e.val) :
    (iblk m c 2 t : Vec Ideal S2048x512 .bf16) (ix2 k e) = (m ((c : Thread nD τ).loc main_arg2) : Vec Ideal S2048x5632 .f32) (ix2 k E) := by
  obtain ⟨-, -, ⟨e0, e1⟩, -⟩ := idx_in t
  unfold iblk
  rw [View.read_apply, ← V_wg m c]
  show (V m c main_v0 : Vec Ideal S2048x5632 .bf16) _ = _
  congr 1
  funext a
  apply Fin.ext
  match a with
  | ⟨0, _⟩ => show win0_2.index t 0 * 2048 + 1 * k.val = k.val; rw [e0]; omega
  | ⟨1, _⟩ => show win0_2.index t 1 * 512 + 1 * e.val = E.val; rw [e1, hE]; omega

/-- A point's columns of the other weight. -/
theorem iblk_wu (c : Dev nD) (t : Fin cfg0.N) (k : Fin 2048) (e : Fin 512) (E : Fin 5632) (hE : E.val = 512 * (t.val % 11) + e.val) :
    (iblk m c 3 t : Vec Ideal S2048x512 .bf16) (ix2 k e) = (m ((c : Thread nD τ).loc main_arg3) : Vec Ideal S2048x5632 .f32) (ix2 k E) := by
  obtain ⟨-, -, -, ⟨e0, e1⟩, -⟩ := idx_in t
  unfold iblk
  rw [View.read_apply, ← V_wu m c]
  show (V m c main_v1 : Vec Ideal S2048x5632 .bf16) _ = _
  congr 1
  funext a
  apply Fin.ext
  match a with
  | ⟨0, _⟩ => show win0_3.index t 0 * 2048 + 1 * k.val = k.val; rw [e0]; omega
  | ⟨1, _⟩ => show win0_3.index t 1 * 512 + 1 * e.val = E.val; rw [e1, hE]; omega

/-- A point's rows of the outgoing weight. -/
theorem iblk_wd (c : Dev nD) (t : Fin cfg0.N) (e : Fin 512) (j : Fin 2048) (E : Fin 5632) (hE : E.val = 512 * (t.val % 11) + e.val) :
    (iblk m c 4 t : Vec Ideal S512x2048 .bf16) (ix2 e j) = (m ((c : Thread nD τ).loc main_arg4) : Vec Ideal S5632x2048 .f32) (ix2 E j) := by
  obtain ⟨-, -, -, -, ⟨e0, e1⟩⟩ := idx_in t
  unfold iblk
  rw [View.read_apply, ← V_wd m c]
  show (V m c main_v2 : Vec Ideal S5632x2048 .bf16) _ = _
  congr 1
  funext a
  apply Fin.ext
  match a with
  | ⟨0, _⟩ => show win0_4.index t 0 * 512 + 1 * e.val = E.val; rw [e0, hE]; omega
  | ⟨1, _⟩ => show win0_4.index t 1 * 2048 + 1 * j.val = j.val; rw [e1]; omega

/-- Row `R` of the argument, normed. -/
def normed (c : Dev nD) (R : Fin 9216) (k : Fin 2048) : EReal :=
  rms (fun l => (m ((c : Thread nD τ).loc main_arg0) : Vec Ideal S9216x2048 .f32) (ix2 R l))
    (fun l => (m ((c : Thread nD τ).loc main_arg1) : Vec Ideal S2048 .f32) (ix1 l)) k

/-- Entry `(R, j)` of the argument. -/
def xin (c : Dev nD) (R : Fin 9216) (j : Fin 2048) : EReal := (m ((c : Thread nD τ).loc main_arg0) : Vec Ideal S9216x2048 .f32) (ix2 R j)

/-- What feature `E` of row `R` adds to column `j` of the result. -/
def term (c : Dev nD) (R : Fin 9216) (j : Fin 2048) (E : Fin 5632) : EReal :=
  gated (∑ k : Fin 2048, normed m c R k * (m ((c : Thread nD τ).loc main_arg2) : Vec Ideal S2048x5632 .f32) (ix2 k E))
      (∑ k : Fin 2048, normed m c R k * (m ((c : Thread nD τ).loc main_arg3) : Vec Ideal S2048x5632 .f32) (ix2 k E))
    * (m ((c : Thread nD τ).loc main_arg4) : Vec Ideal S5632x2048 .f32) (ix2 E j)

/-- The same by the feature's number. -/
def termN (c : Dev nD) (R : Fin 9216) (j : Fin 2048) (e : ℕ) : EReal := if h : e < 5632 then term m c R j ⟨e, h⟩ else 0

/-- After point `n` the scratch holds the normed rows of the point's row block. -/
theorem kept (c : Dev nD) : ∀ (n : ℕ) (hn : n < cfg0.N) (r : Fin 512) (k : Fin 2048) (R : Fin 9216),
    R.val = 512 * (n / 11) + r.val → ((outsAt0 m c n hn).2 : Vec Ideal S512x2048 .bf16) (ix2 r k) = normed m c R k := by
  intro n
  induction n with
  | zero =>
    intro hn r k R hR
    rw [outsAt0_A m c ⟨0, hn⟩ rfl]
    dsimp only
    rw [kept_A, pay1_apply]
    unfold normed
    congr 1
    · funext l; exact iblk_x m c _ r l R hR
    · funext l; exact iblk_g m c _ l
  | succ n ih =>
    intro hn r k R hR
    by_cases h0 : (n + 1) % 11 = 0
    · rw [outsAt0_A m c ⟨n + 1, hn⟩ h0]
      dsimp only
      rw [kept_A, pay1_apply]
      unfold normed
      congr 1
      · funext l; exact iblk_x m c _ r l R hR
      · funext l; exact iblk_g m c _ l
    · rw [outsAt0_B m c ⟨n + 1, hn⟩ h0]
      dsimp only
      unfold sout0_B_0
      exact ih _ r k R (by rw [hR]; congr 2; omega)

/-- The 512 features of point `t`, over the normed rows, add the terms `512·(t % 11)` onwards. -/
theorem block_sum (c : Dev nD) (t : Fin cfg0.N) (h : Vec Ideal S512x2048 .bf16) (r : Fin 512) (j : Fin 2048) (R : Fin 9216)
    (hh : ∀ k, h (ix2 r k) = normed m c R k) (acc : Vec Ideal S512x2048 .f32) :
    k0_pay2 h (iblk m c 2 t) (iblk m c 3 t) acc (iblk m c 4 t) (ix2 r j)
      = acc (ix2 r j) + ∑ e ∈ Finset.range 512, termN m c R j (512 * (t.val % 11) + e) := by
  rw [pay2_apply, Finset.sum_range]
  refine congrArg₂ (· + ·) rfl (Finset.sum_congr rfl fun e _ => ?_)
  have hlt : 512 * (t.val % 11) + e.val < 5632 := by have := e.isLt; omega
  unfold termN
  rw [dif_pos hlt]
  unfold term
  rw [iblk_wd m c t e j ⟨_, hlt⟩ rfl]
  refine congrArg₂ (· * ·) (congrArg₂ gated (Finset.sum_congr rfl fun k _ => ?_) (Finset.sum_congr rfl fun k _ => ?_)) rfl
  · rw [hh, iblk_wg m c t k e ⟨_, hlt⟩ rfl]
  · rw [hh, iblk_wu m c t k e ⟨_, hlt⟩ rfl]

/-- What point `n` leaves in the output's staging buffer: `x` plus the terms of the features up to its block. -/
theorem stored (c : Dev nD) : ∀ (n : ℕ) (hn : n < cfg0.N) (r : Fin 512) (j : Fin 2048) (R : Fin 9216),
    R.val = 512 * (n / 11) + r.val → ((outsAt0 m c n hn).1 : Vec Ideal S512x2048 .f32) (ix2 r j)
      = xin m c R j
        + ∑ e ∈ Finset.range (512 * (n % 11 + 1)), termN m c R j e := by
  have hA : ∀ (n : ℕ) (hn : n < cfg0.N) (h0 : n % 11 = 0) (r : Fin 512) (j : Fin 2048) (R : Fin 9216), R.val = 512 * (n / 11) + r.val →
      ((outsAt0 m c n hn).1 : Vec Ideal S512x2048 .f32) (ix2 r j)
        = xin m c R j
          + ∑ e ∈ Finset.range (512 * (n % 11 + 1)), termN m c R j e := by
    intro n hn h0 r j R hR
    rw [show (outsAt0 m c n hn) = _ from outsAt0_A m c ⟨n, hn⟩ h0]
    dsimp only
    rw [out_A, block_sum m c ⟨n, hn⟩ _ r j R, iblk_x m c ⟨n, hn⟩ r j R hR]
    · unfold xin
      simp only [h0, Nat.mul_zero, Nat.zero_add, Nat.mul_one]
    · intro k
      rw [pay1_apply]
      unfold normed
      congr 1
      · funext l; exact iblk_x m c _ r l R hR
      · funext l; exact iblk_g m c _ l
  intro n
  induction n with
  | zero => intro hn; exact hA 0 hn rfl
  | succ n ih =>
    intro hn r j R hR
    by_cases h0 : (n + 1) % 11 = 0
    · exact hA _ hn h0 r j R hR
    · have hq : R.val = 512 * (n / 11) + r.val := by rw [hR]; congr 2; omega
      have hm : (n + 1) % 11 = n % 11 + 1 := by omega
      rw [outsAt0_B m c ⟨n + 1, hn⟩ h0]
      dsimp only
      rw [out_B, block_sum m c ⟨n + 1, hn⟩ _ r j R]
      · rw [show ((outsAt0 m c (n + 1 - 1) _).1 : Vec Ideal S512x2048 .f32) (ix2 r j) = _ from ih (Nat.lt_of_succ_lt hn) r j R hq, add_assoc]
        refine congrArg₂ (· + ·) rfl ?_
        dsimp only
        rw [hm, show 512 * (n % 11 + 1 + 1) = 512 * (n % 11 + 1) + 512 from by ring, Finset.sum_range_add]
      · intro k
        exact kept m c n (Nat.lt_of_succ_lt hn) r k R hq

/-- The result array, entry by entry: `x` plus the terms of all 5632 features. -/
theorem result_apply (c : Dev nD) (R : Fin 9216) (J : Fin 2048) :
    (G5 m c : Vec Ideal S9216x2048 .f32) (ix2 R J)
      = xin m c R J + ∑ E : Fin 5632, term m c R J E := by
  have hR := R.isLt
  have hJ := J.isLt
  have hN : cfg0.N = 198 := N_0
  have hp : pt5Of (ix2 R J) = 11 * (R.val / 512) + 10 := by
    show 11 * (1 * (R.val / 512 - 0) + 1 * (J.val / 2048 - 0)) + 10 = _
    omega
  have hlt : pt5Of (ix2 R J) < cfg0.N := by rw [hp, hN]; omega
  unfold G5
  rw [dif_pos hlt, ← outsAt0_sweep m c _ hlt]
  have hl : loc5Of (ix2 R J) = ix2 ⟨R.val % 512, Nat.mod_lt _ (by decide)⟩ J := by
    funext a; match a with
    | ⟨0, _⟩ => rfl
    | ⟨1, _⟩ => exact Fin.ext (Nat.mod_eq_of_lt hJ)
  rw [hl]
  refine (stored m c _ hlt _ J R ?_).trans ?_
  · show R.val = 512 * (pt5Of (ix2 R J) / 11) + R.val % 512
    rw [hp]; omega
  · refine congrArg₂ (· + ·) rfl ?_
    rw [show 512 * (pt5Of (ix2 R J) % 11 + 1) = 5632 from by rw [hp]; omega, Finset.sum_range]
    refine Finset.sum_congr rfl fun E _ => ?_
    unfold termN
    rw [dif_pos E.isLt]

end Cert.KernelFfnIdeal.Value

namespace Cert.ReferenceFfnIdeal.Read

/-- The reference's normed rows. -/
theorem normed_apply (x : (⟨S9216x2048, .f32⟩ : BufTy).Contents (Elt Ideal)) (g : (⟨S2048, .f32⟩ : BufTy).Contents (Elt Ideal))
    (R : Fin 9216) (k : Fin 2048) :
    val_main_v12 (F := Ideal) x g (ix2 R k) = rms (fun l => x (ix2 R l)) (fun l => g (ix1 l)) k := by
  unfold val_main_v12 val_main_v11 val_main_v10 val_main_v9 val_main_v8 val_main_v7 val_main_v6 val_main_v5 val_main_v4
    val_main_v3 val_main_v2 val_main_v1 val_main_v0 val_main_cst val_main_cst_0 val_main_cst_1
  pointwise [rms]

/-- The reference's result, entry by entry. -/
theorem result_apply (x : (⟨S9216x2048, .f32⟩ : BufTy).Contents (Elt Ideal)) (g : (⟨S2048, .f32⟩ : BufTy).Contents (Elt Ideal))
    (wg wu : (⟨S2048x5632, .f32⟩ : BufTy).Contents (Elt Ideal)) (wd : (⟨S5632x2048, .f32⟩ : BufTy).Contents (Elt Ideal))
    (R : Fin 9216) (J : Fin 2048) :
    val_main_v18 (F := Ideal) x g wg wu wd (ix2 R J)
      = x (ix2 R J) + ∑ E : Fin 5632,
        gated (∑ k : Fin 2048, rms (fun l => x (ix2 R l)) (fun l => g (ix1 l)) k * wg (ix2 k E))
          (∑ k : Fin 2048, rms (fun l => x (ix2 R l)) (fun l => g (ix1 l)) k * wu (ix2 k E)) * wd (ix2 E J) := by
  unfold val_main_v18 val_main_v17 val_main_v16 val_main_v15 val_main_v14 val_main_call0_v5 val_main_call0_v4
    val_main_call0_v3 val_main_call0_v2 val_main_call0_v1 val_main_call0_v0 val_main_v13 val_main_call0_cst val_main_call0_cst_0
  pointwise
  simp only [normed_apply]
  rfl

end Cert.ReferenceFfnIdeal.Read

namespace Cert.Layer

/-- The call's result array is the reference's result of the same arguments. -/
theorem ffn_eq (m : (ℓ : Loc Cert.KernelFfnIdeal.nD Cert.KernelFfnIdeal.τ Cert.KernelFfnIdeal.sig) → Buf (Elt Ideal) ℓ)
    (c : Dev Cert.KernelFfnIdeal.nD) :
    (Cert.ReferenceFfnIdeal.Read.val_main_v18 (F := Ideal) (m ((c.tc : Thread Cert.KernelFfnIdeal.nD Cert.KernelFfnIdeal.τ).loc Cert.KernelFfnIdeal.main_arg0))
      (m ((c.tc : Thread Cert.KernelFfnIdeal.nD Cert.KernelFfnIdeal.τ).loc Cert.KernelFfnIdeal.main_arg1))
      (m ((c.tc : Thread Cert.KernelFfnIdeal.nD Cert.KernelFfnIdeal.τ).loc Cert.KernelFfnIdeal.main_arg2))
      (m ((c.tc : Thread Cert.KernelFfnIdeal.nD Cert.KernelFfnIdeal.τ).loc Cert.KernelFfnIdeal.main_arg3))
      (m ((c.tc : Thread Cert.KernelFfnIdeal.nD Cert.KernelFfnIdeal.τ).loc Cert.KernelFfnIdeal.main_arg4)))
      = Cert.KernelFfnIdeal.Value.G5 m c := by
  funext i
  obtain ⟨R, J, rfl⟩ : ∃ (R : Fin 9216) (J : Fin 2048), i = ix2 R J := ⟨i 0, i 1, eq_ix2 i⟩
  exact (Cert.ReferenceFfnIdeal.Read.result_apply _ _ _ _ _ R J).trans (Cert.KernelFfnIdeal.Value.result_apply m c R J).symm

/-- The dense feed-forward call's value claim: from the same arguments both programs run and end with the same result. -/
theorem ffn_algebraic [hK : Cert.KernelFfnIdeal.Facts] [hR : Cert.ReferenceFfnIdeal.Facts] :
    Cert.algebraic_KernelFfnIdeal_ReferenceFfnIdeal := by
  intro m g m' g' _ hagree
  refine ⟨fun c => Cert.KernelFfnIdeal.Value.G5 m c, ?_, ?_⟩
  · exact Cert.KernelFfnIdeal.Value.run m g
  · refine (θ_run _ _ _).mono (fun r h c => ?_) (Cert.ReferenceFfnIdeal.Value.run (F := Ideal) m' g')
    obtain ⟨a0, a1, a2, a3, a4⟩ := hagree c
    refine ⟨((h c).1.trans ?_), (h c).2⟩
    rw [a0, a1, a2, a3, a4]
    exact (Cert.ReferenceFfnIdeal.Read.val_main_v18_eq _ _ _ _ _).trans (ffn_eq m c)

end Cert.Layer

end
-- ==== Proof.MoeIdealRun.lean ====
/-
  The expert call's body at one grid point, on its five control paths: a used tile's first feature block, a middle one and
  the last one, and an unused tile's blocks before the last and the last one. Each path is run on the blocks it is handed
  and leaves the scratches and the output block at named contents:

    rows kept    k0_pay1 x                       (the tile's rows, kept by the first feature block)
    accumulator  k0_pay3 rows wg wu acc wd       (what it held, or zeros at the first block, plus the block's products)
    output       the accumulator, or zeros for an unused tile   (at the last feature block)
-/
module

public import proofs.«01_k».proof.Proof.Gen.KernelMoeIdeal.Skeleton
public import proofs.«01_k».proof.Proof.Gen.KernelMoeIdeal.Launch
public import proofs.«01_k».proof.Proof.Common
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelMoeIdeal.Run

open Cert.KernelMoeIdeal Cert.KernelMoeIdeal.Gen Cert.Layer
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- After a list of stores whose last one covers the whole shape, a view reads that store's payload. -/
theorem read_last {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon v f _ (fun y => ⟨_, List.mem_cons_self, by
    subst h; show y ∈ (Rect.whole S).set; rw [Rect.set_whole]; exact Finset.mem_univ y⟩), View.canon_cons_unit_zero h]

/-- The two tables, which the body reads in place: which expert each tile belongs to, and whether the tile is used. -/
abbrev tExp : Memref sig .tc .smem S44 .i32 := Memref.whole main_arg0
abbrev tUsed : Memref sig .tc .smem S44 .i32 := Memref.whole main_arg1
abbrev hExp : tExp.IsWhole := Memref.isWhole_whole _
abbrev hUsed : tUsed.IsWhole := Memref.isWhole_whole _

/-- A table's contents, and the half of its buffer that the body holds while the pipeline holds the other. -/
abbrev TabBuf (c : Dev nD) (M : Memref sig .tc .smem S44 .i32) : Type := Buf (Elt F) (M.view.loc (c : Thread nD τ))
abbrev tabPt (c : Dev nD) (M : Memref sig .tc .smem S44 .i32) (f : TabBuf (F := F) c M) : sProp 𝕄 :=
  M.view.loc (c : Thread nD τ) ↦{fullShare.right} f

/-- The word of the second table that the point's tile has. -/
abbrev usedWord (i : grid0.Coords) (c : Dev nD) (T1 : TabBuf (F := F) c tUsed) : BitVec 32 :=
  View.readAt (Elt F) tUsed.view (Rect.unit (s := S44) (k0_off1 i) S1.size (k0_off1_inb i)).toLoadRect T1 (Shape.Idx.first (numel1_S1.symm ▸ Nat.one_pos))

/-- The body's first condition: the tile is used and this is its first feature block; -/
abbrev condFirst (i : grid0.Coords) (w : BitVec 32) : Prop :=
  Scalar.cmpi .ne (Scalar.extui (Scalar.andi (Scalar.cmpi .sgt w 0#32) (Scalar.cmpi .eq (BitVec.ofNat 32 (i 1).val) 0#32))) 0#32 = 1#1
/-- its second: the tile is used. -/
abbrev condUsed (w : BitVec 32) : Prop := Scalar.cmpi .ne (Scalar.extui (Scalar.cmpi .sgt w 0#32)) 0#32 = 1#1

section
variable (c : Dev nD) (i : grid0.Coords)
    (a4 : Memref sig .tc .vmem S512x2048 .f32) (h4 : a4.IsWhole) (a5 : Memref sig .tc .vmem S1x2048x256 .bf16) (h5 : a5.IsWhole)
    (a6 : Memref sig .tc .vmem S1x2048x256 .bf16) (h6 : a6.IsWhole) (a7 : Memref sig .tc .vmem S1x256x2048 .bf16) (h7 : a7.IsWhole)
    (a8 : Memref sig .tc .vmem S512x2048 .f32) (h8 : a8.IsWhole) (a9 : Memref sig .tc .vmem S512x2048 .bf16) (h9 : a9.IsWhole)
    (a10 : Memref sig .tc .vmem S512x2048 .f32) (h10 : a10.IsWhole)
    (T0 : TabBuf (F := F) c tExp) (T1 : TabBuf (F := F) c tUsed)
    (x : Vec F S512x2048 .f32) (wg wu : Vec F S1x2048x256 .bf16) (wd : Vec F S1x256x2048 .bf16)
    (y : Vec F S512x2048 .f32) (h : Vec F S512x2048 .bf16) (acc : Vec F S512x2048 .f32)

set_option maxHeartbeats 1000000 in
/-- A used tile's first feature block. -/
theorem first (hf : condFirst i (usedWord i c T1)) (hu : condUsed (usedWord i c T1)) (ho : ¬k0_cond3 i (usedWord i c T1) = 1#1) (hz : ¬k0_cond4 i (usedWord i c T1) = 1#1)
    (E : Set ℕ) (K : PUnit → sProp 𝕄) :
    iprop(owns (c : Thread nD τ) a4 fullShare x ∗ owns (c : Thread nD τ) a5 fullShare wg ∗ owns (c : Thread nD τ) a6 fullShare wu
      ∗ owns (c : Thread nD τ) a7 fullShare wd ∗ tabPt c tExp T0 ∗ tabPt c tUsed T1
      ∗ owns (c : Thread nD τ) a8 fullShare (y) ∗ owns (c : Thread nD τ) a9 fullShare (h) ∗ owns (c : Thread nD τ) a10 fullShare (acc)
      ∗ (iprop(owns (c : Thread nD τ) a4 fullShare x ∗ owns (c : Thread nD τ) a5 fullShare wg ∗ owns (c : Thread nD τ) a6 fullShare wu
        ∗ owns (c : Thread nD τ) a7 fullShare wd ∗ tabPt c tExp T0 ∗ tabPt c tUsed T1
        ∗ owns (c : Thread nD τ) a8 fullShare (y) ∗ owns (c : Thread nD τ) a9 fullShare (k0_pay1 x) ∗ owns (c : Thread nD τ) a10 fullShare (k0_pay3 (k0_pay1 x) wg wu k0_pay2 wd)) -∗ K ⟨⟩))
    ⊢ wp frame (wpE (defs₀ (F := F)) Variants.none c none) E
        (cc0_moe_experts i tExp hExp tUsed hUsed a4 h4 a5 h5 a6 h6 a7 h7 a8 h8 a9 h9 a10 h10) K := by
  simp only [cc0_moe_experts_eq_skeleton]; unfold cc0_moe_experts_skel
  unfold owns
  iintro ⟨⟨%f4, %e4, H4⟩, ⟨%f5, %e5, H5⟩, ⟨%f6, %e6, H6⟩, ⟨%f7, %e7, H7⟩, HT0, HT1, ⟨%f8, %e8, H8⟩, ⟨%f9, %e9, H9⟩, ⟨%f10, %e10, H10⟩, Hk⟩
  obtain rfl := h4.eq_unread e4; obtain rfl := h5.eq_unread e5; obtain rfl := h6.eq_unread e6; obtain rfl := h7.eq_unread e7
  obtain rfl := h8.eq_unread e8; obtain rfl := h9.eq_unread e9; obtain rfl := h10.eq_unread e10
  sl_exec (disch := first | sl_exact hf | sl_exact hu | sl_exact ho | sl_exact hz)
  sl_step
  iapply Hk
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [HT0]; · iexact HT0
  isplitl [HT1]; · iexact HT1
  isplitl [H8]
  · iexists _; isplitr; · ipureintro; exact h8.read_unread _
    iexact H8
  isplitl [H9]
  · iexists _; isplitr
    swap; · iexact H9
    ipureintro
    sl_unfold_words
    rw [read_last _ _ off2]
    simp only [View.readCov_unit_zero (S := S512x2048) _ off2]
    simp only [View.readAt_eq_ld, h4.read_unread, h5.read_unread, h6.read_unread, h7.read_unread, h9.read_unread, h10.read_unread,
      View.ld_unit_zero (S := S512x2048) off2, View.ld_unit_zero (S := S1x2048x256) off3, View.ld_unit_zero (S := S1x256x2048) off3]
  iexists _; isplitr
  swap; · iexact H10
  ipureintro
  sl_unfold_words
  rw [read_last _ _ off2]
  simp only [View.readCov_unit_zero (S := S512x2048) _ off2]
  simp only [View.readAt_eq_ld, h4.read_unread, h5.read_unread, h6.read_unread, h7.read_unread, h9.read_unread, h10.read_unread,
    View.ld_unit_zero (S := S512x2048) off2, View.ld_unit_zero (S := S1x2048x256) off3, View.ld_unit_zero (S := S1x256x2048) off3]

set_option maxHeartbeats 1000000 in
/-- A used tile's later feature block that is not the last. -/
theorem middle (hf : ¬condFirst i (usedWord i c T1)) (hu : condUsed (usedWord i c T1)) (ho : ¬k0_cond3 i (usedWord i c T1) = 1#1) (hz : ¬k0_cond4 i (usedWord i c T1) = 1#1)
    (E : Set ℕ) (K : PUnit → sProp 𝕄) :
    iprop(owns (c : Thread nD τ) a4 fullShare x ∗ owns (c : Thread nD τ) a5 fullShare wg ∗ owns (c : Thread nD τ) a6 fullShare wu
      ∗ owns (c : Thread nD τ) a7 fullShare wd ∗ tabPt c tExp T0 ∗ tabPt c tUsed T1
      ∗ owns (c : Thread nD τ) a8 fullShare (y) ∗ owns (c : Thread nD τ) a9 fullShare (h) ∗ owns (c : Thread nD τ) a10 fullShare (acc)
      ∗ (iprop(owns (c : Thread nD τ) a4 fullShare x ∗ owns (c : Thread nD τ) a5 fullShare wg ∗ owns (c : Thread nD τ) a6 fullShare wu
        ∗ owns (c : Thread nD τ) a7 fullShare wd ∗ tabPt c tExp T0 ∗ tabPt c tUsed T1
        ∗ owns (c : Thread nD τ) a8 fullShare (y) ∗ owns (c : Thread nD τ) a9 fullShare (h) ∗ owns (c : Thread nD τ) a10 fullShare (k0_pay3 h wg wu acc wd)) -∗ K ⟨⟩))
    ⊢ wp frame (wpE (defs₀ (F := F)) Variants.none c none) E
        (cc0_moe_experts i tExp hExp tUsed hUsed a4 h4 a5 h5 a6 h6 a7 h7 a8 h8 a9 h9 a10 h10) K := by
  simp only [cc0_moe_experts_eq_skeleton]; unfold cc0_moe_experts_skel
  unfold owns
  iintro ⟨⟨%f4, %e4, H4⟩, ⟨%f5, %e5, H5⟩, ⟨%f6, %e6, H6⟩, ⟨%f7, %e7, H7⟩, HT0, HT1, ⟨%f8, %e8, H8⟩, ⟨%f9, %e9, H9⟩, ⟨%f10, %e10, H10⟩, Hk⟩
  obtain rfl := h4.eq_unread e4; obtain rfl := h5.eq_unread e5; obtain rfl := h6.eq_unread e6; obtain rfl := h7.eq_unread e7
  obtain rfl := h8.eq_unread e8; obtain rfl := h9.eq_unread e9; obtain rfl := h10.eq_unread e10
  sl_exec (disch := first | sl_exact hf | sl_exact hu | sl_exact ho | sl_exact hz)
  sl_step
  iapply Hk
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [HT0]; · iexact HT0
  isplitl [HT1]; · iexact HT1
  isplitl [H8]
  · iexists _; isplitr; · ipureintro; exact h8.read_unread _
    iexact H8
  isplitl [H9]
  · iexists _; isplitr; · ipureintro; exact h9.read_unread _
    iexact H9
  iexists _; isplitr
  swap; · iexact H10
  ipureintro
  sl_unfold_words
  rw [read_last _ _ off2]
  simp only [View.readCov_unit_zero (S := S512x2048) _ off2]
  simp only [View.readAt_eq_ld, h4.read_unread, h5.read_unread, h6.read_unread, h7.read_unread, h9.read_unread, h10.read_unread,
    View.ld_unit_zero (S := S512x2048) off2, View.ld_unit_zero (S := S1x2048x256) off3, View.ld_unit_zero (S := S1x256x2048) off3]

set_option maxHeartbeats 1000000 in
/-- A used tile's last feature block. -/
theorem last (hf : ¬condFirst i (usedWord i c T1)) (hu : condUsed (usedWord i c T1)) (ho : k0_cond3 i (usedWord i c T1) = 1#1) (hz : ¬k0_cond4 i (usedWord i c T1) = 1#1)
    (E : Set ℕ) (K : PUnit → sProp 𝕄) :
    iprop(owns (c : Thread nD τ) a4 fullShare x ∗ owns (c : Thread nD τ) a5 fullShare wg ∗ owns (c : Thread nD τ) a6 fullShare wu
      ∗ owns (c : Thread nD τ) a7 fullShare wd ∗ tabPt c tExp T0 ∗ tabPt c tUsed T1
      ∗ owns (c : Thread nD τ) a8 fullShare (y) ∗ owns (c : Thread nD τ) a9 fullShare (h) ∗ owns (c : Thread nD τ) a10 fullShare (acc)
      ∗ (iprop(owns (c : Thread nD τ) a4 fullShare x ∗ owns (c : Thread nD τ) a5 fullShare wg ∗ owns (c : Thread nD τ) a6 fullShare wu
        ∗ owns (c : Thread nD τ) a7 fullShare wd ∗ tabPt c tExp T0 ∗ tabPt c tUsed T1
        ∗ owns (c : Thread nD τ) a8 fullShare (k0_pay3 h wg wu acc wd) ∗ owns (c : Thread nD τ) a9 fullShare (h) ∗ owns (c : Thread nD τ) a10 fullShare (k0_pay3 h wg wu acc wd)) -∗ K ⟨⟩))
    ⊢ wp frame (wpE (defs₀ (F := F)) Variants.none c none) E
        (cc0_moe_experts i tExp hExp tUsed hUsed a4 h4 a5 h5 a6 h6 a7 h7 a8 h8 a9 h9 a10 h10) K := by
  simp only [cc0_moe_experts_eq_skeleton]; unfold cc0_moe_experts_skel
  unfold owns
  iintro ⟨⟨%f4, %e4, H4⟩, ⟨%f5, %e5, H5⟩, ⟨%f6, %e6, H6⟩, ⟨%f7, %e7, H7⟩, HT0, HT1, ⟨%f8, %e8, H8⟩, ⟨%f9, %e9, H9⟩, ⟨%f10, %e10, H10⟩, Hk⟩
  obtain rfl := h4.eq_unread e4; obtain rfl := h5.eq_unread e5; obtain rfl := h6.eq_unread e6; obtain rfl := h7.eq_unread e7
  obtain rfl := h8.eq_unread e8; obtain rfl := h9.eq_unread e9; obtain rfl := h10.eq_unread e10
  sl_exec (disch := first | sl_exact hf | sl_exact hu | sl_exact ho | sl_exact hz)
  sl_step
  iapply Hk
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [HT0]; · iexact HT0
  isplitl [HT1]; · iexact HT1
  isplitl [H8]
  · iexists _; isplitr
    swap; · iexact H8
    ipureintro
    sl_unfold_words
    rw [read_last _ _ off2]
    simp only [View.readCov_unit_zero (S := S512x2048) _ off2]
    simp only [View.readAt_eq_ld, h4.read_unread, h5.read_unread, h6.read_unread, h7.read_unread, h9.read_unread, h10.read_unread,
      View.ld_unit_zero (S := S512x2048) off2, View.ld_unit_zero (S := S1x2048x256) off3, View.ld_unit_zero (S := S1x256x2048) off3]
  isplitl [H9]
  · iexists _; isplitr; · ipureintro; exact h9.read_unread _
    iexact H9
  iexists _; isplitr
  swap; · iexact H10
  ipureintro
  sl_unfold_words
  rw [read_last _ _ off2]
  simp only [View.readCov_unit_zero (S := S512x2048) _ off2]
  simp only [View.readAt_eq_ld, h4.read_unread, h5.read_unread, h6.read_unread, h7.read_unread, h9.read_unread, h10.read_unread,
    View.ld_unit_zero (S := S512x2048) off2, View.ld_unit_zero (S := S1x2048x256) off3, View.ld_unit_zero (S := S1x256x2048) off3]

set_option maxHeartbeats 1000000 in
/-- An unused tile's feature block that is not the last: nothing happens. -/
theorem idle (hf : ¬condFirst i (usedWord i c T1)) (hu : ¬condUsed (usedWord i c T1)) (ho : ¬k0_cond3 i (usedWord i c T1) = 1#1) (hz : ¬k0_cond4 i (usedWord i c T1) = 1#1)
    (E : Set ℕ) (K : PUnit → sProp 𝕄) :
    iprop(owns (c : Thread nD τ) a4 fullShare x ∗ owns (c : Thread nD τ) a5 fullShare wg ∗ owns (c : Thread nD τ) a6 fullShare wu
      ∗ owns (c : Thread nD τ) a7 fullShare wd ∗ tabPt c tExp T0 ∗ tabPt c tUsed T1
      ∗ owns (c : Thread nD τ) a8 fullShare (y) ∗ owns (c : Thread nD τ) a9 fullShare (h) ∗ owns (c : Thread nD τ) a10 fullShare (acc)
      ∗ (iprop(owns (c : Thread nD τ) a4 fullShare x ∗ owns (c : Thread nD τ) a5 fullShare wg ∗ owns (c : Thread nD τ) a6 fullShare wu
        ∗ owns (c : Thread nD τ) a7 fullShare wd ∗ tabPt c tExp T0 ∗ tabPt c tUsed T1
        ∗ owns (c : Thread nD τ) a8 fullShare (y) ∗ owns (c : Thread nD τ) a9 fullShare (h) ∗ owns (c : Thread nD τ) a10 fullShare (acc)) -∗ K ⟨⟩))
    ⊢ wp frame (wpE (defs₀ (F := F)) Variants.none c none) E
        (cc0_moe_experts i tExp hExp tUsed hUsed a4 h4 a5 h5 a6 h6 a7 h7 a8 h8 a9 h9 a10 h10) K := by
  simp only [cc0_moe_experts_eq_skeleton]; unfold cc0_moe_experts_skel
  unfold owns
  iintro ⟨⟨%f4, %e4, H4⟩, ⟨%f5, %e5, H5⟩, ⟨%f6, %e6, H6⟩, ⟨%f7, %e7, H7⟩, HT0, HT1, ⟨%f8, %e8, H8⟩, ⟨%f9, %e9, H9⟩, ⟨%f10, %e10, H10⟩, Hk⟩
  obtain rfl := h4.eq_unread e4; obtain rfl := h5.eq_unread e5; obtain rfl := h6.eq_unread e6; obtain rfl := h7.eq_unread e7
  obtain rfl := h8.eq_unread e8; obtain rfl := h9.eq_unread e9; obtain rfl := h10.eq_unread e10
  sl_exec (disch := first | sl_exact hf | sl_exact hu | sl_exact ho | sl_exact hz)
  sl_step
  iapply Hk
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [HT0]; · iexact HT0
  isplitl [HT1]; · iexact HT1
  isplitl [H8]
  · iexists _; isplitr; · ipureintro; exact h8.read_unread _
    iexact H8
  isplitl [H9]
  · iexists _; isplitr; · ipureintro; exact h9.read_unread _
    iexact H9
  iexists _; isplitr; · ipureintro; exact h10.read_unread _
  iexact H10

set_option maxHeartbeats 1000000 in
/-- An unused tile's last feature block: the output block is zeros. -/
theorem zero (hf : ¬condFirst i (usedWord i c T1)) (hu : ¬condUsed (usedWord i c T1)) (ho : ¬k0_cond3 i (usedWord i c T1) = 1#1) (hz : k0_cond4 i (usedWord i c T1) = 1#1)
    (E : Set ℕ) (K : PUnit → sProp 𝕄) :
    iprop(owns (c : Thread nD τ) a4 fullShare x ∗ owns (c : Thread nD τ) a5 fullShare wg ∗ owns (c : Thread nD τ) a6 fullShare wu
      ∗ owns (c : Thread nD τ) a7 fullShare wd ∗ tabPt c tExp T0 ∗ tabPt c tUsed T1
      ∗ owns (c : Thread nD τ) a8 fullShare (y) ∗ owns (c : Thread nD τ) a9 fullShare (h) ∗ owns (c : Thread nD τ) a10 fullShare (acc)
      ∗ (iprop(owns (c : Thread nD τ) a4 fullShare x ∗ owns (c : Thread nD τ) a5 fullShare wg ∗ owns (c : Thread nD τ) a6 fullShare wu
        ∗ owns (c : Thread nD τ) a7 fullShare wd ∗ tabPt c tExp T0 ∗ tabPt c tUsed T1
        ∗ owns (c : Thread nD τ) a8 fullShare (k0_pay4) ∗ owns (c : Thread nD τ) a9 fullShare (h) ∗ owns (c : Thread nD τ) a10 fullShare (acc)) -∗ K ⟨⟩))
    ⊢ wp frame (wpE (defs₀ (F := F)) Variants.none c none) E
        (cc0_moe_experts i tExp hExp tUsed hUsed a4 h4 a5 h5 a6 h6 a7 h7 a8 h8 a9 h9 a10 h10) K := by
  simp only [cc0_moe_experts_eq_skeleton]; unfold cc0_moe_experts_skel
  unfold owns
  iintro ⟨⟨%f4, %e4, H4⟩, ⟨%f5, %e5, H5⟩, ⟨%f6, %e6, H6⟩, ⟨%f7, %e7, H7⟩, HT0, HT1, ⟨%f8, %e8, H8⟩, ⟨%f9, %e9, H9⟩, ⟨%f10, %e10, H10⟩, Hk⟩
  obtain rfl := h4.eq_unread e4; obtain rfl := h5.eq_unread e5; obtain rfl := h6.eq_unread e6; obtain rfl := h7.eq_unread e7
  obtain rfl := h8.eq_unread e8; obtain rfl := h9.eq_unread e9; obtain rfl := h10.eq_unread e10
  sl_exec (disch := first | sl_exact hf | sl_exact hu | sl_exact ho | sl_exact hz)
  sl_step
  iapply Hk
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [HT0]; · iexact HT0
  isplitl [HT1]; · iexact HT1
  isplitl [H8]
  · iexists _; isplitr
    swap; · iexact H8
    ipureintro
    sl_unfold_words
    rw [read_last _ _ off2]
  isplitl [H9]
  · iexists _; isplitr; · ipureintro; exact h9.read_unread _
    iexact H9
  iexists _; isplitr; · ipureintro; exact h10.read_unread _
  iexact H10

end

end Cert.KernelMoeIdeal.Run

end
-- ==== Proof.MoeIdealFrame.lean ====
/-
  The expert call's run at any contents of its two tables at which its blocks lie inside the weights.

  The grid is 44 row tiles by 11 feature blocks. Between two points of one used tile the scratches hold the tile's kept
  rows and the sum of the feature blocks so far; at a tile's first point, and through an unused tile, they may hold
  anything, and nothing that the call returns depends on it. At its last feature block a tile's output block is the
  accumulator, or zeros when the tile is unused.
-/
module

public import proofs.«01_k».proof.Proof.MoeIdealRun

@[expose] public section

set_option maxRecDepth 16384

noncomputable section

namespace Cert.KernelMoeIdeal.Run

open Cert.KernelMoeIdeal Cert.KernelMoeIdeal.Gen Cert.Layer
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tables' words and the body's conditions -/

/-- A used tile's word is positive. -/
def isUsed (w : BitVec 32) : Prop := Scalar.cmpi .sgt w 0#32 = 1#1

instance (w : BitVec 32) : Decidable (isUsed w) := by unfold isUsed; infer_instance

/-- The one index of a table that belongs to a row tile. -/
abbrev tile (k : Fin 44) : S44.Idx := ix1 k

theorem off_eq (i : grid0.Coords) (a : Fin 1) : k0_off1 i a = (i 0).val :=
  (by decide +kernel : ∀ (k : Fin 44) (a : Fin 1),
    (![(Scalar.indexCast (BitVec.ofNat 32 k.val) : Index).toNat] : Fin 1 → Nat) a = k.val) (i 0) a

/-- The word the body reads is its tile's. -/
theorem usedWord_eq (i : grid0.Coords) (c : Dev nD) (T1 : TabBuf (F := F) c tUsed) : usedWord i c T1 = T1 (tile (i 0)) := by
  refine congrArg T1 (funext fun a => Fin.ext ?_)
  match a with
  | ⟨0, _⟩ => show k0_off1 i 0 + 1 * 0 = _; rw [off_eq]; rfl

/-- So is the word the pipeline reads to know whether the output block is stored into. -/
theorem atD_eq (i : grid0.Coords) (pf : pre0.Contents (Elt F)) :
    (pf.atD 1 (k0_off1 i) : BitVec 32) = pf 1 (tile (i 0)) := by
  have h : ∀ a : Fin 1, k0_off1 i a + 1 ≤ S44.size a := fun a => by
    match a with
    | ⟨0, _⟩ => rw [off_eq]; exact (i 0).isLt
  refine (dif_pos h).trans (congrArg (pf 1) (funext fun a => Fin.ext ?_))
  match a with
  | ⟨0, _⟩ => show k0_off1 i 0 = _; rw [off_eq]; rfl

theorem bit_cases (b : BitVec 1) : b = 0#1 ∨ b = 1#1 := by
  revert b; decide

theorem first_iff (i : grid0.Coords) (w : BitVec 32) : condFirst i w ↔ isUsed w ∧ (i 1).val = 0 := by
  have key : ∀ k : Fin 11,
      (Scalar.cmpi .ne (Scalar.extui (Scalar.andi (0#1) (Scalar.cmpi .eq (BitVec.ofNat 32 k.val) 0#32))) 0#32 = 1#1 ↔ (0#1 = 1#1) ∧ k.val = 0)
      ∧ (Scalar.cmpi .ne (Scalar.extui (Scalar.andi (1#1) (Scalar.cmpi .eq (BitVec.ofNat 32 k.val) 0#32))) 0#32 = 1#1 ↔ (1#1 = 1#1) ∧ k.val = 0) := by decide
  unfold condFirst isUsed
  rcases bit_cases (Scalar.cmpi .sgt w 0#32) with hb | hb <;> rw [hb]
  · exact (key (i 1)).1
  · exact (key (i 1)).2

theorem used_iff (w : BitVec 32) : condUsed w ↔ isUsed w := by
  unfold condUsed isUsed
  rcases bit_cases (Scalar.cmpi .sgt w 0#32) with hb | hb <;> rw [hb] <;> decide

theorem last_iff (i : grid0.Coords) (w : BitVec 32) : k0_cond3 i w = 1#1 ↔ isUsed w ∧ (i 1).val = 10 := by
  have key : ∀ k : Fin 11,
      (Scalar.cmpi .ne (Scalar.extui (Scalar.andi (0#1) (Scalar.cmpi .eq (BitVec.ofNat 32 k.val) 10#32))) 0#32 = 1#1 ↔ (0#1 = 1#1) ∧ k.val = 10)
      ∧ (Scalar.cmpi .ne (Scalar.extui (Scalar.andi (1#1) (Scalar.cmpi .eq (BitVec.ofNat 32 k.val) 10#32))) 0#32 = 1#1 ↔ (1#1 = 1#1) ∧ k.val = 10) := by decide
  unfold k0_cond3 isUsed
  dsimp only
  rcases bit_cases (Scalar.cmpi .sgt w 0#32) with hb | hb <;> rw [hb]
  · exact (key (i 1)).1
  · exact (key (i 1)).2

theorem zero_iff (i : grid0.Coords) (w : BitVec 32) : k0_cond4 i w = 1#1 ↔ ¬isUsed w ∧ (i 1).val = 10 := by
  have key : ∀ k : Fin 11,
      (Scalar.cmpi .ne (Scalar.extui (Scalar.andi (Scalar.xori (0#1) 1#1) (Scalar.cmpi .eq (BitVec.ofNat 32 k.val) 10#32))) 0#32 = 1#1 ↔ ¬(0#1 = 1#1) ∧ k.val = 10)
      ∧ (Scalar.cmpi .ne (Scalar.extui (Scalar.andi (Scalar.xori (1#1) 1#1) (Scalar.cmpi .eq (BitVec.ofNat 32 k.val) 10#32))) 0#32 = 1#1 ↔ ¬(1#1 = 1#1) ∧ k.val = 10) := by decide
  unfold k0_cond4 isUsed
  dsimp only
  rcases bit_cases (Scalar.cmpi .sgt w 0#32) with hb | hb <;> rw [hb]
  · exact (key (i 1)).1
  · exact (key (i 1)).2

/-- A point's coordinates. -/
theorem coord0 (t : Fin grid0.N) : (grid0.coords t 0).val = t.val / 11 := by
  have ht : t.val < 484 := Nat.lt_of_lt_of_eq t.isLt N_0
  have e : (grid0.coords t 0).val = t.val / 11 % 44 := Pipeline.Grid.coords_val t 0 (by decide) rfl
  omega
theorem coord1 (t : Fin grid0.N) : (grid0.coords t 1).val = t.val % 11 := by
  have e : (grid0.coords t 1).val = t.val / 1 % 11 := Pipeline.Grid.coords_val t 1 (by decide) rfl
  omega

variable (m : (ℓ : Loc nD τ sig) → Buf (Elt F) ℓ) (ρ : Dev nD → PrngReg)

/-! ## The region's entry -/

/-- The launch memory, as the region finds it: the call is the whole program. -/
abbrev mem0 (c : Dev nD) (b : Ref sig .tc) : Buf (Elt F) ((c : Thread nD τ).loc b) := m ((c : Thread nD τ).loc b)

set_option maxHeartbeats 800000 in
theorem entry (𝒱₀ : Variants) :
    Pipeline.HMainP (Ix := Unit) (Name := ℕ) (U := UR sig nD τ) (Lvl := ℕ) pcfgs 0 defs₀ 𝒱₀ m (main (F := F)) (mem0 m) :=
  Pipeline.hmainP_region pcfgs 0 defs₀ 𝒱₀ m main fun c => (main_chain c).trans rfl

/-- The tables' contents. -/
def tab : pre0.Contents (Elt F) := fun j => mem0 m (0 : Dev nD) (pre0.ref j)

theorem tab_eq (c : Dev nD) (j : Fin 2) : mem0 m c (pre0.ref j) = tab m j := by
  obtain rfl : c = 0 := Subsingleton.elim _ _
  rfl

/-- The blocks that the first table's words name lie inside the weights. -/
abbrev Inside : Prop := ok0 (F := F) (tab m)

abbrev admT (hO : Inside m) : (pcfg0 (F := F)).Adm := ⟨tab m, hO⟩
abbrev cfgT (hO : Inside m) : Pipeline.Cfg sig Λ₀ := cfg0 (admT m hO)

theorem tables_eq (c : Dev nD) :
    (Pipeline.ΦT pre0 (tab m) c : sProp 𝕄) = iprop(tabPt c tExp (tab m 0) ∗ tabPt c tUsed (tab m 1)) := by
  unfold Pipeline.ΦT Pipeline.prefHeld
  rw [show (Finset.univ : Finset (Fin 2)) = insert (0 : Fin 2) {(1 : Fin 2)} from by decide,
    bigSep_insert (by decide), bigSep_singleton]
  rfl

/-- Whether the tile of point `n` is used. -/
def usedAt (n : ℕ) : Prop := ∀ h : n / 11 < 44, isUsed (tab m 1 (tile ⟨n / 11, h⟩))

theorem usedAt_iff (c : Dev nD) (t : Fin grid0.N) : isUsed (usedWord (grid0.coords t) c (tab m 1)) ↔ usedAt m t.val := by
  have ht : t.val < 484 := Nat.lt_of_lt_of_eq t.isLt N_0
  have e : grid0.coords t 0 = (⟨t.val / 11, by omega⟩ : Fin 44) := Fin.ext (coord0 t)
  have e1 : usedWord (grid0.coords t) c (tab m 1) = tab m 1 (tile ⟨t.val / 11, by omega⟩) :=
    (usedWord_eq (grid0.coords t) c (tab m 1)).trans (congrArg (fun k => tab m 1 (tile k)) e)
  exact ⟨fun h _ => (congrArg isUsed e1).mp h, fun h => (congrArg isUsed e1).mpr (h _)⟩

/-! ## The blocks, the kept rows, the accumulator and the output -/

variable (hO : Inside m)

/-- A window's block at a point. -/
def blockAt (c : Dev nD) (w : Fin (cfgT m hO).W) (t : Fin (cfgT m hO).N) :
    (((cfgT m hO).win w).xblock ((cfgT m hO).grid.coords t)).Idx → Elt F ((cfgT m hO).win w).elt :=
  (((cfgT m hO).win w).blk t).view.read (Elt F) (mem0 m c (Pipeline.arrRef spec0 w))

theorem N_eq : (cfgT m hO).N = 484 := N_0

/-- The rows that point `s` would keep. -/
def rowsOf (c : Dev nD) (s : ℕ) (hs : s < (cfgT m hO).N) : Vec F S512x2048 .bf16 := k0_pay1 (blockAt m hO c 0 ⟨s, hs⟩)

theorem rowsOf_congr (c : Dev nD) : ∀ {s s' : ℕ} (_ : s = s') (hs : s < (cfgT m hO).N) (hs' : s' < (cfgT m hO).N),
    rowsOf m hO c s hs = rowsOf m hO c s' hs' := by
  rintro s _ rfl _ _
  rfl

/-- The rows kept through the tile of point `n`: those of the tile's first point. -/
def keptAt (c : Dev nD) (n : ℕ) (hn : n < (cfgT m hO).N) : Vec F S512x2048 .bf16 :=
  rowsOf m hO c (11 * (n / 11)) (by omega)

/-- The accumulator after point `n` of a used tile. -/
def sumAt (c : Dev nD) : (n : ℕ) → n < (cfgT m hO).N → Vec F S512x2048 .f32
  | 0, hn => k0_pay3 (keptAt m hO c 0 hn) (blockAt m hO c 1 ⟨0, hn⟩) (blockAt m hO c 2 ⟨0, hn⟩) k0_pay2 (blockAt m hO c 3 ⟨0, hn⟩)
  | n + 1, hn => k0_pay3 (keptAt m hO c (n + 1) hn) (blockAt m hO c 1 ⟨n + 1, hn⟩) (blockAt m hO c 2 ⟨n + 1, hn⟩)
      (if (n + 1) % 11 = 0 then k0_pay2 else sumAt c n (Nat.lt_of_succ_lt hn)) (blockAt m hO c 3 ⟨n + 1, hn⟩)

theorem sumAt_first (c : Dev nD) (t : Fin (cfgT m hO).N) (h : t.val % 11 = 0) :
    sumAt m hO c t.val t.isLt
      = k0_pay3 (k0_pay1 (blockAt m hO c 0 t)) (blockAt m hO c 1 t) (blockAt m hO c 2 t) k0_pay2 (blockAt m hO c 3 t) := by
  obtain ⟨n, hn⟩ := t
  have hk : keptAt m hO c n hn = k0_pay1 (blockAt m hO c 0 ⟨n, hn⟩) :=
    rowsOf_congr m hO c (by dsimp only at h; omega) _ _
  dsimp only
  rw [← hk]
  cases n with
  | zero => rfl
  | succ n => dsimp only at h; rw [sumAt, if_pos h]

theorem sumAt_later (c : Dev nD) (t : Fin (cfgT m hO).N) (h : t.val % 11 ≠ 0) (hp : t.val - 1 < (cfgT m hO).N) :
    sumAt m hO c t.val t.isLt
      = k0_pay3 (keptAt m hO c (t.val - 1) hp) (blockAt m hO c 1 t) (blockAt m hO c 2 t)
          (sumAt m hO c (t.val - 1) hp) (blockAt m hO c 3 t) := by
  obtain ⟨n, hn⟩ := t
  cases n with
  | zero => exact absurd rfl h
  | succ n =>
    dsimp only at h
    have hk : keptAt m hO c (n + 1) hn = keptAt m hO c n hp :=
      rowsOf_congr m hO c (by omega) _ _
    show sumAt m hO c (n + 1) hn = _
    rw [sumAt, if_neg h, hk]
    rfl

open Classical in
/-- The output block of the tile of point `n`, as its last point leaves it. -/
def outAt (c : Dev nD) (n : ℕ) (hn : n < (cfgT m hO).N) : Vec F S512x2048 .f32 :=
  if usedAt m n then sumAt m hO c n hn else k0_pay4

theorem outAt_used (c : Dev nD) (n : ℕ) (hn : n < (cfgT m hO).N) (hu : usedAt m n) : outAt m hO c n hn = sumAt m hO c n hn := by
  unfold outAt; exact if_pos hu
theorem outAt_unused (c : Dev nD) (n : ℕ) (hn : n < (cfgT m hO).N) (hu : ¬usedAt m n) : outAt m hO c n hn = k0_pay4 := by
  unfold outAt; exact if_neg hu

/-! ## The invariant between points and the pipeline's proof data -/

/-- The scratches. -/
abbrev scRows : Memref sig .tc .vmem S512x2048 .bf16 := Memref.whole cc0_scratch0
abbrev scSum : Memref sig .tc .vmem S512x2048 .f32 := Memref.whole cc0_scratch1

theorem rest_eq (c : Dev nD) :
    (Pipeline.ΦA spec0 c : sProp 𝕄)
      = iprop(iprop((∃ d, owns (c : Thread nD τ) scRows fullShare d) ∗ (∃ d, owns (c : Thread nD τ) scSum fullShare d)) ∗ (∃ r, prngReg c r)) := by
  unfold Pipeline.ΦA; rw [scopedRest0_eq]; simp only [scRows, scSum, owns_whole]; rfl

/-- Inside a used tile the scratches hold the rows and the sum that the point before left. -/
def Holds (c : Dev nD) (n : ℕ) (h : Vec F S512x2048 .bf16) (a : Vec F S512x2048 .f32) : Prop :=
  n % 11 ≠ 0 → usedAt m (n - 1) → ∀ hp : n - 1 < (cfgT m hO).N, h = keptAt m hO c (n - 1) hp ∧ a = sumAt m hO c (n - 1) hp

/-- Before point `n`. -/
def inv (c : Dev nD) (n : ℕ) : sProp 𝕄 :=
  iprop((∃ h a, ⌜Holds m hO c n h a⌝ ∗ owns (c : Thread nD τ) scRows fullShare h ∗ owns (c : Thread nD τ) scSum fullShare a)
    ∗ (∃ r, prngReg c r) ∗ Pipeline.ΦT pre0 (tab m) c)

/-- The proof data: the arrays at launch, each input's block, the output block, the invariant. -/
def dat (_ : Fin 1) (c : Dev nD) : Dat τ (Elt F) Unit ℕ (UR sig nD τ) ℕ (cfgT m hO) c where
  A w := mem0 m c (Pipeline.arrRef spec0 w)
  after w t := match w with
    | ⟨0, _⟩ => blockAt m hO c 0 t
    | ⟨1, _⟩ => blockAt m hO c 1 t
    | ⟨2, _⟩ => blockAt m hO c 2 t
    | ⟨3, _⟩ => blockAt m hO c 3 t
    | ⟨4, _⟩ => outAt m hO c t.val t.isLt
  Φ t := inv m hO c t.val
  q _ := fullShare
  owed _ := 0

theorem dat_A (c : Dev nD) (w : Fin (cfgT m hO).W) : (dat m hO 0 c).A w = mem0 m c (Pipeline.arrRef spec0 w) := by
  dsimp only [dat]

theorem after0 (c : Dev nD) (t : Fin (cfgT m hO).N) : (dat m hO 0 c).after 0 t = blockAt m hO c 0 t := by dsimp only [dat]; rfl
theorem after1 (c : Dev nD) (t : Fin (cfgT m hO).N) : (dat m hO 0 c).after 1 t = blockAt m hO c 1 t := by dsimp only [dat]; rfl
theorem after2 (c : Dev nD) (t : Fin (cfgT m hO).N) : (dat m hO 0 c).after 2 t = blockAt m hO c 2 t := by dsimp only [dat]; rfl
theorem after3 (c : Dev nD) (t : Fin (cfgT m hO).N) : (dat m hO 0 c).after 3 t = blockAt m hO c 3 t := by dsimp only [dat]; rfl
theorem after4 (c : Dev nD) (t : Fin (cfgT m hO).N) : (dat m hO 0 c).after 4 t = outAt m hO c t.val t.isLt := by dsimp only [dat]; rfl

/-- Each input's staging buffer holds its block at every point. -/
theorem before0 (c : Dev nD) (t : Fin (cfgT m hO).N) (d) : (dat m hO 0 c).before 0 t d = blockAt m hO c 0 t :=
  ((dat m hO 0 c).before_in_eq_fetched 0 rfl (fun _ => rfl) (fun _ _ _ => rfl)
    (fun t => by rw [after0]; unfold Dat.blockOf blockAt; rw [dat_A]) t d).trans
    (by unfold Dat.fetched Dat.blockOf blockAt; rw [dat_A]; rfl)
theorem before1 (c : Dev nD) (t : Fin (cfgT m hO).N) (d) : (dat m hO 0 c).before 1 t d = blockAt m hO c 1 t :=
  ((dat m hO 0 c).before_in_eq_fetched 1 rfl (fun _ => rfl) (fun _ _ _ => rfl)
    (fun t => by rw [after1]; unfold Dat.blockOf blockAt; rw [dat_A]) t d).trans
    (by unfold Dat.fetched Dat.blockOf blockAt; rw [dat_A]; rfl)
theorem before2 (c : Dev nD) (t : Fin (cfgT m hO).N) (d) : (dat m hO 0 c).before 2 t d = blockAt m hO c 2 t :=
  ((dat m hO 0 c).before_in_eq_fetched 2 rfl (fun _ => rfl) (fun _ _ _ => rfl)
    (fun t => by rw [after2]; unfold Dat.blockOf blockAt; rw [dat_A]) t d).trans
    (by unfold Dat.fetched Dat.blockOf blockAt; rw [dat_A]; rfl)
theorem before3 (c : Dev nD) (t : Fin (cfgT m hO).N) (d) : (dat m hO 0 c).before 3 t d = blockAt m hO c 3 t :=
  ((dat m hO 0 c).before_in_eq_fetched 3 rfl (fun _ => rfl) (fun _ _ _ => rfl)
    (fun t => by rw [after3]; unfold Dat.blockOf blockAt; rw [dat_A]) t d).trans
    (by unfold Dat.fetched Dat.blockOf blockAt; rw [dat_A]; rfl)

/-! ## Where the output block is stored into and written back -/

theorem live (w : Fin 4) (t : Fin (cfgT m hO).N) : (cfgT m hO).idle (w.castSucc) (grid0.coords t) = false := by
  fin_cases w <;> rfl

theorem idle_out (c : Dev nD) (t : Fin (cfgT m hO).N) (h : t.val % 11 ≠ 10) : (cfgT m hO).idle 4 (grid0.coords t) = true := by
  show (!(k0_cond3 (grid0.coords t) ((tab m).atD 1 (k0_off1 (grid0.coords t))) == 1#1)
    && !(k0_cond4 (grid0.coords t) ((tab m).atD 1 (k0_off1 (grid0.coords t))) == 1#1)) = true
  have h3 : ¬k0_cond3 (grid0.coords t) ((tab m).atD 1 (k0_off1 (grid0.coords t))) = 1#1 := fun e =>
    h ((coord1 t).symm.trans ((last_iff _ _).1 e).2)
  have h4 : ¬k0_cond4 (grid0.coords t) ((tab m).atD 1 (k0_off1 (grid0.coords t))) = 1#1 := fun e =>
    h ((coord1 t).symm.trans ((zero_iff _ _).1 e).2)
  simp only [beq_iff_eq, h3, h4, Bool.and_eq_true, Bool.not_eq_true', beq_eq_false_iff_ne, ne_eq, not_false_eq_true, and_self]

theorem live_out (c : Dev nD) (t : Fin (cfgT m hO).N) (h : t.val % 11 = 10) : (cfgT m hO).idle 4 (grid0.coords t) = false := by
  show (!(k0_cond3 (grid0.coords t) ((tab m).atD 1 (k0_off1 (grid0.coords t))) == 1#1)
    && !(k0_cond4 (grid0.coords t) ((tab m).atD 1 (k0_off1 (grid0.coords t))) == 1#1)) = false
  by_cases hu : isUsed ((tab m).atD 1 (k0_off1 (grid0.coords t)))
  · have e := (last_iff (grid0.coords t) _).2 ⟨hu, (coord1 t).trans h⟩
    simp only [e, BEq.rfl, Bool.not_true, Bool.false_and]
  · have e := (zero_iff (grid0.coords t) _).2 ⟨hu, (coord1 t).trans h⟩
    simp only [e, BEq.rfl, Bool.not_true, Bool.and_false]

theorem flush_out (t : Fin (cfgT m hO).N) : ((cfgT m hO).win 4).flush t = true ↔ t.val % 11 = 10 :=
  (fun t => Pipeline.Window.flushOf_reads cc0_transform_4 reads0_4 hreads0_4 0 (by decide) (by decide)
    (Pipeline.Window.sep_of_coord cc0_transform_4 0 0 (fun _ => rfl) (by decide)) (P := 11) (m := 10) (by decide) rfl t :
    ∀ t : Fin grid0.N, Pipeline.Window.flushOf grid0 true cc0_transform_4 t = true ↔ t.val % 11 = 10) t

theorem noFlush_out (t : Fin (cfgT m hO).N) (h : t.val % 11 ≠ 10) : ((cfgT m hO).win 4).flush t = false :=
  Bool.eq_false_iff.2 fun e => h ((flush_out m hO t).1 e)

/-! ## The body at a point -/

/-- What the body is called with at point `t`, -/
def pre (c : Dev nD) (t : Fin (cfgT m hO).N) : sProp 𝕄 :=
  iprop((dat m hO 0 c).Φ t.castSucc ∗ (dat m hO 0 c).owesAt () t.castSucc
    ∗ (∃ d, owns (c : Thread nD τ) (spec0_0.stage ((cfgT m hO).slots t 0)) fullShare ((dat m hO 0 c).before 0 t d))
    ∗ (∃ d, owns (c : Thread nD τ) (spec0_1.stage ((cfgT m hO).slots t 1)) fullShare ((dat m hO 0 c).before 1 t d))
    ∗ (∃ d, owns (c : Thread nD τ) (spec0_2.stage ((cfgT m hO).slots t 2)) fullShare ((dat m hO 0 c).before 2 t d))
    ∗ (∃ d, owns (c : Thread nD τ) (spec0_3.stage ((cfgT m hO).slots t 3)) fullShare ((dat m hO 0 c).before 3 t d))
    ∗ (∃ d, owns (c : Thread nD τ) (spec0_4.stage ((cfgT m hO).slots t 4)) fullShare ((dat m hO 0 c).before 4 t d)))

/-- what it returns, -/
def post (c : Dev nD) (t : Fin (cfgT m hO).N) : sProp 𝕄 :=
  iprop((dat m hO 0 c).Φ t.succ ∗ (dat m hO 0 c).owesAt () t.succ
    ∗ (dat m hO 0 c).leavesExact 0 t ∗ (dat m hO 0 c).leavesExact 1 t ∗ (dat m hO 0 c).leavesExact 2 t
    ∗ (dat m hO 0 c).leavesExact 3 t ∗ (dat m hO 0 c).leavesExact 4 t)

/-- and the body as the pipeline calls it. -/
abbrev bodyAt (t : Fin (cfgT m hO).N) : Prog (TpuEff nD τ sig (Elt F) Λ₀ .tc) PUnit :=
  cc0_moe_experts (grid0.coords t) tExp hExp tUsed hUsed
    (spec0_0.stage ((cfgT m hO).slots t 0)) (hstage0_0 (((cfgT m hO).slots t 0).cast nbuf0_0))
    (spec0_1.stage ((cfgT m hO).slots t 1)) (hstage0_1 (((cfgT m hO).slots t 1).cast nbuf0_1))
    (spec0_2.stage ((cfgT m hO).slots t 2)) (hstage0_2 (((cfgT m hO).slots t 2).cast nbuf0_2))
    (spec0_3.stage ((cfgT m hO).slots t 3)) (hstage0_3 (((cfgT m hO).slots t 3).cast nbuf0_3))
    (spec0_4.stage ((cfgT m hO).slots t 4)) (hstage0_4 (((cfgT m hO).slots t 4).cast nbuf0_4))
    scRows (Memref.isWhole_whole _) scSum (Memref.isWhole_whole _)

theorem leaves0 (c : Dev nD) (t : Fin (cfgT m hO).N) : (dat m hO 0 c).leavesExact 0 t
    = owns (c : Thread nD τ) (spec0_0.stage ((cfgT m hO).slots t 0)) fullShare (blockAt m hO c 0 t) := by
  rw [← after0]; unfold Dat.leavesExact; rw [show (cfgT m hO).idle 0 _ = false from live m hO 0 t]; rfl
theorem leaves1 (c : Dev nD) (t : Fin (cfgT m hO).N) : (dat m hO 0 c).leavesExact 1 t
    = owns (c : Thread nD τ) (spec0_1.stage ((cfgT m hO).slots t 1)) fullShare (blockAt m hO c 1 t) := by
  rw [← after1]; unfold Dat.leavesExact; rw [show (cfgT m hO).idle 1 _ = false from live m hO 1 t]; rfl
theorem leaves2 (c : Dev nD) (t : Fin (cfgT m hO).N) : (dat m hO 0 c).leavesExact 2 t
    = owns (c : Thread nD τ) (spec0_2.stage ((cfgT m hO).slots t 2)) fullShare (blockAt m hO c 2 t) := by
  rw [← after2]; unfold Dat.leavesExact; rw [show (cfgT m hO).idle 2 _ = false from live m hO 2 t]; rfl
theorem leaves3 (c : Dev nD) (t : Fin (cfgT m hO).N) : (dat m hO 0 c).leavesExact 3 t
    = owns (c : Thread nD τ) (spec0_3.stage ((cfgT m hO).slots t 3)) fullShare (blockAt m hO c 3 t) := by
  rw [← after3]; unfold Dat.leavesExact; rw [show (cfgT m hO).idle 3 _ = false from live m hO 3 t]; rfl
theorem leaves4 (c : Dev nD) (t : Fin (cfgT m hO).N) (h : t.val % 11 = 10) : (dat m hO 0 c).leavesExact 4 t
    = owns (c : Thread nD τ) (spec0_4.stage ((cfgT m hO).slots t 4)) fullShare (outAt m hO c t.val t.isLt) := by
  rw [← after4]; unfold Dat.leavesExact; rw [live_out m hO c t h]; rfl

/-- After a used tile's point the scratches hold that point's rows and sum; -/
theorem holds_used (c : Dev nD) (t : Fin (cfgT m hO).N) (h : Vec F S512x2048 .bf16) (a : Vec F S512x2048 .f32)
    (eh : h = keptAt m hO c t.val t.isLt) (ea : a = sumAt m hO c t.val t.isLt) : Holds m hO c (t.val + 1) h a :=
  fun _ _ _ => ⟨eh, ea⟩

/-- after an unused tile's they may hold anything. -/
theorem holds_unused (c : Dev nD) (t : Fin (cfgT m hO).N) (hu : ¬usedAt m t.val) (h : Vec F S512x2048 .bf16)
    (a : Vec F S512x2048 .f32) : Holds m hO c (t.val + 1) h a :=
  fun _ h' _ => absurd h' hu

/-- A tile's later point has the tile of the point before. -/
theorem usedAt_prev (n : ℕ) (h : n % 11 ≠ 0) (hu : usedAt m n) : usedAt m (n - 1) := by
  have e : (n - 1) / 11 = n / 11 := by omega
  unfold usedAt at hu ⊢
  rw [e]; exact hu

set_option maxHeartbeats 4000000 in
/-- The body takes the invariant before a point to the invariant after it, on the path the point and its tile name. -/
theorem body_at (c : Dev nD) (t : Fin (cfgT m hO).N) :
    pre m hO c t ⊢ wp frame (wpE (defs₀ (F := F)) Variants.none c none) Set.univ (bodyAt m hO t) (fun _ => post m hO c t) := by
  unfold pre post bodyAt
  simp only [before0, before1, before2, before3]
  rw [show (dat m hO 0 c).owesAt () t.succ = (dat m hO 0 c).owesAt () t.castSucc from rfl,
    show (dat m hO 0 c).Φ t.succ = inv m hO c (t.val + 1) from rfl, show (dat m hO 0 c).Φ t.castSucc = inv m hO c t.val from rfl]
  unfold inv
  rw [tables_eq, leaves0, leaves1, leaves2, leaves3]
  have hc1 := coord1 t
  have huw := usedAt_iff m c t
  iintro ⟨⟨⟨%h, %a, %hold, HS0, HS1⟩, Hg, HT0, HT1⟩, Ho, ⟨%d0, H0⟩, ⟨%d1, H1⟩, ⟨%d2, H2⟩, ⟨%d3, H3⟩, ⟨%d4, H4⟩⟩
  by_cases hu : usedAt m t.val
  · have hw := huw.2 hu
    by_cases h0 : t.val % 11 = 0
    · have hk : t.val % 11 ≠ 10 := by omega
      have ek : k0_pay1 (blockAt m hO c 0 t) = keptAt m hO c t.val t.isLt :=
        rowsOf_congr m hO c (s := t.val) (s' := 11 * (t.val / 11)) (by omega) t.isLt _
      have es := (sumAt_first m hO c t h0).symm
      rw [Dat.leavesExact_idle (dat m hO 0 c) 4 t (idle_out m hO c t hk) (noFlush_out m hO t hk)]
      iapply (first c (grid0.coords t) _ _ _ _ _ _ _ _ _ _ _ _ _ _ (tab m 0) (tab m 1) (blockAt m hO c 0 t) (blockAt m hO c 1 t) (blockAt m hO c 2 t) (blockAt m hO c 3 t) _ h a
        ((first_iff _ _).2 ⟨hw, hc1.trans h0⟩) ((used_iff _).2 hw) (fun e => hk (hc1.symm.trans ((last_iff _ _).1 e).2)) (fun e => ((zero_iff _ _).1 e).1 hw) Set.univ _)
      isplitl [H0]; · iexact H0
      isplitl [H1]; · iexact H1
      isplitl [H2]; · iexact H2
      isplitl [H3]; · iexact H3
      isplitl [HT0]; · iexact HT0
      isplitl [HT1]; · iexact HT1
      isplitl [H4]; · iexact H4
      isplitl [HS0]; · iexact HS0
      isplitl [HS1]; · iexact HS1
      iintro ⟨H0, H1, H2, H3, HT0, HT1, H4, HS0, HS1⟩
      isplitl [HS0 HS1 Hg HT0 HT1]
      · isplitl [HS0 HS1]
        · iexists _; iexists _; isplitr
          · ipureintro; exact holds_used m hO c t _ _ ek es
          isplitl [HS0]; · iexact HS0
          iexact HS1
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4
    · have hp : t.val - 1 < (cfgT m hO).N := by have := t.isLt; omega
      obtain ⟨rfl, rfl⟩ := hold h0 (usedAt_prev m _ h0 hu) hp
      have ek : keptAt m hO c (t.val - 1) hp = keptAt m hO c t.val t.isLt := rowsOf_congr m hO c (by omega) _ _
      have es := (sumAt_later m hO c t h0 hp).symm
      by_cases hk : t.val % 11 = 10
      · rw [leaves4 m hO c t hk, outAt_used m hO c _ _ hu, ← es]
        iapply (last c (grid0.coords t) _ _ _ _ _ _ _ _ _ _ _ _ _ _ (tab m 0) (tab m 1) (blockAt m hO c 0 t) (blockAt m hO c 1 t) (blockAt m hO c 2 t) (blockAt m hO c 3 t) _ _ _
          (fun e => h0 (hc1.symm.trans ((first_iff _ _).1 e).2)) ((used_iff _).2 hw) ((last_iff _ _).2 ⟨hw, hc1.trans hk⟩) (fun e => ((zero_iff _ _).1 e).1 hw) Set.univ _)
        isplitl [H0]; · iexact H0
        isplitl [H1]; · iexact H1
        isplitl [H2]; · iexact H2
        isplitl [H3]; · iexact H3
        isplitl [HT0]; · iexact HT0
        isplitl [HT1]; · iexact HT1
        isplitl [H4]; · iexact H4
        isplitl [HS0]; · iexact HS0
        isplitl [HS1]; · iexact HS1
        iintro ⟨H0, H1, H2, H3, HT0, HT1, H4, HS0, HS1⟩
        isplitl [HS0 HS1 Hg HT0 HT1]
        · isplitl [HS0 HS1]
          · iexists _; iexists _; isplitr
            · ipureintro; exact holds_used m hO c t _ _ ek es
            isplitl [HS0]; · iexact HS0
            iexact HS1
          isplitl [Hg]; · iexact Hg
          isplitl [HT0]; · iexact HT0
          iexact HT1
        isplitl [Ho]; · iexact Ho
        isplitl [H0]; · iexact H0
        isplitl [H1]; · iexact H1
        isplitl [H2]; · iexact H2
        isplitl [H3]; · iexact H3
        iexact H4
      · rw [Dat.leavesExact_idle (dat m hO 0 c) 4 t (idle_out m hO c t hk) (noFlush_out m hO t hk)]
        iapply (middle c (grid0.coords t) _ _ _ _ _ _ _ _ _ _ _ _ _ _ (tab m 0) (tab m 1) (blockAt m hO c 0 t) (blockAt m hO c 1 t) (blockAt m hO c 2 t) (blockAt m hO c 3 t) _ _ _
          (fun e => h0 (hc1.symm.trans ((first_iff _ _).1 e).2)) ((used_iff _).2 hw) (fun e => hk (hc1.symm.trans ((last_iff _ _).1 e).2)) (fun e => ((zero_iff _ _).1 e).1 hw) Set.univ _)
        isplitl [H0]; · iexact H0
        isplitl [H1]; · iexact H1
        isplitl [H2]; · iexact H2
        isplitl [H3]; · iexact H3
        isplitl [HT0]; · iexact HT0
        isplitl [HT1]; · iexact HT1
        isplitl [H4]; · iexact H4
        isplitl [HS0]; · iexact HS0
        isplitl [HS1]; · iexact HS1
        iintro ⟨H0, H1, H2, H3, HT0, HT1, H4, HS0, HS1⟩
        isplitl [HS0 HS1 Hg HT0 HT1]
        · isplitl [HS0 HS1]
          · iexists _; iexists _; isplitr
            · ipureintro; exact holds_used m hO c t _ _ ek es
            isplitl [HS0]; · iexact HS0
            iexact HS1
          isplitl [Hg]; · iexact Hg
          isplitl [HT0]; · iexact HT0
          iexact HT1
        isplitl [Ho]; · iexact Ho
        isplitl [H0]; · iexact H0
        isplitl [H1]; · iexact H1
        isplitl [H2]; · iexact H2
        isplitl [H3]; · iexact H3
        iexists _; iexact H4
  · have hw : ¬isUsed (usedWord (grid0.coords t) c (tab m 1)) := fun e => hu (huw.1 e)
    by_cases hk : t.val % 11 = 10
    · rw [leaves4 m hO c t hk, outAt_unused m hO c _ _ hu]
      iapply (zero c (grid0.coords t) _ _ _ _ _ _ _ _ _ _ _ _ _ _ (tab m 0) (tab m 1) (blockAt m hO c 0 t) (blockAt m hO c 1 t) (blockAt m hO c 2 t) (blockAt m hO c 3 t) _ h a
        (fun e => hw ((first_iff _ _).1 e).1) (fun e => hw ((used_iff _).1 e)) (fun e => hw ((last_iff _ _).1 e).1) ((zero_iff _ _).2 ⟨hw, hc1.trans hk⟩) Set.univ _)
      isplitl [H0]; · iexact H0
      isplitl [H1]; · iexact H1
      isplitl [H2]; · iexact H2
      isplitl [H3]; · iexact H3
      isplitl [HT0]; · iexact HT0
      isplitl [HT1]; · iexact HT1
      isplitl [H4]; · iexact H4
      isplitl [HS0]; · iexact HS0
      isplitl [HS1]; · iexact HS1
      iintro ⟨H0, H1, H2, H3, HT0, HT1, H4, HS0, HS1⟩
      isplitl [HS0 HS1 Hg HT0 HT1]
      · isplitl [HS0 HS1]
        · iexists h; iexists a; isplitr
          · ipureintro; exact holds_unused m hO c t hu h a
          isplitl [HS0]; · iexact HS0
          iexact HS1
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4
    · rw [Dat.leavesExact_idle (dat m hO 0 c) 4 t (idle_out m hO c t hk) (noFlush_out m hO t hk)]
      iapply (idle c (grid0.coords t) _ _ _ _ _ _ _ _ _ _ _ _ _ _ (tab m 0) (tab m 1) (blockAt m hO c 0 t) (blockAt m hO c 1 t) (blockAt m hO c 2 t) (blockAt m hO c 3 t) _ h a
        (fun e => hw ((first_iff _ _).1 e).1) (fun e => hw ((used_iff _).1 e)) (fun e => hw ((last_iff _ _).1 e).1) (fun e => hk (hc1.symm.trans ((zero_iff _ _).1 e).2)) Set.univ _)
      isplitl [H0]; · iexact H0
      isplitl [H1]; · iexact H1
      isplitl [H2]; · iexact H2
      isplitl [H3]; · iexact H3
      isplitl [HT0]; · iexact HT0
      isplitl [HT1]; · iexact HT1
      isplitl [H4]; · iexact H4
      isplitl [HS0]; · iexact HS0
      isplitl [HS1]; · iexact HS1
      iintro ⟨H0, H1, H2, H3, HT0, HT1, H4, HS0, HS1⟩
      isplitl [HS0 HS1 Hg HT0 HT1]
      · isplitl [HS0 HS1]
        · iexists h; iexists a; isplitr
          · ipureintro; exact holds_unused m hO c t hu h a
          isplitl [HS0]; · iexact HS0
          iexact HS1
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4

theorem bodyRow (t : Fin (cfgT m hO).N) :
    defs₀ (F := F) .tc (cfgT m hO).body ((cfgT m hO).bodyArgs t ((cfgT m hO).slots t)) = bodyAt m hO t := by
  unfold defs₀; rw [Defs.onTc_tc]

/-- The pipeline's obligation of the body, at every point. -/
theorem obligation (c : Dev nD) : BodyObligation (dat (F := F) m hO 0 c) (defs₀ (F := F)) Variants.none () Set.univ := fun t => by
  rw [bigSep_W0, bigSep_W0, bodyRow m hO]
  exact triple_restated (body_at m hO c t) rfl .rfl fun _ => .rfl

/-! ## The run -/

/-- What the launch hands the region is the invariant before the first point, -/
theorem inv_in (c : Dev nD) : iprop(Pipeline.ΦA spec0 c ∗ Pipeline.ΦT pre0 (tab m) c) ⊢ (dat m hO 0 c).Φ 0 := by
  rw [show (dat m hO 0 c).Φ 0 = inv m hO c 0 from rfl, rest_eq]
  unfold inv
  iintro ⟨⟨⟨⟨%h, HS0⟩, ⟨%a, HS1⟩⟩, Hg⟩, HT⟩
  isplitl [HS0 HS1]
  · iexists h; iexists a; isplitr
    · ipureintro; exact fun h0 => absurd rfl h0
    isplitl [HS0]; · iexact HS0
    iexact HS1
  isplitl [Hg]; · iexact Hg
  iexact HT

/-- and the invariant after the last one gives the scratches back. -/
theorem inv_out (c : Dev nD) : (dat m hO 0 c).Φ (Fin.last (cfgT m hO).N) ⊢ Pipeline.ΦA spec0 c := by
  rw [show (dat m hO 0 c).Φ (Fin.last (cfgT m hO).N) = inv m hO c (cfgT m hO).N from rfl, rest_eq]
  unfold inv
  iintro ⟨⟨%h, %a, %hold, HS0, HS1⟩, Hg, -⟩
  isplitl [HS0 HS1]
  · isplitl [HS0]
    · iexists _; iexact HS0
    iexists _; iexact HS1
  iexact Hg

set_option backward.isDefEq.respectTransparency.types false in
/-- From any memory every execution ends, every array at what the pipeline leaves in it and every counter at zero. -/
theorem run_all : θ_run defs (onTc (τ := τ) (main (F := F))) (s₀ m ρ)
    (fun r => (Pipeline.FramePost (Pipeline.pin pcfgs fun _ => admT m hO) (dat m hO) 0 (mem0 m)) r ∧ r.2.sem = fun _ => 0) :=
  Pipeline.θ_run_frameP_track (Q' := _) pcfgs (fun _ => admT m hO) (dat m hO) (0 : Fin 1) launch0 defs₀ Variants.none m ρ main
    (hbody := fun c => (obligation m hO c).loose) (hshare := fun c => (dat m hO 0 c).share_full fun _ => rfl)
    (howed := fun _ _ => rfl) (V := mem0 m) (hmain := entry m Variants.none) (hA := dat_A m hO) (hpf := tab_eq m)
    (hin := inv_in m hO) (hout := inv_out m hO)

/-- The result array at what the pipeline leaves in it, the arguments as they were, the counters at zero. -/
theorem run : θ_run defs (onTc (τ := τ) (main (F := F))) ⟨m, fun _ => 0, ρ⟩ (fun r => (∀ c : Dev nD,
      r.2.mem ((c.tc : Thread nD τ).loc main_v0) = (dat m hO 0 c).arrAt 4 (cfgT m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 4,
      (h.1 c).2 main_arg0 (by decide : main_arg0 ∈ Pipeline.restRefs sig spec0),
      (h.1 c).2 main_arg1 (by decide : main_arg1 ∈ Pipeline.restRefs sig spec0),
      ((h.1 c).1 0).trans (((dat m hO 0 c).arrAt_in 0 rfl _).trans (dat_A m hO c 0)),
      ((h.1 c).1 1).trans (((dat m hO 0 c).arrAt_in 1 rfl _).trans (dat_A m hO c 1)),
      ((h.1 c).1 2).trans (((dat m hO 0 c).arrAt_in 2 rfl _).trans (dat_A m hO c 2)),
      ((h.1 c).1 3).trans (((dat m hO 0 c).arrAt_in 3 rfl _).trans (dat_A m hO c 3))⟩, h.2⟩) (run_all m ρ hO)

end Cert.KernelMoeIdeal.Run

end
-- ==== Proof.MoeIdealTables.lean ====
/-
  What the two tables say: which blocks of the weights a point of the expert call reads, and that these lie inside the
  weights when every tile's expert is one of the eight.
-/
module

public import proofs.«01_k».proof.Proof.MoeIdealFrame
public import proofs.«01_k».proof.Proof.Gen.Pre_experts_in_range

@[expose] public section

set_option maxRecDepth 16384

noncomputable section

namespace Cert.KernelMoeIdeal.Run

open Cert.KernelMoeIdeal Cert.KernelMoeIdeal.Gen Cert.Layer
open Idealize.ShloMosaic Idealize.ShloMosaic.TcCoe Idealize.SL.Sem

variable {F : FTy → Type} [FloatOps F]

/-- The word of table `j` that an index map reads at a point is its tile's. -/
theorem at_eq (pf : pre0.Contents (Elt F)) (i : grid0.Coords) (h : ∀ a, (![(Scalar.indexCast (BitVec.ofNat 32 (i 0).val) : Index).toNat] : Fin 1 → Nat) a + S1.size a ≤ S44.size a) :
    (pf.at 0 (Rect.unit (s := S44) ![(Scalar.indexCast (BitVec.ofNat 32 (i 0).val) : Index).toNat] S1.size h) numel1_S1 : BitVec 32) = pf 0 (tile (i 0))
    ∧ (pf.at 1 (Rect.unit (s := S44) ![(Scalar.indexCast (BitVec.ofNat 32 (i 0).val) : Index).toNat] S1.size h) numel1_S1 : BitVec 32) = pf 1 (tile (i 0)) := by
  have e : (Rect.unit (s := S44) ![(Scalar.indexCast (BitVec.ofNat 32 (i 0).val) : Index).toNat] S1.size h).emb (Shape.Idx.first (numel1_S1.symm ▸ Nat.one_pos)) = tile (i 0) := by
    refine funext fun a => Fin.ext ?_
    match a with
    | ⟨0, _⟩ => show k0_off1 i 0 + 1 * 0 = _; rw [off_eq]; rfl
  exact ⟨congrArg (pf 0) e, congrArg (pf 1) e⟩

/-- The feature block a point reads: its own in a used tile, the last one in an unused tile. -/
def featBlock (w : BitVec 32) (k : Fin 11) : ℕ := if isUsed w then k.val else 10

theorem featBlock_lt (w : BitVec 32) (k : Fin 11) : featBlock w k < 11 := by
  unfold featBlock; split <;> omega

theorem select_eq (w : BitVec 32) (k : Fin 11) :
    (Scalar.select (Scalar.cmpi .sgt w 0#32) (BitVec.ofNat 32 k.val) 10#32 : BitVec 32).toNat = featBlock w k := by
  have key : ∀ k : Fin 11, (Scalar.select (0#1) (BitVec.ofNat 32 k.val) 10#32 : BitVec 32).toNat = 10
      ∧ (Scalar.select (1#1) (BitVec.ofNat 32 k.val) 10#32 : BitVec 32).toNat = k.val := by decide
  unfold featBlock
  rcases bit_cases (Scalar.cmpi .sgt w 0#32) with hb | hb
  · have hn : ¬isUsed w := fun e => absurd (hb.symm.trans e) (by decide : ¬(0#1 = 1#1))
    rw [if_neg hn, hb]
    exact (key k).1
  · have hy : isUsed w := hb
    rw [if_pos hy, hb]
    exact (key k).2

/-- A point's block of the two up-projections, -/
theorem idx1 (pf : pre0.Contents (Elt F)) (i : grid0.Coords) : cc0_transform_1 k0_off1_inb numel1_S1 pf i
    = ![(pf 0 (tile (i 0)) : BitVec 32).toNat, 0, featBlock (pf 1 (tile (i 0))) (i 1)] := by
  obtain ⟨e0, e1⟩ := at_eq pf i (k0_off1_inb i)
  unfold cc0_transform_1
  dsimp only
  rw [e0, e1]
  exact congrArg (fun n : ℕ => (![(pf 0 (tile (i 0)) : BitVec 32).toNat, 0, n] : Fin 3 → ℕ)) (select_eq (pf 1 (tile (i 0))) (i 1))

theorem idx2 (pf : pre0.Contents (Elt F)) (i : grid0.Coords) : cc0_transform_2 k0_off1_inb numel1_S1 pf i
    = ![(pf 0 (tile (i 0)) : BitVec 32).toNat, 0, featBlock (pf 1 (tile (i 0))) (i 1)] := by
  obtain ⟨e0, e1⟩ := at_eq pf i (k0_off1_inb i)
  unfold cc0_transform_2
  dsimp only
  rw [e0, e1]
  exact congrArg (fun n : ℕ => (![(pf 0 (tile (i 0)) : BitVec 32).toNat, 0, n] : Fin 3 → ℕ)) (select_eq (pf 1 (tile (i 0))) (i 1))

/-- and of the down-projection. -/
theorem idx3 (pf : pre0.Contents (Elt F)) (i : grid0.Coords) : cc0_transform_3 k0_off1_inb numel1_S1 pf i
    = ![(pf 0 (tile (i 0)) : BitVec 32).toNat, featBlock (pf 1 (tile (i 0))) (i 1), 0] := by
  obtain ⟨e0, e1⟩ := at_eq pf i (k0_off1_inb i)
  unfold cc0_transform_3
  dsimp only
  rw [e0, e1]
  exact congrArg (fun n : ℕ => (![(pf 0 (tile (i 0)) : BitVec 32).toNat, n, 0] : Fin 3 → ℕ)) (select_eq (pf 1 (tile (i 0))) (i 1))

/-- With every tile's expert one of the eight, the blocks lie inside the weights. -/
theorem inside_of (pf : pre0.Contents (Elt F)) (h : ∀ k : Fin 44, (pf 0 (tile k) : BitVec 32).toNat < 8) : ok0 (F := F) pf := by
  refine ⟨fun i => ⟨?_, .inr (Affine.block_words_dvd (by decide) (by decide))⟩,
    fun i => ⟨?_, .inr (Affine.block_words_dvd (by decide) (by decide))⟩,
    fun i => ⟨?_, .inr (Affine.block_words_dvd (by decide) (by decide))⟩⟩
  · have he := h (i 0)
    have hf := featBlock_lt (pf 1 (tile (i 0))) (i 1)
    rw [idx1]
    intro a
    match a with
    | ⟨0, _⟩ => show ((pf 0 (tile (i 0)) : BitVec 32).toNat + 1) * 1 ≤ 8; omega
    | ⟨1, _⟩ => show (0 + 1) * 2048 ≤ 2048; omega
    | ⟨2, _⟩ => show (featBlock (pf 1 (tile (i 0))) (i 1) + 1) * 256 ≤ 2816; omega
  · have he := h (i 0)
    have hf := featBlock_lt (pf 1 (tile (i 0))) (i 1)
    rw [idx2]
    intro a
    match a with
    | ⟨0, _⟩ => show ((pf 0 (tile (i 0)) : BitVec 32).toNat + 1) * 1 ≤ 8; omega
    | ⟨1, _⟩ => show (0 + 1) * 2048 ≤ 2048; omega
    | ⟨2, _⟩ => show (featBlock (pf 1 (tile (i 0))) (i 1) + 1) * 256 ≤ 2816; omega
  · have he := h (i 0)
    have hf := featBlock_lt (pf 1 (tile (i 0))) (i 1)
    rw [idx3]
    intro a
    match a with
    | ⟨0, _⟩ => show ((pf 0 (tile (i 0)) : BitVec 32).toNat + 1) * 1 ≤ 8; omega
    | ⟨1, _⟩ => show (featBlock (pf 1 (tile (i 0))) (i 1) + 1) * 256 ≤ 2816; omega
    | ⟨2, _⟩ => show (0 + 1) * 2048 ≤ 2048; omega

/-- A word between 0 and 8, as a number. -/
theorem word_lt (w : BitVec 32) (h0 : IntOp.cmpi .sge w 0#32 = 1#1) (h8 : IntOp.cmpi .slt w 8#32 = 1#1) : w.toNat < 8 := by
  have one (p : Bool) : (BitVec.ofBool p = 1#1) ↔ p = true := by cases p <;> decide
  simp only [one, IntOp.cmpi, BitVec.sle, BitVec.slt, decide_eq_true_eq, BitVec.toInt, BitVec.toNat_ofNat] at h0 h8
  omega

/-- The precondition says that every tile's expert is one of the eight. -/
theorem expert_lt (te nr : IVec S44 32) (xs : FVec F S22528x2048 .f32) (wg wu : FVec F S8x2048x2816 .bf16) (wd : FVec F S8x2816x2048 .bf16)
    (h : Cert.Pre_experts_in_range.fn (F := F) te nr xs wg wu wd = fun _ => 1#1) (k : Fin 44) : (te (tile k)).toNat < 8 := by
  have both (a b : BitVec 1) : IntOp.andi a b = 1#1 ↔ a = 1#1 ∧ b = 1#1 := by revert a b; decide
  have h' := congrFun h (tile k)
  simp only [Cert.Pre_experts_in_range.fn, constantI, broadcastInDim, cmpi, andi, both] at h'
  exact word_lt _ h'.1 h'.2

end Cert.KernelMoeIdeal.Run

end
-- ==== Proof.MoeSame.lean ====
/-
  The experts' call as printed for bits and as printed for the extended reals is one program: what the run of the one
  shows for any float values holds of the other.
-/
module

public import proofs.«01_k».proof.Defs
public import proofs.«01_k».proof.Proof.MoeIdealTables

@[expose] public section

set_option maxRecDepth 16384

noncomputable section

open Idealize.ShloMosaic Idealize.ShloMosaic.TcCoe Idealize.SL.Sem

namespace Cert.KernelMoeIdeal.Run

variable [hh : Cert.KernelMoe.Facts] [hi : Cert.KernelMoeIdeal.Facts]
set_option maxHeartbeats 4000000 in
/-- The two launches are one. -/
theorem main_same : @Cert.KernelMoe.main Bits _ _ = @Cert.KernelMoeIdeal.main Bits _ _ := rfl

/-- The two bodies are one. -/
theorem body_same : @Cert.KernelMoe.cc0_moe_experts Bits _ _ = @Cert.KernelMoeIdeal.cc0_moe_experts Bits _ _ := by
  with_unfolding_all rfl
set_option maxHeartbeats 4000000 in
/-- So the kernels' tables of bodies are, -/
theorem defs0_same : @Cert.KernelMoe.defs₀ Bits _ _ = @Cert.KernelMoeIdeal.defs₀ Bits _ _ := by
  unfold Cert.KernelMoe.defs₀ Cert.KernelMoeIdeal.defs₀
  refine congrArg _ ?_
  funext ℓ x
  match ℓ with
  | 0 =>
    show Cert.KernelMoe.cc0_moe_experts _ _ _ _ _ _ _ _ _ _ _ _ _ _ _ _ _ _ _ = Cert.KernelMoeIdeal.cc0_moe_experts _ _ _ _ _ _ _ _ _ _ _ _ _ _ _ _ _ _ _
    rw [body_same]
    rfl

set_option maxHeartbeats 4000000 in
/-- and the whole tables of bodies. -/
theorem defs_same : @Cert.KernelMoe.defs Bits _ _ = @Cert.KernelMoeIdeal.defs Bits _ _ := by
  unfold Cert.KernelMoe.defs Cert.KernelMoeIdeal.defs
  rw [defs0_same]
  rfl

set_option maxHeartbeats 4000000 in
/-- The expert call runs, leaves its arguments alone, and ends with every counter at zero, when every tile's expert is one of the eight. -/
theorem frame_KernelMoe [hP : Cert.Pre_experts_in_range.Facts] : Cert.quiescent_KernelMoe := by
  intro m g hpre
  have hO : Cert.KernelMoeIdeal.Run.Inside (F := Bits) m :=
    Cert.KernelMoeIdeal.Run.inside_of _ (fun k => Cert.KernelMoeIdeal.Run.expert_lt _ _ _ _ _ _ (hpre 0) k)
  have e := Cert.KernelMoeIdeal.Run.run (F := Bits) m g hO
  rw [defs_same, main_same]
  exact (θ_run Cert.KernelMoeIdeal.defs (onTc Cert.KernelMoeIdeal.main) _).mono (fun r h => ⟨fun c => (h.1 c).2, h.2⟩) e

end Cert.KernelMoeIdeal.Run

end
-- ==== Proof.MoeKernelValue.lean ====
/-
  The expert call: what it leaves in its result array, entry by entry. A used tile's 512 rows are gated through the
  tile's expert: eleven points of the grid each add the product of 256 of the 2816 features to the accumulator, the last
  one writes it out. An unused tile is zeros.
-/
module

public import proofs.«01_k».proof.Proof.MoeIdealTables
public import proofs.«01_k».proof.Proof.FfnValue
public import Idealize.ShloMosaic.Lib.IdealHost

@[expose] public section

set_option maxRecDepth 16384

noncomputable section

open Idealize.ShloMosaic Idealize.ShloMosaic.TcCoe Idealize.SL.Sem
open Cert.Layer

namespace Cert.KernelMoeIdeal.Run
open Cert.KernelMoeIdeal Cert.KernelMoeIdeal.Gen

/-! ## What a point stores -/

/-- The rows kept are the rows read. -/
theorem pay1_apply (x : Vec Ideal S512x2048 .f32) (r : Fin 512) (k : Fin 2048) : k0_pay1 x (ix2 r k) = x (ix2 r k) := by
  pointwise [k0_pay1]

/-- The accumulator starts at zero. -/
theorem pay2_apply (r : Fin 512) (j : Fin 2048) : (k0_pay2 (F := Ideal)) (ix2 r j) = 0 := by
  pointwise [k0_pay2]

/-- A point adds the product of its 256 gated features. -/
theorem pay3_apply (h : Vec Ideal S512x2048 .bf16) (wg wu : Vec Ideal S1x2048x256 .bf16) (acc : Vec Ideal S512x2048 .f32)
    (wd : Vec Ideal S1x256x2048 .bf16) (r : Fin 512) (j : Fin 2048) :
    k0_pay3 h wg wu acc wd (ix2 r j) = acc (ix2 r j) + ∑ e : Fin 256,
      gated (∑ k : Fin 2048, h (ix2 r k) * wg (ix3 0 k e)) (∑ k : Fin 2048, h (ix2 r k) * wu (ix3 0 k e)) * wd (ix3 0 e j) := by
  pointwise [k0_pay3, gated]

/-- An unused tile is zeros. -/
theorem pay4_apply (r : Fin 512) (j : Fin 2048) : (k0_pay4 (F := Ideal)) (ix2 r j) = 0 := by
  pointwise [k0_pay4]

variable (m : (ℓ : Loc nD τ sig) → Buf (Elt Ideal) ℓ) (ρ : Dev nD → PrngReg) (hO : Inside m)

/-! ## The arguments, and the blocks a point reads of them -/

/-- Entry `(R, k)` of the sorted rows, -/
def xsAt (c : Dev nD) (R : Fin 22528) (k : Fin 2048) : EReal := (m ((c : Thread nD τ).loc main_arg2) : Vec Ideal S22528x2048 .f32) (ix2 R k)
/-- of the experts' gate weights, -/
def wgAt (c : Dev nD) (x : Fin 8) (k : Fin 2048) (E : Fin 2816) : EReal := (m ((c : Thread nD τ).loc main_arg3) : Vec Ideal S8x2048x2816 .bf16) (ix3 x k E)
/-- of their other weights, -/
def wuAt (c : Dev nD) (x : Fin 8) (k : Fin 2048) (E : Fin 2816) : EReal := (m ((c : Thread nD τ).loc main_arg4) : Vec Ideal S8x2048x2816 .bf16) (ix3 x k E)
/-- and of their outgoing weights. -/
def wdAt (c : Dev nD) (x : Fin 8) (E : Fin 2816) (j : Fin 2048) : EReal := (m ((c : Thread nD τ).loc main_arg5) : Vec Ideal S8x2816x2048 .bf16) (ix3 x E j)

/-- The tile of a point. -/
theorem coords0_eq (t : Fin grid0.N) (T : Fin 44) (hT : T.val = t.val / 11) : grid0.coords t 0 = T :=
  Fin.ext ((coord0 t).trans hT.symm)

theorem idx_x : ∀ t : Fin grid0.N, cc0_transform_0 (grid0.coords t) (0 : Fin 2) = t.val / 11 ∧ cc0_transform_0 (grid0.coords t) (1 : Fin 2) = 0 :=
  by decide +kernel

theorem idx_o : ∀ t : Fin grid0.N, cc0_transform_4 (grid0.coords t) (0 : Fin 2) = t.val / 11 ∧ cc0_transform_4 (grid0.coords t) (1 : Fin 2) = 0 :=
  by decide +kernel

/-- A point's rows. -/
theorem block_x (c : Dev nD) (t : Fin (cfgT m hO).N) (r : Fin 512) (k : Fin 2048) (R : Fin 22528) (hR : R.val = 512 * (t.val / 11) + r.val) :
    (blockAt m hO c 0 t : Vec Ideal S512x2048 .f32) (ix2 r k) = xsAt m c R k := by
  obtain ⟨e0, e1⟩ := idx_x t
  unfold blockAt xsAt
  show (m ((c : Thread nD τ).loc main_arg2) : Vec Ideal S22528x2048 .f32) _ = _
  congr 1
  funext a
  apply Fin.ext
  match a with
  | ⟨0, _⟩ => show cc0_transform_0 (grid0.coords t) 0 * 512 + 1 * r.val = R.val; rw [e0, hR]; omega
  | ⟨1, _⟩ => show cc0_transform_0 (grid0.coords t) 1 * 2048 + 1 * k.val = k.val; rw [e1]; omega

/-- A used tile's point reads its own features. -/
theorem feat_used (t : Fin grid0.N) (T : Fin 44) (hT : T.val = t.val / 11) (hu : isUsed (tab m 1 (tile T))) :
    featBlock (tab m 1 (tile (grid0.coords t 0))) (grid0.coords t 1) = t.val % 11 := by
  rw [coords0_eq t T hT]
  unfold featBlock
  rw [if_pos hu]
  exact coord1 t

section blocks
variable (c : Dev nD) (t : Fin (cfgT m hO).N) (T : Fin 44) (hT : T.val = t.val / 11) (x : Fin 8)
  (hx : x.val = (tab m 0 (tile T) : BitVec 32).toNat) (hu : isUsed (tab m 1 (tile T)))
  (e : Fin 256) (E : Fin 2816) (hE : E.val = 256 * (t.val % 11) + e.val)
include hT hx hu hE

/-- A used tile's point reads its features of its expert's gate weight, -/
theorem block_wg (k : Fin 2048) : (blockAt m hO c 1 t : Vec Ideal S1x2048x256 .bf16) (ix3 0 k e) = wgAt m c x k E := by
  have ei := idx1 (tab m) (grid0.coords t)
  rw [feat_used m t T hT hu, coords0_eq t T hT, ← hx] at ei
  unfold blockAt wgAt
  show (m ((c : Thread nD τ).loc main_arg3) : Vec Ideal S8x2048x2816 .bf16) _ = _
  congr 1
  funext a
  apply Fin.ext
  match a with
  | ⟨0, _⟩ => show cc0_transform_1 k0_off1_inb numel1_S1 (tab m) (grid0.coords t) 0 * 1 + 1 * 0 = x.val; rw [ei]; show x.val * 1 + 1 * 0 = _; omega
  | ⟨1, _⟩ => show cc0_transform_1 k0_off1_inb numel1_S1 (tab m) (grid0.coords t) 1 * 2048 + 1 * k.val = k.val; rw [ei]; show 0 * 2048 + 1 * k.val = _; omega
  | ⟨2, _⟩ => show cc0_transform_1 k0_off1_inb numel1_S1 (tab m) (grid0.coords t) 2 * 256 + 1 * e.val = E.val; rw [ei, hE]; show (t.val % 11) * 256 + 1 * e.val = _; omega

/-- of its other weight -/
theorem block_wu (k : Fin 2048) : (blockAt m hO c 2 t : Vec Ideal S1x2048x256 .bf16) (ix3 0 k e) = wuAt m c x k E := by
  have ei := idx2 (tab m) (grid0.coords t)
  rw [feat_used m t T hT hu, coords0_eq t T hT, ← hx] at ei
  unfold blockAt wuAt
  show (m ((c : Thread nD τ).loc main_arg4) : Vec Ideal S8x2048x2816 .bf16) _ = _
  congr 1
  funext a
  apply Fin.ext
  match a with
  | ⟨0, _⟩ => show cc0_transform_2 k0_off1_inb numel1_S1 (tab m) (grid0.coords t) 0 * 1 + 1 * 0 = x.val; rw [ei]; show x.val * 1 + 1 * 0 = _; omega
  | ⟨1, _⟩ => show cc0_transform_2 k0_off1_inb numel1_S1 (tab m) (grid0.coords t) 1 * 2048 + 1 * k.val = k.val; rw [ei]; show 0 * 2048 + 1 * k.val = _; omega
  | ⟨2, _⟩ => show cc0_transform_2 k0_off1_inb numel1_S1 (tab m) (grid0.coords t) 2 * 256 + 1 * e.val = E.val; rw [ei, hE]; show (t.val % 11) * 256 + 1 * e.val = _; omega

/-- and of its outgoing weight. -/
theorem block_wd (j : Fin 2048) : (blockAt m hO c 3 t : Vec Ideal S1x256x2048 .bf16) (ix3 0 e j) = wdAt m c x E j := by
  have ei := idx3 (tab m) (grid0.coords t)
  rw [feat_used m t T hT hu, coords0_eq t T hT, ← hx] at ei
  unfold blockAt wdAt
  show (m ((c : Thread nD τ).loc main_arg5) : Vec Ideal S8x2816x2048 .bf16) _ = _
  congr 1
  funext a
  apply Fin.ext
  match a with
  | ⟨0, _⟩ => show cc0_transform_3 k0_off1_inb numel1_S1 (tab m) (grid0.coords t) 0 * 1 + 1 * 0 = x.val; rw [ei]; show x.val * 1 + 1 * 0 = _; omega
  | ⟨1, _⟩ => show cc0_transform_3 k0_off1_inb numel1_S1 (tab m) (grid0.coords t) 1 * 256 + 1 * e.val = E.val; rw [ei, hE]; show (t.val % 11) * 256 + 1 * e.val = _; omega
  | ⟨2, _⟩ => show cc0_transform_3 k0_off1_inb numel1_S1 (tab m) (grid0.coords t) 2 * 2048 + 1 * j.val = j.val; rw [ei]; show 0 * 2048 + 1 * j.val = _; omega

end blocks

/-! ## The accumulator -/

/-- What feature `E` of expert `x` adds to entry `(R, j)`. -/
def term (c : Dev nD) (x : Fin 8) (R : Fin 22528) (j : Fin 2048) (E : Fin 2816) : EReal :=
  gated (∑ k : Fin 2048, xsAt m c R k * wgAt m c x k E) (∑ k : Fin 2048, xsAt m c R k * wuAt m c x k E) * wdAt m c x E j

/-- The same by the feature's number. -/
def termN (c : Dev nD) (x : Fin 8) (R : Fin 22528) (j : Fin 2048) (e : ℕ) : EReal := if h : e < 2816 then term m c x R j ⟨e, h⟩ else 0

/-- The rows kept at point `n` are the tile's. -/
theorem kept_apply (c : Dev nD) (n : ℕ) (hn : n < (cfgT m hO).N) (r : Fin 512) (k : Fin 2048) (R : Fin 22528)
    (hR : R.val = 512 * (n / 11) + r.val) : keptAt m hO c n hn (ix2 r k) = xsAt m c R k := by
  unfold keptAt rowsOf
  exact (pay1_apply (blockAt m hO c 0 _) r k).trans (block_x m hO c _ r k R (by dsimp only; omega))

/-- The 256 features of a used tile's point add the terms `256·(t % 11)` onwards. -/
theorem block_sum (c : Dev nD) (t : Fin (cfgT m hO).N) (T : Fin 44) (hT : T.val = t.val / 11) (x : Fin 8)
    (hx : x.val = (tab m 0 (tile T) : BitVec 32).toNat) (hu : isUsed (tab m 1 (tile T)))
    (h : Vec Ideal S512x2048 .bf16) (r : Fin 512) (j : Fin 2048) (R : Fin 22528)
    (hh : ∀ k, h (ix2 r k) = xsAt m c R k) (acc : Vec Ideal S512x2048 .f32) :
    k0_pay3 h (blockAt m hO c 1 t) (blockAt m hO c 2 t) acc (blockAt m hO c 3 t) (ix2 r j)
      = acc (ix2 r j) + ∑ e ∈ Finset.range 256, termN m c x R j (256 * (t.val % 11) + e) := by
  refine (pay3_apply h (blockAt m hO c 1 t) (blockAt m hO c 2 t) acc (blockAt m hO c 3 t) r j).trans ?_
  rw [Finset.sum_range]
  refine congrArg₂ (· + ·) rfl (Finset.sum_congr rfl fun e _ => ?_)
  have hlt : 256 * (t.val % 11) + e.val < 2816 := by have := e.isLt; omega
  unfold termN
  rw [dif_pos hlt]
  unfold term
  refine congrArg₂ (· * ·) (congrArg₂ gated (Finset.sum_congr rfl fun k _ => ?_) (Finset.sum_congr rfl fun k _ => ?_))
    (block_wd m hO c t T hT x hx hu e ⟨_, hlt⟩ rfl j)
  · exact congrArg₂ (· * ·) (hh k) (block_wg m hO c t T hT x hx hu e ⟨_, hlt⟩ rfl k)
  · exact congrArg₂ (· * ·) (hh k) (block_wu m hO c t T hT x hx hu e ⟨_, hlt⟩ rfl k)

/-- After point `n` of a used tile the accumulator holds the terms of the features up to its block. -/
theorem summed (c : Dev nD) (T : Fin 44) (x : Fin 8) (hx : x.val = (tab m 0 (tile T) : BitVec 32).toNat) (hu : isUsed (tab m 1 (tile T)))
    (r : Fin 512) (j : Fin 2048) (R : Fin 22528) (hR : R.val = 512 * T.val + r.val) :
    ∀ (p : ℕ) (_ : p < 11) (hn : 11 * T.val + p < (cfgT m hO).N), sumAt m hO c (11 * T.val + p) hn (ix2 r j)
      = ∑ e ∈ Finset.range (256 * (p + 1)), termN m c x R j e := by
  intro p
  induction p with
  | zero =>
    intro _ hn
    rw [show sumAt m hO c (11 * T.val + 0) hn = _ from sumAt_first m hO c ⟨11 * T.val + 0, hn⟩ (by dsimp only; omega),
      block_sum m hO c ⟨11 * T.val + 0, hn⟩ T (by dsimp only; omega) x hx hu _ r j R _, pay2_apply, zero_add]
    · rw [show 256 * ((11 * T.val + 0) % 11) = 0 from by omega]
      simp only [Nat.zero_add, Nat.mul_one]
    · intro k
      exact (pay1_apply (blockAt m hO c 0 _) r k).trans (block_x m hO c _ r k R (by dsimp only; omega))
  | succ p ih =>
    intro hp hn
    have hq : 11 * T.val + p < (cfgT m hO).N := by omega
    rw [show sumAt m hO c (11 * T.val + (p + 1)) hn = _ from sumAt_later m hO c ⟨11 * T.val + (p + 1), hn⟩ (by dsimp only; omega) hq,
      block_sum m hO c ⟨11 * T.val + (p + 1), hn⟩ T (by dsimp only; omega) x hx hu _ r j R _,
      show sumAt m hO c ((⟨11 * T.val + (p + 1), hn⟩ : Fin (cfgT m hO).N).val - 1) hq (ix2 r j) = _ from ih (by omega) hq]
    · dsimp only
      rw [show 256 * ((11 * T.val + (p + 1)) % 11) = 256 * (p + 1) from by omega, show 256 * (p + 1 + 1) = 256 * (p + 1) + 256 from by ring,
        Finset.sum_range_add]
    · intro k
      exact kept_apply m hO c _ _ r k R (by dsimp only; omega)

/-! ## The result array -/

theorem last_lt (i : S22528x2048.Idx) : 11 * ((i 0).val / 512) + 10 < (cfgT m hO).N := by
  have h0 : (i 0).val < 22528 := (i 0).isLt
  have := N_eq m hO
  omega

/-- The result array: each row from its tile's last point. -/
def G (c : Dev nD) : S22528x2048.Idx → EReal := fun i =>
  outAt m hO c (11 * ((i 0).val / 512) + 10) (last_lt m hO i) (ix2 ⟨(i 0).val % 512, Nat.mod_lt _ (by decide)⟩ (i 1))

/-- The result of a point depends only on its number. -/
theorem outAt_congr (c : Dev nD) : ∀ {s s' : ℕ} (_ : s = s') (hs : s < (cfgT m hO).N) (hs' : s' < (cfgT m hO).N), outAt m hO c s hs = outAt m hO c s' hs' := by
  rintro s _ rfl _ _
  rfl

theorem flushed4_eq (c : Dev nD) (t : Fin (cfgT m hO).N) (hf : ((cfgT m hO).win 4).flush t = true) :
    (dat m hO 0 c).flushed 4 t = (((cfgT m hO).win 4).blk t).view.read (Elt Ideal) (G m hO c) := by
  show ((cfgT m hO).win 4).cut ((cfgT m hO).grid.coords t) ((dat m hO 0 c).after 4 t) = _
  rw [after4]
  have hm : t.val % 11 = 10 := (flush_out m hO t).mp hf
  obtain ⟨e0, e1⟩ := idx_o t
  refine funext fun (y : S512x2048.Idx) => ?_
  have hy0 : (y 0).val < 512 := (y 0).isLt
  have hy1 : (y 1).val < 2048 := (y 1).isLt
  have hb0 : ((((cfgT m hO).win 4).blk t).view.emb y (0 : Fin 2)).val = cc0_transform_4 (grid0.coords t) (0 : Fin 2) * 512 + 1 * (y 0).val := rfl
  have hb1 : ((((cfgT m hO).win 4).blk t).view.emb y (1 : Fin 2)).val = cc0_transform_4 (grid0.coords t) (1 : Fin 2) * 2048 + 1 * (y 1).val := rfl
  show outAt m hO c t.val t.isLt y = G m hO c ((((cfgT m hO).win 4).blk t).view.emb y)
  unfold G
  have hs : 11 * (((((cfgT m hO).win 4).blk t).view.emb y (0 : Fin 2)).val / 512) + 10 = t.val := by
    rw [hb0, e0]; omega
  rw [outAt_congr m hO c hs _ t.isLt]
  congr 1
  funext a
  apply Fin.ext
  match a with
  | ⟨0, _⟩ => show (y 0).val = ((((cfgT m hO).win 4).blk t).view.emb y (0 : Fin 2)).val % 512; rw [hb0, e0]; omega
  | ⟨1, _⟩ => show (y 1).val = ((((cfgT m hO).win 4).blk t).view.emb y (1 : Fin 2)).val; rw [hb1, e1]; omega

theorem mem_blk4 (t : Fin (cfgT m hO).N) (i : S22528x2048.Idx) :
    i ∈ (((cfgT m hO).win 4).blk t).view.set ↔ ∀ a : Fin 2, cc0_transform_4 (grid0.coords t) a * S512x2048.size a ≤ (i a).val
      ∧ (i a).val < cc0_transform_4 (grid0.coords t) a * S512x2048.size a + S512x2048.size a := by
  have e : (((cfgT m hO).win 4).blk t).view.set = (((cfgT m hO).win 4).rect t).set := View.set_slice_whole _ _
  exact (iff_of_eq (congrArg (fun s => i ∈ s) e)).trans Rect.mem_set_unit

theorem covered4 (i : S22528x2048.Idx) : ∃ t : Fin (cfgT m hO).N, ((cfgT m hO).win 4).flush t = true ∧ i ∈ (((cfgT m hO).win 4).blk t).view.set := by
  have h0 : (i 0).val < 22528 := (i 0).isLt
  have h1 : (i 1).val < 2048 := (i 1).isLt
  refine ⟨⟨11 * ((i 0).val / 512) + 10, last_lt m hO i⟩, (flush_out m hO _).mpr (by dsimp only; omega), ?_⟩
  obtain ⟨e0, e1⟩ := idx_o ⟨11 * ((i 0).val / 512) + 10, last_lt m hO i⟩
  rw [mem_blk4]
  intro a
  match a with
  | ⟨0, _⟩ =>
    show cc0_transform_4 (grid0.coords _) (0 : Fin 2) * 512 ≤ (i 0).val ∧ (i 0).val < cc0_transform_4 (grid0.coords _) (0 : Fin 2) * 512 + 512
    rw [e0]; dsimp only; omega
  | ⟨1, _⟩ =>
    show cc0_transform_4 (grid0.coords _) (1 : Fin 2) * 2048 ≤ (i 1).val ∧ (i 1).val < cc0_transform_4 (grid0.coords _) (1 : Fin 2) * 2048 + 2048
    rw [e1]; omega

theorem final4 (c : Dev nD) : (dat m hO 0 c).arrAt 4 (cfgT m hO).N = G m hO c :=
  (dat m hO 0 c).arrAt_eq_of_cover 4 _ (fun t hf => flushed4_eq m hO c t hf) (fun i => covered4 m hO i)

/-- A row is shown by its tile's last point. -/
theorem G_apply (c : Dev nD) (R : Fin 22528) (J : Fin 2048) (T : Fin 44) (hT : T.val = R.val / 512) (hn : 11 * T.val + 10 < (cfgT m hO).N) :
    G m hO c (ix2 R J) = outAt m hO c (11 * T.val + 10) hn (ix2 ⟨R.val % 512, Nat.mod_lt _ (by decide)⟩ J) :=
  congrFun (outAt_congr m hO c (show 11 * (R.val / 512) + 10 = 11 * T.val + 10 from by omega) (last_lt m hO (ix2 R J)) hn) _

/-- An entry of the result: in a used tile, all 2816 features of the tile's expert; -/
theorem result_used (c : Dev nD) (R : Fin 22528) (J : Fin 2048) (T : Fin 44) (hT : T.val = R.val / 512) (x : Fin 8)
    (hx : x.val = (tab m 0 (tile T) : BitVec 32).toNat) (hu : isUsed (tab m 1 (tile T))) :
    G m hO c (ix2 R J) = ∑ E : Fin 2816, term m c x R J E := by
  have hn : 11 * T.val + 10 < (cfgT m hO).N := by have := N_eq m hO; omega
  rw [G_apply m hO c R J T hT hn, outAt_used m hO c _ hn (fun h => by rw [show (⟨(11 * T.val + 10) / 11, h⟩ : Fin 44) = T from Fin.ext (by dsimp only; omega)]; exact hu),
    summed m hO c T x hx hu _ J R (by dsimp only; omega) 10 (by omega) hn, show 256 * (10 + 1) = 2816 from rfl, Finset.sum_range]
  refine Finset.sum_congr rfl fun E _ => ?_
  unfold termN
  rw [dif_pos E.isLt]

/-- in an unused tile, zero. -/
theorem result_unused (c : Dev nD) (R : Fin 22528) (J : Fin 2048) (T : Fin 44) (hT : T.val = R.val / 512)
    (hu : ¬isUsed (tab m 1 (tile T))) : G m hO c (ix2 R J) = 0 := by
  have hn : 11 * T.val + 10 < (cfgT m hO).N := by have := N_eq m hO; omega
  rw [G_apply m hO c R J T hT hn, outAt_unused m hO c _ hn (fun h => hu (by
      have h' := h (by omega)
      rwa [show (⟨(11 * T.val + 10) / 11, by omega⟩ : Fin 44) = T from Fin.ext (by dsimp only; omega)] at h')), pay4_apply]

end Cert.KernelMoeIdeal.Run

end
-- ==== Proof.MoeValue.lean ====
/-
  The expert call's value claim. The reference sends every row through all eight experts and keeps, of each, the rows
  whose tile is used and belongs to that expert; the kernel sends each used tile through its own expert only. Since a
  tile has one expert and that one is among the eight, the reference's eight-fold sum has at most one term that is not
  zero, and that term is the kernel's.
-/
module

public import proofs.«01_k».proof.Defs
public import proofs.«01_k».proof.Proof.MoeKernelValue
public import proofs.«01_k».proof.Proof.Gen.ReferenceMoeIdeal.Run
public import proofs.«01_k».proof.Proof.Gen.ReferenceMoeIdeal.Read

@[expose] public section

set_option maxRecDepth 16384

noncomputable section

open Idealize.ShloMosaic Idealize.ShloMosaic.TcCoe Idealize.SL.Sem
open Cert.Layer

namespace Cert.ReferenceMoeIdeal.Read
open Cert.ReferenceMoeIdeal Cert.ReferenceMoeIdeal.Gen Idealize.ShloMosaic.StableHlo

/-- Expert `o`'s matrix of an up-projection. -/
def up (o : ℕ) (h : S8x2048x2816.Slices ![o, 0, 0] S1x2048x2816) (w : FVec Ideal S8x2048x2816 .bf16) : FVec Ideal S2048x2816 .f32 :=
  extf .f32 (shapeCast S2048x2816 (extractStridedSlice S1x2048x2816 ![o, 0, 0] w h) shapeCasts_S1x2048x2816_S2048x2816) bitsLt_bf16_f32

/-- Expert `o`'s matrix of the down-projection. -/
def down (o : ℕ) (h : S8x2816x2048.Slices ![o, 0, 0] S1x2816x2048) (w : FVec Ideal S8x2816x2048 .bf16) : FVec Ideal S2816x2048 .f32 :=
  extf .f32 (shapeCast S2816x2048 (extractStridedSlice S1x2816x2048 ![o, 0, 0] w h) shapeCasts_S1x2816x2048_S2816x2048) bitsLt_bf16_f32

theorem up_apply (o : Fin 8) (h : S8x2048x2816.Slices ![o.val, 0, 0] S1x2048x2816) (w : FVec Ideal S8x2048x2816 .bf16) (k : Fin 2048) (E : Fin 2816) :
    up o.val h w (ix2 k E) = w (ix3 o k E) := by
  unfold up
  show shapeCast S2048x2816 (extractStridedSlice S1x2048x2816 ![o.val, 0, 0] w h) shapeCasts_S1x2048x2816_S2048x2816 (ix2 k E) = _
  refine (shapeCast_apply _ shapeCasts_S1x2048x2816_S2048x2816 (ix2 k E) (ix3 0 k E) ?_).trans ?_
  · rw [Shape.rowMajor_val_three, Shape.rowMajor_val_two]
    show (0 * 2048 + k.val) * 2816 + E.val = k.val * 2816 + E.val
    omega
  · exact extractStridedSlice_apply ![o.val, 0, 0] w h (ix3 0 k E) (ix3 o k E) (fun a => match a with
      | ⟨0, _⟩ => by show o.val = o.val + 0; omega
      | ⟨1, _⟩ => by show k.val = 0 + k.val; omega
      | ⟨2, _⟩ => by show E.val = 0 + E.val; omega)

theorem down_apply (o : Fin 8) (h : S8x2816x2048.Slices ![o.val, 0, 0] S1x2816x2048) (w : FVec Ideal S8x2816x2048 .bf16) (E : Fin 2816) (j : Fin 2048) :
    down o.val h w (ix2 E j) = w (ix3 o E j) := by
  unfold down
  show shapeCast S2816x2048 (extractStridedSlice S1x2816x2048 ![o.val, 0, 0] w h) shapeCasts_S1x2816x2048_S2816x2048 (ix2 E j) = _
  refine (shapeCast_apply _ shapeCasts_S1x2816x2048_S2816x2048 (ix2 E j) (ix3 0 E j) ?_).trans ?_
  · rw [Shape.rowMajor_val_three, Shape.rowMajor_val_two]
    show (0 * 2816 + E.val) * 2048 + j.val = E.val * 2048 + j.val
    omega
  · exact extractStridedSlice_apply ![o.val, 0, 0] w h (ix3 0 E j) (ix3 o E j) (fun a => match a with
      | ⟨0, _⟩ => by show o.val = o.val + 0; omega
      | ⟨1, _⟩ => by show E.val = 0 + E.val; omega
      | ⟨2, _⟩ => by show j.val = 0 + j.val; omega)

/-- A gated layer of given matrices. -/
def layerOf (x : FVec Ideal S22528x2048 .f32) (g u : FVec Ideal S2048x2816 .f32) (d : FVec Ideal S2816x2048 .f32) : FVec Ideal S22528x2048 .f32 :=
  let a := Host.dotGeneral dot_S22528x2048_S2048x2816_S22528x2816_1_0_0_1_n_n none x g
  Host.dotGeneral dot_S22528x2816_S2816x2048_S22528x2048_1_0_0_1_n_n none
    (mulf (mulf a (Host.divf (broadcastInDim S22528x2816 ![] bcast_S_S22528x2816 (constant S_ .f32 0x3F800000#32))
      (addf (broadcastInDim S22528x2816 ![] bcast_S_S22528x2816 (constant S_ .f32 0x3F800000#32)) (Host.exp (Host.negf a)))))
      (Host.dotGeneral dot_S22528x2048_S2048x2816_S22528x2816_1_0_0_1_n_n none x u)) d

theorem layerOf_apply (x : FVec Ideal S22528x2048 .f32) (g u : FVec Ideal S2048x2816 .f32) (d : FVec Ideal S2816x2048 .f32)
    (R : Fin 22528) (J : Fin 2048) : layerOf x g u d (ix2 R J) = ∑ E : Fin 2816,
      gated (∑ k : Fin 2048, x (ix2 R k) * g (ix2 k E)) (∑ k : Fin 2048, x (ix2 R k) * u (ix2 k E)) * d (ix2 E J) := by
  unfold layerOf
  pointwise
  rfl

/-- The rows of expert `o`'s used tiles. -/
def rowsFor (o : ℕ) (te nr : IVec S44 32) : IVec S22528x2048 1 :=
  broadcastInDim S22528x2048 ![0, 1] bcast_S22528x1_S22528x2048_0_1
    (andi (val_main_v7 (F := Ideal) nr) (cmpi .eq (val_main_v2 (F := Ideal) te) (broadcastInDim S22528x1 ![] bcast_S_S22528x1 (constantI S_ 32 (BitVec.ofNat 32 o)))))

theorem rowsFor_apply (o : ℕ) (te nr : IVec S44 32) (R : Fin 22528) (J : Fin 2048) (T : Fin 44) (hT : T.val = R.val / 512) :
    rowsFor o te nr (ix2 R J) = IntOp.andi (IntOp.cmpi .sgt (nr (ix1 T)) 0#32) (IntOp.cmpi .eq (te (ix1 T)) (BitVec.ofNat 32 o)) := by
  have ht (y : IVec S44 32) : val_main_v2 (F := Ideal) y (ix2 R 0) = y (ix1 T) := by
    rw [val_main_v2_apply, val_main_v1_apply, val_main_v0_apply]
    refine congrArg y (funext fun a => Fin.ext ?_)
    match a with
    | ⟨0, _⟩ => exact hT.symm
  have hn : val_main_v5 (F := Ideal) nr (ix2 R 0) = nr (ix1 T) := ht nr
  unfold rowsFor
  refine (broadcastInDim_apply _ bcast_S22528x1_S22528x2048_0_1 _ (ix2 R J) (ix2 R 0) (fun a => match a with
    | ⟨0, _⟩ => by show R.val = if (22528 : Nat) = 1 then 0 else R.val; rw [if_neg (by decide)]
    | ⟨1, _⟩ => by show 0 = if (1 : Nat) = 1 then 0 else J.val; rw [if_pos rfl])).trans ?_
  show IntOp.andi (val_main_v7 (F := Ideal) nr (ix2 R 0)) (IntOp.cmpi .eq (val_main_v2 (F := Ideal) te (ix2 R 0)) (BitVec.ofNat 32 o)) = _
  rw [ht te, val_main_v7_apply, hn]
  rfl

/-- What expert `o` contributes: its layer on its rows, zero on the others. -/
def pick (o : ℕ) (h : S8x2048x2816.Slices ![o, 0, 0] S1x2048x2816) (h' : S8x2816x2048.Slices ![o, 0, 0] S1x2816x2048) (te nr : IVec S44 32)
    (x : FVec Ideal S22528x2048 .f32) (wg wu : FVec Ideal S8x2048x2816 .bf16) (wd : FVec Ideal S8x2816x2048 .bf16) : FVec Ideal S22528x2048 .f32 :=
  select (rowsFor o te nr) (layerOf x (up o h wg) (up o h wu) (down o h' wd))
    (broadcastInDim S22528x2048 ![] bcast_S_S22528x2048 (constant S_ .f32 0x00000000#32))

/-- Entry `(R, J)` of expert `x`'s layer. -/
def expert (xs : FVec Ideal S22528x2048 .f32) (wg wu : FVec Ideal S8x2048x2816 .bf16) (wd : FVec Ideal S8x2816x2048 .bf16)
    (x : Fin 8) (R : Fin 22528) (J : Fin 2048) : EReal :=
  ∑ E : Fin 2816, gated (∑ k : Fin 2048, xs (ix2 R k) * wg (ix3 x k E)) (∑ k : Fin 2048, xs (ix2 R k) * wu (ix3 x k E)) * wd (ix3 x E J)

/-- Two experts' numbers are the same word only if the experts are the same. -/
theorem eq_iff : ∀ x o : Fin 8, IntOp.cmpi .eq (BitVec.ofNat 32 x.val) (BitVec.ofNat 32 o.val) = 1#1 ↔ x = o := by decide

/-- An expert's contribution to an entry of a tile that belongs to expert `x`. -/
theorem pick_apply (o : Fin 8) (h : S8x2048x2816.Slices ![o.val, 0, 0] S1x2048x2816) (h' : S8x2816x2048.Slices ![o.val, 0, 0] S1x2816x2048) (te nr : IVec S44 32)
    (xs : FVec Ideal S22528x2048 .f32) (wg wu : FVec Ideal S8x2048x2816 .bf16) (wd : FVec Ideal S8x2816x2048 .bf16)
    (R : Fin 22528) (J : Fin 2048) (T : Fin 44) (hT : T.val = R.val / 512) (x : Fin 8) (hx : te (ix1 T) = BitVec.ofNat 32 x.val) :
    pick o.val h h' te nr xs wg wu wd (ix2 R J)
      = if Cert.KernelMoeIdeal.Run.isUsed (nr (ix1 T)) ∧ x = o then expert xs wg wu wd x R J else 0 := by
  have both (a b : BitVec 1) : IntOp.andi a b = 1#1 ↔ a = 1#1 ∧ b = 1#1 := by revert a b; decide
  have he : IntOp.cmpi .eq (te (ix1 T)) (BitVec.ofNat 32 o.val) = 1#1 ↔ x = o := by
    rw [hx]; exact eq_iff x o
  have hb : (IntOp.andi (IntOp.cmpi .sgt (nr (ix1 T)) 0#32) (IntOp.cmpi .eq (te (ix1 T)) (BitVec.ofNat 32 o.val)) = 1#1)
      ↔ (Cert.KernelMoeIdeal.Run.isUsed (nr (ix1 T)) ∧ x = o) := by
    rw [both, he]; exact Iff.rfl
  unfold pick
  show Scalar.select (rowsFor o.val te nr (ix2 R J)) (layerOf xs (up o.val h wg) (up o.val h wu) (down o.val h' wd) (ix2 R J))
    (Ideal.ofBits .f32 0x00000000#32) = _
  rw [rowsFor_apply o.val te nr R J T hT, layerOf_apply]
  by_cases hc : Cert.KernelMoeIdeal.Run.isUsed (nr (ix1 T)) ∧ x = o
  · rw [if_pos hc, hb.mpr hc]
    obtain ⟨-, rfl⟩ := hc
    unfold expert
    simp only [up_apply, down_apply]
    rfl
  · rw [if_neg hc, (Cert.KernelMoeIdeal.Run.bit_cases _).resolve_right (fun e => hc (hb.mp e))]
    pointwise

/-- The reference's result is the sum of the eight contributions. -/
theorem result_eq (te nr : IVec S44 32) (x : FVec Ideal S22528x2048 .f32) (wg wu : FVec Ideal S8x2048x2816 .bf16) (wd : FVec Ideal S8x2816x2048 .bf16) :
    val_main_v160 (F := Ideal) te nr x wg wu wd
      = addf (addf (addf (addf (addf (addf (addf (addf (broadcastInDim S22528x2048 ![] bcast_S_S22528x2048 (constant S_ .f32 0x00000000#32))
        (pick 0 slices_S8x2048x2816_S1x2048x2816_0_0_0 slices_S8x2816x2048_S1x2816x2048_0_0_0 te nr x wg wu wd))
        (pick 1 slices_S8x2048x2816_S1x2048x2816_1_0_0 slices_S8x2816x2048_S1x2816x2048_1_0_0 te nr x wg wu wd))
        (pick 2 slices_S8x2048x2816_S1x2048x2816_2_0_0 slices_S8x2816x2048_S1x2816x2048_2_0_0 te nr x wg wu wd))
        (pick 3 slices_S8x2048x2816_S1x2048x2816_3_0_0 slices_S8x2816x2048_S1x2816x2048_3_0_0 te nr x wg wu wd))
        (pick 4 slices_S8x2048x2816_S1x2048x2816_4_0_0 slices_S8x2816x2048_S1x2816x2048_4_0_0 te nr x wg wu wd))
        (pick 5 slices_S8x2048x2816_S1x2048x2816_5_0_0 slices_S8x2816x2048_S1x2816x2048_5_0_0 te nr x wg wu wd))
        (pick 6 slices_S8x2048x2816_S1x2048x2816_6_0_0 slices_S8x2816x2048_S1x2816x2048_6_0_0 te nr x wg wu wd))
        (pick 7 slices_S8x2048x2816_S1x2048x2816_7_0_0 slices_S8x2816x2048_S1x2816x2048_7_0_0 te nr x wg wu wd) := rfl

/-- The reference's result, entry by entry: in a used tile the layer of the tile's expert, in an unused tile zero. -/
theorem result_apply (te nr : IVec S44 32) (xs : FVec Ideal S22528x2048 .f32) (wg wu : FVec Ideal S8x2048x2816 .bf16) (wd : FVec Ideal S8x2816x2048 .bf16)
    (R : Fin 22528) (J : Fin 2048) (T : Fin 44) (hT : T.val = R.val / 512) (x : Fin 8) (hx : te (ix1 T) = BitVec.ofNat 32 x.val) :
    val_main_v160 (F := Ideal) te nr xs wg wu wd (ix2 R J)
      = if Cert.KernelMoeIdeal.Run.isUsed (nr (ix1 T)) then expert xs wg wu wd x R J else 0 := by
  have p (o : Fin 8) (h) (h') := pick_apply o h h' te nr xs wg wu wd R J T hT x hx
  rw [result_eq]
  show (((((((Ideal.ofBits .f32 0x00000000#32 + pick 0 _ _ te nr xs wg wu wd (ix2 R J)) + pick 1 _ _ te nr xs wg wu wd (ix2 R J))
    + pick 2 _ _ te nr xs wg wu wd (ix2 R J)) + pick 3 _ _ te nr xs wg wu wd (ix2 R J)) + pick 4 _ _ te nr xs wg wu wd (ix2 R J))
    + pick 5 _ _ te nr xs wg wu wd (ix2 R J)) + pick 6 _ _ te nr xs wg wu wd (ix2 R J)) + pick 7 _ _ te nr xs wg wu wd (ix2 R J) = _
  have z : Ideal.ofBits .f32 0x00000000#32 = 0 := by pointwise
  refine (congrArg₂ (· + ·) (congrArg₂ (· + ·) (congrArg₂ (· + ·) (congrArg₂ (· + ·) (congrArg₂ (· + ·) (congrArg₂ (· + ·) (congrArg₂ (· + ·)
    (congrArg₂ (· + ·) z (p 0 _ _)) (p 1 _ _)) (p 2 _ _)) (p 3 _ _)) (p 4 _ _)) (p 5 _ _)) (p 6 _ _)) (p 7 _ _)).trans ?_
  by_cases hu : Cert.KernelMoeIdeal.Run.isUsed (nr (ix1 T))
  · simp only [hu, true_and, if_true]
    generalize expert xs wg wu wd x R J = v
    revert x
    intro x _ _
    fin_cases x <;> simp
  · simp only [hu, false_and, if_false, add_zero]

end Cert.ReferenceMoeIdeal.Read

namespace Cert.Layer

/-- The call's result array is the reference's result of the same arguments. -/
theorem moe_eq (m : (ℓ : Loc Cert.KernelMoeIdeal.nD Cert.KernelMoeIdeal.τ Cert.KernelMoeIdeal.sig) → Buf (Elt Ideal) ℓ)
    (hO : Cert.KernelMoeIdeal.Run.Inside m) (hlt : ∀ k : Fin 44, (Cert.KernelMoeIdeal.Run.tab m 0 (Cert.KernelMoeIdeal.Run.tile k) : BitVec 32).toNat < 8)
    (c : Dev Cert.KernelMoeIdeal.nD) :
    (Cert.ReferenceMoeIdeal.Read.val_main_v160 (F := Ideal) (m ((c.tc : Thread Cert.KernelMoeIdeal.nD Cert.KernelMoeIdeal.τ).loc Cert.KernelMoeIdeal.main_arg0))
      (m ((c.tc : Thread Cert.KernelMoeIdeal.nD Cert.KernelMoeIdeal.τ).loc Cert.KernelMoeIdeal.main_arg1))
      (m ((c.tc : Thread Cert.KernelMoeIdeal.nD Cert.KernelMoeIdeal.τ).loc Cert.KernelMoeIdeal.main_arg2))
      (m ((c.tc : Thread Cert.KernelMoeIdeal.nD Cert.KernelMoeIdeal.τ).loc Cert.KernelMoeIdeal.main_arg3))
      (m ((c.tc : Thread Cert.KernelMoeIdeal.nD Cert.KernelMoeIdeal.τ).loc Cert.KernelMoeIdeal.main_arg4))
      (m ((c.tc : Thread Cert.KernelMoeIdeal.nD Cert.KernelMoeIdeal.τ).loc Cert.KernelMoeIdeal.main_arg5)))
      = Cert.KernelMoeIdeal.Run.G m hO c := by
  funext i
  obtain ⟨R, J, rfl⟩ : ∃ (R : Fin 22528) (J : Fin 2048), i = ix2 R J := ⟨i 0, i 1, eq_ix2 i⟩
  have hT : R.val / 512 < 44 := by omega
  have e0 : (m ((c.tc : Thread Cert.KernelMoeIdeal.nD Cert.KernelMoeIdeal.τ).loc Cert.KernelMoeIdeal.main_arg0)) = Cert.KernelMoeIdeal.Run.tab m 0 :=
    Cert.KernelMoeIdeal.Run.tab_eq m c 0
  have e1 : (m ((c.tc : Thread Cert.KernelMoeIdeal.nD Cert.KernelMoeIdeal.τ).loc Cert.KernelMoeIdeal.main_arg1)) = Cert.KernelMoeIdeal.Run.tab m 1 :=
    Cert.KernelMoeIdeal.Run.tab_eq m c 1
  have hx := hlt ⟨R.val / 512, hT⟩
  refine (Cert.ReferenceMoeIdeal.Read.result_apply _ _ _ _ _ _ R J ⟨R.val / 512, hT⟩ rfl ⟨_, hx⟩ ?_).trans ?_
  · rw [e0]
    exact (BitVec.ofNat_toNat _ _).symm ▸ rfl
  · rw [e1]
    by_cases hu : Cert.KernelMoeIdeal.Run.isUsed (Cert.KernelMoeIdeal.Run.tab m 1 (Cert.KernelMoeIdeal.Run.tile ⟨R.val / 512, hT⟩))
    · exact (if_pos hu).trans (Cert.KernelMoeIdeal.Run.result_used m hO c R J ⟨R.val / 512, hT⟩ rfl ⟨_, hx⟩ rfl hu).symm
    · exact (if_neg hu).trans (Cert.KernelMoeIdeal.Run.result_unused m hO c R J ⟨R.val / 512, hT⟩ rfl hu).symm

/-- The expert call's value claim: from the same arguments both programs run and end with the same result. -/
theorem moe_algebraic [hK : Cert.KernelMoeIdeal.Facts] [hR : Cert.ReferenceMoeIdeal.Facts] [hP : Cert.Pre_experts_in_range.Facts] :
    Cert.algebraic_KernelMoeIdeal_ReferenceMoeIdeal := by
  intro m g m' g' hpre hagree
  have hlt (c : Dev Cert.KernelMoeIdeal.nD) (k : Fin 44) := Cert.KernelMoeIdeal.Run.expert_lt _ _ _ _ _ _ (hpre c) k
  have hO : Cert.KernelMoeIdeal.Run.Inside m := Cert.KernelMoeIdeal.Run.inside_of _ (hlt 0)
  refine ⟨fun c => Cert.KernelMoeIdeal.Run.G m hO c, ?_, ?_⟩
  · refine (θ_run _ _ _).mono (fun r h c => ?_) (Cert.KernelMoeIdeal.Run.run m g hO)
    exact ⟨(h.1 c).1.trans (Cert.KernelMoeIdeal.Run.final4 m hO c), (h.1 c).2⟩
  · refine (θ_run _ _ _).mono (fun r h c => ?_) (Cert.ReferenceMoeIdeal.Value.run (F := Ideal) m' g')
    obtain ⟨a0, a1, a2, a3, a4, a5⟩ := hagree c
    refine ⟨((h c).1.trans ?_), (h c).2⟩
    refine (Cert.ReferenceMoeIdeal.Read.val_main_v160_eq _).trans ?_
    show Cert.ReferenceMoeIdeal.Read.val_main_v160 (F := Ideal) (m' ((c.tc : Thread Cert.ReferenceMoeIdeal.nD Cert.ReferenceMoeIdeal.τ).loc Cert.ReferenceMoeIdeal.main_arg0))
      (m' ((c.tc : Thread Cert.ReferenceMoeIdeal.nD Cert.ReferenceMoeIdeal.τ).loc Cert.ReferenceMoeIdeal.main_arg1))
      (m' ((c.tc : Thread Cert.ReferenceMoeIdeal.nD Cert.ReferenceMoeIdeal.τ).loc Cert.ReferenceMoeIdeal.main_arg2))
      (m' ((c.tc : Thread Cert.ReferenceMoeIdeal.nD Cert.ReferenceMoeIdeal.τ).loc Cert.ReferenceMoeIdeal.main_arg3))
      (m' ((c.tc : Thread Cert.ReferenceMoeIdeal.nD Cert.ReferenceMoeIdeal.τ).loc Cert.ReferenceMoeIdeal.main_arg4))
      (m' ((c.tc : Thread Cert.ReferenceMoeIdeal.nD Cert.ReferenceMoeIdeal.τ).loc Cert.ReferenceMoeIdeal.main_arg5)) = _
    rw [a0, a1, a2, a3, a4, a5]
    exact moe_eq m hO (hlt 0) c

end Cert.Layer

end
-- ==== Proof.AttnPay.lean ====
/-
  One block of 128 keys of the attention of the prompt, for the rows the block touches: what the block's stores hold,
  entry by entry. Four heads share the 256 lanes; a head's carry is the sum of the log complements of the keys already
  seen, and the accumulator gains the weights of the block times its values.
-/
module

public import proofs.«01_k».proof.Proof.Common
public import proofs.«01_k».proof.Proof.Gen.KernelIdeal.Value
public import Idealize.ShloMosaic.Lib.IdealHost

@[expose] public section

set_option maxRecDepth 16384

noncomputable section

open Idealize.ShloMosaic Idealize.ShloMosaic.TcCoe Idealize.SL.Sem
open Cert.Layer

namespace Cert.KernelIdeal.Value
open Cert.KernelIdeal Cert.KernelIdeal.Gen

/-- The soft maximum of a score and zero, `log (1 + e^z)`, in the form that cannot overflow. -/
def soft (z : EReal) : EReal := max z 0 + Ideal.log (1 + Ideal.exp (0 - FloatOps.absf (F := Ideal) (φ := .f32) z))

/-- The log complement of a score, zero where the key is not seen. -/
def keep (m : BitVec 1) (z : EReal) : EReal := Scalar.select m (0 - soft z) 0

/-- The log complements `g` of the later keys of a block, by the product with the stacked suffix matrix: its upper half
    meets the leading parts, its lower half the remainders. -/
def after (g : Fin 128 → EReal) (sf : Vec Ideal S256x128 .bf16) (s : Fin 128) : EReal :=
  ∑ x : Fin 128, g x * sf (ix2 (⟨x.val, by omega⟩ : Fin 256) s) + ∑ x : Fin 128, (g x - g x) * sf (ix2 (⟨128 + x.val, by omega⟩ : Fin 256) s)

/-- The weight of a key: its score's log probability plus the log complements of the later keys, exponentiated. -/
def weigh (m : BitVec 1) (z later c : EReal) : EReal := Scalar.select m (Ideal.exp (z - soft z + later + c)) 0

/-- The score of row `r` and key `s` of the block. -/
def zed (q : Vec Ideal S512x256 .bf16) (b : Vec Ideal S1x128 .f32) (k : Vec Ideal S128x256 .f32) (r : Fin 512) (s : Fin 128) : EReal :=
  ∑ x : Fin 256, q (ix2 r x) * k (ix2 s x) + b (ix2 0 s)

/-- What the block adds to lane `l` when the four heads' weights of the row are `w0 … w3`. -/
def gain (w0 w1 w2 w3 : Fin 128 → EReal) (v : Vec Ideal S128x256 .bf16) (l : Fin 256) : EReal :=
  if _h : l.val < 128 then
    Scalar.select (IntOp.cmpi CmpIPredicate.slt (BitVec.ofNat 32 l.val) 64#32) (∑ s, w0 s * v (ix2 s l)) (∑ s, w1 s * v (ix2 s l))
  else
    Scalar.select (IntOp.cmpi CmpIPredicate.slt (BitVec.ofNat 32 (l.val - 128)) 64#32)
      (∑ s, w2 s * v (ix2 s (⟨128 + (l.val - 128), by omega⟩ : Fin 256))) (∑ s, w3 s * v (ix2 s (⟨128 + (l.val - 128), by omega⟩ : Fin 256)))

variable (q0 q1 q2 q3 : Vec Ideal S512x256 .bf16) (b0 b1 b2 b3 : Vec Ideal S1x128 .f32) (k v' : Vec Ideal S128x256 .f32)
  (v : Vec Ideal S128x256 .bf16) (sf : Vec Ideal S256x128 .bf16)

/-- The carry of head 0 after the last diagonal block. -/
theorem carry_3_0 (m : IVec S128x128 1) (c0 : Vec Ideal S128x1 .f32) (r : Fin 128) :
    (k0_pay108 (k0_pay95 m (k0_pay87 q0 b0 k) k0_pay91) c0) (ix2 r 0) = c0 (ix2 r 0) + ∑ s : Fin 128, keep (m (ix2 r s)) (zed q0 b0 k (⟨384 + r.val, by omega⟩ : Fin 512) s) := by
  pointwise [k0_pay84, k0_pay87, k0_pay91, k0_pay92, k0_pay93, k0_pay95, k0_pay108, keep, soft, zed]

/-- The carry of head 1 after the last diagonal block. -/
theorem carry_3_1 (m : IVec S128x128 1) (c1 : Vec Ideal S128x1 .f32) (r : Fin 128) :
    (k0_pay110 (k0_pay99 m (k0_pay88 q1 b1 k)) c1) (ix2 r 0) = c1 (ix2 r 0) + ∑ s : Fin 128, keep (m (ix2 r s)) (zed q1 b1 k (⟨384 + r.val, by omega⟩ : Fin 512) s) := by
  pointwise [k0_pay84, k0_pay88, k0_pay96, k0_pay97, k0_pay99, k0_pay110, keep, soft, zed]

/-- The carry of head 2 after the last diagonal block. -/
theorem carry_3_2 (m : IVec S128x128 1) (c2 : Vec Ideal S128x1 .f32) (r : Fin 128) :
    (k0_pay112 (k0_pay103 m (k0_pay89 q2 b2 k)) c2) (ix2 r 0) = c2 (ix2 r 0) + ∑ s : Fin 128, keep (m (ix2 r s)) (zed q2 b2 k (⟨384 + r.val, by omega⟩ : Fin 512) s) := by
  pointwise [k0_pay84, k0_pay89, k0_pay100, k0_pay101, k0_pay103, k0_pay112, keep, soft, zed]

/-- The carry of head 3 after the last diagonal block. -/
theorem carry_3_3 (m : IVec S128x128 1) (c3 : Vec Ideal S128x1 .f32) (r : Fin 128) :
    (k0_pay115 (k0_pay107 (k0_pay105 m (k0_pay90 q3 b3 k))) c3) (ix2 r 0) = c3 (ix2 r 0) + ∑ s : Fin 128, keep (m (ix2 r s)) (zed q3 b3 k (⟨384 + r.val, by omega⟩ : Fin 512) s) := by
  pointwise [k0_pay84, k0_pay90, k0_pay104, k0_pay105, k0_pay107, k0_pay115, keep, soft, zed]

/-- The accumulator after the last diagonal block. -/
theorem acc_3 (w : BitVec 32) (c0 c1 c2 c3 : Vec Ideal S128x1 .f32) (a : Vec Ideal S128x256 .f32) (r : Fin 128) (l : Fin 256) :
    (k0_pay116 v (k0_pay86 w) (k0_pay109 (k0_pay86 w) (k0_pay94 sf (k0_pay86 w) (k0_pay87 q0 b0 k) k0_pay91) c0) (k0_pay111 (k0_pay86 w) (k0_pay98 sf (k0_pay86 w) (k0_pay88 q1 b1 k)) c1) (k0_pay113 (k0_pay86 w) (k0_pay102 sf (k0_pay86 w) (k0_pay89 q2 b2 k)) c2) (k0_pay114 (k0_pay106 sf (k0_pay86 w) (k0_pay90 q3 b3 k)) c3) (Scalar.ofBits .f32 0x00000000#32) a) (ix2 r l) = a (ix2 r l) + gain
      (fun s => weigh ((k0_pay86 w) (ix2 r s)) (zed q0 b0 k (⟨384 + r.val, by omega⟩ : Fin 512) s) (after (fun x => keep ((k0_pay86 w) (ix2 r x)) (zed q0 b0 k (⟨384 + r.val, by omega⟩ : Fin 512) x)) sf s) (c0 (ix2 r 0)))
      (fun s => weigh ((k0_pay86 w) (ix2 r s)) (zed q1 b1 k (⟨384 + r.val, by omega⟩ : Fin 512) s) (after (fun x => keep ((k0_pay86 w) (ix2 r x)) (zed q1 b1 k (⟨384 + r.val, by omega⟩ : Fin 512) x)) sf s) (c1 (ix2 r 0)))
      (fun s => weigh ((k0_pay86 w) (ix2 r s)) (zed q2 b2 k (⟨384 + r.val, by omega⟩ : Fin 512) s) (after (fun x => keep ((k0_pay86 w) (ix2 r x)) (zed q2 b2 k (⟨384 + r.val, by omega⟩ : Fin 512) x)) sf s) (c2 (ix2 r 0)))
      (fun s => weigh ((k0_pay86 w) (ix2 r s)) (zed q3 b3 k (⟨384 + r.val, by omega⟩ : Fin 512) s) (after (fun x => keep ((k0_pay86 w) (ix2 r x)) (zed q3 b3 k (⟨384 + r.val, by omega⟩ : Fin 512) x)) sf s) (c3 (ix2 r 0)))
      v l := by
  pointwise [k0_pay84, k0_pay86, k0_pay87, k0_pay88, k0_pay89, k0_pay90, k0_pay91, k0_pay92, k0_pay93, k0_pay94, k0_pay96, k0_pay97, k0_pay98, k0_pay100, k0_pay101, k0_pay102, k0_pay104, k0_pay105, k0_pay106, k0_pay109, k0_pay111, k0_pay113, k0_pay114, k0_pay116, gain, weigh, after, keep, soft, zed]

/-- The carry of head 0 after the third diagonal block. -/
theorem carry_2_0 (w : BitVec 32) (c0 : Vec Ideal S256x1 .f32) (r : Fin 256) :
    (k0_pay142 (k0_pay128 w q0 b0 (k0_pay117 k) (k0_pay119 w) 512#32) c0) (ix2 r 0) = c0 (ix2 r 0) + ∑ s : Fin 128, keep ((k0_pay120 w (k0_pay119 w) 512#32) (ix2 r s)) (zed q0 b0 k (⟨256 + r.val, by omega⟩ : Fin 512) s) := by
  pointwise [k0_pay117, k0_pay119, k0_pay120, k0_pay121, k0_pay125, k0_pay126, k0_pay128, k0_pay142, keep, soft, zed]

/-- The carry of head 1 after the third diagonal block. -/
theorem carry_2_1 (m : IVec S256x128 1) (c1 : Vec Ideal S256x1 .f32) (r : Fin 256) :
    (k0_pay146 (k0_pay145 (k0_pay133 m (k0_pay122 q1 b1 (k0_pay117 k)) k0_pay129) c1)) (ix2 r 0) = c1 (ix2 r 0) + ∑ s : Fin 128, keep (m (ix2 r s)) (zed q1 b1 k (⟨256 + r.val, by omega⟩ : Fin 512) s) := by
  pointwise [k0_pay117, k0_pay122, k0_pay129, k0_pay130, k0_pay131, k0_pay133, k0_pay145, k0_pay146, keep, soft, zed]

/-- The carry of head 2 after the third diagonal block. -/
theorem carry_2_2 (m : IVec S256x128 1) (c2 : Vec Ideal S256x1 .f32) (r : Fin 256) :
    (k0_pay147 (k0_pay137 m (k0_pay123 q2 b2 (k0_pay117 k))) c2) (ix2 r 0) = c2 (ix2 r 0) + ∑ s : Fin 128, keep (m (ix2 r s)) (zed q2 b2 k (⟨256 + r.val, by omega⟩ : Fin 512) s) := by
  pointwise [k0_pay117, k0_pay123, k0_pay134, k0_pay135, k0_pay137, k0_pay147, keep, soft, zed]

/-- The carry of head 3 after the third diagonal block. -/
theorem carry_2_3 (m : IVec S256x128 1) (c3 : Vec Ideal S256x1 .f32) (r : Fin 256) :
    (k0_pay148 (k0_pay141 m (k0_pay124 q3 b3 (k0_pay117 k))) c3) (ix2 r 0) = c3 (ix2 r 0) + ∑ s : Fin 128, keep (m (ix2 r s)) (zed q3 b3 k (⟨256 + r.val, by omega⟩ : Fin 512) s) := by
  pointwise [k0_pay117, k0_pay124, k0_pay138, k0_pay139, k0_pay141, k0_pay148, keep, soft, zed]

/-- The accumulator after the third diagonal block. -/
theorem acc_2 (w : BitVec 32) (c0 c1 c2 c3 : Vec Ideal S256x1 .f32) (a : Vec Ideal S256x256 .f32) (r : Fin 256) (l : Fin 256) :
    (k0_pay152 (k0_pay150 v (k0_pay143 (k0_pay120 w (k0_pay119 w) 512#32) (k0_pay127 w q0 b0 sf (k0_pay117 k) (k0_pay119 w) 512#32) c0) (k0_pay144 (k0_pay120 w (k0_pay119 w) 512#32) (k0_pay132 sf (k0_pay120 w (k0_pay119 w) 512#32) (k0_pay122 q1 b1 (k0_pay117 k)) k0_pay129) c1)) (k0_pay151 v (k0_pay120 w (k0_pay119 w) 512#32) (k0_pay136 sf (k0_pay120 w (k0_pay119 w) 512#32) (k0_pay123 q2 b2 (k0_pay117 k))) (k0_pay140 sf (k0_pay120 w (k0_pay119 w) 512#32) (k0_pay124 q3 b3 (k0_pay117 k))) c2 c3) a) (ix2 r l) = a (ix2 r l) + gain
      (fun s => weigh ((k0_pay120 w (k0_pay119 w) 512#32) (ix2 r s)) (zed q0 b0 k (⟨256 + r.val, by omega⟩ : Fin 512) s) (after (fun x => keep ((k0_pay120 w (k0_pay119 w) 512#32) (ix2 r x)) (zed q0 b0 k (⟨256 + r.val, by omega⟩ : Fin 512) x)) sf s) (c0 (ix2 r 0)))
      (fun s => weigh ((k0_pay120 w (k0_pay119 w) 512#32) (ix2 r s)) (zed q1 b1 k (⟨256 + r.val, by omega⟩ : Fin 512) s) (after (fun x => keep ((k0_pay120 w (k0_pay119 w) 512#32) (ix2 r x)) (zed q1 b1 k (⟨256 + r.val, by omega⟩ : Fin 512) x)) sf s) (c1 (ix2 r 0)))
      (fun s => weigh ((k0_pay120 w (k0_pay119 w) 512#32) (ix2 r s)) (zed q2 b2 k (⟨256 + r.val, by omega⟩ : Fin 512) s) (after (fun x => keep ((k0_pay120 w (k0_pay119 w) 512#32) (ix2 r x)) (zed q2 b2 k (⟨256 + r.val, by omega⟩ : Fin 512) x)) sf s) (c2 (ix2 r 0)))
      (fun s => weigh ((k0_pay120 w (k0_pay119 w) 512#32) (ix2 r s)) (zed q3 b3 k (⟨256 + r.val, by omega⟩ : Fin 512) s) (after (fun x => keep ((k0_pay120 w (k0_pay119 w) 512#32) (ix2 r x)) (zed q3 b3 k (⟨256 + r.val, by omega⟩ : Fin 512) x)) sf s) (c3 (ix2 r 0)))
      v l := by
  pointwise [k0_pay117, k0_pay119, k0_pay120, k0_pay121, k0_pay122, k0_pay123, k0_pay124, k0_pay125, k0_pay126, k0_pay127, k0_pay129, k0_pay130, k0_pay131, k0_pay132, k0_pay134, k0_pay135, k0_pay136, k0_pay138, k0_pay139, k0_pay140, k0_pay143, k0_pay144, k0_pay149, k0_pay150, k0_pay151, k0_pay152, gain, weigh, after, keep, soft, zed]

/-- The carry of head 0 after the second diagonal block. -/
theorem carry_1_0 (m : IVec S384x128 1) (c0 : Vec Ideal S384x1 .f32) (r : Fin 384) :
    (k0_pay179 (k0_pay165 m (k0_pay160 q0 b0 k) (k0_pay161 q0 b0 k)) c0) (ix2 r 0) = c0 (ix2 r 0) + ∑ s : Fin 128, keep (m (ix2 r s)) (zed q0 b0 k (⟨128 + r.val, by omega⟩ : Fin 512) s) := by
  pointwise [k0_pay153, k0_pay156, k0_pay160, k0_pay161, k0_pay162, k0_pay163, k0_pay165, k0_pay179, keep, soft, zed]

/-- The carry of head 1 after the second diagonal block. -/
theorem carry_1_1 (m : IVec S384x128 1) (c1 : Vec Ideal S384x1 .f32) (r : Fin 384) :
    (k0_pay181 (k0_pay169 m (k0_pay157 q1 b1 k)) c1) (ix2 r 0) = c1 (ix2 r 0) + ∑ s : Fin 128, keep (m (ix2 r s)) (zed q1 b1 k (⟨128 + r.val, by omega⟩ : Fin 512) s) := by
  pointwise [k0_pay153, k0_pay157, k0_pay166, k0_pay167, k0_pay169, k0_pay181, keep, soft, zed]

/-- The carry of head 2 after the second diagonal block. -/
theorem carry_1_2 (m : IVec S384x128 1) (c2 : Vec Ideal S384x1 .f32) (r : Fin 384) :
    (k0_pay183 (k0_pay174 m (k0_pay158 q2 b2 k) k0_pay170) c2) (ix2 r 0) = c2 (ix2 r 0) + ∑ s : Fin 128, keep (m (ix2 r s)) (zed q2 b2 k (⟨128 + r.val, by omega⟩ : Fin 512) s) := by
  pointwise [k0_pay153, k0_pay158, k0_pay170, k0_pay171, k0_pay172, k0_pay174, k0_pay183, keep, soft, zed]

/-- The carry of head 3 after the second diagonal block. -/
theorem carry_1_3 (m : IVec S384x128 1) (c3 : Vec Ideal S384x1 .f32) (r : Fin 384) :
    (k0_pay186 (k0_pay178 m (k0_pay159 q3 b3 k)) c3) (ix2 r 0) = c3 (ix2 r 0) + ∑ s : Fin 128, keep (m (ix2 r s)) (zed q3 b3 k (⟨128 + r.val, by omega⟩ : Fin 512) s) := by
  pointwise [k0_pay153, k0_pay159, k0_pay175, k0_pay176, k0_pay178, k0_pay186, keep, soft, zed]

/-- The accumulator after the second diagonal block. -/
theorem acc_1 (w : BitVec 32) (c0 c1 c2 c3 : Vec Ideal S384x1 .f32) (a : Vec Ideal S384x256 .f32) (r : Fin 384) (l : Fin 256) :
    (k0_pay187 v (k0_pay180 (k0_pay155 w) (k0_pay164 sf (k0_pay155 w) (k0_pay156 q0 b0 k) (k0_pay160 q0 b0 k) (k0_pay161 q0 b0 k)) c0) (k0_pay182 (k0_pay155 w) (k0_pay168 sf (k0_pay155 w) (k0_pay157 q1 b1 k)) c1) (k0_pay184 (k0_pay155 w) (k0_pay173 sf (k0_pay155 w) (k0_pay158 q2 b2 k) k0_pay170) c2) (k0_pay185 (k0_pay155 w) (k0_pay177 sf (k0_pay155 w) (k0_pay159 q3 b3 k)) c3) a) (ix2 r l) = a (ix2 r l) + gain
      (fun s => weigh ((k0_pay155 w) (ix2 r s)) (zed q0 b0 k (⟨128 + r.val, by omega⟩ : Fin 512) s) (after (fun x => keep ((k0_pay155 w) (ix2 r x)) (zed q0 b0 k (⟨128 + r.val, by omega⟩ : Fin 512) x)) sf s) (c0 (ix2 r 0)))
      (fun s => weigh ((k0_pay155 w) (ix2 r s)) (zed q1 b1 k (⟨128 + r.val, by omega⟩ : Fin 512) s) (after (fun x => keep ((k0_pay155 w) (ix2 r x)) (zed q1 b1 k (⟨128 + r.val, by omega⟩ : Fin 512) x)) sf s) (c1 (ix2 r 0)))
      (fun s => weigh ((k0_pay155 w) (ix2 r s)) (zed q2 b2 k (⟨128 + r.val, by omega⟩ : Fin 512) s) (after (fun x => keep ((k0_pay155 w) (ix2 r x)) (zed q2 b2 k (⟨128 + r.val, by omega⟩ : Fin 512) x)) sf s) (c2 (ix2 r 0)))
      (fun s => weigh ((k0_pay155 w) (ix2 r s)) (zed q3 b3 k (⟨128 + r.val, by omega⟩ : Fin 512) s) (after (fun x => keep ((k0_pay155 w) (ix2 r x)) (zed q3 b3 k (⟨128 + r.val, by omega⟩ : Fin 512) x)) sf s) (c3 (ix2 r 0)))
      v l := by
  pointwise [k0_pay153, k0_pay155, k0_pay156, k0_pay157, k0_pay158, k0_pay159, k0_pay160, k0_pay161, k0_pay162, k0_pay163, k0_pay164, k0_pay166, k0_pay167, k0_pay168, k0_pay170, k0_pay171, k0_pay172, k0_pay173, k0_pay175, k0_pay176, k0_pay177, k0_pay180, k0_pay182, k0_pay184, k0_pay185, k0_pay187, gain, weigh, after, keep, soft, zed]

/-- The carry of head 0 after the first diagonal block. -/
theorem carry_0_0 (w : BitVec 32) (c0 : Vec Ideal S512x1 .f32) (r : Fin 512) :
    (k0_pay217 (k0_pay199 q0 b0 (k0_pay188 k) (k0_pay190 w) (Scalar.muli w 512#32) 0#32) c0) (ix2 r 0) = c0 (ix2 r 0) + ∑ s : Fin 128, keep ((k0_pay191 (k0_pay190 w) (Scalar.muli w 512#32) 0#32) (ix2 r s)) (zed q0 b0 k r s) := by
  pointwise [k0_pay188, k0_pay190, k0_pay191, k0_pay192, k0_pay196, k0_pay197, k0_pay199, k0_pay217, keep, soft, zed]

/-- The carry of head 1 after the first diagonal block. -/
theorem carry_0_1 (m : IVec S512x128 1) (c1 : Vec Ideal S512x1 .f32) (r : Fin 512) :
    (k0_pay219 (k0_pay205 m (k0_pay200 q1 b1 (k0_pay188 k)) (k0_pay201 q1 b1 (k0_pay188 k))) c1) (ix2 r 0) = c1 (ix2 r 0) + ∑ s : Fin 128, keep (m (ix2 r s)) (zed q1 b1 k r s) := by
  pointwise [k0_pay188, k0_pay193, k0_pay200, k0_pay201, k0_pay202, k0_pay203, k0_pay205, k0_pay219, keep, soft, zed]

/-- The carry of head 2 after the first diagonal block. -/
theorem carry_0_2 (m : IVec S512x128 1) (c2 : Vec Ideal S512x1 .f32) (r : Fin 512) :
    (k0_pay221 (k0_pay209 m (k0_pay194 q2 b2 (k0_pay188 k))) c2) (ix2 r 0) = c2 (ix2 r 0) + ∑ s : Fin 128, keep (m (ix2 r s)) (zed q2 b2 k r s) := by
  pointwise [k0_pay188, k0_pay194, k0_pay206, k0_pay207, k0_pay209, k0_pay221, keep, soft, zed]

/-- The carry of head 3 after the first diagonal block. -/
theorem carry_0_3 (m : IVec S512x128 1) (c3 : Vec Ideal S512x1 .f32) (r : Fin 512) :
    (k0_pay222 (k0_pay216 m (k0_pay210 (k0_pay195 q3 b3 (k0_pay188 k))) (k0_pay211 (k0_pay195 q3 b3 (k0_pay188 k))) k0_pay212) c3) (ix2 r 0) = c3 (ix2 r 0) + ∑ s : Fin 128, keep (m (ix2 r s)) (zed q3 b3 k r s) := by
  pointwise [k0_pay188, k0_pay195, k0_pay210, k0_pay211, k0_pay212, k0_pay213, k0_pay214, k0_pay216, k0_pay222, keep, soft, zed]

/-- The accumulator after the first diagonal block. -/
theorem acc_0 (w : BitVec 32) (c0 c1 c2 c3 : Vec Ideal S512x1 .f32) (a : Vec Ideal S512x256 .f32) (r : Fin 512) (l : Fin 256) :
    (k0_pay1 (k0_pay223 v (k0_pay191 (k0_pay190 w) (Scalar.muli w 512#32) 0#32) (k0_pay208 sf (k0_pay191 (k0_pay190 w) (Scalar.muli w 512#32) 0#32) (k0_pay194 q2 b2 (k0_pay188 k))) (k0_pay215 sf (k0_pay191 (k0_pay190 w) (Scalar.muli w 512#32) 0#32) (k0_pay195 q3 b3 (k0_pay188 k)) (k0_pay210 (k0_pay195 q3 b3 (k0_pay188 k))) (k0_pay211 (k0_pay195 q3 b3 (k0_pay188 k))) k0_pay212) (k0_pay218 (k0_pay191 (k0_pay190 w) (Scalar.muli w 512#32) 0#32) (k0_pay198 q0 b0 sf (k0_pay188 k) (k0_pay190 w) (Scalar.muli w 512#32) 0#32) c0) (k0_pay220 (k0_pay191 (k0_pay190 w) (Scalar.muli w 512#32) 0#32) (k0_pay204 sf (k0_pay191 (k0_pay190 w) (Scalar.muli w 512#32) 0#32) (k0_pay193 q1 b1 (k0_pay188 k)) (k0_pay200 q1 b1 (k0_pay188 k)) (k0_pay201 q1 b1 (k0_pay188 k))) c1) c2 c3 a)) (ix2 r l) = a (ix2 r l) + gain
      (fun s => weigh ((k0_pay191 (k0_pay190 w) (Scalar.muli w 512#32) 0#32) (ix2 r s)) (zed q0 b0 k r s) (after (fun x => keep ((k0_pay191 (k0_pay190 w) (Scalar.muli w 512#32) 0#32) (ix2 r x)) (zed q0 b0 k r x)) sf s) (c0 (ix2 r 0)))
      (fun s => weigh ((k0_pay191 (k0_pay190 w) (Scalar.muli w 512#32) 0#32) (ix2 r s)) (zed q1 b1 k r s) (after (fun x => keep ((k0_pay191 (k0_pay190 w) (Scalar.muli w 512#32) 0#32) (ix2 r x)) (zed q1 b1 k r x)) sf s) (c1 (ix2 r 0)))
      (fun s => weigh ((k0_pay191 (k0_pay190 w) (Scalar.muli w 512#32) 0#32) (ix2 r s)) (zed q2 b2 k r s) (after (fun x => keep ((k0_pay191 (k0_pay190 w) (Scalar.muli w 512#32) 0#32) (ix2 r x)) (zed q2 b2 k r x)) sf s) (c2 (ix2 r 0)))
      (fun s => weigh ((k0_pay191 (k0_pay190 w) (Scalar.muli w 512#32) 0#32) (ix2 r s)) (zed q3 b3 k r s) (after (fun x => keep ((k0_pay191 (k0_pay190 w) (Scalar.muli w 512#32) 0#32) (ix2 r x)) (zed q3 b3 k r x)) sf s) (c3 (ix2 r 0)))
      v l := by
  pointwise [k0_pay1, k0_pay188, k0_pay190, k0_pay191, k0_pay192, k0_pay193, k0_pay194, k0_pay195, k0_pay196, k0_pay197, k0_pay198, k0_pay200, k0_pay201, k0_pay202, k0_pay203, k0_pay204, k0_pay206, k0_pay207, k0_pay208, k0_pay210, k0_pay211, k0_pay212, k0_pay213, k0_pay214, k0_pay215, k0_pay218, k0_pay220, k0_pay223, gain, weigh, after, keep, soft, zed]

/-- The carry of head 0 after a block before the diagonal. -/
theorem carry_t_0 (c0 : Vec Ideal S512x1 .f32) (r : Fin 512) :
    (k0_pay32 (k0_pay18 (k0_pay17 q0 b0 k)) c0) (ix2 r 0) = c0 (ix2 r 0) + ∑ s : Fin 128, keep 1#1 (zed q0 b0 k r s) := by
  pointwise [k0_pay8, k0_pay10, k0_pay14, k0_pay15, k0_pay17, k0_pay18, k0_pay32, keep, soft, zed]

/-- The carry of head 1 after a block before the diagonal. -/
theorem carry_t_1 (c1 : Vec Ideal S512x1 .f32) (r : Fin 512) :
    (k0_pay34 (k0_pay22 (k0_pay11 q1 b1 k)) c1) (ix2 r 0) = c1 (ix2 r 0) + ∑ s : Fin 128, keep 1#1 (zed q1 b1 k r s) := by
  pointwise [k0_pay8, k0_pay11, k0_pay19, k0_pay20, k0_pay22, k0_pay34, keep, soft, zed]

/-- The carry of head 2 after a block before the diagonal. -/
theorem carry_t_2 (c2 : Vec Ideal S512x1 .f32) (r : Fin 512) :
    (k0_pay2 (k0_pay37 (k0_pay26 (k0_pay12 q2 b2 k)) c2)) (ix2 r 0) = c2 (ix2 r 0) + ∑ s : Fin 128, keep 1#1 (zed q2 b2 k r s) := by
  pointwise [k0_pay2, k0_pay8, k0_pay12, k0_pay23, k0_pay24, k0_pay26, k0_pay37, keep, soft, zed]

/-- The carry of head 3 after a block before the diagonal. -/
theorem carry_t_3 (c3 : Vec Ideal S512x1 .f32) (r : Fin 512) :
    (k0_pay3 (k0_pay31 (k0_pay13 q3 b3 k) (k0_pay27 (k0_pay13 q3 b3 k))) c3) (ix2 r 0) = c3 (ix2 r 0) + ∑ s : Fin 128, keep 1#1 (zed q3 b3 k r s) := by
  pointwise [k0_pay3, k0_pay8, k0_pay13, k0_pay27, k0_pay28, k0_pay29, k0_pay31, keep, soft, zed]

/-- The accumulator after a block before the diagonal. -/
theorem acc_t (c0 c1 c2 c3 : Vec Ideal S512x1 .f32) (a : Vec Ideal S512x256 .f32) (r : Fin 512) (l : Fin 256) :
    (k0_pay4 v (k0_pay30 sf (k0_pay13 q3 b3 k) (k0_pay27 (k0_pay13 q3 b3 k))) (k0_pay33 (k0_pay16 q0 b0 sf k) c0) (k0_pay35 (k0_pay21 sf (k0_pay11 q1 b1 k)) c1) (k0_pay36 (k0_pay25 sf (k0_pay12 q2 b2 k)) c2) c3 a) (ix2 r l) = a (ix2 r l) + gain
      (fun s => weigh 1#1 (zed q0 b0 k r s) (after (fun x => keep 1#1 (zed q0 b0 k r x)) sf s) (c0 (ix2 r 0)))
      (fun s => weigh 1#1 (zed q1 b1 k r s) (after (fun x => keep 1#1 (zed q1 b1 k r x)) sf s) (c1 (ix2 r 0)))
      (fun s => weigh 1#1 (zed q2 b2 k r s) (after (fun x => keep 1#1 (zed q2 b2 k r x)) sf s) (c2 (ix2 r 0)))
      (fun s => weigh 1#1 (zed q3 b3 k r s) (after (fun x => keep 1#1 (zed q3 b3 k r x)) sf s) (c3 (ix2 r 0)))
      v l := by
  pointwise [k0_pay4, k0_pay8, k0_pay10, k0_pay11, k0_pay12, k0_pay13, k0_pay14, k0_pay15, k0_pay16, k0_pay19, k0_pay20, k0_pay21, k0_pay23, k0_pay24, k0_pay25, k0_pay27, k0_pay28, k0_pay29, k0_pay30, k0_pay33, k0_pay35, k0_pay36, gain, weigh, after, keep, soft, zed]

end Cert.KernelIdeal.Value

end
-- ==== Proof.AttnStep.lean ====
/-
  The recursion the attention of the prompt runs for one tile of 512 query rows: the blocks of 128 keys are visited
  from the last one downwards, each adds its log complements to the carry of a head and its weighted values to the
  accumulator. Here the recursion, and the step a block's stores make in it.
-/
module

public import proofs.«01_k».proof.Proof.AttnPay

@[expose] public section

set_option maxRecDepth 16384

noncomputable section

open Idealize.ShloMosaic Idealize.ShloMosaic.TcCoe Idealize.SL.Sem
open Cert.Layer

namespace Cert.KernelIdeal.Value
open Cert.KernelIdeal Cert.KernelIdeal.Gen

/-- Whether row `r` of query tile `i` sees key `s` of block `j`: the key lies strictly before the row. -/
def seen (i j r s : ℕ) : BitVec 1 := if 128 * j + s < 512 * i + r then 1#1 else 0#1

section spec

variable (i : ℕ) (q : Vec Ideal S512x256 .bf16) (b : Vec Ideal S1x128 .f32) (K : ℕ → Vec Ideal S128x256 .f32) (sf : Vec Ideal S256x128 .bf16)

/-- The carry of a head after `n` blocks. -/
def kC : ℕ → Fin 512 → EReal
  | 0, _ => 0
  | n + 1, r => kC n r + ∑ s : Fin 128, keep (seen i (4 * i + 3 - n) r.val s.val) (zed q b (K (4 * i + 3 - n)) r s)

/-- The weights of a head in the block visited after `n` others. -/
def kW (n : ℕ) (r : Fin 512) (s : Fin 128) : EReal :=
  weigh (seen i (4 * i + 3 - n) r.val s.val) (zed q b (K (4 * i + 3 - n)) r s)
    (after (fun x => keep (seen i (4 * i + 3 - n) r.val x.val) (zed q b (K (4 * i + 3 - n)) r x)) sf s) (kC i q b K n r)

end spec

section spec4

variable (i : ℕ) (q0 q1 q2 q3 : Vec Ideal S512x256 .bf16) (b0 b1 b2 b3 : Vec Ideal S1x128 .f32) (K : ℕ → Vec Ideal S128x256 .f32)
  (V : ℕ → Vec Ideal S128x256 .bf16) (sf : Vec Ideal S256x128 .bf16)

/-- The accumulator after `n` blocks. -/
def kA : ℕ → Fin 512 → Fin 256 → EReal
  | 0, _, _ => 0
  | n + 1, r, l => kA n r l + gain (kW i q0 b0 K sf n r) (kW i q1 b1 K sf n r) (kW i q2 b2 K sf n r) (kW i q3 b3 K sf n r) (V (4 * i + 3 - n)) l

end spec4

theorem seen_before {i d lo r s : ℕ} (hlo : lo = 128 * d) (h : r < lo) : seen i (4 * i + d) r s = 0#1 := by
  unfold seen; exact if_neg (by omega)

theorem seen_all {i j r s : ℕ} (hj : j < 4 * i) (hs : s < 128) : seen i j r s = 1#1 := by
  unfold seen; exact if_pos (by omega)

theorem keep_zero (z : EReal) : keep 0#1 z = 0 := by unfold keep; rfl
theorem weigh_zero (z a c : EReal) : weigh 0#1 z a c = 0 := by unfold weigh; rfl

theorem gain_zero (v : Vec Ideal S128x256 .bf16) (l : Fin 256) : gain (fun _ => 0) (fun _ => 0) (fun _ => 0) (fun _ => 0) v l = 0 := by
  unfold gain Scalar.select
  simp only [zero_mul, Finset.sum_const_zero, ite_self, dite_eq_ite]

/-- What a list of stores that begins with the rows from `lo` on holds at such a row. -/
theorem canon_row {N m lo : ℕ} (inb : ∀ a, (![lo, 0] : Fin 2 → ℕ) a + (![m, N] : Fin 2 → ℕ) a ≤ (⟨2, ![512, N]⟩ : Shape).size a)
    (w : (⟨2, ![m, N]⟩ : Shape).Idx → EReal) (L : List (View.Piece (Elt Ideal) ⟨2, ![512, N]⟩ .f32)) (r : Fin 512) (x : Fin m) (l : Fin N) (h : r.val = lo + x.val) :
    View.canon ((⟨Rect.unit (s := ⟨2, ![512, N]⟩) ![lo, 0] ![m, N] inb, w⟩ : View.Piece (Elt Ideal) ⟨2, ![512, N]⟩ .f32) :: L) (ix2 r l) = w (ix2 x l) := by
  refine Eq.trans (congrArg _ ?_) (View.canon_cons_emb (Rect.unit (s := ⟨2, ![512, N]⟩) ![lo, 0] ![m, N] inb) w L (ix2 x l))
  funext a; apply Fin.ext
  match a with
  | ⟨0, _⟩ => show r.val = lo + 1 * x.val; omega
  | ⟨1, _⟩ => show l.val = 0 + 1 * l.val; omega

/-- A row before `lo` keeps what the earlier stores left. -/
theorem canon_skip {N m lo : ℕ} (inb : ∀ a, (![lo, 0] : Fin 2 → ℕ) a + (![m, N] : Fin 2 → ℕ) a ≤ (⟨2, ![512, N]⟩ : Shape).size a)
    (w : (⟨2, ![m, N]⟩ : Shape).Idx → EReal) (L : List (View.Piece (Elt Ideal) ⟨2, ![512, N]⟩ .f32)) (r : Fin 512) (l : Fin N) (h : r.val < lo) :
    View.canon ((⟨Rect.unit (s := ⟨2, ![512, N]⟩) ![lo, 0] ![m, N] inb, w⟩ : View.Piece (Elt Ideal) ⟨2, ![512, N]⟩ .f32) :: L) (ix2 r l) = View.canon L (ix2 r l) := by
  refine View.canon_cons_of_not_mem _ L ?_
  intro hm
  have hm' : ix2 r l ∈ (Rect.unit (s := ⟨2, ![512, N]⟩) ![lo, 0] ![m, N] inb).set := hm
  rw [Rect.mem_set_unit] at hm'
  have h0 : lo ≤ r.val := (hm' (0 : Fin 2)).1
  omega

/-- What a load of the rows from `lo` on reads. -/
theorem readCov_row {N m lo : ℕ} (arg : Memref sig .tc .vmem ⟨2, ![512, N]⟩ .f32) (inb : ∀ a, (![lo, 0] : Fin 2 → ℕ) a + (![m, N] : Fin 2 → ℕ) a ≤ (⟨2, ![512, N]⟩ : Shape).size a)
    (L : List (View.Piece (Elt Ideal) ⟨2, ![512, N]⟩ .f32)) (x : Fin m) (l : Fin N) (h : lo + x.val < 512) :
    arg.view.readCov L (Rect.unit (s := ⟨2, ![512, N]⟩) ![lo, 0] ![m, N] inb).toLoadRect (ix2 x l) = View.canon L (ix2 (⟨lo + x.val, h⟩ : Fin 512) l) := by
  refine (congrFun (View.readCov_eq_canon' arg.view L (Rect.unit (s := ⟨2, ![512, N]⟩) ![lo, 0] ![m, N] inb).toLoadRect) (ix2 x l)).trans (congrArg _ ?_)
  funext a; apply Fin.ext
  match a with
  | ⟨0, _⟩ => show lo + 1 * x.val = lo + x.val; omega
  | ⟨1, _⟩ => show 0 + 1 * l.val = l.val; omega

section steps

variable {i n d lo m : ℕ} {K : ℕ → Vec Ideal S128x256 .f32} {R : Fin m → Fin 512}

/-- A block's store of a carry is one step of the recursion. -/
theorem carry_step (hlm : lo + m = 512) (hlo : lo = 128 * d) (hn : 4 * i + 3 - n = 4 * i + d) (hR : ∀ x, (R x).val = lo + x.val)
    (inb : ∀ a, (![lo, 0] : Fin 2 → ℕ) a + (![m, 1] : Fin 2 → ℕ) a ≤ (⟨2, ![512, 1]⟩ : Shape).size a)
    {w : (⟨2, ![m, 1]⟩ : Shape).Idx → EReal} {L : List (View.Piece (Elt Ideal) S512x1 .f32)}
    {q : Vec Ideal S512x256 .bf16} {b : Vec Ideal S1x128 .f32} {k : Vec Ideal S128x256 .f32} {M : IVec ⟨2, ![m, 128]⟩ 1} {c0 : (⟨2, ![m, 1]⟩ : Shape).Idx → EReal}
    (hL : ∀ r, View.canon L (ix2 r 0) = kC i q b K n r)
    (hc : ∀ x : Fin m, c0 (ix2 x 0) = View.canon L (ix2 (R x) 0))
    (hM : ∀ (x : Fin m) (s : Fin 128), M (ix2 x s) = seen i (4 * i + d) (lo + x.val) s.val)
    (hk : k = K (4 * i + d))
    (hw : ∀ x : Fin m, w (ix2 x 0) = c0 (ix2 x 0) + ∑ s : Fin 128, keep (M (ix2 x s)) (zed q b k (R x) s)) :
    ∀ r, View.canon ((⟨Rect.unit (s := S512x1) ![lo, 0] ![m, 1] inb, w⟩ : View.Piece (Elt Ideal) S512x1 .f32) :: L) (ix2 r 0) = kC i q b K (n + 1) r := by
  intro r
  show _ = kC i q b K n r + ∑ s : Fin 128, keep (seen i (4 * i + 3 - n) r.val s.val) (zed q b (K (4 * i + 3 - n)) r s)
  rw [hn]
  by_cases hr : lo ≤ r.val
  · have hx : r.val - lo < m := by omega
    have hRr : R ⟨r.val - lo, hx⟩ = r := Fin.ext ((hR _).trans (by show lo + (r.val - lo) = r.val; omega))
    refine (canon_row (N := 1) inb w L r ⟨r.val - lo, hx⟩ 0 (by show r.val = lo + (r.val - lo); omega)).trans ((hw _).trans ?_)
    rw [hc, hRr, hL, hk]
    refine congrArg _ (Finset.sum_congr rfl fun s _ => ?_)
    rw [hM]
    show keep (seen i (4 * i + d) (lo + (r.val - lo)) s.val) _ = _
    rw [show lo + (r.val - lo) = r.val by omega]
  · refine (canon_skip (N := 1) inb w L r 0 (by omega)).trans ((hL r).trans ?_)
    have h0 : ∑ s : Fin 128, keep (seen i (4 * i + d) r.val s.val) (zed q b (K (4 * i + d)) r s) = 0 :=
      Finset.sum_eq_zero fun s _ => by rw [seen_before hlo (by omega), keep_zero]
    rw [h0, add_zero]

/-- A block's store of the accumulator is one step of the recursion. -/
theorem acc_step (hlm : lo + m = 512) (hlo : lo = 128 * d) (hn : 4 * i + 3 - n = 4 * i + d) (hR : ∀ x, (R x).val = lo + x.val)
    (inb : ∀ a, (![lo, 0] : Fin 2 → ℕ) a + (![m, 256] : Fin 2 → ℕ) a ≤ (⟨2, ![512, 256]⟩ : Shape).size a)
    {w : (⟨2, ![m, 256]⟩ : Shape).Idx → EReal} {L : List (View.Piece (Elt Ideal) S512x256 .f32)} {L0 L1 L2 L3 : List (View.Piece (Elt Ideal) S512x1 .f32)}
    {q0 q1 q2 q3 : Vec Ideal S512x256 .bf16} {b0 b1 b2 b3 : Vec Ideal S1x128 .f32} {sf : Vec Ideal S256x128 .bf16} {V : ℕ → Vec Ideal S128x256 .bf16}
    {k : Vec Ideal S128x256 .f32} {v : Vec Ideal S128x256 .bf16}
    {M : IVec ⟨2, ![m, 128]⟩ 1} {c0 c1 c2 c3 : (⟨2, ![m, 1]⟩ : Shape).Idx → EReal} {a : (⟨2, ![m, 256]⟩ : Shape).Idx → EReal}
    (hL : ∀ r l, View.canon L (ix2 r l) = kA i q0 q1 q2 q3 b0 b1 b2 b3 K V sf n r l)
    (hL0 : ∀ r, View.canon L0 (ix2 r 0) = kC i q0 b0 K n r) (hL1 : ∀ r, View.canon L1 (ix2 r 0) = kC i q1 b1 K n r)
    (hL2 : ∀ r, View.canon L2 (ix2 r 0) = kC i q2 b2 K n r) (hL3 : ∀ r, View.canon L3 (ix2 r 0) = kC i q3 b3 K n r)
    (ha : ∀ (x : Fin m) (l : Fin 256), a (ix2 x l) = View.canon L (ix2 (R x) l))
    (hc0 : ∀ x : Fin m, c0 (ix2 x 0) = View.canon L0 (ix2 (R x) 0)) (hc1 : ∀ x : Fin m, c1 (ix2 x 0) = View.canon L1 (ix2 (R x) 0))
    (hc2 : ∀ x : Fin m, c2 (ix2 x 0) = View.canon L2 (ix2 (R x) 0)) (hc3 : ∀ x : Fin m, c3 (ix2 x 0) = View.canon L3 (ix2 (R x) 0))
    (hM : ∀ (x : Fin m) (s : Fin 128), M (ix2 x s) = seen i (4 * i + d) (lo + x.val) s.val)
    (hk : k = K (4 * i + d)) (hv : v = V (4 * i + d))
    (hw : ∀ (x : Fin m) (l : Fin 256), w (ix2 x l) = a (ix2 x l) + gain
      (fun s => weigh (M (ix2 x s)) (zed q0 b0 k (R x) s) (after (fun y => keep (M (ix2 x y)) (zed q0 b0 k (R x) y)) sf s) (c0 (ix2 x 0)))
      (fun s => weigh (M (ix2 x s)) (zed q1 b1 k (R x) s) (after (fun y => keep (M (ix2 x y)) (zed q1 b1 k (R x) y)) sf s) (c1 (ix2 x 0)))
      (fun s => weigh (M (ix2 x s)) (zed q2 b2 k (R x) s) (after (fun y => keep (M (ix2 x y)) (zed q2 b2 k (R x) y)) sf s) (c2 (ix2 x 0)))
      (fun s => weigh (M (ix2 x s)) (zed q3 b3 k (R x) s) (after (fun y => keep (M (ix2 x y)) (zed q3 b3 k (R x) y)) sf s) (c3 (ix2 x 0)))
      v l) :
    ∀ r l, View.canon ((⟨Rect.unit (s := S512x256) ![lo, 0] ![m, 256] inb, w⟩ : View.Piece (Elt Ideal) S512x256 .f32) :: L) (ix2 r l)
      = kA i q0 q1 q2 q3 b0 b1 b2 b3 K V sf (n + 1) r l := by
  intro r l
  show _ = kA i q0 q1 q2 q3 b0 b1 b2 b3 K V sf n r l + gain (kW i q0 b0 K sf n r) (kW i q1 b1 K sf n r) (kW i q2 b2 K sf n r) (kW i q3 b3 K sf n r) (V (4 * i + 3 - n)) l
  unfold kW
  rw [hn]
  by_cases hr : lo ≤ r.val
  · have hx : r.val - lo < m := by omega
    have hRr : R ⟨r.val - lo, hx⟩ = r := Fin.ext ((hR _).trans (by show lo + (r.val - lo) = r.val; omega))
    have hMr : ∀ s : Fin 128, M (ix2 (⟨r.val - lo, hx⟩ : Fin m) s) = seen i (4 * i + d) r.val s.val := fun s => by
      rw [hM]
      show seen i (4 * i + d) (lo + (r.val - lo)) s.val = _
      rw [show lo + (r.val - lo) = r.val by omega]
    refine (canon_row (N := 256) inb w L r ⟨r.val - lo, hx⟩ l (by show r.val = lo + (r.val - lo); omega)).trans ((hw _ _).trans ?_)
    rw [ha, hRr, hL, hk, hv, hc0, hc1, hc2, hc3, hRr, hL0, hL1, hL2, hL3]
    simp only [hMr]
  · refine (canon_skip (N := 256) inb w L r l (by omega)).trans ((hL r l).trans ?_)
    have hs : ∀ s : Fin 128, seen i (4 * i + d) r.val s.val = 0#1 := fun s => seen_before hlo (by omega)
    simp only [hs, weigh_zero, gain_zero, add_zero]

end steps

section masks

theorem mask_word {i d lo r s : ℕ} (hi : i < 4) (hd : d < 4) (hlo : lo = 128 * d) (hr : r < 512) (hs : s < 128) :
    IntOp.cmpi CmpIPredicate.slt (IntOp.addi (IntOp.muli (IntOp.addi (IntOp.muli (BitVec.ofNat 32 i) (BitVec.ofNat 32 4)) (BitVec.ofNat 32 d)) (BitVec.ofNat 32 128)) (BitVec.ofNat 32 s))
      (IntOp.addi (IntOp.addi (IntOp.muli (BitVec.ofNat 32 i) (BitVec.ofNat 32 512)) (BitVec.ofNat 32 lo)) (BitVec.ofNat 32 r))
    = seen i (4 * i + d) (lo + r) s := by
  simp only [WordCmp.muli_ofNat, WordCmp.addi_ofNat]
  rw [WordCmp.cmpi_slt_ofNat (by norm_num; omega) (by norm_num; omega), WordCmp.ofBool_decide_eq_ite]
  unfold seen
  congr 1
  exact propext (by constructor <;> intro _ <;> omega)

theorem mask_3 {i : ℕ} (hi : i < 4) (r s : Fin 128) : k0_pay86 (BitVec.ofNat 32 i) (ix2 r s) = seen i (4 * i + 3) (384 + r.val) s.val := by
  pointwise [k0_pay86]
  exact mask_word hi (by decide) rfl (by omega) s.isLt

theorem mask_2 {i : ℕ} (hi : i < 4) (r : Fin 256) (s : Fin 128) :
    k0_pay120 (BitVec.ofNat 32 i) (k0_pay119 (BitVec.ofNat 32 i)) 512#32 (ix2 r s) = seen i (4 * i + 2) (256 + r.val) s.val := by
  pointwise [k0_pay120, k0_pay119]
  exact mask_word hi (by decide) rfl (by omega) s.isLt

theorem mask_1 {i : ℕ} (hi : i < 4) (r : Fin 384) (s : Fin 128) : k0_pay155 (BitVec.ofNat 32 i) (ix2 r s) = seen i (4 * i + 1) (128 + r.val) s.val := by
  pointwise [k0_pay155]
  exact mask_word hi (by decide) rfl (by omega) s.isLt

theorem mask_0 {i : ℕ} (hi : i < 4) (r : Fin 512) (s : Fin 128) :
    k0_pay191 (k0_pay190 (BitVec.ofNat 32 i)) (Scalar.muli (BitVec.ofNat 32 i) 512#32) 0#32 (ix2 r s) = seen i (4 * i + 0) (0 + r.val) s.val := by
  refine Eq.trans ?_ (mask_word hi (by decide) rfl r.isLt s.isLt)
  pointwise [k0_pay191, k0_pay190]
  rfl

end masks

section blocks

theorem loop1_trips : ∀ i : grid0.Coords, (k0_t1_loop i).trips = 4 * (i 2).val := by decide +kernel
theorem loop2_trips : ∀ i : grid0.Coords, (k0_t2_loop i).trips = 0 := by decide +kernel
theorem off1_row : ∀ i : grid0.Coords, ∀ d : Fin 4, k0_off1 i (BitVec.ofNat 32 d.val) 0 = 128 * (4 * (i 2).val + d.val) ∧ k0_off1 i (BitVec.ofNat 32 d.val) 1 = 0 := by decide +kernel
theorem off2_row : ∀ i : grid0.Coords, ∀ k : Fin (k0_t1_loop i).trips, k0_off2 i k 0 = 128 * (4 * (i 2).val - 1 - k.val) ∧ k0_off2 i k 1 = 0 := by decide +kernel

/-- Block `j` of 128 rows of the keys (or values) of a tile. -/
def rows (X : Vec Ideal S2048x256 .f32) (j : ℕ) : Vec Ideal S128x256 .f32 := fun y =>
  if h : 128 * j + (y (0 : Fin 2)).val < 2048 then X (ix2 (⟨128 * j + (y (0 : Fin 2)).val, h⟩ : Fin 2048) (⟨(y (1 : Fin 2)).val, (y (1 : Fin 2)).isLt⟩ : Fin 256)) else 0

theorem rows_at (X : Vec Ideal S2048x256 .f32) {j : ℕ} (hj : j < 16) (s : Fin 128) (l : Fin 256) :
    rows X j (ix2 s l) = X (ix2 (⟨128 * j + s.val, by omega⟩ : Fin 2048) l) := by
  unfold rows
  exact dif_pos (show 128 * j + s.val < 2048 by omega)

/-- A load of 128 rows from row `128 j` on reads block `j`. -/
theorem read_rows (arg : Memref sig .tc .vmem S2048x256 .f32) (harg : arg.IsWhole) (X : Vec Ideal S2048x256 .f32) {off : Fin 2 → ℕ} {j : ℕ}
    (inb : ∀ a, off a + S128x256.size a ≤ S2048x256.size a) (h0 : off 0 = 128 * j) (h1 : off 1 = 0) :
    View.readAt (Elt Ideal) arg.view (Rect.unit (s := S2048x256) off S128x256.size inb).toLoadRect (harg.unread X) = rows X j := by
  funext y
  refine (congrFun (View.readAt_eq_ld arg.view (harg.unread X) _) y).trans ?_
  rw [harg.read_unread]
  have hb : off 0 + 128 ≤ 2048 := inb (0 : Fin 2)
  have hy : (y (0 : Fin 2)).val < 128 := (y (0 : Fin 2)).isLt
  unfold rows
  rw [dif_pos (show 128 * j + (y (0 : Fin 2)).val < 2048 by omega)]
  refine congrArg X ?_
  funext a; apply Fin.ext
  match a with
  | ⟨0, _⟩ => show off 0 + 1 * (y (0 : Fin 2)).val = 128 * j + (y (0 : Fin 2)).val; omega
  | ⟨1, _⟩ => show off 1 + 1 * (y (1 : Fin 2)).val = (y (1 : Fin 2)).val; omega

end blocks

end Cert.KernelIdeal.Value

end
-- ==== Proof.AttnTile.lean ====
/-
  The four blocks of a tile of the attention of the prompt that lie on the diagonal: what the launch's stores to the
  carries and to the accumulator hold after each of them is the recursion's next step.
-/
module

public import proofs.«01_k».proof.Proof.AttnStep

@[expose] public section

set_option maxRecDepth 16384

noncomputable section

open Idealize.ShloMosaic Idealize.ShloMosaic.TcCoe Idealize.SL.Sem
open Cert.Layer

namespace Cert.KernelIdeal.Value
open Cert.KernelIdeal Cert.KernelIdeal.Gen

theorem readCov_row0 {N : ℕ} (arg : Memref sig .tc .vmem ⟨2, ![512, N]⟩ .f32) (inb : ∀ a, (![0, 0] : Fin 2 → ℕ) a + (![512, N] : Fin 2 → ℕ) a ≤ (⟨2, ![512, N]⟩ : Shape).size a)
    (L : List (View.Piece (Elt Ideal) ⟨2, ![512, N]⟩ .f32)) (x : Fin 512) (l : Fin N) :
    arg.view.readCov L (Rect.unit (s := ⟨2, ![512, N]⟩) ![0, 0] ![512, N] inb).toLoadRect (ix2 x l) = View.canon L (ix2 x l) := by
  refine (readCov_row arg inb L x l (by omega)).trans ?_
  rw [show (⟨0 + x.val, by omega⟩ : Fin 512) = x from Fin.ext (Nat.zero_add _)]

/-- Block `j` of the values, as the products take them. -/
def vrows (X : Vec Ideal S2048x256 .f32) (j : ℕ) : Vec Ideal S128x256 .bf16 := fun y => rows X j y

theorem v_3 (X : Vec Ideal S128x256 .f32) : k0_pay85 (F := Ideal) X = fun y => X y := rfl
theorem v_2 (X : Vec Ideal S128x256 .f32) : k0_pay118 (F := Ideal) X = fun y => X y := rfl
theorem v_1 (X : Vec Ideal S128x256 .f32) : k0_pay154 (F := Ideal) X = fun y => X y := rfl
theorem v_0 (X : Vec Ideal S128x256 .f32) : k0_pay189 (F := Ideal) X = fun y => X y := rfl

variable (c : Dev nD) (i : grid0.Coords) (arg3 : Memref sig .tc .vmem S512x256 .f32) (harg3 : arg3.IsWhole) (arg4 : Memref sig .tc .vmem S2048x256 .f32) (harg4 : arg4.IsWhole)
  (arg5 : Memref sig .tc .vmem S2048x256 .f32) (harg5 : arg5.IsWhole) (arg6 : Memref sig .tc .vmem S1x4x128 .f32) (harg6 : arg6.IsWhole)
  (arg7 : Memref sig .tc .vmem S256x128 .bf16) (harg7 : arg7.IsWhole) (arg9 : Memref sig .tc .vmem S512x256 .f32)
  (arg10 arg11 arg12 arg13 : Memref sig .tc .vmem S512x1 .f32)
  (x0 : Vec Ideal S512x256 .f32) (x1 x2 : Vec Ideal S2048x256 .f32) (x3 : Vec Ideal S1x4x128 .f32) (x4 : Vec Ideal S256x128 .bf16)

theorem head0_0 (r : Fin 512) : View.canon (kernelRun0_A.sl.HS1_1 (F := Ideal)) (ix2 r 0) = kC (i 2).val (kernelRun0_A.sl.r_1 (F := Ideal) c arg3 harg3 x0) (kernelRun0_A.sl.r_5 (F := Ideal) c arg6 harg6 x3) (rows x1) 0 r := by
  refine (canon_row (N := 1) (m := 512) (lo := 0) inb_S512x1_S512x1_0_0 _ [] r r 0 (Nat.zero_add _).symm).trans ?_
  show (k0_pay78 : FVec Ideal S512x1 .f32) (ix2 r 0) = 0
  pointwise [k0_pay78]

theorem head1_0 (r : Fin 512) : View.canon (kernelRun0_A.sl.HS2_1 (F := Ideal)) (ix2 r 0) = kC (i 2).val (kernelRun0_A.sl.r_2 (F := Ideal) c arg3 harg3 x0) (kernelRun0_A.sl.r_6 (F := Ideal) c arg6 harg6 x3) (rows x1) 0 r := by
  refine (canon_row (N := 1) (m := 512) (lo := 0) inb_S512x1_S512x1_0_0 _ [] r r 0 (Nat.zero_add _).symm).trans ?_
  show (k0_pay79 : FVec Ideal S512x1 .f32) (ix2 r 0) = 0
  pointwise [k0_pay79]

theorem head2_0 (r : Fin 512) : View.canon (kernelRun0_A.sl.HS3_1 (F := Ideal)) (ix2 r 0) = kC (i 2).val (kernelRun0_A.sl.r_3 (F := Ideal) c arg3 harg3 x0) (kernelRun0_A.sl.r_7 (F := Ideal) c arg6 harg6 x3) (rows x1) 0 r := by
  refine (canon_row (N := 1) (m := 512) (lo := 0) inb_S512x1_S512x1_0_0 _ [] r r 0 (Nat.zero_add _).symm).trans ?_
  show (k0_pay80 : FVec Ideal S512x1 .f32) (ix2 r 0) = 0
  pointwise [k0_pay80]

theorem head3_0 (r : Fin 512) : View.canon (kernelRun0_A.sl.HS4_1 (F := Ideal)) (ix2 r 0) = kC (i 2).val (kernelRun0_A.sl.r_4 (F := Ideal) c arg3 harg3 x0) (kernelRun0_A.sl.r_8 (F := Ideal) c arg6 harg6 x3) (rows x1) 0 r := by
  refine (canon_row (N := 1) (m := 512) (lo := 0) inb_S512x1_S512x1_0_0 _ [] r r 0 (Nat.zero_add _).symm).trans ?_
  show (k0_pay82 k0_pay81 : FVec Ideal S512x1 .f32) (ix2 r 0) = 0
  pointwise [k0_pay82, k0_pay81]

theorem total_0 (r : Fin 512) (l : Fin 256) : View.canon (kernelRun0_A.sl.HS0_1 (F := Ideal)) (ix2 r l) = kA (i 2).val (kernelRun0_A.sl.r_1 (F := Ideal) c arg3 harg3 x0) (kernelRun0_A.sl.r_2 (F := Ideal) c arg3 harg3 x0) (kernelRun0_A.sl.r_3 (F := Ideal) c arg3 harg3 x0) (kernelRun0_A.sl.r_4 (F := Ideal) c arg3 harg3 x0) (kernelRun0_A.sl.r_5 (F := Ideal) c arg6 harg6 x3) (kernelRun0_A.sl.r_6 (F := Ideal) c arg6 harg6 x3) (kernelRun0_A.sl.r_7 (F := Ideal) c arg6 harg6 x3) (kernelRun0_A.sl.r_8 (F := Ideal) c arg6 harg6 x3) (rows x1) (vrows x2) (kernelRun0_A.sl.r_9 (F := Ideal) c arg7 harg7 x4) 0 r l := by
  refine (canon_row (N := 256) (m := 512) (lo := 0) inb_S512x256_S512x256_0_0 _ [] r r l (Nat.zero_add _).symm).trans ?_
  show (k0_pay83 : FVec Ideal S512x256 .f32) (ix2 r l) = 0
  pointwise [k0_pay83]

theorem head0_1 (r : Fin 512) : View.canon (kernelRun0_A.sl.HS1_2 (F := Ideal) c i arg3 harg3 arg4 harg4 arg6 harg6 arg10 x0 x1 x3) (ix2 r 0) = kC (i 2).val (kernelRun0_A.sl.r_1 (F := Ideal) c arg3 harg3 x0) (kernelRun0_A.sl.r_5 (F := Ideal) c arg6 harg6 x3) (rows x1) 1 r :=
  carry_step (i := (i 2).val) (n := 0) (d := 3) (lo := 384) (m := 128) (R := fun x => (⟨384 + x.val, by omega⟩ : Fin 512)) rfl rfl rfl (fun _ => rfl)
    inb_S512x1_S128x1_384_0 (head0_0 c i arg3 harg3 arg6 harg6 x0 x1 x3)
    (fun x => readCov_row (N := 1) arg10 _ _ x 0 (by omega)) (fun x s => mask_3 (i 2).isLt x s)
    (read_rows arg4 harg4 x1 _ (off1_row i 3).1 (off1_row i 3).2) (fun x => carry_3_0 _ _ _ _ _ x) r

theorem head1_1 (r : Fin 512) : View.canon (kernelRun0_A.sl.HS2_2 (F := Ideal) c i arg3 harg3 arg4 harg4 arg6 harg6 arg11 x0 x1 x3) (ix2 r 0) = kC (i 2).val (kernelRun0_A.sl.r_2 (F := Ideal) c arg3 harg3 x0) (kernelRun0_A.sl.r_6 (F := Ideal) c arg6 harg6 x3) (rows x1) 1 r :=
  carry_step (i := (i 2).val) (n := 0) (d := 3) (lo := 384) (m := 128) (R := fun x => (⟨384 + x.val, by omega⟩ : Fin 512)) rfl rfl rfl (fun _ => rfl)
    inb_S512x1_S128x1_384_0 (head1_0 c i arg3 harg3 arg6 harg6 x0 x1 x3)
    (fun x => readCov_row (N := 1) arg11 _ _ x 0 (by omega)) (fun x s => mask_3 (i 2).isLt x s)
    (read_rows arg4 harg4 x1 _ (off1_row i 3).1 (off1_row i 3).2) (fun x => carry_3_1 _ _ _ _ _ x) r

theorem head2_1 (r : Fin 512) : View.canon (kernelRun0_A.sl.HS3_2 (F := Ideal) c i arg3 harg3 arg4 harg4 arg6 harg6 arg12 x0 x1 x3) (ix2 r 0) = kC (i 2).val (kernelRun0_A.sl.r_3 (F := Ideal) c arg3 harg3 x0) (kernelRun0_A.sl.r_7 (F := Ideal) c arg6 harg6 x3) (rows x1) 1 r :=
  carry_step (i := (i 2).val) (n := 0) (d := 3) (lo := 384) (m := 128) (R := fun x => (⟨384 + x.val, by omega⟩ : Fin 512)) rfl rfl rfl (fun _ => rfl)
    inb_S512x1_S128x1_384_0 (head2_0 c i arg3 harg3 arg6 harg6 x0 x1 x3)
    (fun x => readCov_row (N := 1) arg12 _ _ x 0 (by omega)) (fun x s => mask_3 (i 2).isLt x s)
    (read_rows arg4 harg4 x1 _ (off1_row i 3).1 (off1_row i 3).2) (fun x => carry_3_2 _ _ _ _ _ x) r

theorem head3_1 (r : Fin 512) : View.canon (kernelRun0_A.sl.HS4_2 (F := Ideal) c i arg3 harg3 arg4 harg4 arg6 harg6 arg13 x0 x1 x3) (ix2 r 0) = kC (i 2).val (kernelRun0_A.sl.r_4 (F := Ideal) c arg3 harg3 x0) (kernelRun0_A.sl.r_8 (F := Ideal) c arg6 harg6 x3) (rows x1) 1 r :=
  carry_step (i := (i 2).val) (n := 0) (d := 3) (lo := 384) (m := 128) (R := fun x => (⟨384 + x.val, by omega⟩ : Fin 512)) rfl rfl rfl (fun _ => rfl)
    inb_S512x1_S128x1_384_0 (head3_0 c i arg3 harg3 arg6 harg6 x0 x1 x3)
    (fun x => readCov_row (N := 1) arg13 _ _ x 0 (by omega)) (fun x s => mask_3 (i 2).isLt x s)
    (read_rows arg4 harg4 x1 _ (off1_row i 3).1 (off1_row i 3).2) (fun x => carry_3_3 _ _ _ _ _ x) r

set_option maxHeartbeats 800000 in
theorem total_1 (r : Fin 512) (l : Fin 256) : View.canon (kernelRun0_A.sl.HS0_2 (F := Ideal) c i arg3 harg3 arg4 harg4 arg5 harg5 arg6 harg6 arg7 harg7 arg9 arg10 arg11 arg12 arg13 x0 x1 x2 x3 x4) (ix2 r l) = kA (i 2).val (kernelRun0_A.sl.r_1 (F := Ideal) c arg3 harg3 x0) (kernelRun0_A.sl.r_2 (F := Ideal) c arg3 harg3 x0) (kernelRun0_A.sl.r_3 (F := Ideal) c arg3 harg3 x0) (kernelRun0_A.sl.r_4 (F := Ideal) c arg3 harg3 x0) (kernelRun0_A.sl.r_5 (F := Ideal) c arg6 harg6 x3) (kernelRun0_A.sl.r_6 (F := Ideal) c arg6 harg6 x3) (kernelRun0_A.sl.r_7 (F := Ideal) c arg6 harg6 x3) (kernelRun0_A.sl.r_8 (F := Ideal) c arg6 harg6 x3) (rows x1) (vrows x2) (kernelRun0_A.sl.r_9 (F := Ideal) c arg7 harg7 x4) 1 r l :=
  acc_step (i := (i 2).val) (n := 0) (d := 3) (lo := 384) (m := 128) (R := fun x => (⟨384 + x.val, by omega⟩ : Fin 512)) rfl rfl rfl (fun _ => rfl)
    inb_S512x256_S128x256_384_0 (total_0 c i arg3 harg3 arg6 harg6 arg7 harg7 x0 x1 x2 x3 x4)
    (head0_0 c i arg3 harg3 arg6 harg6 x0 x1 x3) (head1_0 c i arg3 harg3 arg6 harg6 x0 x1 x3) (head2_0 c i arg3 harg3 arg6 harg6 x0 x1 x3) (head3_0 c i arg3 harg3 arg6 harg6 x0 x1 x3)
    (fun x l => readCov_row (N := 256) arg9 _ _ x l (by omega)) (fun x => readCov_row (N := 1) arg10 _ _ x 0 (by omega)) (fun x => readCov_row (N := 1) arg11 _ _ x 0 (by omega))
    (fun x => readCov_row (N := 1) arg12 _ _ x 0 (by omega)) (fun x => readCov_row (N := 1) arg13 _ _ x 0 (by omega))
    (fun x s => mask_3 (i 2).isLt x s)
    (read_rows arg4 harg4 x1 _ (off1_row i 3).1 (off1_row i 3).2)
    ((v_3 _).trans (congrArg (fun (X : Vec Ideal S128x256 .f32) => (fun y => X y : Vec Ideal S128x256 .bf16)) (read_rows arg5 harg5 x2 _ (off1_row i 3).1 (off1_row i 3).2)))
    (fun x l => acc_3 _ _ _ _ _ _ _ _ _ _ _ (BitVec.ofNat 32 (i 2).val) _ _ _ _ _ x l) r l

theorem head0_2 (r : Fin 512) : View.canon (kernelRun0_A.sl.HS1_3 (F := Ideal) c i arg3 harg3 arg4 harg4 arg6 harg6 arg10 x0 x1 x3) (ix2 r 0) = kC (i 2).val (kernelRun0_A.sl.r_1 (F := Ideal) c arg3 harg3 x0) (kernelRun0_A.sl.r_5 (F := Ideal) c arg6 harg6 x3) (rows x1) 2 r :=
  carry_step (i := (i 2).val) (n := 1) (d := 2) (lo := 256) (m := 256) (R := fun x => (⟨256 + x.val, by omega⟩ : Fin 512)) rfl rfl rfl (fun _ => rfl)
    inb_S512x1_S256x1_256_0 (head0_1 c i arg3 harg3 arg4 harg4 arg6 harg6 arg10 x0 x1 x3)
    (fun x => readCov_row (N := 1) arg10 _ _ x 0 (by omega)) (fun x s => mask_2 (i 2).isLt x s)
    (read_rows arg4 harg4 x1 _ (off1_row i 2).1 (off1_row i 2).2) (fun x => carry_2_0 _ _ _ _ _ x) r

theorem head1_2 (r : Fin 512) : View.canon (kernelRun0_A.sl.HS2_3 (F := Ideal) c i arg3 harg3 arg4 harg4 arg6 harg6 arg11 x0 x1 x3) (ix2 r 0) = kC (i 2).val (kernelRun0_A.sl.r_2 (F := Ideal) c arg3 harg3 x0) (kernelRun0_A.sl.r_6 (F := Ideal) c arg6 harg6 x3) (rows x1) 2 r :=
  carry_step (i := (i 2).val) (n := 1) (d := 2) (lo := 256) (m := 256) (R := fun x => (⟨256 + x.val, by omega⟩ : Fin 512)) rfl rfl rfl (fun _ => rfl)
    inb_S512x1_S256x1_256_0 (head1_1 c i arg3 harg3 arg4 harg4 arg6 harg6 arg11 x0 x1 x3)
    (fun x => readCov_row (N := 1) arg11 _ _ x 0 (by omega)) (fun x s => mask_2 (i 2).isLt x s)
    (read_rows arg4 harg4 x1 _ (off1_row i 2).1 (off1_row i 2).2) (fun x => carry_2_1 _ _ _ _ _ x) r

theorem head2_2 (r : Fin 512) : View.canon (kernelRun0_A.sl.HS3_3 (F := Ideal) c i arg3 harg3 arg4 harg4 arg6 harg6 arg12 x0 x1 x3) (ix2 r 0) = kC (i 2).val (kernelRun0_A.sl.r_3 (F := Ideal) c arg3 harg3 x0) (kernelRun0_A.sl.r_7 (F := Ideal) c arg6 harg6 x3) (rows x1) 2 r :=
  carry_step (i := (i 2).val) (n := 1) (d := 2) (lo := 256) (m := 256) (R := fun x => (⟨256 + x.val, by omega⟩ : Fin 512)) rfl rfl rfl (fun _ => rfl)
    inb_S512x1_S256x1_256_0 (head2_1 c i arg3 harg3 arg4 harg4 arg6 harg6 arg12 x0 x1 x3)
    (fun x => readCov_row (N := 1) arg12 _ _ x 0 (by omega)) (fun x s => mask_2 (i 2).isLt x s)
    (read_rows arg4 harg4 x1 _ (off1_row i 2).1 (off1_row i 2).2) (fun x => carry_2_2 _ _ _ _ _ x) r

theorem head3_2 (r : Fin 512) : View.canon (kernelRun0_A.sl.HS4_3 (F := Ideal) c i arg3 harg3 arg4 harg4 arg6 harg6 arg13 x0 x1 x3) (ix2 r 0) = kC (i 2).val (kernelRun0_A.sl.r_4 (F := Ideal) c arg3 harg3 x0) (kernelRun0_A.sl.r_8 (F := Ideal) c arg6 harg6 x3) (rows x1) 2 r :=
  carry_step (i := (i 2).val) (n := 1) (d := 2) (lo := 256) (m := 256) (R := fun x => (⟨256 + x.val, by omega⟩ : Fin 512)) rfl rfl rfl (fun _ => rfl)
    inb_S512x1_S256x1_256_0 (head3_1 c i arg3 harg3 arg4 harg4 arg6 harg6 arg13 x0 x1 x3)
    (fun x => readCov_row (N := 1) arg13 _ _ x 0 (by omega)) (fun x s => mask_2 (i 2).isLt x s)
    (read_rows arg4 harg4 x1 _ (off1_row i 2).1 (off1_row i 2).2) (fun x => carry_2_3 _ _ _ _ _ x) r

set_option maxHeartbeats 800000 in
theorem total_2 (r : Fin 512) (l : Fin 256) : View.canon (kernelRun0_A.sl.HS0_3 (F := Ideal) c i arg3 harg3 arg4 harg4 arg5 harg5 arg6 harg6 arg7 harg7 arg9 arg10 arg11 arg12 arg13 x0 x1 x2 x3 x4) (ix2 r l) = kA (i 2).val (kernelRun0_A.sl.r_1 (F := Ideal) c arg3 harg3 x0) (kernelRun0_A.sl.r_2 (F := Ideal) c arg3 harg3 x0) (kernelRun0_A.sl.r_3 (F := Ideal) c arg3 harg3 x0) (kernelRun0_A.sl.r_4 (F := Ideal) c arg3 harg3 x0) (kernelRun0_A.sl.r_5 (F := Ideal) c arg6 harg6 x3) (kernelRun0_A.sl.r_6 (F := Ideal) c arg6 harg6 x3) (kernelRun0_A.sl.r_7 (F := Ideal) c arg6 harg6 x3) (kernelRun0_A.sl.r_8 (F := Ideal) c arg6 harg6 x3) (rows x1) (vrows x2) (kernelRun0_A.sl.r_9 (F := Ideal) c arg7 harg7 x4) 2 r l :=
  acc_step (i := (i 2).val) (n := 1) (d := 2) (lo := 256) (m := 256) (R := fun x => (⟨256 + x.val, by omega⟩ : Fin 512)) rfl rfl rfl (fun _ => rfl)
    inb_S512x256_S256x256_256_0 (total_1 c i arg3 harg3 arg4 harg4 arg5 harg5 arg6 harg6 arg7 harg7 arg9 arg10 arg11 arg12 arg13 x0 x1 x2 x3 x4)
    (head0_1 c i arg3 harg3 arg4 harg4 arg6 harg6 arg10 x0 x1 x3) (head1_1 c i arg3 harg3 arg4 harg4 arg6 harg6 arg11 x0 x1 x3) (head2_1 c i arg3 harg3 arg4 harg4 arg6 harg6 arg12 x0 x1 x3) (head3_1 c i arg3 harg3 arg4 harg4 arg6 harg6 arg13 x0 x1 x3)
    (fun x l => readCov_row (N := 256) arg9 _ _ x l (by omega)) (fun x => readCov_row (N := 1) arg10 _ _ x 0 (by omega)) (fun x => readCov_row (N := 1) arg11 _ _ x 0 (by omega))
    (fun x => readCov_row (N := 1) arg12 _ _ x 0 (by omega)) (fun x => readCov_row (N := 1) arg13 _ _ x 0 (by omega))
    (fun x s => mask_2 (i 2).isLt x s)
    (read_rows arg4 harg4 x1 _ (off1_row i 2).1 (off1_row i 2).2)
    ((v_2 _).trans (congrArg (fun (X : Vec Ideal S128x256 .f32) => (fun y => X y : Vec Ideal S128x256 .bf16)) (read_rows arg5 harg5 x2 _ (off1_row i 2).1 (off1_row i 2).2)))
    (fun x l => acc_2 _ _ _ _ _ _ _ _ _ _ _ (BitVec.ofNat 32 (i 2).val) _ _ _ _ _ x l) r l

theorem head0_3 (r : Fin 512) : View.canon (kernelRun0_A.sl.HS1_4 (F := Ideal) c i arg3 harg3 arg4 harg4 arg6 harg6 arg10 x0 x1 x3) (ix2 r 0) = kC (i 2).val (kernelRun0_A.sl.r_1 (F := Ideal) c arg3 harg3 x0) (kernelRun0_A.sl.r_5 (F := Ideal) c arg6 harg6 x3) (rows x1) 3 r :=
  carry_step (i := (i 2).val) (n := 2) (d := 1) (lo := 128) (m := 384) (R := fun x => (⟨128 + x.val, by omega⟩ : Fin 512)) rfl rfl rfl (fun _ => rfl)
    inb_S512x1_S384x1_128_0 (head0_2 c i arg3 harg3 arg4 harg4 arg6 harg6 arg10 x0 x1 x3)
    (fun x => readCov_row (N := 1) arg10 _ _ x 0 (by omega)) (fun x s => mask_1 (i 2).isLt x s)
    (read_rows arg4 harg4 x1 _ (off1_row i 1).1 (off1_row i 1).2) (fun x => carry_1_0 _ _ _ _ _ x) r

theorem head1_3 (r : Fin 512) : View.canon (kernelRun0_A.sl.HS2_4 (F := Ideal) c i arg3 harg3 arg4 harg4 arg6 harg6 arg11 x0 x1 x3) (ix2 r 0) = kC (i 2).val (kernelRun0_A.sl.r_2 (F := Ideal) c arg3 harg3 x0) (kernelRun0_A.sl.r_6 (F := Ideal) c arg6 harg6 x3) (rows x1) 3 r :=
  carry_step (i := (i 2).val) (n := 2) (d := 1) (lo := 128) (m := 384) (R := fun x => (⟨128 + x.val, by omega⟩ : Fin 512)) rfl rfl rfl (fun _ => rfl)
    inb_S512x1_S384x1_128_0 (head1_2 c i arg3 harg3 arg4 harg4 arg6 harg6 arg11 x0 x1 x3)
    (fun x => readCov_row (N := 1) arg11 _ _ x 0 (by omega)) (fun x s => mask_1 (i 2).isLt x s)
    (read_rows arg4 harg4 x1 _ (off1_row i 1).1 (off1_row i 1).2) (fun x => carry_1_1 _ _ _ _ _ x) r

theorem head2_3 (r : Fin 512) : View.canon (kernelRun0_A.sl.HS3_4 (F := Ideal) c i arg3 harg3 arg4 harg4 arg6 harg6 arg12 x0 x1 x3) (ix2 r 0) = kC (i 2).val (kernelRun0_A.sl.r_3 (F := Ideal) c arg3 harg3 x0) (kernelRun0_A.sl.r_7 (F := Ideal) c arg6 harg6 x3) (rows x1) 3 r :=
  carry_step (i := (i 2).val) (n := 2) (d := 1) (lo := 128) (m := 384) (R := fun x => (⟨128 + x.val, by omega⟩ : Fin 512)) rfl rfl rfl (fun _ => rfl)
    inb_S512x1_S384x1_128_0 (head2_2 c i arg3 harg3 arg4 harg4 arg6 harg6 arg12 x0 x1 x3)
    (fun x => readCov_row (N := 1) arg12 _ _ x 0 (by omega)) (fun x s => mask_1 (i 2).isLt x s)
    (read_rows arg4 harg4 x1 _ (off1_row i 1).1 (off1_row i 1).2) (fun x => carry_1_2 _ _ _ _ _ x) r

theorem head3_3 (r : Fin 512) : View.canon (kernelRun0_A.sl.HS4_4 (F := Ideal) c i arg3 harg3 arg4 harg4 arg6 harg6 arg13 x0 x1 x3) (ix2 r 0) = kC (i 2).val (kernelRun0_A.sl.r_4 (F := Ideal) c arg3 harg3 x0) (kernelRun0_A.sl.r_8 (F := Ideal) c arg6 harg6 x3) (rows x1) 3 r :=
  carry_step (i := (i 2).val) (n := 2) (d := 1) (lo := 128) (m := 384) (R := fun x => (⟨128 + x.val, by omega⟩ : Fin 512)) rfl rfl rfl (fun _ => rfl)
    inb_S512x1_S384x1_128_0 (head3_2 c i arg3 harg3 arg4 harg4 arg6 harg6 arg13 x0 x1 x3)
    (fun x => readCov_row (N := 1) arg13 _ _ x 0 (by omega)) (fun x s => mask_1 (i 2).isLt x s)
    (read_rows arg4 harg4 x1 _ (off1_row i 1).1 (off1_row i 1).2) (fun x => carry_1_3 _ _ _ _ _ x) r

set_option maxHeartbeats 800000 in
theorem total_3 (r : Fin 512) (l : Fin 256) : View.canon (kernelRun0_A.sl.HS0_4 (F := Ideal) c i arg3 harg3 arg4 harg4 arg5 harg5 arg6 harg6 arg7 harg7 arg9 arg10 arg11 arg12 arg13 x0 x1 x2 x3 x4) (ix2 r l) = kA (i 2).val (kernelRun0_A.sl.r_1 (F := Ideal) c arg3 harg3 x0) (kernelRun0_A.sl.r_2 (F := Ideal) c arg3 harg3 x0) (kernelRun0_A.sl.r_3 (F := Ideal) c arg3 harg3 x0) (kernelRun0_A.sl.r_4 (F := Ideal) c arg3 harg3 x0) (kernelRun0_A.sl.r_5 (F := Ideal) c arg6 harg6 x3) (kernelRun0_A.sl.r_6 (F := Ideal) c arg6 harg6 x3) (kernelRun0_A.sl.r_7 (F := Ideal) c arg6 harg6 x3) (kernelRun0_A.sl.r_8 (F := Ideal) c arg6 harg6 x3) (rows x1) (vrows x2) (kernelRun0_A.sl.r_9 (F := Ideal) c arg7 harg7 x4) 3 r l :=
  acc_step (i := (i 2).val) (n := 2) (d := 1) (lo := 128) (m := 384) (R := fun x => (⟨128 + x.val, by omega⟩ : Fin 512)) rfl rfl rfl (fun _ => rfl)
    inb_S512x256_S384x256_128_0 (total_2 c i arg3 harg3 arg4 harg4 arg5 harg5 arg6 harg6 arg7 harg7 arg9 arg10 arg11 arg12 arg13 x0 x1 x2 x3 x4)
    (head0_2 c i arg3 harg3 arg4 harg4 arg6 harg6 arg10 x0 x1 x3) (head1_2 c i arg3 harg3 arg4 harg4 arg6 harg6 arg11 x0 x1 x3) (head2_2 c i arg3 harg3 arg4 harg4 arg6 harg6 arg12 x0 x1 x3) (head3_2 c i arg3 harg3 arg4 harg4 arg6 harg6 arg13 x0 x1 x3)
    (fun x l => readCov_row (N := 256) arg9 _ _ x l (by omega)) (fun x => readCov_row (N := 1) arg10 _ _ x 0 (by omega)) (fun x => readCov_row (N := 1) arg11 _ _ x 0 (by omega))
    (fun x => readCov_row (N := 1) arg12 _ _ x 0 (by omega)) (fun x => readCov_row (N := 1) arg13 _ _ x 0 (by omega))
    (fun x s => mask_1 (i 2).isLt x s)
    (read_rows arg4 harg4 x1 _ (off1_row i 1).1 (off1_row i 1).2)
    ((v_1 _).trans (congrArg (fun (X : Vec Ideal S128x256 .f32) => (fun y => X y : Vec Ideal S128x256 .bf16)) (read_rows arg5 harg5 x2 _ (off1_row i 1).1 (off1_row i 1).2)))
    (fun x l => acc_1 _ _ _ _ _ _ _ _ _ _ _ (BitVec.ofNat 32 (i 2).val) _ _ _ _ _ x l) r l

theorem head0_4 (r : Fin 512) : View.canon (kernelRun0_A.sl.HS1_5 (F := Ideal) c i arg3 harg3 arg4 harg4 arg6 harg6 arg10 x0 x1 x3) (ix2 r 0) = kC (i 2).val (kernelRun0_A.sl.r_1 (F := Ideal) c arg3 harg3 x0) (kernelRun0_A.sl.r_5 (F := Ideal) c arg6 harg6 x3) (rows x1) 4 r :=
  carry_step (i := (i 2).val) (n := 3) (d := 0) (lo := 0) (m := 512) (R := fun x => x) rfl rfl rfl (fun x => (Nat.zero_add x.val).symm)
    inb_S512x1_S512x1_0_0 (head0_3 c i arg3 harg3 arg4 harg4 arg6 harg6 arg10 x0 x1 x3)
    (fun x => readCov_row0 (N := 1) arg10 _ _ x 0) (fun x s => mask_0 (i 2).isLt x s)
    (read_rows arg4 harg4 x1 _ (off1_row i 0).1 (off1_row i 0).2) (fun x => carry_0_0 _ _ _ _ _ x) r

theorem head1_4 (r : Fin 512) : View.canon (kernelRun0_A.sl.HS2_5 (F := Ideal) c i arg3 harg3 arg4 harg4 arg6 harg6 arg11 x0 x1 x3) (ix2 r 0) = kC (i 2).val (kernelRun0_A.sl.r_2 (F := Ideal) c arg3 harg3 x0) (kernelRun0_A.sl.r_6 (F := Ideal) c arg6 harg6 x3) (rows x1) 4 r :=
  carry_step (i := (i 2).val) (n := 3) (d := 0) (lo := 0) (m := 512) (R := fun x => x) rfl rfl rfl (fun x => (Nat.zero_add x.val).symm)
    inb_S512x1_S512x1_0_0 (head1_3 c i arg3 harg3 arg4 harg4 arg6 harg6 arg11 x0 x1 x3)
    (fun x => readCov_row0 (N := 1) arg11 _ _ x 0) (fun x s => mask_0 (i 2).isLt x s)
    (read_rows arg4 harg4 x1 _ (off1_row i 0).1 (off1_row i 0).2) (fun x => carry_0_1 _ _ _ _ _ x) r

theorem head2_4 (r : Fin 512) : View.canon (kernelRun0_A.sl.HS3_5 (F := Ideal) c i arg3 harg3 arg4 harg4 arg6 harg6 arg12 x0 x1 x3) (ix2 r 0) = kC (i 2).val (kernelRun0_A.sl.r_3 (F := Ideal) c arg3 harg3 x0) (kernelRun0_A.sl.r_7 (F := Ideal) c arg6 harg6 x3) (rows x1) 4 r :=
  carry_step (i := (i 2).val) (n := 3) (d := 0) (lo := 0) (m := 512) (R := fun x => x) rfl rfl rfl (fun x => (Nat.zero_add x.val).symm)
    inb_S512x1_S512x1_0_0 (head2_3 c i arg3 harg3 arg4 harg4 arg6 harg6 arg12 x0 x1 x3)
    (fun x => readCov_row0 (N := 1) arg12 _ _ x 0) (fun x s => mask_0 (i 2).isLt x s)
    (read_rows arg4 harg4 x1 _ (off1_row i 0).1 (off1_row i 0).2) (fun x => carry_0_2 _ _ _ _ _ x) r

theorem head3_4 (r : Fin 512) : View.canon (kernelRun0_A.sl.HS4_5 (F := Ideal) c i arg3 harg3 arg4 harg4 arg6 harg6 arg13 x0 x1 x3) (ix2 r 0) = kC (i 2).val (kernelRun0_A.sl.r_4 (F := Ideal) c arg3 harg3 x0) (kernelRun0_A.sl.r_8 (F := Ideal) c arg6 harg6 x3) (rows x1) 4 r :=
  carry_step (i := (i 2).val) (n := 3) (d := 0) (lo := 0) (m := 512) (R := fun x => x) rfl rfl rfl (fun x => (Nat.zero_add x.val).symm)
    inb_S512x1_S512x1_0_0 (head3_3 c i arg3 harg3 arg4 harg4 arg6 harg6 arg13 x0 x1 x3)
    (fun x => readCov_row0 (N := 1) arg13 _ _ x 0) (fun x s => mask_0 (i 2).isLt x s)
    (read_rows arg4 harg4 x1 _ (off1_row i 0).1 (off1_row i 0).2) (fun x => carry_0_3 _ _ _ _ _ x) r

set_option maxHeartbeats 800000 in
theorem total_4 (r : Fin 512) (l : Fin 256) : View.canon (kernelRun0_A.sl.HS0_5 (F := Ideal) c i arg3 harg3 arg4 harg4 arg5 harg5 arg6 harg6 arg7 harg7 arg9 arg10 arg11 arg12 arg13 x0 x1 x2 x3 x4) (ix2 r l) = kA (i 2).val (kernelRun0_A.sl.r_1 (F := Ideal) c arg3 harg3 x0) (kernelRun0_A.sl.r_2 (F := Ideal) c arg3 harg3 x0) (kernelRun0_A.sl.r_3 (F := Ideal) c arg3 harg3 x0) (kernelRun0_A.sl.r_4 (F := Ideal) c arg3 harg3 x0) (kernelRun0_A.sl.r_5 (F := Ideal) c arg6 harg6 x3) (kernelRun0_A.sl.r_6 (F := Ideal) c arg6 harg6 x3) (kernelRun0_A.sl.r_7 (F := Ideal) c arg6 harg6 x3) (kernelRun0_A.sl.r_8 (F := Ideal) c arg6 harg6 x3) (rows x1) (vrows x2) (kernelRun0_A.sl.r_9 (F := Ideal) c arg7 harg7 x4) 4 r l :=
  acc_step (i := (i 2).val) (n := 3) (d := 0) (lo := 0) (m := 512) (R := fun x => x) rfl rfl rfl (fun x => (Nat.zero_add x.val).symm)
    inb_S512x256_S512x256_0_0 (total_3 c i arg3 harg3 arg4 harg4 arg5 harg5 arg6 harg6 arg7 harg7 arg9 arg10 arg11 arg12 arg13 x0 x1 x2 x3 x4)
    (head0_3 c i arg3 harg3 arg4 harg4 arg6 harg6 arg10 x0 x1 x3) (head1_3 c i arg3 harg3 arg4 harg4 arg6 harg6 arg11 x0 x1 x3) (head2_3 c i arg3 harg3 arg4 harg4 arg6 harg6 arg12 x0 x1 x3) (head3_3 c i arg3 harg3 arg4 harg4 arg6 harg6 arg13 x0 x1 x3)
    (fun x l => readCov_row0 (N := 256) arg9 _ _ x l) (fun x => readCov_row0 (N := 1) arg10 _ _ x 0) (fun x => readCov_row0 (N := 1) arg11 _ _ x 0)
    (fun x => readCov_row0 (N := 1) arg12 _ _ x 0) (fun x => readCov_row0 (N := 1) arg13 _ _ x 0)
    (fun x s => mask_0 (i 2).isLt x s)
    (read_rows arg4 harg4 x1 _ (off1_row i 0).1 (off1_row i 0).2)
    ((v_0 _).trans (congrArg (fun (X : Vec Ideal S128x256 .f32) => (fun y => X y : Vec Ideal S128x256 .bf16)) (read_rows arg5 harg5 x2 _ (off1_row i 0).1 (off1_row i 0).2)))
    (fun x l => acc_0 _ _ _ _ _ _ _ _ _ _ _ (BitVec.ofNat 32 (i 2).val) _ _ _ _ _ x l) r l

end Cert.KernelIdeal.Value

end
-- ==== Proof.AttnLoop.lean ====
/-
  The blocks of a tile of the attention of the prompt before the diagonal: the loop over them runs the same recursion.
-/
module

public import proofs.«01_k».proof.Proof.AttnTile
public import Idealize.ShloMosaic.Lib.WritesUnit

@[expose] public section

set_option maxRecDepth 16384

noncomputable section

open Idealize.ShloMosaic Idealize.ShloMosaic.TcCoe Idealize.SL.Sem
open Cert.Layer

namespace Cert.KernelIdeal.Value
open Cert.KernelIdeal Cert.KernelIdeal.Gen

theorem readAt_row0 {N : ℕ} (arg : Memref sig .tc .vmem ⟨2, ![512, N]⟩ .f32) (inb : ∀ a, (![0, 0] : Fin 2 → ℕ) a + (![512, N] : Fin 2 → ℕ) a ≤ (⟨2, ![512, N]⟩ : Shape).size a)
    (f : BufTy.Contents (Elt Ideal) arg.view.ty) (x : Fin 512) (l : Fin N) :
    View.readAt (Elt Ideal) arg.view (Rect.unit (s := ⟨2, ![512, N]⟩) ![0, 0] ![512, N] inb).toLoadRect f (ix2 x l) = arg.view.read (Elt Ideal) f (ix2 x l) := by
  show arg.view.read (Elt Ideal) f ((Rect.unit (s := ⟨2, ![512, N]⟩) ![0, 0] ![512, N] inb).toLoadRect.idx (ix2 x l)) = _
  refine congrArg _ ?_
  funext a; apply Fin.ext
  match a with
  | ⟨0, _⟩ => show 0 + 1 * x.val = x.val; omega
  | ⟨1, _⟩ => show 0 + 1 * l.val = l.val; omega

theorem write_row0 {N : ℕ} (arg : Memref sig .tc .vmem ⟨2, ![512, N]⟩ .f32) (inb : ∀ a, (![0, 0] : Fin 2 → ℕ) a + (![512, N] : Fin 2 → ℕ) a ≤ (⟨2, ![512, N]⟩ : Shape).size a)
    (f : BufTy.Contents (Elt Ideal) arg.view.ty) (w : (⟨2, ![512, N]⟩ : Shape).Idx → EReal) (x : Fin 512) (l : Fin N) :
    arg.view.read (Elt Ideal) (arg.view.writes (Elt Ideal) f [(⟨Rect.unit (s := ⟨2, ![512, N]⟩) ![0, 0] ![512, N] inb, w⟩ : View.Piece (Elt Ideal) ⟨2, ![512, N]⟩ .f32)]) (ix2 x l) = w (ix2 x l) :=
  View.read_writes_cons_rows_of_mem (d := ![512, N]) arg.view f inb w [] (ix2 x l) (ix2 x l) rfl (Nat.zero_add _).symm rfl

variable (c : Dev nD) (i : grid0.Coords) (arg3 : Memref sig .tc .vmem S512x256 .f32) (harg3 : arg3.IsWhole) (arg4 : Memref sig .tc .vmem S2048x256 .f32) (harg4 : arg4.IsWhole)
  (arg5 : Memref sig .tc .vmem S2048x256 .f32) (harg5 : arg5.IsWhole) (arg6 : Memref sig .tc .vmem S1x4x128 .f32) (harg6 : arg6.IsWhole)
  (arg7 : Memref sig .tc .vmem S256x128 .bf16) (harg7 : arg7.IsWhole) (arg8 : Memref sig .tc .vmem S512x256 .f32) (harg8 : arg8.IsWhole) (arg9 : Memref sig .tc .vmem S512x256 .f32) (harg9 : arg9.IsWhole)
  (arg10 : Memref sig .tc .vmem S512x1 .f32) (harg10 : arg10.IsWhole) (arg11 : Memref sig .tc .vmem S512x1 .f32) (harg11 : arg11.IsWhole)
  (arg12 : Memref sig .tc .vmem S512x1 .f32) (harg12 : arg12.IsWhole) (arg13 : Memref sig .tc .vmem S512x1 .f32) (harg13 : arg13.IsWhole)
  (q0 q1 q2 q3 : Vec Ideal S512x256 .bf16) (b0 b1 b2 b3 : Vec Ideal S1x128 .f32) (sf : Vec Ideal S256x128 .bf16)
  (x1 x2 : Vec Ideal S2048x256 .f32)

theorem trip_head0 (k : Fin (k0_t1_loop i).trips) (f9 : BufTy.Contents (Elt Ideal) arg9.view.ty) (f10 : BufTy.Contents (Elt Ideal) arg10.view.ty)
    (f11 : BufTy.Contents (Elt Ideal) arg11.view.ty) (f12 : BufTy.Contents (Elt Ideal) arg12.view.ty) (f13 : BufTy.Contents (Elt Ideal) arg13.view.ty) (r : Fin 512) :
    arg10.view.read (Elt Ideal) (arg10.view.writes (Elt Ideal) f10 (tripL_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 b0 b1 b2 b3 sf (harg4.unread x1) (harg5.unread x2) k f9 f10 f11 f12 f13).2.1) (ix2 r 0)
      = arg10.view.read (Elt Ideal) f10 (ix2 r 0) + ∑ s : Fin 128, keep 1#1 (zed q0 b0 (rows x1 (4 * (i 2).val - 1 - k.val)) r s) := by
  unfold tripL_k0_t1 trip_k0_t1
  dsimp only
  refine (write_row0 (N := 1) arg10 inb_S512x1_S512x1_0_0 f10 _ r 0).trans ((carry_t_0 _ _ _ _ r).trans ?_)
  exact congrArg₂ (· + ·) (readAt_row0 (N := 1) arg10 _ f10 r 0)
    (congrArg (fun kk => ∑ s : Fin 128, keep 1#1 (zed q0 b0 kk r s)) (read_rows arg4 harg4 x1 _ (off2_row i k).1 (off2_row i k).2))

theorem trip_head1 (k : Fin (k0_t1_loop i).trips) (f9 : BufTy.Contents (Elt Ideal) arg9.view.ty) (f10 : BufTy.Contents (Elt Ideal) arg10.view.ty)
    (f11 : BufTy.Contents (Elt Ideal) arg11.view.ty) (f12 : BufTy.Contents (Elt Ideal) arg12.view.ty) (f13 : BufTy.Contents (Elt Ideal) arg13.view.ty) (r : Fin 512) :
    arg11.view.read (Elt Ideal) (arg11.view.writes (Elt Ideal) f11 (tripL_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 b0 b1 b2 b3 sf (harg4.unread x1) (harg5.unread x2) k f9 f10 f11 f12 f13).2.2.1) (ix2 r 0)
      = arg11.view.read (Elt Ideal) f11 (ix2 r 0) + ∑ s : Fin 128, keep 1#1 (zed q1 b1 (rows x1 (4 * (i 2).val - 1 - k.val)) r s) := by
  unfold tripL_k0_t1 trip_k0_t1
  dsimp only
  refine (write_row0 (N := 1) arg11 inb_S512x1_S512x1_0_0 f11 _ r 0).trans ((carry_t_1 _ _ _ _ r).trans ?_)
  exact congrArg₂ (· + ·) (readAt_row0 (N := 1) arg11 _ f11 r 0)
    (congrArg (fun kk => ∑ s : Fin 128, keep 1#1 (zed q1 b1 kk r s)) (read_rows arg4 harg4 x1 _ (off2_row i k).1 (off2_row i k).2))

theorem trip_head2 (k : Fin (k0_t1_loop i).trips) (f9 : BufTy.Contents (Elt Ideal) arg9.view.ty) (f10 : BufTy.Contents (Elt Ideal) arg10.view.ty)
    (f11 : BufTy.Contents (Elt Ideal) arg11.view.ty) (f12 : BufTy.Contents (Elt Ideal) arg12.view.ty) (f13 : BufTy.Contents (Elt Ideal) arg13.view.ty) (r : Fin 512) :
    arg12.view.read (Elt Ideal) (arg12.view.writes (Elt Ideal) f12 (tripL_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 b0 b1 b2 b3 sf (harg4.unread x1) (harg5.unread x2) k f9 f10 f11 f12 f13).2.2.2.1) (ix2 r 0)
      = arg12.view.read (Elt Ideal) f12 (ix2 r 0) + ∑ s : Fin 128, keep 1#1 (zed q2 b2 (rows x1 (4 * (i 2).val - 1 - k.val)) r s) := by
  unfold tripL_k0_t1 trip_k0_t1
  dsimp only
  refine (write_row0 (N := 1) arg12 inb_S512x1_S512x1_0_0 f12 _ r 0).trans ((carry_t_2 _ _ _ _ r).trans ?_)
  exact congrArg₂ (· + ·) (readAt_row0 (N := 1) arg12 _ f12 r 0)
    (congrArg (fun kk => ∑ s : Fin 128, keep 1#1 (zed q2 b2 kk r s)) (read_rows arg4 harg4 x1 _ (off2_row i k).1 (off2_row i k).2))

theorem trip_head3 (k : Fin (k0_t1_loop i).trips) (f9 : BufTy.Contents (Elt Ideal) arg9.view.ty) (f10 : BufTy.Contents (Elt Ideal) arg10.view.ty)
    (f11 : BufTy.Contents (Elt Ideal) arg11.view.ty) (f12 : BufTy.Contents (Elt Ideal) arg12.view.ty) (f13 : BufTy.Contents (Elt Ideal) arg13.view.ty) (r : Fin 512) :
    arg13.view.read (Elt Ideal) (arg13.view.writes (Elt Ideal) f13 (tripL_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 b0 b1 b2 b3 sf (harg4.unread x1) (harg5.unread x2) k f9 f10 f11 f12 f13).2.2.2.2) (ix2 r 0)
      = arg13.view.read (Elt Ideal) f13 (ix2 r 0) + ∑ s : Fin 128, keep 1#1 (zed q3 b3 (rows x1 (4 * (i 2).val - 1 - k.val)) r s) := by
  unfold tripL_k0_t1 trip_k0_t1
  dsimp only
  refine (write_row0 (N := 1) arg13 inb_S512x1_S512x1_0_0 f13 _ r 0).trans ((carry_t_3 _ _ _ _ r).trans ?_)
  exact congrArg₂ (· + ·) (readAt_row0 (N := 1) arg13 _ f13 r 0)
    (congrArg (fun kk => ∑ s : Fin 128, keep 1#1 (zed q3 b3 kk r s)) (read_rows arg4 harg4 x1 _ (off2_row i k).1 (off2_row i k).2))

theorem v_t (X : Vec Ideal S128x256 .f32) : k0_pay9 (F := Ideal) X = fun y => X y := rfl

theorem trip_total (k : Fin (k0_t1_loop i).trips) (f9 : BufTy.Contents (Elt Ideal) arg9.view.ty) (f10 : BufTy.Contents (Elt Ideal) arg10.view.ty)
    (f11 : BufTy.Contents (Elt Ideal) arg11.view.ty) (f12 : BufTy.Contents (Elt Ideal) arg12.view.ty) (f13 : BufTy.Contents (Elt Ideal) arg13.view.ty) (r : Fin 512) (l : Fin 256) :
    arg9.view.read (Elt Ideal) (arg9.view.writes (Elt Ideal) f9 (tripL_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 b0 b1 b2 b3 sf (harg4.unread x1) (harg5.unread x2) k f9 f10 f11 f12 f13).1) (ix2 r l)
      = arg9.view.read (Elt Ideal) f9 (ix2 r l) + gain
        (fun s => weigh 1#1 (zed q0 b0 (rows x1 (4 * (i 2).val - 1 - k.val)) r s) (after (fun x => keep 1#1 (zed q0 b0 (rows x1 (4 * (i 2).val - 1 - k.val)) r x)) sf s) (arg10.view.read (Elt Ideal) f10 (ix2 r 0)))
        (fun s => weigh 1#1 (zed q1 b1 (rows x1 (4 * (i 2).val - 1 - k.val)) r s) (after (fun x => keep 1#1 (zed q1 b1 (rows x1 (4 * (i 2).val - 1 - k.val)) r x)) sf s) (arg11.view.read (Elt Ideal) f11 (ix2 r 0)))
        (fun s => weigh 1#1 (zed q2 b2 (rows x1 (4 * (i 2).val - 1 - k.val)) r s) (after (fun x => keep 1#1 (zed q2 b2 (rows x1 (4 * (i 2).val - 1 - k.val)) r x)) sf s) (arg12.view.read (Elt Ideal) f12 (ix2 r 0)))
        (fun s => weigh 1#1 (zed q3 b3 (rows x1 (4 * (i 2).val - 1 - k.val)) r s) (after (fun x => keep 1#1 (zed q3 b3 (rows x1 (4 * (i 2).val - 1 - k.val)) r x)) sf s) (arg13.view.read (Elt Ideal) f13 (ix2 r 0)))
        (vrows x2 (4 * (i 2).val - 1 - k.val)) l := by
  unfold tripL_k0_t1 trip_k0_t1
  dsimp only
  refine (write_row0 (N := 256) arg9 inb_S512x256_S512x256_0_0 f9 _ r l).trans ((acc_t _ _ _ _ _ _ _ _ _ _ _ _ _ _ _ _ r l).trans ?_)
  have hk := read_rows arg4 harg4 x1 (k0_off2_inb i k) (off2_row i k).1 (off2_row i k).2
  have hv := (v_t _).trans (congrArg (fun (X : Vec Ideal S128x256 .f32) => (fun y => X y : Vec Ideal S128x256 .bf16)) (read_rows arg5 harg5 x2 (k0_off2_inb i k) (off2_row i k).1 (off2_row i k).2))
  refine congrArg₂ (· + ·) (readAt_row0 (N := 256) arg9 _ f9 r l) ?_
  rw [← hk]
  have hc0 : (arg10.view.readAt (Elt Ideal) (Rect.unit (s := S512x1) ![0, 0] S512x1.size inb_S512x1_S512x1_0_0).toLoadRect f10) (ix2 r 0) = arg10.view.read (Elt Ideal) f10 (ix2 r 0) := readAt_row0 (N := 1) arg10 _ f10 r 0
  have hc1 : (arg11.view.readAt (Elt Ideal) (Rect.unit (s := S512x1) ![0, 0] S512x1.size inb_S512x1_S512x1_0_0).toLoadRect f11) (ix2 r 0) = arg11.view.read (Elt Ideal) f11 (ix2 r 0) := readAt_row0 (N := 1) arg11 _ f11 r 0
  have hc2 : (arg12.view.readAt (Elt Ideal) (Rect.unit (s := S512x1) ![0, 0] S512x1.size inb_S512x1_S512x1_0_0).toLoadRect f12) (ix2 r 0) = arg12.view.read (Elt Ideal) f12 (ix2 r 0) := readAt_row0 (N := 1) arg12 _ f12 r 0
  have hc3 : (arg13.view.readAt (Elt Ideal) (Rect.unit (s := S512x1) ![0, 0] S512x1.size inb_S512x1_S512x1_0_0).toLoadRect f13) (ix2 r 0) = arg13.view.read (Elt Ideal) f13 (ix2 r 0) := readAt_row0 (N := 1) arg13 _ f13 r 0
  rw [← hc0, ← hc1, ← hc2, ← hc3]
  exact congrArg (fun vv => gain _ _ _ _ vv l) hv

theorem loop_inv (G9 : BufTy.Contents (Elt Ideal) arg9.view.ty) (G10 : BufTy.Contents (Elt Ideal) arg10.view.ty)
    (G11 : BufTy.Contents (Elt Ideal) arg11.view.ty) (G12 : BufTy.Contents (Elt Ideal) arg12.view.ty) (G13 : BufTy.Contents (Elt Ideal) arg13.view.ty)
    (hG9 : ∀ r l, arg9.view.read (Elt Ideal) G9 (ix2 r l) = kA (i 2).val q0 q1 q2 q3 b0 b1 b2 b3 (rows x1) (vrows x2) sf 4 r l)
    (hG10 : ∀ r, arg10.view.read (Elt Ideal) G10 (ix2 r 0) = kC (i 2).val q0 b0 (rows x1) 4 r)
    (hG11 : ∀ r, arg11.view.read (Elt Ideal) G11 (ix2 r 0) = kC (i 2).val q1 b1 (rows x1) 4 r)
    (hG12 : ∀ r, arg12.view.read (Elt Ideal) G12 (ix2 r 0) = kC (i 2).val q2 b2 (rows x1) 4 r)
    (hG13 : ∀ r, arg13.view.read (Elt Ideal) G13 (ix2 r 0) = kC (i 2).val q3 b3 (rows x1) 4 r) :
    ∀ k : ℕ, k ≤ (k0_t1_loop i).trips →
      (∀ r l, arg9.view.read (Elt Ideal) (arg9.view.writes (Elt Ideal) G9 (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 b0 b1 b2 b3 sf (harg4.unread x1) (harg5.unread x2) G9 G10 G11 G12 G13 k).1) (ix2 r l) = kA (i 2).val q0 q1 q2 q3 b0 b1 b2 b3 (rows x1) (vrows x2) sf (4 + k) r l)
      ∧ (∀ r, arg10.view.read (Elt Ideal) (arg10.view.writes (Elt Ideal) G10 (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 b0 b1 b2 b3 sf (harg4.unread x1) (harg5.unread x2) G9 G10 G11 G12 G13 k).2.1) (ix2 r 0) = kC (i 2).val q0 b0 (rows x1) (4 + k) r)
      ∧ (∀ r, arg11.view.read (Elt Ideal) (arg11.view.writes (Elt Ideal) G11 (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 b0 b1 b2 b3 sf (harg4.unread x1) (harg5.unread x2) G9 G10 G11 G12 G13 k).2.2.1) (ix2 r 0) = kC (i 2).val q1 b1 (rows x1) (4 + k) r)
      ∧ (∀ r, arg12.view.read (Elt Ideal) (arg12.view.writes (Elt Ideal) G12 (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 b0 b1 b2 b3 sf (harg4.unread x1) (harg5.unread x2) G9 G10 G11 G12 G13 k).2.2.2.1) (ix2 r 0) = kC (i 2).val q2 b2 (rows x1) (4 + k) r)
      ∧ (∀ r, arg13.view.read (Elt Ideal) (arg13.view.writes (Elt Ideal) G13 (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 b0 b1 b2 b3 sf (harg4.unread x1) (harg5.unread x2) G9 G10 G11 G12 G13 k).2.2.2.2) (ix2 r 0) = kC (i 2).val q3 b3 (rows x1) (4 + k) r)
  | 0, _ => ⟨fun r l => hG9 r l, fun r => hG10 r, fun r => hG11 r, fun r => hG12 r, fun r => hG13 r⟩
  | k + 1, hk => by
    have hlt : k < (k0_t1_loop i).trips := by omega
    have hb : k < 4 * (i 2).val := lt_of_lt_of_eq hlt (loop1_trips i)
    obtain ⟨ihA, ih0, ih1, ih2, ih3⟩ := loop_inv G9 G10 G11 G12 G13 hG9 hG10 hG11 hG12 hG13 k (by omega)
    have hj : 4 * (i 2).val + 3 - (4 + k) = 4 * (i 2).val - 1 - k := by omega
    have hseen : ∀ (r : Fin 512) (s : Fin 128), seen (i 2).val (4 * (i 2).val - 1 - k) r.val s.val = 1#1 := fun r s => seen_all (by omega) s.isLt
    have hsucc := pb_k0_t1_succ (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 b0 b1 b2 b3 sf (harg4.unread x1) (harg5.unread x2) G9 G10 G11 G12 G13 ⟨k, hlt⟩
    dsimp only at hsucc
    refine ⟨?_, ?_, ?_, ?_, ?_⟩
    · intro r l
      rw [hsucc]
      dsimp only
      rw [View.writes_append]
      refine (trip_total c i arg3 harg3 arg4 harg4 arg5 harg5 arg6 harg6 arg7 harg7 arg8 harg8 arg9 harg9 arg10 harg10 arg11 harg11 arg12 harg12 arg13 harg13 q0 q1 q2 q3 b0 b1 b2 b3 sf x1 x2 ⟨k, hlt⟩ (arg9.view.writes (Elt Ideal) G9 (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 b0 b1 b2 b3 sf (harg4.unread x1) (harg5.unread x2) G9 G10 G11 G12 G13 k).1) (arg10.view.writes (Elt Ideal) G10 (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 b0 b1 b2 b3 sf (harg4.unread x1) (harg5.unread x2) G9 G10 G11 G12 G13 k).2.1) (arg11.view.writes (Elt Ideal) G11 (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 b0 b1 b2 b3 sf (harg4.unread x1) (harg5.unread x2) G9 G10 G11 G12 G13 k).2.2.1) (arg12.view.writes (Elt Ideal) G12 (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 b0 b1 b2 b3 sf (harg4.unread x1) (harg5.unread x2) G9 G10 G11 G12 G13 k).2.2.2.1) (arg13.view.writes (Elt Ideal) G13 (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 b0 b1 b2 b3 sf (harg4.unread x1) (harg5.unread x2) G9 G10 G11 G12 G13 k).2.2.2.2) r l).trans ?_
      rw [ihA r l, ih0 r, ih1 r, ih2 r, ih3 r]
      show _ = kA (i 2).val q0 q1 q2 q3 b0 b1 b2 b3 (rows x1) (vrows x2) sf (4 + k) r l + gain (kW (i 2).val q0 b0 (rows x1) sf (4 + k) r) (kW (i 2).val q1 b1 (rows x1) sf (4 + k) r) (kW (i 2).val q2 b2 (rows x1) sf (4 + k) r) (kW (i 2).val q3 b3 (rows x1) sf (4 + k) r) (vrows x2 (4 * (i 2).val + 3 - (4 + k))) l
      unfold kW
      rw [hj]
      simp only [hseen]
    · intro r
      rw [hsucc]
      dsimp only
      rw [View.writes_append]
      refine (trip_head0 c i arg3 harg3 arg4 harg4 arg5 harg5 arg6 harg6 arg7 harg7 arg8 harg8 arg9 harg9 arg10 harg10 arg11 harg11 arg12 harg12 arg13 harg13 q0 q1 q2 q3 b0 b1 b2 b3 sf x1 x2 ⟨k, hlt⟩ (arg9.view.writes (Elt Ideal) G9 (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 b0 b1 b2 b3 sf (harg4.unread x1) (harg5.unread x2) G9 G10 G11 G12 G13 k).1) (arg10.view.writes (Elt Ideal) G10 (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 b0 b1 b2 b3 sf (harg4.unread x1) (harg5.unread x2) G9 G10 G11 G12 G13 k).2.1) (arg11.view.writes (Elt Ideal) G11 (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 b0 b1 b2 b3 sf (harg4.unread x1) (harg5.unread x2) G9 G10 G11 G12 G13 k).2.2.1) (arg12.view.writes (Elt Ideal) G12 (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 b0 b1 b2 b3 sf (harg4.unread x1) (harg5.unread x2) G9 G10 G11 G12 G13 k).2.2.2.1) (arg13.view.writes (Elt Ideal) G13 (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 b0 b1 b2 b3 sf (harg4.unread x1) (harg5.unread x2) G9 G10 G11 G12 G13 k).2.2.2.2) r).trans ?_
      refine (congrArg (· + _) (ih0 r)).trans ?_
      show _ = kC (i 2).val q0 b0 (rows x1) (4 + k) r + ∑ s : Fin 128, keep (seen (i 2).val (4 * (i 2).val + 3 - (4 + k)) r.val s.val) (zed q0 b0 (rows x1 (4 * (i 2).val + 3 - (4 + k))) r s)
      rw [hj]
      simp only [hseen]
    · intro r
      rw [hsucc]
      dsimp only
      rw [View.writes_append]
      refine (trip_head1 c i arg3 harg3 arg4 harg4 arg5 harg5 arg6 harg6 arg7 harg7 arg8 harg8 arg9 harg9 arg10 harg10 arg11 harg11 arg12 harg12 arg13 harg13 q0 q1 q2 q3 b0 b1 b2 b3 sf x1 x2 ⟨k, hlt⟩ (arg9.view.writes (Elt Ideal) G9 (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 b0 b1 b2 b3 sf (harg4.unread x1) (harg5.unread x2) G9 G10 G11 G12 G13 k).1) (arg10.view.writes (Elt Ideal) G10 (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 b0 b1 b2 b3 sf (harg4.unread x1) (harg5.unread x2) G9 G10 G11 G12 G13 k).2.1) (arg11.view.writes (Elt Ideal) G11 (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 b0 b1 b2 b3 sf (harg4.unread x1) (harg5.unread x2) G9 G10 G11 G12 G13 k).2.2.1) (arg12.view.writes (Elt Ideal) G12 (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 b0 b1 b2 b3 sf (harg4.unread x1) (harg5.unread x2) G9 G10 G11 G12 G13 k).2.2.2.1) (arg13.view.writes (Elt Ideal) G13 (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 b0 b1 b2 b3 sf (harg4.unread x1) (harg5.unread x2) G9 G10 G11 G12 G13 k).2.2.2.2) r).trans ?_
      refine (congrArg (· + _) (ih1 r)).trans ?_
      show _ = kC (i 2).val q1 b1 (rows x1) (4 + k) r + ∑ s : Fin 128, keep (seen (i 2).val (4 * (i 2).val + 3 - (4 + k)) r.val s.val) (zed q1 b1 (rows x1 (4 * (i 2).val + 3 - (4 + k))) r s)
      rw [hj]
      simp only [hseen]
    · intro r
      rw [hsucc]
      dsimp only
      rw [View.writes_append]
      refine (trip_head2 c i arg3 harg3 arg4 harg4 arg5 harg5 arg6 harg6 arg7 harg7 arg8 harg8 arg9 harg9 arg10 harg10 arg11 harg11 arg12 harg12 arg13 harg13 q0 q1 q2 q3 b0 b1 b2 b3 sf x1 x2 ⟨k, hlt⟩ (arg9.view.writes (Elt Ideal) G9 (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 b0 b1 b2 b3 sf (harg4.unread x1) (harg5.unread x2) G9 G10 G11 G12 G13 k).1) (arg10.view.writes (Elt Ideal) G10 (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 b0 b1 b2 b3 sf (harg4.unread x1) (harg5.unread x2) G9 G10 G11 G12 G13 k).2.1) (arg11.view.writes (Elt Ideal) G11 (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 b0 b1 b2 b3 sf (harg4.unread x1) (harg5.unread x2) G9 G10 G11 G12 G13 k).2.2.1) (arg12.view.writes (Elt Ideal) G12 (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 b0 b1 b2 b3 sf (harg4.unread x1) (harg5.unread x2) G9 G10 G11 G12 G13 k).2.2.2.1) (arg13.view.writes (Elt Ideal) G13 (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 b0 b1 b2 b3 sf (harg4.unread x1) (harg5.unread x2) G9 G10 G11 G12 G13 k).2.2.2.2) r).trans ?_
      refine (congrArg (· + _) (ih2 r)).trans ?_
      show _ = kC (i 2).val q2 b2 (rows x1) (4 + k) r + ∑ s : Fin 128, keep (seen (i 2).val (4 * (i 2).val + 3 - (4 + k)) r.val s.val) (zed q2 b2 (rows x1 (4 * (i 2).val + 3 - (4 + k))) r s)
      rw [hj]
      simp only [hseen]
    · intro r
      rw [hsucc]
      dsimp only
      rw [View.writes_append]
      refine (trip_head3 c i arg3 harg3 arg4 harg4 arg5 harg5 arg6 harg6 arg7 harg7 arg8 harg8 arg9 harg9 arg10 harg10 arg11 harg11 arg12 harg12 arg13 harg13 q0 q1 q2 q3 b0 b1 b2 b3 sf x1 x2 ⟨k, hlt⟩ (arg9.view.writes (Elt Ideal) G9 (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 b0 b1 b2 b3 sf (harg4.unread x1) (harg5.unread x2) G9 G10 G11 G12 G13 k).1) (arg10.view.writes (Elt Ideal) G10 (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 b0 b1 b2 b3 sf (harg4.unread x1) (harg5.unread x2) G9 G10 G11 G12 G13 k).2.1) (arg11.view.writes (Elt Ideal) G11 (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 b0 b1 b2 b3 sf (harg4.unread x1) (harg5.unread x2) G9 G10 G11 G12 G13 k).2.2.1) (arg12.view.writes (Elt Ideal) G12 (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 b0 b1 b2 b3 sf (harg4.unread x1) (harg5.unread x2) G9 G10 G11 G12 G13 k).2.2.2.1) (arg13.view.writes (Elt Ideal) G13 (pb_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 b0 b1 b2 b3 sf (harg4.unread x1) (harg5.unread x2) G9 G10 G11 G12 G13 k).2.2.2.2) r).trans ?_
      refine (congrArg (· + _) (ih3 r)).trans ?_
      show _ = kC (i 2).val q3 b3 (rows x1) (4 + k) r + ∑ s : Fin 128, keep (seen (i 2).val (4 * (i 2).val + 3 - (4 + k)) r.val s.val) (zed q3 b3 (rows x1 (4 * (i 2).val + 3 - (4 + k))) r s)
      rw [hj]
      simp only [hseen]

end Cert.KernelIdeal.Value

end
-- ==== Proof.AttnOut.lean ====
/-
  What one launch of the attention of the prompt leaves in its tile: the recursion after all the blocks up to the diagonal.
-/
module

public import proofs.«01_k».proof.Proof.AttnLoop

@[expose] public section

set_option maxRecDepth 16384

noncomputable section

open Idealize.ShloMosaic Idealize.ShloMosaic.TcCoe Idealize.SL.Sem
open Cert.Layer

namespace Cert.KernelIdeal.Value
open Cert.KernelIdeal Cert.KernelIdeal.Gen

variable (c : Dev nD) (i : grid0.Coords) (arg3 : Memref sig .tc .vmem S512x256 .f32) (harg3 : arg3.IsWhole) (arg4 : Memref sig .tc .vmem S2048x256 .f32) (harg4 : arg4.IsWhole)
  (arg5 : Memref sig .tc .vmem S2048x256 .f32) (harg5 : arg5.IsWhole) (arg6 : Memref sig .tc .vmem S1x4x128 .f32) (harg6 : arg6.IsWhole)
  (arg7 : Memref sig .tc .vmem S256x128 .bf16) (harg7 : arg7.IsWhole) (arg8 : Memref sig .tc .vmem S512x256 .f32) (harg8 : arg8.IsWhole) (arg9 : Memref sig .tc .vmem S512x256 .f32) (harg9 : arg9.IsWhole)
  (arg10 : Memref sig .tc .vmem S512x1 .f32) (harg10 : arg10.IsWhole) (arg11 : Memref sig .tc .vmem S512x1 .f32) (harg11 : arg11.IsWhole)
  (arg12 : Memref sig .tc .vmem S512x1 .f32) (harg12 : arg12.IsWhole) (arg13 : Memref sig .tc .vmem S512x1 .f32) (harg13 : arg13.IsWhole)

/-- The loop over the remainder makes no trip. -/
theorem rest_nil (w w' : BitVec 32) (q0 q1 q2 q3 : FVec Ideal S512x256 .bf16) (b0 b1 b2 b3 : FVec Ideal S1x128 .f32) (sf : FVec Ideal S256x128 .bf16)
    (X4 : BufTy.Contents (Elt Ideal) arg4.view.ty) (X5 : BufTy.Contents (Elt Ideal) arg5.view.ty) (G9 : BufTy.Contents (Elt Ideal) arg9.view.ty) (G10 : BufTy.Contents (Elt Ideal) arg10.view.ty)
    (G11 : BufTy.Contents (Elt Ideal) arg11.view.ty) (G12 : BufTy.Contents (Elt Ideal) arg12.view.ty) (G13 : BufTy.Contents (Elt Ideal) arg13.view.ty) {n : ℕ} (hn : n = 0) :
    (pb_k0_t2 (F := Ideal) Variants.none c none i arg3 harg3 arg4 harg4 arg5 harg5 arg6 harg6 arg7 harg7 arg8 harg8 arg9 harg9 arg10 harg10 arg11 harg11 arg12 harg12 arg13 harg13 w q0 q1 q2 q3 b0 b1 b2 b3 sf w' X4 X5 G9 G10 G11 G12 G13 n).1 = [] := by
  subst hn; rfl

variable (x0 : Vec Ideal S512x256 .f32) (x1 x2 : Vec Ideal S2048x256 .f32) (x3 : Vec Ideal S1x4x128 .f32) (x4 : Vec Ideal S256x128 .bf16)

theorem tile_out (r : Fin 512) (l : Fin 256) :
    out0_A_5 (F := Ideal) c i arg3 harg3 arg4 harg4 arg5 harg5 arg6 harg6 arg7 harg7 arg8 harg8 arg9 harg9 arg10 harg10 arg11 harg11 arg12 harg12 arg13 harg13 x0 x1 x2 x3 x4 (ix2 r l)
      = kA (i 2).val (kernelRun0_A.sl.r_1 (F := Ideal) c arg3 harg3 x0) (kernelRun0_A.sl.r_2 (F := Ideal) c arg3 harg3 x0) (kernelRun0_A.sl.r_3 (F := Ideal) c arg3 harg3 x0) (kernelRun0_A.sl.r_4 (F := Ideal) c arg3 harg3 x0) (kernelRun0_A.sl.r_5 (F := Ideal) c arg6 harg6 x3) (kernelRun0_A.sl.r_6 (F := Ideal) c arg6 harg6 x3) (kernelRun0_A.sl.r_7 (F := Ideal) c arg6 harg6 x3) (kernelRun0_A.sl.r_8 (F := Ideal) c arg6 harg6 x3) (rows x1) (vrows x2) (kernelRun0_A.sl.r_9 (F := Ideal) c arg7 harg7 x4) (4 + 4 * (i 2).val) r l := by
  unfold out0_A_5
  rw [View.read_writes_junk_eq_canon]
  unfold kernelRun0_A
  dsimp only
  refine (canon_row (N := 256) (m := 512) (lo := 0) inb_S512x256_S512x256_0_0 _ [] r r l (Nat.zero_add _).symm).trans ?_
  refine (readCov_row0 (N := 256) arg9 _ _ r l).trans ?_
  refine (congrArg (fun L : List (View.Piece (Elt Ideal) S512x256 .f32) => View.canon (L ++ _) (ix2 r l)) (rest_nil (hn := loop2_trips i) ..)).trans ?_
  rw [List.nil_append]
  rw [← View.read_writes_junk_eq_canon arg9.view, View.writes_append]
  have key := (loop_inv c i arg3 harg3 arg4 harg4 arg5 harg5 arg6 harg6 arg7 harg7 arg8 harg8 arg9 harg9 arg10 harg10 arg11 harg11 arg12 harg12 arg13 harg13 (kernelRun0_A.sl.r_1 (F := Ideal) c arg3 harg3 x0) (kernelRun0_A.sl.r_2 (F := Ideal) c arg3 harg3 x0) (kernelRun0_A.sl.r_3 (F := Ideal) c arg3 harg3 x0) (kernelRun0_A.sl.r_4 (F := Ideal) c arg3 harg3 x0) (kernelRun0_A.sl.r_5 (F := Ideal) c arg6 harg6 x3) (kernelRun0_A.sl.r_6 (F := Ideal) c arg6 harg6 x3) (kernelRun0_A.sl.r_7 (F := Ideal) c arg6 harg6 x3) (kernelRun0_A.sl.r_8 (F := Ideal) c arg6 harg6 x3) (kernelRun0_A.sl.r_9 (F := Ideal) c arg7 harg7 x4) x1 x2
    (arg9.view.writes (Elt Ideal) arg9.view.junk (kernelRun0_A.sl.HS0_5 (F := Ideal) c i arg3 harg3 arg4 harg4 arg5 harg5 arg6 harg6 arg7 harg7 arg9 arg10 arg11 arg12 arg13 x0 x1 x2 x3 x4))
    (arg10.view.writes (Elt Ideal) arg10.view.junk (kernelRun0_A.sl.HS1_5 (F := Ideal) c i arg3 harg3 arg4 harg4 arg6 harg6 arg10 x0 x1 x3))
    (arg11.view.writes (Elt Ideal) arg11.view.junk (kernelRun0_A.sl.HS2_5 (F := Ideal) c i arg3 harg3 arg4 harg4 arg6 harg6 arg11 x0 x1 x3))
    (arg12.view.writes (Elt Ideal) arg12.view.junk (kernelRun0_A.sl.HS3_5 (F := Ideal) c i arg3 harg3 arg4 harg4 arg6 harg6 arg12 x0 x1 x3))
    (arg13.view.writes (Elt Ideal) arg13.view.junk (kernelRun0_A.sl.HS4_5 (F := Ideal) c i arg3 harg3 arg4 harg4 arg6 harg6 arg13 x0 x1 x3))
    (fun r l => (congrFun (View.read_writes_junk_eq_canon arg9.view _) _).trans (total_4 c i arg3 harg3 arg4 harg4 arg5 harg5 arg6 harg6 arg7 harg7 arg9 arg10 arg11 arg12 arg13 x0 x1 x2 x3 x4 r l))
    (fun r => (congrFun (View.read_writes_junk_eq_canon arg10.view _) _).trans (head0_4 c i arg3 harg3 arg4 harg4 arg6 harg6 arg10 x0 x1 x3 r))
    (fun r => (congrFun (View.read_writes_junk_eq_canon arg11.view _) _).trans (head1_4 c i arg3 harg3 arg4 harg4 arg6 harg6 arg11 x0 x1 x3 r))
    (fun r => (congrFun (View.read_writes_junk_eq_canon arg12.view _) _).trans (head2_4 c i arg3 harg3 arg4 harg4 arg6 harg6 arg12 x0 x1 x3 r))
    (fun r => (congrFun (View.read_writes_junk_eq_canon arg13.view _) _).trans (head3_4 c i arg3 harg3 arg4 harg4 arg6 harg6 arg13 x0 x1 x3 r))
    (k0_t1_loop i).trips le_rfl).1 r l
  rw [loop1_trips] at key
  refine Eq.trans ?_ key
  rw [← loop1_trips i]

end Cert.KernelIdeal.Value

end
-- ==== Proof.AttnHead.lean ====
/-
  The operands a launch reads: each head's query lanes, its bias, the suffix matrix; and a head's score as the sum over its
  own 64 lanes.
-/
module

public import proofs.«01_k».proof.Proof.AttnStep
public import proofs.«01_k».proof.Proof.Gen.KernelIdeal.Frame

@[expose] public section

set_option maxRecDepth 16384

noncomputable section

open Idealize.ShloMosaic Idealize.ShloMosaic.TcCoe Idealize.SL.Sem
open Cert.Layer

namespace Cert.KernelIdeal.Value
open Cert.KernelIdeal Cert.KernelIdeal.Gen

/-- The head of a lane, as the kernel counts it. -/
theorem lane_head (r : Fin 512) (l : Fin 256) : k0_pay68 (ix2 r l) = BitVec.ofNat 32 (l.val / 64) := by
  unfold k0_pay68
  pointwise
  revert l
  decide +kernel

theorem whole_read {S : Shape} {φ : EltTy} (arg : Memref sig .tc .vmem S φ) (harg : arg.IsWhole) (X : Vec Ideal S φ) {off : Fin S.rank → ℕ}
    (inb : ∀ a, off a + S.size a ≤ S.size a) :
    View.readAt (Elt Ideal) arg.view (Rect.unit (s := S) off S.size inb).toLoadRect (harg.unread X) = X := by
  funext y
  refine (congrFun (View.readAt_eq_ld arg.view (harg.unread X) _) y).trans ?_
  rw [harg.read_unread]
  refine congrArg X ?_
  funext a; apply Fin.ext
  have h := inb a
  show off a + 1 * (y a).val = (y a).val
  omega

theorem suffix_at (c : Dev nD) (arg7 : Memref sig .tc .vmem S256x128 .bf16) (harg7 : arg7.IsWhole) (x4 : Vec Ideal S256x128 .bf16) (x : Fin 256) (s : Fin 128) :
    kernelRun0_A.sl.r_9 (F := Ideal) c arg7 harg7 x4 (ix2 x s) = x4 (ix2 x s) := by
  unfold kernelRun0_A.sl.r_9
  rw [whole_read arg7 harg7 x4]
  unfold k0_pay77
  pointwise

/-- The lanes of one head among the 256. -/
theorem head_sum (f : Fin 256 → EReal) (h : Fin 4) :
    (∑ x : Fin 256, if x.val / 64 = h.val then f x else 0) = ∑ d : Fin 64, f (⟨64 * h.val + d.val, by omega⟩ : Fin 256) := by
  have e (x : Fin 256) : (if x.val / 64 = h.val then f x else 0) = (fun n : ℕ => if n / 64 = h.val then (if hn : n < 256 then f ⟨n, hn⟩ else 0) else 0) x.val := by
    show _ = if x.val / 64 = h.val then (if hn : x.val < 256 then f ⟨x.val, hn⟩ else 0) else 0
    rw [dif_pos x.isLt]
  have e' (d : Fin 64) : f (⟨64 * h.val + d.val, by omega⟩ : Fin 256) = (fun n : ℕ => if hn : n < 256 then f ⟨n, hn⟩ else 0) (64 * h.val + d.val) := by
    show _ = if hn : 64 * h.val + d.val < 256 then f ⟨64 * h.val + d.val, hn⟩ else 0
    rw [dif_pos (by omega)]
  rw [Finset.sum_congr rfl fun x _ => e x, Finset.sum_congr rfl fun d _ => e' d, ← Finset.sum_range (fun n : ℕ => if n / 64 = h.val then (if hn : n < 256 then f ⟨n, hn⟩ else 0) else 0),
    ← Finset.sum_range (fun k : ℕ => (fun n : ℕ => if hn : n < 256 then f ⟨n, hn⟩ else 0) (64 * h.val + k)), ← Finset.sum_filter]
  have hI : (Finset.range 256).filter (fun n => n / 64 = h.val) = Finset.Ico (64 * h.val) (64 * h.val + 64) := by
    ext n
    simp only [Finset.mem_filter, Finset.mem_range, Finset.mem_Ico]
    omega
  rw [hI, Finset.sum_Ico_eq_sum_range, Nat.add_sub_cancel_left]

theorem zed_head (h : Fin 4) (q : Vec Ideal S512x256 .bf16) (b : Vec Ideal S1x128 .f32) (k : Vec Ideal S128x256 .f32) (X : Fin 512 → Fin 256 → EReal) (r : Fin 512) (s : Fin 128)
    (hq : ∀ l, q (ix2 r l) = if l.val / 64 = h.val then X r l else 0) :
    zed q b k r s = ∑ d : Fin 64, X r (⟨64 * h.val + d.val, by omega⟩ : Fin 256) * k (ix2 s (⟨64 * h.val + d.val, by omega⟩ : Fin 256)) + b (ix2 0 s) := by
  unfold zed
  refine congrArg₂ (· + ·) ?_ rfl
  refine Eq.trans (Finset.sum_congr rfl fun l _ => ?_) (head_sum (fun l => X r l * k (ix2 s l)) h)
  rw [hq]
  by_cases e : l.val / 64 = h.val
  · rw [if_pos e, if_pos e]
  · rw [if_neg e, if_neg e, zero_mul]

theorem word_0 : ∀ l : Fin 256, IntOp.cmpi .eq (BitVec.ofNat 32 (l.val / 64)) 0#32 = if l.val / 64 = 0 then 1#1 else 0#1 := by decide +kernel

theorem query_0 (c : Dev nD) (arg3 : Memref sig .tc .vmem S512x256 .f32) (harg3 : arg3.IsWhole) (x0 : Vec Ideal S512x256 .f32) (r : Fin 512) (l : Fin 256) :
    kernelRun0_A.sl.r_1 (F := Ideal) c arg3 harg3 x0 (ix2 r l) = if l.val / 64 = 0 then x0 (ix2 r l) else 0 := by
  unfold kernelRun0_A.sl.r_1
  rw [whole_read arg3 harg3 x0]
  unfold k0_pay69
  have e : (select (cmpi .eq k0_pay68 (broadcast S512x256 0#32)) x0 (broadcast S512x256 (Scalar.ofBits (F := Ideal) .f32 0x00000000#32)) : Vec Ideal S512x256 .f32) (ix2 r l)
      = Scalar.select (IntOp.cmpi .eq (k0_pay68 (ix2 r l)) 0#32) (x0 (ix2 r l)) (Scalar.ofBits (F := Ideal) .f32 0x00000000#32) := rfl
  refine e.trans ?_
  rw [lane_head, word_0]
  by_cases hl : l.val / 64 = 0
  · rw [if_pos hl, if_pos hl]; rfl
  · rw [if_neg hl, if_neg hl]; pointwise

theorem bias_0 (c : Dev nD) (arg6 : Memref sig .tc .vmem S1x4x128 .f32) (harg6 : arg6.IsWhole) (x3 : Vec Ideal S1x4x128 .f32) (s : Fin 128) :
    kernelRun0_A.sl.r_5 (F := Ideal) c arg6 harg6 x3 (ix2 0 s) = x3 (ix3 0 0 s) := by
  unfold kernelRun0_A.sl.r_5
  have e : View.readAt (Elt Ideal) arg6.view (Rect.unit (s := S1x4x128) ![0, 0, 0] S1x1x128.size inb_S1x4x128_S1x1x128_0_0_0).toLoadRect (harg6.unread x3)
      = fun y : S1x1x128.Idx => x3 (ix3 0 0 (y 2)) := by
    funext y
    refine (congrFun (View.readAt_eq_ld arg6.view (harg6.unread x3) _) y).trans ?_
    rw [harg6.read_unread]
    refine congrArg x3 ?_
    have h0 : (y (0 : Fin 3)).val < 1 := (y (0 : Fin 3)).isLt
    have h1 : (y (1 : Fin 3)).val < 1 := (y (1 : Fin 3)).isLt
    funext a; apply Fin.ext
    match a with
    | ⟨0, _⟩ => show 0 + 1 * (y (0 : Fin 3)).val = 0; omega
    | ⟨1, _⟩ => show 0 + 1 * (y (1 : Fin 3)).val = 0; omega
    | ⟨2, _⟩ => show 0 + 1 * (y (2 : Fin 3)).val = (y (2 : Fin 3)).val; omega
  rw [e]
  unfold k0_pay73
  pointwise

theorem word_1 : ∀ l : Fin 256, IntOp.cmpi .eq (BitVec.ofNat 32 (l.val / 64)) 1#32 = if l.val / 64 = 1 then 1#1 else 0#1 := by decide +kernel

theorem query_1 (c : Dev nD) (arg3 : Memref sig .tc .vmem S512x256 .f32) (harg3 : arg3.IsWhole) (x0 : Vec Ideal S512x256 .f32) (r : Fin 512) (l : Fin 256) :
    kernelRun0_A.sl.r_2 (F := Ideal) c arg3 harg3 x0 (ix2 r l) = if l.val / 64 = 1 then x0 (ix2 r l) else 0 := by
  unfold kernelRun0_A.sl.r_2
  rw [whole_read arg3 harg3 x0]
  unfold k0_pay70
  have e : (select (cmpi .eq k0_pay68 (broadcast S512x256 1#32)) x0 (broadcast S512x256 (Scalar.ofBits (F := Ideal) .f32 0x00000000#32)) : Vec Ideal S512x256 .f32) (ix2 r l)
      = Scalar.select (IntOp.cmpi .eq (k0_pay68 (ix2 r l)) 1#32) (x0 (ix2 r l)) (Scalar.ofBits (F := Ideal) .f32 0x00000000#32) := rfl
  refine e.trans ?_
  rw [lane_head, word_1]
  by_cases hl : l.val / 64 = 1
  · rw [if_pos hl, if_pos hl]; rfl
  · rw [if_neg hl, if_neg hl]; pointwise

theorem bias_1 (c : Dev nD) (arg6 : Memref sig .tc .vmem S1x4x128 .f32) (harg6 : arg6.IsWhole) (x3 : Vec Ideal S1x4x128 .f32) (s : Fin 128) :
    kernelRun0_A.sl.r_6 (F := Ideal) c arg6 harg6 x3 (ix2 0 s) = x3 (ix3 0 1 s) := by
  unfold kernelRun0_A.sl.r_6
  have e : View.readAt (Elt Ideal) arg6.view (Rect.unit (s := S1x4x128) ![0, 1, 0] S1x1x128.size inb_S1x4x128_S1x1x128_0_1_0).toLoadRect (harg6.unread x3)
      = fun y : S1x1x128.Idx => x3 (ix3 0 1 (y 2)) := by
    funext y
    refine (congrFun (View.readAt_eq_ld arg6.view (harg6.unread x3) _) y).trans ?_
    rw [harg6.read_unread]
    refine congrArg x3 ?_
    have h0 : (y (0 : Fin 3)).val < 1 := (y (0 : Fin 3)).isLt
    have h1 : (y (1 : Fin 3)).val < 1 := (y (1 : Fin 3)).isLt
    funext a; apply Fin.ext
    match a with
    | ⟨0, _⟩ => show 0 + 1 * (y (0 : Fin 3)).val = 0; omega
    | ⟨1, _⟩ => show 1 + 1 * (y (1 : Fin 3)).val = 1; omega
    | ⟨2, _⟩ => show 0 + 1 * (y (2 : Fin 3)).val = (y (2 : Fin 3)).val; omega
  rw [e]
  unfold k0_pay74
  pointwise

theorem word_2 : ∀ l : Fin 256, IntOp.cmpi .eq (BitVec.ofNat 32 (l.val / 64)) 2#32 = if l.val / 64 = 2 then 1#1 else 0#1 := by decide +kernel

theorem query_2 (c : Dev nD) (arg3 : Memref sig .tc .vmem S512x256 .f32) (harg3 : arg3.IsWhole) (x0 : Vec Ideal S512x256 .f32) (r : Fin 512) (l : Fin 256) :
    kernelRun0_A.sl.r_3 (F := Ideal) c arg3 harg3 x0 (ix2 r l) = if l.val / 64 = 2 then x0 (ix2 r l) else 0 := by
  unfold kernelRun0_A.sl.r_3
  rw [whole_read arg3 harg3 x0]
  unfold k0_pay71
  have e : (select (cmpi .eq k0_pay68 (broadcast S512x256 2#32)) x0 (broadcast S512x256 (Scalar.ofBits (F := Ideal) .f32 0x00000000#32)) : Vec Ideal S512x256 .f32) (ix2 r l)
      = Scalar.select (IntOp.cmpi .eq (k0_pay68 (ix2 r l)) 2#32) (x0 (ix2 r l)) (Scalar.ofBits (F := Ideal) .f32 0x00000000#32) := rfl
  refine e.trans ?_
  rw [lane_head, word_2]
  by_cases hl : l.val / 64 = 2
  · rw [if_pos hl, if_pos hl]; rfl
  · rw [if_neg hl, if_neg hl]; pointwise

theorem bias_2 (c : Dev nD) (arg6 : Memref sig .tc .vmem S1x4x128 .f32) (harg6 : arg6.IsWhole) (x3 : Vec Ideal S1x4x128 .f32) (s : Fin 128) :
    kernelRun0_A.sl.r_7 (F := Ideal) c arg6 harg6 x3 (ix2 0 s) = x3 (ix3 0 2 s) := by
  unfold kernelRun0_A.sl.r_7
  have e : View.readAt (Elt Ideal) arg6.view (Rect.unit (s := S1x4x128) ![0, 2, 0] S1x1x128.size inb_S1x4x128_S1x1x128_0_2_0).toLoadRect (harg6.unread x3)
      = fun y : S1x1x128.Idx => x3 (ix3 0 2 (y 2)) := by
    funext y
    refine (congrFun (View.readAt_eq_ld arg6.view (harg6.unread x3) _) y).trans ?_
    rw [harg6.read_unread]
    refine congrArg x3 ?_
    have h0 : (y (0 : Fin 3)).val < 1 := (y (0 : Fin 3)).isLt
    have h1 : (y (1 : Fin 3)).val < 1 := (y (1 : Fin 3)).isLt
    funext a; apply Fin.ext
    match a with
    | ⟨0, _⟩ => show 0 + 1 * (y (0 : Fin 3)).val = 0; omega
    | ⟨1, _⟩ => show 2 + 1 * (y (1 : Fin 3)).val = 2; omega
    | ⟨2, _⟩ => show 0 + 1 * (y (2 : Fin 3)).val = (y (2 : Fin 3)).val; omega
  rw [e]
  unfold k0_pay75
  pointwise

theorem word_3 : ∀ l : Fin 256, IntOp.cmpi .eq (BitVec.ofNat 32 (l.val / 64)) 3#32 = if l.val / 64 = 3 then 1#1 else 0#1 := by decide +kernel

theorem query_3 (c : Dev nD) (arg3 : Memref sig .tc .vmem S512x256 .f32) (harg3 : arg3.IsWhole) (x0 : Vec Ideal S512x256 .f32) (r : Fin 512) (l : Fin 256) :
    kernelRun0_A.sl.r_4 (F := Ideal) c arg3 harg3 x0 (ix2 r l) = if l.val / 64 = 3 then x0 (ix2 r l) else 0 := by
  unfold kernelRun0_A.sl.r_4 kernelRun0_A.sl.r
  rw [whole_read arg3 harg3 x0]
  unfold k0_pay72
  have e : (select (cmpi .eq k0_pay68 (broadcast S512x256 3#32)) x0 (broadcast S512x256 (Scalar.ofBits (F := Ideal) .f32 0x00000000#32)) : Vec Ideal S512x256 .f32) (ix2 r l)
      = Scalar.select (IntOp.cmpi .eq (k0_pay68 (ix2 r l)) 3#32) (x0 (ix2 r l)) (Scalar.ofBits (F := Ideal) .f32 0x00000000#32) := rfl
  refine e.trans ?_
  rw [lane_head, word_3]
  by_cases hl : l.val / 64 = 3
  · rw [if_pos hl, if_pos hl]; rfl
  · rw [if_neg hl, if_neg hl]; pointwise

theorem bias_3 (c : Dev nD) (arg6 : Memref sig .tc .vmem S1x4x128 .f32) (harg6 : arg6.IsWhole) (x3 : Vec Ideal S1x4x128 .f32) (s : Fin 128) :
    kernelRun0_A.sl.r_8 (F := Ideal) c arg6 harg6 x3 (ix2 0 s) = x3 (ix3 0 3 s) := by
  unfold kernelRun0_A.sl.r_8
  have e : View.readAt (Elt Ideal) arg6.view (Rect.unit (s := S1x4x128) ![0, 3, 0] S1x1x128.size inb_S1x4x128_S1x1x128_0_3_0).toLoadRect (harg6.unread x3)
      = fun y : S1x1x128.Idx => x3 (ix3 0 3 (y 2)) := by
    funext y
    refine (congrFun (View.readAt_eq_ld arg6.view (harg6.unread x3) _) y).trans ?_
    rw [harg6.read_unread]
    refine congrArg x3 ?_
    have h0 : (y (0 : Fin 3)).val < 1 := (y (0 : Fin 3)).isLt
    have h1 : (y (1 : Fin 3)).val < 1 := (y (1 : Fin 3)).isLt
    funext a; apply Fin.ext
    match a with
    | ⟨0, _⟩ => show 0 + 1 * (y (0 : Fin 3)).val = 0; omega
    | ⟨1, _⟩ => show 3 + 1 * (y (1 : Fin 3)).val = 3; omega
    | ⟨2, _⟩ => show 0 + 1 * (y (2 : Fin 3)).val = (y (2 : Fin 3)).val; omega
  rw [e]
  unfold k0_pay76
  pointwise

end Cert.KernelIdeal.Value

end
-- ==== Proof.AttnWin.lean ====
/-
  Which rows and columns a launch of the attention of the prompt reads, and what the host hands it.
-/
module

public import proofs.«01_k».proof.Proof.AttnHead
public import Idealize.ShloMosaic.Lib.IdealHost
public import proofs.«01_k».proof.Proof.Gen.KernelIdeal.Value

@[expose] public section

set_option maxRecDepth 16384

noncomputable section

open Idealize.ShloMosaic Idealize.ShloMosaic.TcCoe Idealize.SL.Sem
open Cert.Layer

namespace Cert.KernelIdeal.Value
open Cert.KernelIdeal Cert.KernelIdeal.Gen

variable (m : (ℓ : Loc nD τ sig) → Buf (Elt Ideal) ℓ) (c : Dev nD)

theorem V_bias (p h : Fin 4) (s : Fin 128) :
    (V m c main_v1 : Vec Ideal S4x4x128 .f32) (ix3 p h s) = (m ((c : Thread nD τ).loc main_arg3) : Vec Ideal S16 .f32) (ix1 (⟨4 * p.val + h.val, by omega⟩ : Fin 16)) := by
  unfold V
  simp only [hostOps0, hostOps0_1, hostOps0_2, hostOps0_3, hostOps0_4, List.flatten_cons, List.flatten_nil, List.append_nil, List.cons_append, List.nil_append]
  after_results
  show broadcastInDim S4x4x128 ![0, 1, 2] bcast_S4x4x1_S4x4x128_0_1_2 (shapeCast S4x4x1 (m ((c : Thread nD τ).loc main_arg3) : Vec Ideal S16 .f32) shapeCasts_S16_S4x4x1) (ix3 p h s) = _
  pointwise
  refine congrArg _ (congrArg ix1 (Fin.ext ?_))
  show p.val * 4 + h.val = 4 * p.val + h.val
  omega

/-- The remainder by 128 as the host computes it. -/
def rem128 (w : BitVec 32) : BitVec 32 :=
  Scalar.select (IntOp.andi (IntOp.cmpi .ne (IntOp.cmpi .slt (IntOp.remsi .host w (Scalar.select (IntOp.cmpi .eq 128#32 0#32) 1#32 128#32)) 0#32)
      (IntOp.cmpi .slt (Scalar.select (IntOp.cmpi .eq 128#32 0#32) 1#32 128#32) 0#32))
      (IntOp.cmpi .ne (IntOp.remsi .host w (Scalar.select (IntOp.cmpi .eq 128#32 0#32) 1#32 128#32)) 0#32))
    (IntOp.addi (IntOp.remsi .host w (Scalar.select (IntOp.cmpi .eq 128#32 0#32) 1#32 128#32)) (Scalar.select (IntOp.cmpi .eq 128#32 0#32) 1#32 128#32))
    (IntOp.remsi .host w (Scalar.select (IntOp.cmpi .eq 128#32 0#32) 1#32 128#32))

theorem rem128_eq : ∀ x : Fin 256, rem128 (BitVec.ofNat 32 x.val) = BitVec.ofNat 32 (x.val % 128) := by decide +kernel

theorem sgt_eq : ∀ x s : Fin 128, IntOp.cmpi .sgt (BitVec.ofNat 32 x.val) (BitVec.ofNat 32 s.val) = if s.val < x.val then 1#1 else 0#1 := by decide +kernel

theorem V_sfx (x : Fin 256) (s : Fin 128) :
    (V m c main_v7 : Vec Ideal S256x128 .bf16) (ix2 x s) = if s.val < x.val % 128 then (1 : EReal) else 0 := by
  unfold V
  simp only [hostOps0, hostOps0_1, hostOps0_2, hostOps0_3, hostOps0_4, List.flatten_cons, List.flatten_nil, List.append_nil, List.cons_append, List.nil_append]
  after_results
  show Scalar.select (IntOp.cmpi .sgt (rem128 (BitVec.ofNat 32 x.val)) (BitVec.ofNat 32 s.val)) (Ideal.ofBits .f32 0x3F800000#32) (Ideal.ofBits .f32 0x00000000#32) = _
  rw [rem128_eq, sgt_eq (⟨x.val % 128, Nat.mod_lt _ (by decide)⟩ : Fin 128) s, Ideal.ofBits_one_f32]
  by_cases h : s.val < x.val % 128
  · rw [if_pos h, if_pos h]; rfl
  · rw [if_neg h, if_neg h]; pointwise

/-- Which blocks a point reads and writes. -/
theorem idx_in : ∀ t : Fin cfg0.N, (win0_0.index t (0 : Fin 2) = 4 * (t.val / 16) + t.val % 4 ∧ win0_0.index t (1 : Fin 2) = t.val / 4 % 4)
    ∧ (win0_1.index t (0 : Fin 2) = t.val / 16 ∧ win0_1.index t (1 : Fin 2) = t.val / 4 % 4)
    ∧ (win0_2.index t (0 : Fin 2) = t.val / 16 ∧ win0_2.index t (1 : Fin 2) = 8 + t.val / 4 % 4)
    ∧ (win0_3.index t (0 : Fin 3) = t.val / 4 % 4 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 2) = 4 * (t.val / 16) + t.val % 4 ∧ win0_5.index t (1 : Fin 2) = t.val / 4 % 4)
    ∧ (grid0.coords t 2).val = t.val % 4 :=
  (by decide +kernel : ∀ t : Fin grid0.N, _)

variable (t : Fin cfg0.N)

theorem iblk0 (r : Fin 512) (l : Fin 256) (R : Fin 9216) (L : Fin 1024) (hR : R.val = 512 * (4 * (t.val / 16) + t.val % 4) + r.val) (hL : L.val = 256 * (t.val / 4 % 4) + l.val) :
    (iblk m c 0 t : Vec Ideal S512x256 .f32) (ix2 r l) = (m ((c : Thread nD τ).loc main_arg0) : Vec Ideal S9216x1024 .f32) (ix2 R L) := by
  obtain ⟨⟨e0, e1⟩, -⟩ := idx_in t
  unfold iblk
  rw [View.read_apply, ← V_main_arg0 m c]
  show (V m c main_arg0 : Vec Ideal S9216x1024 .f32) _ = _
  congr 1
  funext a
  apply Fin.ext
  match a with
  | ⟨0, _⟩ => show win0_0.index t 0 * 512 + 1 * r.val = R.val; rw [e0, hR]; omega
  | ⟨1, _⟩ => show win0_0.index t 1 * 256 + 1 * l.val = L.val; rw [e1, hL]; omega

theorem X1_at (s : Fin 2048) (l : Fin 256) (R : Fin 9216) (L : Fin 1024) (hR : R.val = 2048 * (t.val / 16) + s.val) (hL : L.val = 256 * (t.val / 4 % 4) + l.val) :
    (X0_1 m c t : Vec Ideal S2048x256 .f32) (ix2 s l) = (m ((c : Thread nD τ).loc main_arg1) : Vec Ideal S9216x1024 .f32) (ix2 R L) := by
  obtain ⟨-, ⟨e0, e1⟩, -⟩ := idx_in t
  unfold X0_1 Pipeline.Window.fill
  rw [dif_pos (moved0_1 t _)]
  unfold iblk
  rw [View.read_apply, ← V_main_arg1 m c]
  show (V m c main_arg1 : Vec Ideal S9216x1024 .f32) _ = _
  congr 1
  funext a
  apply Fin.ext
  match a with
  | ⟨0, _⟩ => show win0_1.index t 0 * 2048 + 1 * s.val = R.val; rw [e0, hR]; omega
  | ⟨1, _⟩ => show win0_1.index t 1 * 256 + 1 * l.val = L.val; rw [e1, hL]; omega

theorem X2_at (s : Fin 2048) (l : Fin 256) (R : Fin 9216) (L : Fin 6400) (hR : R.val = 2048 * (t.val / 16) + s.val) (hL : L.val = 2048 + 256 * (t.val / 4 % 4) + l.val) :
    (X0_2 m c t : Vec Ideal S2048x256 .f32) (ix2 s l) = (m ((c : Thread nD τ).loc main_arg2) : Vec Ideal S9216x6400 .f32) (ix2 R L) := by
  obtain ⟨-, -, ⟨e0, e1⟩, -⟩ := idx_in t
  unfold X0_2 Pipeline.Window.fill
  rw [dif_pos (moved0_2 t _)]
  unfold iblk
  rw [View.read_apply, ← V_main_arg2 m c]
  show (V m c main_arg2 : Vec Ideal S9216x6400 .f32) _ = _
  congr 1
  funext a
  apply Fin.ext
  match a with
  | ⟨0, _⟩ => show win0_2.index t 0 * 2048 + 1 * s.val = R.val; rw [e0, hR]; omega
  | ⟨1, _⟩ => show win0_2.index t 1 * 256 + 1 * l.val = L.val; rw [e1, hL]; omega

theorem iblk3 (h : Fin 4) (s : Fin 128) (H : Fin 16) (hH : H.val = 4 * (t.val / 4 % 4) + h.val) :
    (iblk m c 3 t : Vec Ideal S1x4x128 .f32) (ix3 0 h s) = (m ((c : Thread nD τ).loc main_arg3) : Vec Ideal S16 .f32) (ix1 H) := by
  obtain ⟨-, -, -, ⟨e0, e1, e2⟩, -⟩ := idx_in t
  have hb := V_bias m c (⟨t.val / 4 % 4, by omega⟩ : Fin 4) h s
  rw [show (⟨4 * (t.val / 4 % 4) + h.val, by omega⟩ : Fin 16) = H from Fin.ext hH.symm] at hb
  rw [← hb]
  unfold iblk
  rw [View.read_apply]
  show (V m c main_v1 : Vec Ideal S4x4x128 .f32) _ = _
  congr 1
  funext a
  apply Fin.ext
  match a with
  | ⟨0, _⟩ => show win0_3.index t 0 * 1 + 1 * 0 = t.val / 4 % 4; rw [e0]; omega
  | ⟨1, _⟩ => show win0_3.index t 1 * 4 + 1 * h.val = h.val; rw [e1]; omega
  | ⟨2, _⟩ => show win0_3.index t 2 * 128 + 1 * s.val = s.val; rw [e2]; omega

theorem iblk4 (x : Fin 256) (s : Fin 128) :
    (iblk m c 4 t : Vec Ideal S256x128 .bf16) (ix2 x s) = if s.val < x.val % 128 then (1 : EReal) else 0 := by
  obtain ⟨-, -, -, -, ⟨e0, e1⟩, -⟩ := idx_in t
  rw [← V_sfx m c x s]
  unfold iblk
  rw [View.read_apply]
  show (V m c main_v7 : Vec Ideal S256x128 .bf16) _ = _
  congr 1
  funext a
  apply Fin.ext
  match a with
  | ⟨0, _⟩ => show win0_4.index t 0 * 256 + 1 * x.val = x.val; rw [e0]; omega
  | ⟨1, _⟩ => show win0_4.index t 1 * 128 + 1 * s.val = s.val; rw [e1]; omega

/-- An entry of the result array is its block's, at its place in the block. -/
theorem result_block (r : Fin 512) (l : Fin 256) (R : Fin 8192) (L : Fin 1024) (hR : R.val = 512 * (4 * (t.val / 16) + t.val % 4) + r.val) (hL : L.val = 256 * (t.val / 4 % 4) + l.val) :
    ((dats m 0 c).arrAt 5 cfg0.N : Vec Ideal S8192x1024 .f32) (ix2 R L)
      = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (iblk m c 0 t) (X0_1 m c t) (X0_2 m c t) (iblk m c 3 t) (iblk m c 4 t) (ix2 r l) := by
  obtain ⟨-, -, -, -, -, ⟨e0, e1⟩, -⟩ := idx_in t
  have h := congrFun (blocks5 m c t (flush0_5 t)) (ix2 r l)
  rw [flushed5_A, View.read_apply] at h
  have he : ((cfg0.win 5).blk t).view.emb (ix2 r l) = ix2 R L := by
    funext a
    apply Fin.ext
    match a with
    | ⟨0, _⟩ => show win0_5.index t 0 * 512 + 1 * r.val = R.val; rw [e0, hR]; omega
    | ⟨1, _⟩ => show win0_5.index t 1 * 256 + 1 * l.val = L.val; rw [e1, hL]; omega
  rw [he] at h
  refine h.trans ?_
  show out0_A_5 _ _ _ _ _ _ _ _ _ _ _ _ _ _ _ _ _ _ _ _ _ _ _ _ _ _ _ _ _ ((cfg0.win 5).xinj (grid0.coords t) (ix2 r l)) = _
  congr 1

end Cert.KernelIdeal.Value

end
-- ==== Proof.AttnRef.lean ====
/-
  What the reference of the attention of the prompt computes, entry by entry: each earlier key's value, weighted by its
  log probability plus the log complements of the keys between it and the query, exponentiated.
-/
module

public import proofs.«01_k».proof.Proof.Common
public import proofs.«01_k».proof.Proof.Gen.ReferenceIdeal.Read
public import Idealize.ShloMosaic.Lib.IdealHost
public import Idealize.ShloMosaic.Lib.WordCmp

@[expose] public section

set_option maxRecDepth 16384

noncomputable section

open Idealize.ShloMosaic Idealize.ShloMosaic.TcCoe Idealize.SL.Sem
open Cert.Layer

namespace Cert.ReferenceIdeal.Value
open Cert.ReferenceIdeal Cert.ReferenceIdeal.Gen Cert.ReferenceIdeal.Read

theorem foldl_add {α : Type} (f : α → EReal) (l : List α) (v : EReal) : l.foldl (fun r n => r + f n) v = v + (l.map f).sum := by
  induction l generalizing v with
  | nil => simp
  | cons a l ih => rw [List.foldl_cons, ih, List.map_cons, List.sum_cons, add_assoc]

theorem window_at {s t u : Shape} (window strides lo hi : Fin s.rank → ℕ) (x : FVec Ideal s .f32) (init : u.Idx → EReal)
    (h : s.ReduceWindows window strides lo hi t) (hu : 0 < u.numel) (hinit : ∀ j, init j = 0) (j : t.Idx) :
    Host.reduceWindowAdd (F := Ideal) (φ := .f32) window strides lo hi x init h hu j
      = ∑ w : (⟨s.rank, window⟩ : Shape).Idx,
          if hin : ∀ a, lo a ≤ (j (Fin.cast h.1.symm a)).val * strides a + (w a).val ∧ (j (Fin.cast h.1.symm a)).val * strides a + (w a).val - lo a < s.size a then
            x (fun a => ⟨(j (Fin.cast h.1.symm a)).val * strides a + (w a).val - lo a, (hin a).2⟩) else (0 : EReal) := by
  show Host.reduceWindow (· + ·) window strides lo hi x (fun _ : u.Idx => init (Shape.Idx.first hu)) h hu j = _
  unfold Host.reduceWindow
  dsimp only
  rw [hinit]
  refine (foldl_add _ _ 0).trans ?_
  rw [zero_add, ← Fin.sum_univ_def, ← Equiv.sum_comp (Shape.rowMajor (⟨s.rank, window⟩ : Shape)).symm]
  refine Finset.sum_congr rfl fun n _ => ?_
  congr 1

/-- A window sum from each position to the end of the last axis. -/
theorem window_sum {u : Shape} (x : FVec Ideal S4x16x2048x2048 .f32) (init : u.Idx → EReal) (hinit : ∀ j, init j = 0)
    (h : S4x16x2048x2048.ReduceWindows (![1, 1, 1, 2048] : Fin 4 → ℕ) ![1, 1, 1, 1] ![0, 0, 0, 0] ![0, 0, 0, 2047] S4x16x2048x2048) (hu : 0 < u.numel)
    (b : Fin 4) (n : Fin 16) (t s : Fin 2048) :
    Host.reduceWindowAdd (F := Ideal) (φ := .f32) ![1, 1, 1, 2048] ![1, 1, 1, 1] ![0, 0, 0, 0] ![0, 0, 0, 2047] x init h hu (ix4 b n t s)
      = ∑ k : Fin 2048, if hk : s.val + k.val < 2048 then x (ix4 b n t (⟨s.val + k.val, hk⟩ : Fin 2048)) else 0 := by
  refine (window_at _ _ _ _ x init h hu hinit _).trans ?_
  rw [sum_idx4]
  simp only [Finset.univ_unique, Finset.sum_singleton]
  refine Finset.sum_congr rfl fun k _ => ?_
  by_cases hk : s.val + k.val < 2048
  · rw [dif_pos hk, dif_pos]
    · refine congrArg x (funext fun a => Fin.ext ?_)
      match a with
      | ⟨0, _⟩ => show b.val * 1 + 0 - 0 = b.val; omega
      | ⟨1, _⟩ => show n.val * 1 + 0 - 0 = n.val; omega
      | ⟨2, _⟩ => show t.val * 1 + 0 - 0 = t.val; omega
      | ⟨3, _⟩ => show s.val * 1 + k.val - 0 = s.val + k.val; omega
    · intro a
      match a with
      | ⟨0, _⟩ => show 0 ≤ b.val * 1 + 0 ∧ b.val * 1 + 0 - 0 < 4; omega
      | ⟨1, _⟩ => show 0 ≤ n.val * 1 + 0 ∧ n.val * 1 + 0 - 0 < 16; omega
      | ⟨2, _⟩ => show 0 ≤ t.val * 1 + 0 ∧ t.val * 1 + 0 - 0 < 2048; omega
      | ⟨3, _⟩ => show 0 ≤ s.val * 1 + k.val ∧ s.val * 1 + k.val - 0 < 2048; omega
  · rw [dif_neg hk, dif_neg]
    intro hin
    have h3 : s.val * 1 + k.val - 0 < 2048 := (hin (3 : Fin 4)).2
    omega

/-- The log of the logistic function, in the form the reference takes it. -/
def lsig (z : EReal) : EReal := -(max (-z) 0 + Ideal.log1p (Ideal.exp (-(max (-z - 0) (-(-z - 0))))))

/-- The row of a query or key among the rows of the prompts. -/
abbrev rowOf (b : Fin 4) (t : Fin 2048) : Fin 9216 := ⟨2048 * b.val + t.val, by omega⟩
/-- The lane of a head. -/
abbrev laneOf (h : Fin 16) (d : Fin 64) : Fin 1024 := ⟨64 * h.val + d.val, by omega⟩

variable (x0 x1 : Vec Ideal S9216x1024 .f32) (x2 : Vec Ideal S9216x6400 .f32) (x3 : Vec Ideal S16 .f32)

/-- The score of query `t` and key `s` of prompt `b` in head `h`. -/
def score (b : Fin 4) (h : Fin 16) (t s : Fin 2048) : EReal :=
  ∑ d : Fin 64, x0 (ix2 (rowOf b t) (laneOf h d)) * x1 (ix2 (rowOf b s) (laneOf h d)) + x3 (ix1 h)

theorem score_at (b : Fin 4) (h : Fin 16) (t s : Fin 2048) : val_main_v9 (F := Ideal) x0 x1 x3 (ix4 b h t s) = score x0 x1 x3 b h t s := by
  rw [val_main_v9_apply, val_main_v6_apply, val_main_v8_apply, val_main_v7_apply]
  refine congrArg₂ (· + ·) (Finset.sum_congr rfl fun d _ => congrArg₂ (· * ·) ?_ ?_) ?_
  · rw [val_main_v1_apply, val_main_v0_apply]
    refine congrArg x0 (funext fun a => Fin.ext ?_)
    match a with
    | ⟨0, _⟩ => show (((b.val * 2048 + t.val) * 16 + h.val) * 64 + d.val) / 1024 = 2048 * b.val + t.val; omega
    | ⟨1, _⟩ => show (((b.val * 2048 + t.val) * 16 + h.val) * 64 + d.val) % 1024 = 64 * h.val + d.val; omega
  · rw [val_main_v3_apply, val_main_v2_apply]
    refine congrArg x1 (funext fun a => Fin.ext ?_)
    match a with
    | ⟨0, _⟩ => show (((b.val * 2048 + s.val) * 16 + h.val) * 64 + d.val) / 1024 = 2048 * b.val + s.val; omega
    | ⟨1, _⟩ => show (((b.val * 2048 + s.val) * 16 + h.val) * 64 + d.val) % 1024 = 64 * h.val + d.val; omega
  · refine congrArg x3 (funext fun a => Fin.ext ?_)
    match a with
    | ⟨0, _⟩ => rfl

theorem zero_bits : (FloatOps.ofBits .f32 0x00000000#32 : Ideal .f32) = (0 : EReal) := by
  pointwise

theorem une_self (d : EReal) : FloatOps.cmpf (F := Ideal) (φ := .f32) .une d d = 0#1 := by
  show Ideal.cmp .une d d = 0#1
  unfold Ideal.cmp
  simp

theorem lsig_at (i : S4x16x2048x2048.Idx) : val_main_v16 (F := Ideal) x0 x1 x3 i = lsig (val_main_v9 (F := Ideal) x0 x1 x3 i) := by
  rw [val_main_v16_apply, val_main_call0_v1_apply, val_main_call0_call0_v4_apply, une_self]
  show -(val_main_call0_call0_v11 (F := Ideal) x0 x1 x3 i : EReal) = _
  simp only [val_main_call0_call0_v11_apply, val_main_call0_call0_v10_apply, val_main_call0_call0_v9_apply, val_main_call0_call0_v8_apply, val_main_call0_call0_v7_apply,
    val_main_call0_call0_v3_apply, val_main_call0_call0_v2_apply, val_main_call0_call0_v1_apply, val_main_call0_call0_v0_apply, val_main_call0_call0_cst_apply, val_main_call0_v0_apply, zero_bits]
  rfl

theorem lsig_neg_at (i : S4x16x2048x2048.Idx) : val_main_v18 (F := Ideal) x0 x1 x3 i = lsig (-(val_main_v9 (F := Ideal) x0 x1 x3 i : EReal)) := by
  rw [val_main_v18_apply, val_main_call1_v1_apply, val_main_call1_call0_v4_apply, une_self]
  show -(val_main_call1_call0_v11 (F := Ideal) x0 x1 x3 i : EReal) = _
  simp only [val_main_call1_call0_v11_apply, val_main_call1_call0_v10_apply, val_main_call1_call0_v9_apply, val_main_call1_call0_v8_apply, val_main_call1_call0_v7_apply,
    val_main_call1_call0_v3_apply, val_main_call1_call0_v2_apply, val_main_call1_call0_v1_apply, val_main_call1_call0_v0_apply, val_main_call1_call0_cst_apply, val_main_call1_v0_apply, val_main_v17_apply, zero_bits]
  rfl

theorem before_at (t s : Fin 2048) (i : S2048x2048.Idx) (h0 : (i 0).val = t.val) (h1 : (i 1).val = s.val) :
    val_main_v15 (F := Ideal) i = if s.val < t.val then 1#1 else 0#1 := by
  rw [val_main_v15_apply, val_main_v13_apply, val_main_v14_apply, val_main_v11_apply, val_main_v12_apply, val_main_v10_apply, val_main_v10_apply]
  show IntOp.cmpi .slt (BitVec.ofNat 32 (i 1).val) (BitVec.ofNat 32 (i 0).val) = _
  rw [h0, h1, WordCmp.cmpi_slt_ofNat (by norm_num; omega) (by norm_num; omega), WordCmp.ofBool_decide_eq_ite]

/-- The log complement of a key for a query, zero where the key is not before it. -/
def comp (b : Fin 4) (h : Fin 16) (t s : Fin 2048) : EReal := if s.val < t.val then lsig (-(score x0 x1 x3 b h t s)) else 0

theorem comp_at (b : Fin 4) (h : Fin 16) (t s : Fin 2048) : val_main_v19 (F := Ideal) x0 x1 x3 (ix4 b h t s) = comp x0 x1 x3 b h t s := by
  rw [val_main_v19_apply, val_main_call2_v1_apply, before_at t s _ rfl rfl, lsig_neg_at, score_at, val_main_call2_v2_apply, val_main_call2_v0_apply, val_main_cst_apply, zero_bits]
  unfold comp
  by_cases hs : s.val < t.val
  · rw [if_pos hs, if_pos hs]; rfl
  · rw [if_neg hs, if_neg hs]; rfl

/-- The weight of a key for a query. -/
def weight (b : Fin 4) (h : Fin 16) (t s : Fin 2048) : EReal :=
  if s.val < t.val then
    Ideal.exp (lsig (score x0 x1 x3 b h t s)
      + ((∑ k : Fin 2048, if hk : s.val + k.val < 2048 then comp x0 x1 x3 b h t ⟨s.val + k.val, hk⟩ else 0) - comp x0 x1 x3 b h t s))
  else 0

theorem weight_at (b : Fin 4) (h : Fin 16) (t s : Fin 2048) : val_main_v24 (F := Ideal) x0 x1 x3 (ix4 b h t s) = weight x0 x1 x3 b h t s := by
  have h20 : val_main_v20 (F := Ideal) x0 x1 x3 (ix4 b h t s)
      = ∑ k : Fin 2048, if hk : s.val + k.val < 2048 then comp x0 x1 x3 b h t ⟨s.val + k.val, hk⟩ else 0 := by
    unfold val_main_v20
    refine (window_sum _ _ (fun j => ?_) _ _ b h t s).trans ?_
    · exact zero_bits
    · simp only [comp_at]
  rw [val_main_v24_apply, val_main_call4_v1_apply, before_at t s _ rfl rfl, val_main_call4_v2_apply, val_main_call4_v0_apply, val_main_cst_0_apply, zero_bits,
    val_main_v23_apply, val_main_v22_apply, lsig_at, score_at, val_main_v21_apply, h20, comp_at]
  unfold weight
  by_cases hs : s.val < t.val
  · rw [if_pos hs, if_pos hs]; rfl
  · rw [if_neg hs, if_neg hs]; rfl

/-- The reference's result at a row of prompt `b` and a lane of head `h`. -/
theorem result_at (b : Fin 4) (h : Fin 16) (t : Fin 2048) (d : Fin 64) (R : Fin 8192) (C : Fin 1024) (hR : R.val = 2048 * b.val + t.val) (hC : C.val = 64 * h.val + d.val) :
    val_main_v27 (F := Ideal) x0 x1 x2 x3 (ix2 R C)
      = ∑ s : Fin 2048, weight x0 x1 x3 b h t s * x2 (ix2 (rowOf b s) (⟨2048 + C.val, by omega⟩ : Fin 6400)) := by
  rw [val_main_v27_apply, val_main_v26_apply, val_main_v25_apply]
  refine Finset.sum_congr rfl fun s _ => ?_
  rw [mul_comm]
  refine congrArg₂ (· * ·) ?_ ?_
  · refine Eq.trans (congrArg _ (funext fun a => Fin.ext ?_)) (weight_at x0 x1 x3 b h t s)
    match a with
    | ⟨0, _⟩ => show (R.val * 1024 + C.val) / 2097152 = b.val; omega
    | ⟨1, _⟩ => show (R.val * 1024 + C.val) / 64 % 16 = h.val; omega
    | ⟨2, _⟩ => show (R.val * 1024 + C.val) / 1024 % 2048 = t.val; omega
    | ⟨3, _⟩ => rfl
  · rw [val_main_v5_apply, val_main_v4_apply]
    refine congrArg x2 (funext fun a => Fin.ext ?_)
    match a with
    | ⟨0, _⟩ => show ((((R.val * 1024 + C.val) / 2097152 * 2048 + s.val) * 16 + (R.val * 1024 + C.val) / 64 % 16) * 64 + (R.val * 1024 + C.val) % 64) / 1024 = 2048 * b.val + s.val; omega
    | ⟨1, _⟩ => show 2048 + ((((R.val * 1024 + C.val) / 2097152 * 2048 + s.val) * 16 + (R.val * 1024 + C.val) / 64 % 16) * 64 + (R.val * 1024 + C.val) % 64) % 1024 = 2048 + C.val; omega

end Cert.ReferenceIdeal.Value

end
-- ==== Proof.AttnMath.lean ====
/-
  The attention's block recursion summed up. Where every score is a number, the carries are sums of log complements, the
  weights are those of the reference, and the blocks' gains together are the weighted sum over all the keys.
-/
module

public import proofs.«01_k».proof.Proof.AttnStep
public import proofs.«01_k».proof.Proof.AttnRef

@[expose] public section

set_option maxRecDepth 16384

noncomputable section

open Idealize.ShloMosaic Idealize.ShloMosaic.TcCoe Idealize.SL.Sem
open Cert.Layer

namespace Cert.KernelIdeal.Value
open Cert.KernelIdeal Cert.KernelIdeal.Gen
open Cert.ReferenceIdeal.Value (lsig score comp weight)

/-- The soft maximum of a number and zero. -/
def sp (x : ℝ) : ℝ := max x 0 + Real.log (1 + Real.exp (-(max x (-x))))

theorem coe_max' (a b : ℝ) : ((max a b : ℝ) : EReal) = max (a : EReal) (b : EReal) := EReal.coe_strictMono.monotone.map_max

theorem log_one_add (y : ℝ) (h : 0 < 1 + y) : Ideal.log (1 + (y : EReal)) = (Real.log (1 + y) : EReal) := by
  rw [← EReal.coe_one, ← EReal.coe_add, Ideal.log_coe, if_neg (not_le.2 h)]

theorem soft_coe (x : ℝ) : soft (x : EReal) = (sp x : EReal) := by
  unfold soft sp
  show max (x : EReal) 0 + Ideal.log (1 + Ideal.exp (0 - max (x : EReal) (-(x : EReal)))) = _
  rw [zero_sub, ← EReal.coe_neg, ← coe_max', ← EReal.coe_neg, Ideal.exp_coe, log_one_add _ (by positivity), EReal.coe_add, coe_max', EReal.coe_zero]

theorem lsig_coe (x : ℝ) : lsig (x : EReal) = ((x - sp x : ℝ) : EReal) := by
  unfold lsig
  show -(max (-(x : EReal)) 0 + Ideal.log (1 + Ideal.exp (-(max (-(x : EReal) - 0) (-(-(x : EReal) - 0)))))) = _
  rw [sub_zero, neg_neg, ← EReal.coe_neg, ← coe_max', ← EReal.coe_neg, Ideal.exp_coe, log_one_add _ (by positivity), ← EReal.coe_zero, ← coe_max', ← EReal.coe_add, ← EReal.coe_neg]
  congr 1
  unfold sp
  rw [max_comm (-x) x]
  rcases le_total x 0 with h | h
  · rw [max_eq_left (by linarith : (0 : ℝ) ≤ -x), max_eq_right h]; ring
  · rw [max_eq_right (by linarith : -x ≤ (0 : ℝ)), max_eq_left h]; ring

theorem lsig_neg_coe (x : ℝ) : lsig (-(x : EReal)) = ((-(sp x) : ℝ) : EReal) := by
  rw [← EReal.coe_neg, lsig_coe]
  congr 1
  unfold sp
  rw [neg_neg, max_comm (-x) x]
  rcases le_total x 0 with h | h
  · rw [max_eq_left (by linarith : (0 : ℝ) ≤ -x), max_eq_right h]; ring
  · rw [max_eq_right (by linarith : -x ≤ (0 : ℝ)), max_eq_left h]; ring

theorem coe_sum' {ι : Type} (S : Finset ι) (f : ι → ℝ) : ((∑ x ∈ S, f x : ℝ) : EReal) = ∑ x ∈ S, (f x : EReal) := by
  classical
  induction S using Finset.induction_on with
  | empty => simp
  | insert a S ha ih => rw [Finset.sum_insert ha, Finset.sum_insert ha, EReal.coe_add, ih]

/-- A block of 128 keys as an interval. -/
theorem block_sum {M : Type} [AddCommMonoid M] (f : ℕ → M) (j : ℕ) : ∑ s : Fin 128, f (128 * j + s.val) = ∑ t ∈ Finset.Ico (128 * j) (128 * j + 128), f t := by
  rw [Finset.sum_Ico_eq_sum_range, Nat.add_sub_cancel_left, Finset.sum_range]

theorem block_tail {M : Type} [AddCommMonoid M] (f : ℕ → M) (j : ℕ) (s : Fin 128) :
    (∑ x : Fin 128, if s.val < x.val then f (128 * j + x.val) else 0) = ∑ t ∈ Finset.Ico (128 * j + s.val + 1) (128 * j + 128), f t := by
  refine Eq.trans (Finset.sum_congr rfl fun x _ => ?_) ((block_sum (fun t => if 128 * j + s.val < t then f t else 0) j).trans ?_)
  · refine if_congr ?_ rfl rfl
    omega
  · rw [← Finset.sum_filter]
    congr 1
    ext t
    simp only [Finset.mem_filter, Finset.mem_Ico]
    omega

/-- The log complement of key `t` for the query with `T` keys before it. -/
def G (T : ℕ) (ζ : ℕ → ℝ) (t : ℕ) : ℝ := if t < T then -(sp (ζ t)) else 0

/-- The weight of key `t` for that query, the keys from `E` on not read. -/
def W (T E : ℕ) (ζ : ℕ → ℝ) (t : ℕ) : EReal :=
  if t < T then ((Real.exp (ζ t - sp (ζ t) + ∑ t' ∈ Finset.Ico (t + 1) E, G T ζ t') : ℝ) : EReal) else 0

theorem keep_coe (i j r s : ℕ) (ζ : ℕ → ℝ) : keep (seen i j r s) ((ζ (128 * j + s) : ℝ) : EReal) = ((G (512 * i + r) ζ (128 * j + s) : ℝ) : EReal) := by
  unfold keep seen G
  by_cases h : 128 * j + s < 512 * i + r
  · rw [if_pos h, if_pos h, soft_coe, zero_sub, ← EReal.coe_neg]; rfl
  · rw [if_neg h, if_neg h]; rfl

section head

variable (i : ℕ) (hi : i < 4) (q : Vec Ideal S512x256 .bf16) (b : Vec Ideal S1x128 .f32) (K : ℕ → Vec Ideal S128x256 .f32) (sf : Vec Ideal S256x128 .bf16)
  (r : Fin 512) (ζ : ℕ → ℝ) (hz : ∀ j < 16, ∀ s : Fin 128, zed q b (K j) r s = ((ζ (128 * j + s.val) : ℝ) : EReal))
  (hsf : ∀ (x : Fin 256) (s : Fin 128), sf (ix2 x s) = if s.val < x.val % 128 then (1 : EReal) else 0)

include hi hz in
theorem kC_coe (n : ℕ) (hn : n ≤ 4 * i + 4) :
    kC i q b K n r = ((∑ t ∈ Finset.Ico (128 * (4 * i + 4 - n)) (128 * (4 * i + 4)), G (512 * i + r.val) ζ t : ℝ) : EReal) := by
  induction n with
  | zero => simp [kC]
  | succ n ih =>
    show kC i q b K n r + ∑ s : Fin 128, keep (seen i (4 * i + 3 - n) r.val s.val) (zed q b (K (4 * i + 3 - n)) r s) = _
    rw [ih (by omega)]
    have e : (∑ s : Fin 128, keep (seen i (4 * i + 3 - n) r.val s.val) (zed q b (K (4 * i + 3 - n)) r s))
        = ((∑ t ∈ Finset.Ico (128 * (4 * i + 3 - n)) (128 * (4 * i + 3 - n) + 128), G (512 * i + r.val) ζ t : ℝ) : EReal) := by
      rw [← block_sum, coe_sum']
      exact Finset.sum_congr rfl fun s _ => by rw [hz _ (by omega), keep_coe]
    rw [e, ← EReal.coe_add, add_comm]
    rw [show 4 * i + 4 - (n + 1) = 4 * i + 3 - n by omega, show 128 * (4 * i + 4 - n) = 128 * (4 * i + 3 - n) + 128 by omega]
    rw [Finset.sum_Ico_consecutive _ (by omega) (by omega)]

include hsf in
theorem after_coe (g : ℕ → ℝ) (j : ℕ) (s : Fin 128) :
    after (fun x => ((g (128 * j + x.val) : ℝ) : EReal)) sf s = ((∑ t ∈ Finset.Ico (128 * j + s.val + 1) (128 * j + 128), g t : ℝ) : EReal) := by
  unfold after
  have z : (∑ x : Fin 128, (((g (128 * j + x.val) : ℝ) : EReal) - ((g (128 * j + x.val) : ℝ) : EReal)) * sf (ix2 (⟨128 + x.val, by omega⟩ : Fin 256) s)) = 0 :=
    Finset.sum_eq_zero fun x _ => by rw [← EReal.coe_sub, sub_self, EReal.coe_zero, zero_mul]
  rw [z, add_zero, ← block_tail, coe_sum']
  refine Finset.sum_congr rfl fun x _ => ?_
  rw [hsf]
  show _ * (if s.val < x.val % 128 then (1 : EReal) else 0) = _
  rw [Nat.mod_eq_of_lt x.isLt]
  by_cases h : s.val < x.val
  · rw [if_pos h, if_pos h, mul_one]
  · rw [if_neg h, if_neg h, mul_zero, EReal.coe_zero]

include hi hz hsf in
theorem kW_coe (n : ℕ) (hn : n < 4 * i + 4) (s : Fin 128) :
    kW i q b K sf n r s = W (512 * i + r.val) (128 * (4 * i + 4)) ζ (128 * (4 * i + 3 - n) + s.val) := by
  unfold kW
  have e : (fun x : Fin 128 => keep (seen i (4 * i + 3 - n) r.val x.val) (zed q b (K (4 * i + 3 - n)) r x))
      = fun x : Fin 128 => ((G (512 * i + r.val) ζ (128 * (4 * i + 3 - n) + x.val) : ℝ) : EReal) := by
    funext x; rw [hz _ (by omega), keep_coe]
  rw [e, after_coe sf hsf (G (512 * i + r.val) ζ), kC_coe i hi q b K r ζ hz n (by omega), hz _ (by omega)]
  unfold weigh seen W
  by_cases h : 128 * (4 * i + 3 - n) + s.val < 512 * i + r.val
  · rw [if_pos h, if_pos h, soft_coe, ← EReal.coe_sub, ← EReal.coe_add, ← EReal.coe_add, Ideal.exp_coe]
    rw [add_assoc, show 128 * (4 * i + 4 - n) = 128 * (4 * i + 3 - n) + 128 by omega, Finset.sum_Ico_consecutive _ (by omega) (by omega)]
    rfl
  · rw [if_neg h, if_neg h]; rfl

end head

theorem lane_low : ∀ l : Fin 256, l.val < 128 → IntOp.cmpi CmpIPredicate.slt (BitVec.ofNat 32 l.val) 64#32 = if l.val < 64 then 1#1 else 0#1 := by decide +kernel
theorem lane_high : ∀ l : Fin 256, ¬ l.val < 128 → IntOp.cmpi CmpIPredicate.slt (BitVec.ofNat 32 (l.val - 128)) 64#32 = if l.val < 192 then 1#1 else 0#1 := by decide +kernel

/-- The weights a lane meets are those of its own head. -/
theorem gain_lane (w0 w1 w2 w3 : Fin 128 → EReal) (v : Vec Ideal S128x256 .bf16) (l : Fin 256) :
    gain w0 w1 w2 w3 v l = ∑ s, (if l.val < 64 then w0 s else if l.val < 128 then w1 s else if l.val < 192 then w2 s else w3 s) * v (ix2 s l) := by
  unfold gain
  by_cases h : l.val < 128
  · rw [dif_pos h, lane_low l h]
    by_cases h' : l.val < 64
    · simp only [if_pos h']; rfl
    · simp only [if_neg h', if_pos h]; rfl
  · rw [dif_neg h, lane_high l h]
    have el : (⟨128 + (l.val - 128), by omega⟩ : Fin 256) = l := Fin.ext (by show 128 + (l.val - 128) = l.val; omega)
    rw [el]
    have h64 : ¬ l.val < 64 := by omega
    by_cases h' : l.val < 192
    · simp only [if_neg h64, if_neg h, if_pos h']; rfl
    · simp only [if_neg h64, if_neg h, if_neg h']; rfl

section lanes

variable (i : ℕ) (hi : i < 4) (q0 q1 q2 q3 : Vec Ideal S512x256 .bf16) (b0 b1 b2 b3 : Vec Ideal S1x128 .f32) (K : ℕ → Vec Ideal S128x256 .f32)
  (V : ℕ → Vec Ideal S128x256 .bf16) (sf : Vec Ideal S256x128 .bf16) (r : Fin 512) (l : Fin 256) (ζ : ℕ → ℝ) (vv : ℕ → EReal)
  (hz0 : l.val < 64 → ∀ j < 16, ∀ s : Fin 128, zed q0 b0 (K j) r s = ((ζ (128 * j + s.val) : ℝ) : EReal))
  (hz1 : ¬ l.val < 64 → l.val < 128 → ∀ j < 16, ∀ s : Fin 128, zed q1 b1 (K j) r s = ((ζ (128 * j + s.val) : ℝ) : EReal))
  (hz2 : ¬ l.val < 128 → l.val < 192 → ∀ j < 16, ∀ s : Fin 128, zed q2 b2 (K j) r s = ((ζ (128 * j + s.val) : ℝ) : EReal))
  (hz3 : ¬ l.val < 192 → ∀ j < 16, ∀ s : Fin 128, zed q3 b3 (K j) r s = ((ζ (128 * j + s.val) : ℝ) : EReal))
  (hsf : ∀ (x : Fin 256) (s : Fin 128), sf (ix2 x s) = if s.val < x.val % 128 then (1 : EReal) else 0)
  (hv : ∀ j < 16, ∀ s : Fin 128, V j (ix2 s l) = vv (128 * j + s.val))

include hi hz0 hz1 hz2 hz3 hsf hv

theorem kA_sum (n : ℕ) (hn : n ≤ 4 * i + 4) :
    kA i q0 q1 q2 q3 b0 b1 b2 b3 K V sf n r l
      = ∑ t ∈ Finset.Ico (128 * (4 * i + 4 - n)) (128 * (4 * i + 4)), W (512 * i + r.val) (128 * (4 * i + 4)) ζ t * vv t := by
  induction n with
  | zero => simp [kA]
  | succ n ih =>
    show kA i q0 q1 q2 q3 b0 b1 b2 b3 K V sf n r l + gain _ _ _ _ _ l = _
    rw [ih (by omega), gain_lane]
    have e : (∑ s : Fin 128, (if l.val < 64 then kW i q0 b0 K sf n r s else if l.val < 128 then kW i q1 b1 K sf n r s else if l.val < 192 then kW i q2 b2 K sf n r s else kW i q3 b3 K sf n r s)
          * V (4 * i + 3 - n) (ix2 s l))
        = ∑ t ∈ Finset.Ico (128 * (4 * i + 3 - n)) (128 * (4 * i + 3 - n) + 128), W (512 * i + r.val) (128 * (4 * i + 4)) ζ t * vv t := by
      rw [← block_sum]
      refine Finset.sum_congr rfl fun s _ => congrArg₂ (· * ·) ?_ (hv _ (by omega) s)
      by_cases h0 : l.val < 64
      · rw [if_pos h0]; exact kW_coe i hi q0 b0 K sf r ζ (hz0 h0) hsf n (by omega) s
      · rw [if_neg h0]
        by_cases h1 : l.val < 128
        · rw [if_pos h1]; exact kW_coe i hi q1 b1 K sf r ζ (hz1 h0 h1) hsf n (by omega) s
        · rw [if_neg h1]
          by_cases h2 : l.val < 192
          · rw [if_pos h2]; exact kW_coe i hi q2 b2 K sf r ζ (hz2 h1 h2) hsf n (by omega) s
          · rw [if_neg h2]; exact kW_coe i hi q3 b3 K sf r ζ (hz3 h2) hsf n (by omega) s
    rw [e, add_comm]
    rw [show 4 * i + 4 - (n + 1) = 4 * i + 3 - n by omega, show 128 * (4 * i + 4 - n) = 128 * (4 * i + 3 - n) + 128 by omega]
    rw [Finset.sum_Ico_consecutive _ (by omega) (by omega)]

/-- All the blocks together: the weighted sum over every key of the prompt. -/
theorem kA_all : kA i q0 q1 q2 q3 b0 b1 b2 b3 K V sf (4 + 4 * i) r l
    = ∑ s : Fin 2048, W (512 * i + r.val) (128 * (4 * i + 4)) ζ s.val * vv s.val := by
  rw [kA_sum i hi q0 q1 q2 q3 b0 b1 b2 b3 K V sf r l ζ vv hz0 hz1 hz2 hz3 hsf hv (4 + 4 * i) (by omega), ← Finset.sum_range (fun t => W (512 * i + r.val) (128 * (4 * i + 4)) ζ t * vv t)]
  rw [show 4 * i + 4 - (4 + 4 * i) = 0 by omega, Finset.range_eq_Ico, ← Finset.sum_Ico_consecutive _ (by omega : 128 * 0 ≤ 128 * (4 * i + 4)) (by omega : 128 * (4 * i + 4) ≤ 2048)]
  refine (add_zero _).symm.trans (congrArg₂ (· + ·) rfl (Finset.sum_eq_zero fun t ht => ?_).symm)
  have h := (Finset.mem_Ico.1 ht).1
  unfold W
  rw [if_neg (by omega), zero_mul]

end lanes

/-- The reference's weight is the same. -/
theorem weight_coe (x0 x1 : Vec Ideal S9216x1024 .f32) (x3 : Vec Ideal S16 .f32) (b : Fin 4) (h : Fin 16) (t : Fin 2048) (E : ℕ) (htE : t.val ≤ E) (hE : E ≤ 2048) (ζ : ℕ → ℝ)
    (hζ : ∀ s : Fin 2048, score x0 x1 x3 b h t s = ((ζ s.val : ℝ) : EReal)) (s : Fin 2048) :
    weight x0 x1 x3 b h t s = W t.val E ζ s.val := by
  have hc : ∀ s : Fin 2048, comp x0 x1 x3 b h t s = ((G t.val ζ s.val : ℝ) : EReal) := by
    intro s
    unfold comp G
    by_cases hs : s.val < t.val
    · rw [if_pos hs, if_pos hs, hζ, lsig_neg_coe]
    · rw [if_neg hs, if_neg hs, EReal.coe_zero]
  have hsum : (∑ k : Fin 2048, if hk : s.val + k.val < 2048 then comp x0 x1 x3 b h t ⟨s.val + k.val, hk⟩ else 0)
      = ((∑ k ∈ Finset.Ico s.val 2048, G t.val ζ k : ℝ) : EReal) := by
    have e1 : (∑ k : Fin 2048, if hk : s.val + k.val < 2048 then comp x0 x1 x3 b h t ⟨s.val + k.val, hk⟩ else 0)
        = ∑ k : Fin 2048, ((if s.val + k.val < 2048 then G t.val ζ (s.val + k.val) else 0 : ℝ) : EReal) := by
      refine Finset.sum_congr rfl fun k _ => ?_
      by_cases hk : s.val + k.val < 2048
      · rw [dif_pos hk, if_pos hk, hc]
      · rw [dif_neg hk, if_neg hk, EReal.coe_zero]
    rw [e1, ← coe_sum', ← Finset.sum_range (fun k => if s.val + k < 2048 then G t.val ζ (s.val + k) else 0), Finset.sum_Ico_eq_sum_range, ← Finset.sum_filter]
    congr 2
    ext k
    simp only [Finset.mem_filter, Finset.mem_range]
    omega
  unfold weight W
  by_cases hs : s.val < t.val
  · rw [if_pos hs, if_pos hs, hζ, lsig_coe, hsum, hc, ← EReal.coe_sub, ← EReal.coe_add, Ideal.exp_coe]
    congr 3
    rw [Finset.sum_eq_sum_Ico_succ_bot s.isLt, add_sub_cancel_left, ← Finset.sum_Ico_consecutive _ (by omega : s.val + 1 ≤ E) hE]
    refine (congrArg₂ (· + ·) rfl (Finset.sum_eq_zero fun k hk => ?_)).trans (add_zero _)
    have h := (Finset.mem_Ico.1 hk).1
    unfold G
    rw [if_neg (by omega)]
  · rw [if_neg hs, if_neg hs]

end Cert.KernelIdeal.Value

end
-- ==== Proof.AttnFinite.lean ====
/-
  The precondition in numbers: the prompts' queries and keys and the bias are finite, so every score is a real number.
-/
module

public import proofs.«01_k».proof.Pre_finite_scores
public import proofs.«01_k».proof.Proof.AttnMath
public import Idealize.ShloMosaic.Lib.IdealHost

@[expose] public section

set_option maxRecDepth 16384

noncomputable section

open Idealize.ShloMosaic Idealize.ShloMosaic.TcCoe Idealize.SL.Sem
open Cert.Layer

namespace Cert.KernelIdeal.Value
open Cert.KernelIdeal Cert.KernelIdeal.Gen
open Cert.ReferenceIdeal.Value (score rowOf laneOf)

variable (x0 x1 : Vec Ideal S9216x1024 .f32) (x2 : Vec Ideal S9216x6400 .f32) (x3 : Vec Ideal S16 .f32)

theorem real_of_lt {a : EReal} (h : max a (-a) < ⊤) : ∃ x : ℝ, a = (x : EReal) := by
  induction a using EReal.rec with
  | bot => simp at h
  | coe x => exact ⟨x, rfl⟩
  | top => simp at h

theorem top_bits : Ideal.ofBits .f32 0x7F800000#32 = (⊤ : EReal) := by
  simp [Ideal.ofBits, Ideal.ieee]

theorem pre_at [Cert.Pre_finite_scores.Facts] (R : Fin 8192) (h : Fin 16) (d : Fin 64) :
    Cert.Pre_finite_scores.fn (F := Ideal) x0 x1 x2 x3 (ix3 R h d)
      = IntOp.andi (IntOp.andi (Ideal.cmp .olt (max (x0 (ix2 (⟨R.val, by omega⟩ : Fin 9216) (laneOf h d))) (-(x0 (ix2 (⟨R.val, by omega⟩ : Fin 9216) (laneOf h d))))) ⊤)
          (Ideal.cmp .olt (max (x1 (ix2 (⟨R.val, by omega⟩ : Fin 9216) (laneOf h d))) (-(x1 (ix2 (⟨R.val, by omega⟩ : Fin 9216) (laneOf h d))))) ⊤))
          (Ideal.cmp .olt (max (x3 (ix1 h)) (-(x3 (ix1 h)))) ⊤) := by
  unfold Cert.Pre_finite_scores.fn
  pointwise
  rw [top_bits, show (⟨h.val * 64 + d.val, by omega⟩ : Fin 1024) = laneOf h d from Fin.ext (by show h.val * 64 + d.val = 64 * h.val + d.val; omega)]
  rfl

theorem and_one {a b : BitVec 1} (h : IntOp.andi a b = 1#1) : a = 1#1 ∧ b = 1#1 := by
  revert a b; decide

theorem lt_of_cmp {a b : EReal} (h : Ideal.cmp .olt a b = 1#1) : a < b := by
  by_contra hn
  unfold Ideal.cmp at h
  simp [hn] at h

/-- Every score is a number. -/
theorem score_real [Cert.Pre_finite_scores.Facts] (hp : Cert.Pre_finite_scores.fn (F := Ideal) x0 x1 x2 x3 = fun _ => 1#1)
    (b : Fin 4) (h : Fin 16) (t s : Fin 2048) : ∃ z : ℝ, score x0 x1 x3 b h t s = (z : EReal) := by
  have key (R : Fin 8192) (d : Fin 64) := (pre_at x0 x1 x2 x3 R h d).symm.trans (congrFun hp (ix3 R h d))
  have hq (d : Fin 64) : ∃ x : ℝ, x0 (ix2 (rowOf b t) (laneOf h d)) = (x : EReal) :=
    real_of_lt (lt_of_cmp (and_one (and_one (key (⟨2048 * b.val + t.val, by omega⟩ : Fin 8192) d)).1).1)
  have hk (d : Fin 64) : ∃ x : ℝ, x1 (ix2 (rowOf b s) (laneOf h d)) = (x : EReal) :=
    real_of_lt (lt_of_cmp (and_one (and_one (key (⟨2048 * b.val + s.val, by omega⟩ : Fin 8192) d)).1).2)
  obtain ⟨y, hy⟩ : ∃ x : ℝ, x3 (ix1 h) = (x : EReal) := real_of_lt (lt_of_cmp (and_one (key (⟨2048 * b.val + t.val, by omega⟩ : Fin 8192) 0)).2)
  choose f hf using hq
  choose g hg using hk
  refine ⟨∑ d : Fin 64, f d * g d + y, ?_⟩
  unfold score
  rw [EReal.coe_add, coe_sum', hy]
  refine congrArg₂ (· + ·) (Finset.sum_congr rfl fun d _ => ?_) rfl
  rw [hf, hg, EReal.coe_mul]

end Cert.KernelIdeal.Value

end
-- ==== Proof.AttnValue.lean ====
/-
  The attention of the prompt, kernel against reference: from finite queries, keys and bias the call's result array is the
  reference's result.
-/
module

public import proofs.«01_k».proof.Defs
public import proofs.«01_k».proof.Proof.AttnOut
public import proofs.«01_k».proof.Proof.AttnWin
public import proofs.«01_k».proof.Proof.AttnFinite
public import proofs.«01_k».proof.Proof.Gen.ReferenceIdeal.Run

@[expose] public section

set_option maxRecDepth 16384

noncomputable section

open Idealize.ShloMosaic Idealize.ShloMosaic.TcCoe Idealize.SL.Sem
open Cert.Layer

namespace Cert.KernelIdeal.Value
open Cert.KernelIdeal Cert.KernelIdeal.Gen
open Cert.ReferenceIdeal.Value (score rowOf laneOf weight result_at)

variable (m : (ℓ : Loc nD τ sig) → Buf (Elt Ideal) ℓ) (c : Dev nD)

/-- The arguments as arrays of numbers. -/
abbrev argQ : Vec Ideal S9216x1024 .f32 := m ((c : Thread nD τ).loc main_arg0)
abbrev argK : Vec Ideal S9216x1024 .f32 := m ((c : Thread nD τ).loc main_arg1)
abbrev argP : Vec Ideal S9216x6400 .f32 := m ((c : Thread nD τ).loc main_arg2)
abbrev argB : Vec Ideal S16 .f32 := m ((c : Thread nD τ).loc main_arg3)

/-- A head's score as a launch computes it is the reference's. -/
theorem zed_score (t : Fin cfg0.N) (r : Fin 512) (hd : Fin 4) (b : Fin 4) (h : Fin 16) (T : Fin 2048) (hb : b.val = t.val / 16) (hh : h.val = 4 * (t.val / 4 % 4) + hd.val)
    (hT : T.val = 512 * (t.val % 4) + r.val) (q' : Vec Ideal S512x256 .bf16) (b' : Vec Ideal S1x128 .f32)
    (hq' : ∀ l : Fin 256, q' (ix2 r l) = if l.val / 64 = hd.val then (show EReal from (iblk m c 0 t : Vec Ideal S512x256 .f32) (ix2 r l)) else 0)
    (hb' : ∀ s : Fin 128, b' (ix2 0 s) = (iblk m c 3 t : Vec Ideal S1x4x128 .f32) (ix3 0 hd s)) (j : ℕ) (hj : j < 16) (s : Fin 128) :
    zed q' b' (rows (X0_1 m c t : Vec Ideal S2048x256 .f32) j) r s = score (argQ m c) (argK m c) (argB m c) b h T (⟨128 * j + s.val, by omega⟩ : Fin 2048) := by
  rw [zed_head hd q' b' _ (fun r l => (iblk m c 0 t : Vec Ideal S512x256 .f32) (ix2 r l)) r s hq', hb', iblk3 m c t hd s h hh]
  unfold score
  refine congrArg₂ (· + ·) (Finset.sum_congr rfl fun d _ => congrArg₂ (· * ·) ?_ ?_) rfl
  · exact iblk0 m c t r _ (rowOf b T) (laneOf h d) (by show 2048 * b.val + T.val = _; omega) (by show 64 * h.val + d.val = 256 * (t.val / 4 % 4) + (64 * hd.val + d.val); omega)
  · rw [rows_at _ hj]
    exact X1_at m c t _ _ (rowOf b (⟨128 * j + s.val, by omega⟩ : Fin 2048)) (laneOf h d) (by show 2048 * b.val + (128 * j + s.val) = 2048 * (t.val / 16) + (128 * j + s.val); omega)
      (by show 64 * h.val + d.val = 256 * (t.val / 4 % 4) + (64 * hd.val + d.val); omega)

/-- The scores of a query as a sequence of numbers. -/
def scores (b : Fin 4) (h : Fin 16) (T : Fin 2048) (n : ℕ) : ℝ :=
  if hn : n < 2048 then (score (argQ m c) (argK m c) (argB m c) b h T ⟨n, hn⟩).toReal else 0

theorem scores_at [Cert.Pre_finite_scores.Facts] (hp : Cert.Pre_finite_scores.fn (F := Ideal) (argQ m c) (argK m c) (argP m c) (argB m c) = fun _ => 1#1)
    (b : Fin 4) (h : Fin 16) (T s : Fin 2048) : score (argQ m c) (argK m c) (argB m c) b h T s = ((scores m c b h T s.val : ℝ) : EReal) := by
  obtain ⟨z, hz⟩ := score_real (argQ m c) (argK m c) (argP m c) (argB m c) hp b h T s
  unfold scores
  rw [dif_pos s.isLt]
  show score (argQ m c) (argK m c) (argB m c) b h T s = (((score (argQ m c) (argK m c) (argB m c) b h T s).toReal : ℝ) : EReal)
  rw [hz, EReal.toReal_coe]

/-- The values of a lane as a sequence. -/
def vals (b : Fin 4) (L : Fin 1024) (n : ℕ) : EReal :=
  if hn : n < 2048 then argP m c (ix2 (rowOf b ⟨n, hn⟩) (⟨2048 + L.val, by omega⟩ : Fin 6400)) else 0

/-- One entry of the result array is the reference's weighted sum. -/
theorem entry_eq [Cert.Pre_finite_scores.Facts] (hp : Cert.Pre_finite_scores.fn (F := Ideal) (argQ m c) (argK m c) (argP m c) (argB m c) = fun _ => 1#1)
    (R : Fin 8192) (L : Fin 1024) :
    ((dats m 0 c).arrAt 5 cfg0.N : Vec Ideal S8192x1024 .f32) (ix2 R L)
      = Cert.ReferenceIdeal.Read.val_main_v27 (F := Ideal) (argQ m c) (argK m c) (argP m c) (argB m c) (ix2 R L) := by
  have hN : cfg0.N = 64 := N_0
  have hR9 := R.isLt
  have hL9 := L.isLt
  obtain ⟨t, ht⟩ : ∃ t : Fin cfg0.N, t.val = 16 * (R.val / 2048) + 4 * (L.val / 256) + R.val % 2048 / 512 := ⟨⟨16 * (R.val / 2048) + 4 * (L.val / 256) + R.val % 2048 / 512, by rw [hN]; omega⟩, rfl⟩
  obtain ⟨r, hr⟩ : ∃ r : Fin 512, r.val = R.val % 512 := ⟨⟨R.val % 512, Nat.mod_lt _ (by decide)⟩, rfl⟩
  obtain ⟨l, hl⟩ : ∃ l : Fin 256, l.val = L.val % 256 := ⟨⟨L.val % 256, Nat.mod_lt _ (by decide)⟩, rfl⟩
  obtain ⟨b, hb⟩ : ∃ b : Fin 4, b.val = R.val / 2048 := ⟨⟨R.val / 2048, by omega⟩, rfl⟩
  obtain ⟨T, hT⟩ : ∃ T : Fin 2048, T.val = R.val % 2048 := ⟨⟨R.val % 2048, Nat.mod_lt _ (by decide)⟩, rfl⟩
  obtain ⟨h, hh⟩ : ∃ h : Fin 16, h.val = L.val / 64 := ⟨⟨L.val / 64, by omega⟩, rfl⟩
  obtain ⟨d, hd⟩ : ∃ d : Fin 64, d.val = L.val % 64 := ⟨⟨L.val % 64, Nat.mod_lt _ (by decide)⟩, rfl⟩
  have hi2 : (grid0.coords t 2).val = t.val % 4 := (idx_in t).2.2.2.2.2.2
  have hi : (grid0.coords t 2).val < 4 := by omega
  have hTT : T.val = 512 * (grid0.coords t 2).val + r.val := by omega
  have hbt : b.val = t.val / 16 := by omega
  have hTt : T.val = 512 * (t.val % 4) + r.val := by omega
  rw [result_at (argQ m c) (argK m c) (argP m c) (argB m c) b h T d R L (by omega) (by omega)]
  refine (result_block m c t r l R L (by omega) (by omega)).trans ?_
  refine (tile_out ..).trans ?_
  refine (kA_all (grid0.coords t 2).val hi _ _ _ _ _ _ _ _ _ _ _ r l (scores m c b h T) (vals m c b L) ?_ ?_ ?_ ?_ ?_ ?_).trans ?_
  · intro g0 j hj s
    refine (zed_score m c t r 0 b h T hbt (by show h.val = 4 * (t.val / 4 % 4) + 0; omega) hTt _ _ (fun l => query_0 ..) (fun s => bias_0 ..) j hj s).trans ?_
    exact scores_at m c hp b h T ⟨128 * j + s.val, by omega⟩
  · intro g0 g1 j hj s
    refine (zed_score m c t r 1 b h T hbt (by show h.val = 4 * (t.val / 4 % 4) + 1; omega) hTt _ _ (fun l => query_1 ..) (fun s => bias_1 ..) j hj s).trans ?_
    exact scores_at m c hp b h T ⟨128 * j + s.val, by omega⟩
  · intro g0 g1 j hj s
    refine (zed_score m c t r 2 b h T hbt (by show h.val = 4 * (t.val / 4 % 4) + 2; omega) hTt _ _ (fun l => query_2 ..) (fun s => bias_2 ..) j hj s).trans ?_
    exact scores_at m c hp b h T ⟨128 * j + s.val, by omega⟩
  · intro g0 j hj s
    refine (zed_score m c t r 3 b h T hbt (by show h.val = 4 * (t.val / 4 % 4) + 3; omega) hTt _ _ (fun l => query_3 ..) (fun s => bias_3 ..) j hj s).trans ?_
    exact scores_at m c hp b h T ⟨128 * j + s.val, by omega⟩
  · intro x s
    rw [suffix_at]
    exact iblk4 m c t x s
  · intro j hj s
    show rows (X0_2 m c t : Vec Ideal S2048x256 .f32) j (ix2 s l) = _
    rw [rows_at _ hj]
    unfold vals
    rw [dif_pos (by omega : 128 * j + s.val < 2048)]
    exact X2_at m c t _ l _ _ (by show 2048 * b.val + (128 * j + s.val) = 2048 * (t.val / 16) + (128 * j + s.val); omega) (by show 2048 + L.val = _; omega)
  · refine Finset.sum_congr rfl fun s _ => congrArg₂ (· * ·) ?_ ?_
    · rw [← hTT]
      exact (weight_coe (argQ m c) (argK m c) (argB m c) b h T _ (by omega) (by omega) (scores m c b h T) (fun s => scores_at m c hp b h T s) s).symm
    · unfold vals
      rw [dif_pos s.isLt]

end Cert.KernelIdeal.Value

namespace Cert.Layer
open Cert.KernelIdeal

/-- The value claim of the attention of the prompt: from the same arguments, finite where the scores read them, both programs
    run and end with the same result. -/
theorem attn_algebraic [hK : Cert.KernelIdeal.Facts] [hR : Cert.ReferenceIdeal.Facts] [hP : Cert.Pre_finite_scores.Facts] :
    Cert.algebraic_KernelIdeal_ReferenceIdeal_pre_finite_scores := by
  intro m g m' g' hpre hagree
  refine ⟨fun c => (Cert.KernelIdeal.Gen.dats m 0 c).arrAt 5 cfg0.N, ?_, ?_⟩
  · exact Cert.KernelIdeal.Value.run_blocks m g
  · refine (θ_run _ _ _).mono (fun r h c => ?_) (Cert.ReferenceIdeal.Value.run (F := Ideal) m' g')
    obtain ⟨a0, a1, a2, a3⟩ := hagree c
    refine ⟨((h c).1.trans ?_), (h c).2⟩
    refine (Cert.ReferenceIdeal.Read.val_main_v27_eq _ _).trans ?_
    rw [a0, a1, a2, a3]
    funext i
    obtain ⟨R, J, rfl⟩ : ∃ (R : Fin 8192) (J : Fin 1024), i = ix2 R J := ⟨i 0, i 1, eq_ix2 i⟩
    exact (Cert.KernelIdeal.Value.entry_eq m c (hpre c) R J).symm

end Cert.Layer

end
-- ==== Proof.MixMath.lean ====
/-
  Scalar mathematics of the call that prepares the layer's mixers: a head's sum taken through a product with a 0/1
  matrix and spread back through another, the row a token is mixed with, and the mixing itself.
-/
module

public import proofs.«01_k».proof.Proof.Common

@[expose] public section

noncomputable section

open Idealize.ShloMosaic

namespace Cert.Layer

/-- The sum of the 64 numbers of the head that feature `j` lies in. -/
def headSum (f : Fin 1024 → EReal) (j : Fin 1024) : EReal := ∑ d : Fin 64, f ⟨j.val / 64 * 64 + d.val, by omega⟩

/-- A feature mixed with the one of the row before: `x + (p - x) · mu`. -/
def mixed (x p mu : EReal) : EReal := x + (p - x) * mu

/-- A number taken away from itself leaves zero, if it is finite. -/
theorem sub_self_of_real {a : EReal} (h : ∃ x : ℝ, a = (x : EReal)) : a - a = 0 := by
  obtain ⟨x, rfl⟩ := h
  rw [← EReal.coe_sub, sub_self]
  rfl

/-- A product with the 0/1 matrix of heads sums a head. -/
theorem sum_head (f : Fin 1024 → EReal) (j : Fin 1024) (l : Fin 128) (hl : l.val = j.val / 64) :
    (∑ k : Fin 1024, f k * (if k.val / 64 = l.val then (1 : EReal) else 0)) = headSum f j := by
  have e : (∑ k : Fin 1024, f k * (if k.val / 64 = l.val then (1 : EReal) else 0))
      = ∑ p : Fin 16 × Fin 64, f (finProdFinEquiv (m := 16) (n := 64) p)
          * (if (finProdFinEquiv (m := 16) (n := 64) p).val / 64 = l.val then (1 : EReal) else 0) :=
    ((finProdFinEquiv (m := 16) (n := 64)).sum_comp (fun k : Fin 1024 => f k * (if k.val / 64 = l.val then (1 : EReal) else 0))).symm
  have hj := j.isLt
  rw [e, Fintype.sum_prod_type, Finset.sum_eq_single (⟨j.val / 64, by omega⟩ : Fin 16)]
  · unfold headSum
    refine Finset.sum_congr rfl fun d _ => ?_
    have hd := d.isLt
    have hv : (finProdFinEquiv (m := 16) (n := 64) (⟨j.val / 64, by omega⟩, d)).val = d.val + 64 * (j.val / 64) := rfl
    rw [if_pos (by rw [hv, hl]; omega), mul_one]
    refine congrArg f (Fin.ext ?_)
    rw [hv]
    show d.val + 64 * (j.val / 64) = j.val / 64 * 64 + d.val
    omega
  · intro h _ hne
    refine Finset.sum_eq_zero fun d _ => ?_
    have hd := d.isLt
    have hv : (finProdFinEquiv (m := 16) (n := 64) (h, d)).val = d.val + 64 * h.val := rfl
    rw [if_neg, mul_zero]
    rw [hv, hl]
    intro he
    exact hne (Fin.ext (by show h.val = j.val / 64; omega))
  · intro h
    exact absurd (Finset.mem_univ _) h

/-- A product with the transposed 0/1 matrix picks a head's number. -/
theorem sum_pick (s : Fin 128 → EReal) (j : Fin 1024) (l : Fin 128) (hl : l.val = j.val / 64) :
    (∑ k : Fin 128, s k * (if j.val / 64 = k.val then (1 : EReal) else 0)) = s l := by
  rw [Finset.sum_eq_single l]
  · rw [if_pos hl.symm, mul_one]
  · intro k _ hne
    rw [if_neg, mul_zero]
    intro he
    exact hne (Fin.ext (by omega))
  · intro h
    exact absurd (Finset.mem_univ _) h

/-- A head's number, from the head's sum, laid over the head's features: both products split their operand in a rounded
    part and a remainder, and over the reals the remainders are zero. -/
theorem spread (E : Fin 1024 → Fin 128 → EReal) (B : Fin 128 → Fin 1024 → EReal)
    (hE : ∀ k l, E k l = if k.val / 64 = l.val then (1 : EReal) else 0) (hB : ∀ l j, B l j = if j.val / 64 = l.val then (1 : EReal) else 0)
    (f : Fin 1024 → EReal) (hf : ∀ k, ∃ x : ℝ, f k = (x : EReal)) (φ : EReal → EReal) (j : Fin 1024)
    (hφ : ∃ y : ℝ, φ (headSum f j) = (y : EReal)) :
    ((∑ l : Fin 128, φ ((∑ k : Fin 1024, f k * E k l) + ∑ k : Fin 1024, (f k - f k) * E k l) * B l j)
      + ∑ l : Fin 128, (φ ((∑ k : Fin 1024, f k * E k l) + ∑ k : Fin 1024, (f k - f k) * E k l)
          - φ ((∑ k : Fin 1024, f k * E k l) + ∑ k : Fin 1024, (f k - f k) * E k l)) * B l j) = φ (headSum f j) := by
  have hk : ∀ k, f k - f k = 0 := fun k => sub_self_of_real (hf k)
  simp only [hk, zero_mul, Finset.sum_const_zero, add_zero, hE, hB]
  have hj := j.isLt
  rw [sum_pick _ j ⟨j.val / 64, by omega⟩ rfl, sum_pick _ j ⟨j.val / 64, by omega⟩ rfl, sum_head f j ⟨j.val / 64, by omega⟩ rfl,
    sub_self_of_real hφ, add_zero]

/-- The feature of the row before row `r` of tile `t`: within the tile the row above; for a tile's first row the row that
    precedes the tile, or nothing where a prompt begins; in the sample tiles, for every eighth row, the sample's state. -/
def prevRow (t : ℕ) (r : Fin 128) (cur : Fin 128 → EReal) (bef : EReal) (st : Fin 16 → EReal) : EReal :=
  if 64 ≤ t then (if r.val % 8 = 0 then st ⟨r.val / 8, by omega⟩ else cur ⟨(r.val + 128 - 1) % 128, Nat.mod_lt _ (by decide)⟩)
  else if r.val = 0 then (if t % 16 = 0 then 0 else bef) else cur ⟨(r.val + 128 - 1) % 128, Nat.mod_lt _ (by decide)⟩

/-- A product with the 0/1 matrix of sample starts picks the sample's state; the remainders are zero. -/
theorem sum_state (st : Fin 16 → EReal) (hst : ∀ n, ∃ x : ℝ, st n = (x : EReal)) (r : Fin 128) (hr : r.val % 8 = 0) :
    ((∑ n : Fin 16, (if r.val = 8 * n.val then (1 : EReal) else 0) * st n)
      + ∑ n : Fin 16, (if r.val = 8 * n.val then (1 : EReal) else 0) * (st n - st n))
      + ∑ n : Fin 16, (if r.val = 8 * n.val then (1 : EReal) else 0) * ((st n - st n) - (st n - st n))
      = st ⟨r.val / 8, by omega⟩ := by
  have h0 : (0 : EReal) - 0 = 0 := sub_zero 0
  simp only [fun n => sub_self_of_real (hst n), h0, mul_zero, Finset.sum_const_zero, add_zero]
  rw [Finset.sum_eq_single (⟨r.val / 8, by omega⟩ : Fin 16)]
  · rw [if_pos (by show r.val = 8 * (r.val / 8); omega), one_mul]
  · intro n _ hne
    rw [if_neg, zero_mul]
    intro he
    exact hne (Fin.ext (by show n.val = r.val / 8; omega))
  · intro h
    exact absurd (Finset.mem_univ _) h

/-- The row before, as the body selects it: by the tile's bit, the row's bit and the factor of the preceding row. -/
theorem prev_sel (t : ℕ) (r : Fin 128) (cur : Fin 128 → EReal) (bef : EReal) (st : Fin 16 → EReal) (hst : ∀ n, ∃ x : ℝ, st n = (x : EReal))
    (v5 : BitVec 1) (h5 : v5 = if 64 ≤ t then 1#1 else 0#1) (v18 : EReal) (h18 : v18 = if t % 16 = 0 then (0 : EReal) else 1)
    (p : Fin 16 → EReal) (hp : ∀ n, p n = if r.val = 8 * n.val then (1 : EReal) else 0)
    (b : BitVec 1) (hb : b = if r.val % 8 = 0 then 1#1 else 0#1) :
    Scalar.select v5
      (Scalar.select b
        ((∑ n, p n * st n) + (∑ n, p n * (st n - st n)) + ∑ n, p n * ((st n - st n) - (st n - st n)))
        (Scalar.select (IntOp.cmpi .eq (BitVec.ofNat 32 r.val) 0#32) bef (cur ⟨(r.val + 128 - 1) % 128, Nat.mod_lt _ (by decide)⟩)))
      (Scalar.select (IntOp.cmpi .eq (BitVec.ofNat 32 r.val) 0#32)
        (Scalar.select (IntOp.cmpi .eq (BitVec.ofNat 32 r.val) 0#32) bef (cur ⟨(r.val + 128 - 1) % 128, Nat.mod_lt _ (by decide)⟩) * v18)
        (Scalar.select (IntOp.cmpi .eq (BitVec.ofNat 32 r.val) 0#32) bef (cur ⟨(r.val + 128 - 1) % 128, Nat.mod_lt _ (by decide)⟩)))
      = prevRow t r cur bef st := by
  have hw : IntOp.cmpi .eq (BitVec.ofNat 32 r.val) 0#32 = if r.val = 0 then 1#1 else 0#1 :=
    (by decide +kernel : ∀ r : Fin 128, IntOp.cmpi .eq (BitVec.ofNat 32 r.val) 0#32 = if r.val = 0 then 1#1 else 0#1) r
  have s1 (a c : EReal) : Scalar.select 1#1 a c = a := rfl
  have s0 (a c : EReal) : Scalar.select 0#1 a c = c := rfl
  unfold prevRow
  rw [h5, h18, hb, hw]
  simp only [hp]
  by_cases ht : 64 ≤ t
  · rw [if_pos ht, if_pos ht, s1]
    by_cases hr : r.val % 8 = 0
    · rw [if_pos hr, if_pos hr, s1, sum_state st hst r hr]
    · have h0 : r.val ≠ 0 := by omega
      rw [if_neg hr, if_neg hr, if_neg h0, s0, s0]
  · rw [if_neg ht, if_neg ht, s0]
    by_cases h0 : r.val = 0
    · rw [if_pos h0, if_pos h0, s1, s1]
      by_cases h16 : t % 16 = 0
      · rw [if_pos h16, if_pos h16, mul_zero]
      · rw [if_neg h16, if_neg h16, mul_one]
    · rw [if_neg h0, if_neg h0, s0, s0]

/-- An extended real that is a number. -/
def IsNum (a : EReal) : Prop := ∃ x : ℝ, a = (x : EReal)

theorem IsNum.zero : IsNum 0 := ⟨0, rfl⟩
theorem IsNum.add {a b : EReal} : IsNum a → IsNum b → IsNum (a + b) := by
  rintro ⟨x, rfl⟩ ⟨y, rfl⟩; exact ⟨x + y, (EReal.coe_add x y).symm⟩
theorem IsNum.sub {a b : EReal} : IsNum a → IsNum b → IsNum (a - b) := by
  rintro ⟨x, rfl⟩ ⟨y, rfl⟩; exact ⟨x - y, (EReal.coe_sub x y).symm⟩
theorem IsNum.mul {a b : EReal} : IsNum a → IsNum b → IsNum (a * b) := by
  rintro ⟨x, rfl⟩ ⟨y, rfl⟩; exact ⟨x * y, (EReal.coe_mul x y).symm⟩
theorem IsNum.mixed {x p mu : EReal} (hx : IsNum x) (hp : IsNum p) (hm : IsNum mu) : IsNum (mixed x p mu) := hx.add ((hp.sub hx).mul hm)

/-- The row before holds numbers if the tile, the row that precedes it and the states do. -/
theorem IsNum.prevRow {t : ℕ} {r : Fin 128} {cur : Fin 128 → EReal} {bef : EReal} {st : Fin 16 → EReal} (hc : ∀ r, IsNum (cur r)) (hb : IsNum bef)
    (hs : ∀ n, IsNum (st n)) : IsNum (prevRow t r cur bef st) := by
  unfold Cert.Layer.prevRow
  split
  · split
    · exact hs _
    · exact hc _
  · split
    · split
      · exact IsNum.zero
      · exact hb
    · exact hc _

/-- A head's sum of squares is a number that is not negative. -/
theorem headSum_sq (x : Fin 1024 → EReal) (hx : ∀ k, IsNum (x k)) (j : Fin 1024) :
    ∃ y : ℝ, 0 ≤ y ∧ headSum (fun k => x k * x k) j = (y : EReal) := by
  choose f hf using hx
  refine ⟨∑ d : Fin 64, f ⟨j.val / 64 * 64 + d.val, by omega⟩ * f ⟨j.val / 64 * 64 + d.val, by omega⟩, Finset.sum_nonneg fun d _ => mul_self_nonneg _, ?_⟩
  unfold headSum
  have hc : ∀ (s : Finset (Fin 64)) (g : Fin 64 → ℝ), ((∑ d ∈ s, g d : ℝ) : EReal) = ∑ d ∈ s, (g d : EReal) := by
    intro s g
    induction s using Finset.cons_induction with
    | empty => simp
    | cons a s ha ih => rw [Finset.sum_cons, Finset.sum_cons, EReal.coe_add, ih]
  rw [hc]
  refine Finset.sum_congr rfl fun d _ => ?_
  show x _ * x _ = _
  rw [hf, EReal.coe_mul]

theorem rsqrt_num {r : ℝ} (h : 0 < r) : IsNum (Ideal.rsqrt (r : EReal)) := by
  rw [Ideal.rsqrt_coe, if_neg (by linarith), if_neg (by linarith)]
  exact ⟨_, rfl⟩

theorem bits_64 : Ideal.ofBits .f32 0x42800000#32 = ((64 : ℝ) : EReal) := by
  simp [Ideal.ofBits, Ideal.ieee]
  rw [← EReal.coe_mul]
  norm_num

theorem bits_inv64 : Ideal.ofBits .f32 0x3C800000#32 = ((64⁻¹ : ℝ) : EReal) := by
  simp [Ideal.ofBits, Ideal.ieee]
  rw [← EReal.coe_mul]
  norm_num

theorem bits_eps : ∃ e : ℝ, 0 < e ∧ Ideal.ofBits .f32 0x358637BD#32 = (e : EReal) := by
  refine ⟨8796093 / 8796093022208, by norm_num, ?_⟩
  simp [Ideal.ofBits, Ideal.ieee]
  rw [← EReal.coe_mul]
  norm_num

theorem bits_tiny : ∃ e : ℝ, 0 < e ∧ Ideal.ofBits .f32 0x179ABE15#32 = (e : EReal) := by
  refine ⟨10141205 / 10141204801825835211973625643008, by norm_num, ?_⟩
  simp [Ideal.ofBits, Ideal.ieee]
  rw [← EReal.coe_mul]
  norm_num

/-- Times a 64th is divided by 64. -/
theorem mul_inv64 (y : EReal) : y * Ideal.ofBits .f32 0x3C800000#32 = Ideal.div y (Ideal.ofBits .f32 0x42800000#32) := by
  rw [bits_inv64, bits_64]
  unfold Ideal.div
  rw [if_neg (by norm_num), ← EReal.coe_inv]

/-- Feature `j` of a head divided by the root of the head's mean square (plus the layer's epsilon), times a gain. -/
def headRms (x : Fin 1024 → EReal) (g : EReal) (j : Fin 1024) : EReal :=
  x j * Ideal.rsqrt (Ideal.div (headSum (fun k => x k * x k) j) (Ideal.ofBits .f32 0x42800000#32) + Ideal.ofBits .f32 0x358637BD#32) * g

/-- Feature `j` of a head divided by the head's length, which is kept away from zero. -/
def headUnit (x : Fin 1024 → EReal) (j : Fin 1024) : EReal :=
  x j * Ideal.rsqrt (max (headSum (fun k => x k * x k) j) (Ideal.ofBits .f32 0x179ABE15#32))

/-- The root's argument in a head's root-mean-square norm is a positive number. -/
theorem rms_num (x : Fin 1024 → EReal) (hx : ∀ k, IsNum (x k)) (j : Fin 1024) :
    IsNum (Ideal.rsqrt (headSum (fun k => x k * x k) j * Ideal.ofBits .f32 0x3C800000#32 + Ideal.ofBits .f32 0x358637BD#32)) := by
  obtain ⟨y, hy, e⟩ := headSum_sq x hx j
  obtain ⟨ε, hε, e'⟩ := bits_eps
  rw [e, e', bits_inv64, ← EReal.coe_mul, ← EReal.coe_add]
  exact rsqrt_num (by positivity)

/-- The same for a head's length. -/
theorem unit_num (x : Fin 1024 → EReal) (hx : ∀ k, IsNum (x k)) (j : Fin 1024) :
    IsNum (Ideal.rsqrt (max (headSum (fun k => x k * x k) j) (Ideal.ofBits .f32 0x179ABE15#32))) := by
  obtain ⟨y, hy, e⟩ := headSum_sq x hx j
  obtain ⟨ε, hε, e'⟩ := bits_tiny
  rw [e, e']
  rcases le_total y ε with h | h
  · rw [max_eq_right (EReal.coe_le_coe_iff.2 h)]
    exact rsqrt_num hε
  · rw [max_eq_left (EReal.coe_le_coe_iff.2 h)]
    exact rsqrt_num (hε.trans_le h)

/-- A feature's decay, from its log-domain weight. -/
def decayOf (w : EReal) : EReal :=
  -(Ideal.exp (-(max (-w) 0 + Ideal.log1p (Ideal.exp (-(max (-w) (-(-w)))))) - Ideal.ofBits .f32 0x3F000000#32))

end Cert.Layer

end
-- ==== Proof.MixPay.lean ====
/-
  What the body of the preparing call computes, entry by entry.
-/
module

public import proofs.«01_k».proof.Defs
public import proofs.«01_k».proof.Proof.MixMath
public import proofs.«01_k».proof.Proof.Gen.KernelMixIdeal.Skeleton

@[expose] public section

set_option maxRecDepth 16384

noncomputable section

open Idealize.ShloMosaic
open Cert.Layer

namespace Cert.KernelMixIdeal.Value
open Cert.KernelMixIdeal Cert.KernelMixIdeal.Gen

/-- The words of the matrix that picks sample starts. -/
theorem start_word : ∀ (r : Fin 128) (n : Fin 16),
    IntOp.cmpi .eq (BitVec.ofNat 32 r.val) (IntOp.muli (BitVec.ofNat 32 n.val) 8#32) = if r.val = 8 * n.val then 1#1 else 0#1 := by
  decide +kernel

theorem zero_one (p : Prop) [Decidable p] :
    FloatOps.sitofp (F := Ideal) .f32 (BitVec.setWidth 32 (if p then 1#1 else 0#1)) = if p then (1 : EReal) else 0 := by
  by_cases h : p
  · rw [if_pos h, if_pos h]
    show ((((1#32 : BitVec 32).toInt : ℤ) : ℝ) : EReal) = 1
    norm_num
  · rw [if_neg h, if_neg h]
    show ((((0#32 : BitVec 32).toInt : ℤ) : ℝ) : EReal) = 0
    norm_num

/-- The matrix that picks sample starts: one where the row is eight times the sample. -/
theorem pay7_apply (r : Fin 128) (n : Fin 16) : k0_pay7 (F := Ideal) (ix2 r n) = if r.val = 8 * n.val then (1 : EReal) else 0 := by
  unfold k0_pay7
  pointwise
  rw [start_word, zero_one]

/-- The bit of a row that begins a sample: every eighth row. -/
theorem pay12_apply : ∀ r : Fin 128, k0_pay12 (Scalar.select (Scalar.cmpi .eq 8#32 0#32) 1#32 8#32) k0_pay8 k0_pay9 k0_pay10 k0_pay11 (ix2 r 0)
    = if r.val % 8 = 0 then 1#1 else 0#1 := by
  decide +kernel

/-- The bit of a tile that begins a prompt. -/
theorem pay6_word : ∀ t : Fin grid0.N,
    (have arg0 := BitVec.ofNat 32 (grid0.coords t 0).val
    have v6 := Scalar.muli arg0 128#32
    have v7 := Scalar.cmpi CmpIPredicate.eq 2048#32 0#32
    have v8 := Scalar.select v7 1#32 2048#32
    have v9 := Scalar.remsi v6 v8
    have v10 := Scalar.cmpi CmpIPredicate.ne v9 0#32
    have v11 := Scalar.cmpi CmpIPredicate.slt v9 0#32
    have v12 := Scalar.cmpi CmpIPredicate.slt v8 0#32
    have v13 := Scalar.xori v11 v12
    have v14 := Scalar.andi v13 v10
    have v15 := Scalar.addi v9 v8
    have v16 := Scalar.select v14 v15 v9
    have v17 := Scalar.cmpi CmpIPredicate.eq v16 0#32
    v17) = if t.val % 16 = 0 then 1#1 else 0#1 :=
  (by decide +kernel : ∀ t : Fin grid0.N, _)

/-- The factor of the row that precedes a tile: zero where a prompt begins, one elsewhere. -/
theorem pay6_apply (t : Fin grid0.N) : k0_pay6 (F := Ideal) (grid0.coords t) = if t.val % 16 = 0 then (0 : EReal) else 1 := by
  have h := pay6_word t
  have e : k0_pay6 (F := Ideal) (grid0.coords t)
      = Scalar.select (if t.val % 16 = 0 then 1#1 else 0#1) (Ideal.ofBits .f32 0x00000000#32) (Ideal.ofBits .f32 0x3F800000#32) := by
    rw [← h]
    rfl
  rw [e]
  by_cases h : t.val % 16 = 0
  · rw [if_pos h, if_pos h]
    exact Ideal.ofBits_zero_f32
  · rw [if_neg h, if_neg h]
    exact Ideal.ofBits_one_f32

section heads
variable (v1 : Vec Ideal S1024x128 .bf16) (v3 : Vec Ideal S128x1024 .bf16)
    (h1 : ∀ k l, v1 (ix2 k l) = if k.val / 64 = l.val then (1 : EReal) else 0) (h3 : ∀ l j, v3 (ix2 l j) = if j.val / 64 = l.val then (1 : EReal) else 0)
include h1 h3

/-- The query's rows: a head's root-mean-square norm by its gain, times the score's scale. -/
theorem pay13_apply (v45 : Vec Ideal S128x1024 .f32) (v67 : Vec Ideal S1x1024 .f32) (h45 : ∀ r k, IsNum (v45 (ix2 r k))) (r : Fin 128) (j : Fin 1024) :
    k0_pay13 (F := Ideal) v1 v3 v45 v67 (ix2 r j) = headRms (fun k => v45 (ix2 r k)) (v67 (ix2 0 j)) j * Ideal.ofBits .f32 0x3E000000#32 := by
  unfold k0_pay13
  pointwise
  unfold headRms
  rw [← mul_inv64]
  exact congrArg (fun z => v45 (ix2 r j) * z * v67 (ix2 0 j) * Ideal.ofBits .f32 0x3E000000#32)
    (spread (fun k l => v1 (ix2 k l)) (fun l j => v3 (ix2 l j)) h1 h3 (fun k => v45 (ix2 r k) * v45 (ix2 r k)) (fun k => (h45 r k).mul (h45 r k))
      (fun y => Ideal.rsqrt (y * Ideal.ofBits .f32 0x3C800000#32 + Ideal.ofBits .f32 0x358637BD#32)) j (rms_num _ (h45 r) j))

/-- The key's rows: the norm alone. -/
theorem pay17_apply (v74 : Vec Ideal S128x1024 .f32) (v96 : Vec Ideal S1x1024 .f32) (h74 : ∀ r k, IsNum (v74 (ix2 r k))) (r : Fin 128) (j : Fin 1024) :
    k0_pay17 (F := Ideal) v1 v3 v74 (k0_pay15 v74) (k0_pay16 v74) v96 (ix2 r j) = headRms (fun k => v74 (ix2 r k)) (v96 (ix2 0 j)) j := by
  unfold k0_pay17 k0_pay16 k0_pay15 k0_pay14
  pointwise
  unfold headRms
  rw [← mul_inv64]
  exact congrArg (fun z => v74 (ix2 r j) * z * v96 (ix2 0 j))
    (spread (fun k l => v1 (ix2 k l)) (fun l j => v3 (ix2 l j)) h1 h3 (fun k => v74 (ix2 r k) * v74 (ix2 r k)) (fun k => (h74 r k).mul (h74 r k))
      (fun y => Ideal.rsqrt (y * Ideal.ofBits .f32 0x3C800000#32 + Ideal.ofBits .f32 0x358637BD#32)) j (rms_num _ (h74 r) j))

/-- The removal key's rows: a head of the weighted key, of unit length. -/
theorem pay46_apply (v180 : Vec Ideal S128x1024 .f32) (v306 : Vec Ideal S1x1024 .f32) (h : ∀ r k, IsNum (v180 (ix2 r k) * v306 (ix2 0 k)))
    (r : Fin 128) (j : Fin 1024) :
    k0_pay46 (F := Ideal) v1 v3 v180 v306 (ix2 r j) = headUnit (fun k => v180 (ix2 r k) * v306 (ix2 0 k)) j := by
  unfold k0_pay46
  pointwise
  unfold headUnit
  exact congrArg (fun z => v180 (ix2 r j) * v306 (ix2 0 j) * z)
    (spread (fun k l => v1 (ix2 k l)) (fun l j => v3 (ix2 l j)) h1 h3 (fun k => v180 (ix2 r k) * v306 (ix2 0 k) * (v180 (ix2 r k) * v306 (ix2 0 k)))
      (fun k => (h r k).mul (h r k)) (fun y => Ideal.rsqrt (max y (Ideal.ofBits .f32 0x179ABE15#32))) j (unit_num _ (h r) j))

end heads

section shifts
variable (t : ℕ) (v5 : BitVec 1) (h5 : v5 = if 64 ≤ t then 1#1 else 0#1) (v18 : EReal) (h18 : v18 = if t % 16 = 0 then (0 : EReal) else 1)
    (v26 : Vec Ideal S128x16 .bf16) (h26 : ∀ (r : Fin 128) (n : Fin 16), v26 (ix2 r n) = if r.val = 8 * n.val then (1 : EReal) else 0)
    (v44 : IVec S128x1 1) (h44 : ∀ r : Fin 128, v44 (ix2 r 0) = if r.val % 8 = 0 then 1#1 else 0#1)
include h5 h18 h26 h44

/-- The receptance's rows, mixed with the rows before. -/
theorem pay21_apply (v101 : Vec Ideal S128x1024 .f32) (v104 : Vec Ideal S1x1024 .f32) (v118 : Vec Ideal S16x1024 .f32) (v136 : Vec Ideal S1x1024 .f32)
    (hs : ∀ n j, IsNum (v118 (ix2 n j))) (r : Fin 128) (j : Fin 1024) :
    k0_pay21 (F := Ideal) v5 v26 v44 v101 (k0_pay18 (iota .tc S128x1 32 [0] iota_S128x1_d0_w32) v101 v104)
        (k0_pay19 (iota .tc S128x1 32 [0] iota_S128x1_d0_w32) v18 v101 v104) v118 (k0_pay20 v118) v136 (ix2 r j)
      = mixed (v101 (ix2 r j)) (prevRow t r (fun r => v101 (ix2 r j)) (v104 (ix2 0 j)) (fun n => v118 (ix2 n j))) (v136 (ix2 0 j)) := by
  unfold k0_pay21 k0_pay18 k0_pay19 k0_pay18 k0_pay20
  pointwise
  exact congrArg (fun p => v101 (ix2 r j) + (p - v101 (ix2 r j)) * v136 (ix2 0 j))
    (prev_sel t r (fun r => v101 (ix2 r j)) (v104 (ix2 0 j)) (fun n => v118 (ix2 n j)) (fun n => hs n j) v5 h5 v18 h18 (fun n => v26 (ix2 r n)) (h26 r)
      (v44 (ix2 r 0)) (h44 r))

/-- The recurrence key's rows, mixed with the rows before. -/
theorem pay28_apply (v141 : Vec Ideal S128x1024 .f32) (v144 : Vec Ideal S1x1024 .f32) (v158 : Vec Ideal S16x1024 .f32) (v176 : Vec Ideal S1x1024 .f32)
    (hs : ∀ n j, IsNum (v158 (ix2 n j))) (r : Fin 128) (j : Fin 1024) :
    k0_pay28 (F := Ideal) v5 v26 v44 v141 (k0_pay22 (iota .tc S128x1 32 [0] iota_S128x1_d0_w32) v141 v144)
        (k0_pay23 (iota .tc S128x1 32 [0] iota_S128x1_d0_w32) v18 v141 v144) (k0_pay24 v158) (k0_pay26 v158) (k0_pay27 v158) v176 (ix2 r j)
      = mixed (v141 (ix2 r j)) (prevRow t r (fun r => v141 (ix2 r j)) (v144 (ix2 0 j)) (fun n => v158 (ix2 n j))) (v176 (ix2 0 j)) := by
  unfold k0_pay28 k0_pay22 k0_pay23 k0_pay22 k0_pay27 k0_pay26 k0_pay25 k0_pay24
  pointwise
  exact congrArg (fun p => v141 (ix2 r j) + (p - v141 (ix2 r j)) * v176 (ix2 0 j))
    (prev_sel t r (fun r => v141 (ix2 r j)) (v144 (ix2 0 j)) (fun n => v158 (ix2 n j)) (fun n => hs n j) v5 h5 v18 h18 (fun n => v26 (ix2 r n)) (h26 r)
      (v44 (ix2 r 0)) (h44 r))

/-- The recurrence value's rows, mixed with the rows before. -/
theorem pay36_apply (v181 : Vec Ideal S128x1024 .f32) (v184 : Vec Ideal S1x1024 .f32) (v198 : Vec Ideal S16x1024 .f32) (v216 : Vec Ideal S1x1024 .f32)
    (hs : ∀ n j, IsNum (v198 (ix2 n j))) (r : Fin 128) (j : Fin 1024) :
    k0_pay36 (F := Ideal) v5 v26 v44 v181 (k0_pay29 (iota .tc S128x1 32 [0] iota_S128x1_d0_w32) v181 v184)
        (k0_pay30 (iota .tc S128x1 32 [0] iota_S128x1_d0_w32) v18 v181 v184) (k0_pay34 v198) (k0_pay35 v26 v198) (constant S128x1024 .f32 0x00000000#32) v216 (ix2 r j)
      = mixed (v181 (ix2 r j)) (prevRow t r (fun r => v181 (ix2 r j)) (v184 (ix2 0 j)) (fun n => v198 (ix2 n j))) (v216 (ix2 0 j)) := by
  unfold k0_pay36 k0_pay29 k0_pay30 k0_pay29 k0_pay35 k0_pay34 k0_pay33 k0_pay32 k0_pay31
  pointwise
  exact congrArg (fun p => v181 (ix2 r j) + (p - v181 (ix2 r j)) * v216 (ix2 0 j))
    (prev_sel t r (fun r => v181 (ix2 r j)) (v184 (ix2 0 j)) (fun n => v198 (ix2 n j)) (fun n => hs n j) v5 h5 v18 h18 (fun n => v26 (ix2 r n)) (h26 r)
      (v44 (ix2 r 0)) (h44 r))

/-- The low-rank features' rows, mixed with the rows before. -/
theorem pay38_apply (v221 : Vec Ideal S128x256 .f32) (v224 : Vec Ideal S1x256 .f32) (v238 : Vec Ideal S16x256 .f32) (v256 : Vec Ideal S1x256 .f32)
    (hs : ∀ n j, IsNum (v238 (ix2 n j))) (r : Fin 128) (j : Fin 256) :
    k0_pay38 (F := Ideal) v221 (k0_pay37 (iota .tc S128x1 32 [0] iota_S128x1_d0_w32) v5 v18 v26 v44 v221 v224 v238) v256 (ix2 r j)
      = mixed (v221 (ix2 r j)) (prevRow t r (fun r => v221 (ix2 r j)) (v224 (ix2 0 j)) (fun n => v238 (ix2 n j))) (v256 (ix2 0 j)) := by
  unfold k0_pay38 k0_pay37
  pointwise
  exact congrArg (fun p => v221 (ix2 r j) + (p - v221 (ix2 r j)) * v256 (ix2 0 j))
    (prev_sel t r (fun r => v221 (ix2 r j)) (v224 (ix2 0 j)) (fun n => v238 (ix2 n j)) (fun n => hs n j) v5 h5 v18 h18 (fun n => v26 (ix2 r n)) (h26 r)
      (v44 (ix2 r 0)) (h44 r))

end shifts

/-- The decays, from the mixed features. -/
theorem pay41_apply (v221 v254 : Vec Ideal S128x256 .f32) (v256 : Vec Ideal S1x256 .f32) (v264 : Vec Ideal S1x1024 .f32) (v267 : Vec Ideal S64x1024 .bf16)
    (r : Fin 128) (j : Fin 1024) :
    k0_pay41 (F := Ideal) v221 v254 v256 v264 v267 (ix2 r j)
      = decayOf (v264 (ix2 0 j) + ∑ k : Fin 64, Ideal.tanh (k0_pay38 (F := Ideal) v221 v254 v256 (ix2 r ⟨k.val, by omega⟩)) * v267 (ix2 k j)) := by
  unfold k0_pay41
  generalize k0_pay38 (F := Ideal) v221 v254 v256 = w
  pointwise
  unfold decayOf
  simp only [zero_sub]
  rfl

/-- The in-context rates, from the mixed features. -/
theorem pay44_apply (v221 v254 : Vec Ideal S128x256 .f32) (v256 : Vec Ideal S1x256 .f32) (v291 : Vec Ideal S1x1024 .f32) (v293 : Vec Ideal S64x1024 .bf16)
    (r : Fin 128) (j : Fin 1024) :
    k0_pay44 (F := Ideal) (k0_pay39 v221 v254 v256) (k0_pay42 v291) (k0_pay43 v293) (ix2 r j)
      = Ideal.logistic (v291 (ix2 0 j) + ∑ k : Fin 64, k0_pay38 (F := Ideal) v221 v254 v256 (ix2 r ⟨64 + k.val, by omega⟩) * v293 (ix2 k j)) := by
  unfold k0_pay44 k0_pay39 k0_pay42 k0_pay43
  generalize k0_pay38 (F := Ideal) v221 v254 v256 = w
  pointwise

/-- The gates, from the mixed features. -/
theorem pay45_apply (v221 v254 : Vec Ideal S128x256 .f32) (v256 : Vec Ideal S1x256 .f32) (v301 : Vec Ideal S128x1024 .bf16)
    (r : Fin 128) (j : Fin 1024) :
    k0_pay45 (F := Ideal) (k0_pay40 v221 v254 v256) v301 (ix2 r j)
      = ∑ k : Fin 128, Ideal.logistic (k0_pay38 (F := Ideal) v221 v254 v256 (ix2 r ⟨128 + k.val, by omega⟩)) * v301 (ix2 k j) := by
  unfold k0_pay45 k0_pay40
  generalize k0_pay38 (F := Ideal) v221 v254 v256 = w
  pointwise

/-- The written key: the recurrence's key scaled by its rate. -/
theorem pay1_apply (v180 a : Vec Ideal S128x1024 .f32) (v262 : Vec Ideal S128x64 .f32) (v292 : Vec Ideal S1x1024 .f32) (v294 : Vec Ideal S64x1024 .bf16)
    (v332 : Vec Ideal S1x1024 .f32) (ha : k0_pay44 (F := Ideal) v262 v292 v294 = a) (r : Fin 128) (j : Fin 1024) :
    k0_pay1 (F := Ideal) v180 (k0_pay47 v262 v292 v294) (k0_pay48 v332) (ix2 r j)
      = v180 (ix2 r j) * (1 + (a (ix2 r j) - 1) * v332 (ix2 0 j)) := by
  unfold k0_pay1 k0_pay47 k0_pay48
  rw [ha]
  pointwise

theorem pay2_apply (v : Vec Ideal S128x1024 .f32) (i : S128x1024.Idx) : k0_pay2 (F := Ideal) v i = -(v i : EReal) := by
  unfold k0_pay2
  pointwise
  exact zero_sub _

theorem pay3_apply (a v : Vec Ideal S128x1024 .f32) (i : S128x1024.Idx) : k0_pay3 (F := Ideal) a v i = (v i : EReal) * a i := by
  unfold k0_pay3
  pointwise

end Cert.KernelMixIdeal.Value

end
-- ==== Proof.MixWin.lean ====
/-
  Which rows and columns a tile of the preparing call reads, and what the host hands it.
-/
module

public import proofs.«01_k».proof.Defs
public import proofs.«01_k».proof.Proof.MixMath
public import Idealize.ShloMosaic.Lib.IdealHost
public import proofs.«01_k».proof.Proof.Gen.KernelMixIdeal.Value

@[expose] public section

set_option maxRecDepth 16384

noncomputable section

open Idealize.ShloMosaic Idealize.ShloMosaic.TcCoe Idealize.SL.Sem
open Cert.Layer

namespace Cert.KernelMixIdeal.Value
open Cert.KernelMixIdeal Cert.KernelMixIdeal.Gen

variable (m : (ℓ : Loc nD τ sig) → Buf (Elt Ideal) ℓ) (c : Dev nD)

/-- The sign of a word as the host computes it. -/
def hostSign (w : BitVec 32) : BitVec 32 := if w = 0 then 0 else if w.msb then -1 else 1

/-- The host's word for the head of feature `k`. -/
def headWord (w : BitVec 32) : BitVec 32 :=
  Scalar.select (IntOp.andi (IntOp.cmpi .ne (hostSign w) (hostSign 64#32)) (IntOp.cmpi .ne (IntOp.remsi .host w 64#32) 0#32))
    (IntOp.subi (IntOp.divsi .host w 64#32) 1#32) (IntOp.divsi .host w 64#32)

theorem head_word : ∀ k : Fin 1024, headWord (BitVec.ofNat 32 k.val) = BitVec.ofNat 32 (k.val / 64) := by decide +kernel

theorem eq_word (x : Fin 16) (l : Fin 128) : IntOp.cmpi .eq (BitVec.ofNat 32 x.val) (BitVec.ofNat 32 l.val) = if x.val = l.val then 1#1 else 0#1 :=
  (by decide +kernel : ∀ (x : Fin 16) (l : Fin 128), IntOp.cmpi .eq (BitVec.ofNat 32 x.val) (BitVec.ofNat 32 l.val) = if x.val = l.val then 1#1 else 0#1) x l

theorem bit_num (p : Prop) [Decidable p] : FloatOps.uitofp (F := Ideal) .bf16 (if p then 1#1 else 0#1) = if p then (1 : EReal) else 0 := by
  by_cases h : p
  · rw [if_pos h, if_pos h]
    show ((((1#1 : BitVec 1).toNat : ℕ) : ℝ) : EReal) = 1
    norm_num
  · rw [if_neg h, if_neg h]
    show ((((0#1 : BitVec 1).toNat : ℕ) : ℝ) : EReal) = 0
    norm_num

/-- The 0/1 matrix of heads: one where the feature lies in the head. -/
theorem V_heads (k : Fin 1024) (l : Fin 128) :
    (V m c main_v4 : Vec Ideal S1024x128 .bf16) (ix2 k l) = if k.val / 64 = l.val then (1 : EReal) else 0 := by
  unfold V
  simp only [hostOps0, hostOps0_1, hostOps0_2, List.flatten_cons, List.flatten_nil, List.append_nil, List.cons_append, List.nil_append]
  after_results
  simp -implicitDefEqProofs only [StableHlo.TRef.toBuf, StableHlo.TRef.ofBuf, cast_cast, cast_eq]
  refine Eq.trans (b := FloatOps.uitofp (F := Ideal) .bf16 (IntOp.cmpi .eq (headWord (BitVec.ofNat 32 k.val)) (BitVec.ofNat 32 l.val))) ?_ ?_
  · pointwise
    rfl
  have hk := k.isLt
  rw [head_word, eq_word (⟨k.val / 64, by omega⟩ : Fin 16) l, bit_num]

/-- Its transpose. -/
theorem V_headsT (l : Fin 128) (k : Fin 1024) :
    (V m c main_v5 : Vec Ideal S128x1024 .bf16) (ix2 l k) = if k.val / 64 = l.val then (1 : EReal) else 0 := by
  unfold V
  simp only [hostOps0, hostOps0_1, hostOps0_2, List.flatten_cons, List.flatten_nil, List.append_nil, List.cons_append, List.nil_append]
  after_results
  simp -implicitDefEqProofs only [StableHlo.TRef.toBuf, StableHlo.TRef.ofBuf, cast_cast, cast_eq]
  refine Eq.trans (b := FloatOps.uitofp (F := Ideal) .bf16 (IntOp.cmpi .eq (headWord (BitVec.ofNat 32 k.val)) (BitVec.ofNat 32 l.val))) ?_ ?_
  · pointwise
    rfl
  have hk := k.isLt
  rw [head_word, eq_word (⟨k.val / 64, by omega⟩ : Fin 16) l, bit_num]

/-- The mixing weights as one row. -/
theorem V_v6 (k : Fin 3328) :
    (V m c main_v6 : Vec Ideal S1x3328 .f32) (ix2 0 k) = (m ((c : Thread nD τ).loc main_arg2) : Vec Ideal S3328 .f32) (ix1 k) := by
  unfold V
  simp only [hostOps0, hostOps0_1, hostOps0_2, List.flatten_cons, List.flatten_nil, List.append_nil, List.cons_append, List.nil_append]
  after_results
  show shapeCast S1x3328 (m ((c : Thread nD τ).loc main_arg2) : Vec Ideal S3328 .f32) shapeCasts_S3328_S1x3328 (ix2 0 k) = _
  pointwise

/-- The query's gain, repeated over the heads. -/
theorem V_v10 (k : Fin 1024) :
    (V m c main_v10 : Vec Ideal S1x1024 .f32) (ix2 0 k) = (m ((c : Thread nD τ).loc main_arg3) : Vec Ideal S64 .f32) (ix1 ⟨k.val % 64, Nat.mod_lt _ (by decide)⟩) := by
  unfold V
  simp only [hostOps0, hostOps0_1, hostOps0_2, List.flatten_cons, List.flatten_nil, List.append_nil, List.cons_append, List.nil_append]
  after_results
  show shapeCast S1x1024 (shapeCast S1024 (broadcastInDim S16x64 ![0, 1] bcast_S1x64_S16x64_0_1 (shapeCast S1x64 (m ((c : Thread nD τ).loc main_arg3) : Vec Ideal S64 .f32) shapeCasts_S64_S1x64)) shapeCasts_S16x64_S1024) shapeCasts_S1024_S1x1024 (ix2 0 k) = _
  pointwise

/-- The key's gain, repeated over the heads. -/
theorem V_v14 (k : Fin 1024) :
    (V m c main_v14 : Vec Ideal S1x1024 .f32) (ix2 0 k) = (m ((c : Thread nD τ).loc main_arg4) : Vec Ideal S64 .f32) (ix1 ⟨k.val % 64, Nat.mod_lt _ (by decide)⟩) := by
  unfold V
  simp only [hostOps0, hostOps0_1, hostOps0_2, List.flatten_cons, List.flatten_nil, List.append_nil, List.cons_append, List.nil_append]
  after_results
  show shapeCast S1x1024 (shapeCast S1024 (broadcastInDim S16x64 ![0, 1] bcast_S1x64_S16x64_0_1 (shapeCast S1x64 (m ((c : Thread nD τ).loc main_arg4) : Vec Ideal S64 .f32) shapeCasts_S64_S1x64)) shapeCasts_S16x64_S1024) shapeCasts_S1024_S1x1024 (ix2 0 k) = _
  pointwise

/-- A vector argument as one row. -/
theorem V_v15 (k : Fin 1024) :
    (V m c main_v15 : Vec Ideal S1x1024 .f32) (ix2 0 k) = (m ((c : Thread nD τ).loc main_arg5) : Vec Ideal S1024 .f32) (ix1 k) := by
  unfold V
  simp only [hostOps0, hostOps0_1, hostOps0_2, List.flatten_cons, List.flatten_nil, List.append_nil, List.cons_append, List.nil_append]
  after_results
  show shapeCast S1x1024 (m ((c : Thread nD τ).loc main_arg5) : Vec Ideal S1024 .f32) shapeCasts_S1024_S1x1024 (ix2 0 k) = _
  pointwise

/-- A vector argument as one row. -/
theorem V_v17 (k : Fin 1024) :
    (V m c main_v17 : Vec Ideal S1x1024 .f32) (ix2 0 k) = (m ((c : Thread nD τ).loc main_arg7) : Vec Ideal S1024 .f32) (ix1 k) := by
  unfold V
  simp only [hostOps0, hostOps0_1, hostOps0_2, List.flatten_cons, List.flatten_nil, List.append_nil, List.cons_append, List.nil_append]
  after_results
  show shapeCast S1x1024 (m ((c : Thread nD τ).loc main_arg7) : Vec Ideal S1024 .f32) shapeCasts_S1024_S1x1024 (ix2 0 k) = _
  pointwise

/-- A vector argument as one row. -/
theorem V_v20 (k : Fin 1024) :
    (V m c main_v20 : Vec Ideal S1x1024 .f32) (ix2 0 k) = (m ((c : Thread nD τ).loc main_arg10) : Vec Ideal S1024 .f32) (ix1 k) := by
  unfold V
  simp only [hostOps0, hostOps0_1, hostOps0_2, List.flatten_cons, List.flatten_nil, List.append_nil, List.cons_append, List.nil_append]
  after_results
  show shapeCast S1x1024 (m ((c : Thread nD τ).loc main_arg10) : Vec Ideal S1024 .f32) shapeCasts_S1024_S1x1024 (ix2 0 k) = _
  pointwise

/-- A vector argument as one row. -/
theorem V_v21 (k : Fin 1024) :
    (V m c main_v21 : Vec Ideal S1x1024 .f32) (ix2 0 k) = (m ((c : Thread nD τ).loc main_arg11) : Vec Ideal S1024 .f32) (ix1 k) := by
  unfold V
  simp only [hostOps0, hostOps0_1, hostOps0_2, List.flatten_cons, List.flatten_nil, List.append_nil, List.cons_append, List.nil_append]
  after_results
  show shapeCast S1x1024 (m ((c : Thread nD τ).loc main_arg11) : Vec Ideal S1024 .f32) shapeCasts_S1024_S1x1024 (ix2 0 k) = _
  pointwise

/-- A weight: its cast changes no number. -/
theorem V_v16 : (V m c main_v16 : Vec Ideal S64x1024 .bf16) = (m ((c : Thread nD τ).loc main_arg6) : Vec Ideal S64x1024 .f32) := by
  unfold V
  simp only [hostOps0, hostOps0_1, hostOps0_2, List.flatten_cons, List.flatten_nil, List.append_nil, List.cons_append, List.nil_append]
  after_results
  rfl

/-- A weight: its cast changes no number. -/
theorem V_v18 : (V m c main_v18 : Vec Ideal S64x1024 .bf16) = (m ((c : Thread nD τ).loc main_arg8) : Vec Ideal S64x1024 .f32) := by
  unfold V
  simp only [hostOps0, hostOps0_1, hostOps0_2, List.flatten_cons, List.flatten_nil, List.append_nil, List.cons_append, List.nil_append]
  after_results
  rfl

/-- A weight: its cast changes no number. -/
theorem V_v19 : (V m c main_v19 : Vec Ideal S128x1024 .bf16) = (m ((c : Thread nD τ).loc main_arg9) : Vec Ideal S128x1024 .f32) := by
  unfold V
  simp only [hostOps0, hostOps0_1, hostOps0_2, List.flatten_cons, List.flatten_nil, List.append_nil, List.cons_append, List.nil_append]
  after_results
  rfl

/-- Which blocks a tile reads and writes. -/
theorem idx_a : ∀ t : Fin cfg0.N, (win0_0.index t (0 : Fin 2) = t.val ∧ win0_0.index t (1 : Fin 2) = 0)
    ∧ (win0_1.index t (0 : Fin 2) = 16 * t.val - 1 ∧ win0_1.index t (1 : Fin 2) = 0)
    ∧ (win0_2.index t (0 : Fin 2) = min (t.val - 64) 7 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- Which blocks a tile reads and writes. -/
theorem idx_b : ∀ t : Fin cfg0.N, (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0) :=
  (by decide +kernel : ∀ t : Fin grid0.N, _)

/-- Which blocks a tile reads and writes. -/
theorem idx_c : ∀ t : Fin cfg0.N, (win0_15.index t (0 : Fin 2) = t.val ∧ win0_15.index t (1 : Fin 2) = 0)
    ∧ (win0_16.index t (0 : Fin 2) = t.val ∧ win0_16.index t (1 : Fin 2) = 0)
    ∧ (win0_17.index t (0 : Fin 2) = t.val ∧ win0_17.index t (1 : Fin 2) = 0)
    ∧ (win0_18.index t (0 : Fin 2) = t.val ∧ win0_18.index t (1 : Fin 2) = 0)
    ∧ (win0_19.index t (0 : Fin 2) = t.val ∧ win0_19.index t (1 : Fin 2) = 0)
    ∧ (win0_20.index t (0 : Fin 2) = t.val ∧ win0_20.index t (1 : Fin 2) = 0)
    ∧ (win0_21.index t (0 : Fin 2) = t.val ∧ win0_21.index t (1 : Fin 2) = 0)
    ∧ (win0_22.index t (0 : Fin 2) = t.val ∧ win0_22.index t (1 : Fin 2) = 0)
    ∧ (win0_23.index t (0 : Fin 2) = t.val ∧ win0_23.index t (1 : Fin 2) = 0) :=
  (by decide +kernel : ∀ t : Fin grid0.N, _)

variable (t : Fin cfg0.N)

/-- A tile's rows. -/
theorem iblk0 (r : Fin 128) (k : Fin 6400) (R : Fin 9216) (hR : R.val = 128 * t.val + r.val) :
    (iblk m c 0 t : Vec Ideal S128x6400 .f32) (ix2 r k) = (m ((c : Thread nD τ).loc main_arg0) : Vec Ideal S9216x6400 .f32) (ix2 R k) := by
  obtain ⟨⟨e0, e1⟩, -⟩ := idx_a t
  unfold iblk
  rw [View.read_apply, ← V_main_arg0 m c]
  show (V m c main_arg0 : Vec Ideal _ .f32) _ = _
  congr 1
  funext a
  apply Fin.ext
  match a with
  | ⟨0, _⟩ => show win0_0.index t 0 * 128 + 1 * r.val = R.val; rw [e0, hR]; omega
  | ⟨1, _⟩ => show win0_0.index t 1 * 6400 + 1 * k.val = k.val; rw [e1]; omega

/-- The row that precedes a tile. -/
theorem iblk1 (k : Fin 6400) (R : Fin 9216) (hR : R.val + 1 = 128 * t.val) :
    (iblk m c 1 t : Vec Ideal S8x6400 .f32) (ix2 7 k) = (m ((c : Thread nD τ).loc main_arg0) : Vec Ideal S9216x6400 .f32) (ix2 R k) := by
  obtain ⟨-, ⟨e0, e1⟩, -⟩ := idx_a t
  unfold iblk
  rw [View.read_apply, ← V_main_arg0 m c]
  show (V m c main_arg0 : Vec Ideal _ .f32) _ = _
  congr 1
  funext a
  apply Fin.ext
  match a with
  | ⟨0, _⟩ => show win0_1.index t 0 * 8 + 1 * 7 = R.val; rw [e0]; omega
  | ⟨1, _⟩ => show win0_1.index t 1 * 6400 + 1 * k.val = k.val; rw [e1]; omega

/-- The samples' states. -/
theorem iblk2 (n : Fin 16) (k : Fin 3328) (N : Fin 128) (hN : N.val = min (t.val - 64) 7 * 16 + 1 * n.val) :
    (iblk m c 2 t : Vec Ideal S16x3328 .f32) (ix2 n k) = (m ((c : Thread nD τ).loc main_arg1) : Vec Ideal S128x3328 .f32) (ix2 N k) := by
  obtain ⟨-, -, ⟨e0, e1⟩, -⟩ := idx_a t
  unfold iblk
  rw [View.read_apply, ← V_main_arg1 m c]
  show (V m c main_arg1 : Vec Ideal _ .f32) _ = _
  congr 1
  funext a
  apply Fin.ext
  match a with
  | ⟨0, _⟩ => show win0_2.index t 0 * 16 + 1 * n.val = N.val; rw [e0, hN]
  | ⟨1, _⟩ => show win0_2.index t 1 * 3328 + 1 * k.val = k.val; rw [e1]; omega

/-- A vector argument. -/
theorem iblk3 (k : Fin 3328) :
    (iblk m c 3 t : Vec Ideal S1x3328 .f32) (ix2 0 k) = (m ((c : Thread nD τ).loc main_arg2) : Vec Ideal S3328 .f32) (ix1 k) := by
  obtain ⟨-, -, -, ⟨e0, e1⟩, -⟩ := idx_a t
  unfold iblk
  rw [View.read_apply, ← V_v6 m c k]
  show (V m c main_v6 : Vec Ideal _ .f32) _ = _
  congr 1
  funext a
  apply Fin.ext
  match a with
  | ⟨0, _⟩ => show win0_3.index t 0 * 1 + 1 * 0 = 0; rw [e0]
  | ⟨1, _⟩ => show win0_3.index t 1 * 3328 + 1 * k.val = k.val; rw [e1]; omega

/-- A gain. -/
theorem iblk4 (k : Fin 1024) :
    (iblk m c 4 t : Vec Ideal S1x1024 .f32) (ix2 0 k) = (m ((c : Thread nD τ).loc main_arg3) : Vec Ideal S64 .f32) (ix1 ⟨k.val % 64, Nat.mod_lt _ (by decide)⟩) := by
  obtain ⟨-, -, -, -, ⟨e0, e1⟩, -⟩ := idx_a t
  unfold iblk
  rw [View.read_apply, ← V_v10 m c k]
  show (V m c main_v10 : Vec Ideal _ .f32) _ = _
  congr 1
  funext a
  apply Fin.ext
  match a with
  | ⟨0, _⟩ => show win0_4.index t 0 * 1 + 1 * 0 = 0; rw [e0]
  | ⟨1, _⟩ => show win0_4.index t 1 * 1024 + 1 * k.val = k.val; rw [e1]; omega

/-- A gain. -/
theorem iblk5 (k : Fin 1024) :
    (iblk m c 5 t : Vec Ideal S1x1024 .f32) (ix2 0 k) = (m ((c : Thread nD τ).loc main_arg4) : Vec Ideal S64 .f32) (ix1 ⟨k.val % 64, Nat.mod_lt _ (by decide)⟩) := by
  obtain ⟨-, -, -, -, -, ⟨e0, e1⟩, -⟩ := idx_a t
  unfold iblk
  rw [View.read_apply, ← V_v14 m c k]
  show (V m c main_v14 : Vec Ideal _ .f32) _ = _
  congr 1
  funext a
  apply Fin.ext
  match a with
  | ⟨0, _⟩ => show win0_5.index t 0 * 1 + 1 * 0 = 0; rw [e0]
  | ⟨1, _⟩ => show win0_5.index t 1 * 1024 + 1 * k.val = k.val; rw [e1]; omega

/-- A vector argument. -/
theorem iblk6 (k : Fin 1024) :
    (iblk m c 6 t : Vec Ideal S1x1024 .f32) (ix2 0 k) = (m ((c : Thread nD τ).loc main_arg5) : Vec Ideal S1024 .f32) (ix1 k) := by
  obtain ⟨-, -, -, -, -, -, ⟨e0, e1⟩, -⟩ := idx_a t
  unfold iblk
  rw [View.read_apply, ← V_v15 m c k]
  show (V m c main_v15 : Vec Ideal _ .f32) _ = _
  congr 1
  funext a
  apply Fin.ext
  match a with
  | ⟨0, _⟩ => show win0_6.index t 0 * 1 + 1 * 0 = 0; rw [e0]
  | ⟨1, _⟩ => show win0_6.index t 1 * 1024 + 1 * k.val = k.val; rw [e1]; omega

/-- A weight. -/
theorem iblk7 (k : Fin 64) (j : Fin 1024) :
    (iblk m c 7 t : Vec Ideal S64x1024 .bf16) (ix2 k j) = (m ((c : Thread nD τ).loc main_arg6) : Vec Ideal S64x1024 .f32) (ix2 k j) := by
  obtain ⟨-, -, -, -, -, -, -, ⟨e0, e1⟩⟩ := idx_a t
  unfold iblk
  rw [View.read_apply, ← V_v16 m c]
  show (V m c main_v16 : Vec Ideal _ .bf16) _ = _
  congr 1
  funext a
  apply Fin.ext
  match a with
  | ⟨0, _⟩ => show win0_7.index t 0 * 64 + 1 * k.val = k.val; rw [e0]; omega
  | ⟨1, _⟩ => show win0_7.index t 1 * 1024 + 1 * j.val = j.val; rw [e1]; omega

/-- A vector argument. -/
theorem iblk8 (k : Fin 1024) :
    (iblk m c 8 t : Vec Ideal S1x1024 .f32) (ix2 0 k) = (m ((c : Thread nD τ).loc main_arg7) : Vec Ideal S1024 .f32) (ix1 k) := by
  obtain ⟨⟨e0, e1⟩, -⟩ := idx_b t
  unfold iblk
  rw [View.read_apply, ← V_v17 m c k]
  show (V m c main_v17 : Vec Ideal _ .f32) _ = _
  congr 1
  funext a
  apply Fin.ext
  match a with
  | ⟨0, _⟩ => show win0_8.index t 0 * 1 + 1 * 0 = 0; rw [e0]
  | ⟨1, _⟩ => show win0_8.index t 1 * 1024 + 1 * k.val = k.val; rw [e1]; omega

/-- A weight. -/
theorem iblk9 (k : Fin 64) (j : Fin 1024) :
    (iblk m c 9 t : Vec Ideal S64x1024 .bf16) (ix2 k j) = (m ((c : Thread nD τ).loc main_arg8) : Vec Ideal S64x1024 .f32) (ix2 k j) := by
  obtain ⟨-, ⟨e0, e1⟩, -⟩ := idx_b t
  unfold iblk
  rw [View.read_apply, ← V_v18 m c]
  show (V m c main_v18 : Vec Ideal _ .bf16) _ = _
  congr 1
  funext a
  apply Fin.ext
  match a with
  | ⟨0, _⟩ => show win0_9.index t 0 * 64 + 1 * k.val = k.val; rw [e0]; omega
  | ⟨1, _⟩ => show win0_9.index t 1 * 1024 + 1 * j.val = j.val; rw [e1]; omega

/-- A weight. -/
theorem iblk10 (k : Fin 128) (j : Fin 1024) :
    (iblk m c 10 t : Vec Ideal S128x1024 .bf16) (ix2 k j) = (m ((c : Thread nD τ).loc main_arg9) : Vec Ideal S128x1024 .f32) (ix2 k j) := by
  obtain ⟨-, -, ⟨e0, e1⟩, -⟩ := idx_b t
  unfold iblk
  rw [View.read_apply, ← V_v19 m c]
  show (V m c main_v19 : Vec Ideal _ .bf16) _ = _
  congr 1
  funext a
  apply Fin.ext
  match a with
  | ⟨0, _⟩ => show win0_10.index t 0 * 128 + 1 * k.val = k.val; rw [e0]; omega
  | ⟨1, _⟩ => show win0_10.index t 1 * 1024 + 1 * j.val = j.val; rw [e1]; omega

/-- A vector argument. -/
theorem iblk11 (k : Fin 1024) :
    (iblk m c 11 t : Vec Ideal S1x1024 .f32) (ix2 0 k) = (m ((c : Thread nD τ).loc main_arg10) : Vec Ideal S1024 .f32) (ix1 k) := by
  obtain ⟨-, -, -, ⟨e0, e1⟩, -⟩ := idx_b t
  unfold iblk
  rw [View.read_apply, ← V_v20 m c k]
  show (V m c main_v20 : Vec Ideal _ .f32) _ = _
  congr 1
  funext a
  apply Fin.ext
  match a with
  | ⟨0, _⟩ => show win0_11.index t 0 * 1 + 1 * 0 = 0; rw [e0]
  | ⟨1, _⟩ => show win0_11.index t 1 * 1024 + 1 * k.val = k.val; rw [e1]; omega

/-- A vector argument. -/
theorem iblk12 (k : Fin 1024) :
    (iblk m c 12 t : Vec Ideal S1x1024 .f32) (ix2 0 k) = (m ((c : Thread nD τ).loc main_arg11) : Vec Ideal S1024 .f32) (ix1 k) := by
  obtain ⟨-, -, -, -, ⟨e0, e1⟩, -⟩ := idx_b t
  unfold iblk
  rw [View.read_apply, ← V_v21 m c k]
  show (V m c main_v21 : Vec Ideal _ .f32) _ = _
  congr 1
  funext a
  apply Fin.ext
  match a with
  | ⟨0, _⟩ => show win0_12.index t 0 * 1 + 1 * 0 = 0; rw [e0]
  | ⟨1, _⟩ => show win0_12.index t 1 * 1024 + 1 * k.val = k.val; rw [e1]; omega

/-- The 0/1 matrix of heads. -/
theorem iblk13 (k : Fin 1024) (l : Fin 128) :
    (iblk m c 13 t : Vec Ideal S1024x128 .bf16) (ix2 k l) = if k.val / 64 = l.val then (1 : EReal) else 0 := by
  obtain ⟨-, -, -, -, -, ⟨e0, e1⟩, -⟩ := idx_b t
  unfold iblk
  rw [View.read_apply, ← V_heads m c k l]
  show (V m c main_v4 : Vec Ideal _ .bf16) _ = _
  congr 1
  funext a
  apply Fin.ext
  match a with
  | ⟨0, _⟩ => show win0_13.index t 0 * 1024 + 1 * k.val = k.val; rw [e0]; omega
  | ⟨1, _⟩ => show win0_13.index t 1 * 128 + 1 * l.val = l.val; rw [e1]; omega

/-- Its transpose. -/
theorem iblk14 (l : Fin 128) (k : Fin 1024) :
    (iblk m c 14 t : Vec Ideal S128x1024 .bf16) (ix2 l k) = if k.val / 64 = l.val then (1 : EReal) else 0 := by
  obtain ⟨-, -, -, -, -, -, ⟨e0, e1⟩⟩ := idx_b t
  unfold iblk
  rw [View.read_apply, ← V_headsT m c l k]
  show (V m c main_v5 : Vec Ideal _ .bf16) _ = _
  congr 1
  funext a
  apply Fin.ext
  match a with
  | ⟨0, _⟩ => show win0_14.index t 0 * 128 + 1 * l.val = l.val; rw [e0]; omega
  | ⟨1, _⟩ => show win0_14.index t 1 * 1024 + 1 * k.val = k.val; rw [e1]; omega

/-- An entry of a result array is its tile's, at its place in the tile. -/
theorem result15 (r : Fin 128) (j : Fin 1024) (R : Fin 9216) (hR : R.val = 128 * t.val + r.val) :
    ((dats m 0 c).arrAt 15 cfg0.N : Vec Ideal S9216x1024 .f32) (ix2 R j) = out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r j) := by
  obtain ⟨⟨e0, e1⟩, -⟩ := idx_c t
  have h := congrFun (blocks15 m c t (flush0_15 t)) (ix2 r j)
  rw [flushed15, View.read_apply] at h
  have he : ((cfg0.win 15).blk t).view.emb (ix2 r j) = ix2 R j := by
    funext a
    apply Fin.ext
    match a with
    | ⟨0, _⟩ => show win0_15.index t 0 * 128 + 1 * r.val = R.val; rw [e0, hR]; omega
    | ⟨1, _⟩ => show win0_15.index t 1 * 1024 + 1 * j.val = j.val; rw [e1]; omega
  rw [he] at h
  refine h.trans ?_
  show out0_15 _ _ _ _ _ _ _ _ _ _ _ _ _ _ _ _ ((cfg0.win 15).xinj (grid0.coords t) (ix2 r j)) = _
  congr 1

/-- An entry of a result array is its tile's, at its place in the tile. -/
theorem result16 (r : Fin 128) (j : Fin 1024) (R : Fin 9216) (hR : R.val = 128 * t.val + r.val) :
    ((dats m 0 c).arrAt 16 cfg0.N : Vec Ideal S9216x1024 .f32) (ix2 R j) = out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r j) := by
  obtain ⟨-, ⟨e0, e1⟩, -⟩ := idx_c t
  have h := congrFun (blocks16 m c t (flush0_16 t)) (ix2 r j)
  rw [flushed16, View.read_apply] at h
  have he : ((cfg0.win 16).blk t).view.emb (ix2 r j) = ix2 R j := by
    funext a
    apply Fin.ext
    match a with
    | ⟨0, _⟩ => show win0_16.index t 0 * 128 + 1 * r.val = R.val; rw [e0, hR]; omega
    | ⟨1, _⟩ => show win0_16.index t 1 * 1024 + 1 * j.val = j.val; rw [e1]; omega
  rw [he] at h
  refine h.trans ?_
  show out0_16 _ _ _ _ _ _ _ _ _ _ _ _ _ _ _ _ ((cfg0.win 16).xinj (grid0.coords t) (ix2 r j)) = _
  congr 1

/-- An entry of a result array is its tile's, at its place in the tile. -/
theorem result17 (r : Fin 128) (j : Fin 1024) (R : Fin 9216) (hR : R.val = 128 * t.val + r.val) :
    ((dats m 0 c).arrAt 17 cfg0.N : Vec Ideal S9216x1024 .f32) (ix2 R j) = out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r j) := by
  obtain ⟨-, -, ⟨e0, e1⟩, -⟩ := idx_c t
  have h := congrFun (blocks17 m c t (flush0_17 t)) (ix2 r j)
  rw [flushed17, View.read_apply] at h
  have he : ((cfg0.win 17).blk t).view.emb (ix2 r j) = ix2 R j := by
    funext a
    apply Fin.ext
    match a with
    | ⟨0, _⟩ => show win0_17.index t 0 * 128 + 1 * r.val = R.val; rw [e0, hR]; omega
    | ⟨1, _⟩ => show win0_17.index t 1 * 1024 + 1 * j.val = j.val; rw [e1]; omega
  rw [he] at h
  refine h.trans ?_
  show out0_17 _ _ _ _ _ _ _ _ _ _ _ _ _ _ _ _ ((cfg0.win 17).xinj (grid0.coords t) (ix2 r j)) = _
  congr 1

/-- An entry of a result array is its tile's, at its place in the tile. -/
theorem result18 (r : Fin 128) (j : Fin 1024) (R : Fin 9216) (hR : R.val = 128 * t.val + r.val) :
    ((dats m 0 c).arrAt 18 cfg0.N : Vec Ideal S9216x1024 .f32) (ix2 R j) = out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r j) := by
  obtain ⟨-, -, -, ⟨e0, e1⟩, -⟩ := idx_c t
  have h := congrFun (blocks18 m c t (flush0_18 t)) (ix2 r j)
  rw [flushed18, View.read_apply] at h
  have he : ((cfg0.win 18).blk t).view.emb (ix2 r j) = ix2 R j := by
    funext a
    apply Fin.ext
    match a with
    | ⟨0, _⟩ => show win0_18.index t 0 * 128 + 1 * r.val = R.val; rw [e0, hR]; omega
    | ⟨1, _⟩ => show win0_18.index t 1 * 1024 + 1 * j.val = j.val; rw [e1]; omega
  rw [he] at h
  refine h.trans ?_
  show out0_18 _ _ _ _ _ _ _ _ _ _ _ _ _ _ _ _ ((cfg0.win 18).xinj (grid0.coords t) (ix2 r j)) = _
  congr 1

/-- An entry of a result array is its tile's, at its place in the tile. -/
theorem result19 (r : Fin 128) (j : Fin 1024) (R : Fin 9216) (hR : R.val = 128 * t.val + r.val) :
    ((dats m 0 c).arrAt 19 cfg0.N : Vec Ideal S9216x1024 .f32) (ix2 R j) = out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r j) := by
  obtain ⟨-, -, -, -, ⟨e0, e1⟩, -⟩ := idx_c t
  have h := congrFun (blocks19 m c t (flush0_19 t)) (ix2 r j)
  rw [flushed19, View.read_apply] at h
  have he : ((cfg0.win 19).blk t).view.emb (ix2 r j) = ix2 R j := by
    funext a
    apply Fin.ext
    match a with
    | ⟨0, _⟩ => show win0_19.index t 0 * 128 + 1 * r.val = R.val; rw [e0, hR]; omega
    | ⟨1, _⟩ => show win0_19.index t 1 * 1024 + 1 * j.val = j.val; rw [e1]; omega
  rw [he] at h
  refine h.trans ?_
  show out0_19 _ _ _ _ _ _ _ _ _ _ _ _ _ _ _ _ ((cfg0.win 19).xinj (grid0.coords t) (ix2 r j)) = _
  congr 1

/-- An entry of a result array is its tile's, at its place in the tile. -/
theorem result20 (r : Fin 128) (j : Fin 1024) (R : Fin 9216) (hR : R.val = 128 * t.val + r.val) :
    ((dats m 0 c).arrAt 20 cfg0.N : Vec Ideal S9216x1024 .f32) (ix2 R j) = out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r j) := by
  obtain ⟨-, -, -, -, -, ⟨e0, e1⟩, -⟩ := idx_c t
  have h := congrFun (blocks20 m c t (flush0_20 t)) (ix2 r j)
  rw [flushed20, View.read_apply] at h
  have he : ((cfg0.win 20).blk t).view.emb (ix2 r j) = ix2 R j := by
    funext a
    apply Fin.ext
    match a with
    | ⟨0, _⟩ => show win0_20.index t 0 * 128 + 1 * r.val = R.val; rw [e0, hR]; omega
    | ⟨1, _⟩ => show win0_20.index t 1 * 1024 + 1 * j.val = j.val; rw [e1]; omega
  rw [he] at h
  refine h.trans ?_
  show out0_20 _ _ _ _ _ _ _ _ _ _ _ _ _ _ _ _ ((cfg0.win 20).xinj (grid0.coords t) (ix2 r j)) = _
  congr 1

/-- An entry of a result array is its tile's, at its place in the tile. -/
theorem result21 (r : Fin 128) (j : Fin 1024) (R : Fin 9216) (hR : R.val = 128 * t.val + r.val) :
    ((dats m 0 c).arrAt 21 cfg0.N : Vec Ideal S9216x1024 .f32) (ix2 R j) = out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r j) := by
  obtain ⟨-, -, -, -, -, -, ⟨e0, e1⟩, -⟩ := idx_c t
  have h := congrFun (blocks21 m c t (flush0_21 t)) (ix2 r j)
  rw [flushed21, View.read_apply] at h
  have he : ((cfg0.win 21).blk t).view.emb (ix2 r j) = ix2 R j := by
    funext a
    apply Fin.ext
    match a with
    | ⟨0, _⟩ => show win0_21.index t 0 * 128 + 1 * r.val = R.val; rw [e0, hR]; omega
    | ⟨1, _⟩ => show win0_21.index t 1 * 1024 + 1 * j.val = j.val; rw [e1]; omega
  rw [he] at h
  refine h.trans ?_
  show out0_21 _ _ _ _ _ _ _ _ _ _ _ _ _ _ _ _ ((cfg0.win 21).xinj (grid0.coords t) (ix2 r j)) = _
  congr 1

/-- An entry of a result array is its tile's, at its place in the tile. -/
theorem result22 (r : Fin 128) (j : Fin 1024) (R : Fin 9216) (hR : R.val = 128 * t.val + r.val) :
    ((dats m 0 c).arrAt 22 cfg0.N : Vec Ideal S9216x1024 .f32) (ix2 R j) = out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r j) := by
  obtain ⟨-, -, -, -, -, -, -, ⟨e0, e1⟩, -⟩ := idx_c t
  have h := congrFun (blocks22 m c t (flush0_22 t)) (ix2 r j)
  rw [flushed22, View.read_apply] at h
  have he : ((cfg0.win 22).blk t).view.emb (ix2 r j) = ix2 R j := by
    funext a
    apply Fin.ext
    match a with
    | ⟨0, _⟩ => show win0_22.index t 0 * 128 + 1 * r.val = R.val; rw [e0, hR]; omega
    | ⟨1, _⟩ => show win0_22.index t 1 * 1024 + 1 * j.val = j.val; rw [e1]; omega
  rw [he] at h
  refine h.trans ?_
  show out0_22 _ _ _ _ _ _ _ _ _ _ _ _ _ _ _ _ ((cfg0.win 22).xinj (grid0.coords t) (ix2 r j)) = _
  congr 1

/-- An entry of a result array is its tile's, at its place in the tile. -/
theorem result23 (r : Fin 128) (j : Fin 1024) (R : Fin 9216) (hR : R.val = 128 * t.val + r.val) :
    ((dats m 0 c).arrAt 23 cfg0.N : Vec Ideal S9216x1024 .f32) (ix2 R j) = out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r j) := by
  obtain ⟨-, -, -, -, -, -, -, -, ⟨e0, e1⟩⟩ := idx_c t
  have h := congrFun (blocks23 m c t (flush0_23 t)) (ix2 r j)
  rw [flushed23, View.read_apply] at h
  have he : ((cfg0.win 23).blk t).view.emb (ix2 r j) = ix2 R j := by
    funext a
    apply Fin.ext
    match a with
    | ⟨0, _⟩ => show win0_23.index t 0 * 128 + 1 * r.val = R.val; rw [e0, hR]; omega
    | ⟨1, _⟩ => show win0_23.index t 1 * 1024 + 1 * j.val = j.val; rw [e1]; omega
  rw [he] at h
  refine h.trans ?_
  show out0_23 _ _ _ _ _ _ _ _ _ _ _ _ _ _ _ _ ((cfg0.win 23).xinj (grid0.coords t) (ix2 r j)) = _
  congr 1

end Cert.KernelMixIdeal.Value

end
-- ==== Proof.MixRef.lean ====
/-
  What the preparing call's reference computes, entry by entry, and the functions it is read down to.
-/
module

public import proofs.«01_k».proof.Defs
public import proofs.«01_k».proof.Proof.MixMath
public import Idealize.ShloMosaic.Lib.IdealHost
public import proofs.«01_k».proof.Proof.Gen.ReferenceMixIdeal.Run
public import proofs.«01_k».proof.Proof.Gen.ReferenceMixIdeal.Read

@[expose] public section

set_option maxRecDepth 16384

noncomputable section

open Idealize.ShloMosaic Idealize.ShloMosaic.TcCoe Idealize.SL.Sem

namespace Cert.Layer

/-- The recurrence's feature `J` of the row before row `R`: nothing where a prompt begins, the sample's state where a
    sample begins. -/
def before (P : Fin 9216 → Fin 6400 → EReal) (S : Fin 128 → Fin 3328 → EReal) (R : Fin 9216) (J : Fin 3328) : EReal :=
  if R.val < 8192 then (if R.val % 2048 = 0 then 0 else P ⟨R.val - 1, by omega⟩ ⟨3072 + J.val, by omega⟩)
  else if R.val % 8 = 0 then S ⟨(R.val - 8192) / 8, by omega⟩ J else P ⟨R.val - 1, by omega⟩ ⟨3072 + J.val, by omega⟩

/-- The recurrence's feature `J` of row `R`, mixed with the one of the row before. -/
def feat (P : Fin 9216 → Fin 6400 → EReal) (S : Fin 128 → Fin 3328 → EReal) (M : Fin 3328 → EReal) (R : Fin 9216) (J : Fin 3328) : EReal :=
  mixed (P R ⟨3072 + J.val, by omega⟩) (before P S R J) (M J)

/-- The in-context rate. -/
def rateOf (f : Fin 3328 → EReal) (b : Fin 1024 → EReal) (w : Fin 64 → Fin 1024 → EReal) (J : Fin 1024) : EReal :=
  Ideal.logistic (b J + ∑ k : Fin 64, f ⟨3136 + k.val, by omega⟩ * w k J)

end Cert.Layer

open Cert.Layer

namespace Cert.ReferenceMixIdeal.Read

variable (x0 : (⟨S9216x6400, .f32⟩ : BufTy).Contents (Elt Ideal)) (x1 : (⟨S128x3328, .f32⟩ : BufTy).Contents (Elt Ideal))
    (x2 : (⟨S3328, .f32⟩ : BufTy).Contents (Elt Ideal)) (x3 x4 : (⟨S64, .f32⟩ : BufTy).Contents (Elt Ideal))
    (x5 x7 x10 x11 : (⟨S1024, .f32⟩ : BufTy).Contents (Elt Ideal)) (x6 x8 : (⟨S64x1024, .f32⟩ : BufTy).Contents (Elt Ideal))
    (x9 : (⟨S128x1024, .f32⟩ : BufTy).Contents (Elt Ideal))

/-- The reference's mixed features. -/
abbrev ft (R : Fin 9216) (J : Fin 3328) : EReal := feat (fun R k => x0 (ix2 R k)) (fun n k => x1 (ix2 n k)) (fun k => x2 (ix1 k)) R J

theorem q_apply (R : Fin 9216) (J : Fin 1024) :
    val_main_v105 (F := Ideal) x0 x3 (ix2 R J)
      = headRms (fun k => x0 (ix2 R ⟨k.val, by omega⟩)) (x3 (ix1 ⟨J.val % 64, Nat.mod_lt _ (by decide)⟩)) J * Ideal.ofBits .f32 0x3E000000#32 := by
  unfold val_main_v105 val_main_v16 val_main_v15 val_main_cst_2 val_main_v14 val_main_v13 val_main_v12 val_main_v11 val_main_v10 val_main_v9 val_main_v8 val_main_v7
    val_main_cst_1 val_main_v6 val_main_v5 val_main_cst_0 val_main_v4 val_main_v3 val_main_cst val_main_v2 val_main_v1 val_main_v0
  pointwise
  rfl

theorem prompt_apply (b : Fin 4) (t : Fin 2048) (J : Fin 3328) :
    val_main_v38 (F := Ideal) x0 (ix3 b t J)
      = if t.val = 0 then (0 : EReal) else x0 (ix2 ⟨2048 * b.val + t.val - 1, by omega⟩ ⟨3072 + J.val, by omega⟩) := by
  unfold val_main_v38 val_main_v37 val_main_v36 val_main_v35 val_main_cst_6
  rw [concatenate_pair_apply]
  pointwise
  by_cases h : t.val = 0
  · rw [dif_pos (by omega), if_pos h]
  · rw [dif_neg (by omega), if_neg h]
    unfold val_main_v34 val_main_v33 val_main_v32
    pointwise
    refine congrArg x0 (congrArg₂ ix2 (Fin.ext ?_) rfl)
    show b.val * 2048 + (t.val - 1) = 2048 * b.val + t.val - 1
    omega

theorem sample_apply (n : Fin 128) (s : Fin 8) (J : Fin 3328) :
    val_main_v43 (F := Ideal) x0 x1 (ix3 n s J)
      = if s.val = 0 then (x1 (ix2 n J) : EReal) else x0 (ix2 ⟨8192 + 8 * n.val + s.val - 1, by omega⟩ ⟨3072 + J.val, by omega⟩) := by
  unfold val_main_v43 val_main_v42 val_main_v41
  rw [concatenate_pair_apply]
  pointwise
  by_cases h : s.val = 0
  · rw [dif_pos (by omega), if_pos h]
  · rw [dif_neg (by omega), if_neg h]
    unfold val_main_v40 val_main_v39 val_main_v32
    pointwise
    refine congrArg x0 (congrArg₂ ix2 (Fin.ext ?_) rfl)
    show 8192 + (n.val * 8 + (s.val - 1)) = 8192 + 8 * n.val + s.val - 1
    omega

theorem before_apply (R : Fin 9216) (J : Fin 3328) :
    val_main_v46 (F := Ideal) x0 x1 (ix2 R J) = before (fun R k => x0 (ix2 R k)) (fun n k => x1 (ix2 n k)) R J := by
  unfold val_main_v46 val_main_v45 val_main_v44
  rw [concatenate_pair_apply]
  pointwise
  simp only [prompt_apply, sample_apply]
  unfold before
  by_cases h : R.val < 8192
  · rw [dif_pos h, if_pos h]
    by_cases h' : R.val % 2048 = 0
    · rw [if_pos h', if_pos h']
    · rw [if_neg h', if_neg h']
      refine congrArg x0 (congrArg₂ ix2 (Fin.ext ?_) rfl)
      show 2048 * (R.val / 2048) + R.val % 2048 - 1 = R.val - 1
      omega
  · rw [dif_neg h, if_neg h]
    by_cases h' : R.val % 8 = 0
    · rw [if_pos (by omega), if_pos h']
    · rw [if_neg (by omega), if_neg h']
      refine congrArg x0 (congrArg₂ ix2 (Fin.ext ?_) rfl)
      show 8192 + 8 * ((R.val - 8192) / 8) + (R.val - 8192) % 8 - 1 = R.val - 1
      omega

theorem feat_apply (R : Fin 9216) (J : Fin 3328) : val_main_v51 (F := Ideal) x0 x1 x2 (ix2 R J) = ft x0 x1 x2 R J := by
  unfold val_main_v51 val_main_v50 val_main_v49 val_main_v48 val_main_v47 val_main_v32
  pointwise
  rw [before_apply]
  rfl

theorem lw_apply (R : Fin 9216) (J : Fin 1024) :
    val_main_v108 (F := Ideal) x0 x1 x2 x5 x6 (ix2 R J)
      = decayOf (x5 (ix1 J) + ∑ k : Fin 64, Ideal.tanh (ft x0 x1 x2 R ⟨3072 + k.val, by omega⟩) * x6 (ix2 k J)) := by
  unfold val_main_v108 val_main_v107 val_main_v67 val_main_v66 val_main_cst_7 val_main_v65 val_main_v64 val_main_call0_v11 val_main_call0_v10 val_main_call0_v9
    val_main_call0_v8 val_main_call0_v7 val_main_call0_v6 val_main_call0_v5 val_main_call0_v4 val_main_call0_v3 val_main_call0_v2 val_main_call0_v1 val_main_call0_v0
    val_main_call0_cst val_main_v63 val_main_v62 val_main_v61 val_main_v60 val_main_v59 val_main_v58 val_main_v55
  pointwise
  simp only [feat_apply]
  rw [if_neg (fun h => h rfl)]
  rfl

theorem rate_apply (R : Fin 9216) (J : Fin 1024) :
    val_main_v77 (F := Ideal) x0 x1 x2 x7 x8 (ix2 R J) = rateOf (ft x0 x1 x2 R) (fun j => x7 (ix1 j)) (fun k j => x8 (ix2 k j)) J := by
  unfold val_main_v77 val_main_v76 val_main_cst_9 val_main_v75 val_main_v74 val_main_cst_8 val_main_v73 val_main_v72 val_main_v71 val_main_v70 val_main_v69 val_main_v68
    val_main_v56
  pointwise
  simp only [feat_apply]
  rfl

theorem g_apply (R : Fin 9216) (J : Fin 1024) :
    val_main_v84 (F := Ideal) x0 x1 x2 x9 (ix2 R J)
      = ∑ k : Fin 128, Ideal.logistic (ft x0 x1 x2 R ⟨3200 + k.val, by omega⟩) * x9 (ix2 k J) := by
  unfold val_main_v84 val_main_v83 val_main_v82 val_main_cst_11 val_main_v81 val_main_v80 val_main_cst_10 val_main_v79 val_main_v78 val_main_v57
  pointwise
  simp only [feat_apply]
  rfl

theorem kk_apply (R : Fin 9216) (J : Fin 1024) :
    val_main_v111 (F := Ideal) x0 x1 x2 x10 (ix2 R J) = headUnit (fun k => ft x0 x1 x2 R ⟨1024 + k.val, by omega⟩ * x10 (ix1 k)) J := by
  unfold val_main_v111 val_main_v96 val_main_v95 val_main_v94 val_main_v93 val_main_v92 val_main_cst_13 val_main_v91 val_main_v90 val_main_cst_12 val_main_v89 val_main_v88
    val_main_v87 val_main_v86 val_main_v85 val_main_v53
  pointwise
  simp only [feat_apply]
  rfl

theorem k_apply (R : Fin 9216) (J : Fin 1024) :
    val_main_v106 (F := Ideal) x0 x4 (ix2 R J)
      = headRms (fun k => x0 (ix2 R ⟨1024 + k.val, by omega⟩)) (x4 (ix1 ⟨J.val % 64, Nat.mod_lt _ (by decide)⟩)) J := by
  unfold val_main_v106 val_main_v31 val_main_v30 val_main_v29 val_main_v28 val_main_v27 val_main_v26 val_main_v25 val_main_v24 val_main_cst_5 val_main_v23 val_main_v22
    val_main_cst_4 val_main_v21 val_main_v20 val_main_cst_3 val_main_v19 val_main_v18 val_main_v17
  pointwise
  rfl

theorem r_apply (R : Fin 9216) (J : Fin 1024) : val_main_v52 (F := Ideal) x0 x1 x2 (ix2 R J) = ft x0 x1 x2 R ⟨J.val, by omega⟩ := by
  unfold val_main_v52
  pointwise
  simp only [feat_apply]

theorem kr_apply (R : Fin 9216) (J : Fin 1024) : val_main_v53 (F := Ideal) x0 x1 x2 (ix2 R J) = ft x0 x1 x2 R ⟨1024 + J.val, by omega⟩ := by
  unfold val_main_v53
  pointwise
  simp only [feat_apply]

theorem v_apply (R : Fin 9216) (J : Fin 1024) : val_main_v54 (F := Ideal) x0 x1 x2 (ix2 R J) = ft x0 x1 x2 R ⟨2048 + J.val, by omega⟩ := by
  unfold val_main_v54
  pointwise
  simp only [feat_apply]

theorem k2_apply (R : Fin 9216) (J : Fin 1024) :
    val_main_v104 (F := Ideal) x0 x1 x2 x7 x8 x11 (ix2 R J)
      = ft x0 x1 x2 R ⟨1024 + J.val, by omega⟩
        * (1 + (rateOf (ft x0 x1 x2 R) (fun j => x7 (ix1 j)) (fun k j => x8 (ix2 k j)) J - 1) * x11 (ix1 J)) := by
  unfold val_main_v104 val_main_v103 val_main_v102 val_main_cst_15 val_main_v101 val_main_v100 val_main_v99 val_main_v98 val_main_v97 val_main_cst_14
  pointwise
  simp only [kr_apply, rate_apply]

theorem a_apply (R : Fin 9216) (J : Fin 1024) :
    val_main_v110 (F := Ideal) x0 x1 x2 x10 (ix2 R J) = -headUnit (fun k => ft x0 x1 x2 R ⟨1024 + k.val, by omega⟩ * x10 (ix1 k)) J := by
  rw [← kk_apply]
  unfold val_main_v110 val_main_v109 val_main_v111
  pointwise

theorem b_apply (R : Fin 9216) (J : Fin 1024) :
    val_main_v112 (F := Ideal) x0 x1 x2 x7 x8 x10 (ix2 R J)
      = headUnit (fun k => ft x0 x1 x2 R ⟨1024 + k.val, by omega⟩ * x10 (ix1 k)) J
        * rateOf (ft x0 x1 x2 R) (fun j => x7 (ix1 j)) (fun k j => x8 (ix2 k j)) J := by
  unfold val_main_v112
  pointwise
  simp only [kk_apply, rate_apply]

end Cert.ReferenceMixIdeal.Read

end
-- ==== Proof.MixOut.lean ====
/-
  What a tile of the preparing call leaves in each of its nine results, in terms of the call's arguments.
-/
module

public import proofs.«01_k».proof.Proof.MixPay
public import proofs.«01_k».proof.Proof.MixWin
public import proofs.«01_k».proof.Proof.MixRef

@[expose] public section

set_option maxRecDepth 16384

noncomputable section

open Idealize.ShloMosaic Idealize.ShloMosaic.TcCoe Idealize.SL.Sem
open Cert.Layer

namespace Cert.KernelMixIdeal.Value
open Cert.KernelMixIdeal Cert.KernelMixIdeal.Gen

theorem ld2 (x : Vec Ideal S128x6400 .f32) (r : Fin 128) (j : Fin 1024) : View.ld x r0_2 (ix2 r j) = x (ix2 r ⟨j.val, by omega⟩) := by
  pointwise

theorem ld4 (x : Vec Ideal S128x6400 .f32) (r : Fin 128) (j : Fin 1024) : View.ld x r0_4 (ix2 r j) = x (ix2 r ⟨1024 + j.val, by omega⟩) := by
  pointwise

theorem ld5 (x : Vec Ideal S128x6400 .f32) (r : Fin 128) (j : Fin 1024) : View.ld x r0_5 (ix2 r j) = x (ix2 r ⟨3072 + j.val, by omega⟩) := by
  pointwise

theorem ld9 (x : Vec Ideal S128x6400 .f32) (r : Fin 128) (j : Fin 1024) : View.ld x r0_9 (ix2 r j) = x (ix2 r ⟨3072 + (1024 + j.val), by omega⟩) := by
  have e : View.ld x r0_9 (ix2 r j) = x (ix2 r ⟨4096 + j.val, by omega⟩) := by pointwise
  exact e.trans (congrArg (fun k => x (ix2 r k)) (Fin.ext (by show 4096 + j.val = 3072 + (1024 + j.val); omega)))

theorem ld13 (x : Vec Ideal S128x6400 .f32) (r : Fin 128) (j : Fin 1024) : View.ld x r0_13 (ix2 r j) = x (ix2 r ⟨3072 + (2048 + j.val), by omega⟩) := by
  have e : View.ld x r0_13 (ix2 r j) = x (ix2 r ⟨5120 + j.val, by omega⟩) := by pointwise
  exact e.trans (congrArg (fun k => x (ix2 r k)) (Fin.ext (by show 5120 + j.val = 3072 + (2048 + j.val); omega)))

theorem ld17 (x : Vec Ideal S128x6400 .f32) (r : Fin 128) (j : Fin 256) : View.ld x r0_17 (ix2 r j) = x (ix2 r ⟨3072 + (3072 + j.val), by omega⟩) := by
  have e : View.ld x r0_17 (ix2 r j) = x (ix2 r ⟨6144 + j.val, by omega⟩) := by pointwise
  exact e.trans (congrArg (fun k => x (ix2 r k)) (Fin.ext (by show 6144 + j.val = 3072 + (3072 + j.val); omega)))

theorem ld6 (x : Vec Ideal S8x6400 .f32) (j : Fin 1024) : View.ld x r0_6 (ix2 0 j) = x (ix2 7 ⟨3072 + j.val, by omega⟩) := by
  pointwise

theorem ld10 (x : Vec Ideal S8x6400 .f32) (j : Fin 1024) : View.ld x r0_10 (ix2 0 j) = x (ix2 7 ⟨3072 + (1024 + j.val), by omega⟩) := by
  have e : View.ld x r0_10 (ix2 0 j) = x (ix2 7 ⟨4096 + j.val, by omega⟩) := by pointwise
  exact e.trans (congrArg (fun k => x (ix2 7 k)) (Fin.ext (by show 4096 + j.val = 3072 + (1024 + j.val); omega)))

theorem ld14 (x : Vec Ideal S8x6400 .f32) (j : Fin 1024) : View.ld x r0_14 (ix2 0 j) = x (ix2 7 ⟨3072 + (2048 + j.val), by omega⟩) := by
  have e : View.ld x r0_14 (ix2 0 j) = x (ix2 7 ⟨5120 + j.val, by omega⟩) := by pointwise
  exact e.trans (congrArg (fun k => x (ix2 7 k)) (Fin.ext (by show 5120 + j.val = 3072 + (2048 + j.val); omega)))

theorem ld18 (x : Vec Ideal S8x6400 .f32) (j : Fin 256) : View.ld x r0_18 (ix2 0 j) = x (ix2 7 ⟨3072 + (3072 + j.val), by omega⟩) := by
  have e : View.ld x r0_18 (ix2 0 j) = x (ix2 7 ⟨6144 + j.val, by omega⟩) := by pointwise
  exact e.trans (congrArg (fun k => x (ix2 7 k)) (Fin.ext (by show 6144 + j.val = 3072 + (3072 + j.val); omega)))

theorem ld7 (x : Vec Ideal S16x3328 .f32) (r : Fin 16) (j : Fin 1024) : View.ld x r0_7 (ix2 r j) = x (ix2 r ⟨j.val, by omega⟩) := by
  pointwise

theorem ld11 (x : Vec Ideal S16x3328 .f32) (r : Fin 16) (j : Fin 1024) : View.ld x r0_11 (ix2 r j) = x (ix2 r ⟨1024 + j.val, by omega⟩) := by
  pointwise

theorem ld15 (x : Vec Ideal S16x3328 .f32) (r : Fin 16) (j : Fin 1024) : View.ld x r0_15 (ix2 r j) = x (ix2 r ⟨2048 + j.val, by omega⟩) := by
  pointwise

theorem ld19 (x : Vec Ideal S16x3328 .f32) (r : Fin 16) (j : Fin 256) : View.ld x r0_19 (ix2 r j) = x (ix2 r ⟨3072 + j.val, by omega⟩) := by
  pointwise

theorem ld8 (x : Vec Ideal S1x3328 .f32) (j : Fin 1024) : View.ld x r0_8 (ix2 0 j) = x (ix2 0 ⟨j.val, by omega⟩) := by
  pointwise

theorem ld12 (x : Vec Ideal S1x3328 .f32) (j : Fin 1024) : View.ld x r0_12 (ix2 0 j) = x (ix2 0 ⟨1024 + j.val, by omega⟩) := by
  pointwise

theorem ld16 (x : Vec Ideal S1x3328 .f32) (j : Fin 1024) : View.ld x r0_16 (ix2 0 j) = x (ix2 0 ⟨2048 + j.val, by omega⟩) := by
  pointwise

theorem ld20 (x : Vec Ideal S1x3328 .f32) (j : Fin 256) : View.ld x r0_20 (ix2 0 j) = x (ix2 0 ⟨3072 + j.val, by omega⟩) := by
  pointwise

/-- The bit of the sample tiles. -/
theorem sample_bit : ∀ t : Fin grid0.N, Scalar.cmpi .sge (BitVec.ofNat 32 (grid0.coords t 0).val) 64#32 = if 64 ≤ t.val then 1#1 else 0#1 := by
  decide +kernel

/-- The mixing read from a tile's windows. -/
def tileFeat (t : ℕ) (x0 : Vec Ideal S128x6400 .f32) (x1 : Vec Ideal S8x6400 .f32) (x2 : Vec Ideal S16x3328 .f32) (x3 : Vec Ideal S1x3328 .f32)
    (r : Fin 128) (J : Fin 3328) : EReal :=
  mixed (x0 (ix2 r ⟨3072 + J.val, by omega⟩))
    (prevRow t r (fun r => x0 (ix2 r ⟨3072 + J.val, by omega⟩)) (x1 (ix2 7 ⟨3072 + J.val, by omega⟩)) (fun n => x2 (ix2 n J))) (x3 (ix2 0 J))

theorem same_mixed (t : ℕ) (r : Fin 128) {f f' : Fin 128 → EReal} {b b' : EReal} {g g' : Fin 16 → EReal} {u u' : EReal} (hf : ∀ r, f r = f' r)
    (hb : b = b') (hg : ∀ n, g n = g' n) (hu : u = u') : mixed (f r) (prevRow t r f b g) u = mixed (f' r) (prevRow t r f' b' g') u' := by
  obtain rfl := funext hf
  obtain rfl := funext hg
  rw [hb, hu]

theorem ld3 (x : Vec Ideal S1x1024 .f32) (j : Fin 1024) : View.ld x r0_3 (ix2 0 j) = x (ix2 0 j) := by
  rw [View.ld_unit_zero (S := S1x1024) off2]
theorem ld21 (x : Vec Ideal S64x1024 .bf16) (k : Fin 64) (j : Fin 1024) : View.ld x r0_21 (ix2 k j) = x (ix2 k j) := by
  rw [View.ld_unit_zero (S := S64x1024) off2]
theorem ld1 (x : Vec Ideal S128x1024 .bf16) (k : Fin 128) (j : Fin 1024) : View.ld x r0_1 (ix2 k j) = x (ix2 k j) := by
  rw [View.ld_unit_zero (S := S128x1024) off2]

section tiles
variable (t : Fin grid0.N) (x0 : Vec Ideal S128x6400 .f32) (x1 : Vec Ideal S8x6400 .f32) (x2 : Vec Ideal S16x3328 .f32) (x3 : Vec Ideal S1x3328 .f32)
    (x4 x5 x6 : Vec Ideal S1x1024 .f32) (x7 : Vec Ideal S64x1024 .bf16) (x8 : Vec Ideal S1x1024 .f32) (x9 : Vec Ideal S64x1024 .bf16)
    (x10 : Vec Ideal S128x1024 .bf16) (x11 x12 : Vec Ideal S1x1024 .f32) (x13 : Vec Ideal S1024x128 .bf16) (x14 : Vec Ideal S128x1024 .bf16)
    (hs : ∀ (n : Fin 16) (k : Fin 3328), IsNum (x2 (ix2 n k))) (hx : ∀ (r : Fin 128) (k : Fin 6400), IsNum (x0 (ix2 r k)))
    (h13 : ∀ (k : Fin 1024) (l : Fin 128), x13 (ix2 k l) = if k.val / 64 = l.val then (1 : EReal) else 0)
    (h14 : ∀ (l : Fin 128) (k : Fin 1024), x14 (ix2 l k) = if k.val / 64 = l.val then (1 : EReal) else 0)
    (r : Fin 128)

include hs in
/-- The receptance. -/
theorem tile17 (j : Fin 1024) : out0_17 (grid0.coords t) x0 x1 x2 x3 x4 x5 x6 x7 x8 x9 x10 x11 x12 x13 x14 (ix2 r j) = tileFeat t.val x0 x1 x2 x3 r ⟨j.val, by omega⟩ := by
  unfold out0_17 k0_pay53 k0_pay52 k0_pay49
  rw [View.canon_unit_zero off2]
  refine (pay21_apply t.val _ (sample_bit t) _ (pay6_apply t) _ pay7_apply _ pay12_apply (View.ld x0 r0_5) (View.ld x1 r0_6)
    (View.ld x2 r0_7) (View.ld x3 r0_8) (fun n j => by rw [ld7]; exact hs _ _) r j).trans ?_
  exact same_mixed t.val r (fun r => ld5 x0 r j) (ld6 x1 j) (fun n => ld7 x2 n j) (ld8 x3 j)

include hs in
/-- The recurrence's key. -/
theorem tileKrow (j : Fin 1024) : k0_pay54 (grid0.coords t) x0 x1 x2 x3 x4 x5 x6 x7 x8 x9 x10 x11 x12 x13 x14 (ix2 r j) = tileFeat t.val x0 x1 x2 x3 r ⟨1024 + j.val, by omega⟩ := by
  unfold k0_pay54 k0_pay53 k0_pay52 k0_pay49
  refine (pay28_apply t.val _ (sample_bit t) _ (pay6_apply t) _ pay7_apply _ pay12_apply (View.ld x0 r0_9) (View.ld x1 r0_10)
    (View.ld x2 r0_11) (View.ld x3 r0_12) (fun n j => by rw [ld11]; exact hs _ _) r j).trans ?_
  exact same_mixed t.val r (fun r => ld9 x0 r j) (ld10 x1 j) (fun n => ld11 x2 n j) (ld12 x3 j)

include hs in
/-- The recurrence's value. -/
theorem tile20 (j : Fin 1024) : out0_20 (grid0.coords t) x0 x1 x2 x3 x4 x5 x6 x7 x8 x9 x10 x11 x12 x13 x14 (ix2 r j) = tileFeat t.val x0 x1 x2 x3 r ⟨2048 + j.val, by omega⟩ := by
  unfold out0_20 k0_pay53 k0_pay52 k0_pay49
  rw [View.canon_unit_zero off2]
  refine (pay36_apply t.val _ (sample_bit t) _ (pay6_apply t) _ pay7_apply _ pay12_apply (View.ld x0 r0_13) (View.ld x1 r0_14)
    (View.ld x2 r0_15) (View.ld x3 r0_16) (fun n j => by rw [ld15]; exact hs _ _) r j).trans ?_
  exact same_mixed t.val r (fun r => ld13 x0 r j) (ld14 x1 j) (fun n => ld15 x2 n j) (ld16 x3 j)

include hs in
/-- The low-rank features. -/
theorem tileLow (j : Fin 256) : k0_pay38 (F := Ideal) (View.ld x0 r0_17) (k0_pay55 (grid0.coords t) x0 x1 x2 x3 x4 x5 x6 x7 x8 x9 x10 x11 x12 x13 x14) (View.ld x3 r0_20) (ix2 r j) = tileFeat t.val x0 x1 x2 x3 r ⟨3072 + j.val, by omega⟩ := by
  unfold k0_pay55 k0_pay53 k0_pay52 k0_pay49
  refine (pay38_apply t.val _ (sample_bit t) _ (pay6_apply t) _ pay7_apply _ pay12_apply (View.ld x0 r0_17) (View.ld x1 r0_18)
    (View.ld x2 r0_19) (View.ld x3 r0_20) (fun n j => by rw [ld19]; exact hs _ _) r j).trans ?_
  exact same_mixed t.val r (fun r => ld17 x0 r j) (ld18 x1 j) (fun n => ld19 x2 n j) (ld20 x3 j)

include h13 in
theorem heads_blk (k : Fin 1024) (l : Fin 128) : k0_pay50 (grid0.coords t) x0 x1 x2 x3 x4 x5 x6 x7 x8 x9 x10 x11 x12 x13 x14 (ix2 k l) = if k.val / 64 = l.val then (1 : EReal) else 0 := by
  unfold k0_pay50 k0_pay4
  rw [View.ld_unit_zero (S := S1024x128) off2, ← h13 k l]
  pointwise

include h14 in
theorem headsT_blk (l : Fin 128) (k : Fin 1024) : k0_pay51 (grid0.coords t) x0 x1 x2 x3 x4 x5 x6 x7 x8 x9 x10 x11 x12 x13 x14 (ix2 l k) = if k.val / 64 = l.val then (1 : EReal) else 0 := by
  unfold k0_pay51 k0_pay5
  rw [View.ld_unit_zero (S := S128x1024) off2, ← h14 l k]
  pointwise

include hx h13 h14 in
/-- The query. -/
theorem tile15 (j : Fin 1024) : out0_15 (grid0.coords t) x0 x1 x2 x3 x4 x5 x6 x7 x8 x9 x10 x11 x12 x13 x14 (ix2 r j)
    = headRms (fun k => x0 (ix2 r ⟨k.val, by omega⟩)) (x4 (ix2 0 j)) j * Ideal.ofBits .f32 0x3E000000#32 := by
  unfold out0_15
  rw [View.canon_unit_zero off2]
  refine (pay13_apply _ _ (heads_blk t x0 x1 x2 x3 x4 x5 x6 x7 x8 x9 x10 x11 x12 x13 x14 h13) (headsT_blk t x0 x1 x2 x3 x4 x5 x6 x7 x8 x9 x10 x11 x12 x13 x14 h14) (View.ld x0 r0_2) (View.ld x4 r0_3)
    (fun r k => by rw [ld2]; exact hx _ _) r j).trans ?_
  exact congrArg₂ (fun f g => headRms f g j * Ideal.ofBits .f32 0x3E000000#32) (funext fun k => ld2 x0 r k) (ld3 x4 j)

include hx h13 h14 in
/-- The key. -/
theorem tile16 (j : Fin 1024) : out0_16 (grid0.coords t) x0 x1 x2 x3 x4 x5 x6 x7 x8 x9 x10 x11 x12 x13 x14 (ix2 r j)
    = headRms (fun k => x0 (ix2 r ⟨1024 + k.val, by omega⟩)) (x5 (ix2 0 j)) j := by
  unfold out0_16
  rw [View.canon_unit_zero off2]
  refine (pay17_apply _ _ (heads_blk t x0 x1 x2 x3 x4 x5 x6 x7 x8 x9 x10 x11 x12 x13 x14 h13) (headsT_blk t x0 x1 x2 x3 x4 x5 x6 x7 x8 x9 x10 x11 x12 x13 x14 h14) (View.ld x0 r0_4) (View.ld x5 r0_3)
    (fun r k => by rw [ld4]; exact hx _ _) r j).trans ?_
  exact congrArg₂ (fun f g => headRms f g j) (funext fun k => ld4 x0 r k) (ld3 x5 j)

include hs in
/-- The decay. -/
theorem tile18 (j : Fin 1024) : out0_18 (grid0.coords t) x0 x1 x2 x3 x4 x5 x6 x7 x8 x9 x10 x11 x12 x13 x14 (ix2 r j)
    = decayOf (x6 (ix2 0 j) + ∑ k : Fin 64, Ideal.tanh (tileFeat t.val x0 x1 x2 x3 r ⟨3072 + k.val, by omega⟩) * x7 (ix2 k j)) := by
  unfold out0_18
  rw [View.canon_unit_zero off2]
  refine (pay41_apply _ _ _ _ _ r j).trans ?_
  refine congrArg decayOf (congrArg₂ (· + ·) (ld3 x6 j) (Finset.sum_congr rfl fun k _ => congrArg₂ (· * ·) (congrArg Ideal.tanh ?_) (ld21 x7 k j)))
  exact tileLow t x0 x1 x2 x3 x4 x5 x6 x7 x8 x9 x10 x11 x12 x13 x14 hs r ⟨k.val, by omega⟩

include hs in
/-- The in-context rate. -/
theorem tileRate (j : Fin 1024) : k0_pay44 (F := Ideal) (k0_pay56 (grid0.coords t) x0 x1 x2 x3 x4 x5 x6 x7 x8 x9 x10 x11 x12 x13 x14) (k0_pay57 (grid0.coords t) x0 x1 x2 x3 x4 x5 x6 x7 x8 x9 x10 x11 x12 x13 x14) (k0_pay58 (grid0.coords t) x0 x1 x2 x3 x4 x5 x6 x7 x8 x9 x10 x11 x12 x13 x14) (ix2 r j)
    = rateOf (tileFeat t.val x0 x1 x2 x3 r) (fun j => x8 (ix2 0 j)) (fun k j => x9 (ix2 k j)) j := by
  unfold k0_pay56 k0_pay57 k0_pay58
  refine (pay44_apply _ _ _ _ _ r j).trans ?_
  unfold rateOf
  refine congrArg Ideal.logistic (congrArg₂ (· + ·) (ld3 x8 j) (Finset.sum_congr rfl fun k _ => congrArg₂ (· * ·) ?_ (ld21 x9 k j)))
  refine (tileLow t x0 x1 x2 x3 x4 x5 x6 x7 x8 x9 x10 x11 x12 x13 x14 hs r ⟨64 + k.val, by omega⟩).trans (congrArg _ (Fin.ext ?_))
  show 3072 + (64 + k.val) = 3136 + k.val
  omega

include hs in
/-- The gate. -/
theorem tile23 (j : Fin 1024) : out0_23 (grid0.coords t) x0 x1 x2 x3 x4 x5 x6 x7 x8 x9 x10 x11 x12 x13 x14 (ix2 r j)
    = ∑ k : Fin 128, Ideal.logistic (tileFeat t.val x0 x1 x2 x3 r ⟨3200 + k.val, by omega⟩) * x10 (ix2 k j) := by
  unfold out0_23
  rw [View.canon_unit_zero off2]
  refine (pay45_apply _ _ _ _ r j).trans ?_
  refine Finset.sum_congr rfl fun k _ => congrArg₂ (· * ·) (congrArg Ideal.logistic ?_) (ld1 x10 k j)
  refine (tileLow t x0 x1 x2 x3 x4 x5 x6 x7 x8 x9 x10 x11 x12 x13 x14 hs r ⟨128 + k.val, by omega⟩).trans (congrArg _ (Fin.ext ?_))
  show 3072 + (128 + k.val) = 3200 + k.val
  omega

include hs in
/-- The written key. -/
theorem tile19 (j : Fin 1024) : out0_19 (grid0.coords t) x0 x1 x2 x3 x4 x5 x6 x7 x8 x9 x10 x11 x12 x13 x14 (ix2 r j)
    = tileFeat t.val x0 x1 x2 x3 r ⟨1024 + j.val, by omega⟩
      * (1 + (rateOf (tileFeat t.val x0 x1 x2 x3 r) (fun j => x8 (ix2 0 j)) (fun k j => x9 (ix2 k j)) j - 1) * x12 (ix2 0 j)) := by
  unfold out0_19
  rw [View.canon_unit_zero off2]
  refine (pay1_apply _ _ _ _ _ _ rfl r j).trans ?_
  rw [tileRate t x0 x1 x2 x3 x4 x5 x6 x7 x8 x9 x10 x11 x12 x13 x14 hs r, tileKrow t x0 x1 x2 x3 x4 x5 x6 x7 x8 x9 x10 x11 x12 x13 x14 hs r, View.ld_unit_zero (S := S1x1024) off2]

variable (hk : ∀ (r : Fin 128) (k : Fin 1024), IsNum (tileFeat t.val x0 x1 x2 x3 r ⟨1024 + k.val, by omega⟩ * x11 (ix2 0 k)))

include hs h13 h14 hk in
/-- The removal key, where the weighted keys are numbers. -/
theorem tileUnit (j : Fin 1024) : k0_pay59 (grid0.coords t) x0 x1 x2 x3 x4 x5 x6 x7 x8 x9 x10 x11 x12 x13 x14 (ix2 r j)
      = headUnit (fun k => tileFeat t.val x0 x1 x2 x3 r ⟨1024 + k.val, by omega⟩ * x11 (ix2 0 k)) j := by
  unfold k0_pay59
  refine (pay46_apply _ _ (heads_blk t x0 x1 x2 x3 x4 x5 x6 x7 x8 x9 x10 x11 x12 x13 x14 h13) (headsT_blk t x0 x1 x2 x3 x4 x5 x6 x7 x8 x9 x10 x11 x12 x13 x14 h14) _ (View.ld x11 r0_3) (fun r k => ?_) r j).trans ?_
  · rw [tileKrow t x0 x1 x2 x3 x4 x5 x6 x7 x8 x9 x10 x11 x12 x13 x14 hs r, View.ld_unit_zero (S := S1x1024) off2]
    exact hk _ _
  · exact congrArg (fun f => headUnit f j) (funext fun k => congrArg₂ (· * ·) (tileKrow t x0 x1 x2 x3 x4 x5 x6 x7 x8 x9 x10 x11 x12 x13 x14 hs r k) (ld3 x11 k))

include hs h13 h14 hk in
theorem tile21 (j : Fin 1024) : out0_21 (grid0.coords t) x0 x1 x2 x3 x4 x5 x6 x7 x8 x9 x10 x11 x12 x13 x14 (ix2 r j)
    = -headUnit (fun k => tileFeat t.val x0 x1 x2 x3 r ⟨1024 + k.val, by omega⟩ * x11 (ix2 0 k)) j := by
  unfold out0_21
  rw [View.canon_unit_zero off2]
  refine (pay2_apply _ _).trans ?_
  rw [tileUnit t x0 x1 x2 x3 x4 x5 x6 x7 x8 x9 x10 x11 x12 x13 x14 hs h13 h14 r hk]

include hs h13 h14 hk in
theorem tile22 (j : Fin 1024) : out0_22 (grid0.coords t) x0 x1 x2 x3 x4 x5 x6 x7 x8 x9 x10 x11 x12 x13 x14 (ix2 r j)
    = headUnit (fun k => tileFeat t.val x0 x1 x2 x3 r ⟨1024 + k.val, by omega⟩ * x11 (ix2 0 k)) j
      * rateOf (tileFeat t.val x0 x1 x2 x3 r) (fun j => x8 (ix2 0 j)) (fun k j => x9 (ix2 k j)) j := by
  unfold out0_22
  rw [View.canon_unit_zero off2]
  refine (pay3_apply _ _ _).trans ?_
  rw [tileUnit t x0 x1 x2 x3 x4 x5 x6 x7 x8 x9 x10 x11 x12 x13 x14 hs h13 h14 r hk, tileRate t x0 x1 x2 x3 x4 x5 x6 x7 x8 x9 x10 x11 x12 x13 x14 hs r]

end tiles

end Cert.KernelMixIdeal.Value

end
-- ==== Proof.MixFinite.lean ====
/-
  The second precondition in numbers: the projected rows, the carried states, the mixing weights and the key's gains are numbers.
-/
module

public import proofs.«01_k».proof.Pre_finite_rows
public import proofs.«01_k».proof.Proof.AttnFinite
public import proofs.«01_k».proof.Proof.MixMath

@[expose] public section

set_option maxRecDepth 16384

noncomputable section

open Idealize.ShloMosaic Idealize.ShloMosaic.TcCoe Idealize.SL.Sem
open Cert.Layer

namespace Cert.Pre_finite_rows.Read
open Cert.Pre_finite_rows
open Cert.KernelIdeal.Value (real_of_lt lt_of_cmp and_one top_bits)

variable (x0 : Vec Ideal S9216x6400 .f32) (x1 : Vec Ideal S128x3328 .f32) (x2 : Vec Ideal S3328 .f32) (x3 x4 : Vec Ideal S64 .f32)
    (x5 : Vec Ideal S1024 .f32) (x6 : Vec Ideal S64x1024 .f32) (x7 : Vec Ideal S1024 .f32) (x8 : Vec Ideal S64x1024 .f32)
    (x9 : Vec Ideal S128x1024 .f32) (x10 x11 : Vec Ideal S1024 .f32)

/-- The test of a column of the recurrence's features. -/
theorem late_at [Facts] (R : Fin 9216) (J : Fin 3328) :
    fn (F := Ideal) x0 x1 x2 x3 x4 x5 x6 x7 x8 x9 x10 x11 (ix2 R ⟨3072 + J.val, by omega⟩)
      = IntOp.andi (IntOp.andi (Ideal.cmp .olt (max (x0 (ix2 R ⟨3072 + J.val, by omega⟩)) (-(x0 (ix2 R ⟨3072 + J.val, by omega⟩)))) ⊤)
          (Ideal.cmp .olt (max (x1 (ix2 ⟨R.val % 128, Nat.mod_lt _ (by decide)⟩ J)) (-(x1 (ix2 ⟨R.val % 128, Nat.mod_lt _ (by decide)⟩ J)))) ⊤))
          (Ideal.cmp .olt (max (x2 (ix1 J)) (-(x2 (ix1 J)))) ⊤) := by
  unfold fn fn_part1
  pointwise
  rw [top_bits, dif_neg (by omega : ¬3072 + J.val < 1024), dif_neg (by omega : ¬3072 + J.val - 1024 < 1024), dif_neg (by omega : ¬3072 + J.val - 1024 - 1024 < 1024)]
  have e : (⟨3072 + J.val - 1024 - 1024 - 1024, by omega⟩ : Fin 3328) = J := Fin.ext (by show 3072 + J.val - 1024 - 1024 - 1024 = J.val; omega)
  rw [e]
  rfl

/-- The test of a projected entry. -/
theorem early_at [Facts] (R : Fin 9216) (c : Fin 6400) : ∃ a b,
    fn (F := Ideal) x0 x1 x2 x3 x4 x5 x6 x7 x8 x9 x10 x11 (ix2 R c)
      = IntOp.andi (IntOp.andi (Ideal.cmp .olt (max (x0 (ix2 R c)) (-(x0 (ix2 R c)))) ⊤) a) b := by
  unfold fn fn_part1
  rw [← top_bits]
  exact ⟨_, _, rfl⟩

/-- The test of a gain. -/
theorem gain_at [Facts] (j : Fin 1024) : ∃ a b,
    fn (F := Ideal) x0 x1 x2 x3 x4 x5 x6 x7 x8 x9 x10 x11 (ix2 0 ⟨j.val, by omega⟩)
      = IntOp.andi (IntOp.andi a (Ideal.cmp .olt (max (x10 (ix1 j)) (-(x10 (ix1 j)))) ⊤)) b := by
  refine ⟨Ideal.cmp .olt (max (x0 (ix2 0 ⟨j.val, by omega⟩)) (-(x0 (ix2 0 ⟨j.val, by omega⟩)))) ⊤, Ideal.cmp .olt (max (x2 (ix1 ⟨j.val, by omega⟩)) (-(x2 (ix1 ⟨j.val, by omega⟩)))) ⊤, ?_⟩
  unfold fn fn_part1
  pointwise
  rw [top_bits, dif_pos (by omega : j.val < 3072)]
  rfl

section numbers
variable [Facts] (hp : fn (F := Ideal) x0 x1 x2 x3 x4 x5 x6 x7 x8 x9 x10 x11 = fun _ => 1#1)
include hp

/-- The projected rows are numbers. -/
theorem rows_num (R : Fin 9216) (c : Fin 6400) : IsNum (x0 (ix2 R c)) := by
  obtain ⟨a, b, e⟩ := early_at x0 x1 x2 x3 x4 x5 x6 x7 x8 x9 x10 x11 R c
  exact real_of_lt (lt_of_cmp (and_one (and_one (e.symm.trans (congrFun hp _))).1).1)

/-- The carried states are numbers. -/
theorem states_num (n : Fin 128) (J : Fin 3328) : IsNum (x1 (ix2 n J)) := by
  have e := (late_at x0 x1 x2 x3 x4 x5 x6 x7 x8 x9 x10 x11 ⟨n.val, by omega⟩ J).symm.trans (congrFun hp _)
  have h := real_of_lt (lt_of_cmp (and_one (and_one e).1).2)
  have en : (⟨n.val % 128, Nat.mod_lt _ (by decide)⟩ : Fin 128) = n := Fin.ext (Nat.mod_eq_of_lt n.isLt)
  rw [← en]
  exact h

/-- The mixing weights are numbers. -/
theorem mus_num (J : Fin 3328) : IsNum (x2 (ix1 J)) :=
  real_of_lt (lt_of_cmp (and_one ((late_at x0 x1 x2 x3 x4 x5 x6 x7 x8 x9 x10 x11 0 J).symm.trans (congrFun hp _))).2)

/-- The key's gains are numbers. -/
theorem gains_num (j : Fin 1024) : IsNum (x10 (ix1 j)) := by
  obtain ⟨a, b, e⟩ := gain_at x0 x1 x2 x3 x4 x5 x6 x7 x8 x9 x10 x11 j
  exact real_of_lt (lt_of_cmp (and_one (and_one (e.symm.trans (congrFun hp _))).1).2)

end numbers

end Cert.Pre_finite_rows.Read

end
-- ==== Proof.MixValue.lean ====
/-
  The value claim of the preparing call: each of its nine results is the reference's, row by row.
-/
module

public import proofs.«01_k».proof.Proof.MixOut
public import proofs.«01_k».proof.Proof.MixWin
public import proofs.«01_k».proof.Proof.MixRef
public import proofs.«01_k».proof.Proof.MixFinite

@[expose] public section

set_option maxRecDepth 16384

noncomputable section

open Idealize.ShloMosaic Idealize.ShloMosaic.TcCoe Idealize.SL.Sem
open Cert.Layer

namespace Cert.KernelMixIdeal.Value
open Cert.KernelMixIdeal Cert.KernelMixIdeal.Gen
open Cert.ReferenceMixIdeal.Read

variable (m : (ℓ : Loc nD τ sig) → Buf (Elt Ideal) ℓ) (c : Dev nD)

/-- The projected rows. -/
abbrev arg0 : Vec Ideal S9216x6400 .f32 := m ((c : Thread nD τ).loc main_arg0)
/-- The carried states. -/
abbrev arg1 : Vec Ideal S128x3328 .f32 := m ((c : Thread nD τ).loc main_arg1)
/-- The mixing weights. -/
abbrev arg2 : Vec Ideal S3328 .f32 := m ((c : Thread nD τ).loc main_arg2)
/-- The query's gains. -/
abbrev arg3 : Vec Ideal S64 .f32 := m ((c : Thread nD τ).loc main_arg3)
/-- The key's gains. -/
abbrev arg4 : Vec Ideal S64 .f32 := m ((c : Thread nD τ).loc main_arg4)
/-- The decay's bias. -/
abbrev arg5 : Vec Ideal S1024 .f32 := m ((c : Thread nD τ).loc main_arg5)
/-- The decay's weights. -/
abbrev arg6 : Vec Ideal S64x1024 .f32 := m ((c : Thread nD τ).loc main_arg6)
/-- The rate's bias. -/
abbrev arg7 : Vec Ideal S1024 .f32 := m ((c : Thread nD τ).loc main_arg7)
/-- The rate's weights. -/
abbrev arg8 : Vec Ideal S64x1024 .f32 := m ((c : Thread nD τ).loc main_arg8)
/-- The gate's weights. -/
abbrev arg9 : Vec Ideal S128x1024 .f32 := m ((c : Thread nD τ).loc main_arg9)
/-- The removal key's gains. -/
abbrev arg10 : Vec Ideal S1024 .f32 := m ((c : Thread nD τ).loc main_arg10)
/-- The written key's gains. -/
abbrev arg11 : Vec Ideal S1024 .f32 := m ((c : Thread nD τ).loc main_arg11)

section tile
variable (t : Fin cfg0.N) (r : Fin 128) (R : Fin 9216) (hR : R.val = 128 * t.val + r.val)

theorem tiles : t.val < 72 := by
  have h := t.isLt
  have hN : cfg0.N = 72 := N_0
  omega

include hR in
/-- A tile's row before is the arguments' row before. -/
theorem prev_before (J : Fin 3328) :
    prevRow t.val r (fun r => (iblk m c 0 t : Vec Ideal S128x6400 .f32) (ix2 r ⟨3072 + J.val, by omega⟩))
      ((iblk m c 1 t : Vec Ideal S8x6400 .f32) (ix2 7 ⟨3072 + J.val, by omega⟩)) (fun n => (iblk m c 2 t : Vec Ideal S16x3328 .f32) (ix2 n J))
      = before (fun R k => arg0 m c (ix2 R k)) (fun n k => arg1 m c (ix2 n k)) R J := by
  have hr := r.isLt
  have ht := tiles t
  unfold prevRow before
  by_cases h : 64 ≤ t.val
  · rw [if_pos h, if_neg (by omega : ¬R.val < 8192)]
    by_cases h8 : r.val % 8 = 0
    · rw [if_pos h8, if_pos (by omega : R.val % 8 = 0)]
      exact iblk2 m c t _ J ⟨(R.val - 8192) / 8, by omega⟩ (by show (R.val - 8192) / 8 = min (t.val - 64) 7 * 16 + 1 * (r.val / 8); omega)
    · rw [if_neg h8, if_neg (by omega : ¬R.val % 8 = 0)]
      exact iblk0 m c t _ _ ⟨R.val - 1, by omega⟩ (by show R.val - 1 = 128 * t.val + (r.val + 128 - 1) % 128; omega)
  · rw [if_neg h, if_pos (by omega : R.val < 8192)]
    by_cases h0 : r.val = 0
    · rw [if_pos h0]
      by_cases h16 : t.val % 16 = 0
      · rw [if_pos h16, if_pos (by omega : R.val % 2048 = 0)]
      · rw [if_neg h16, if_neg (by omega : ¬R.val % 2048 = 0)]
        exact iblk1 m c t _ ⟨R.val - 1, by omega⟩ (by show R.val - 1 + 1 = 128 * t.val; omega)
    · rw [if_neg h0, if_neg (by omega : ¬R.val % 2048 = 0)]
      exact iblk0 m c t _ _ ⟨R.val - 1, by omega⟩ (by show R.val - 1 = 128 * t.val + (r.val + 128 - 1) % 128; omega)

include hR in
/-- The mixing read from a tile is the mixing of the arguments. -/
theorem tile_feat (J : Fin 3328) :
    tileFeat t.val (iblk m c 0 t) (iblk m c 1 t) (iblk m c 2 t) (iblk m c 3 t) r J = ft (arg0 m c) (arg1 m c) (arg2 m c) R J := by
  unfold tileFeat
  rw [prev_before m c t r R hR J, iblk0 m c t r _ R hR, iblk3]
  rfl

include hR in
theorem tile_feats : tileFeat t.val (iblk m c 0 t) (iblk m c 1 t) (iblk m c 2 t) (iblk m c 3 t) r = ft (arg0 m c) (arg1 m c) (arg2 m c) R :=
  funext fun J => tile_feat m c t r R hR J

theorem state_num (hS : ∀ n k, IsNum (arg1 m c (ix2 n k))) (n : Fin 16) (k : Fin 3328) : IsNum ((iblk m c 2 t : Vec Ideal S16x3328 .f32) (ix2 n k)) := by
  rw [iblk2 m c t n k ⟨min (t.val - 64) 7 * 16 + 1 * n.val, by omega⟩ rfl]
  exact hS _ _

theorem tile_num (hP : ∀ R k, IsNum (arg0 m c (ix2 R k))) (r : Fin 128) (k : Fin 6400) : IsNum ((iblk m c 0 t : Vec Ideal S128x6400 .f32) (ix2 r k)) := by
  have hr := r.isLt
  have ht := tiles t
  rw [iblk0 m c t r k ⟨128 * t.val + r.val, by omega⟩ rfl]
  exact hP _ _

end tile

variable (hP : ∀ R k, IsNum (arg0 m c (ix2 R k))) (hS : ∀ n k, IsNum (arg1 m c (ix2 n k)))
    (hM : ∀ k, IsNum (arg2 m c (ix1 k))) (hG : ∀ j, IsNum (arg10 m c (ix1 j)))

include hP hS hM hG in
/-- The weighted keys are numbers. -/
theorem weighted_num (t : Fin cfg0.N) (r : Fin 128) (k : Fin 1024) :
    IsNum (tileFeat t.val (iblk m c 0 t) (iblk m c 1 t) (iblk m c 2 t) (iblk m c 3 t) r ⟨1024 + k.val, by omega⟩
      * (iblk m c 11 t : Vec Ideal S1x1024 .f32) (ix2 0 k)) := by
  have hr := r.isLt
  have ht := tiles t
  rw [tile_feat m c t r ⟨128 * t.val + r.val, by omega⟩ rfl, iblk11]
  refine IsNum.mul (IsNum.mixed (hP _ _) ?_ (hM _)) (hG _)
  unfold before
  split_ifs
  · exact IsNum.zero
  · exact hP _ _
  · exact hS _ _
  · exact hP _ _

/-- The tile and the place of a row. -/
theorem row_tile (R : Fin 9216) : ∃ (t : Fin cfg0.N) (r : Fin 128), R.val = 128 * t.val + r.val := by
  have hR := R.isLt
  have hN : cfg0.N = 72 := N_0
  exact ⟨⟨R.val / 128, by omega⟩, ⟨R.val % 128, Nat.mod_lt _ (by decide)⟩, by show R.val = 128 * (R.val / 128) + R.val % 128; omega⟩

theorem rates (t : Fin cfg0.N) (f : Fin 3328 → EReal) (J : Fin 1024) :
    rateOf f (fun j => (iblk m c 8 t : Vec Ideal S1x1024 .f32) (ix2 0 j)) (fun k j => (iblk m c 9 t : Vec Ideal S64x1024 .bf16) (ix2 k j)) J
      = rateOf f (fun j => arg7 m c (ix1 j)) (fun k j => arg8 m c (ix2 k j)) J :=
  congrArg₂ (fun b w => rateOf f b w J) (funext fun j => iblk8 m c t j) (funext fun k => funext fun j => iblk9 m c t k j)

theorem weights (t : Fin cfg0.N) (f : Fin 3328 → EReal) (J : Fin 1024) :
    headUnit (fun k => f ⟨1024 + k.val, by omega⟩ * (iblk m c 11 t : Vec Ideal S1x1024 .f32) (ix2 0 k)) J
      = headUnit (fun k => f ⟨1024 + k.val, by omega⟩ * arg10 m c (ix1 k)) J :=
  congrArg (fun w => headUnit w J) (funext fun k => congrArg₂ (· * ·) rfl (iblk11 m c t k))

include hP in
/-- The query. -/
theorem entry_q (R : Fin 9216) (J : Fin 1024) :
    ((dats m 0 c).arrAt 15 cfg0.N : Vec Ideal S9216x1024 .f32) (ix2 R J) = val_main_v105 (F := Ideal) (arg0 m c) (arg3 m c) (ix2 R J) := by
  obtain ⟨t, r, hR⟩ := row_tile R
  refine (result15 m c t r J R hR).trans ?_
  refine (tile15 t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (tile_num m c t hP) (iblk13 m c t) (iblk14 m c t) r J).trans ?_
  rw [q_apply, iblk4]
  exact congrArg (fun f => headRms f (arg3 m c (ix1 ⟨J.val % 64, Nat.mod_lt _ (by decide)⟩)) J * Ideal.ofBits .f32 0x3E000000#32) (funext fun k => iblk0 m c t r _ R hR)

include hP in
/-- The key. -/
theorem entry_k (R : Fin 9216) (J : Fin 1024) :
    ((dats m 0 c).arrAt 16 cfg0.N : Vec Ideal S9216x1024 .f32) (ix2 R J) = val_main_v106 (F := Ideal) (arg0 m c) (arg4 m c) (ix2 R J) := by
  obtain ⟨t, r, hR⟩ := row_tile R
  refine (result16 m c t r J R hR).trans ?_
  refine (tile16 t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (tile_num m c t hP) (iblk13 m c t) (iblk14 m c t) r J).trans ?_
  rw [k_apply, iblk5]
  exact congrArg (fun f => headRms f (arg4 m c (ix1 ⟨J.val % 64, Nat.mod_lt _ (by decide)⟩)) J) (funext fun k => iblk0 m c t r _ R hR)

include hS in
/-- The receptance. -/
theorem entry_r (R : Fin 9216) (J : Fin 1024) :
    ((dats m 0 c).arrAt 17 cfg0.N : Vec Ideal S9216x1024 .f32) (ix2 R J) = val_main_v52 (F := Ideal) (arg0 m c) (arg1 m c) (arg2 m c) (ix2 R J) := by
  obtain ⟨t, r, hR⟩ := row_tile R
  refine (result17 m c t r J R hR).trans ?_
  refine (tile17 t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (state_num m c t hS) r J).trans ?_
  rw [r_apply]
  exact tile_feat m c t r R hR _

include hS in
/-- The decay. -/
theorem entry_lw (R : Fin 9216) (J : Fin 1024) :
    ((dats m 0 c).arrAt 18 cfg0.N : Vec Ideal S9216x1024 .f32) (ix2 R J) = val_main_v108 (F := Ideal) (arg0 m c) (arg1 m c) (arg2 m c) (arg5 m c) (arg6 m c) (ix2 R J) := by
  obtain ⟨t, r, hR⟩ := row_tile R
  refine (result18 m c t r J R hR).trans ?_
  refine (tile18 t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (state_num m c t hS) r J).trans ?_
  rw [lw_apply, tile_feats m c t r R hR, iblk6]
  exact congrArg (fun z => decayOf (arg5 m c (ix1 J) + z)) (Finset.sum_congr rfl fun k _ => congrArg₂ (· * ·) rfl (iblk7 m c t k J))

include hS in
/-- The written key. -/
theorem entry_k2 (R : Fin 9216) (J : Fin 1024) :
    ((dats m 0 c).arrAt 19 cfg0.N : Vec Ideal S9216x1024 .f32) (ix2 R J) = val_main_v104 (F := Ideal) (arg0 m c) (arg1 m c) (arg2 m c) (arg7 m c) (arg8 m c) (arg11 m c) (ix2 R J) := by
  obtain ⟨t, r, hR⟩ := row_tile R
  refine (result19 m c t r J R hR).trans ?_
  refine (tile19 t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (state_num m c t hS) r J).trans ?_
  rw [k2_apply, tile_feats m c t r R hR, iblk12, rates m c t]

include hS in
/-- The value. -/
theorem entry_v (R : Fin 9216) (J : Fin 1024) :
    ((dats m 0 c).arrAt 20 cfg0.N : Vec Ideal S9216x1024 .f32) (ix2 R J) = val_main_v54 (F := Ideal) (arg0 m c) (arg1 m c) (arg2 m c) (ix2 R J) := by
  obtain ⟨t, r, hR⟩ := row_tile R
  refine (result20 m c t r J R hR).trans ?_
  refine (tile20 t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (state_num m c t hS) r J).trans ?_
  rw [v_apply]
  exact tile_feat m c t r R hR _

include hP hS hM hG in
/-- The removal key, negated. -/
theorem entry_a (R : Fin 9216) (J : Fin 1024) :
    ((dats m 0 c).arrAt 21 cfg0.N : Vec Ideal S9216x1024 .f32) (ix2 R J) = val_main_v110 (F := Ideal) (arg0 m c) (arg1 m c) (arg2 m c) (arg10 m c) (ix2 R J) := by
  obtain ⟨t, r, hR⟩ := row_tile R
  refine (result21 m c t r J R hR).trans ?_
  refine (tile21 t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (state_num m c t hS) (iblk13 m c t) (iblk14 m c t) r (weighted_num m c hP hS hM hG t) J).trans ?_
  rw [a_apply, tile_feats m c t r R hR, weights m c t]

include hP hS hM hG in
/-- The removal key times the rate. -/
theorem entry_b (R : Fin 9216) (J : Fin 1024) :
    ((dats m 0 c).arrAt 22 cfg0.N : Vec Ideal S9216x1024 .f32) (ix2 R J) = val_main_v112 (F := Ideal) (arg0 m c) (arg1 m c) (arg2 m c) (arg7 m c) (arg8 m c) (arg10 m c) (ix2 R J) := by
  obtain ⟨t, r, hR⟩ := row_tile R
  refine (result22 m c t r J R hR).trans ?_
  refine (tile22 t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (state_num m c t hS) (iblk13 m c t) (iblk14 m c t) r (weighted_num m c hP hS hM hG t) J).trans ?_
  rw [b_apply, tile_feats m c t r R hR, weights m c t, rates m c t]

include hS in
/-- The gate. -/
theorem entry_g (R : Fin 9216) (J : Fin 1024) :
    ((dats m 0 c).arrAt 23 cfg0.N : Vec Ideal S9216x1024 .f32) (ix2 R J) = val_main_v84 (F := Ideal) (arg0 m c) (arg1 m c) (arg2 m c) (arg9 m c) (ix2 R J) := by
  obtain ⟨t, r, hR⟩ := row_tile R
  refine (result23 m c t r J R hR).trans ?_
  refine (tile23 t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (state_num m c t hS) r J).trans ?_
  rw [g_apply, tile_feats m c t r R hR]
  exact Finset.sum_congr rfl fun k _ => congrArg₂ (· * ·) rfl (iblk10 m c t k J)

end Cert.KernelMixIdeal.Value

namespace Cert.Layer
open Cert.KernelMixIdeal Cert.KernelMixIdeal.Value

set_option maxHeartbeats 4000000 in
/-- The value claim of the preparing call: from the same arguments, finite where the sums over a head and the sample tiles' states
    need it, both programs run and end with the same nine results. -/
theorem mix_algebraic [hK : Cert.KernelMixIdeal.Facts] [hR : Cert.ReferenceMixIdeal.Facts] [hP : Cert.Pre_finite_rows.Facts] :
    Cert.algebraic_KernelMixIdeal_ReferenceMixIdeal_pre_finite_rows := by
  intro m g m' g' hpre hagree
  refine ⟨fun c => (Cert.KernelMixIdeal.Gen.dats m 0 c).arrAt 15 cfg0.N, fun c => (Cert.KernelMixIdeal.Gen.dats m 0 c).arrAt 16 cfg0.N, fun c => (Cert.KernelMixIdeal.Gen.dats m 0 c).arrAt 17 cfg0.N, fun c => (Cert.KernelMixIdeal.Gen.dats m 0 c).arrAt 18 cfg0.N, fun c => (Cert.KernelMixIdeal.Gen.dats m 0 c).arrAt 19 cfg0.N, fun c => (Cert.KernelMixIdeal.Gen.dats m 0 c).arrAt 20 cfg0.N, fun c => (Cert.KernelMixIdeal.Gen.dats m 0 c).arrAt 21 cfg0.N, fun c => (Cert.KernelMixIdeal.Gen.dats m 0 c).arrAt 22 cfg0.N, fun c => (Cert.KernelMixIdeal.Gen.dats m 0 c).arrAt 23 cfg0.N, ?_, ?_⟩
  · exact Cert.KernelMixIdeal.Value.run_blocks m g
  · refine (θ_run _ _ _).mono (fun r h c => ?_) (Cert.ReferenceMixIdeal.Value.run (F := Ideal) m' g')
    obtain ⟨a0, a1, a2, a3, a4, a5, a6, a7, a8, a9, a10, a11⟩ := hagree c
    have nP := Cert.Pre_finite_rows.Read.rows_num _ _ _ _ _ _ _ _ _ _ _ _ (hpre c)
    have nS := Cert.Pre_finite_rows.Read.states_num _ _ _ _ _ _ _ _ _ _ _ _ (hpre c)
    have nM := Cert.Pre_finite_rows.Read.mus_num _ _ _ _ _ _ _ _ _ _ _ _ (hpre c)
    have nG := Cert.Pre_finite_rows.Read.gains_num _ _ _ _ _ _ _ _ _ _ _ _ (hpre c)
    obtain ⟨e0, e1, e2, e3, e4, e5, e6, e7, e8, rest⟩ := h c
    refine ⟨e0.trans ?_, e1.trans ?_, e2.trans ?_, e3.trans ?_, e4.trans ?_, e5.trans ?_, e6.trans ?_, e7.trans ?_, e8.trans ?_, rest⟩
    · refine (Cert.ReferenceMixIdeal.Read.val_main_v105_eq _ _).trans ?_
      rw [a0, a3]
      funext i
      obtain ⟨R, J, rfl⟩ : ∃ (R : Fin 9216) (J : Fin 1024), i = ix2 R J := ⟨i 0, i 1, eq_ix2 i⟩
      exact (entry_q m c nP R J).symm
    · refine (Cert.ReferenceMixIdeal.Read.val_main_v106_eq _ _).trans ?_
      rw [a0, a4]
      funext i
      obtain ⟨R, J, rfl⟩ : ∃ (R : Fin 9216) (J : Fin 1024), i = ix2 R J := ⟨i 0, i 1, eq_ix2 i⟩
      exact (entry_k m c nP R J).symm
    · refine (Cert.ReferenceMixIdeal.Read.val_main_v52_eq _ _ _).trans ?_
      rw [a0, a1, a2]
      funext i
      obtain ⟨R, J, rfl⟩ : ∃ (R : Fin 9216) (J : Fin 1024), i = ix2 R J := ⟨i 0, i 1, eq_ix2 i⟩
      exact (entry_r m c nS R J).symm
    · refine (Cert.ReferenceMixIdeal.Read.val_main_v108_eq _ _).trans ?_
      rw [a0, a1, a2, a5, a6]
      funext i
      obtain ⟨R, J, rfl⟩ : ∃ (R : Fin 9216) (J : Fin 1024), i = ix2 R J := ⟨i 0, i 1, eq_ix2 i⟩
      exact (entry_lw m c nS R J).symm
    · refine (Cert.ReferenceMixIdeal.Read.val_main_v104_eq _ _).trans ?_
      rw [a0, a1, a2, a7, a8, a11]
      funext i
      obtain ⟨R, J, rfl⟩ : ∃ (R : Fin 9216) (J : Fin 1024), i = ix2 R J := ⟨i 0, i 1, eq_ix2 i⟩
      exact (entry_k2 m c nS R J).symm
    · refine (Cert.ReferenceMixIdeal.Read.val_main_v54_eq _ _ _).trans ?_
      rw [a0, a1, a2]
      funext i
      obtain ⟨R, J, rfl⟩ : ∃ (R : Fin 9216) (J : Fin 1024), i = ix2 R J := ⟨i 0, i 1, eq_ix2 i⟩
      exact (entry_v m c nS R J).symm
    · refine (Cert.ReferenceMixIdeal.Read.val_main_v110_eq _ _).trans ?_
      rw [a0, a1, a2, a10]
      funext i
      obtain ⟨R, J, rfl⟩ : ∃ (R : Fin 9216) (J : Fin 1024), i = ix2 R J := ⟨i 0, i 1, eq_ix2 i⟩
      exact (entry_a m c nP nS nM nG R J).symm
    · refine (Cert.ReferenceMixIdeal.Read.val_main_v112_eq _ _).trans ?_
      rw [a0, a1, a2, a7, a8, a10]
      funext i
      obtain ⟨R, J, rfl⟩ : ∃ (R : Fin 9216) (J : Fin 1024), i = ix2 R J := ⟨i 0, i 1, eq_ix2 i⟩
      exact (entry_b m c nP nS nM nG R J).symm
    · refine (Cert.ReferenceMixIdeal.Read.val_main_v84_eq _ _ _ _).trans ?_
      rw [a0, a1, a2, a9]
      funext i
      obtain ⟨R, J, rfl⟩ : ∃ (R : Fin 9216) (J : Fin 1024), i = ix2 R J := ⟨i 0, i 1, eq_ix2 i⟩
      exact (entry_g m c nS R J).symm

end Cert.Layer

end
-- ==== Proof.ScanMath.lean ====
/-
  The recurrence of eight tokens, over the real numbers: what the step by step form and the form with one product for all eight have
  in common.
-/
module

public import proofs.«01_k».proof.Proof.Common

@[expose] public section

noncomputable section

namespace Cert.Layer.Scan

section steps
variable (r lw k v a b : ℕ → Fin 64 → ℝ) (s0 : Fin 64 → Fin 64 → ℝ)

/-- The state before token `n`. -/
def st : ℕ → Fin 64 → Fin 64 → ℝ
  | 0 => s0
  | n + 1 => fun i j => st n i j * Real.exp (lw n j) + (∑ l, st n i l * a n l) * b n j + v n i * k n j

/-- What token `n` takes from the state. -/
def sa (n : ℕ) (i : Fin 64) : ℝ := ∑ l, st lw k v a b s0 n i l * a n l

/-- What token `n` reads of the state after it. -/
def yy (n : ℕ) (i : Fin 64) : ℝ := ∑ l, st lw k v a b s0 (n + 1) i l * r n l

/-- The log decays before token `n`, added. -/
def cx (n : ℕ) (j : Fin 64) : ℝ := ∑ m ∈ Finset.range n, lw m j

/-- The four scaled rows. -/
def at' (n : ℕ) (j : Fin 64) : ℝ := a n j * Real.exp (cx lw n j)
def rt' (n : ℕ) (j : Fin 64) : ℝ := r n j * Real.exp (cx lw (n + 1) j)
def bt' (n : ℕ) (j : Fin 64) : ℝ := b n j * Real.exp (-cx lw (n + 1) j)
def kt' (n : ℕ) (j : Fin 64) : ℝ := k n j * Real.exp (-cx lw (n + 1) j)

theorem cx_succ (n : ℕ) (j : Fin 64) : cx lw (n + 1) j = cx lw n j + lw n j := Finset.sum_range_succ _ _

/-- The state in closed form. -/
theorem st_eq (n : ℕ) (i j : Fin 64) : st lw k v a b s0 n i j = Real.exp (cx lw n j) *
    (s0 i j + ∑ m ∈ Finset.range n, (sa lw k v a b s0 m i * bt' lw b m j + v m i * kt' lw k m j)) := by
  induction n with
  | zero => simp [st, cx]
  | succ n ih =>
    have e : st lw k v a b s0 (n + 1) i j = st lw k v a b s0 n i j * Real.exp (lw n j) + sa lw k v a b s0 n i * b n j + v n i * k n j := rfl
    have h1 : Real.exp (cx lw (n + 1) j) * bt' lw b n j = b n j := by
      rw [bt', mul_left_comm, ← Real.exp_add, add_neg_cancel, Real.exp_zero, mul_one]
    have h2 : Real.exp (cx lw (n + 1) j) * kt' lw k n j = k n j := by
      rw [kt', mul_left_comm, ← Real.exp_add, add_neg_cancel, Real.exp_zero, mul_one]
    rw [e, ih, Finset.sum_range_succ]
    have h3 : Real.exp (cx lw (n + 1) j) = Real.exp (cx lw n j) * Real.exp (lw n j) := by rw [cx_succ, Real.exp_add]
    calc _ = Real.exp (cx lw n j) * Real.exp (lw n j) * (s0 i j + ∑ m ∈ Finset.range n, (sa lw k v a b s0 m i * bt' lw b m j + v m i * kt' lw k m j))
          + sa lw k v a b s0 n i * (Real.exp (cx lw (n + 1) j) * bt' lw b n j) + v n i * (Real.exp (cx lw (n + 1) j) * kt' lw k n j) := by
            rw [h1, h2]; ring
      _ = _ := by rw [← h3]; ring

/-- A row read against the state, in closed form. -/
theorem read_eq (n : ℕ) (i : Fin 64) (w : Fin 64 → ℝ) : (∑ l, st lw k v a b s0 n i l * w l)
    = ∑ l, (w l * Real.exp (cx lw n l)) * s0 i l
      + (∑ m ∈ Finset.range n, (∑ l, (w l * Real.exp (cx lw n l)) * bt' lw b m l) * sa lw k v a b s0 m i
        + ∑ m ∈ Finset.range n, (∑ l, (w l * Real.exp (cx lw n l)) * kt' lw k m l) * v m i) := by
  simp only [st_eq, Finset.sum_mul]
  rw [Finset.sum_comm (s := Finset.range n), Finset.sum_comm (s := Finset.range n), ← Finset.sum_add_distrib, ← Finset.sum_add_distrib]
  refine Finset.sum_congr rfl fun l _ => ?_
  rw [← Finset.sum_add_distrib, mul_add, add_mul, Finset.mul_sum, Finset.sum_mul]
  congr 1
  · ring
  · exact Finset.sum_congr rfl fun m _ => by ring

end steps

/-- A sum over the first tokens of eight. -/
theorem sum_first (f : ℕ → ℝ) (n : ℕ) (hn : n ≤ 8) : ∑ m ∈ Finset.range n, f m = ∑ q : Fin 8, if q.val < n then f q else 0 := by
  interval_cases n <;> simp [Fin.sum_univ_eight, Finset.sum_range_succ]

/-- The powers of a strictly lower matrix reach zero. -/
theorem pow_lower (A : Matrix (Fin 8) (Fin 8) ℝ) (h : ∀ p q : Fin 8, ¬ q.val < p.val → A p q = 0) (n : ℕ) :
    ∀ p q : Fin 8, ¬ q.val + n ≤ p.val → (A ^ n) p q = 0 := by
  induction n with
  | zero => intro p q hpq; rw [pow_zero, Matrix.one_apply_ne]; rintro rfl; omega
  | succ n ih =>
    intro p q hpq
    rw [pow_succ, Matrix.mul_apply]
    refine Finset.sum_eq_zero fun x _ => ?_
    by_cases hx : q.val < x.val
    · rw [ih p x (by omega), zero_mul]
    · rw [h x q hx, mul_zero]

/-- The product of three factors that the kernel forms is the inverse. -/
theorem inv_lower (A : Matrix (Fin 8) (Fin 8) ℝ) (h : ∀ p q : Fin 8, ¬ q.val < p.val → A p q = 0) :
    (((1 + A) + (1 + A) * (A * A)) + ((1 + A) + (1 + A) * (A * A)) * ((A * A) * (A * A))) * (1 - A) = 1 := by
  have h8 : A ^ 8 = 0 := by
    ext p q
    exact pow_lower A h 8 p q (by omega)
  have e : (((1 + A) + (1 + A) * (A * A)) + ((1 + A) + (1 + A) * (A * A)) * ((A * A) * (A * A))) * (1 - A) = 1 - A ^ 8 := by noncomm_ring
  rw [e, h8, sub_zero]

/-! ### The form with one product for all eight -/

section joint
variable (L R : Fin 16 → Fin 64 → ℝ) (V : Fin 8 → Fin 64 → ℝ) (s0 : Fin 64 → Fin 64 → ℝ)

/-- The products of the rows that one token meets. -/
def gram (p q : Fin 16) : ℝ := if q.val % 8 < (if p.val < 8 then p.val else p.val - 7) then ∑ l, L p l * R q l else 0
def fromState (p : Fin 16) (i : Fin 64) : ℝ := ∑ l, L p l * s0 i l
def lowA : Matrix (Fin 8) (Fin 8) ℝ := fun p q => gram L R ⟨p.val, by omega⟩ ⟨q.val, by omega⟩
def inv : Matrix (Fin 8) (Fin 8) ℝ :=
  ((1 + lowA L R) + (1 + lowA L R) * (lowA L R * lowA L R))
    + ((1 + lowA L R) + (1 + lowA L R) * (lowA L R * lowA L R)) * ((lowA L R * lowA L R) * (lowA L R * lowA L R))
def rhs (p : Fin 8) (i : Fin 64) : ℝ := fromState L s0 ⟨p.val, by omega⟩ i + ∑ q : Fin 8, gram L R ⟨p.val, by omega⟩ ⟨8 + q.val, by omega⟩ * V q i
def uu (p : Fin 8) (i : Fin 64) : ℝ := ∑ q : Fin 8, inv L R p q * rhs L R V s0 q i
def uv (q : Fin 16) (i : Fin 64) : ℝ := if h : q.val < 8 then uu L R V s0 ⟨q.val, h⟩ i else V ⟨q.val - 8, by omega⟩ i
def out (p : Fin 8) (i : Fin 64) : ℝ := fromState L s0 ⟨8 + p.val, by omega⟩ i + ∑ q : Fin 16, gram L R ⟨8 + p.val, by omega⟩ q * uv L R V s0 q i
def last (i j : Fin 64) : ℝ := s0 i j + ∑ q : Fin 16, uv L R V s0 q i * R q j

/-- A solution of the triangular system is what the inverse gives. -/
theorem uu_unique (x : Fin 8 → Fin 64 → ℝ) (hx : ∀ p i, x p i = rhs L R V s0 p i + ∑ q, lowA L R p q * x q i) (p : Fin 8) (i : Fin 64) :
    uu L R V s0 p i = x p i := by
  have hA : ∀ p q : Fin 8, ¬ q.val < p.val → lowA L R p q = 0 := by
    intro p q hpq
    unfold lowA gram
    rw [if_neg]
    have := q.isLt
    simp only [Nat.mod_eq_of_lt this, p.isLt, if_true]
    exact hpq
  have hT := inv_lower _ hA
  have hz : (fun q => rhs L R V s0 q i) = (1 - lowA L R).mulVec (fun q => x q i) := by
    funext q
    rw [Matrix.sub_mulVec, Matrix.one_mulVec]
    have := hx q i
    simp only [Pi.sub_apply, Matrix.mulVec, dotProduct]
    linarith
  have : uu L R V s0 p i = (inv L R).mulVec (fun q => rhs L R V s0 q i) p := rfl
  rw [this, hz, Matrix.mulVec_mulVec]
  show ((inv L R) * (1 - lowA L R)).mulVec _ p = _
  unfold inv
  rw [hT, Matrix.one_mulVec]

end joint

section agree
variable (r lw k v a b : ℕ → Fin 64 → ℝ) (s0 : Fin 64 → Fin 64 → ℝ)

def left (p : Fin 16) (j : Fin 64) : ℝ := if p.val < 8 then at' lw a p.val j else rt' r lw (p.val - 8) j
def right (p : Fin 16) (j : Fin 64) : ℝ := if p.val < 8 then bt' lw b p.val j else kt' lw k (p.val - 8) j
def vals (p : Fin 8) (i : Fin 64) : ℝ := v p.val i

theorem sum16 (f : Fin 16 → ℝ) : ∑ q, f q = ∑ q : Fin 8, f ⟨q.val, by omega⟩ + ∑ q : Fin 8, f ⟨8 + q.val, by omega⟩ := by
  rw [← Equiv.sum_comp (finSumFinEquiv (m := 8) (n := 8)) f, Fintype.sum_sum_type]
  rfl

theorem uu_eq (p : Fin 8) (i : Fin 64) : uu (left r lw a) (right lw k b) (vals v) s0 p i = sa lw k v a b s0 p.val i := by
  refine uu_unique _ _ _ _ (fun p i => sa lw k v a b s0 p.val i) (fun p i => ?_) p i
  have h := read_eq lw k v a b s0 p.val i (a p.val)
  rw [sum_first _ _ (by omega), sum_first _ _ (by omega)] at h
  show sa lw k v a b s0 p.val i = _
  unfold sa
  rw [h]
  unfold rhs fromState lowA gram left right vals
  have hp : p.val < 8 := p.isLt
  simp only [hp, if_true]
  rw [add_assoc]
  refine congrArg₂ (· + ·) rfl ?_
  rw [add_comm]
  refine congrArg₂ (· + ·) (Finset.sum_congr rfl fun q _ => ?_) (Finset.sum_congr rfl fun q _ => ?_)
  · have e : (8 + q.val) % 8 = q.val := by omega
    have e2 : ¬ (8 + q.val < 8) := by omega
    have e3 : 8 + q.val - 8 = q.val := by omega
    simp only [e, e2, e3, if_false]
    by_cases hq : q.val < p.val
    · rw [if_pos hq, if_pos hq]; rfl
    · rw [if_neg hq, if_neg hq, zero_mul]
  · have e : q.val % 8 = q.val := by omega
    have e2 : q.val < 8 := q.isLt
    simp only [e, e2, if_true]
    by_cases hq : q.val < p.val
    · rw [if_pos hq, if_pos hq]; rfl
    · rw [if_neg hq, if_neg hq, zero_mul]

theorem out_eq (p : Fin 8) (i : Fin 64) : out (left r lw a) (right lw k b) (vals v) s0 p i = yy r lw k v a b s0 p.val i := by
  have h := read_eq lw k v a b s0 (p.val + 1) i (r p.val)
  rw [sum_first _ _ (by omega), sum_first _ _ (by omega)] at h
  unfold yy
  rw [h]
  unfold out
  rw [sum16]
  have e2 : ¬ (8 + p.val < 8) := by omega
  have e3 : 8 + p.val - 8 = p.val := by omega
  have e4 : 8 + p.val - 7 = p.val + 1 := by omega
  refine congrArg₂ (· + ·) ?_ (congrArg₂ (· + ·) (Finset.sum_congr rfl fun q _ => ?_) (Finset.sum_congr rfl fun q _ => ?_))
  · unfold fromState left
    simp only [e2, e3, if_false]
    rfl
  · have f1 : q.val % 8 = q.val := by omega
    have f2 : q.val < 8 := q.isLt
    have g : uv (left r lw a) (right lw k b) (vals v) s0 ⟨q.val, by omega⟩ i = sa lw k v a b s0 q.val i := by
      unfold uv
      rw [dif_pos f2]
      exact uu_eq r lw k v a b s0 q i
    rw [g]
    unfold gram left right
    simp only [f1, f2, e2, e3, e4, if_false, if_true]
    by_cases hq : q.val < p.val + 1
    · rw [if_pos hq, if_pos hq]; rfl
    · rw [if_neg hq, if_neg hq, zero_mul]
  · have f1 : (8 + q.val) % 8 = q.val := by omega
    have f2 : ¬ (8 + q.val < 8) := by omega
    have f3 : 8 + q.val - 8 = q.val := by omega
    have g : uv (left r lw a) (right lw k b) (vals v) s0 ⟨8 + q.val, by omega⟩ i = v q.val i := by
      unfold uv
      rw [dif_neg f2]
      simp only [f3]
      rfl
    rw [g]
    unfold gram left right
    simp only [f1, f2, f3, e2, e3, e4, if_false]
    by_cases hq : q.val < p.val + 1
    · rw [if_pos hq, if_pos hq]; rfl
    · rw [if_neg hq, if_neg hq, zero_mul]

theorem last_eq (i j : Fin 64) : last (left r lw a) (right lw k b) (vals v) s0 i j * Real.exp (cx lw 8 j) = st lw k v a b s0 8 i j := by
  rw [st_eq, mul_comm]
  refine congrArg (Real.exp (cx lw 8 j) * ·) ?_
  unfold last
  refine congrArg (s0 i j + ·) ?_
  rw [sum16, sum_first _ 8 le_rfl, ← Finset.sum_add_distrib]
  refine Finset.sum_congr rfl fun q _ => ?_
  have f2 : q.val < 8 := q.isLt
  have f4 : ¬ (8 + q.val < 8) := by omega
  have f3 : 8 + q.val - 8 = q.val := by omega
  rw [if_pos f2]
  refine congrArg₂ (· + ·) ?_ ?_
  · unfold uv right
    rw [dif_pos f2]
    simp only [f2, if_true]
    exact congrArg (· * bt' lw b q.val j) (uu_eq r lw k v a b s0 q i)
  · unfold uv right
    rw [dif_neg f4]
    simp only [f3, f4, if_false]
    rfl

end agree

end Cert.Layer.Scan

end
-- ==== Proof.ScanStage.lean ====
/-
  The stages of one head's eight tokens in the kernel, read over the real numbers.
-/
module

public import proofs.«01_k».proof.Proof.ScanMath
public import proofs.«01_k».proof.Proof.AttnMath
public import proofs.«01_k».proof.Proof.Gen.KernelScanIdeal.Value

@[expose] public section

set_option maxRecDepth 16384

noncomputable section

open Idealize.ShloMosaic Idealize.ShloMosaic.TcCoe Idealize.SL.Sem
open Cert.Layer

namespace Cert.KernelScanIdeal.Value
open Cert.KernelScanIdeal Cert.KernelScanIdeal.Gen

/-- A product of two 8×8 matrices in three passes. -/
def mm8 (x y : FVec Ideal S8x8 .f32) : FVec Ideal S8x8 .f32 :=
  addf (addf (matmul dot_S8x8_S8x8_S8x8_1_0_0_1_n_n none (truncf .bf16 x bitsLt_bf16_f32) (truncf .bf16 y bitsLt_bf16_f32) (constant S8x8 .f32 0x00000000#32))
      (matmul dot_S8x8_S8x8_S8x8_1_0_0_1_n_n none (truncf .bf16 x bitsLt_bf16_f32) (truncf .bf16 (subf y (extf .f32 (truncf .bf16 y bitsLt_bf16_f32) bitsLt_bf16_f32)) bitsLt_bf16_f32) (constant S8x8 .f32 0x00000000#32)))
    (matmul dot_S8x8_S8x8_S8x8_1_0_0_1_n_n none (truncf .bf16 (subf x (extf .f32 (truncf .bf16 x bitsLt_bf16_f32) bitsLt_bf16_f32)) bitsLt_bf16_f32) (truncf .bf16 y bitsLt_bf16_f32) (constant S8x8 .f32 0x00000000#32))

/-- The strictly lower block of the products, masked by the (one) diagonal block. -/
def low8 (g : FVec Ideal S16x16 .f32) : FVec Ideal S8x8 .f32 :=
  k0_pay152 (k0_pay132 g) (iota .tc S8x8 32 [1] iota_S8x8_d1_w32) k0_pay148 8#32 k0_pay149 k0_pay150 k0_pay151

/-- One plus the strictly lower block. -/
def one8 (a : FVec Ideal S8x8 .f32) : FVec Ideal S8x8 .f32 :=
  k0_pay210 a (k0_pay207 (iota .tc S8x8 32 [0] iota_S8x8_d0_w32) (iota .tc S8x8 32 [1] iota_S8x8_d1_w32)) (Scalar.ofBits .f32 0x00000000#32) k0_pay208

/-- The state after the eight tokens. -/
def next (s : FVec Ideal S64x64 .f32) (uv rt : FVec Ideal S16x64 .f32) (e : FVec Ideal S1x64 .f32) : FVec Ideal S64x64 .f32 :=
  mulf (addf s (matmul dot_S16x64_S16x64_S64x64_0_0_1_1_n_n none (truncf .bf16 uv bitsLt_bf16_f32) (truncf .bf16 rt bitsLt_bf16_f32) (constant S64x64 .f32 0x00000000#32)))
    (broadcastTo S64x64 e broadcasts_S1x64_S64x64)

/-- The normalised read, the bonus, the gate. -/
def fin (r k v y : FVec Ideal S8x64 .f32) (lg lb rk : FVec Ideal S1x64 .f32) (gate : FVec Ideal S8x64 .f32) : FVec Ideal S8x64 .f32 :=
  have m : FVec Ideal S8x1 .f32 := divf (shapeCast S8x1 (multiReduction .add [1] S8 y 0x00000000#32 reduces_S8x64_S8 (.inl rfl) rfl) shapeCasts_S8_S8x1) (broadcast S8x1 (Scalar.ofBits .f32 0x42800000#32))
  have d : FVec Ideal S8x64 .f32 := subf y (broadcastTo S8x64 m broadcasts_S8x1_S8x64)
  have q : FVec Ideal S8x1 .f32 := divf (shapeCast S8x1 (multiReduction .add [1] S8 (mulf d d) 0x00000000#32 reduces_S8x64_S8 (.inl rfl) rfl) shapeCasts_S8_S8x1) (broadcast S8x1 (Scalar.ofBits .f32 0x42800000#32))
  have n : FVec Ideal S8x64 .f32 := mulf d (broadcastTo S8x64 (rsqrt (addf q (broadcast S8x1 (Scalar.ofBits .f32 0x3A27C5AC#32)))) broadcasts_S8x1_S8x64)
  have z : FVec Ideal S8x64 .f32 := addf (mulf n (broadcastTo S8x64 (shapeCast S1x64 lg shapeCasts_S1x64_S1x64) broadcasts_S1x64_S8x64)) (broadcastTo S8x64 (shapeCast S1x64 lb shapeCasts_S1x64_S1x64) broadcasts_S1x64_S8x64)
  have b : FVec Ideal S8x1 .f32 := shapeCast S8x1 (multiReduction .add [1] S8 (mulf (mulf r k) (broadcastTo S8x64 (shapeCast S1x64 rk shapeCasts_S1x64_S1x64) broadcasts_S1x64_S8x64)) 0x00000000#32 reduces_S8x64_S8 (.inl rfl) rfl) shapeCasts_S8_S8x1
  mulf (addf z (mulf (broadcastTo S8x64 b broadcasts_S8x1_S8x64) v)) gate

/-- The values one head goes through. -/
structure Chain (L R : FVec Ideal S16x64 .f32) (V : FVec Ideal S8x64 .f32) (S : FVec Ideal S64x64 .f32) (E : FVec Ideal S1x64 .f32)
    (G : FVec Ideal S16x16 .f32) (H : FVec Ideal S16x64 .f32) (A T P T2 P4 T4 : FVec Ideal S8x8 .f32) (K U : FVec Ideal S8x64 .f32) (W : FVec Ideal S16x64 .f32)
    (Y : FVec Ideal S8x64 .f32) (N : FVec Ideal S64x64 .f32) : Prop where
  g : G = k0_pay82 k0_pay5 L R
  h : H = k0_pay115 L S
  a : A = low8 G
  t : T = one8 A
  p : P = mm8 A A
  t2 : T2 = addf T (mm8 T P)
  p4 : P4 = mm8 P P
  t4 : T4 = addf T2 (mm8 T2 P4)
  k : K = k0_pay366 V G
  u : U = k0_pay376 H T4 K
  w : W = k0_pay406 V U
  y : Y = k0_pay428 G H W
  n : N = next S W R E

/-! ### The masks -/

theorem lower_bit : ∀ p q : Fin 16, k0_pay5 (ix2 p q) = if q.val % 8 < (if p.val < 8 then p.val else p.val - 7) then 1#1 else 0#1 := by
  decide +kernel

/-! ### Sums of three passes -/

theorem real_sub_self (x : ℝ) : (x : EReal) - (x : EReal) = 0 := by rw [← EReal.coe_sub, sub_self, EReal.coe_zero]

/-- Where the factors are real the second and third pass add nothing. -/
theorem three {n : ℕ} (f g : Fin n → ℝ) : (∑ x, (f x : EReal) * (g x : EReal)) + (∑ x, (f x : EReal) * ((g x : EReal) - (g x : EReal)))
    + (∑ x, ((f x : EReal) - (f x : EReal)) * (g x : EReal)) = ((∑ x, f x * g x : ℝ) : EReal) := by
  simp only [real_sub_self, mul_zero, zero_mul, Finset.sum_const_zero, add_zero, Cert.KernelIdeal.Value.coe_sum', EReal.coe_mul]

theorem one {n : ℕ} (f g : Fin n → ℝ) : (∑ x, (f x : EReal) * (g x : EReal)) = ((∑ x, f x * g x : ℝ) : EReal) := by
  simp only [Cert.KernelIdeal.Value.coe_sum', EReal.coe_mul]

theorem mm8_apply (x y : FVec Ideal S8x8 .f32) (p q : Fin 8) : mm8 x y (ix2 p q)
    = (∑ z : Fin 8, x (ix2 p z) * y (ix2 z q)) + (∑ z : Fin 8, x (ix2 p z) * (y (ix2 z q) - y (ix2 z q))) + (∑ z : Fin 8, (x (ix2 p z) - x (ix2 p z)) * y (ix2 z q)) := by
  pointwise [mm8]

theorem gram_apply (m : IVec S16x16 1) (L R : FVec Ideal S16x64 .f32) (p q : Fin 16) : k0_pay82 m L R (ix2 p q)
    = Scalar.select (m (ix2 p q)) ((∑ z : Fin 64, L (ix2 p z) * R (ix2 q z)) + (∑ z : Fin 64, L (ix2 p z) * (R (ix2 q z) - R (ix2 q z))) + (∑ z : Fin 64, (L (ix2 p z) - L (ix2 p z)) * R (ix2 q z))) 0 := by
  pointwise [k0_pay82]

theorem from_apply (L : FVec Ideal S16x64 .f32) (S : FVec Ideal S64x64 .f32) (p : Fin 16) (i : Fin 64) : k0_pay115 L S (ix2 p i) = ∑ z : Fin 64, L (ix2 p z) * S (ix2 i z) := by
  pointwise [k0_pay115]

theorem low8_bit : ∀ p q : Fin 8, IntOp.cmpi CmpIPredicate.eq (k0_pay148 (ix2 p q))
        (Scalar.select
          (IntOp.andi
            (IntOp.cmpi CmpIPredicate.ne
              (IntOp.subi (k0_pay150 (ix2 p q))
                (BitVec.setWidth 32 (IntOp.cmpi CmpIPredicate.slt (BitVec.ofNat 32 q.val) (k0_pay151 (ix2 p q)))))
              (Scalar.subi (Scalar.extui (Scalar.cmpi CmpIPredicate.sgt 8#32 0#32))
                (Scalar.extui (Scalar.cmpi CmpIPredicate.slt 8#32 0#32))))
            (IntOp.cmpi CmpIPredicate.ne (IntOp.remsi ArithUnit.vector (BitVec.ofNat 32 q.val) 8#32) 0#32))
          (IntOp.subi (k0_pay149 (ix2 p q)) 1#32) (k0_pay149 (ix2 p q))) = 1#1 := by
  decide +kernel

theorem eye_bit : ∀ p q : Fin 8, IntOp.cmpi CmpIPredicate.eq (BitVec.ofNat 32 p.val) (BitVec.ofNat 32 q.val) = if p = q then 1#1 else 0#1 := by
  decide +kernel

theorem low8_apply (g : FVec Ideal S16x16 .f32) (p q : Fin 8) : low8 g (ix2 p q) = g (ix2 (⟨p.val, by omega⟩ : Fin 16) (⟨q.val, by omega⟩ : Fin 16)) := by
  unfold low8 k0_pay152 k0_pay132
  pointwise
  exact (congrArg (fun b => Scalar.select b (g (ix2 (⟨p.val, by omega⟩ : Fin 16) (⟨q.val, by omega⟩ : Fin 16))) 0) (low8_bit p q)).trans rfl

theorem one8_apply (a : FVec Ideal S8x8 .f32) (p q : Fin 8) : one8 a (ix2 p q) = (if p = q then 1 else 0) + a (ix2 p q) := by
  unfold one8 k0_pay210 k0_pay209 k0_pay208 k0_pay207
  pointwise
  rw [eye_bit]
  by_cases h : p = q
  · rw [if_pos h, if_pos h]; rfl
  · rw [if_neg h, if_neg h]; rfl

theorem akv_apply (V : FVec Ideal S8x64 .f32) (g : FVec Ideal S16x16 .f32) (p : Fin 8) (i : Fin 64) : k0_pay366 V g (ix2 p i)
    = ∑ z : Fin 8, g (ix2 (⟨p.val, by omega⟩ : Fin 16) (⟨8 + z.val, by omega⟩ : Fin 16)) * V (ix2 z i) := by
  pointwise [k0_pay366]

theorem u_apply (H : FVec Ideal S16x64 .f32) (T : FVec Ideal S8x8 .f32) (K : FVec Ideal S8x64 .f32) (p : Fin 8) (i : Fin 64) : k0_pay376 H T K (ix2 p i)
    = (∑ z : Fin 8, T (ix2 p z) * (H (ix2 (⟨z.val, by omega⟩ : Fin 16) i) + K (ix2 z i)))
      + (∑ z : Fin 8, T (ix2 p z) * ((H (ix2 (⟨z.val, by omega⟩ : Fin 16) i) + K (ix2 z i)) - (H (ix2 (⟨z.val, by omega⟩ : Fin 16) i) + K (ix2 z i))))
      + (∑ z : Fin 8, (T (ix2 p z) - T (ix2 p z)) * (H (ix2 (⟨z.val, by omega⟩ : Fin 16) i) + K (ix2 z i))) := by
  pointwise [k0_pay376]

theorem uv_apply (V U : FVec Ideal S8x64 .f32) (p : Fin 16) (i : Fin 64) : k0_pay406 V U (ix2 p i)
    = if h : p.val < 8 then U (ix2 (⟨p.val, h⟩ : Fin 8) i) else V (ix2 (⟨p.val - 8, by omega⟩ : Fin 8) i) := by
  pointwise [k0_pay406]

theorem y_apply (g : FVec Ideal S16x16 .f32) (H W : FVec Ideal S16x64 .f32) (p : Fin 8) (i : Fin 64) : k0_pay428 g H W (ix2 p i)
    = H (ix2 (⟨8 + p.val, by omega⟩ : Fin 16) i) + ∑ z : Fin 16, g (ix2 (⟨8 + p.val, by omega⟩ : Fin 16) z) * W (ix2 z i) := by
  pointwise [k0_pay428]

theorem next_apply (s : FVec Ideal S64x64 .f32) (w rt : FVec Ideal S16x64 .f32) (e : FVec Ideal S1x64 .f32) (i j : Fin 64) : next s w rt e (ix2 i j)
    = (s (ix2 i j) + ∑ z : Fin 16, w (ix2 z i) * rt (ix2 z j)) * e (ix2 0 j) := by
  pointwise [next]

/-- The layer norm of a row of 64 reads, with the bonus and the gate. -/
def tail (y : Fin 64 → EReal) (r k rk : Fin 64 → EReal) (v lg lb gate : EReal) (d : Fin 64) : EReal :=
  ((y d - Ideal.div (∑ x, y x) (Ideal.ofBits .f32 0x42800000#32))
      * Ideal.rsqrt (Ideal.div (∑ x, (y x - Ideal.div (∑ x, y x) (Ideal.ofBits .f32 0x42800000#32)) * (y x - Ideal.div (∑ x, y x) (Ideal.ofBits .f32 0x42800000#32))) (Ideal.ofBits .f32 0x42800000#32)
        + Ideal.ofBits .f32 0x3A27C5AC#32) * lg + lb
    + (∑ x, r x * k x * rk x) * v) * gate

theorem fin_apply (r k v y : FVec Ideal S8x64 .f32) (lg lb rk : FVec Ideal S1x64 .f32) (gate : FVec Ideal S8x64 .f32) (p : Fin 8) (d : Fin 64) : fin r k v y lg lb rk gate (ix2 p d)
    = tail (fun x => y (ix2 p x)) (fun x => r (ix2 p x)) (fun x => k (ix2 p x)) (fun x => rk (ix2 0 x)) (v (ix2 p d)) (lg (ix2 0 d)) (lb (ix2 0 d)) (gate (ix2 p d)) d := by
  pointwise [fin, tail]

/-! ### One head over the real numbers -/

open Cert.Layer.Scan in
theorem chain_real {L R : FVec Ideal S16x64 .f32} {V : FVec Ideal S8x64 .f32} {S : FVec Ideal S64x64 .f32} {E : FVec Ideal S1x64 .f32}
    {G : FVec Ideal S16x16 .f32} {H : FVec Ideal S16x64 .f32} {A T P T2 P4 T4 : FVec Ideal S8x8 .f32} {K U : FVec Ideal S8x64 .f32} {W : FVec Ideal S16x64 .f32}
    {Y : FVec Ideal S8x64 .f32} {N : FVec Ideal S64x64 .f32} (c : Chain L R V S E G H A T P T2 P4 T4 K U W Y N)
    (l r : Fin 16 → Fin 64 → ℝ) (v : Fin 8 → Fin 64 → ℝ) (s : Fin 64 → Fin 64 → ℝ)
    (hL : ∀ p j, L (ix2 p j) = ((l p j : ℝ) : EReal)) (hR : ∀ p j, R (ix2 p j) = ((r p j : ℝ) : EReal))
    (hV : ∀ p j, V (ix2 p j) = ((v p j : ℝ) : EReal)) (hS : ∀ i j, S (ix2 i j) = ((s i j : ℝ) : EReal)) :
    (∀ p i, Y (ix2 p i) = ((out l r v s p i : ℝ) : EReal)) ∧ (∀ i j, N (ix2 i j) = ((last l r v s i j : ℝ) : EReal) * E (ix2 0 j)) := by
  have hG : ∀ p q, G (ix2 p q) = ((gram l r p q : ℝ) : EReal) := by
    intro p q
    rw [c.g, gram_apply, lower_bit]
    simp only [hL, hR]
    rw [three (fun z => l p z) (fun z => r q z)]
    unfold gram
    by_cases h : q.val % 8 < (if p.val < 8 then p.val else p.val - 7)
    · rw [if_pos h, if_pos h]; rfl
    · rw [if_neg h, if_neg h]; rfl
  have hH : ∀ p i, H (ix2 p i) = ((fromState l s p i : ℝ) : EReal) := by
    intro p i
    rw [c.h, from_apply]
    simp only [hL, hS]
    exact one _ _
  have mm : ∀ {x y : FVec Ideal S8x8 .f32} {a b : Matrix (Fin 8) (Fin 8) ℝ}, (∀ p q, x (ix2 p q) = ((a p q : ℝ) : EReal)) → (∀ p q, y (ix2 p q) = ((b p q : ℝ) : EReal)) →
      ∀ p q, mm8 x y (ix2 p q) = (((a * b) p q : ℝ) : EReal) := by
    intro x y a b ha hb p q
    rw [mm8_apply]
    simp only [ha, hb]
    rw [three (fun z => a p z) (fun z => b z q)]
    rfl
  have ad : ∀ {x y : FVec Ideal S8x8 .f32} {a b : Matrix (Fin 8) (Fin 8) ℝ}, (∀ p q, x (ix2 p q) = ((a p q : ℝ) : EReal)) → (∀ p q, y (ix2 p q) = ((b p q : ℝ) : EReal)) →
      ∀ p q, addf x y (ix2 p q) = (((a + b) p q : ℝ) : EReal) := by
    intro x y a b ha hb p q
    have e : addf x y (ix2 p q) = x (ix2 p q) + y (ix2 p q) := rfl
    rw [e, ha, hb, ← EReal.coe_add]
    rfl
  have hA : ∀ p q, A (ix2 p q) = ((lowA l r p q : ℝ) : EReal) := by
    intro p q
    rw [c.a, low8_apply, hG]
    rfl
  have hT : ∀ p q, T (ix2 p q) = (((1 + lowA l r) p q : ℝ) : EReal) := by
    intro p q
    rw [c.t, one8_apply, hA, Matrix.add_apply, Matrix.one_apply, EReal.coe_add]
    refine congrArg (· + _) ?_
    by_cases h : p = q
    · rw [if_pos h, if_pos h]; rfl
    · rw [if_neg h, if_neg h]; rfl
  have hP := mm hA hA
  rw [← c.p] at hP
  have hT2 := ad hT (mm hT hP)
  rw [← c.t2] at hT2
  have hP4 := mm hP hP
  rw [← c.p4] at hP4
  have hT4 := ad hT2 (mm hT2 hP4)
  rw [← c.t4] at hT4
  have hT4' : ∀ p q, T4 (ix2 p q) = ((inv l r p q : ℝ) : EReal) := hT4
  have hK : ∀ p i, K (ix2 p i) = ((∑ q : Fin 8, gram l r ⟨p.val, by omega⟩ ⟨8 + q.val, by omega⟩ * v q i : ℝ) : EReal) := by
    intro p i
    rw [c.k, akv_apply]
    simp only [hG, hV]
    exact one _ _
  have hU : ∀ p i, U (ix2 p i) = ((uu l r v s p i : ℝ) : EReal) := by
    intro p i
    rw [c.u, u_apply]
    simp only [hT4', hH, hK, ← EReal.coe_add]
    exact three (fun z => inv l r p z) (fun z => rhs l r v s z i)
  have hW : ∀ p i, W (ix2 p i) = ((uv l r v s p i : ℝ) : EReal) := by
    intro p i
    rw [c.w, uv_apply]
    unfold uv
    by_cases h : p.val < 8
    · rw [dif_pos h, dif_pos h, hU]
    · rw [dif_neg h, dif_neg h, hV]
  refine ⟨fun p i => ?_, fun i j => ?_⟩
  · rw [c.y, y_apply]
    simp only [hG, hW, hH]
    rw [one (fun z => gram l r ⟨8 + p.val, by omega⟩ z) (fun z => uv l r v s z i), ← EReal.coe_add]
    rfl
  · rw [c.n, next_apply]
    simp only [hS, hW, hR]
    rw [one (fun z => uv l r v s z i) (fun z => r z j), ← EReal.coe_add]
    rfl

/-! ### The scaled rows -/

theorem incl_apply (p z : Fin 8) : k0_pay4 (F := Ideal) (ix2 p z) = if z.val ≤ p.val then (1 : EReal) else 0 := by
  unfold k0_pay4
  pointwise
  have h : ∀ p z : Fin 8, IntOp.cmpi CmpIPredicate.sge (BitVec.ofNat 32 p.val) (BitVec.ofNat 32 z.val) = if z.val ≤ p.val then 1#1 else 0#1 := by
    decide +kernel
  rw [h]
  by_cases e : z.val ≤ p.val
  · rw [if_pos e, if_pos e]; rfl
  · rw [if_neg e, if_neg e]; rfl

theorem cum_apply (m : FVec Ideal S8x8 .bf16) (x : Vec Ideal S8x1024 .f32) (p : Fin 8) (J : Fin 1024) : k0_pay6 m x (ix2 p J)
    = (∑ z : Fin 8, m (ix2 p z) * x (ix2 z J)) + (∑ z : Fin 8, m (ix2 p z) * (x (ix2 z J) - x (ix2 z J)))
      + (∑ z : Fin 8, m (ix2 p z) * ((x (ix2 z J) - x (ix2 z J)) - (x (ix2 z J) - x (ix2 z J)))) := by
  pointwise [k0_pay6]

open Cert.Layer.Scan in
theorem cum_real (x : Vec Ideal S8x1024 .f32) (d : ℕ → Fin 1024 → ℝ) (hx : ∀ (p : Fin 8) J, x (ix2 p J) = ((d p.val J : ℝ) : EReal)) (p : Fin 8) (J : Fin 1024) :
    k0_pay6 k0_pay4 x (ix2 p J) = ((∑ m ∈ Finset.range (p.val + 1), d m J : ℝ) : EReal) := by
  have z0 : (0 : EReal) - 0 = 0 := by simp
  rw [cum_apply]
  simp only [hx, real_sub_self, z0, mul_zero, Finset.sum_const_zero, add_zero]
  rw [sum_first _ _ (by omega), Cert.KernelIdeal.Value.coe_sum']
  refine Finset.sum_congr rfl fun q _ => ?_
  rw [incl_apply]
  by_cases e : q.val ≤ p.val
  · rw [if_pos e, if_pos (by omega), one_mul]
  · rw [if_neg e, if_neg (by omega), zero_mul]; rfl

theorem a_apply (m : FVec Ideal S8x8 .bf16) (x y : Vec Ideal S8x1024 .f32) (p : Fin 8) (J : Fin 1024) : k0_pay8 m x y (ix2 p J)
    = y (ix2 p J) * Ideal.exp (k0_pay6 m x (ix2 p J) - x (ix2 p J)) := by
  pointwise [k0_pay8]

theorem r_apply (m : FVec Ideal S8x8 .bf16) (y x : Vec Ideal S8x1024 .f32) (p : Fin 8) (J : Fin 1024) : k0_pay9 m y x (ix2 p J)
    = y (ix2 p J) * Ideal.exp (k0_pay6 m x (ix2 p J)) := by
  pointwise [k0_pay9]

theorem b_apply (m : FVec Ideal S8x8 .bf16) (x y : Vec Ideal S8x1024 .f32) (p : Fin 8) (J : Fin 1024) : k0_pay10 m x y (ix2 p J)
    = y (ix2 p J) * Ideal.exp (0 - k0_pay6 m x (ix2 p J)) := by
  pointwise [k0_pay10, k0_pay7]

theorem k_apply (m : FVec Ideal S8x8 .bf16) (x y : Vec Ideal S8x1024 .f32) (p : Fin 8) (J : Fin 1024) : k0_pay11 m x y (ix2 p J)
    = y (ix2 p J) * Ideal.exp (0 - k0_pay6 m x (ix2 p J)) := by
  pointwise [k0_pay11, k0_pay7]

theorem e_apply (m : FVec Ideal S8x8 .bf16) (x : Vec Ideal S8x1024 .f32) (J : Fin 1024) : k0_pay12 m x (ix2 0 J)
    = Ideal.exp (k0_pay6 m x (ix2 7 J)) := by
  pointwise [k0_pay12]

end Cert.KernelScanIdeal.Value

end
-- ==== Proof.ScanTile.lean ====
/-
  The sixteen heads of the recurrence's launch: each head's values go through the same chain.
-/
module

public import proofs.«01_k».proof.Proof.ScanStage
public import Idealize.ShloMosaic.Lib.Pipeline.ReadBack

@[expose] public section

set_option maxRecDepth 16384

noncomputable section

open Idealize.ShloMosaic Idealize.ShloMosaic.TcCoe Idealize.SL.Sem
open Cert.Layer

namespace Cert.KernelScanIdeal.Value
open Cert.KernelScanIdeal Cert.KernelScanIdeal.Gen Cert.KernelScanIdeal.Gen.kernelRun0_A.sl

/-- One head's rows of two operands, one above the other. -/
def stack (o : ℕ) (hs : S8x1024.Slices ![0, o] S8x64) (x y : FVec Ideal S8x1024 .f32) : FVec Ideal S16x64 .f32 :=
  concatenate S16x64 0 [⟨S8x64, extractStridedSlice S8x64 ![0, o] x hs⟩, ⟨S8x64, extractStridedSlice S8x64 ![0, o] y hs⟩] concatenates_S8x64_S8x64_S16x64_d0

/-- One head's rows. -/
def cut (o : ℕ) (hs : S8x1024.Slices ![0, o] S8x64) (x : FVec Ideal S8x1024 .f32) : FVec Ideal S8x64 .f32 :=
  extractStridedSlice S8x64 ![0, o] x hs

/-- One head's lanes of a row. -/
def cut1 (o : ℕ) (hs : S1x1024.Slices ![0, o] S1x64) (x : FVec Ideal S1x1024 .f32) : FVec Ideal S1x64 .f32 :=
  extractStridedSlice S1x64 ![0, o] x hs

theorem cut_apply (o : ℕ) (ho : o + 64 ≤ 1024) (hs : S8x1024.Slices ![0, o] S8x64) (x : FVec Ideal S8x1024 .f32) (p : Fin 8) (j : Fin 64) :
    cut o hs x (ix2 p j) = x (ix2 p (⟨o + j.val, by omega⟩ : Fin 1024)) := by
  unfold cut
  refine congrArg x ?_
  funext a; apply Fin.ext
  fin_cases a
  · show 0 + p.val = p.val; omega
  · rfl

theorem cut1_apply (o : ℕ) (ho : o + 64 ≤ 1024) (hs : S1x1024.Slices ![0, o] S1x64) (x : FVec Ideal S1x1024 .f32) (j : Fin 64) :
    cut1 o hs x (ix2 0 j) = x (ix2 0 (⟨o + j.val, by omega⟩ : Fin 1024)) := by
  unfold cut1
  refine congrArg x ?_
  funext a; apply Fin.ext
  fin_cases a
  · rfl
  · rfl

theorem cat_apply (u w : FVec Ideal S8x64 .f32) (p : Fin 16) (j : Fin 64) :
    concatenate S16x64 0 [⟨S8x64, u⟩, ⟨S8x64, w⟩] concatenates_S8x64_S8x64_S16x64_d0 (ix2 p j)
      = if h : p.val < 8 then u (ix2 (⟨p.val, h⟩ : Fin 8) j) else w (ix2 (⟨p.val - 8, by omega⟩ : Fin 8) j) := by
  pointwise

theorem stack_apply (o : ℕ) (ho : o + 64 ≤ 1024) (hs : S8x1024.Slices ![0, o] S8x64) (x y : FVec Ideal S8x1024 .f32) (p : Fin 16) (j : Fin 64) :
    stack o hs x y (ix2 p j) = if h : p.val < 8 then x (ix2 (⟨p.val, h⟩ : Fin 8) (⟨o + j.val, by omega⟩ : Fin 1024)) else y (ix2 (⟨p.val - 8, by omega⟩ : Fin 8) (⟨o + j.val, by omega⟩ : Fin 1024)) := by
  refine (cat_apply _ _ p j).trans ?_
  by_cases h : p.val < 8
  · rw [dif_pos h, dif_pos h]; exact cut_apply o ho hs x _ j
  · rw [dif_neg h, dif_neg h]; exact cut_apply o ho hs y _ j

theorem whole_read {S : Shape} {φ : EltTy} (arg : Memref sig .tc .vmem S φ) (harg : arg.IsWhole) (X : Vec Ideal S φ) {off : Fin S.rank → ℕ}
    (inb : ∀ a, off a + S.size a ≤ S.size a) :
    View.readAt (Elt Ideal) arg.view (Rect.unit (s := S) off S.size inb).toLoadRect (harg.unread X) = X := by
  funext y
  refine (congrFun (View.readAt_eq_ld arg.view (harg.unread X) _) y).trans ?_
  rw [harg.read_unread]
  refine congrArg X ?_
  funext a; apply Fin.ext
  have h := inb a
  show off a + 1 * (y a).val = (y a).val
  omega

/-! ### The four scaled operands over the real numbers -/

section reals
variable (x0 x1 x2 x3 x4 x5 : Vec Ideal S8x1024 .f32) (dr dl dk dv da db : ℕ → Fin 1024 → ℝ)

theorem at_real (h1 : ∀ p J, x1 (ix2 p J) = ((dl p.val J : ℝ) : EReal)) (h4 : ∀ p J, x4 (ix2 p J) = ((da p.val J : ℝ) : EReal)) (p : Fin 8) (J : Fin 1024) :
    k0_pay8 k0_pay4 x1 x4 (ix2 p J) = ((da p.val J * Real.exp (∑ m ∈ Finset.range p.val, dl m J) : ℝ) : EReal) := by
  rw [a_apply, cum_real x1 dl h1, h1, h4, ← EReal.coe_sub, Ideal.exp_coe, ← EReal.coe_mul, Finset.sum_range_succ, add_sub_cancel_right]

theorem rt_real (h1 : ∀ p J, x1 (ix2 p J) = ((dl p.val J : ℝ) : EReal)) (h0 : ∀ p J, x0 (ix2 p J) = ((dr p.val J : ℝ) : EReal)) (p : Fin 8) (J : Fin 1024) :
    k0_pay9 k0_pay4 x0 x1 (ix2 p J) = ((dr p.val J * Real.exp (∑ m ∈ Finset.range (p.val + 1), dl m J) : ℝ) : EReal) := by
  rw [r_apply, cum_real x1 dl h1, h0, Ideal.exp_coe, ← EReal.coe_mul]

theorem bt_real (h1 : ∀ p J, x1 (ix2 p J) = ((dl p.val J : ℝ) : EReal)) (h5 : ∀ p J, x5 (ix2 p J) = ((db p.val J : ℝ) : EReal)) (p : Fin 8) (J : Fin 1024) :
    k0_pay10 k0_pay4 x1 x5 (ix2 p J) = ((db p.val J * Real.exp (-∑ m ∈ Finset.range (p.val + 1), dl m J) : ℝ) : EReal) := by
  rw [b_apply, cum_real x1 dl h1, h5, ← EReal.coe_zero, ← EReal.coe_sub, Ideal.exp_coe, ← EReal.coe_mul, zero_sub]

theorem kt_real (h1 : ∀ p J, x1 (ix2 p J) = ((dl p.val J : ℝ) : EReal)) (h2 : ∀ p J, x2 (ix2 p J) = ((dk p.val J : ℝ) : EReal)) (p : Fin 8) (J : Fin 1024) :
    k0_pay11 k0_pay4 x1 x2 (ix2 p J) = ((dk p.val J * Real.exp (-∑ m ∈ Finset.range (p.val + 1), dl m J) : ℝ) : EReal) := by
  rw [k_apply, cum_real x1 dl h1, h2, ← EReal.coe_zero, ← EReal.coe_sub, Ideal.exp_coe, ← EReal.coe_mul, zero_sub]

theorem end_real (h1 : ∀ p J, x1 (ix2 p J) = ((dl p.val J : ℝ) : EReal)) (J : Fin 1024) :
    k0_pay12 k0_pay4 x1 (ix2 0 J) = ((Real.exp (∑ m ∈ Finset.range 8, dl m J) : ℝ) : EReal) := by
  rw [e_apply, cum_real x1 dl h1, Ideal.exp_coe]
  rfl

/-- One head's lanes of a table of reals. -/
def hd (d : ℕ → Fin 1024 → ℝ) (o : ℕ) (ho : o + 64 ≤ 1024) : ℕ → Fin 64 → ℝ := fun n j => d n ⟨o + j.val, by omega⟩

/-- What one head's chain leaves: what each token reads, and the state after the last. -/
theorem head_of (h0 : ∀ p J, x0 (ix2 p J) = ((dr p.val J : ℝ) : EReal)) (h1 : ∀ p J, x1 (ix2 p J) = ((dl p.val J : ℝ) : EReal))
    (h2 : ∀ p J, x2 (ix2 p J) = ((dk p.val J : ℝ) : EReal)) (h3 : ∀ p J, x3 (ix2 p J) = ((dv p.val J : ℝ) : EReal))
    (h4 : ∀ p J, x4 (ix2 p J) = ((da p.val J : ℝ) : EReal)) (h5 : ∀ p J, x5 (ix2 p J) = ((db p.val J : ℝ) : EReal))
    (o : ℕ) (ho : o + 64 ≤ 1024) (hs : S8x1024.Slices ![0, o] S8x64) (hs1 : S1x1024.Slices ![0, o] S1x64) (S : FVec Ideal S64x64 .f32) (s : Fin 64 → Fin 64 → ℝ)
    (hS : ∀ i j, S (ix2 i j) = ((s i j : ℝ) : EReal)) {G H A T P T2 P4 T4 K U W Y N}
    (c : Chain (stack o hs (k0_pay8 k0_pay4 x1 x4) (k0_pay9 k0_pay4 x0 x1)) (stack o hs (k0_pay10 k0_pay4 x1 x5) (k0_pay11 k0_pay4 x1 x2)) (cut o hs x3) S
      (cut1 o hs1 (k0_pay12 k0_pay4 x1)) G H A T P T2 P4 T4 K U W Y N) :
    (∀ (p : Fin 8) (i : Fin 64), Y (ix2 p i) = ((Scan.yy (hd dr o ho) (hd dl o ho) (hd dk o ho) (hd dv o ho) (hd da o ho) (hd db o ho) s p.val i : ℝ) : EReal))
      ∧ ∀ i j : Fin 64, N (ix2 i j) = ((Scan.st (hd dl o ho) (hd dk o ho) (hd dv o ho) (hd da o ho) (hd db o ho) s 8 i j : ℝ) : EReal) := by
  have hL : ∀ (p : Fin 16) (j : Fin 64), stack o hs (k0_pay8 k0_pay4 x1 x4) (k0_pay9 k0_pay4 x0 x1) (ix2 p j)
      = ((Scan.left (hd dr o ho) (hd dl o ho) (hd da o ho) p j : ℝ) : EReal) := by
    intro p j
    rw [stack_apply o ho]
    unfold Scan.left
    by_cases h : p.val < 8
    · rw [dif_pos h, if_pos h, at_real x1 x4 dl da h1 h4]; rfl
    · rw [dif_neg h, if_neg h, rt_real x0 x1 dr dl h1 h0]; rfl
  have hR : ∀ (p : Fin 16) (j : Fin 64), stack o hs (k0_pay10 k0_pay4 x1 x5) (k0_pay11 k0_pay4 x1 x2) (ix2 p j)
      = ((Scan.right (hd dl o ho) (hd dk o ho) (hd db o ho) p j : ℝ) : EReal) := by
    intro p j
    rw [stack_apply o ho]
    unfold Scan.right
    by_cases h : p.val < 8
    · rw [dif_pos h, if_pos h, bt_real x1 x5 dl db h1 h5]; rfl
    · rw [dif_neg h, if_neg h, kt_real x1 x2 dl dk h1 h2]; rfl
  have hV : ∀ (p : Fin 8) (i : Fin 64), cut o hs x3 (ix2 p i) = ((Scan.vals (hd dv o ho) p i : ℝ) : EReal) := fun p i => (cut_apply o ho hs x3 p i).trans (h3 _ _)
  have hc := chain_real c _ _ _ _ hL hR hV hS
  refine ⟨fun p i => (hc.1 p i).trans (congrArg _ (Scan.out_eq _ _ _ _ _ _ _ p i)), fun i j => (hc.2 i j).trans ?_⟩
  rw [cut1_apply o ho, end_real x1 dl h1, ← EReal.coe_mul]
  exact congrArg _ (Scan.last_eq (hd dr o ho) (hd dl o ho) _ _ _ _ _ i j)

end reals

section run
variable (c : Dev nD) (b2 : Memref sig .tc .vmem S8x1024 .f32) (w2 : b2.IsWhole) (b3 : Memref sig .tc .vmem S8x1024 .f32) (w3 : b3.IsWhole)
  (b4 : Memref sig .tc .vmem S8x1024 .f32) (w4 : b4.IsWhole) (b5 : Memref sig .tc .vmem S8x1024 .f32) (w5 : b5.IsWhole)
  (b6 : Memref sig .tc .vmem S8x1024 .f32) (w6 : b6.IsWhole) (b7 : Memref sig .tc .vmem S8x1024 .f32) (w7 : b7.IsWhole)
  (b12 : Memref sig .tc .vmem S1x16x64x64 .f32) (w12 : b12.IsWhole) (b15 : Memref sig .tc .vmem S16x64x64 .f32)
  (x0 x1 x2 x3 x4 x5 : Vec Ideal S8x1024 .f32) (x10 : Vec Ideal S1x16x64x64 .f32)

/-- One head's state before the sequence's first token, as the launch loads it. -/
def stateIn (h : ℕ) (inb : ∀ a : Fin 3, (![h, 0, 0] : Fin 3 → ℕ) a + S1x64x64.size a ≤ S16x64x64.size a) : FVec Ideal S64x64 .f32 :=
  shapeCast S64x64 (b15.view.readCov (HS0_1 c b12 w12 x10) (Rect.unit (s := S16x64x64) ![h, 0, 0] S1x64x64.size inb).toLoadRect) shapeCasts_S1x64x64_S64x64

theorem cast_apply (X : FVec Ideal S1x64x64 .f32) (i j : Fin 64) : shapeCast S64x64 X shapeCasts_S1x64x64_S64x64 (ix2 i j) = X (ix3 0 i j) := by
  pointwise

theorem pay3_apply (X : FVec Ideal S1x16x64x64 .f32) (h : Fin 16) (i j : Fin 64) : k0_pay3 X (ix3 h i j) = X (ix4 0 h i j) := by
  pointwise [k0_pay3]

include w12 in
theorem stateIn_apply (h : Fin 16) (inb) (i j : Fin 64) : stateIn c b12 w12 b15 x10 h.val inb (ix2 i j) = x10 (ix4 0 h i j) := by
  unfold stateIn HS0_1
  refine (cast_apply _ i j).trans ?_
  rw [View.readCov_fill _ _ _ _ _ (by intro a; fin_cases a <;> rfl), whole_read b12 w12 x10]
  refine Eq.trans ?_ (pay3_apply x10 h i j)
  refine congrArg (k0_pay3 x10) ?_
  funext a; apply Fin.ext
  fin_cases a
  · show h.val + 1 * 0 = h.val; omega
  · show 0 + 1 * i.val = i.val; omega
  · show 0 + 1 * j.val = j.val; omega

/-- Head 0's chain. -/
theorem chain_0 : Chain (stack 0 slices_S8x1024_o0_0_S8x64 (r_3 c b3 w3 b6 w6 x1 x4) (r_4 c b2 w2 b3 w3 x0 x1)) (stack 0 slices_S8x1024_o0_0_S8x64 (r_5 c b3 w3 b7 w7 x1 x5) (r_6 c b3 w3 b4 w4 x1 x2)) (cut 0 slices_S8x1024_o0_0_S8x64 (r_2 c b5 w5 x3))
    (stateIn c b12 w12 b15 x10 0 (inb_S16x64x64_S1x64x64_0_0_0))
    (cut1 0 slices_S1x1024_o0_0_S1x64 (r_7 c b3 w3 x1)) (r_29 c b2 w2 b3 w3 b4 w4 b6 w6 b7 w7 x0 x1 x2 x4 x5) (r_58 c b2 w2 b3 w3 b6 w6 b12 w12 b15 x0 x1 x4 x10) (r_92 c b2 w2 b3 w3 b4 w4 b6 w6 b7 w7 x0 x1 x2 x4 x5) (r_108 c b2 w2 b3 w3 b4 w4 b6 w6 b7 w7 x0 x1 x2 x4 x5) (r_124 c b2 w2 b3 w3 b4 w4 b6 w6 b7 w7 x0 x1 x2 x4 x5) (r_154 c b2 w2 b3 w3 b4 w4 b6 w6 b7 w7 x0 x1 x2 x4 x5) (r_187 c b2 w2 b3 w3 b4 w4 b6 w6 b7 w7 x0 x1 x2 x4 x5) (r_217 c b2 w2 b3 w3 b4 w4 b6 w6 b7 w7 x0 x1 x2 x4 x5)
    (r_244 c b2 w2 b3 w3 b4 w4 b5 w5 b6 w6 b7 w7 x0 x1 x2 x3 x4 x5) (r_262 c b2 w2 b3 w3 b4 w4 b5 w5 b6 w6 b7 w7 b12 w12 b15 x0 x1 x2 x3 x4 x5 x10) (r_294 c b2 w2 b3 w3 b4 w4 b5 w5 b6 w6 b7 w7 b12 w12 b15 x0 x1 x2 x3 x4 x5 x10) (r_310 c b2 w2 b3 w3 b4 w4 b5 w5 b6 w6 b7 w7 b12 w12 b15 x0 x1 x2 x3 x4 x5 x10) (r_329 c b2 w2 b3 w3 b4 w4 b5 w5 b6 w6 b7 w7 b12 w12 b15 x0 x1 x2 x3 x4 x5 x10) :=
  ⟨rfl, rfl, rfl, rfl, rfl, rfl, rfl, rfl, rfl, rfl, rfl, rfl, rfl⟩

/-- Head 1's chain. -/
theorem chain_1 : Chain (stack 64 slices_S8x1024_o0_64_S8x64 (r_3 c b3 w3 b6 w6 x1 x4) (r_4 c b2 w2 b3 w3 x0 x1)) (stack 64 slices_S8x1024_o0_64_S8x64 (r_5 c b3 w3 b7 w7 x1 x5) (r_6 c b3 w3 b4 w4 x1 x2)) (cut 64 slices_S8x1024_o0_64_S8x64 (r_2 c b5 w5 x3))
    (stateIn c b12 w12 b15 x10 1 (inb_S16x64x64_S1x64x64_1_0_0))
    (cut1 64 slices_S1x1024_o0_64_S1x64 (r_7 c b3 w3 x1)) (r_30 c b2 w2 b3 w3 b4 w4 b6 w6 b7 w7 x0 x1 x2 x4 x5) (r_59 c b2 w2 b3 w3 b6 w6 b12 w12 b15 x0 x1 x4 x10) (r_93 c b2 w2 b3 w3 b4 w4 b6 w6 b7 w7 x0 x1 x2 x4 x5) (r_109 c b2 w2 b3 w3 b4 w4 b6 w6 b7 w7 x0 x1 x2 x4 x5) (r_125 c b2 w2 b3 w3 b4 w4 b6 w6 b7 w7 x0 x1 x2 x4 x5) (r_159 c b2 w2 b3 w3 b4 w4 b6 w6 b7 w7 x0 x1 x2 x4 x5) (r_188 c b2 w2 b3 w3 b4 w4 b6 w6 b7 w7 x0 x1 x2 x4 x5) (r_218 c b2 w2 b3 w3 b4 w4 b6 w6 b7 w7 x0 x1 x2 x4 x5)
    (r_246 c b2 w2 b3 w3 b4 w4 b5 w5 b6 w6 b7 w7 x0 x1 x2 x3 x4 x5) (r_263 c b2 w2 b3 w3 b4 w4 b5 w5 b6 w6 b7 w7 b12 w12 b15 x0 x1 x2 x3 x4 x5 x10) (r_295 c b2 w2 b3 w3 b4 w4 b5 w5 b6 w6 b7 w7 b12 w12 b15 x0 x1 x2 x3 x4 x5 x10) (r_311 c b2 w2 b3 w3 b4 w4 b5 w5 b6 w6 b7 w7 b12 w12 b15 x0 x1 x2 x3 x4 x5 x10) (r_330 c b2 w2 b3 w3 b4 w4 b5 w5 b6 w6 b7 w7 b12 w12 b15 x0 x1 x2 x3 x4 x5 x10) :=
  ⟨rfl, rfl, rfl, rfl, rfl, rfl, rfl, rfl, rfl, rfl, rfl, rfl, rfl⟩

/-- Head 2's chain. -/
theorem chain_2 : Chain (stack 128 slices_S8x1024_o0_128_S8x64 (r_3 c b3 w3 b6 w6 x1 x4) (r_4 c b2 w2 b3 w3 x0 x1)) (stack 128 slices_S8x1024_o0_128_S8x64 (r_5 c b3 w3 b7 w7 x1 x5) (r_6 c b3 w3 b4 w4 x1 x2)) (cut 128 slices_S8x1024_o0_128_S8x64 (r_2 c b5 w5 x3))
    (stateIn c b12 w12 b15 x10 2 (inb_S16x64x64_S1x64x64_2_0_0))
    (cut1 128 slices_S1x1024_o0_128_S1x64 (r_7 c b3 w3 x1)) (r_31 c b2 w2 b3 w3 b4 w4 b6 w6 b7 w7 x0 x1 x2 x4 x5) (r_60 c b2 w2 b3 w3 b6 w6 b12 w12 b15 x0 x1 x4 x10) (r_94 c b2 w2 b3 w3 b4 w4 b6 w6 b7 w7 x0 x1 x2 x4 x5) (r_110 c b2 w2 b3 w3 b4 w4 b6 w6 b7 w7 x0 x1 x2 x4 x5) (r_131 c b2 w2 b3 w3 b4 w4 b6 w6 b7 w7 x0 x1 x2 x4 x5) (r_160 c b2 w2 b3 w3 b4 w4 b6 w6 b7 w7 x0 x1 x2 x4 x5) (r_189 c b2 w2 b3 w3 b4 w4 b6 w6 b7 w7 x0 x1 x2 x4 x5) (r_221 c b2 w2 b3 w3 b4 w4 b6 w6 b7 w7 x0 x1 x2 x4 x5)
    (r_247 c b2 w2 b3 w3 b4 w4 b5 w5 b6 w6 b7 w7 x0 x1 x2 x3 x4 x5) (r_268 c b2 w2 b3 w3 b4 w4 b5 w5 b6 w6 b7 w7 b12 w12 b15 x0 x1 x2 x3 x4 x5 x10) (r_296 c b2 w2 b3 w3 b4 w4 b5 w5 b6 w6 b7 w7 b12 w12 b15 x0 x1 x2 x3 x4 x5 x10) (r_312 c b2 w2 b3 w3 b4 w4 b5 w5 b6 w6 b7 w7 b12 w12 b15 x0 x1 x2 x3 x4 x5 x10) (r_331 c b2 w2 b3 w3 b4 w4 b5 w5 b6 w6 b7 w7 b12 w12 b15 x0 x1 x2 x3 x4 x5 x10) :=
  ⟨rfl, rfl, rfl, rfl, rfl, rfl, rfl, rfl, rfl, rfl, rfl, rfl, rfl⟩

/-- Head 3's chain. -/
theorem chain_3 : Chain (stack 192 slices_S8x1024_o0_192_S8x64 (r_3 c b3 w3 b6 w6 x1 x4) (r_4 c b2 w2 b3 w3 x0 x1)) (stack 192 slices_S8x1024_o0_192_S8x64 (r_5 c b3 w3 b7 w7 x1 x5) (r_6 c b3 w3 b4 w4 x1 x2)) (cut 192 slices_S8x1024_o0_192_S8x64 (r_2 c b5 w5 x3))
    (stateIn c b12 w12 b15 x10 3 (inb_S16x64x64_S1x64x64_3_0_0))
    (cut1 192 slices_S1x1024_o0_192_S1x64 (r_7 c b3 w3 x1)) (r_36 c b2 w2 b3 w3 b4 w4 b6 w6 b7 w7 x0 x1 x2 x4 x5) (r_61 c b2 w2 b3 w3 b6 w6 b12 w12 b15 x0 x1 x4 x10) (r_95 c b2 w2 b3 w3 b4 w4 b6 w6 b7 w7 x0 x1 x2 x4 x5) (r_111 c b2 w2 b3 w3 b4 w4 b6 w6 b7 w7 x0 x1 x2 x4 x5) (r_132 c b2 w2 b3 w3 b4 w4 b6 w6 b7 w7 x0 x1 x2 x4 x5) (r_161 c b2 w2 b3 w3 b4 w4 b6 w6 b7 w7 x0 x1 x2 x4 x5) (r_194 c b2 w2 b3 w3 b4 w4 b6 w6 b7 w7 x0 x1 x2 x4 x5) (r_222 c b2 w2 b3 w3 b4 w4 b6 w6 b7 w7 x0 x1 x2 x4 x5)
    (r_248 c b2 w2 b3 w3 b4 w4 b5 w5 b6 w6 b7 w7 x0 x1 x2 x3 x4 x5) (r_269 c b2 w2 b3 w3 b4 w4 b5 w5 b6 w6 b7 w7 b12 w12 b15 x0 x1 x2 x3 x4 x5 x10) (r_297 c b2 w2 b3 w3 b4 w4 b5 w5 b6 w6 b7 w7 b12 w12 b15 x0 x1 x2 x3 x4 x5 x10) (r_313 c b2 w2 b3 w3 b4 w4 b5 w5 b6 w6 b7 w7 b12 w12 b15 x0 x1 x2 x3 x4 x5 x10) (r_332 c b2 w2 b3 w3 b4 w4 b5 w5 b6 w6 b7 w7 b12 w12 b15 x0 x1 x2 x3 x4 x5 x10) :=
  ⟨rfl, rfl, rfl, rfl, rfl, rfl, rfl, rfl, rfl, rfl, rfl, rfl, rfl⟩

/-- Head 4's chain. -/
theorem chain_4 : Chain (stack 256 slices_S8x1024_o0_256_S8x64 (r_3 c b3 w3 b6 w6 x1 x4) (r_4 c b2 w2 b3 w3 x0 x1)) (stack 256 slices_S8x1024_o0_256_S8x64 (r_5 c b3 w3 b7 w7 x1 x5) (r_6 c b3 w3 b4 w4 x1 x2)) (cut 256 slices_S8x1024_o0_256_S8x64 (r_2 c b5 w5 x3))
    (stateIn c b12 w12 b15 x10 4 (inb_S16x64x64_S1x64x64_4_0_0))
    (cut1 256 slices_S1x1024_o0_256_S1x64 (r_7 c b3 w3 x1)) (r_37 c b2 w2 b3 w3 b4 w4 b6 w6 b7 w7 x0 x1 x2 x4 x5) (r_62 c b2 w2 b3 w3 b6 w6 b12 w12 b15 x0 x1 x4 x10) (r_96 c b2 w2 b3 w3 b4 w4 b6 w6 b7 w7 x0 x1 x2 x4 x5) (r_112 c b2 w2 b3 w3 b4 w4 b6 w6 b7 w7 x0 x1 x2 x4 x5) (r_133 c b2 w2 b3 w3 b4 w4 b6 w6 b7 w7 x0 x1 x2 x4 x5) (r_162 c b2 w2 b3 w3 b4 w4 b6 w6 b7 w7 x0 x1 x2 x4 x5) (r_195 c b2 w2 b3 w3 b4 w4 b6 w6 b7 w7 x0 x1 x2 x4 x5) (r_223 c b2 w2 b3 w3 b4 w4 b6 w6 b7 w7 x0 x1 x2 x4 x5)
    (r_249 c b2 w2 b3 w3 b4 w4 b5 w5 b6 w6 b7 w7 x0 x1 x2 x3 x4 x5) (r_270 c b2 w2 b3 w3 b4 w4 b5 w5 b6 w6 b7 w7 b12 w12 b15 x0 x1 x2 x3 x4 x5 x10) (r_298 c b2 w2 b3 w3 b4 w4 b5 w5 b6 w6 b7 w7 b12 w12 b15 x0 x1 x2 x3 x4 x5 x10) (r_314 c b2 w2 b3 w3 b4 w4 b5 w5 b6 w6 b7 w7 b12 w12 b15 x0 x1 x2 x3 x4 x5 x10) (r_333 c b2 w2 b3 w3 b4 w4 b5 w5 b6 w6 b7 w7 b12 w12 b15 x0 x1 x2 x3 x4 x5 x10) :=
  ⟨rfl, rfl, rfl, rfl, rfl, rfl, rfl, rfl, rfl, rfl, rfl, rfl, rfl⟩

/-- Head 5's chain. -/
theorem chain_5 : Chain (stack 320 slices_S8x1024_o0_320_S8x64 (r_3 c b3 w3 b6 w6 x1 x4) (r_4 c b2 w2 b3 w3 x0 x1)) (stack 320 slices_S8x1024_o0_320_S8x64 (r_5 c b3 w3 b7 w7 x1 x5) (r_6 c b3 w3 b4 w4 x1 x2)) (cut 320 slices_S8x1024_o0_320_S8x64 (r_2 c b5 w5 x3))
    (stateIn c b12 w12 b15 x10 5 (inb_S16x64x64_S1x64x64_5_0_0))
    (cut1 320 slices_S1x1024_o0_320_S1x64 (r_7 c b3 w3 x1)) (r_38 c b2 w2 b3 w3 b4 w4 b6 w6 b7 w7 x0 x1 x2 x4 x5) (r_63 c b2 w2 b3 w3 b6 w6 b12 w12 b15 x0 x1 x4 x10) (r_97 c b2 w2 b3 w3 b4 w4 b6 w6 b7 w7 x0 x1 x2 x4 x5) (r_113 c b2 w2 b3 w3 b4 w4 b6 w6 b7 w7 x0 x1 x2 x4 x5) (r_134 c b2 w2 b3 w3 b4 w4 b6 w6 b7 w7 x0 x1 x2 x4 x5) (r_164 c b2 w2 b3 w3 b4 w4 b6 w6 b7 w7 x0 x1 x2 x4 x5) (r_196 c b2 w2 b3 w3 b4 w4 b6 w6 b7 w7 x0 x1 x2 x4 x5) (r_227 c b2 w2 b3 w3 b4 w4 b6 w6 b7 w7 x0 x1 x2 x4 x5)
    (r_250 c b2 w2 b3 w3 b4 w4 b5 w5 b6 w6 b7 w7 x0 x1 x2 x3 x4 x5) (r_274 c b2 w2 b3 w3 b4 w4 b5 w5 b6 w6 b7 w7 b12 w12 b15 x0 x1 x2 x3 x4 x5 x10) (r_299 c b2 w2 b3 w3 b4 w4 b5 w5 b6 w6 b7 w7 b12 w12 b15 x0 x1 x2 x3 x4 x5 x10) (r_315 c b2 w2 b3 w3 b4 w4 b5 w5 b6 w6 b7 w7 b12 w12 b15 x0 x1 x2 x3 x4 x5 x10) (r_334 c b2 w2 b3 w3 b4 w4 b5 w5 b6 w6 b7 w7 b12 w12 b15 x0 x1 x2 x3 x4 x5 x10) :=
  ⟨rfl, rfl, rfl, rfl, rfl, rfl, rfl, rfl, rfl, rfl, rfl, rfl, rfl⟩

/-- Head 6's chain. -/
theorem chain_6 : Chain (stack 384 slices_S8x1024_o0_384_S8x64 (r_3 c b3 w3 b6 w6 x1 x4) (r_4 c b2 w2 b3 w3 x0 x1)) (stack 384 slices_S8x1024_o0_384_S8x64 (r_5 c b3 w3 b7 w7 x1 x5) (r_6 c b3 w3 b4 w4 x1 x2)) (cut 384 slices_S8x1024_o0_384_S8x64 (r_2 c b5 w5 x3))
    (stateIn c b12 w12 b15 x10 6 (inb_S16x64x64_S1x64x64_6_0_0))
    (cut1 384 slices_S1x1024_o0_384_S1x64 (r_7 c b3 w3 x1)) (r_43 c b2 w2 b3 w3 b4 w4 b6 w6 b7 w7 x0 x1 x2 x4 x5) (r_64 c b2 w2 b3 w3 b6 w6 b12 w12 b15 x0 x1 x4 x10) (v880 (F := Ideal) c b2 w2 b3 w3 b4 w4 b6 w6 b7 w7 x0 x1 x2 x4 x5) (r_114 c b2 w2 b3 w3 b4 w4 b6 w6 b7 w7 x0 x1 x2 x4 x5) (r_139 c b2 w2 b3 w3 b4 w4 b6 w6 b7 w7 x0 x1 x2 x4 x5) (r_165 c b2 w2 b3 w3 b4 w4 b6 w6 b7 w7 x0 x1 x2 x4 x5) (r_197 c b2 w2 b3 w3 b4 w4 b6 w6 b7 w7 x0 x1 x2 x4 x5) (r_228 c b2 w2 b3 w3 b4 w4 b6 w6 b7 w7 x0 x1 x2 x4 x5)
    (r_251 c b2 w2 b3 w3 b4 w4 b5 w5 b6 w6 b7 w7 x0 x1 x2 x3 x4 x5) (r_275 c b2 w2 b3 w3 b4 w4 b5 w5 b6 w6 b7 w7 b12 w12 b15 x0 x1 x2 x3 x4 x5 x10) (r_300 c b2 w2 b3 w3 b4 w4 b5 w5 b6 w6 b7 w7 b12 w12 b15 x0 x1 x2 x3 x4 x5 x10) (r_316 c b2 w2 b3 w3 b4 w4 b5 w5 b6 w6 b7 w7 b12 w12 b15 x0 x1 x2 x3 x4 x5 x10) (r_337 c b2 w2 b3 w3 b4 w4 b5 w5 b6 w6 b7 w7 b12 w12 b15 x0 x1 x2 x3 x4 x5 x10) :=
  ⟨rfl, rfl, rfl, rfl, rfl, rfl, rfl, rfl, rfl, rfl, rfl, rfl, rfl⟩

/-- Head 7's chain. -/
theorem chain_7 : Chain (stack 448 slices_S8x1024_o0_448_S8x64 (r_3 c b3 w3 b6 w6 x1 x4) (r_4 c b2 w2 b3 w3 x0 x1)) (stack 448 slices_S8x1024_o0_448_S8x64 (r_5 c b3 w3 b7 w7 x1 x5) (r_6 c b3 w3 b4 w4 x1 x2)) (cut 448 slices_S8x1024_o0_448_S8x64 (r_2 c b5 w5 x3))
    (stateIn c b12 w12 b15 x10 7 (inb_S16x64x64_S1x64x64_7_0_0))
    (cut1 448 slices_S1x1024_o0_448_S1x64 (r_7 c b3 w3 x1)) (r_44 c b2 w2 b3 w3 b4 w4 b6 w6 b7 w7 x0 x1 x2 x4 x5) (r_65 c b2 w2 b3 w3 b6 w6 b12 w12 b15 x0 x1 x4 x10) (r_99 c b2 w2 b3 w3 b4 w4 b6 w6 b7 w7 x0 x1 x2 x4 x5) (r_115 c b2 w2 b3 w3 b4 w4 b6 w6 b7 w7 x0 x1 x2 x4 x5) (r_140 c b2 w2 b3 w3 b4 w4 b6 w6 b7 w7 x0 x1 x2 x4 x5) (r_166 c b2 w2 b3 w3 b4 w4 b6 w6 b7 w7 x0 x1 x2 x4 x5) (r_200 c b2 w2 b3 w3 b4 w4 b6 w6 b7 w7 x0 x1 x2 x4 x5) (r_229 c b2 w2 b3 w3 b4 w4 b6 w6 b7 w7 x0 x1 x2 x4 x5)
    (r_252 c b2 w2 b3 w3 b4 w4 b5 w5 b6 w6 b7 w7 x0 x1 x2 x3 x4 x5) (r_276 c b2 w2 b3 w3 b4 w4 b5 w5 b6 w6 b7 w7 b12 w12 b15 x0 x1 x2 x3 x4 x5 x10) (r_301 c b2 w2 b3 w3 b4 w4 b5 w5 b6 w6 b7 w7 b12 w12 b15 x0 x1 x2 x3 x4 x5 x10) (r_317 c b2 w2 b3 w3 b4 w4 b5 w5 b6 w6 b7 w7 b12 w12 b15 x0 x1 x2 x3 x4 x5 x10) (r_338 c b2 w2 b3 w3 b4 w4 b5 w5 b6 w6 b7 w7 b12 w12 b15 x0 x1 x2 x3 x4 x5 x10) :=
  ⟨rfl, rfl, rfl, rfl, rfl, rfl, rfl, rfl, rfl, rfl, rfl, rfl, rfl⟩

/-- Head 8's chain. -/
theorem chain_8 : Chain (stack 512 slices_S8x1024_o0_512_S8x64 (r_3 c b3 w3 b6 w6 x1 x4) (r_4 c b2 w2 b3 w3 x0 x1)) (stack 512 slices_S8x1024_o0_512_S8x64 (r_5 c b3 w3 b7 w7 x1 x5) (r_6 c b3 w3 b4 w4 x1 x2)) (cut 512 slices_S8x1024_o0_512_S8x64 (r_2 c b5 w5 x3))
    (stateIn c b12 w12 b15 x10 8 (inb_S16x64x64_S1x64x64_8_0_0))
    (cut1 512 slices_S1x1024_o0_512_S1x64 (r_7 c b3 w3 x1)) (r_45 c b2 w2 b3 w3 b4 w4 b6 w6 b7 w7 x0 x1 x2 x4 x5) (r_66 c b2 w2 b3 w3 b6 w6 b12 w12 b15 x0 x1 x4 x10) (r_100 c b2 w2 b3 w3 b4 w4 b6 w6 b7 w7 x0 x1 x2 x4 x5) (r_116 c b2 w2 b3 w3 b4 w4 b6 w6 b7 w7 x0 x1 x2 x4 x5) (r_141 c b2 w2 b3 w3 b4 w4 b6 w6 b7 w7 x0 x1 x2 x4 x5) (r_172 c b2 w2 b3 w3 b4 w4 b6 w6 b7 w7 x0 x1 x2 x4 x5) (r_201 c b2 w2 b3 w3 b4 w4 b6 w6 b7 w7 x0 x1 x2 x4 x5) (r_230 c b2 w2 b3 w3 b4 w4 b6 w6 b7 w7 x0 x1 x2 x4 x5)
    (r_253 c b2 w2 b3 w3 b4 w4 b5 w5 b6 w6 b7 w7 x0 x1 x2 x3 x4 x5) (r_277 c b2 w2 b3 w3 b4 w4 b5 w5 b6 w6 b7 w7 b12 w12 b15 x0 x1 x2 x3 x4 x5 x10) (r_302 c b2 w2 b3 w3 b4 w4 b5 w5 b6 w6 b7 w7 b12 w12 b15 x0 x1 x2 x3 x4 x5 x10) (r_318 c b2 w2 b3 w3 b4 w4 b5 w5 b6 w6 b7 w7 b12 w12 b15 x0 x1 x2 x3 x4 x5 x10) (r_339 c b2 w2 b3 w3 b4 w4 b5 w5 b6 w6 b7 w7 b12 w12 b15 x0 x1 x2 x3 x4 x5 x10) :=
  ⟨rfl, rfl, rfl, rfl, rfl, rfl, rfl, rfl, rfl, rfl, rfl, rfl, rfl⟩

/-- Head 9's chain. -/
theorem chain_9 : Chain (stack 576 slices_S8x1024_o0_576_S8x64 (r_3 c b3 w3 b6 w6 x1 x4) (r_4 c b2 w2 b3 w3 x0 x1)) (stack 576 slices_S8x1024_o0_576_S8x64 (r_5 c b3 w3 b7 w7 x1 x5) (r_6 c b3 w3 b4 w4 x1 x2)) (cut 576 slices_S8x1024_o0_576_S8x64 (r_2 c b5 w5 x3))
    (stateIn c b12 w12 b15 x10 9 (inb_S16x64x64_S1x64x64_9_0_0))
    (cut1 576 slices_S1x1024_o0_576_S1x64 (r_7 c b3 w3 x1)) (r_48 c b2 w2 b3 w3 b4 w4 b6 w6 b7 w7 x0 x1 x2 x4 x5) (r_67 c b2 w2 b3 w3 b6 w6 b12 w12 b15 x0 x1 x4 x10) (r_101 c b2 w2 b3 w3 b4 w4 b6 w6 b7 w7 x0 x1 x2 x4 x5) (r_117 c b2 w2 b3 w3 b4 w4 b6 w6 b7 w7 x0 x1 x2 x4 x5) (r_142 c b2 w2 b3 w3 b4 w4 b6 w6 b7 w7 x0 x1 x2 x4 x5) (r_173 c b2 w2 b3 w3 b4 w4 b6 w6 b7 w7 x0 x1 x2 x4 x5) (r_202 c b2 w2 b3 w3 b4 w4 b6 w6 b7 w7 x0 x1 x2 x4 x5) (r_234 c b2 w2 b3 w3 b4 w4 b6 w6 b7 w7 x0 x1 x2 x4 x5)
    (r_254 c b2 w2 b3 w3 b4 w4 b5 w5 b6 w6 b7 w7 x0 x1 x2 x3 x4 x5) (r_281 c b2 w2 b3 w3 b4 w4 b5 w5 b6 w6 b7 w7 b12 w12 b15 x0 x1 x2 x3 x4 x5 x10) (r_303 c b2 w2 b3 w3 b4 w4 b5 w5 b6 w6 b7 w7 b12 w12 b15 x0 x1 x2 x3 x4 x5 x10) (r_319 c b2 w2 b3 w3 b4 w4 b5 w5 b6 w6 b7 w7 b12 w12 b15 x0 x1 x2 x3 x4 x5 x10) (r_340 c b2 w2 b3 w3 b4 w4 b5 w5 b6 w6 b7 w7 b12 w12 b15 x0 x1 x2 x3 x4 x5 x10) :=
  ⟨rfl, rfl, rfl, rfl, rfl, rfl, rfl, rfl, rfl, rfl, rfl, rfl, rfl⟩

/-- Head 10's chain. -/
theorem chain_10 : Chain (stack 640 slices_S8x1024_o0_640_S8x64 (r_3 c b3 w3 b6 w6 x1 x4) (r_4 c b2 w2 b3 w3 x0 x1)) (stack 640 slices_S8x1024_o0_640_S8x64 (r_5 c b3 w3 b7 w7 x1 x5) (r_6 c b3 w3 b4 w4 x1 x2)) (cut 640 slices_S8x1024_o0_640_S8x64 (r_2 c b5 w5 x3))
    (stateIn c b12 w12 b15 x10 10 (inb_S16x64x64_S1x64x64_10_0_0))
    (cut1 640 slices_S1x1024_o0_640_S1x64 (r_7 c b3 w3 x1)) (r_49 c b2 w2 b3 w3 b4 w4 b6 w6 b7 w7 x0 x1 x2 x4 x5) (r_68 c b2 w2 b3 w3 b6 w6 b12 w12 b15 x0 x1 x4 x10) (r_102 c b2 w2 b3 w3 b4 w4 b6 w6 b7 w7 x0 x1 x2 x4 x5) (r_118 c b2 w2 b3 w3 b4 w4 b6 w6 b7 w7 x0 x1 x2 x4 x5) (r_145 c b2 w2 b3 w3 b4 w4 b6 w6 b7 w7 x0 x1 x2 x4 x5) (r_174 c b2 w2 b3 w3 b4 w4 b6 w6 b7 w7 x0 x1 x2 x4 x5) (r_206 c b2 w2 b3 w3 b4 w4 b6 w6 b7 w7 x0 x1 x2 x4 x5) (r_235 c b2 w2 b3 w3 b4 w4 b6 w6 b7 w7 x0 x1 x2 x4 x5)
    (r_255 c b2 w2 b3 w3 b4 w4 b5 w5 b6 w6 b7 w7 x0 x1 x2 x3 x4 x5) (r_282 c b2 w2 b3 w3 b4 w4 b5 w5 b6 w6 b7 w7 b12 w12 b15 x0 x1 x2 x3 x4 x5 x10) (r_304 c b2 w2 b3 w3 b4 w4 b5 w5 b6 w6 b7 w7 b12 w12 b15 x0 x1 x2 x3 x4 x5 x10) (r_320 c b2 w2 b3 w3 b4 w4 b5 w5 b6 w6 b7 w7 b12 w12 b15 x0 x1 x2 x3 x4 x5 x10) (r_341 c b2 w2 b3 w3 b4 w4 b5 w5 b6 w6 b7 w7 b12 w12 b15 x0 x1 x2 x3 x4 x5 x10) :=
  ⟨rfl, rfl, rfl, rfl, rfl, rfl, rfl, rfl, rfl, rfl, rfl, rfl, rfl⟩

/-- Head 11's chain. -/
theorem chain_11 : Chain (stack 704 slices_S8x1024_o0_704_S8x64 (r_3 c b3 w3 b6 w6 x1 x4) (r_4 c b2 w2 b3 w3 x0 x1)) (stack 704 slices_S8x1024_o0_704_S8x64 (r_5 c b3 w3 b7 w7 x1 x5) (r_6 c b3 w3 b4 w4 x1 x2)) (cut 704 slices_S8x1024_o0_704_S8x64 (r_2 c b5 w5 x3))
    (stateIn c b12 w12 b15 x10 11 (inb_S16x64x64_S1x64x64_11_0_0))
    (cut1 704 slices_S1x1024_o0_704_S1x64 (r_7 c b3 w3 x1)) (r_50 c b2 w2 b3 w3 b4 w4 b6 w6 b7 w7 x0 x1 x2 x4 x5) (r_69 c b2 w2 b3 w3 b6 w6 b12 w12 b15 x0 x1 x4 x10) (r_103 c b2 w2 b3 w3 b4 w4 b6 w6 b7 w7 x0 x1 x2 x4 x5) (r_119 c b2 w2 b3 w3 b4 w4 b6 w6 b7 w7 x0 x1 x2 x4 x5) (r_146 c b2 w2 b3 w3 b4 w4 b6 w6 b7 w7 x0 x1 x2 x4 x5) (r_175 c b2 w2 b3 w3 b4 w4 b6 w6 b7 w7 x0 x1 x2 x4 x5) (r_207 c b2 w2 b3 w3 b4 w4 b6 w6 b7 w7 x0 x1 x2 x4 x5) (r_236 c b2 w2 b3 w3 b4 w4 b6 w6 b7 w7 x0 x1 x2 x4 x5)
    (r_256 c b2 w2 b3 w3 b4 w4 b5 w5 b6 w6 b7 w7 x0 x1 x2 x3 x4 x5) (r_283 c b2 w2 b3 w3 b4 w4 b5 w5 b6 w6 b7 w7 b12 w12 b15 x0 x1 x2 x3 x4 x5 x10) (r_305 c b2 w2 b3 w3 b4 w4 b5 w5 b6 w6 b7 w7 b12 w12 b15 x0 x1 x2 x3 x4 x5 x10) (r_321 c b2 w2 b3 w3 b4 w4 b5 w5 b6 w6 b7 w7 b12 w12 b15 x0 x1 x2 x3 x4 x5 x10) (r_342 c b2 w2 b3 w3 b4 w4 b5 w5 b6 w6 b7 w7 b12 w12 b15 x0 x1 x2 x3 x4 x5 x10) :=
  ⟨rfl, rfl, rfl, rfl, rfl, rfl, rfl, rfl, rfl, rfl, rfl, rfl, rfl⟩

/-- Head 12's chain. -/
theorem chain_12 : Chain (stack 768 slices_S8x1024_o0_768_S8x64 (r_3 c b3 w3 b6 w6 x1 x4) (r_4 c b2 w2 b3 w3 x0 x1)) (stack 768 slices_S8x1024_o0_768_S8x64 (r_5 c b3 w3 b7 w7 x1 x5) (r_6 c b3 w3 b4 w4 x1 x2)) (cut 768 slices_S8x1024_o0_768_S8x64 (r_2 c b5 w5 x3))
    (stateIn c b12 w12 b15 x10 12 (inb_S16x64x64_S1x64x64_12_0_0))
    (cut1 768 slices_S1x1024_o0_768_S1x64 (r_7 c b3 w3 x1)) (r_52 c b2 w2 b3 w3 b4 w4 b6 w6 b7 w7 x0 x1 x2 x4 x5) (r_70 c b2 w2 b3 w3 b6 w6 b12 w12 b15 x0 x1 x4 x10) (r_104 c b2 w2 b3 w3 b4 w4 b6 w6 b7 w7 x0 x1 x2 x4 x5) (r_120 c b2 w2 b3 w3 b4 w4 b6 w6 b7 w7 x0 x1 x2 x4 x5) (r_147 c b2 w2 b3 w3 b4 w4 b6 w6 b7 w7 x0 x1 x2 x4 x5) (r_178 c b2 w2 b3 w3 b4 w4 b6 w6 b7 w7 x0 x1 x2 x4 x5) (r_208 c b2 w2 b3 w3 b4 w4 b6 w6 b7 w7 x0 x1 x2 x4 x5) (r_240 c b2 w2 b3 w3 b4 w4 b6 w6 b7 w7 x0 x1 x2 x4 x5)
    (r_257 c b2 w2 b3 w3 b4 w4 b5 w5 b6 w6 b7 w7 x0 x1 x2 x3 x4 x5) (r_288 c b2 w2 b3 w3 b4 w4 b5 w5 b6 w6 b7 w7 b12 w12 b15 x0 x1 x2 x3 x4 x5 x10) (r_306 c b2 w2 b3 w3 b4 w4 b5 w5 b6 w6 b7 w7 b12 w12 b15 x0 x1 x2 x3 x4 x5 x10) (r_322 c b2 w2 b3 w3 b4 w4 b5 w5 b6 w6 b7 w7 b12 w12 b15 x0 x1 x2 x3 x4 x5 x10) (r_343 c b2 w2 b3 w3 b4 w4 b5 w5 b6 w6 b7 w7 b12 w12 b15 x0 x1 x2 x3 x4 x5 x10) :=
  ⟨rfl, rfl, rfl, rfl, rfl, rfl, rfl, rfl, rfl, rfl, rfl, rfl, rfl⟩

/-- Head 13's chain. -/
theorem chain_13 : Chain (stack 832 slices_S8x1024_o0_832_S8x64 (r_3 c b3 w3 b6 w6 x1 x4) (r_4 c b2 w2 b3 w3 x0 x1)) (stack 832 slices_S8x1024_o0_832_S8x64 (r_5 c b3 w3 b7 w7 x1 x5) (r_6 c b3 w3 b4 w4 x1 x2)) (cut 832 slices_S8x1024_o0_832_S8x64 (r_2 c b5 w5 x3))
    (stateIn c b12 w12 b15 x10 13 (inb_S16x64x64_S1x64x64_13_0_0))
    (cut1 832 slices_S1x1024_o0_832_S1x64 (r_7 c b3 w3 x1)) (r_53 c b2 w2 b3 w3 b4 w4 b6 w6 b7 w7 x0 x1 x2 x4 x5) (r_71 c b2 w2 b3 w3 b6 w6 b12 w12 b15 x0 x1 x4 x10) (r_105 c b2 w2 b3 w3 b4 w4 b6 w6 b7 w7 x0 x1 x2 x4 x5) (r_121 c b2 w2 b3 w3 b4 w4 b6 w6 b7 w7 x0 x1 x2 x4 x5) (r_151 c b2 w2 b3 w3 b4 w4 b6 w6 b7 w7 x0 x1 x2 x4 x5) (r_179 c b2 w2 b3 w3 b4 w4 b6 w6 b7 w7 x0 x1 x2 x4 x5) (r_209 c b2 w2 b3 w3 b4 w4 b6 w6 b7 w7 x0 x1 x2 x4 x5) (r_241 c b2 w2 b3 w3 b4 w4 b6 w6 b7 w7 x0 x1 x2 x4 x5)
    (r_259 c b2 w2 b3 w3 b4 w4 b5 w5 b6 w6 b7 w7 x0 x1 x2 x3 x4 x5) (r_289 c b2 w2 b3 w3 b4 w4 b5 w5 b6 w6 b7 w7 b12 w12 b15 x0 x1 x2 x3 x4 x5 x10) (r_307 c b2 w2 b3 w3 b4 w4 b5 w5 b6 w6 b7 w7 b12 w12 b15 x0 x1 x2 x3 x4 x5 x10) (r_323 c b2 w2 b3 w3 b4 w4 b5 w5 b6 w6 b7 w7 b12 w12 b15 x0 x1 x2 x3 x4 x5 x10) (r_346 c b2 w2 b3 w3 b4 w4 b5 w5 b6 w6 b7 w7 b12 w12 b15 x0 x1 x2 x3 x4 x5 x10) :=
  ⟨rfl, rfl, rfl, rfl, rfl, rfl, rfl, rfl, rfl, rfl, rfl, rfl, rfl⟩

/-- Head 14's chain. -/
theorem chain_14 : Chain (stack 896 slices_S8x1024_o0_896_S8x64 (r_3 c b3 w3 b6 w6 x1 x4) (r_4 c b2 w2 b3 w3 x0 x1)) (stack 896 slices_S8x1024_o0_896_S8x64 (r_5 c b3 w3 b7 w7 x1 x5) (r_6 c b3 w3 b4 w4 x1 x2)) (cut 896 slices_S8x1024_o0_896_S8x64 (r_2 c b5 w5 x3))
    (stateIn c b12 w12 b15 x10 14 (inb_S16x64x64_S1x64x64_14_0_0))
    (cut1 896 slices_S1x1024_o0_896_S1x64 (r_7 c b3 w3 x1)) (r_54 c b2 w2 b3 w3 b4 w4 b6 w6 b7 w7 x0 x1 x2 x4 x5) (r_72 c b2 w2 b3 w3 b6 w6 b12 w12 b15 x0 x1 x4 x10) (r_106 c b2 w2 b3 w3 b4 w4 b6 w6 b7 w7 x0 x1 x2 x4 x5) (r_122 c b2 w2 b3 w3 b4 w4 b6 w6 b7 w7 x0 x1 x2 x4 x5) (r_152 c b2 w2 b3 w3 b4 w4 b6 w6 b7 w7 x0 x1 x2 x4 x5) (r_180 c b2 w2 b3 w3 b4 w4 b6 w6 b7 w7 x0 x1 x2 x4 x5) (r_215 c b2 w2 b3 w3 b4 w4 b6 w6 b7 w7 x0 x1 x2 x4 x5) (r_242 c b2 w2 b3 w3 b4 w4 b6 w6 b7 w7 x0 x1 x2 x4 x5)
    (r_260 c b2 w2 b3 w3 b4 w4 b5 w5 b6 w6 b7 w7 x0 x1 x2 x3 x4 x5) (r_290 c b2 w2 b3 w3 b4 w4 b5 w5 b6 w6 b7 w7 b12 w12 b15 x0 x1 x2 x3 x4 x5 x10) (r_308 c b2 w2 b3 w3 b4 w4 b5 w5 b6 w6 b7 w7 b12 w12 b15 x0 x1 x2 x3 x4 x5 x10) (r_327 c b2 w2 b3 w3 b4 w4 b5 w5 b6 w6 b7 w7 b12 w12 b15 x0 x1 x2 x3 x4 x5 x10) (r_347 c b2 w2 b3 w3 b4 w4 b5 w5 b6 w6 b7 w7 b12 w12 b15 x0 x1 x2 x3 x4 x5 x10) :=
  ⟨rfl, rfl, rfl, rfl, rfl, rfl, rfl, rfl, rfl, rfl, rfl, rfl, rfl⟩

/-- Head 15's chain. -/
theorem chain_15 : Chain (stack 960 slices_S8x1024_o0_960_S8x64 (r_3 c b3 w3 b6 w6 x1 x4) (r_4 c b2 w2 b3 w3 x0 x1)) (stack 960 slices_S8x1024_o0_960_S8x64 (r_5 c b3 w3 b7 w7 x1 x5) (r_6 c b3 w3 b4 w4 x1 x2)) (cut 960 slices_S8x1024_o0_960_S8x64 (r_2 c b5 w5 x3))
    (stateIn c b12 w12 b15 x10 15 (inb_S16x64x64_S1x64x64_15_0_0))
    (cut1 960 slices_S1x1024_o0_960_S1x64 (r_7 c b3 w3 x1)) (r_55 c b2 w2 b3 w3 b4 w4 b6 w6 b7 w7 x0 x1 x2 x4 x5) (r_75 c b2 w2 b3 w3 b6 w6 b12 w12 b15 x0 x1 x4 x10) (r_107 c b2 w2 b3 w3 b4 w4 b6 w6 b7 w7 x0 x1 x2 x4 x5) (r_123 c b2 w2 b3 w3 b4 w4 b6 w6 b7 w7 x0 x1 x2 x4 x5) (r_153 c b2 w2 b3 w3 b4 w4 b6 w6 b7 w7 x0 x1 x2 x4 x5) (r_186 c b2 w2 b3 w3 b4 w4 b6 w6 b7 w7 x0 x1 x2 x4 x5) (r_216 c b2 w2 b3 w3 b4 w4 b6 w6 b7 w7 x0 x1 x2 x4 x5) (r_243 c b2 w2 b3 w3 b4 w4 b6 w6 b7 w7 x0 x1 x2 x4 x5)
    (r_261 c b2 w2 b3 w3 b4 w4 b5 w5 b6 w6 b7 w7 x0 x1 x2 x3 x4 x5) (k0_pay376 (r_75 c b2 w2 b3 w3 b6 w6 b12 w12 b15 x0 x1 x4 x10) (r_243 c b2 w2 b3 w3 b4 w4 b6 w6 b7 w7 x0 x1 x2 x4 x5) (r_261 c b2 w2 b3 w3 b4 w4 b5 w5 b6 w6 b7 w7 x0 x1 x2 x3 x4 x5)) (r_309 c b2 w2 b3 w3 b4 w4 b5 w5 b6 w6 b7 w7 b12 w12 b15 x0 x1 x2 x3 x4 x5 x10) (r_328 c b2 w2 b3 w3 b4 w4 b5 w5 b6 w6 b7 w7 b12 w12 b15 x0 x1 x2 x3 x4 x5 x10) (r_348 c b2 w2 b3 w3 b4 w4 b5 w5 b6 w6 b7 w7 b12 w12 b15 x0 x1 x2 x3 x4 x5 x10) :=
  ⟨rfl, rfl, rfl, rfl, rfl, rfl, rfl, rfl, rfl, rfl, rfl, rfl, rfl⟩

end run

end Cert.KernelScanIdeal.Value

end
-- ==== Proof.ScanHead.lean ====
/-
  What each head reads and leaves, over the real numbers, and the two outputs of a sequence's tile.
-/
module

public import proofs.«01_k».proof.Proof.ScanTile
public import proofs.«01_k».proof.Proof.Gen.KernelScanIdeal.Frame

@[expose] public section

set_option maxRecDepth 16384

noncomputable section

open Idealize.ShloMosaic Idealize.ShloMosaic.TcCoe Idealize.SL.Sem
open Cert.Layer

namespace Cert.KernelScanIdeal.Value
open Cert.KernelScanIdeal Cert.KernelScanIdeal.Gen Cert.KernelScanIdeal.Gen.kernelRun0_A.sl

/-- Lane `x` of head `h`. -/
abbrev lane (h : Fin 16) (x : Fin 64) : Fin 1024 := ⟨64 * h.val + x.val, by omega⟩

section defs
variable (dr dl dk dv da db : ℕ → Fin 1024 → ℝ) (ds : Fin 16 → Fin 64 → Fin 64 → ℝ)

/-- What token `p` reads in head `h`. -/
def yR (h : Fin 16) (p : ℕ) (i : Fin 64) : ℝ :=
  Scan.yy (hd dr (64 * h.val) (by omega)) (hd dl (64 * h.val) (by omega)) (hd dk (64 * h.val) (by omega)) (hd dv (64 * h.val) (by omega)) (hd da (64 * h.val) (by omega)) (hd db (64 * h.val) (by omega)) (ds h) p i

/-- The state of head `h` before token `n`. -/
def sR (h : Fin 16) (n : ℕ) (i j : Fin 64) : ℝ :=
  Scan.st (hd dl (64 * h.val) (by omega)) (hd dk (64 * h.val) (by omega)) (hd dv (64 * h.val) (by omega)) (hd da (64 * h.val) (by omega)) (hd db (64 * h.val) (by omega)) (ds h) n i j

variable (x0 x2 x3 x6 : Vec Ideal S8x1024 .f32) (x7 x8 x9 : Vec Ideal S1x1024 .f32)

/-- A tile's row as the reference ends it. -/
def rowOf (h : Fin 16) (p : Fin 8) (d : Fin 64) : EReal :=
  tail (fun x => ((yR dr dl dk dv da db ds h p.val x : ℝ) : EReal)) (fun x => x0 (ix2 p (lane h x))) (fun x => x2 (ix2 p (lane h x))) (fun x => x7 (ix2 0 (lane h x)))
    (x3 (ix2 p (lane h d))) (x8 (ix2 0 (lane h d))) (x9 (ix2 0 (lane h d))) (x6 (ix2 p (lane h d))) d

/-- The tile of rows. -/
def rowsOf : Vec Ideal S8x1024 .f32 := fun y =>
  rowOf dr dl dk dv da db ds x0 x2 x3 x6 x7 x8 x9 ⟨(y 1).val / 64, by have : (y 1).val < 1024 := (y 1).isLt; omega⟩ (y 0) ⟨(y 1).val % 64, Nat.mod_lt _ (by decide)⟩

/-- The states of a tile. -/
def statesOf : Vec Ideal S16x64x64 .f32 := fun y => ((sR dl dk dv da db ds (y 0) 8 (y 1) (y 2) : ℝ) : EReal)

theorem piece3 (h : Fin 16) (N : FVec Ideal S64x64 .f32) (hN : ∀ i j, N (ix2 i j) = ((sR dl dk dv da db ds h 8 i j : ℝ) : EReal))
    (inb : ∀ a : Fin 3, (![h.val, 0, 0] : Fin 3 → ℕ) a + S1x64x64.size a ≤ S16x64x64.size a) (x : S1x64x64.Idx) :
    shapeCast S1x64x64 N shapeCasts_S64x64_S1x64x64 x = statesOf dl dk dv da db ds ((Rect.unit (s := S16x64x64) ![h.val, 0, 0] S1x64x64.size inb).emb x) := by
  obtain ⟨z, i, j, rfl⟩ : ∃ (z : Fin 1) (i j : Fin 64), x = ix3 z i j := ⟨x 0, x 1, x 2, eq_ix3 x⟩
  have e : (Rect.unit (s := S16x64x64) ![h.val, 0, 0] S1x64x64.size inb).emb (ix3 z i j) = ix3 h i j := by
    funext a; apply Fin.ext
    fin_cases a
    · show h.val + 1 * z.val = h.val; omega
    · show 0 + 1 * i.val = i.val; omega
    · show 0 + 1 * j.val = j.val; omega
  rw [e]
  refine Eq.trans ?_ (hN i j)
  pointwise

theorem lane_read (arg : Memref sig .tc .vmem S1x1024 .f32) (harg : arg.IsWhole) (X : Vec Ideal S1x1024 .f32) (h : Fin 16)
    (inb : ∀ a : Fin 2, (![0, 64 * h.val] : Fin 2 → ℕ) a + (![1, 64] : Fin 2 → ℕ) a ≤ S1x1024.size a) (d : Fin 64) :
    (View.readAt (Elt Ideal) arg.view (Rect.unit (s := S1x1024) ![0, 64 * h.val] ![1, 64] inb).toLoadRect (harg.unread X) : FVec Ideal S1x64 .f32) (ix2 0 d) = X (ix2 0 (lane h d)) := by
  refine (congrFun (View.readAt_eq_ld arg.view (harg.unread X) _) _).trans ?_
  rw [harg.read_unread]
  refine congrArg X ?_
  funext a; apply Fin.ext
  fin_cases a
  · rfl
  · show 64 * h.val + 1 * d.val = 64 * h.val + d.val; omega

theorem tile_read (arg : Memref sig .tc .vmem S8x1024 .f32) (harg : arg.IsWhole) (X : Vec Ideal S8x1024 .f32) (h : Fin 16) (off : Fin 2 → ℕ) (hoff : off = ![0, 64 * h.val])
    (inb : ∀ a : Fin 2, off a + (![8, 64] : Fin 2 → ℕ) a ≤ S8x1024.size a) (p : Fin 8) (d : Fin 64) :
    (View.readAt (Elt Ideal) arg.view (Rect.unit (s := S8x1024) off ![8, 64] inb).toLoadRect (harg.unread X) : FVec Ideal S8x64 .f32) (ix2 p d) = X (ix2 p (lane h d)) := by
  subst hoff
  refine (congrFun (View.readAt_eq_ld arg.view (harg.unread X) _) _).trans ?_
  rw [harg.read_unread]
  refine congrArg X ?_
  funext a; apply Fin.ext
  fin_cases a
  · show 0 + 1 * p.val = p.val; omega
  · show 64 * h.val + 1 * d.val = 64 * h.val + d.val; omega

theorem piece2 (b8 : Memref sig .tc .vmem S8x1024 .f32) (w8 : b8.IsWhole) (b9 : Memref sig .tc .vmem S1x1024 .f32) (w9 : b9.IsWhole)
    (b10 : Memref sig .tc .vmem S1x1024 .f32) (w10 : b10.IsWhole) (b11 : Memref sig .tc .vmem S1x1024 .f32) (w11 : b11.IsWhole)
    (h : Fin 16) (hs : S8x1024.Slices ![0, 64 * h.val] S8x64) (Y : FVec Ideal S8x64 .f32) (hY : ∀ (p : Fin 8) i, Y (ix2 p i) = ((yR dr dl dk dv da db ds h p.val i : ℝ) : EReal))
    (X0 X2 X3 : Vec Ideal S8x1024 .f32) (e0 : X0 = x0) (e2 : X2 = x2) (e3 : X3 = x3)
    (off : Fin 2 → ℕ) (hoff : off = ![0, 64 * h.val]) (inb : ∀ a : Fin 2, off a + (![8, 64] : Fin 2 → ℕ) a ≤ S8x1024.size a)
    (inr : ∀ a : Fin 2, (![0, 64 * h.val] : Fin 2 → ℕ) a + (![1, 64] : Fin 2 → ℕ) a ≤ S1x1024.size a) (x : S8x64.Idx) :
    fin (cut (64 * h.val) hs X0) (cut (64 * h.val) hs X2) (cut (64 * h.val) hs X3) Y
      (View.readAt (Elt Ideal) b10.view (Rect.unit (s := S1x1024) ![0, 64 * h.val] ![1, 64] inr).toLoadRect (w10.unread x8))
      (View.readAt (Elt Ideal) b11.view (Rect.unit (s := S1x1024) ![0, 64 * h.val] ![1, 64] inr).toLoadRect (w11.unread x9))
      (View.readAt (Elt Ideal) b9.view (Rect.unit (s := S1x1024) ![0, 64 * h.val] ![1, 64] inr).toLoadRect (w9.unread x7))
      (View.readAt (Elt Ideal) b8.view (Rect.unit (s := S8x1024) off ![8, 64] inb).toLoadRect (w8.unread x6)) x
      = rowsOf dr dl dk dv da db ds x0 x2 x3 x6 x7 x8 x9 ((Rect.unit (s := S8x1024) off ![8, 64] inb).emb x) := by
  subst e0 e2 e3
  obtain ⟨p, d, rfl⟩ : ∃ (p : Fin 8) (d : Fin 64), x = ix2 p d := ⟨x 0, x 1, eq_ix2 x⟩
  have e : (Rect.unit (s := S8x1024) off ![8, 64] inb).emb (ix2 p d) = ix2 p (lane h d) := by
    subst hoff
    funext a; apply Fin.ext
    fin_cases a
    · show 0 + 1 * p.val = p.val; omega
    · show 64 * h.val + 1 * d.val = 64 * h.val + d.val; omega
  have eG : rowsOf dr dl dk dv da db ds X0 X2 X3 x6 x7 x8 x9 (ix2 p (lane h d)) = rowOf dr dl dk dv da db ds X0 X2 X3 x6 x7 x8 x9 h p d := by
    show rowOf dr dl dk dv da db ds X0 X2 X3 x6 x7 x8 x9 ⟨(64 * h.val + d.val) / 64, _⟩ p ⟨(64 * h.val + d.val) % 64, _⟩ = _
    exact congrArg₂ (fun h d => rowOf dr dl dk dv da db ds X0 X2 X3 x6 x7 x8 x9 h p d) (Fin.ext (by show (64 * h.val + d.val) / 64 = h.val; omega)) (Fin.ext (by show (64 * h.val + d.val) % 64 = d.val; omega))
  rw [e, eG, fin_apply]
  unfold rowOf
  rw [lane_read, lane_read, tile_read (hoff := hoff), cut_apply _ (by omega)]
  have a0 : (fun x : Fin 64 => cut (64 * h.val) hs X0 (ix2 p x)) = fun x => X0 (ix2 p (lane h x)) := funext fun x => cut_apply _ (by omega) hs X0 p x
  have a2 : (fun x : Fin 64 => cut (64 * h.val) hs X2 (ix2 p x)) = fun x => X2 (ix2 p (lane h x)) := funext fun x => cut_apply _ (by omega) hs X2 p x
  have ay : (fun x : Fin 64 => Y (ix2 p x)) = fun x => ((yR dr dl dk dv da db ds h p.val x : ℝ) : EReal) := funext fun x => hY p x
  have ar : (fun x : Fin 64 => (View.readAt (Elt Ideal) b9.view (Rect.unit (s := S1x1024) ![0, 64 * h.val] ![1, 64] inr).toLoadRect (w9.unread x7) : FVec Ideal S1x64 .f32) (ix2 0 x))
      = fun x => x7 (ix2 0 (lane h x)) := funext fun x => lane_read b9 w9 x7 h inr x
  rw [a0, a2, ay, ar]

end defs

section run
variable (c : Dev nD)
  (b2 : Memref sig .tc .vmem S8x1024 .f32) (w2 : b2.IsWhole)
  (b3 : Memref sig .tc .vmem S8x1024 .f32) (w3 : b3.IsWhole)
  (b4 : Memref sig .tc .vmem S8x1024 .f32) (w4 : b4.IsWhole)
  (b5 : Memref sig .tc .vmem S8x1024 .f32) (w5 : b5.IsWhole)
  (b6 : Memref sig .tc .vmem S8x1024 .f32) (w6 : b6.IsWhole)
  (b7 : Memref sig .tc .vmem S8x1024 .f32) (w7 : b7.IsWhole)
  (b8 : Memref sig .tc .vmem S8x1024 .f32) (w8 : b8.IsWhole)
  (b9 : Memref sig .tc .vmem S1x1024 .f32) (w9 : b9.IsWhole)
  (b10 : Memref sig .tc .vmem S1x1024 .f32) (w10 : b10.IsWhole)
  (b11 : Memref sig .tc .vmem S1x1024 .f32) (w11 : b11.IsWhole)
  (b12 : Memref sig .tc .vmem S1x16x64x64 .f32) (w12 : b12.IsWhole)
  (b13 : Memref sig .tc .vmem S8x1024 .f32) (w13 : b13.IsWhole)
  (b14 : Memref sig .tc .vmem S1x16x64x64 .f32) (w14 : b14.IsWhole)
  (b15 : Memref sig .tc .vmem S16x64x64 .f32) (w15 : b15.IsWhole)
  (x0 x1 x2 x3 x4 x5 x6 : Vec Ideal S8x1024 .f32) (x7 x8 x9 : Vec Ideal S1x1024 .f32) (x10 : Vec Ideal S1x16x64x64 .f32)

theorem base_r : r c b2 w2 x0 = x0 := by
  unfold r
  rw [whole_read b2 w2]

theorem base_r_1 : r_1 c b4 w4 x2 = x2 := by
  unfold r_1
  rw [whole_read b4 w4]

theorem base_r_2 : r_2 c b5 w5 x3 = x3 := by
  unfold r_2
  rw [whole_read b5 w5]

theorem base_r_3 : r_3 c b3 w3 b6 w6 x1 x4 = k0_pay8 k0_pay4 x1 x4 := by
  unfold r_3
  rw [whole_read b3 w3, whole_read b6 w6]

theorem base_r_4 : r_4 c b2 w2 b3 w3 x0 x1 = k0_pay9 k0_pay4 x0 x1 := by
  unfold r_4 r
  rw [whole_read b2 w2, whole_read b3 w3]

theorem base_r_5 : r_5 c b3 w3 b7 w7 x1 x5 = k0_pay10 k0_pay4 x1 x5 := by
  unfold r_5
  rw [whole_read b3 w3, whole_read b7 w7]

theorem base_r_6 : r_6 c b3 w3 b4 w4 x1 x2 = k0_pay11 k0_pay4 x1 x2 := by
  unfold r_6
  rw [whole_read b3 w3, whole_read b4 w4]

theorem base_r_7 : r_7 c b3 w3 x1 = k0_pay12 k0_pay4 x1 := by
  unfold r_7
  rw [whole_read b3 w3]

section reals
variable (dr dl dk dv da db : ℕ → Fin 1024 → ℝ) (ds : Fin 16 → Fin 64 → Fin 64 → ℝ)
    (h0 : ∀ p J, x0 (ix2 p J) = ((dr p.val J : ℝ) : EReal)) (h1 : ∀ p J, x1 (ix2 p J) = ((dl p.val J : ℝ) : EReal))
    (h2 : ∀ p J, x2 (ix2 p J) = ((dk p.val J : ℝ) : EReal)) (h3 : ∀ p J, x3 (ix2 p J) = ((dv p.val J : ℝ) : EReal))
    (h4 : ∀ p J, x4 (ix2 p J) = ((da p.val J : ℝ) : EReal)) (h5 : ∀ p J, x5 (ix2 p J) = ((db p.val J : ℝ) : EReal))
    (hs0 : ∀ (h : Fin 16) (i j : Fin 64), x10 (ix4 0 h i j) = ((ds h i j : ℝ) : EReal))
include h0 h1 h2 h3 h4 h5 hs0

/-- Head 0. -/
theorem head_0 :
    (∀ (p : Fin 8) (i : Fin 64), (r_310 c b2 w2 b3 w3 b4 w4 b5 w5 b6 w6 b7 w7 b12 w12 b15 x0 x1 x2 x3 x4 x5 x10) (ix2 p i) = ((yR dr dl dk dv da db ds ⟨0, by decide⟩ p.val i : ℝ) : EReal))
      ∧ ∀ i j : Fin 64, (r_329 c b2 w2 b3 w3 b4 w4 b5 w5 b6 w6 b7 w7 b12 w12 b15 x0 x1 x2 x3 x4 x5 x10) (ix2 i j) = ((sR dl dk dv da db ds ⟨0, by decide⟩ 8 i j : ℝ) : EReal) := by
  have c' := chain_0 c b2 w2 b3 w3 b4 w4 b5 w5 b6 w6 b7 w7 b12 w12 b15 x0 x1 x2 x3 x4 x5 x10
  rw [base_r_2, base_r_3, base_r_4, base_r_5, base_r_6, base_r_7] at c'
  exact head_of x0 x1 x2 x3 x4 x5 dr dl dk dv da db h0 h1 h2 h3 h4 h5 0 (by decide) _ _ _ (ds ⟨0, by decide⟩)
    (fun i j => (stateIn_apply c b12 w12 b15 x10 ⟨0, by decide⟩ _ i j).trans (hs0 _ i j)) c'

/-- Head 1. -/
theorem head_1 :
    (∀ (p : Fin 8) (i : Fin 64), (r_311 c b2 w2 b3 w3 b4 w4 b5 w5 b6 w6 b7 w7 b12 w12 b15 x0 x1 x2 x3 x4 x5 x10) (ix2 p i) = ((yR dr dl dk dv da db ds ⟨1, by decide⟩ p.val i : ℝ) : EReal))
      ∧ ∀ i j : Fin 64, (r_330 c b2 w2 b3 w3 b4 w4 b5 w5 b6 w6 b7 w7 b12 w12 b15 x0 x1 x2 x3 x4 x5 x10) (ix2 i j) = ((sR dl dk dv da db ds ⟨1, by decide⟩ 8 i j : ℝ) : EReal) := by
  have c' := chain_1 c b2 w2 b3 w3 b4 w4 b5 w5 b6 w6 b7 w7 b12 w12 b15 x0 x1 x2 x3 x4 x5 x10
  rw [base_r_2, base_r_3, base_r_4, base_r_5, base_r_6, base_r_7] at c'
  exact head_of x0 x1 x2 x3 x4 x5 dr dl dk dv da db h0 h1 h2 h3 h4 h5 64 (by decide) _ _ _ (ds ⟨1, by decide⟩)
    (fun i j => (stateIn_apply c b12 w12 b15 x10 ⟨1, by decide⟩ _ i j).trans (hs0 _ i j)) c'

/-- Head 2. -/
theorem head_2 :
    (∀ (p : Fin 8) (i : Fin 64), (r_312 c b2 w2 b3 w3 b4 w4 b5 w5 b6 w6 b7 w7 b12 w12 b15 x0 x1 x2 x3 x4 x5 x10) (ix2 p i) = ((yR dr dl dk dv da db ds ⟨2, by decide⟩ p.val i : ℝ) : EReal))
      ∧ ∀ i j : Fin 64, (r_331 c b2 w2 b3 w3 b4 w4 b5 w5 b6 w6 b7 w7 b12 w12 b15 x0 x1 x2 x3 x4 x5 x10) (ix2 i j) = ((sR dl dk dv da db ds ⟨2, by decide⟩ 8 i j : ℝ) : EReal) := by
  have c' := chain_2 c b2 w2 b3 w3 b4 w4 b5 w5 b6 w6 b7 w7 b12 w12 b15 x0 x1 x2 x3 x4 x5 x10
  rw [base_r_2, base_r_3, base_r_4, base_r_5, base_r_6, base_r_7] at c'
  exact head_of x0 x1 x2 x3 x4 x5 dr dl dk dv da db h0 h1 h2 h3 h4 h5 128 (by decide) _ _ _ (ds ⟨2, by decide⟩)
    (fun i j => (stateIn_apply c b12 w12 b15 x10 ⟨2, by decide⟩ _ i j).trans (hs0 _ i j)) c'

/-- Head 3. -/
theorem head_3 :
    (∀ (p : Fin 8) (i : Fin 64), (r_313 c b2 w2 b3 w3 b4 w4 b5 w5 b6 w6 b7 w7 b12 w12 b15 x0 x1 x2 x3 x4 x5 x10) (ix2 p i) = ((yR dr dl dk dv da db ds ⟨3, by decide⟩ p.val i : ℝ) : EReal))
      ∧ ∀ i j : Fin 64, (r_332 c b2 w2 b3 w3 b4 w4 b5 w5 b6 w6 b7 w7 b12 w12 b15 x0 x1 x2 x3 x4 x5 x10) (ix2 i j) = ((sR dl dk dv da db ds ⟨3, by decide⟩ 8 i j : ℝ) : EReal) := by
  have c' := chain_3 c b2 w2 b3 w3 b4 w4 b5 w5 b6 w6 b7 w7 b12 w12 b15 x0 x1 x2 x3 x4 x5 x10
  rw [base_r_2, base_r_3, base_r_4, base_r_5, base_r_6, base_r_7] at c'
  exact head_of x0 x1 x2 x3 x4 x5 dr dl dk dv da db h0 h1 h2 h3 h4 h5 192 (by decide) _ _ _ (ds ⟨3, by decide⟩)
    (fun i j => (stateIn_apply c b12 w12 b15 x10 ⟨3, by decide⟩ _ i j).trans (hs0 _ i j)) c'

/-- Head 4. -/
theorem head_4 :
    (∀ (p : Fin 8) (i : Fin 64), (r_314 c b2 w2 b3 w3 b4 w4 b5 w5 b6 w6 b7 w7 b12 w12 b15 x0 x1 x2 x3 x4 x5 x10) (ix2 p i) = ((yR dr dl dk dv da db ds ⟨4, by decide⟩ p.val i : ℝ) : EReal))
      ∧ ∀ i j : Fin 64, (r_333 c b2 w2 b3 w3 b4 w4 b5 w5 b6 w6 b7 w7 b12 w12 b15 x0 x1 x2 x3 x4 x5 x10) (ix2 i j) = ((sR dl dk dv da db ds ⟨4, by decide⟩ 8 i j : ℝ) : EReal) := by
  have c' := chain_4 c b2 w2 b3 w3 b4 w4 b5 w5 b6 w6 b7 w7 b12 w12 b15 x0 x1 x2 x3 x4 x5 x10
  rw [base_r_2, base_r_3, base_r_4, base_r_5, base_r_6, base_r_7] at c'
  exact head_of x0 x1 x2 x3 x4 x5 dr dl dk dv da db h0 h1 h2 h3 h4 h5 256 (by decide) _ _ _ (ds ⟨4, by decide⟩)
    (fun i j => (stateIn_apply c b12 w12 b15 x10 ⟨4, by decide⟩ _ i j).trans (hs0 _ i j)) c'

/-- Head 5. -/
theorem head_5 :
    (∀ (p : Fin 8) (i : Fin 64), (r_315 c b2 w2 b3 w3 b4 w4 b5 w5 b6 w6 b7 w7 b12 w12 b15 x0 x1 x2 x3 x4 x5 x10) (ix2 p i) = ((yR dr dl dk dv da db ds ⟨5, by decide⟩ p.val i : ℝ) : EReal))
      ∧ ∀ i j : Fin 64, (r_334 c b2 w2 b3 w3 b4 w4 b5 w5 b6 w6 b7 w7 b12 w12 b15 x0 x1 x2 x3 x4 x5 x10) (ix2 i j) = ((sR dl dk dv da db ds ⟨5, by decide⟩ 8 i j : ℝ) : EReal) := by
  have c' := chain_5 c b2 w2 b3 w3 b4 w4 b5 w5 b6 w6 b7 w7 b12 w12 b15 x0 x1 x2 x3 x4 x5 x10
  rw [base_r_2, base_r_3, base_r_4, base_r_5, base_r_6, base_r_7] at c'
  exact head_of x0 x1 x2 x3 x4 x5 dr dl dk dv da db h0 h1 h2 h3 h4 h5 320 (by decide) _ _ _ (ds ⟨5, by decide⟩)
    (fun i j => (stateIn_apply c b12 w12 b15 x10 ⟨5, by decide⟩ _ i j).trans (hs0 _ i j)) c'

/-- Head 6. -/
theorem head_6 :
    (∀ (p : Fin 8) (i : Fin 64), (r_316 c b2 w2 b3 w3 b4 w4 b5 w5 b6 w6 b7 w7 b12 w12 b15 x0 x1 x2 x3 x4 x5 x10) (ix2 p i) = ((yR dr dl dk dv da db ds ⟨6, by decide⟩ p.val i : ℝ) : EReal))
      ∧ ∀ i j : Fin 64, (r_337 c b2 w2 b3 w3 b4 w4 b5 w5 b6 w6 b7 w7 b12 w12 b15 x0 x1 x2 x3 x4 x5 x10) (ix2 i j) = ((sR dl dk dv da db ds ⟨6, by decide⟩ 8 i j : ℝ) : EReal) := by
  have c' := chain_6 c b2 w2 b3 w3 b4 w4 b5 w5 b6 w6 b7 w7 b12 w12 b15 x0 x1 x2 x3 x4 x5 x10
  rw [base_r_2, base_r_3, base_r_4, base_r_5, base_r_6, base_r_7] at c'
  exact head_of x0 x1 x2 x3 x4 x5 dr dl dk dv da db h0 h1 h2 h3 h4 h5 384 (by decide) _ _ _ (ds ⟨6, by decide⟩)
    (fun i j => (stateIn_apply c b12 w12 b15 x10 ⟨6, by decide⟩ _ i j).trans (hs0 _ i j)) c'

/-- Head 7. -/
theorem head_7 :
    (∀ (p : Fin 8) (i : Fin 64), (r_317 c b2 w2 b3 w3 b4 w4 b5 w5 b6 w6 b7 w7 b12 w12 b15 x0 x1 x2 x3 x4 x5 x10) (ix2 p i) = ((yR dr dl dk dv da db ds ⟨7, by decide⟩ p.val i : ℝ) : EReal))
      ∧ ∀ i j : Fin 64, (r_338 c b2 w2 b3 w3 b4 w4 b5 w5 b6 w6 b7 w7 b12 w12 b15 x0 x1 x2 x3 x4 x5 x10) (ix2 i j) = ((sR dl dk dv da db ds ⟨7, by decide⟩ 8 i j : ℝ) : EReal) := by
  have c' := chain_7 c b2 w2 b3 w3 b4 w4 b5 w5 b6 w6 b7 w7 b12 w12 b15 x0 x1 x2 x3 x4 x5 x10
  rw [base_r_2, base_r_3, base_r_4, base_r_5, base_r_6, base_r_7] at c'
  exact head_of x0 x1 x2 x3 x4 x5 dr dl dk dv da db h0 h1 h2 h3 h4 h5 448 (by decide) _ _ _ (ds ⟨7, by decide⟩)
    (fun i j => (stateIn_apply c b12 w12 b15 x10 ⟨7, by decide⟩ _ i j).trans (hs0 _ i j)) c'

/-- Head 8. -/
theorem head_8 :
    (∀ (p : Fin 8) (i : Fin 64), (r_318 c b2 w2 b3 w3 b4 w4 b5 w5 b6 w6 b7 w7 b12 w12 b15 x0 x1 x2 x3 x4 x5 x10) (ix2 p i) = ((yR dr dl dk dv da db ds ⟨8, by decide⟩ p.val i : ℝ) : EReal))
      ∧ ∀ i j : Fin 64, (r_339 c b2 w2 b3 w3 b4 w4 b5 w5 b6 w6 b7 w7 b12 w12 b15 x0 x1 x2 x3 x4 x5 x10) (ix2 i j) = ((sR dl dk dv da db ds ⟨8, by decide⟩ 8 i j : ℝ) : EReal) := by
  have c' := chain_8 c b2 w2 b3 w3 b4 w4 b5 w5 b6 w6 b7 w7 b12 w12 b15 x0 x1 x2 x3 x4 x5 x10
  rw [base_r_2, base_r_3, base_r_4, base_r_5, base_r_6, base_r_7] at c'
  exact head_of x0 x1 x2 x3 x4 x5 dr dl dk dv da db h0 h1 h2 h3 h4 h5 512 (by decide) _ _ _ (ds ⟨8, by decide⟩)
    (fun i j => (stateIn_apply c b12 w12 b15 x10 ⟨8, by decide⟩ _ i j).trans (hs0 _ i j)) c'

/-- Head 9. -/
theorem head_9 :
    (∀ (p : Fin 8) (i : Fin 64), (r_319 c b2 w2 b3 w3 b4 w4 b5 w5 b6 w6 b7 w7 b12 w12 b15 x0 x1 x2 x3 x4 x5 x10) (ix2 p i) = ((yR dr dl dk dv da db ds ⟨9, by decide⟩ p.val i : ℝ) : EReal))
      ∧ ∀ i j : Fin 64, (r_340 c b2 w2 b3 w3 b4 w4 b5 w5 b6 w6 b7 w7 b12 w12 b15 x0 x1 x2 x3 x4 x5 x10) (ix2 i j) = ((sR dl dk dv da db ds ⟨9, by decide⟩ 8 i j : ℝ) : EReal) := by
  have c' := chain_9 c b2 w2 b3 w3 b4 w4 b5 w5 b6 w6 b7 w7 b12 w12 b15 x0 x1 x2 x3 x4 x5 x10
  rw [base_r_2, base_r_3, base_r_4, base_r_5, base_r_6, base_r_7] at c'
  exact head_of x0 x1 x2 x3 x4 x5 dr dl dk dv da db h0 h1 h2 h3 h4 h5 576 (by decide) _ _ _ (ds ⟨9, by decide⟩)
    (fun i j => (stateIn_apply c b12 w12 b15 x10 ⟨9, by decide⟩ _ i j).trans (hs0 _ i j)) c'

/-- Head 10. -/
theorem head_10 :
    (∀ (p : Fin 8) (i : Fin 64), (r_320 c b2 w2 b3 w3 b4 w4 b5 w5 b6 w6 b7 w7 b12 w12 b15 x0 x1 x2 x3 x4 x5 x10) (ix2 p i) = ((yR dr dl dk dv da db ds ⟨10, by decide⟩ p.val i : ℝ) : EReal))
      ∧ ∀ i j : Fin 64, (r_341 c b2 w2 b3 w3 b4 w4 b5 w5 b6 w6 b7 w7 b12 w12 b15 x0 x1 x2 x3 x4 x5 x10) (ix2 i j) = ((sR dl dk dv da db ds ⟨10, by decide⟩ 8 i j : ℝ) : EReal) := by
  have c' := chain_10 c b2 w2 b3 w3 b4 w4 b5 w5 b6 w6 b7 w7 b12 w12 b15 x0 x1 x2 x3 x4 x5 x10
  rw [base_r_2, base_r_3, base_r_4, base_r_5, base_r_6, base_r_7] at c'
  exact head_of x0 x1 x2 x3 x4 x5 dr dl dk dv da db h0 h1 h2 h3 h4 h5 640 (by decide) _ _ _ (ds ⟨10, by decide⟩)
    (fun i j => (stateIn_apply c b12 w12 b15 x10 ⟨10, by decide⟩ _ i j).trans (hs0 _ i j)) c'

/-- Head 11. -/
theorem head_11 :
    (∀ (p : Fin 8) (i : Fin 64), (r_321 c b2 w2 b3 w3 b4 w4 b5 w5 b6 w6 b7 w7 b12 w12 b15 x0 x1 x2 x3 x4 x5 x10) (ix2 p i) = ((yR dr dl dk dv da db ds ⟨11, by decide⟩ p.val i : ℝ) : EReal))
      ∧ ∀ i j : Fin 64, (r_342 c b2 w2 b3 w3 b4 w4 b5 w5 b6 w6 b7 w7 b12 w12 b15 x0 x1 x2 x3 x4 x5 x10) (ix2 i j) = ((sR dl dk dv da db ds ⟨11, by decide⟩ 8 i j : ℝ) : EReal) := by
  have c' := chain_11 c b2 w2 b3 w3 b4 w4 b5 w5 b6 w6 b7 w7 b12 w12 b15 x0 x1 x2 x3 x4 x5 x10
  rw [base_r_2, base_r_3, base_r_4, base_r_5, base_r_6, base_r_7] at c'
  exact head_of x0 x1 x2 x3 x4 x5 dr dl dk dv da db h0 h1 h2 h3 h4 h5 704 (by decide) _ _ _ (ds ⟨11, by decide⟩)
    (fun i j => (stateIn_apply c b12 w12 b15 x10 ⟨11, by decide⟩ _ i j).trans (hs0 _ i j)) c'

/-- Head 12. -/
theorem head_12 :
    (∀ (p : Fin 8) (i : Fin 64), (r_322 c b2 w2 b3 w3 b4 w4 b5 w5 b6 w6 b7 w7 b12 w12 b15 x0 x1 x2 x3 x4 x5 x10) (ix2 p i) = ((yR dr dl dk dv da db ds ⟨12, by decide⟩ p.val i : ℝ) : EReal))
      ∧ ∀ i j : Fin 64, (r_343 c b2 w2 b3 w3 b4 w4 b5 w5 b6 w6 b7 w7 b12 w12 b15 x0 x1 x2 x3 x4 x5 x10) (ix2 i j) = ((sR dl dk dv da db ds ⟨12, by decide⟩ 8 i j : ℝ) : EReal) := by
  have c' := chain_12 c b2 w2 b3 w3 b4 w4 b5 w5 b6 w6 b7 w7 b12 w12 b15 x0 x1 x2 x3 x4 x5 x10
  rw [base_r_2, base_r_3, base_r_4, base_r_5, base_r_6, base_r_7] at c'
  exact head_of x0 x1 x2 x3 x4 x5 dr dl dk dv da db h0 h1 h2 h3 h4 h5 768 (by decide) _ _ _ (ds ⟨12, by decide⟩)
    (fun i j => (stateIn_apply c b12 w12 b15 x10 ⟨12, by decide⟩ _ i j).trans (hs0 _ i j)) c'

/-- Head 13. -/
theorem head_13 :
    (∀ (p : Fin 8) (i : Fin 64), (r_323 c b2 w2 b3 w3 b4 w4 b5 w5 b6 w6 b7 w7 b12 w12 b15 x0 x1 x2 x3 x4 x5 x10) (ix2 p i) = ((yR dr dl dk dv da db ds ⟨13, by decide⟩ p.val i : ℝ) : EReal))
      ∧ ∀ i j : Fin 64, (r_346 c b2 w2 b3 w3 b4 w4 b5 w5 b6 w6 b7 w7 b12 w12 b15 x0 x1 x2 x3 x4 x5 x10) (ix2 i j) = ((sR dl dk dv da db ds ⟨13, by decide⟩ 8 i j : ℝ) : EReal) := by
  have c' := chain_13 c b2 w2 b3 w3 b4 w4 b5 w5 b6 w6 b7 w7 b12 w12 b15 x0 x1 x2 x3 x4 x5 x10
  rw [base_r_2, base_r_3, base_r_4, base_r_5, base_r_6, base_r_7] at c'
  exact head_of x0 x1 x2 x3 x4 x5 dr dl dk dv da db h0 h1 h2 h3 h4 h5 832 (by decide) _ _ _ (ds ⟨13, by decide⟩)
    (fun i j => (stateIn_apply c b12 w12 b15 x10 ⟨13, by decide⟩ _ i j).trans (hs0 _ i j)) c'

/-- Head 14. -/
theorem head_14 :
    (∀ (p : Fin 8) (i : Fin 64), (r_327 c b2 w2 b3 w3 b4 w4 b5 w5 b6 w6 b7 w7 b12 w12 b15 x0 x1 x2 x3 x4 x5 x10) (ix2 p i) = ((yR dr dl dk dv da db ds ⟨14, by decide⟩ p.val i : ℝ) : EReal))
      ∧ ∀ i j : Fin 64, (r_347 c b2 w2 b3 w3 b4 w4 b5 w5 b6 w6 b7 w7 b12 w12 b15 x0 x1 x2 x3 x4 x5 x10) (ix2 i j) = ((sR dl dk dv da db ds ⟨14, by decide⟩ 8 i j : ℝ) : EReal) := by
  have c' := chain_14 c b2 w2 b3 w3 b4 w4 b5 w5 b6 w6 b7 w7 b12 w12 b15 x0 x1 x2 x3 x4 x5 x10
  rw [base_r_2, base_r_3, base_r_4, base_r_5, base_r_6, base_r_7] at c'
  exact head_of x0 x1 x2 x3 x4 x5 dr dl dk dv da db h0 h1 h2 h3 h4 h5 896 (by decide) _ _ _ (ds ⟨14, by decide⟩)
    (fun i j => (stateIn_apply c b12 w12 b15 x10 ⟨14, by decide⟩ _ i j).trans (hs0 _ i j)) c'

/-- Head 15. -/
theorem head_15 :
    (∀ (p : Fin 8) (i : Fin 64), (r_328 c b2 w2 b3 w3 b4 w4 b5 w5 b6 w6 b7 w7 b12 w12 b15 x0 x1 x2 x3 x4 x5 x10) (ix2 p i) = ((yR dr dl dk dv da db ds ⟨15, by decide⟩ p.val i : ℝ) : EReal))
      ∧ ∀ i j : Fin 64, (r_348 c b2 w2 b3 w3 b4 w4 b5 w5 b6 w6 b7 w7 b12 w12 b15 x0 x1 x2 x3 x4 x5 x10) (ix2 i j) = ((sR dl dk dv da db ds ⟨15, by decide⟩ 8 i j : ℝ) : EReal) := by
  have c' := chain_15 c b2 w2 b3 w3 b4 w4 b5 w5 b6 w6 b7 w7 b12 w12 b15 x0 x1 x2 x3 x4 x5 x10
  rw [base_r_2, base_r_3, base_r_4, base_r_5, base_r_6, base_r_7] at c'
  exact head_of x0 x1 x2 x3 x4 x5 dr dl dk dv da db h0 h1 h2 h3 h4 h5 960 (by decide) _ _ _ (ds ⟨15, by decide⟩)
    (fun i j => (stateIn_apply c b12 w12 b15 x10 ⟨15, by decide⟩ _ i j).trans (hs0 _ i j)) c'

end reals

end run

end Cert.KernelScanIdeal.Value

end
-- ==== Proof.ScanOut.lean ====
/-
  The two outputs of a sequence's tile: its rows and its states after the last token.
-/
module

public import proofs.«01_k».proof.Proof.ScanHead
public import proofs.«01_k».proof.Proof.Gen.KernelScanIdeal.Frame

@[expose] public section

set_option maxRecDepth 16384

noncomputable section

open Idealize.ShloMosaic Idealize.ShloMosaic.TcCoe Idealize.SL.Sem
open Cert.Layer

namespace Cert.KernelScanIdeal.Value
open Cert.KernelScanIdeal Cert.KernelScanIdeal.Gen Cert.KernelScanIdeal.Gen.kernelRun0_A.sl

section run
variable (c : Dev nD) (i : grid0.Coords) (b2 : Memref sig .tc .vmem S8x1024 .f32) (w2 : b2.IsWhole) (b3 : Memref sig .tc .vmem S8x1024 .f32) (w3 : b3.IsWhole) (b4 : Memref sig .tc .vmem S8x1024 .f32) (w4 : b4.IsWhole) (b5 : Memref sig .tc .vmem S8x1024 .f32) (w5 : b5.IsWhole) (b6 : Memref sig .tc .vmem S8x1024 .f32) (w6 : b6.IsWhole) (b7 : Memref sig .tc .vmem S8x1024 .f32) (w7 : b7.IsWhole) (b8 : Memref sig .tc .vmem S8x1024 .f32) (w8 : b8.IsWhole) (b9 : Memref sig .tc .vmem S1x1024 .f32) (w9 : b9.IsWhole) (b10 : Memref sig .tc .vmem S1x1024 .f32) (w10 : b10.IsWhole) (b11 : Memref sig .tc .vmem S1x1024 .f32) (w11 : b11.IsWhole) (b12 : Memref sig .tc .vmem S1x16x64x64 .f32) (w12 : b12.IsWhole) (b13 : Memref sig .tc .vmem S8x1024 .f32) (w13 : b13.IsWhole) (b14 : Memref sig .tc .vmem S1x16x64x64 .f32) (w14 : b14.IsWhole) (b15 : Memref sig .tc .vmem S16x64x64 .f32) (w15 : b15.IsWhole) (hc0 : cond0_0 i) (hc1 : cond0_1 i)
  (x0 x1 x2 x3 x4 x5 x6 : Vec Ideal S8x1024 .f32) (x7 x8 x9 : Vec Ideal S1x1024 .f32) (x10 : Vec Ideal S1x16x64x64 .f32)

/-- The sixteen stores of the states, last first. -/
def stores : List (View.Piece (Elt Ideal) S16x64x64 .f32) :=
   [⟨Rect.unit ![15, 0, 0] S1x64x64.size inb_S16x64x64_S1x64x64_15_0_0, k0_pay514 (r_348 c b2 w2 b3 w3 b4 w4 b5 w5 b6 w6 b7 w7 b12 w12 b15 x0 x1 x2 x3 x4 x5 x10)⟩,
    ⟨Rect.unit ![14, 0, 0] S1x64x64.size inb_S16x64x64_S1x64x64_14_0_0, k0_pay512 (r_347 c b2 w2 b3 w3 b4 w4 b5 w5 b6 w6 b7 w7 b12 w12 b15 x0 x1 x2 x3 x4 x5 x10)⟩,
    ⟨Rect.unit ![13, 0, 0] S1x64x64.size inb_S16x64x64_S1x64x64_13_0_0, k0_pay510 (r_346 c b2 w2 b3 w3 b4 w4 b5 w5 b6 w6 b7 w7 b12 w12 b15 x0 x1 x2 x3 x4 x5 x10)⟩,
    ⟨Rect.unit ![12, 0, 0] S1x64x64.size inb_S16x64x64_S1x64x64_12_0_0, r_369 c b2 w2 b3 w3 b4 w4 b5 w5 b6 w6 b7 w7 b12 w12 b15 x0 x1 x2 x3 x4 x5 x10⟩,
    ⟨Rect.unit ![11, 0, 0] S1x64x64.size inb_S16x64x64_S1x64x64_11_0_0, k0_pay505 (r_342 c b2 w2 b3 w3 b4 w4 b5 w5 b6 w6 b7 w7 b12 w12 b15 x0 x1 x2 x3 x4 x5 x10)⟩,
    ⟨Rect.unit ![10, 0, 0] S1x64x64.size inb_S16x64x64_S1x64x64_10_0_0, k0_pay501 (r_341 c b2 w2 b3 w3 b4 w4 b5 w5 b6 w6 b7 w7 b12 w12 b15 x0 x1 x2 x3 x4 x5 x10)⟩,
    ⟨Rect.unit ![9, 0, 0] S1x64x64.size inb_S16x64x64_S1x64x64_9_0_0, k0_pay498 (r_340 c b2 w2 b3 w3 b4 w4 b5 w5 b6 w6 b7 w7 b12 w12 b15 x0 x1 x2 x3 x4 x5 x10)⟩,
    ⟨Rect.unit ![8, 0, 0] S1x64x64.size inb_S16x64x64_S1x64x64_8_0_0, k0_pay494 (r_339 c b2 w2 b3 w3 b4 w4 b5 w5 b6 w6 b7 w7 b12 w12 b15 x0 x1 x2 x3 x4 x5 x10)⟩,
    ⟨Rect.unit ![7, 0, 0] S1x64x64.size inb_S16x64x64_S1x64x64_7_0_0, k0_pay489 (r_338 c b2 w2 b3 w3 b4 w4 b5 w5 b6 w6 b7 w7 b12 w12 b15 x0 x1 x2 x3 x4 x5 x10)⟩,
    ⟨Rect.unit ![6, 0, 0] S1x64x64.size inb_S16x64x64_S1x64x64_6_0_0, k0_pay484 (r_337 c b2 w2 b3 w3 b4 w4 b5 w5 b6 w6 b7 w7 b12 w12 b15 x0 x1 x2 x3 x4 x5 x10)⟩,
    ⟨Rect.unit ![5, 0, 0] S1x64x64.size inb_S16x64x64_S1x64x64_5_0_0, k0_pay480 (r_334 c b2 w2 b3 w3 b4 w4 b5 w5 b6 w6 b7 w7 b12 w12 b15 x0 x1 x2 x3 x4 x5 x10)⟩,
    ⟨Rect.unit ![4, 0, 0] S1x64x64.size inb_S16x64x64_S1x64x64_4_0_0, k0_pay477 (r_333 c b2 w2 b3 w3 b4 w4 b5 w5 b6 w6 b7 w7 b12 w12 b15 x0 x1 x2 x3 x4 x5 x10)⟩,
    ⟨Rect.unit ![3, 0, 0] S1x64x64.size inb_S16x64x64_S1x64x64_3_0_0, k0_pay473 (r_332 c b2 w2 b3 w3 b4 w4 b5 w5 b6 w6 b7 w7 b12 w12 b15 x0 x1 x2 x3 x4 x5 x10)⟩,
    ⟨Rect.unit ![2, 0, 0] S1x64x64.size inb_S16x64x64_S1x64x64_2_0_0, k0_pay470 (r_331 c b2 w2 b3 w3 b4 w4 b5 w5 b6 w6 b7 w7 b12 w12 b15 x0 x1 x2 x3 x4 x5 x10)⟩,
    ⟨Rect.unit ![1, 0, 0] S1x64x64.size inb_S16x64x64_S1x64x64_1_0_0, k0_pay466 (r_330 c b2 w2 b3 w3 b4 w4 b5 w5 b6 w6 b7 w7 b12 w12 b15 x0 x1 x2 x3 x4 x5 x10)⟩,
    ⟨Rect.unit ![0, 0, 0] S1x64x64.size inb_S16x64x64_S1x64x64_0_0_0, k0_pay461 (r_329 c b2 w2 b3 w3 b4 w4 b5 w5 b6 w6 b7 w7 b12 w12 b15 x0 x1 x2 x3 x4 x5 x10)⟩]

theorem stores_eq : HS0_17 c b2 w2 b3 w3 b4 w4 b5 w5 b6 w6 b7 w7 b12 w12 b15 x0 x1 x2 x3 x4 x5 x10 = stores c b2 w2 b3 w3 b4 w4 b5 w5 b6 w6 b7 w7 b12 w12 b15 x0 x1 x2 x3 x4 x5 x10 ++ HS0_1 c b12 w12 x10 := rfl

theorem pay2_apply (X : FVec Ideal S16x64x64 .f32) (h : Fin 16) (i j : Fin 64) : k0_pay2 X (ix4 0 h i j) = X (ix3 h i j) := by
  pointwise [k0_pay2]

section reals
variable (dr dl dk dv da db : ℕ → Fin 1024 → ℝ) (ds : Fin 16 → Fin 64 → Fin 64 → ℝ)
    (h0 : ∀ p J, x0 (ix2 p J) = ((dr p.val J : ℝ) : EReal)) (h1 : ∀ p J, x1 (ix2 p J) = ((dl p.val J : ℝ) : EReal))
    (h2 : ∀ p J, x2 (ix2 p J) = ((dk p.val J : ℝ) : EReal)) (h3 : ∀ p J, x3 (ix2 p J) = ((dv p.val J : ℝ) : EReal))
    (h4 : ∀ p J, x4 (ix2 p J) = ((da p.val J : ℝ) : EReal)) (h5 : ∀ p J, x5 (ix2 p J) = ((db p.val J : ℝ) : EReal))
    (hs0 : ∀ (h : Fin 16) (i j : Fin 64), x10 (ix4 0 h i j) = ((ds h i j : ℝ) : EReal))
include h0 h1 h2 h3 h4 h5 hs0

theorem stores_of : View.PiecesOf (statesOf dl dk dv da db ds) (stores c b2 w2 b3 w3 b4 w4 b5 w5 b6 w6 b7 w7 b12 w12 b15 x0 x1 x2 x3 x4 x5 x10) :=
  ⟨fun x => piece3 dl dk dv da db ds ⟨15, by decide⟩ _ (head_15 c b2 w2 b3 w3 b4 w4 b5 w5 b6 w6 b7 w7 b12 w12 b15 x0 x1 x2 x3 x4 x5 x10 dr dl dk dv da db ds h0 h1 h2 h3 h4 h5 hs0).2 inb_S16x64x64_S1x64x64_15_0_0 x,
   fun x => piece3 dl dk dv da db ds ⟨14, by decide⟩ _ (head_14 c b2 w2 b3 w3 b4 w4 b5 w5 b6 w6 b7 w7 b12 w12 b15 x0 x1 x2 x3 x4 x5 x10 dr dl dk dv da db ds h0 h1 h2 h3 h4 h5 hs0).2 inb_S16x64x64_S1x64x64_14_0_0 x,
   fun x => piece3 dl dk dv da db ds ⟨13, by decide⟩ _ (head_13 c b2 w2 b3 w3 b4 w4 b5 w5 b6 w6 b7 w7 b12 w12 b15 x0 x1 x2 x3 x4 x5 x10 dr dl dk dv da db ds h0 h1 h2 h3 h4 h5 hs0).2 inb_S16x64x64_S1x64x64_13_0_0 x,
   fun x => piece3 dl dk dv da db ds ⟨12, by decide⟩ _ (head_12 c b2 w2 b3 w3 b4 w4 b5 w5 b6 w6 b7 w7 b12 w12 b15 x0 x1 x2 x3 x4 x5 x10 dr dl dk dv da db ds h0 h1 h2 h3 h4 h5 hs0).2 inb_S16x64x64_S1x64x64_12_0_0 x,
   fun x => piece3 dl dk dv da db ds ⟨11, by decide⟩ _ (head_11 c b2 w2 b3 w3 b4 w4 b5 w5 b6 w6 b7 w7 b12 w12 b15 x0 x1 x2 x3 x4 x5 x10 dr dl dk dv da db ds h0 h1 h2 h3 h4 h5 hs0).2 inb_S16x64x64_S1x64x64_11_0_0 x,
   fun x => piece3 dl dk dv da db ds ⟨10, by decide⟩ _ (head_10 c b2 w2 b3 w3 b4 w4 b5 w5 b6 w6 b7 w7 b12 w12 b15 x0 x1 x2 x3 x4 x5 x10 dr dl dk dv da db ds h0 h1 h2 h3 h4 h5 hs0).2 inb_S16x64x64_S1x64x64_10_0_0 x,
   fun x => piece3 dl dk dv da db ds ⟨9, by decide⟩ _ (head_9 c b2 w2 b3 w3 b4 w4 b5 w5 b6 w6 b7 w7 b12 w12 b15 x0 x1 x2 x3 x4 x5 x10 dr dl dk dv da db ds h0 h1 h2 h3 h4 h5 hs0).2 inb_S16x64x64_S1x64x64_9_0_0 x,
   fun x => piece3 dl dk dv da db ds ⟨8, by decide⟩ _ (head_8 c b2 w2 b3 w3 b4 w4 b5 w5 b6 w6 b7 w7 b12 w12 b15 x0 x1 x2 x3 x4 x5 x10 dr dl dk dv da db ds h0 h1 h2 h3 h4 h5 hs0).2 inb_S16x64x64_S1x64x64_8_0_0 x,
   fun x => piece3 dl dk dv da db ds ⟨7, by decide⟩ _ (head_7 c b2 w2 b3 w3 b4 w4 b5 w5 b6 w6 b7 w7 b12 w12 b15 x0 x1 x2 x3 x4 x5 x10 dr dl dk dv da db ds h0 h1 h2 h3 h4 h5 hs0).2 inb_S16x64x64_S1x64x64_7_0_0 x,
   fun x => piece3 dl dk dv da db ds ⟨6, by decide⟩ _ (head_6 c b2 w2 b3 w3 b4 w4 b5 w5 b6 w6 b7 w7 b12 w12 b15 x0 x1 x2 x3 x4 x5 x10 dr dl dk dv da db ds h0 h1 h2 h3 h4 h5 hs0).2 inb_S16x64x64_S1x64x64_6_0_0 x,
   fun x => piece3 dl dk dv da db ds ⟨5, by decide⟩ _ (head_5 c b2 w2 b3 w3 b4 w4 b5 w5 b6 w6 b7 w7 b12 w12 b15 x0 x1 x2 x3 x4 x5 x10 dr dl dk dv da db ds h0 h1 h2 h3 h4 h5 hs0).2 inb_S16x64x64_S1x64x64_5_0_0 x,
   fun x => piece3 dl dk dv da db ds ⟨4, by decide⟩ _ (head_4 c b2 w2 b3 w3 b4 w4 b5 w5 b6 w6 b7 w7 b12 w12 b15 x0 x1 x2 x3 x4 x5 x10 dr dl dk dv da db ds h0 h1 h2 h3 h4 h5 hs0).2 inb_S16x64x64_S1x64x64_4_0_0 x,
   fun x => piece3 dl dk dv da db ds ⟨3, by decide⟩ _ (head_3 c b2 w2 b3 w3 b4 w4 b5 w5 b6 w6 b7 w7 b12 w12 b15 x0 x1 x2 x3 x4 x5 x10 dr dl dk dv da db ds h0 h1 h2 h3 h4 h5 hs0).2 inb_S16x64x64_S1x64x64_3_0_0 x,
   fun x => piece3 dl dk dv da db ds ⟨2, by decide⟩ _ (head_2 c b2 w2 b3 w3 b4 w4 b5 w5 b6 w6 b7 w7 b12 w12 b15 x0 x1 x2 x3 x4 x5 x10 dr dl dk dv da db ds h0 h1 h2 h3 h4 h5 hs0).2 inb_S16x64x64_S1x64x64_2_0_0 x,
   fun x => piece3 dl dk dv da db ds ⟨1, by decide⟩ _ (head_1 c b2 w2 b3 w3 b4 w4 b5 w5 b6 w6 b7 w7 b12 w12 b15 x0 x1 x2 x3 x4 x5 x10 dr dl dk dv da db ds h0 h1 h2 h3 h4 h5 hs0).2 inb_S16x64x64_S1x64x64_1_0_0 x,
   fun x => piece3 dl dk dv da db ds ⟨0, by decide⟩ _ (head_0 c b2 w2 b3 w3 b4 w4 b5 w5 b6 w6 b7 w7 b12 w12 b15 x0 x1 x2 x3 x4 x5 x10 dr dl dk dv da db ds h0 h1 h2 h3 h4 h5 hs0).2 inb_S16x64x64_S1x64x64_0_0_0 x, trivial⟩

theorem states_after (h : Fin 16) (i j : Fin 64) : v3459 c b2 w2 b3 w3 b4 w4 b5 w5 b6 w6 b7 w7 b12 w12 b15 x0 x1 x2 x3 x4 x5 x10 (ix3 h i j) = ((sR dl dk dv da db ds h 8 i j : ℝ) : EReal) := by
  unfold v3459
  rw [View.readCov_eq_canon', stores_eq]
  have e : (Rect.unit (s := S16x64x64) ![0, 0, 0] ![16, 64, 64] inb_S16x64x64_S16x64x64_0_0_0).toLoadRect.idx (ix3 h i j) = ix3 h i j := by
    funext a; apply Fin.ext
    fin_cases a
    · show 0 + 1 * h.val = h.val; omega
    · show 0 + 1 * i.val = i.val; omega
    · show 0 + 1 * j.val = j.val; omega
  show View.canon _ ((Rect.unit (s := S16x64x64) ![0, 0, 0] ![16, 64, 64] inb_S16x64x64_S16x64x64_0_0_0).toLoadRect.idx (ix3 h i j)) = _
  rw [e]
  exact View.canon_append_of_piecesOf (statesOf dl dk dv da db ds) _ (stores c b2 w2 b3 w3 b4 w4 b5 w5 b6 w6 b7 w7 b12 w12 b15 x0 x1 x2 x3 x4 x5 x10) (stores_of c b2 w2 b3 w3 b4 w4 b5 w5 b6 w6 b7 w7 b12 w12 b15 x0 x1 x2 x3 x4 x5 x10 dr dl dk dv da db ds h0 h1 h2 h3 h4 h5 hs0) (ix3 h i j)
    (View.cover_of_tiledL (s := S16x64x64) (stores c b2 w2 b3 w3 b4 w4 b5 w5 b6 w6 b7 w7 b12 w12 b15 x0 x1 x2 x3 x4 x5 x10) S1x64x64.size (by sl_kernel_rfl) _)

theorem out12 (h : Fin 16) (u w : Fin 64) : out0_A_12 (F := Ideal) c i b2 w2 b3 w3 b4 w4 b5 w5 b6 w6 b7 w7 b8 w8 b9 w9 b10 w10 b11 w11 b12 w12 b13 w13 b14 w14 b15 w15 hc0 hc1 x0 x1 x2 x3 x4 x5 x6 x7 x8 x9 x10 (ix4 0 h u w) = ((sR dl dk dv da db ds h 8 u w : ℝ) : EReal) := by
  unfold out0_A_12
  rw [View.read_writes_junk_eq_canon]
  unfold kernelRun0_A
  dsimp only
  rw [View.canon_cons_unit_lit (S := S1x16x64x64) _ _ _ (by intro a; fin_cases a <;> rfl)]
  exact (pay2_apply _ h u w).trans (states_after c b2 w2 b3 w3 b4 w4 b5 w5 b6 w6 b7 w7 b12 w12 b15 x0 x1 x2 x3 x4 x5 x10 dr dl dk dv da db ds h0 h1 h2 h3 h4 h5 hs0 h u w)

set_option maxHeartbeats 4000000 in
theorem out11 : out0_A_11 (F := Ideal) c i b2 w2 b3 w3 b4 w4 b5 w5 b6 w6 b7 w7 b8 w8 b9 w9 b10 w10 b11 w11 b12 w12 b13 w13 b14 w14 b15 w15 hc0 hc1 x0 x1 x2 x3 x4 x5 x6 x7 x8 x9 x10 = rowsOf dr dl dk dv da db ds x0 x2 x3 x6 x7 x8 x9 := by
  funext y
  have hc := cover0_A_11 (F := Ideal) c i b2 w2 b3 w3 b4 w4 b5 w5 b6 w6 b7 w7 b8 w8 b9 w9 b10 w10 b11 w11 b12 w12 b13 w13 b14 w14 b15 w15 hc0 hc1 x0 x1 x2 x3 x4 x5 x6 x7 x8 x9 x10 y
  unfold out0_A_11
  rw [View.read_writes_junk_eq_canon]
  refine View.canon_apply_of_pieces (rowsOf dr dl dk dv da db ds x0 x2 x3 x6 x7 x8 x9) _ (View.PiecesOf.mem ?_) y hc
  unfold kernelRun0_A
  dsimp only
  refine ⟨?_, ?_, ?_, ?_, ?_, ?_, ?_, ?_, ?_, ?_, ?_, ?_, ?_, ?_, ?_, ?_, trivial⟩
  · exact piece2 dr dl dk dv da db ds x0 x2 x3 x6 x7 x8 x9 b8 w8 b9 w9 b10 w10 b11 w11 ⟨15, by decide⟩ slices_S8x1024_o0_960_S8x64 _ (head_15 c b2 w2 b3 w3 b4 w4 b5 w5 b6 w6 b7 w7 b12 w12 b15 x0 x1 x2 x3 x4 x5 x10 dr dl dk dv da db ds h0 h1 h2 h3 h4 h5 hs0).1
      _ _ _ (base_r c b2 w2 x0) (base_r_1 c b4 w4 x2) (base_r_2 c b5 w5 x3) k0_off17 (by decide +kernel) k0_off17_inb inb_S1x1024_S1x64_0_960
  · exact piece2 dr dl dk dv da db ds x0 x2 x3 x6 x7 x8 x9 b8 w8 b9 w9 b10 w10 b11 w11 ⟨14, by decide⟩ slices_S8x1024_o0_896_S8x64 _ (head_14 c b2 w2 b3 w3 b4 w4 b5 w5 b6 w6 b7 w7 b12 w12 b15 x0 x1 x2 x3 x4 x5 x10 dr dl dk dv da db ds h0 h1 h2 h3 h4 h5 hs0).1
      _ _ _ (base_r c b2 w2 x0) (base_r_1 c b4 w4 x2) (base_r_2 c b5 w5 x3) k0_off16 (by decide +kernel) k0_off16_inb inb_S1x1024_S1x64_0_896
  · exact piece2 dr dl dk dv da db ds x0 x2 x3 x6 x7 x8 x9 b8 w8 b9 w9 b10 w10 b11 w11 ⟨13, by decide⟩ slices_S8x1024_o0_832_S8x64 _ (head_13 c b2 w2 b3 w3 b4 w4 b5 w5 b6 w6 b7 w7 b12 w12 b15 x0 x1 x2 x3 x4 x5 x10 dr dl dk dv da db ds h0 h1 h2 h3 h4 h5 hs0).1
      _ _ _ (base_r c b2 w2 x0) (base_r_1 c b4 w4 x2) (base_r_2 c b5 w5 x3) k0_off15 (by decide +kernel) k0_off15_inb inb_S1x1024_S1x64_0_832
  · exact piece2 dr dl dk dv da db ds x0 x2 x3 x6 x7 x8 x9 b8 w8 b9 w9 b10 w10 b11 w11 ⟨12, by decide⟩ slices_S8x1024_o0_768_S8x64 _ (head_12 c b2 w2 b3 w3 b4 w4 b5 w5 b6 w6 b7 w7 b12 w12 b15 x0 x1 x2 x3 x4 x5 x10 dr dl dk dv da db ds h0 h1 h2 h3 h4 h5 hs0).1
      _ _ _ (base_r c b2 w2 x0) (base_r_1 c b4 w4 x2) (base_r_2 c b5 w5 x3) k0_off14 (by decide +kernel) k0_off14_inb inb_S1x1024_S1x64_0_768
  · exact piece2 dr dl dk dv da db ds x0 x2 x3 x6 x7 x8 x9 b8 w8 b9 w9 b10 w10 b11 w11 ⟨11, by decide⟩ slices_S8x1024_o0_704_S8x64 _ (head_11 c b2 w2 b3 w3 b4 w4 b5 w5 b6 w6 b7 w7 b12 w12 b15 x0 x1 x2 x3 x4 x5 x10 dr dl dk dv da db ds h0 h1 h2 h3 h4 h5 hs0).1
      _ _ _ (base_r c b2 w2 x0) (base_r_1 c b4 w4 x2) (base_r_2 c b5 w5 x3) k0_off13 (by decide +kernel) k0_off13_inb inb_S1x1024_S1x64_0_704
  · exact piece2 dr dl dk dv da db ds x0 x2 x3 x6 x7 x8 x9 b8 w8 b9 w9 b10 w10 b11 w11 ⟨10, by decide⟩ slices_S8x1024_o0_640_S8x64 _ (head_10 c b2 w2 b3 w3 b4 w4 b5 w5 b6 w6 b7 w7 b12 w12 b15 x0 x1 x2 x3 x4 x5 x10 dr dl dk dv da db ds h0 h1 h2 h3 h4 h5 hs0).1
      _ _ _ (base_r c b2 w2 x0) (base_r_1 c b4 w4 x2) (base_r_2 c b5 w5 x3) k0_off12 (by decide +kernel) k0_off12_inb inb_S1x1024_S1x64_0_640
  · exact piece2 dr dl dk dv da db ds x0 x2 x3 x6 x7 x8 x9 b8 w8 b9 w9 b10 w10 b11 w11 ⟨9, by decide⟩ slices_S8x1024_o0_576_S8x64 _ (head_9 c b2 w2 b3 w3 b4 w4 b5 w5 b6 w6 b7 w7 b12 w12 b15 x0 x1 x2 x3 x4 x5 x10 dr dl dk dv da db ds h0 h1 h2 h3 h4 h5 hs0).1
      _ _ _ (base_r c b2 w2 x0) (base_r_1 c b4 w4 x2) (base_r_2 c b5 w5 x3) k0_off11 (by decide +kernel) k0_off11_inb inb_S1x1024_S1x64_0_576
  · exact piece2 dr dl dk dv da db ds x0 x2 x3 x6 x7 x8 x9 b8 w8 b9 w9 b10 w10 b11 w11 ⟨8, by decide⟩ slices_S8x1024_o0_512_S8x64 _ (head_8 c b2 w2 b3 w3 b4 w4 b5 w5 b6 w6 b7 w7 b12 w12 b15 x0 x1 x2 x3 x4 x5 x10 dr dl dk dv da db ds h0 h1 h2 h3 h4 h5 hs0).1
      _ _ _ (base_r c b2 w2 x0) (base_r_1 c b4 w4 x2) (base_r_2 c b5 w5 x3) k0_off10 (by decide +kernel) k0_off10_inb inb_S1x1024_S1x64_0_512
  · exact piece2 dr dl dk dv da db ds x0 x2 x3 x6 x7 x8 x9 b8 w8 b9 w9 b10 w10 b11 w11 ⟨7, by decide⟩ slices_S8x1024_o0_448_S8x64 _ (head_7 c b2 w2 b3 w3 b4 w4 b5 w5 b6 w6 b7 w7 b12 w12 b15 x0 x1 x2 x3 x4 x5 x10 dr dl dk dv da db ds h0 h1 h2 h3 h4 h5 hs0).1
      _ _ _ (base_r c b2 w2 x0) (base_r_1 c b4 w4 x2) (base_r_2 c b5 w5 x3) k0_off9 (by decide +kernel) k0_off9_inb inb_S1x1024_S1x64_0_448
  · exact piece2 dr dl dk dv da db ds x0 x2 x3 x6 x7 x8 x9 b8 w8 b9 w9 b10 w10 b11 w11 ⟨6, by decide⟩ slices_S8x1024_o0_384_S8x64 _ (head_6 c b2 w2 b3 w3 b4 w4 b5 w5 b6 w6 b7 w7 b12 w12 b15 x0 x1 x2 x3 x4 x5 x10 dr dl dk dv da db ds h0 h1 h2 h3 h4 h5 hs0).1
      _ _ _ (base_r c b2 w2 x0) (base_r_1 c b4 w4 x2) (base_r_2 c b5 w5 x3) k0_off8 (by decide +kernel) k0_off8_inb inb_S1x1024_S1x64_0_384
  · exact piece2 dr dl dk dv da db ds x0 x2 x3 x6 x7 x8 x9 b8 w8 b9 w9 b10 w10 b11 w11 ⟨5, by decide⟩ slices_S8x1024_o0_320_S8x64 _ (head_5 c b2 w2 b3 w3 b4 w4 b5 w5 b6 w6 b7 w7 b12 w12 b15 x0 x1 x2 x3 x4 x5 x10 dr dl dk dv da db ds h0 h1 h2 h3 h4 h5 hs0).1
      _ _ _ (base_r c b2 w2 x0) (base_r_1 c b4 w4 x2) (base_r_2 c b5 w5 x3) k0_off7 (by decide +kernel) k0_off7_inb inb_S1x1024_S1x64_0_320
  · exact piece2 dr dl dk dv da db ds x0 x2 x3 x6 x7 x8 x9 b8 w8 b9 w9 b10 w10 b11 w11 ⟨4, by decide⟩ slices_S8x1024_o0_256_S8x64 _ (head_4 c b2 w2 b3 w3 b4 w4 b5 w5 b6 w6 b7 w7 b12 w12 b15 x0 x1 x2 x3 x4 x5 x10 dr dl dk dv da db ds h0 h1 h2 h3 h4 h5 hs0).1
      _ _ _ (base_r c b2 w2 x0) (base_r_1 c b4 w4 x2) (base_r_2 c b5 w5 x3) k0_off6 (by decide +kernel) k0_off6_inb inb_S1x1024_S1x64_0_256
  · exact piece2 dr dl dk dv da db ds x0 x2 x3 x6 x7 x8 x9 b8 w8 b9 w9 b10 w10 b11 w11 ⟨3, by decide⟩ slices_S8x1024_o0_192_S8x64 _ (head_3 c b2 w2 b3 w3 b4 w4 b5 w5 b6 w6 b7 w7 b12 w12 b15 x0 x1 x2 x3 x4 x5 x10 dr dl dk dv da db ds h0 h1 h2 h3 h4 h5 hs0).1
      _ _ _ (base_r c b2 w2 x0) (base_r_1 c b4 w4 x2) (base_r_2 c b5 w5 x3) k0_off5 (by decide +kernel) k0_off5_inb inb_S1x1024_S1x64_0_192
  · exact piece2 dr dl dk dv da db ds x0 x2 x3 x6 x7 x8 x9 b8 w8 b9 w9 b10 w10 b11 w11 ⟨2, by decide⟩ slices_S8x1024_o0_128_S8x64 _ (head_2 c b2 w2 b3 w3 b4 w4 b5 w5 b6 w6 b7 w7 b12 w12 b15 x0 x1 x2 x3 x4 x5 x10 dr dl dk dv da db ds h0 h1 h2 h3 h4 h5 hs0).1
      _ _ _ (base_r c b2 w2 x0) (base_r_1 c b4 w4 x2) (base_r_2 c b5 w5 x3) k0_off4 (by decide +kernel) k0_off4_inb inb_S1x1024_S1x64_0_128
  · exact piece2 dr dl dk dv da db ds x0 x2 x3 x6 x7 x8 x9 b8 w8 b9 w9 b10 w10 b11 w11 ⟨1, by decide⟩ slices_S8x1024_o0_64_S8x64 _ (head_1 c b2 w2 b3 w3 b4 w4 b5 w5 b6 w6 b7 w7 b12 w12 b15 x0 x1 x2 x3 x4 x5 x10 dr dl dk dv da db ds h0 h1 h2 h3 h4 h5 hs0).1
      _ _ _ (base_r c b2 w2 x0) (base_r_1 c b4 w4 x2) (base_r_2 c b5 w5 x3) k0_off3 (by decide +kernel) k0_off3_inb inb_S1x1024_S1x64_0_64
  · exact piece2 dr dl dk dv da db ds x0 x2 x3 x6 x7 x8 x9 b8 w8 b9 w9 b10 w10 b11 w11 ⟨0, by decide⟩ slices_S8x1024_o0_0_S8x64 _ (head_0 c b2 w2 b3 w3 b4 w4 b5 w5 b6 w6 b7 w7 b12 w12 b15 x0 x1 x2 x3 x4 x5 x10 dr dl dk dv da db ds h0 h1 h2 h3 h4 h5 hs0).1
      _ _ _ (base_r c b2 w2 x0) (base_r_1 c b4 w4 x2) (base_r_2 c b5 w5 x3) k0_off2 (by decide +kernel) k0_off2_inb inb_S1x1024_S1x64_0_0

end reals

end run

end Cert.KernelScanIdeal.Value

end
-- ==== Proof.ScanWin.lean ====
/-
  Which rows a sequence's tile of the recurrence reads and writes.
-/
module

public import proofs.«01_k».proof.Defs
public import proofs.«01_k».proof.Proof.ScanOut
public import Idealize.ShloMosaic.Lib.IdealHost
public import proofs.«01_k».proof.Proof.Gen.KernelScanIdeal.Value

@[expose] public section

set_option maxRecDepth 16384

noncomputable section

open Idealize.ShloMosaic Idealize.ShloMosaic.TcCoe Idealize.SL.Sem
open Cert.Layer

namespace Cert.KernelScanIdeal.Value
open Cert.KernelScanIdeal Cert.KernelScanIdeal.Gen

variable (m : (ℓ : Loc nD τ sig) → Buf (Elt Ideal) ℓ) (c : Dev nD)

/-- A table of sixteen heads laid out as one row. -/
theorem one_row (x : Vec Ideal S16x64 .f32) (k : Fin 1024) :
    shapeCast S1x1024 x shapeCasts_S16x64_S1x1024 (ix2 0 k) = x (ix2 ⟨k.val / 64, by omega⟩ ⟨k.val % 64, by omega⟩) := by
  pointwise

/-- The bonus weights as one row. -/
theorem V_bonus (h : Fin 16) (j : Fin 64) :
    (V m c main_v0 : Vec Ideal S1x1024 .f32) (ix2 0 (lane h j)) = (m ((c : Thread nD τ).loc main_arg7) : Vec Ideal S16x64 .f32) (ix2 h j) := by
  unfold V
  simp only [hostOps0, List.flatten_cons, List.flatten_nil, List.append_nil, List.cons_append, List.nil_append]
  after_results
  show shapeCast S1x1024 (m ((c : Thread nD τ).loc main_arg7) : Vec Ideal S16x64 .f32) shapeCasts_S16x64_S1x1024 (ix2 0 (lane h j)) = _
  rw [one_row]
  have hh := h.isLt
  have hj := j.isLt
  congr 2
  · exact Fin.ext (by show (64 * h.val + j.val) / 64 = h.val; omega)
  · exact Fin.ext (by show (64 * h.val + j.val) % 64 = j.val; omega)

/-- The normalisation's gain as one row. -/
theorem V_gain (k : Fin 1024) :
    (V m c main_v1 : Vec Ideal S1x1024 .f32) (ix2 0 k) = (m ((c : Thread nD τ).loc main_arg8) : Vec Ideal S1024 .f32) (ix1 k) := by
  unfold V
  simp only [hostOps0, List.flatten_cons, List.flatten_nil, List.append_nil, List.cons_append, List.nil_append]
  after_results
  show shapeCast S1x1024 (m ((c : Thread nD τ).loc main_arg8) : Vec Ideal S1024 .f32) shapeCasts_S1024_S1x1024 (ix2 0 k) = _
  pointwise

/-- The normalisation's bias as one row. -/
theorem V_bias (k : Fin 1024) :
    (V m c main_v2 : Vec Ideal S1x1024 .f32) (ix2 0 k) = (m ((c : Thread nD τ).loc main_arg9) : Vec Ideal S1024 .f32) (ix1 k) := by
  unfold V
  simp only [hostOps0, List.flatten_cons, List.flatten_nil, List.append_nil, List.cons_append, List.nil_append]
  after_results
  show shapeCast S1x1024 (m ((c : Thread nD τ).loc main_arg9) : Vec Ideal S1024 .f32) shapeCasts_S1024_S1x1024 (ix2 0 k) = _
  pointwise

variable (t : Fin cfg0.N)

theorem idx0 : ∀ t : Fin cfg0.N, win0_0.index t (0 : Fin 2) = 1024 + t.val ∧ win0_0.index t (1 : Fin 2) = 0 :=
  (by decide +kernel : ∀ t : Fin grid0.N, _)

theorem iblk0 (p : Fin 8) (k : Fin 1024) (R : Fin 9216) (hR : R.val = 8192 + (8 * t.val + p.val)) :
    (iblk m c 0 t : Vec Ideal S8x1024 .f32) (ix2 p k) = (m ((c : Thread nD τ).loc main_arg0) : Vec Ideal S9216x1024 .f32) (ix2 R k) := by
  obtain ⟨e0, e1⟩ := idx0 t
  unfold iblk
  rw [View.read_apply, ← V_main_arg0 m c]
  show (V m c main_arg0 : Vec Ideal _ .f32) _ = _
  congr 1
  funext a
  apply Fin.ext
  match a with
  | ⟨0, _⟩ => show win0_0.index t 0 * 8 + 1 * p.val = R.val; rw [e0, hR]; omega
  | ⟨1, _⟩ => show win0_0.index t 1 * 1024 + 1 * k.val = k.val; rw [e1]; omega

theorem idx1 : ∀ t : Fin cfg0.N, win0_1.index t (0 : Fin 2) = 1024 + t.val ∧ win0_1.index t (1 : Fin 2) = 0 :=
  (by decide +kernel : ∀ t : Fin grid0.N, _)

theorem iblk1 (p : Fin 8) (k : Fin 1024) (R : Fin 9216) (hR : R.val = 8192 + (8 * t.val + p.val)) :
    (iblk m c 1 t : Vec Ideal S8x1024 .f32) (ix2 p k) = (m ((c : Thread nD τ).loc main_arg1) : Vec Ideal S9216x1024 .f32) (ix2 R k) := by
  obtain ⟨e0, e1⟩ := idx1 t
  unfold iblk
  rw [View.read_apply, ← V_main_arg1 m c]
  show (V m c main_arg1 : Vec Ideal _ .f32) _ = _
  congr 1
  funext a
  apply Fin.ext
  match a with
  | ⟨0, _⟩ => show win0_1.index t 0 * 8 + 1 * p.val = R.val; rw [e0, hR]; omega
  | ⟨1, _⟩ => show win0_1.index t 1 * 1024 + 1 * k.val = k.val; rw [e1]; omega

theorem idx2 : ∀ t : Fin cfg0.N, win0_2.index t (0 : Fin 2) = 1024 + t.val ∧ win0_2.index t (1 : Fin 2) = 0 :=
  (by decide +kernel : ∀ t : Fin grid0.N, _)

theorem iblk2 (p : Fin 8) (k : Fin 1024) (R : Fin 9216) (hR : R.val = 8192 + (8 * t.val + p.val)) :
    (iblk m c 2 t : Vec Ideal S8x1024 .f32) (ix2 p k) = (m ((c : Thread nD τ).loc main_arg2) : Vec Ideal S9216x1024 .f32) (ix2 R k) := by
  obtain ⟨e0, e1⟩ := idx2 t
  unfold iblk
  rw [View.read_apply, ← V_main_arg2 m c]
  show (V m c main_arg2 : Vec Ideal _ .f32) _ = _
  congr 1
  funext a
  apply Fin.ext
  match a with
  | ⟨0, _⟩ => show win0_2.index t 0 * 8 + 1 * p.val = R.val; rw [e0, hR]; omega
  | ⟨1, _⟩ => show win0_2.index t 1 * 1024 + 1 * k.val = k.val; rw [e1]; omega

theorem idx3 : ∀ t : Fin cfg0.N, win0_3.index t (0 : Fin 2) = 1024 + t.val ∧ win0_3.index t (1 : Fin 2) = 0 :=
  (by decide +kernel : ∀ t : Fin grid0.N, _)

theorem iblk3 (p : Fin 8) (k : Fin 1024) (R : Fin 9216) (hR : R.val = 8192 + (8 * t.val + p.val)) :
    (iblk m c 3 t : Vec Ideal S8x1024 .f32) (ix2 p k) = (m ((c : Thread nD τ).loc main_arg3) : Vec Ideal S9216x1024 .f32) (ix2 R k) := by
  obtain ⟨e0, e1⟩ := idx3 t
  unfold iblk
  rw [View.read_apply, ← V_main_arg3 m c]
  show (V m c main_arg3 : Vec Ideal _ .f32) _ = _
  congr 1
  funext a
  apply Fin.ext
  match a with
  | ⟨0, _⟩ => show win0_3.index t 0 * 8 + 1 * p.val = R.val; rw [e0, hR]; omega
  | ⟨1, _⟩ => show win0_3.index t 1 * 1024 + 1 * k.val = k.val; rw [e1]; omega

theorem idx4 : ∀ t : Fin cfg0.N, win0_4.index t (0 : Fin 2) = 1024 + t.val ∧ win0_4.index t (1 : Fin 2) = 0 :=
  (by decide +kernel : ∀ t : Fin grid0.N, _)

theorem iblk4 (p : Fin 8) (k : Fin 1024) (R : Fin 9216) (hR : R.val = 8192 + (8 * t.val + p.val)) :
    (iblk m c 4 t : Vec Ideal S8x1024 .f32) (ix2 p k) = (m ((c : Thread nD τ).loc main_arg4) : Vec Ideal S9216x1024 .f32) (ix2 R k) := by
  obtain ⟨e0, e1⟩ := idx4 t
  unfold iblk
  rw [View.read_apply, ← V_main_arg4 m c]
  show (V m c main_arg4 : Vec Ideal _ .f32) _ = _
  congr 1
  funext a
  apply Fin.ext
  match a with
  | ⟨0, _⟩ => show win0_4.index t 0 * 8 + 1 * p.val = R.val; rw [e0, hR]; omega
  | ⟨1, _⟩ => show win0_4.index t 1 * 1024 + 1 * k.val = k.val; rw [e1]; omega

theorem idx5 : ∀ t : Fin cfg0.N, win0_5.index t (0 : Fin 2) = 1024 + t.val ∧ win0_5.index t (1 : Fin 2) = 0 :=
  (by decide +kernel : ∀ t : Fin grid0.N, _)

theorem iblk5 (p : Fin 8) (k : Fin 1024) (R : Fin 9216) (hR : R.val = 8192 + (8 * t.val + p.val)) :
    (iblk m c 5 t : Vec Ideal S8x1024 .f32) (ix2 p k) = (m ((c : Thread nD τ).loc main_arg5) : Vec Ideal S9216x1024 .f32) (ix2 R k) := by
  obtain ⟨e0, e1⟩ := idx5 t
  unfold iblk
  rw [View.read_apply, ← V_main_arg5 m c]
  show (V m c main_arg5 : Vec Ideal _ .f32) _ = _
  congr 1
  funext a
  apply Fin.ext
  match a with
  | ⟨0, _⟩ => show win0_5.index t 0 * 8 + 1 * p.val = R.val; rw [e0, hR]; omega
  | ⟨1, _⟩ => show win0_5.index t 1 * 1024 + 1 * k.val = k.val; rw [e1]; omega

theorem idx6 : ∀ t : Fin cfg0.N, win0_6.index t (0 : Fin 2) = 1024 + t.val ∧ win0_6.index t (1 : Fin 2) = 0 :=
  (by decide +kernel : ∀ t : Fin grid0.N, _)

theorem iblk6 (p : Fin 8) (k : Fin 1024) (R : Fin 9216) (hR : R.val = 8192 + (8 * t.val + p.val)) :
    (iblk m c 6 t : Vec Ideal S8x1024 .f32) (ix2 p k) = (m ((c : Thread nD τ).loc main_arg6) : Vec Ideal S9216x1024 .f32) (ix2 R k) := by
  obtain ⟨e0, e1⟩ := idx6 t
  unfold iblk
  rw [View.read_apply, ← V_main_arg6 m c]
  show (V m c main_arg6 : Vec Ideal _ .f32) _ = _
  congr 1
  funext a
  apply Fin.ext
  match a with
  | ⟨0, _⟩ => show win0_6.index t 0 * 8 + 1 * p.val = R.val; rw [e0, hR]; omega
  | ⟨1, _⟩ => show win0_6.index t 1 * 1024 + 1 * k.val = k.val; rw [e1]; omega

theorem idx7 : ∀ t : Fin cfg0.N, win0_7.index t (0 : Fin 2) = 0 ∧ win0_7.index t (1 : Fin 2) = 0 :=
  (by decide +kernel : ∀ t : Fin grid0.N, _)

theorem iblk7 (k : Fin 1024) :
    (iblk m c 7 t : Vec Ideal S1x1024 .f32) (ix2 0 k) = (V m c main_v0 : Vec Ideal S1x1024 .f32) (ix2 0 k) := by
  obtain ⟨e0, e1⟩ := idx7 t
  unfold iblk
  rw [View.read_apply]
  show (V m c main_v0 : Vec Ideal _ .f32) _ = _
  congr 1
  funext a
  apply Fin.ext
  match a with
  | ⟨0, _⟩ => show win0_7.index t 0 * 1 + 1 * 0 = 0; rw [e0]
  | ⟨1, _⟩ => show win0_7.index t 1 * 1024 + 1 * k.val = k.val; rw [e1]; omega

theorem idx8 : ∀ t : Fin cfg0.N, win0_8.index t (0 : Fin 2) = 0 ∧ win0_8.index t (1 : Fin 2) = 0 :=
  (by decide +kernel : ∀ t : Fin grid0.N, _)

theorem iblk8 (k : Fin 1024) :
    (iblk m c 8 t : Vec Ideal S1x1024 .f32) (ix2 0 k) = (V m c main_v1 : Vec Ideal S1x1024 .f32) (ix2 0 k) := by
  obtain ⟨e0, e1⟩ := idx8 t
  unfold iblk
  rw [View.read_apply]
  show (V m c main_v1 : Vec Ideal _ .f32) _ = _
  congr 1
  funext a
  apply Fin.ext
  match a with
  | ⟨0, _⟩ => show win0_8.index t 0 * 1 + 1 * 0 = 0; rw [e0]
  | ⟨1, _⟩ => show win0_8.index t 1 * 1024 + 1 * k.val = k.val; rw [e1]; omega

theorem idx9 : ∀ t : Fin cfg0.N, win0_9.index t (0 : Fin 2) = 0 ∧ win0_9.index t (1 : Fin 2) = 0 :=
  (by decide +kernel : ∀ t : Fin grid0.N, _)

theorem iblk9 (k : Fin 1024) :
    (iblk m c 9 t : Vec Ideal S1x1024 .f32) (ix2 0 k) = (V m c main_v2 : Vec Ideal S1x1024 .f32) (ix2 0 k) := by
  obtain ⟨e0, e1⟩ := idx9 t
  unfold iblk
  rw [View.read_apply]
  show (V m c main_v2 : Vec Ideal _ .f32) _ = _
  congr 1
  funext a
  apply Fin.ext
  match a with
  | ⟨0, _⟩ => show win0_9.index t 0 * 1 + 1 * 0 = 0; rw [e0]
  | ⟨1, _⟩ => show win0_9.index t 1 * 1024 + 1 * k.val = k.val; rw [e1]; omega

theorem idx10 : ∀ t : Fin cfg0.N, win0_10.index t (0 : Fin 4) = t.val ∧ win0_10.index t (1 : Fin 4) = 0 ∧ win0_10.index t (2 : Fin 4) = 0 ∧ win0_10.index t (3 : Fin 4) = 0 :=
  (by decide +kernel : ∀ t : Fin grid0.N, _)

theorem iblk10 (n : Fin 128) (hn : n.val = t.val) (h : Fin 16) (i j : Fin 64) :
    (iblk m c 10 t : Vec Ideal S1x16x64x64 .f32) (ix4 0 h i j) = (m ((c : Thread nD τ).loc main_arg10) : Vec Ideal S128x16x64x64 .f32) (ix4 n h i j) := by
  obtain ⟨e0, e1, e2, e3⟩ := idx10 t
  unfold iblk
  rw [View.read_apply, ← V_main_arg10 m c]
  show (V m c main_arg10 : Vec Ideal _ .f32) _ = _
  congr 1
  funext a
  apply Fin.ext
  match a with
  | ⟨0, _⟩ => show win0_10.index t 0 * 1 + 1 * 0 = n.val; rw [e0, hn]; omega
  | ⟨1, _⟩ => show win0_10.index t 1 * 16 + 1 * h.val = h.val; rw [e1]; omega
  | ⟨2, _⟩ => show win0_10.index t 2 * 64 + 1 * i.val = i.val; rw [e2]; omega
  | ⟨3, _⟩ => show win0_10.index t 3 * 64 + 1 * j.val = j.val; rw [e3]; omega

theorem idx11 : ∀ t : Fin cfg0.N, win0_11.index t (0 : Fin 2) = t.val ∧ win0_11.index t (1 : Fin 2) = 0 :=
  (by decide +kernel : ∀ t : Fin grid0.N, _)

theorem idx12 : ∀ t : Fin cfg0.N, win0_12.index t (0 : Fin 4) = t.val ∧ win0_12.index t (1 : Fin 4) = 0 ∧ win0_12.index t (2 : Fin 4) = 0 ∧ win0_12.index t (3 : Fin 4) = 0 :=
  (by decide +kernel : ∀ t : Fin grid0.N, _)

variable (dr dl dk dv da db : ℕ → Fin 1024 → ℝ) (ds : Fin 16 → Fin 64 → Fin 64 → ℝ)
  (h0 : ∀ (p : Fin 8) (J : Fin 1024), (iblk m c 0 t : Vec Ideal S8x1024 .f32) (ix2 p J) = ((dr p.val J : ℝ) : EReal))
  (h1 : ∀ (p : Fin 8) (J : Fin 1024), (iblk m c 1 t : Vec Ideal S8x1024 .f32) (ix2 p J) = ((dl p.val J : ℝ) : EReal))
  (h2 : ∀ (p : Fin 8) (J : Fin 1024), (iblk m c 2 t : Vec Ideal S8x1024 .f32) (ix2 p J) = ((dk p.val J : ℝ) : EReal))
  (h3 : ∀ (p : Fin 8) (J : Fin 1024), (iblk m c 3 t : Vec Ideal S8x1024 .f32) (ix2 p J) = ((dv p.val J : ℝ) : EReal))
  (h4 : ∀ (p : Fin 8) (J : Fin 1024), (iblk m c 4 t : Vec Ideal S8x1024 .f32) (ix2 p J) = ((da p.val J : ℝ) : EReal))
  (h5 : ∀ (p : Fin 8) (J : Fin 1024), (iblk m c 5 t : Vec Ideal S8x1024 .f32) (ix2 p J) = ((db p.val J : ℝ) : EReal))
  (hs0 : ∀ (h : Fin 16) (i j : Fin 64), (iblk m c 10 t : Vec Ideal S1x16x64x64 .f32) (ix4 0 h i j) = ((ds h i j : ℝ) : EReal))

include h0 h1 h2 h3 h4 h5 hs0

/-- An entry of the result rows is its tile's. -/
theorem result11 (p : Fin 8) (j : Fin 1024) (R : Fin 1024) (hR : R.val = 8 * t.val + p.val) :
    ((dats m 0 c).arrAt 11 cfg0.N : Vec Ideal S1024x1024 .f32) (ix2 R j)
      = rowsOf dr dl dk dv da db ds (iblk m c 0 t) (iblk m c 2 t) (iblk m c 3 t) (iblk m c 6 t) (iblk m c 7 t) (iblk m c 8 t) (iblk m c 9 t) (ix2 p j) := by
  obtain ⟨e0, e1⟩ := idx11 t
  have h := congrFun (blocks11 m c t (flush0_11 t)) (ix2 p j)
  have o := out11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) dr dl dk dv da db ds h0 h1 h2 h3 h4 h5 hs0
  rw [flushed11_A, View.read_apply, o] at h
  have he : ((cfg0.win 11).blk t).view.emb (ix2 p j) = ix2 R j := by
    funext a
    apply Fin.ext
    match a with
    | ⟨0, _⟩ => show win0_11.index t 0 * 8 + 1 * p.val = R.val; rw [e0, hR]; omega
    | ⟨1, _⟩ => show win0_11.index t 1 * 1024 + 1 * j.val = j.val; rw [e1]; omega
  rw [he] at h
  refine h.trans ?_
  show rowsOf _ _ _ _ _ _ _ _ _ _ _ _ _ _ ((cfg0.win 11).xinj (grid0.coords t) (ix2 p j)) = _
  congr 1

/-- An entry of the result states is its tile's. -/
theorem result12 (n : Fin 128) (hn : n.val = t.val) (h : Fin 16) (u w : Fin 64) :
    ((dats m 0 c).arrAt 12 cfg0.N : Vec Ideal S128x16x64x64 .f32) (ix4 n h u w) = ((sR dl dk dv da db ds h 8 u w : ℝ) : EReal) := by
  obtain ⟨e0, e1, e2, e3⟩ := idx12 t
  have g := congrFun (blocks12 m c t (flush0_12 t)) (ix4 0 h u w)
  have o := out12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) dr dl dk dv da db ds h0 h1 h2 h3 h4 h5 hs0 h u w
  rw [flushed12_A, View.read_apply] at g
  have he : ((cfg0.win 12).blk t).view.emb (ix4 0 h u w) = ix4 n h u w := by
    funext a
    apply Fin.ext
    match a with
    | ⟨0, _⟩ => show win0_12.index t 0 * 1 + 1 * 0 = n.val; rw [e0, hn]; omega
    | ⟨1, _⟩ => show win0_12.index t 1 * 16 + 1 * h.val = h.val; rw [e1]; omega
    | ⟨2, _⟩ => show win0_12.index t 2 * 64 + 1 * u.val = u.val; rw [e2]; omega
    | ⟨3, _⟩ => show win0_12.index t 3 * 64 + 1 * w.val = w.val; rw [e3]; omega
  rw [he] at g
  refine g.trans (Eq.trans ?_ o)
  show out0_A_12 _ _ _ _ _ _ _ _ _ _ _ _ _ _ _ _ _ _ _ _ _ _ _ _ _ _ _ _ _ _ _ _ _ _ _ _ _ _ _ _ _ _ _ ((cfg0.win 12).xinj (grid0.coords t) (ix4 0 h u w)) = _
  congr 1

end Cert.KernelScanIdeal.Value
-- ==== Proof.ScanRef.lean ====
/-
  What the recurrence's reference computes, entry by entry.
-/
module

public import proofs.«01_k».proof.Proof.ScanHead
public import Idealize.ShloMosaic.Lib.IdealHost
public import proofs.«01_k».proof.Proof.Gen.ReferenceScanIdeal.Run
public import proofs.«01_k».proof.Proof.Gen.ReferenceScanIdeal.Read

@[expose] public section

set_option maxRecDepth 16384

noncomputable section

open Idealize.ShloMosaic Idealize.ShloMosaic.TcCoe Idealize.SL.Sem
open Cert.Layer

namespace Cert.ReferenceScanIdeal.Read
open Cert.KernelScanIdeal.Value (lane tail yR sR hd)

variable (x0 x1 x2 x3 x4 x5 x6 : (⟨S9216x1024, .f32⟩ : BufTy).Contents (Elt Ideal)) (x7 : (⟨S16x64, .f32⟩ : BufTy).Contents (Elt Ideal))
    (x8 x9 : (⟨S1024, .f32⟩ : BufTy).Contents (Elt Ideal)) (x10 : (⟨S128x16x64x64, .f32⟩ : BufTy).Contents (Elt Ideal))

/-- The row of token `t` of sequence `n`. -/
abbrev tok (n : Fin 128) (t : Fin 8) : Fin 9216 := ⟨8192 + (8 * n.val + t.val), by omega⟩

theorem heads1 (n : Fin 128) (t : Fin 8) (h : Fin 16) (j : Fin 64) : val_main_v1 (F := Ideal) x0 (ix4 n t h j) = x0 (ix2 (tok n t) (lane h j)) := by
  unfold val_main_v1 val_main_v0
  pointwise
  refine congrArg x0 (congrArg₂ ix2 (Fin.ext ?_) (Fin.ext ?_))
  · show 8192 + (n.val * 8 + t.val) = 8192 + (8 * n.val + t.val); omega
  · show h.val * 64 + j.val = 64 * h.val + j.val; omega

theorem heads3 (n : Fin 128) (t : Fin 8) (h : Fin 16) (j : Fin 64) : val_main_v3 (F := Ideal) x2 (ix4 n t h j) = x2 (ix2 (tok n t) (lane h j)) := by
  unfold val_main_v3 val_main_v2
  pointwise
  refine congrArg x2 (congrArg₂ ix2 (Fin.ext ?_) (Fin.ext ?_))
  · show 8192 + (n.val * 8 + t.val) = 8192 + (8 * n.val + t.val); omega
  · show h.val * 64 + j.val = 64 * h.val + j.val; omega

theorem heads5 (n : Fin 128) (t : Fin 8) (h : Fin 16) (j : Fin 64) : val_main_v5 (F := Ideal) x3 (ix4 n t h j) = x3 (ix2 (tok n t) (lane h j)) := by
  unfold val_main_v5 val_main_v4
  pointwise
  refine congrArg x3 (congrArg₂ ix2 (Fin.ext ?_) (Fin.ext ?_))
  · show 8192 + (n.val * 8 + t.val) = 8192 + (8 * n.val + t.val); omega
  · show h.val * 64 + j.val = 64 * h.val + j.val; omega

theorem heads7 (n : Fin 128) (t : Fin 8) (h : Fin 16) (j : Fin 64) : val_main_v7 (F := Ideal) x4 (ix4 n t h j) = x4 (ix2 (tok n t) (lane h j)) := by
  unfold val_main_v7 val_main_v6
  pointwise
  refine congrArg x4 (congrArg₂ ix2 (Fin.ext ?_) (Fin.ext ?_))
  · show 8192 + (n.val * 8 + t.val) = 8192 + (8 * n.val + t.val); omega
  · show h.val * 64 + j.val = 64 * h.val + j.val; omega

theorem heads9 (n : Fin 128) (t : Fin 8) (h : Fin 16) (j : Fin 64) : val_main_v9 (F := Ideal) x5 (ix4 n t h j) = x5 (ix2 (tok n t) (lane h j)) := by
  unfold val_main_v9 val_main_v8
  pointwise
  refine congrArg x5 (congrArg₂ ix2 (Fin.ext ?_) (Fin.ext ?_))
  · show 8192 + (n.val * 8 + t.val) = 8192 + (8 * n.val + t.val); omega
  · show h.val * 64 + j.val = 64 * h.val + j.val; omega

theorem heads11 (n : Fin 128) (t : Fin 8) (h : Fin 16) (j : Fin 64) : val_main_v11 (F := Ideal) x1 (ix4 n t h j) = x1 (ix2 (tok n t) (lane h j)) := by
  unfold val_main_v11 val_main_v10
  pointwise
  refine congrArg x1 (congrArg₂ ix2 (Fin.ext ?_) (Fin.ext ?_))
  · show 8192 + (n.val * 8 + t.val) = 8192 + (8 * n.val + t.val); omega
  · show h.val * 64 + j.val = 64 * h.val + j.val; omega

/-- Token 0's step of the state. -/
theorem step0 (n : Fin 128) (h : Fin 16) (i j : Fin 64) :
    val_main_v38 (F := Ideal) x1 x2 x3 x4 x5 x10 (ix4 n h i j)
      = x10 (ix4 n h i j) * val_main_v12 (F := Ideal) x1 (ix4 n 0 h j) + (∑ l, x10 (ix4 n h i l) * val_main_v7 (F := Ideal) x4 (ix4 n 0 h l)) * val_main_v9 (F := Ideal) x5 (ix4 n 0 h j)
        + val_main_v5 (F := Ideal) x3 (ix4 n 0 h i) * val_main_v3 (F := Ideal) x2 (ix4 n 0 h j) := by
  unfold val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13
  pointwise

/-- What token 0 reads. -/
theorem read0 (n : Fin 128) (h : Fin 16) (i : Fin 64) :
    val_main_v41 (F := Ideal) x0 x1 x2 x3 x4 x5 x10 (ix3 n h i) = ∑ l, val_main_v38 (F := Ideal) x1 x2 x3 x4 x5 x10 (ix4 n h i l) * val_main_v1 (F := Ideal) x0 (ix4 n 0 h l) := by
  unfold val_main_v41 val_main_v40 val_main_v39
  pointwise

theorem stack0 (n : Fin 128) (h : Fin 16) (i : Fin 64) : val_main_v253 (F := Ideal) x0 x1 x2 x3 x4 x5 x10 (ix4 n 0 h i) = val_main_v41 (F := Ideal) x0 x1 x2 x3 x4 x5 x10 (ix3 n h i) := by
  unfold val_main_v253 val_main_v245 val_main_v246 val_main_v247 val_main_v248 val_main_v249 val_main_v250 val_main_v251 val_main_v252
  pointwise

/-- Token 1's step of the state. -/
theorem step1 (n : Fin 128) (h : Fin 16) (i j : Fin 64) :
    val_main_v67 (F := Ideal) x1 x2 x3 x4 x5 x10 (ix4 n h i j)
      = (val_main_v38 (F := Ideal) x1 x2 x3 x4 x5 x10) (ix4 n h i j) * val_main_v12 (F := Ideal) x1 (ix4 n 1 h j) + (∑ l, (val_main_v38 (F := Ideal) x1 x2 x3 x4 x5 x10) (ix4 n h i l) * val_main_v7 (F := Ideal) x4 (ix4 n 1 h l)) * val_main_v9 (F := Ideal) x5 (ix4 n 1 h j)
        + val_main_v5 (F := Ideal) x3 (ix4 n 1 h i) * val_main_v3 (F := Ideal) x2 (ix4 n 1 h j) := by
  unfold val_main_v67 val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42
  pointwise

/-- What token 1 reads. -/
theorem read1 (n : Fin 128) (h : Fin 16) (i : Fin 64) :
    val_main_v70 (F := Ideal) x0 x1 x2 x3 x4 x5 x10 (ix3 n h i) = ∑ l, val_main_v67 (F := Ideal) x1 x2 x3 x4 x5 x10 (ix4 n h i l) * val_main_v1 (F := Ideal) x0 (ix4 n 1 h l) := by
  unfold val_main_v70 val_main_v69 val_main_v68
  pointwise

theorem stack1 (n : Fin 128) (h : Fin 16) (i : Fin 64) : val_main_v253 (F := Ideal) x0 x1 x2 x3 x4 x5 x10 (ix4 n 1 h i) = val_main_v70 (F := Ideal) x0 x1 x2 x3 x4 x5 x10 (ix3 n h i) := by
  unfold val_main_v253 val_main_v245 val_main_v246 val_main_v247 val_main_v248 val_main_v249 val_main_v250 val_main_v251 val_main_v252
  pointwise

/-- Token 2's step of the state. -/
theorem step2 (n : Fin 128) (h : Fin 16) (i j : Fin 64) :
    val_main_v96 (F := Ideal) x1 x2 x3 x4 x5 x10 (ix4 n h i j)
      = (val_main_v67 (F := Ideal) x1 x2 x3 x4 x5 x10) (ix4 n h i j) * val_main_v12 (F := Ideal) x1 (ix4 n 2 h j) + (∑ l, (val_main_v67 (F := Ideal) x1 x2 x3 x4 x5 x10) (ix4 n h i l) * val_main_v7 (F := Ideal) x4 (ix4 n 2 h l)) * val_main_v9 (F := Ideal) x5 (ix4 n 2 h j)
        + val_main_v5 (F := Ideal) x3 (ix4 n 2 h i) * val_main_v3 (F := Ideal) x2 (ix4 n 2 h j) := by
  unfold val_main_v96 val_main_v95 val_main_v94 val_main_v93 val_main_v92 val_main_v91 val_main_v90 val_main_v89 val_main_v88 val_main_v87 val_main_v86 val_main_v85 val_main_v84 val_main_v83 val_main_v82 val_main_v81 val_main_v80 val_main_v79 val_main_v78 val_main_v77 val_main_v76 val_main_v75 val_main_v74 val_main_v73 val_main_v72 val_main_v71
  pointwise

/-- What token 2 reads. -/
theorem read2 (n : Fin 128) (h : Fin 16) (i : Fin 64) :
    val_main_v99 (F := Ideal) x0 x1 x2 x3 x4 x5 x10 (ix3 n h i) = ∑ l, val_main_v96 (F := Ideal) x1 x2 x3 x4 x5 x10 (ix4 n h i l) * val_main_v1 (F := Ideal) x0 (ix4 n 2 h l) := by
  unfold val_main_v99 val_main_v98 val_main_v97
  pointwise

theorem stack2 (n : Fin 128) (h : Fin 16) (i : Fin 64) : val_main_v253 (F := Ideal) x0 x1 x2 x3 x4 x5 x10 (ix4 n 2 h i) = val_main_v99 (F := Ideal) x0 x1 x2 x3 x4 x5 x10 (ix3 n h i) := by
  unfold val_main_v253 val_main_v245 val_main_v246 val_main_v247 val_main_v248 val_main_v249 val_main_v250 val_main_v251 val_main_v252
  pointwise

/-- Token 3's step of the state. -/
theorem step3 (n : Fin 128) (h : Fin 16) (i j : Fin 64) :
    val_main_v125 (F := Ideal) x1 x2 x3 x4 x5 x10 (ix4 n h i j)
      = (val_main_v96 (F := Ideal) x1 x2 x3 x4 x5 x10) (ix4 n h i j) * val_main_v12 (F := Ideal) x1 (ix4 n 3 h j) + (∑ l, (val_main_v96 (F := Ideal) x1 x2 x3 x4 x5 x10) (ix4 n h i l) * val_main_v7 (F := Ideal) x4 (ix4 n 3 h l)) * val_main_v9 (F := Ideal) x5 (ix4 n 3 h j)
        + val_main_v5 (F := Ideal) x3 (ix4 n 3 h i) * val_main_v3 (F := Ideal) x2 (ix4 n 3 h j) := by
  unfold val_main_v125 val_main_v124 val_main_v123 val_main_v122 val_main_v121 val_main_v120 val_main_v119 val_main_v118 val_main_v117 val_main_v116 val_main_v115 val_main_v114 val_main_v113 val_main_v112 val_main_v111 val_main_v110 val_main_v109 val_main_v108 val_main_v107 val_main_v106 val_main_v105 val_main_v104 val_main_v103 val_main_v102 val_main_v101 val_main_v100
  pointwise

/-- What token 3 reads. -/
theorem read3 (n : Fin 128) (h : Fin 16) (i : Fin 64) :
    val_main_v128 (F := Ideal) x0 x1 x2 x3 x4 x5 x10 (ix3 n h i) = ∑ l, val_main_v125 (F := Ideal) x1 x2 x3 x4 x5 x10 (ix4 n h i l) * val_main_v1 (F := Ideal) x0 (ix4 n 3 h l) := by
  unfold val_main_v128 val_main_v127 val_main_v126
  pointwise

theorem stack3 (n : Fin 128) (h : Fin 16) (i : Fin 64) : val_main_v253 (F := Ideal) x0 x1 x2 x3 x4 x5 x10 (ix4 n 3 h i) = val_main_v128 (F := Ideal) x0 x1 x2 x3 x4 x5 x10 (ix3 n h i) := by
  unfold val_main_v253 val_main_v245 val_main_v246 val_main_v247 val_main_v248 val_main_v249 val_main_v250 val_main_v251 val_main_v252
  pointwise

/-- Token 4's step of the state. -/
theorem step4 (n : Fin 128) (h : Fin 16) (i j : Fin 64) :
    val_main_v154 (F := Ideal) x1 x2 x3 x4 x5 x10 (ix4 n h i j)
      = (val_main_v125 (F := Ideal) x1 x2 x3 x4 x5 x10) (ix4 n h i j) * val_main_v12 (F := Ideal) x1 (ix4 n 4 h j) + (∑ l, (val_main_v125 (F := Ideal) x1 x2 x3 x4 x5 x10) (ix4 n h i l) * val_main_v7 (F := Ideal) x4 (ix4 n 4 h l)) * val_main_v9 (F := Ideal) x5 (ix4 n 4 h j)
        + val_main_v5 (F := Ideal) x3 (ix4 n 4 h i) * val_main_v3 (F := Ideal) x2 (ix4 n 4 h j) := by
  unfold val_main_v154 val_main_v153 val_main_v152 val_main_v151 val_main_v150 val_main_v149 val_main_v148 val_main_v147 val_main_v146 val_main_v145 val_main_v144 val_main_v143 val_main_v142 val_main_v141 val_main_v140 val_main_v139 val_main_v138 val_main_v137 val_main_v136 val_main_v135 val_main_v134 val_main_v133 val_main_v132 val_main_v131 val_main_v130 val_main_v129
  pointwise

/-- What token 4 reads. -/
theorem read4 (n : Fin 128) (h : Fin 16) (i : Fin 64) :
    val_main_v157 (F := Ideal) x0 x1 x2 x3 x4 x5 x10 (ix3 n h i) = ∑ l, val_main_v154 (F := Ideal) x1 x2 x3 x4 x5 x10 (ix4 n h i l) * val_main_v1 (F := Ideal) x0 (ix4 n 4 h l) := by
  unfold val_main_v157 val_main_v156 val_main_v155
  pointwise

theorem stack4 (n : Fin 128) (h : Fin 16) (i : Fin 64) : val_main_v253 (F := Ideal) x0 x1 x2 x3 x4 x5 x10 (ix4 n 4 h i) = val_main_v157 (F := Ideal) x0 x1 x2 x3 x4 x5 x10 (ix3 n h i) := by
  unfold val_main_v253 val_main_v245 val_main_v246 val_main_v247 val_main_v248 val_main_v249 val_main_v250 val_main_v251 val_main_v252
  pointwise

/-- Token 5's step of the state. -/
theorem step5 (n : Fin 128) (h : Fin 16) (i j : Fin 64) :
    val_main_v183 (F := Ideal) x1 x2 x3 x4 x5 x10 (ix4 n h i j)
      = (val_main_v154 (F := Ideal) x1 x2 x3 x4 x5 x10) (ix4 n h i j) * val_main_v12 (F := Ideal) x1 (ix4 n 5 h j) + (∑ l, (val_main_v154 (F := Ideal) x1 x2 x3 x4 x5 x10) (ix4 n h i l) * val_main_v7 (F := Ideal) x4 (ix4 n 5 h l)) * val_main_v9 (F := Ideal) x5 (ix4 n 5 h j)
        + val_main_v5 (F := Ideal) x3 (ix4 n 5 h i) * val_main_v3 (F := Ideal) x2 (ix4 n 5 h j) := by
  unfold val_main_v183 val_main_v182 val_main_v181 val_main_v180 val_main_v179 val_main_v178 val_main_v177 val_main_v176 val_main_v175 val_main_v174 val_main_v173 val_main_v172 val_main_v171 val_main_v170 val_main_v169 val_main_v168 val_main_v167 val_main_v166 val_main_v165 val_main_v164 val_main_v163 val_main_v162 val_main_v161 val_main_v160 val_main_v159 val_main_v158
  pointwise

/-- What token 5 reads. -/
theorem read5 (n : Fin 128) (h : Fin 16) (i : Fin 64) :
    val_main_v186 (F := Ideal) x0 x1 x2 x3 x4 x5 x10 (ix3 n h i) = ∑ l, val_main_v183 (F := Ideal) x1 x2 x3 x4 x5 x10 (ix4 n h i l) * val_main_v1 (F := Ideal) x0 (ix4 n 5 h l) := by
  unfold val_main_v186 val_main_v185 val_main_v184
  pointwise

theorem stack5 (n : Fin 128) (h : Fin 16) (i : Fin 64) : val_main_v253 (F := Ideal) x0 x1 x2 x3 x4 x5 x10 (ix4 n 5 h i) = val_main_v186 (F := Ideal) x0 x1 x2 x3 x4 x5 x10 (ix3 n h i) := by
  unfold val_main_v253 val_main_v245 val_main_v246 val_main_v247 val_main_v248 val_main_v249 val_main_v250 val_main_v251 val_main_v252
  pointwise

/-- Token 6's step of the state. -/
theorem step6 (n : Fin 128) (h : Fin 16) (i j : Fin 64) :
    val_main_v212 (F := Ideal) x1 x2 x3 x4 x5 x10 (ix4 n h i j)
      = (val_main_v183 (F := Ideal) x1 x2 x3 x4 x5 x10) (ix4 n h i j) * val_main_v12 (F := Ideal) x1 (ix4 n 6 h j) + (∑ l, (val_main_v183 (F := Ideal) x1 x2 x3 x4 x5 x10) (ix4 n h i l) * val_main_v7 (F := Ideal) x4 (ix4 n 6 h l)) * val_main_v9 (F := Ideal) x5 (ix4 n 6 h j)
        + val_main_v5 (F := Ideal) x3 (ix4 n 6 h i) * val_main_v3 (F := Ideal) x2 (ix4 n 6 h j) := by
  unfold val_main_v212 val_main_v211 val_main_v210 val_main_v209 val_main_v208 val_main_v207 val_main_v206 val_main_v205 val_main_v204 val_main_v203 val_main_v202 val_main_v201 val_main_v200 val_main_v199 val_main_v198 val_main_v197 val_main_v196 val_main_v195 val_main_v194 val_main_v193 val_main_v192 val_main_v191 val_main_v190 val_main_v189 val_main_v188 val_main_v187
  pointwise

/-- What token 6 reads. -/
theorem read6 (n : Fin 128) (h : Fin 16) (i : Fin 64) :
    val_main_v215 (F := Ideal) x0 x1 x2 x3 x4 x5 x10 (ix3 n h i) = ∑ l, val_main_v212 (F := Ideal) x1 x2 x3 x4 x5 x10 (ix4 n h i l) * val_main_v1 (F := Ideal) x0 (ix4 n 6 h l) := by
  unfold val_main_v215 val_main_v214 val_main_v213
  pointwise

theorem stack6 (n : Fin 128) (h : Fin 16) (i : Fin 64) : val_main_v253 (F := Ideal) x0 x1 x2 x3 x4 x5 x10 (ix4 n 6 h i) = val_main_v215 (F := Ideal) x0 x1 x2 x3 x4 x5 x10 (ix3 n h i) := by
  unfold val_main_v253 val_main_v245 val_main_v246 val_main_v247 val_main_v248 val_main_v249 val_main_v250 val_main_v251 val_main_v252
  pointwise

/-- Token 7's step of the state. -/
theorem step7 (n : Fin 128) (h : Fin 16) (i j : Fin 64) :
    val_main_v241 (F := Ideal) x1 x2 x3 x4 x5 x10 (ix4 n h i j)
      = (val_main_v212 (F := Ideal) x1 x2 x3 x4 x5 x10) (ix4 n h i j) * val_main_v12 (F := Ideal) x1 (ix4 n 7 h j) + (∑ l, (val_main_v212 (F := Ideal) x1 x2 x3 x4 x5 x10) (ix4 n h i l) * val_main_v7 (F := Ideal) x4 (ix4 n 7 h l)) * val_main_v9 (F := Ideal) x5 (ix4 n 7 h j)
        + val_main_v5 (F := Ideal) x3 (ix4 n 7 h i) * val_main_v3 (F := Ideal) x2 (ix4 n 7 h j) := by
  unfold val_main_v241 val_main_v240 val_main_v239 val_main_v238 val_main_v237 val_main_v236 val_main_v235 val_main_v234 val_main_v233 val_main_v232 val_main_v231 val_main_v230 val_main_v229 val_main_v228 val_main_v227 val_main_v226 val_main_v225 val_main_v224 val_main_v223 val_main_v222 val_main_v221 val_main_v220 val_main_v219 val_main_v218 val_main_v217 val_main_v216
  pointwise

/-- What token 7 reads. -/
theorem read7 (n : Fin 128) (h : Fin 16) (i : Fin 64) :
    val_main_v244 (F := Ideal) x0 x1 x2 x3 x4 x5 x10 (ix3 n h i) = ∑ l, val_main_v241 (F := Ideal) x1 x2 x3 x4 x5 x10 (ix4 n h i l) * val_main_v1 (F := Ideal) x0 (ix4 n 7 h l) := by
  unfold val_main_v244 val_main_v243 val_main_v242
  pointwise

theorem stack7 (n : Fin 128) (h : Fin 16) (i : Fin 64) : val_main_v253 (F := Ideal) x0 x1 x2 x3 x4 x5 x10 (ix4 n 7 h i) = val_main_v244 (F := Ideal) x0 x1 x2 x3 x4 x5 x10 (ix3 n h i) := by
  unfold val_main_v253 val_main_v245 val_main_v246 val_main_v247 val_main_v248 val_main_v249 val_main_v250 val_main_v251 val_main_v252
  pointwise

theorem row_apply (R J : Fin 1024) : val_main_v290 (F := Ideal) x0 x1 x2 x3 x4 x5 x6 x7 x8 x9 x10 (ix2 R J)
    = tail (fun x => val_main_v253 (F := Ideal) x0 x1 x2 x3 x4 x5 x10 (ix4 ⟨R.val / 8, by omega⟩ ⟨R.val % 8, by omega⟩ ⟨J.val / 64, by omega⟩ x))
        (fun x => val_main_v1 (F := Ideal) x0 (ix4 ⟨R.val / 8, by omega⟩ ⟨R.val % 8, by omega⟩ ⟨J.val / 64, by omega⟩ x))
        (fun x => val_main_v3 (F := Ideal) x2 (ix4 ⟨R.val / 8, by omega⟩ ⟨R.val % 8, by omega⟩ ⟨J.val / 64, by omega⟩ x))
        (fun x => x7 (ix2 ⟨J.val / 64, by omega⟩ x)) (val_main_v5 (F := Ideal) x3 (ix4 ⟨R.val / 8, by omega⟩ ⟨R.val % 8, by omega⟩ ⟨J.val / 64, by omega⟩ ⟨J.val % 64, by omega⟩))
        (x8 (ix1 J)) (x9 (ix1 J)) (x6 (ix2 ⟨8192 + R.val, by omega⟩ J)) ⟨J.val % 64, by omega⟩ := by
  unfold val_main_v290 val_main_v289 val_main_v288 val_main_v287 val_main_v286 val_main_v285 val_main_v284 val_main_v283 val_main_v282 val_main_v281 val_main_v280 val_main_v279 val_main_v278 val_main_v277 val_main_v276 val_main_v275 val_main_v274 val_main_v273 val_main_v272 val_main_v271 val_main_v270 val_main_v269 val_main_v268 val_main_v267 val_main_v266 val_main_v265 val_main_v264 val_main_v263 val_main_v262 val_main_v261 val_main_v260 val_main_v259 val_main_v258 val_main_v257 val_main_v256 val_main_v255 val_main_v254 val_main_cst val_main_cst_0 val_main_cst_1 val_main_cst_2 val_main_cst_3 val_main_cst_4
  pointwise [tail]

theorem decay_apply (n : Fin 128) (t : Fin 8) (h : Fin 16) (j : Fin 64) : val_main_v12 (F := Ideal) x1 (ix4 n t h j) = Ideal.exp (x1 (ix2 (tok n t) (lane h j))) :=
  congrArg Ideal.exp (heads11 x1 n t h j)

section reals
variable (n : Fin 128) (dr dl dk dv da db : ℕ → Fin 1024 → ℝ) (ds : Fin 16 → Fin 64 → Fin 64 → ℝ)

/-- The entries of sequence `n` as real numbers. -/
structure Reals : Prop where
  h0 : ∀ (t : Fin 8) J, x0 (ix2 (tok n t) J) = ((dr t.val J : ℝ) : EReal)
  h1 : ∀ (t : Fin 8) J, x1 (ix2 (tok n t) J) = ((dl t.val J : ℝ) : EReal)
  h2 : ∀ (t : Fin 8) J, x2 (ix2 (tok n t) J) = ((dk t.val J : ℝ) : EReal)
  h3 : ∀ (t : Fin 8) J, x3 (ix2 (tok n t) J) = ((dv t.val J : ℝ) : EReal)
  h4 : ∀ (t : Fin 8) J, x4 (ix2 (tok n t) J) = ((da t.val J : ℝ) : EReal)
  h5 : ∀ (t : Fin 8) J, x5 (ix2 (tok n t) J) = ((db t.val J : ℝ) : EReal)
  hs : ∀ (h : Fin 16) (i j : Fin 64), x10 (ix4 n h i j) = ((ds h i j : ℝ) : EReal)

variable (H : Reals x0 x1 x2 x3 x4 x5 x10 n dr dl dk dv da db ds)
include H

theorem state0 (h : Fin 16) (i j : Fin 64) : x10 (ix4 n h i j) = ((sR dl dk dv da db ds h 0 i j : ℝ) : EReal) := H.hs h i j

theorem state1 (h : Fin 16) (i j : Fin 64) : val_main_v38 (F := Ideal) x1 x2 x3 x4 x5 x10 (ix4 n h i j) = ((sR dl dk dv da db ds h 1 i j : ℝ) : EReal) := by
  have hsum : (∑ l, x10 (ix4 n h i l) * val_main_v7 (F := Ideal) x4 (ix4 n 0 h l))
      = ((∑ l, sR dl dk dv da db ds h 0 i l * da 0 (lane h l) : ℝ) : EReal) := by
    rw [Cert.KernelIdeal.Value.coe_sum']
    exact Finset.sum_congr rfl fun l _ => by rw [state0 x0 x1 x2 x3 x4 x5 x10 n dr dl dk dv da db ds H h i l, heads7, H.h4, ← EReal.coe_mul]; rfl
  rw [step0, hsum, state0 x0 x1 x2 x3 x4 x5 x10 n dr dl dk dv da db ds H h i j, decay_apply, H.h1, Ideal.exp_coe, heads9, H.h5, heads5, H.h3, heads3, H.h2, ← EReal.coe_mul, ← EReal.coe_mul, ← EReal.coe_mul, ← EReal.coe_add, ← EReal.coe_add]
  rfl

theorem out0 (h : Fin 16) (i : Fin 64) : val_main_v253 (F := Ideal) x0 x1 x2 x3 x4 x5 x10 (ix4 n 0 h i) = ((yR dr dl dk dv da db ds h 0 i : ℝ) : EReal) := by
  rw [stack0, read0]
  refine Eq.trans (b := ((∑ l, sR dl dk dv da db ds h 1 i l * dr 0 (lane h l) : ℝ) : EReal)) ?_ rfl
  rw [Cert.KernelIdeal.Value.coe_sum']
  exact Finset.sum_congr rfl fun l _ => by rw [state1 x0 x1 x2 x3 x4 x5 x10 n dr dl dk dv da db ds H h i l, heads1, H.h0, ← EReal.coe_mul]; rfl

theorem state2 (h : Fin 16) (i j : Fin 64) : val_main_v67 (F := Ideal) x1 x2 x3 x4 x5 x10 (ix4 n h i j) = ((sR dl dk dv da db ds h 2 i j : ℝ) : EReal) := by
  have hsum : (∑ l, (val_main_v38 (F := Ideal) x1 x2 x3 x4 x5 x10) (ix4 n h i l) * val_main_v7 (F := Ideal) x4 (ix4 n 1 h l))
      = ((∑ l, sR dl dk dv da db ds h 1 i l * da 1 (lane h l) : ℝ) : EReal) := by
    rw [Cert.KernelIdeal.Value.coe_sum']
    exact Finset.sum_congr rfl fun l _ => by rw [state1 x0 x1 x2 x3 x4 x5 x10 n dr dl dk dv da db ds H h i l, heads7, H.h4, ← EReal.coe_mul]; rfl
  rw [step1, hsum, state1 x0 x1 x2 x3 x4 x5 x10 n dr dl dk dv da db ds H h i j, decay_apply, H.h1, Ideal.exp_coe, heads9, H.h5, heads5, H.h3, heads3, H.h2, ← EReal.coe_mul, ← EReal.coe_mul, ← EReal.coe_mul, ← EReal.coe_add, ← EReal.coe_add]
  rfl

theorem out1 (h : Fin 16) (i : Fin 64) : val_main_v253 (F := Ideal) x0 x1 x2 x3 x4 x5 x10 (ix4 n 1 h i) = ((yR dr dl dk dv da db ds h 1 i : ℝ) : EReal) := by
  rw [stack1, read1]
  refine Eq.trans (b := ((∑ l, sR dl dk dv da db ds h 2 i l * dr 1 (lane h l) : ℝ) : EReal)) ?_ rfl
  rw [Cert.KernelIdeal.Value.coe_sum']
  exact Finset.sum_congr rfl fun l _ => by rw [state2 x0 x1 x2 x3 x4 x5 x10 n dr dl dk dv da db ds H h i l, heads1, H.h0, ← EReal.coe_mul]; rfl

theorem state3 (h : Fin 16) (i j : Fin 64) : val_main_v96 (F := Ideal) x1 x2 x3 x4 x5 x10 (ix4 n h i j) = ((sR dl dk dv da db ds h 3 i j : ℝ) : EReal) := by
  have hsum : (∑ l, (val_main_v67 (F := Ideal) x1 x2 x3 x4 x5 x10) (ix4 n h i l) * val_main_v7 (F := Ideal) x4 (ix4 n 2 h l))
      = ((∑ l, sR dl dk dv da db ds h 2 i l * da 2 (lane h l) : ℝ) : EReal) := by
    rw [Cert.KernelIdeal.Value.coe_sum']
    exact Finset.sum_congr rfl fun l _ => by rw [state2 x0 x1 x2 x3 x4 x5 x10 n dr dl dk dv da db ds H h i l, heads7, H.h4, ← EReal.coe_mul]; rfl
  rw [step2, hsum, state2 x0 x1 x2 x3 x4 x5 x10 n dr dl dk dv da db ds H h i j, decay_apply, H.h1, Ideal.exp_coe, heads9, H.h5, heads5, H.h3, heads3, H.h2, ← EReal.coe_mul, ← EReal.coe_mul, ← EReal.coe_mul, ← EReal.coe_add, ← EReal.coe_add]
  rfl

theorem out2 (h : Fin 16) (i : Fin 64) : val_main_v253 (F := Ideal) x0 x1 x2 x3 x4 x5 x10 (ix4 n 2 h i) = ((yR dr dl dk dv da db ds h 2 i : ℝ) : EReal) := by
  rw [stack2, read2]
  refine Eq.trans (b := ((∑ l, sR dl dk dv da db ds h 3 i l * dr 2 (lane h l) : ℝ) : EReal)) ?_ rfl
  rw [Cert.KernelIdeal.Value.coe_sum']
  exact Finset.sum_congr rfl fun l _ => by rw [state3 x0 x1 x2 x3 x4 x5 x10 n dr dl dk dv da db ds H h i l, heads1, H.h0, ← EReal.coe_mul]; rfl

theorem state4 (h : Fin 16) (i j : Fin 64) : val_main_v125 (F := Ideal) x1 x2 x3 x4 x5 x10 (ix4 n h i j) = ((sR dl dk dv da db ds h 4 i j : ℝ) : EReal) := by
  have hsum : (∑ l, (val_main_v96 (F := Ideal) x1 x2 x3 x4 x5 x10) (ix4 n h i l) * val_main_v7 (F := Ideal) x4 (ix4 n 3 h l))
      = ((∑ l, sR dl dk dv da db ds h 3 i l * da 3 (lane h l) : ℝ) : EReal) := by
    rw [Cert.KernelIdeal.Value.coe_sum']
    exact Finset.sum_congr rfl fun l _ => by rw [state3 x0 x1 x2 x3 x4 x5 x10 n dr dl dk dv da db ds H h i l, heads7, H.h4, ← EReal.coe_mul]; rfl
  rw [step3, hsum, state3 x0 x1 x2 x3 x4 x5 x10 n dr dl dk dv da db ds H h i j, decay_apply, H.h1, Ideal.exp_coe, heads9, H.h5, heads5, H.h3, heads3, H.h2, ← EReal.coe_mul, ← EReal.coe_mul, ← EReal.coe_mul, ← EReal.coe_add, ← EReal.coe_add]
  rfl

theorem out3 (h : Fin 16) (i : Fin 64) : val_main_v253 (F := Ideal) x0 x1 x2 x3 x4 x5 x10 (ix4 n 3 h i) = ((yR dr dl dk dv da db ds h 3 i : ℝ) : EReal) := by
  rw [stack3, read3]
  refine Eq.trans (b := ((∑ l, sR dl dk dv da db ds h 4 i l * dr 3 (lane h l) : ℝ) : EReal)) ?_ rfl
  rw [Cert.KernelIdeal.Value.coe_sum']
  exact Finset.sum_congr rfl fun l _ => by rw [state4 x0 x1 x2 x3 x4 x5 x10 n dr dl dk dv da db ds H h i l, heads1, H.h0, ← EReal.coe_mul]; rfl

theorem state5 (h : Fin 16) (i j : Fin 64) : val_main_v154 (F := Ideal) x1 x2 x3 x4 x5 x10 (ix4 n h i j) = ((sR dl dk dv da db ds h 5 i j : ℝ) : EReal) := by
  have hsum : (∑ l, (val_main_v125 (F := Ideal) x1 x2 x3 x4 x5 x10) (ix4 n h i l) * val_main_v7 (F := Ideal) x4 (ix4 n 4 h l))
      = ((∑ l, sR dl dk dv da db ds h 4 i l * da 4 (lane h l) : ℝ) : EReal) := by
    rw [Cert.KernelIdeal.Value.coe_sum']
    exact Finset.sum_congr rfl fun l _ => by rw [state4 x0 x1 x2 x3 x4 x5 x10 n dr dl dk dv da db ds H h i l, heads7, H.h4, ← EReal.coe_mul]; rfl
  rw [step4, hsum, state4 x0 x1 x2 x3 x4 x5 x10 n dr dl dk dv da db ds H h i j, decay_apply, H.h1, Ideal.exp_coe, heads9, H.h5, heads5, H.h3, heads3, H.h2, ← EReal.coe_mul, ← EReal.coe_mul, ← EReal.coe_mul, ← EReal.coe_add, ← EReal.coe_add]
  rfl

theorem out4 (h : Fin 16) (i : Fin 64) : val_main_v253 (F := Ideal) x0 x1 x2 x3 x4 x5 x10 (ix4 n 4 h i) = ((yR dr dl dk dv da db ds h 4 i : ℝ) : EReal) := by
  rw [stack4, read4]
  refine Eq.trans (b := ((∑ l, sR dl dk dv da db ds h 5 i l * dr 4 (lane h l) : ℝ) : EReal)) ?_ rfl
  rw [Cert.KernelIdeal.Value.coe_sum']
  exact Finset.sum_congr rfl fun l _ => by rw [state5 x0 x1 x2 x3 x4 x5 x10 n dr dl dk dv da db ds H h i l, heads1, H.h0, ← EReal.coe_mul]; rfl

theorem state6 (h : Fin 16) (i j : Fin 64) : val_main_v183 (F := Ideal) x1 x2 x3 x4 x5 x10 (ix4 n h i j) = ((sR dl dk dv da db ds h 6 i j : ℝ) : EReal) := by
  have hsum : (∑ l, (val_main_v154 (F := Ideal) x1 x2 x3 x4 x5 x10) (ix4 n h i l) * val_main_v7 (F := Ideal) x4 (ix4 n 5 h l))
      = ((∑ l, sR dl dk dv da db ds h 5 i l * da 5 (lane h l) : ℝ) : EReal) := by
    rw [Cert.KernelIdeal.Value.coe_sum']
    exact Finset.sum_congr rfl fun l _ => by rw [state5 x0 x1 x2 x3 x4 x5 x10 n dr dl dk dv da db ds H h i l, heads7, H.h4, ← EReal.coe_mul]; rfl
  rw [step5, hsum, state5 x0 x1 x2 x3 x4 x5 x10 n dr dl dk dv da db ds H h i j, decay_apply, H.h1, Ideal.exp_coe, heads9, H.h5, heads5, H.h3, heads3, H.h2, ← EReal.coe_mul, ← EReal.coe_mul, ← EReal.coe_mul, ← EReal.coe_add, ← EReal.coe_add]
  rfl

theorem out5 (h : Fin 16) (i : Fin 64) : val_main_v253 (F := Ideal) x0 x1 x2 x3 x4 x5 x10 (ix4 n 5 h i) = ((yR dr dl dk dv da db ds h 5 i : ℝ) : EReal) := by
  rw [stack5, read5]
  refine Eq.trans (b := ((∑ l, sR dl dk dv da db ds h 6 i l * dr 5 (lane h l) : ℝ) : EReal)) ?_ rfl
  rw [Cert.KernelIdeal.Value.coe_sum']
  exact Finset.sum_congr rfl fun l _ => by rw [state6 x0 x1 x2 x3 x4 x5 x10 n dr dl dk dv da db ds H h i l, heads1, H.h0, ← EReal.coe_mul]; rfl

theorem state7 (h : Fin 16) (i j : Fin 64) : val_main_v212 (F := Ideal) x1 x2 x3 x4 x5 x10 (ix4 n h i j) = ((sR dl dk dv da db ds h 7 i j : ℝ) : EReal) := by
  have hsum : (∑ l, (val_main_v183 (F := Ideal) x1 x2 x3 x4 x5 x10) (ix4 n h i l) * val_main_v7 (F := Ideal) x4 (ix4 n 6 h l))
      = ((∑ l, sR dl dk dv da db ds h 6 i l * da 6 (lane h l) : ℝ) : EReal) := by
    rw [Cert.KernelIdeal.Value.coe_sum']
    exact Finset.sum_congr rfl fun l _ => by rw [state6 x0 x1 x2 x3 x4 x5 x10 n dr dl dk dv da db ds H h i l, heads7, H.h4, ← EReal.coe_mul]; rfl
  rw [step6, hsum, state6 x0 x1 x2 x3 x4 x5 x10 n dr dl dk dv da db ds H h i j, decay_apply, H.h1, Ideal.exp_coe, heads9, H.h5, heads5, H.h3, heads3, H.h2, ← EReal.coe_mul, ← EReal.coe_mul, ← EReal.coe_mul, ← EReal.coe_add, ← EReal.coe_add]
  rfl

theorem out6 (h : Fin 16) (i : Fin 64) : val_main_v253 (F := Ideal) x0 x1 x2 x3 x4 x5 x10 (ix4 n 6 h i) = ((yR dr dl dk dv da db ds h 6 i : ℝ) : EReal) := by
  rw [stack6, read6]
  refine Eq.trans (b := ((∑ l, sR dl dk dv da db ds h 7 i l * dr 6 (lane h l) : ℝ) : EReal)) ?_ rfl
  rw [Cert.KernelIdeal.Value.coe_sum']
  exact Finset.sum_congr rfl fun l _ => by rw [state7 x0 x1 x2 x3 x4 x5 x10 n dr dl dk dv da db ds H h i l, heads1, H.h0, ← EReal.coe_mul]; rfl

theorem state8 (h : Fin 16) (i j : Fin 64) : val_main_v241 (F := Ideal) x1 x2 x3 x4 x5 x10 (ix4 n h i j) = ((sR dl dk dv da db ds h 8 i j : ℝ) : EReal) := by
  have hsum : (∑ l, (val_main_v212 (F := Ideal) x1 x2 x3 x4 x5 x10) (ix4 n h i l) * val_main_v7 (F := Ideal) x4 (ix4 n 7 h l))
      = ((∑ l, sR dl dk dv da db ds h 7 i l * da 7 (lane h l) : ℝ) : EReal) := by
    rw [Cert.KernelIdeal.Value.coe_sum']
    exact Finset.sum_congr rfl fun l _ => by rw [state7 x0 x1 x2 x3 x4 x5 x10 n dr dl dk dv da db ds H h i l, heads7, H.h4, ← EReal.coe_mul]; rfl
  rw [step7, hsum, state7 x0 x1 x2 x3 x4 x5 x10 n dr dl dk dv da db ds H h i j, decay_apply, H.h1, Ideal.exp_coe, heads9, H.h5, heads5, H.h3, heads3, H.h2, ← EReal.coe_mul, ← EReal.coe_mul, ← EReal.coe_mul, ← EReal.coe_add, ← EReal.coe_add]
  rfl

theorem out7 (h : Fin 16) (i : Fin 64) : val_main_v253 (F := Ideal) x0 x1 x2 x3 x4 x5 x10 (ix4 n 7 h i) = ((yR dr dl dk dv da db ds h 7 i : ℝ) : EReal) := by
  rw [stack7, read7]
  refine Eq.trans (b := ((∑ l, sR dl dk dv da db ds h 8 i l * dr 7 (lane h l) : ℝ) : EReal)) ?_ rfl
  rw [Cert.KernelIdeal.Value.coe_sum']
  exact Finset.sum_congr rfl fun l _ => by rw [state8 x0 x1 x2 x3 x4 x5 x10 n dr dl dk dv da db ds H h i l, heads1, H.h0, ← EReal.coe_mul]; rfl

theorem out_all (t : Fin 8) (h : Fin 16) (i : Fin 64) : val_main_v253 (F := Ideal) x0 x1 x2 x3 x4 x5 x10 (ix4 n t h i) = ((yR dr dl dk dv da db ds h t.val i : ℝ) : EReal) := by
  fin_cases t
  · exact out0 x0 x1 x2 x3 x4 x5 x10 n dr dl dk dv da db ds H h i
  · exact out1 x0 x1 x2 x3 x4 x5 x10 n dr dl dk dv da db ds H h i
  · exact out2 x0 x1 x2 x3 x4 x5 x10 n dr dl dk dv da db ds H h i
  · exact out3 x0 x1 x2 x3 x4 x5 x10 n dr dl dk dv da db ds H h i
  · exact out4 x0 x1 x2 x3 x4 x5 x10 n dr dl dk dv da db ds H h i
  · exact out5 x0 x1 x2 x3 x4 x5 x10 n dr dl dk dv da db ds H h i
  · exact out6 x0 x1 x2 x3 x4 x5 x10 n dr dl dk dv da db ds H h i
  · exact out7 x0 x1 x2 x3 x4 x5 x10 n dr dl dk dv da db ds H h i

end reals

/-- A row of the reference's result. -/
theorem row_real (R J : Fin 1024) (dr dl dk dv da db : ℕ → Fin 1024 → ℝ) (ds : Fin 16 → Fin 64 → Fin 64 → ℝ)
    (H : Reals x0 x1 x2 x3 x4 x5 x10 ⟨R.val / 8, by omega⟩ dr dl dk dv da db ds) : val_main_v290 (F := Ideal) x0 x1 x2 x3 x4 x5 x6 x7 x8 x9 x10 (ix2 R J)
    = tail (fun x => ((yR dr dl dk dv da db ds ⟨J.val / 64, by omega⟩ (R.val % 8) x : ℝ) : EReal))
        (fun x => x0 (ix2 (tok ⟨R.val / 8, by omega⟩ ⟨R.val % 8, by omega⟩) (lane ⟨J.val / 64, by omega⟩ x)))
        (fun x => x2 (ix2 (tok ⟨R.val / 8, by omega⟩ ⟨R.val % 8, by omega⟩) (lane ⟨J.val / 64, by omega⟩ x)))
        (fun x => x7 (ix2 ⟨J.val / 64, by omega⟩ x)) (x3 (ix2 (tok ⟨R.val / 8, by omega⟩ ⟨R.val % 8, by omega⟩) (lane ⟨J.val / 64, by omega⟩ ⟨J.val % 64, by omega⟩)))
        (x8 (ix1 J)) (x9 (ix1 J)) (x6 (ix2 ⟨8192 + R.val, by omega⟩ J)) ⟨J.val % 64, by omega⟩ := by
  have ey := funext fun x => out_all x0 x1 x2 x3 x4 x5 x10 _ dr dl dk dv da db ds H ⟨R.val % 8, by omega⟩ ⟨J.val / 64, by omega⟩ x
  have er := funext fun x => heads1 x0 ⟨R.val / 8, by omega⟩ ⟨R.val % 8, by omega⟩ ⟨J.val / 64, by omega⟩ x
  have ek := funext fun x => heads3 x2 ⟨R.val / 8, by omega⟩ ⟨R.val % 8, by omega⟩ ⟨J.val / 64, by omega⟩ x
  rw [row_apply, ey, er, ek, heads5]

end Cert.ReferenceScanIdeal.Read

end
-- ==== Proof.ScanFinite.lean ====
/-
  The recurrence's precondition in numbers: the sequences' rows and the states before them are numbers.
-/
module

public import proofs.«01_k».proof.Pre_finite_scan
public import proofs.«01_k».proof.Proof.AttnFinite

@[expose] public section

set_option maxRecDepth 16384

noncomputable section

open Idealize.ShloMosaic Idealize.ShloMosaic.TcCoe Idealize.SL.Sem

namespace Cert.Pre_finite_scan.Read
open Cert.Pre_finite_scan
open Cert.KernelIdeal.Value (real_of_lt lt_of_cmp and_one top_bits)

variable (x0 x1 x2 x3 x4 x5 x6 : Vec Ideal S9216x1024 .f32) (x7 : Vec Ideal S16x64 .f32) (x8 x9 : Vec Ideal S1024 .f32) (x10 : Vec Ideal S128x16x64x64 .f32)

/-- The test of one entry. -/
abbrev test (x : EReal) : BitVec 1 := Ideal.cmp .olt (max x (-x)) ⊤

theorem fn_at [Facts] (n : Fin 128) (h : Fin 16) (t : Fin 8) (i j : Fin 64) :
    fn (F := Ideal) x0 x1 x2 x3 x4 x5 x6 x7 x8 x9 x10 (ix5 n h t i j)
      = IntOp.andi (IntOp.andi (IntOp.andi (IntOp.andi (IntOp.andi (IntOp.andi (IntOp.andi 1#1
          (test (x0 (ix2 ⟨8192 + (n.val * 8 + t.val), by omega⟩ ⟨h.val * 64 + j.val, by omega⟩))))
          (test (x1 (ix2 ⟨8192 + (n.val * 8 + t.val), by omega⟩ ⟨h.val * 64 + j.val, by omega⟩))))
          (test (x2 (ix2 ⟨8192 + (n.val * 8 + t.val), by omega⟩ ⟨h.val * 64 + j.val, by omega⟩))))
          (test (x3 (ix2 ⟨8192 + (n.val * 8 + t.val), by omega⟩ ⟨h.val * 64 + j.val, by omega⟩))))
          (test (x4 (ix2 ⟨8192 + (n.val * 8 + t.val), by omega⟩ ⟨h.val * 64 + j.val, by omega⟩))))
          (test (x5 (ix2 ⟨8192 + (n.val * 8 + t.val), by omega⟩ ⟨h.val * 64 + j.val, by omega⟩))))
          (test (x10 (ix4 n h i j))) := by
  unfold fn fn_part1 fn_part2
  pointwise
  rw [top_bits]
  rfl

/-- All seven tests of one index. -/
theorem tests [Facts] (H : fn (F := Ideal) x0 x1 x2 x3 x4 x5 x6 x7 x8 x9 x10 = fun _ => 1#1) (n : Fin 128) (h : Fin 16) (t : Fin 8) (i j : Fin 64) :
    (∀ x ∈ [x0, x1, x2, x3, x4, x5], ∃ r : ℝ, x (ix2 ⟨8192 + (n.val * 8 + t.val), by omega⟩ ⟨h.val * 64 + j.val, by omega⟩) = (r : EReal))
      ∧ ∃ r : ℝ, x10 (ix4 n h i j) = (r : EReal) := by
  have e := congrFun H (ix5 n h t i j)
  rw [fn_at] at e
  obtain ⟨e, es⟩ := and_one e
  obtain ⟨e, e5⟩ := and_one e
  obtain ⟨e, e4⟩ := and_one e
  obtain ⟨e, e3⟩ := and_one e
  obtain ⟨e, e2⟩ := and_one e
  obtain ⟨e, e1⟩ := and_one e
  obtain ⟨-, e0⟩ := and_one e
  refine ⟨fun x hx => ?_, real_of_lt (lt_of_cmp es)⟩
  simp only [List.mem_cons, List.not_mem_nil, or_false] at hx
  rcases hx with rfl | rfl | rfl | rfl | rfl | rfl
  · exact real_of_lt (lt_of_cmp e0)
  · exact real_of_lt (lt_of_cmp e1)
  · exact real_of_lt (lt_of_cmp e2)
  · exact real_of_lt (lt_of_cmp e3)
  · exact real_of_lt (lt_of_cmp e4)
  · exact real_of_lt (lt_of_cmp e5)

/-- A row of the recurrence is a row of numbers. -/
theorem row [Facts] (H : fn (F := Ideal) x0 x1 x2 x3 x4 x5 x6 x7 x8 x9 x10 = fun _ => 1#1) (x : Vec Ideal S9216x1024 .f32) (hx : x ∈ [x0, x1, x2, x3, x4, x5])
    (n : Fin 128) (t : Fin 8) (J : Fin 1024) : x (ix2 ⟨8192 + (8 * n.val + t.val), by omega⟩ J) = ((x (ix2 ⟨8192 + (8 * n.val + t.val), by omega⟩ J)).toReal : EReal) := by
  obtain ⟨r, hr⟩ := (tests x0 x1 x2 x3 x4 x5 x6 x7 x8 x9 x10 H n ⟨J.val / 64, by omega⟩ t 0 ⟨J.val % 64, by omega⟩).1 x hx
  have e : (ix2 ⟨8192 + (8 * n.val + t.val), by omega⟩ J : S9216x1024.Idx)
      = ix2 ⟨8192 + (n.val * 8 + t.val), by omega⟩ ⟨J.val / 64 * 64 + J.val % 64, by omega⟩ := by
    congr 1
    · exact Fin.ext (by show 8192 + (8 * n.val + t.val) = 8192 + (n.val * 8 + t.val); omega)
    · exact Fin.ext (by show J.val = J.val / 64 * 64 + J.val % 64; omega)
  rw [e]
  exact hr.trans (by rw [hr, EReal.toReal_coe])

/-- A state before the recurrence is a table of numbers. -/
theorem state [Facts] (H : fn (F := Ideal) x0 x1 x2 x3 x4 x5 x6 x7 x8 x9 x10 = fun _ => 1#1) (n : Fin 128) (h : Fin 16) (i j : Fin 64) :
    x10 (ix4 n h i j) = ((x10 (ix4 n h i j)).toReal : EReal) := by
  obtain ⟨r, hr⟩ := (tests x0 x1 x2 x3 x4 x5 x6 x7 x8 x9 x10 H n h 0 i j).2
  rw [hr, EReal.toReal_coe]

end Cert.Pre_finite_scan.Read

end
-- ==== Proof.ScanValue.lean ====
/-
  The value claim of the recurrence: its rows and its final states are the reference's.
-/
module

public import proofs.«01_k».proof.Proof.ScanWin
public import proofs.«01_k».proof.Proof.ScanRef
public import proofs.«01_k».proof.Proof.ScanFinite

@[expose] public section

set_option maxRecDepth 16384

noncomputable section

open Idealize.ShloMosaic Idealize.ShloMosaic.TcCoe Idealize.SL.Sem
open Cert.Layer

namespace Cert.KernelScanIdeal.Value
open Cert.KernelScanIdeal Cert.KernelScanIdeal.Gen
open Cert.ReferenceScanIdeal.Read

variable (m : (ℓ : Loc nD τ sig) → Buf (Elt Ideal) ℓ) (c : Dev nD)

/-- The receptances. -/
abbrev arg0 : Vec Ideal S9216x1024 .f32 := m ((c : Thread nD τ).loc main_arg0)
/-- The logarithms of the decays. -/
abbrev arg1 : Vec Ideal S9216x1024 .f32 := m ((c : Thread nD τ).loc main_arg1)
/-- The keys. -/
abbrev arg2 : Vec Ideal S9216x1024 .f32 := m ((c : Thread nD τ).loc main_arg2)
/-- The values. -/
abbrev arg3 : Vec Ideal S9216x1024 .f32 := m ((c : Thread nD τ).loc main_arg3)
/-- The removal keys. -/
abbrev arg4 : Vec Ideal S9216x1024 .f32 := m ((c : Thread nD τ).loc main_arg4)
/-- The removal rates. -/
abbrev arg5 : Vec Ideal S9216x1024 .f32 := m ((c : Thread nD τ).loc main_arg5)
/-- The gates. -/
abbrev arg6 : Vec Ideal S9216x1024 .f32 := m ((c : Thread nD τ).loc main_arg6)
/-- The bonus weights. -/
abbrev arg7 : Vec Ideal S16x64 .f32 := m ((c : Thread nD τ).loc main_arg7)
/-- The normalisation's gains. -/
abbrev arg8 : Vec Ideal S1024 .f32 := m ((c : Thread nD τ).loc main_arg8)
/-- The normalisation's biases. -/
abbrev arg9 : Vec Ideal S1024 .f32 := m ((c : Thread nD τ).loc main_arg9)
/-- The states before the tokens. -/
abbrev arg10 : Vec Ideal S128x16x64x64 .f32 := m ((c : Thread nD τ).loc main_arg10)

/-- The numbers in a sequence's rows. -/
def nums (x : Vec Ideal S9216x1024 .f32) (n : Fin 128) (p : ℕ) (J : Fin 1024) : ℝ :=
  if h : p < 8 then (x (ix2 (tok n ⟨p, h⟩) J)).toReal else 0

/-- The numbers in a sequence's states. -/
def numsS (x : Vec Ideal S128x16x64x64 .f32) (n : Fin 128) (h : Fin 16) (i j : Fin 64) : ℝ := (x (ix4 n h i j)).toReal

/-- A row of numbers read as numbers. -/
theorem nums_of (x : Vec Ideal S9216x1024 .f32) (n : Fin 128) (t : Fin 8) (J : Fin 1024)
    (hx : x (ix2 (tok n t) J) = ((x (ix2 (tok n t) J)).toReal : EReal)) : x (ix2 (tok n t) J) = ((nums x n t.val J : ℝ) : EReal) := by
  unfold nums
  rw [dif_pos t.isLt]
  exact hx

section entries
variable (H : ∀ n : Fin 128, Reals (arg0 m c) (arg1 m c) (arg2 m c) (arg3 m c) (arg4 m c) (arg5 m c) (arg10 m c) n (nums (arg0 m c) n) (nums (arg1 m c) n) (nums (arg2 m c) n)
  (nums (arg3 m c) n) (nums (arg4 m c) n) (nums (arg5 m c) n) (numsS (arg10 m c) n))
include H

/-- An entry of the final states. -/
theorem entry_state (n : Fin 128) (h : Fin 16) (u w : Fin 64) :
    ((dats m 0 c).arrAt 12 cfg0.N : Vec Ideal S128x16x64x64 .f32) (ix4 n h u w)
      = Cert.ReferenceScanIdeal.Read.val_main_v241 (F := Ideal) (arg1 m c) (arg2 m c) (arg3 m c) (arg4 m c) (arg5 m c) (arg10 m c) (ix4 n h u w) := by
  have G := H n
  rw [state8 (arg0 m c) (arg1 m c) (arg2 m c) (arg3 m c) (arg4 m c) (arg5 m c) (arg10 m c) n _ _ _ _ _ _ _ G h u w]
  exact result12 m c (n : Fin 128) (nums (arg0 m c) n) (nums (arg1 m c) n) (nums (arg2 m c) n)
    (nums (arg3 m c) n) (nums (arg4 m c) n) (nums (arg5 m c) n) (numsS (arg10 m c) n)
    (fun p J => (iblk0 m c n p J (tok n p) rfl).trans (G.h0 p J)) (fun p J => (iblk1 m c n p J (tok n p) rfl).trans (G.h1 p J))
    (fun p J => (iblk2 m c n p J (tok n p) rfl).trans (G.h2 p J)) (fun p J => (iblk3 m c n p J (tok n p) rfl).trans (G.h3 p J))
    (fun p J => (iblk4 m c n p J (tok n p) rfl).trans (G.h4 p J)) (fun p J => (iblk5 m c n p J (tok n p) rfl).trans (G.h5 p J))
    (fun h i j => (iblk10 m c n n rfl h i j).trans (G.hs h i j)) n rfl h u w

/-- An entry of the rows. -/
theorem entry_row (R J : Fin 1024) :
    ((dats m 0 c).arrAt 11 cfg0.N : Vec Ideal S1024x1024 .f32) (ix2 R J)
      = Cert.ReferenceScanIdeal.Read.val_main_v290 (F := Ideal) (arg0 m c) (arg1 m c) (arg2 m c) (arg3 m c) (arg4 m c) (arg5 m c) (arg6 m c) (arg7 m c) (arg8 m c) (arg9 m c) (arg10 m c) (ix2 R J) := by
  obtain ⟨n, hn⟩ : ∃ n : Fin 128, n = ⟨R.val / 8, by omega⟩ := ⟨_, rfl⟩
  obtain ⟨p, hp⟩ : ∃ p : Fin 8, p = ⟨R.val % 8, by omega⟩ := ⟨_, rfl⟩
  have hnv : n.val = R.val / 8 := congrArg Fin.val hn
  have hpv : p.val = R.val % 8 := congrArg Fin.val hp
  have G := H n
  have e := row_real (arg0 m c) (arg1 m c) (arg2 m c) (arg3 m c) (arg4 m c) (arg5 m c) (arg6 m c) (arg7 m c) (arg8 m c) (arg9 m c) (arg10 m c) R J _ _ _ _ _ _ _ (hn ▸ G)
  have l := result11 m c n (nums (arg0 m c) n) (nums (arg1 m c) n) (nums (arg2 m c) n)
    (nums (arg3 m c) n) (nums (arg4 m c) n) (nums (arg5 m c) n) (numsS (arg10 m c) n)
    (fun p J => (iblk0 m c n p J (tok n p) rfl).trans (G.h0 p J)) (fun p J => (iblk1 m c n p J (tok n p) rfl).trans (G.h1 p J))
    (fun p J => (iblk2 m c n p J (tok n p) rfl).trans (G.h2 p J)) (fun p J => (iblk3 m c n p J (tok n p) rfl).trans (G.h3 p J))
    (fun p J => (iblk4 m c n p J (tok n p) rfl).trans (G.h4 p J)) (fun p J => (iblk5 m c n p J (tok n p) rfl).trans (G.h5 p J))
    (fun h i j => (iblk10 m c n n rfl h i j).trans (G.hs h i j)) p J R (by show R.val = 8 * n.val + p.val; omega)
  rw [e, ← hn, ← hp]
  refine l.trans ?_
  have hJ : lane ⟨J.val / 64, by omega⟩ ⟨J.val % 64, by omega⟩ = J := Fin.ext (by show 64 * (J.val / 64) + J.val % 64 = J.val; omega)
  have e0 := funext fun x => iblk0 m c n p (lane ⟨J.val / 64, by omega⟩ x) (tok n p) rfl
  have e2 := funext fun x => iblk2 m c n p (lane ⟨J.val / 64, by omega⟩ x) (tok n p) rfl
  have e7 := funext fun x => (iblk7 m c n (lane ⟨J.val / 64, by omega⟩ x)).trans (V_bonus m c ⟨J.val / 64, by omega⟩ x)
  have e3 := iblk3 m c n p (lane ⟨J.val / 64, by omega⟩ ⟨J.val % 64, by omega⟩) (tok n p) rfl
  have e8 := (iblk8 m c n J).trans (V_gain m c J)
  have e9 := (iblk9 m c n J).trans (V_bias m c J)
  have e6 := iblk6 m c n p J ⟨8192 + R.val, by omega⟩ (by show 8192 + R.val = 8192 + (8 * n.val + p.val); omega)
  show rowOf _ _ _ _ _ _ _ _ _ _ _ _ _ _ ⟨J.val / 64, _⟩ p ⟨J.val % 64, _⟩ = _
  unfold rowOf
  rw [hJ] at e3 ⊢
  rw [e0, e2, e7, e3, e8, e9, e6, hpv]

end entries

set_option maxHeartbeats 1000000 in
/-- The rows and the final states of the recurrence are the reference's. -/
theorem scan_algebraic [hK : Cert.KernelScanIdeal.Facts] [hR : Cert.ReferenceScanIdeal.Facts] [hP : Cert.Pre_finite_scan.Facts] :
    Cert.algebraic_KernelScanIdeal_ReferenceScanIdeal_pre_finite_scan := by
  intro m g m' g' hpre hagree
  refine ⟨fun c => (Cert.KernelScanIdeal.Gen.dats m 0 c).arrAt 11 cfg0.N, fun c => (Cert.KernelScanIdeal.Gen.dats m 0 c).arrAt 12 cfg0.N, ?_, ?_⟩
  · exact Cert.KernelScanIdeal.Value.run_blocks m g
  · refine (θ_run _ _ _).mono (fun r h c => ?_) (Cert.ReferenceScanIdeal.Value.run (F := Ideal) m' g')
    obtain ⟨a0, a1, a2, a3, a4, a5, a6, a7, a8, a9, a10⟩ := hagree c
    have row := Cert.Pre_finite_scan.Read.row _ _ _ _ _ _ _ _ _ _ _ (hpre c)
    have state := Cert.Pre_finite_scan.Read.state _ _ _ _ _ _ _ _ _ _ _ (hpre c)
    have H : ∀ n : Fin 128, Reals (arg0 m c) (arg1 m c) (arg2 m c) (arg3 m c) (arg4 m c) (arg5 m c) (arg10 m c) n (nums (arg0 m c) n) (nums (arg1 m c) n) (nums (arg2 m c) n)
        (nums (arg3 m c) n) (nums (arg4 m c) n) (nums (arg5 m c) n) (numsS (arg10 m c) n) := fun n =>
      { h0 := fun t J => nums_of _ n t J (row (arg0 m c) (by simp only [List.mem_cons, true_or, or_true]) n t J)
        h1 := fun t J => nums_of _ n t J (row (arg1 m c) (by simp only [List.mem_cons, true_or, or_true]) n t J)
        h2 := fun t J => nums_of _ n t J (row (arg2 m c) (by simp only [List.mem_cons, true_or, or_true]) n t J)
        h3 := fun t J => nums_of _ n t J (row (arg3 m c) (by simp only [List.mem_cons, true_or, or_true]) n t J)
        h4 := fun t J => nums_of _ n t J (row (arg4 m c) (by simp only [List.mem_cons, true_or, or_true]) n t J)
        h5 := fun t J => nums_of _ n t J (row (arg5 m c) (by simp only [List.mem_cons, true_or, or_true]) n t J)
        hs := fun h i j => state n h i j }
    obtain ⟨e0, e1, rest⟩ := h c
    refine ⟨e0.trans ?_, e1.trans ?_, rest⟩
    · refine Eq.trans (b := Cert.ReferenceScanIdeal.Read.val_main_v290 (F := Ideal) (m' ((c.tc : Thread Cert.ReferenceScanIdeal.nD Cert.ReferenceScanIdeal.τ).loc Cert.ReferenceScanIdeal.main_arg0)) (m' ((c.tc : Thread Cert.ReferenceScanIdeal.nD Cert.ReferenceScanIdeal.τ).loc Cert.ReferenceScanIdeal.main_arg1)) (m' ((c.tc : Thread Cert.ReferenceScanIdeal.nD Cert.ReferenceScanIdeal.τ).loc Cert.ReferenceScanIdeal.main_arg2)) (m' ((c.tc : Thread Cert.ReferenceScanIdeal.nD Cert.ReferenceScanIdeal.τ).loc Cert.ReferenceScanIdeal.main_arg3)) (m' ((c.tc : Thread Cert.ReferenceScanIdeal.nD Cert.ReferenceScanIdeal.τ).loc Cert.ReferenceScanIdeal.main_arg4)) (m' ((c.tc : Thread Cert.ReferenceScanIdeal.nD Cert.ReferenceScanIdeal.τ).loc Cert.ReferenceScanIdeal.main_arg5)) (m' ((c.tc : Thread Cert.ReferenceScanIdeal.nD Cert.ReferenceScanIdeal.τ).loc Cert.ReferenceScanIdeal.main_arg6)) (m' ((c.tc : Thread Cert.ReferenceScanIdeal.nD Cert.ReferenceScanIdeal.τ).loc Cert.ReferenceScanIdeal.main_arg7)) (m' ((c.tc : Thread Cert.ReferenceScanIdeal.nD Cert.ReferenceScanIdeal.τ).loc Cert.ReferenceScanIdeal.main_arg8)) (m' ((c.tc : Thread Cert.ReferenceScanIdeal.nD Cert.ReferenceScanIdeal.τ).loc Cert.ReferenceScanIdeal.main_arg9)) (m' ((c.tc : Thread Cert.ReferenceScanIdeal.nD Cert.ReferenceScanIdeal.τ).loc Cert.ReferenceScanIdeal.main_arg10))) (Cert.ReferenceScanIdeal.Read.val_main_v290_eq (StableHlo.launchContents m' c)) ?_
      rw [a0, a1, a2, a3, a4, a5, a6, a7, a8, a9, a10]
      funext i
      obtain ⟨R, J, rfl⟩ : ∃ R J : Fin 1024, i = ix2 R J := ⟨i 0, i 1, eq_ix2 i⟩
      exact (entry_row m c H R J).symm
    · refine Eq.trans (b := Cert.ReferenceScanIdeal.Read.val_main_v241 (F := Ideal) (m' ((c.tc : Thread Cert.ReferenceScanIdeal.nD Cert.ReferenceScanIdeal.τ).loc Cert.ReferenceScanIdeal.main_arg1)) (m' ((c.tc : Thread Cert.ReferenceScanIdeal.nD Cert.ReferenceScanIdeal.τ).loc Cert.ReferenceScanIdeal.main_arg2)) (m' ((c.tc : Thread Cert.ReferenceScanIdeal.nD Cert.ReferenceScanIdeal.τ).loc Cert.ReferenceScanIdeal.main_arg3)) (m' ((c.tc : Thread Cert.ReferenceScanIdeal.nD Cert.ReferenceScanIdeal.τ).loc Cert.ReferenceScanIdeal.main_arg4)) (m' ((c.tc : Thread Cert.ReferenceScanIdeal.nD Cert.ReferenceScanIdeal.τ).loc Cert.ReferenceScanIdeal.main_arg5)) (m' ((c.tc : Thread Cert.ReferenceScanIdeal.nD Cert.ReferenceScanIdeal.τ).loc Cert.ReferenceScanIdeal.main_arg10))) (Cert.ReferenceScanIdeal.Read.val_main_v241_eq (StableHlo.launchContents m' c)) ?_
      rw [a1, a2, a3, a4, a5, a10]
      funext i
      obtain ⟨n, h, u, w, rfl⟩ : ∃ (n : Fin 128) (h : Fin 16) (u w : Fin 64), i = ix4 n h u w := ⟨i 0, i 1, i 2, i 3, eq_ix4 i⟩
      exact (entry_state m c H n h u w).symm

end Cert.KernelScanIdeal.Value

end
-- ==== Proof.lean ====
/-
  The proof of `Cert.Claim`: the frame of every program, the idealizations, and the value claims of the calls, each
  assembled from the modules beside this one.
-/
module

public import proofs.«01_k».proof.Defs
public import proofs.«01_k».proof.Proof.Gen.Pre_experts_in_range
public import proofs.«01_k».proof.Proof.Gen.Pre_finite_scores
public import proofs.«01_k».proof.Proof.Gen.Pre_finite_rows
public import proofs.«01_k».proof.Proof.Gen.Pre_finite_scan
public import proofs.«01_k».proof.Proof.Gen.KernelMoe
public import proofs.«01_k».proof.Proof.Gen.KernelMoe.Skeleton
public import proofs.«01_k».proof.Proof.Gen.KernelMoe.Launch
public import proofs.«01_k».proof.Proof.Gen.KernelMoeIdeal
public import proofs.«01_k».proof.Proof.Gen.KernelMoeIdeal.Skeleton
public import proofs.«01_k».proof.Proof.Gen.KernelMoeIdeal.Launch
public import proofs.«01_k».proof.Proof.Gen.ReferenceMoeIdeal
public import proofs.«01_k».proof.Proof.Gen.ReferenceMoeIdeal.Run
public import proofs.«01_k».proof.Proof.Gen.ReferenceMoeIdeal.Read
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelFfn
public import proofs.«01_k».proof.Proof.Gen.KernelFfn.Skeleton
public import proofs.«01_k».proof.Proof.Gen.KernelFfn.Launch
public import proofs.«01_k».proof.Proof.Gen.KernelFfn.Points
public import proofs.«01_k».proof.Proof.Gen.KernelFfn.Frame
public import proofs.«01_k».proof.Proof.Gen.KernelFfnIdeal
public import proofs.«01_k».proof.Proof.Gen.KernelFfnIdeal.Skeleton
public import proofs.«01_k».proof.Proof.Gen.KernelFfnIdeal.Launch
public import proofs.«01_k».proof.Proof.Gen.KernelFfnIdeal.Points
public import proofs.«01_k».proof.Proof.Gen.KernelFfnIdeal.Frame
public import proofs.«01_k».proof.Proof.Gen.KernelFfnIdeal.Value
public import proofs.«01_k».proof.Proof.Gen.ReferenceFfnIdeal
public import proofs.«01_k».proof.Proof.Gen.ReferenceFfnIdeal.Run
public import proofs.«01_k».proof.Proof.Gen.ReferenceFfnIdeal.Read
public import proofs.«01_k».proof.Proof.Gen.KernelProj
public import proofs.«01_k».proof.Proof.Gen.KernelProj.Skeleton
public import proofs.«01_k».proof.Proof.Gen.KernelProj.Launch
public import proofs.«01_k».proof.Proof.Gen.KernelProj.Points
public import proofs.«01_k».proof.Proof.Gen.KernelProj.Frame
public import proofs.«01_k».proof.Proof.Gen.KernelProjIdeal
public import proofs.«01_k».proof.Proof.Gen.KernelProjIdeal.Skeleton
public import proofs.«01_k».proof.Proof.Gen.KernelProjIdeal.Launch
public import proofs.«01_k».proof.Proof.Gen.KernelProjIdeal.Points
public import proofs.«01_k».proof.Proof.Gen.KernelProjIdeal.Frame
public import proofs.«01_k».proof.Proof.Gen.KernelProjIdeal.Value
public import proofs.«01_k».proof.Proof.Gen.ReferenceProjIdeal
public import proofs.«01_k».proof.Proof.Gen.ReferenceProjIdeal.Run
public import proofs.«01_k».proof.Proof.Gen.ReferenceProjIdeal.Read
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.ReferenceOutIdeal.Read
public import proofs.«01_k».proof.Proof.Gen.KernelMix
public import proofs.«01_k».proof.Proof.Gen.KernelMix.Skeleton
public import proofs.«01_k».proof.Proof.Gen.KernelMix.Launch
public import proofs.«01_k».proof.Proof.Gen.KernelMix.Points
public import proofs.«01_k».proof.Proof.Gen.KernelMix.Frame
public import proofs.«01_k».proof.Proof.Gen.KernelMixIdeal
public import proofs.«01_k».proof.Proof.Gen.KernelMixIdeal.Skeleton
public import proofs.«01_k».proof.Proof.Gen.KernelMixIdeal.Launch
public import proofs.«01_k».proof.Proof.Gen.KernelMixIdeal.Points
public import proofs.«01_k».proof.Proof.Gen.KernelMixIdeal.Frame
public import proofs.«01_k».proof.Proof.Gen.KernelMixIdeal.Value
public import proofs.«01_k».proof.Proof.Gen.ReferenceMixIdeal
public import proofs.«01_k».proof.Proof.Gen.ReferenceMixIdeal.Run
public import proofs.«01_k».proof.Proof.Gen.ReferenceMixIdeal.Read
public import proofs.«01_k».proof.Proof.Gen.KernelScan
public import proofs.«01_k».proof.Proof.Gen.KernelScan.Skeleton
public import proofs.«01_k».proof.Proof.Gen.KernelScan.Launch
public import proofs.«01_k».proof.Proof.Gen.KernelScan.Points
public import proofs.«01_k».proof.Proof.Gen.KernelScan.Frame
public import proofs.«01_k».proof.Proof.Gen.KernelScanIdeal
public import proofs.«01_k».proof.Proof.Gen.KernelScanIdeal.Skeleton
public import proofs.«01_k».proof.Proof.Gen.KernelScanIdeal.Launch
public import proofs.«01_k».proof.Proof.Gen.KernelScanIdeal.Points
public import proofs.«01_k».proof.Proof.Gen.KernelScanIdeal.Frame
public import proofs.«01_k».proof.Proof.Gen.KernelScanIdeal.Value
public import proofs.«01_k».proof.Proof.Gen.ReferenceScanIdeal
public import proofs.«01_k».proof.Proof.Gen.ReferenceScanIdeal.Run
public import proofs.«01_k».proof.Proof.Gen.ReferenceScanIdeal.Read
public import proofs.«01_k».proof.Proof.ProjValue
public import proofs.«01_k».proof.Proof.OutValue
public import proofs.«01_k».proof.Proof.FfnValue
public import proofs.«01_k».proof.Proof.MoeSame
public import proofs.«01_k».proof.Proof.MoeValue
public import proofs.«01_k».proof.Proof.AttnValue
public import proofs.«01_k».proof.Proof.MixValue
public import proofs.«01_k».proof.Proof.ScanValue
public import Idealize.ShloMosaic.Adequacy
public import Idealize.ShloMosaic.Init

@[expose] public section

noncomputable section

namespace Cert.Proof

open Idealize.ShloMosaic Idealize.SL.Sem Cert.Kernel

/-- The reference `Reference` runs, leaves its arguments alone, and ends with every counter at zero. -/
theorem frame_ReferenceIdeal [h : Cert.ReferenceIdeal.Facts] : Cert.quiescent_ReferenceIdeal := by
  intro m g _
  refine (θ_run _ _ _).mono (fun r h => ⟨fun c => (h c).2, ?_⟩) (Cert.ReferenceIdeal.Value.run (F := Ideal) m g)
  funext s
  match s with
  | (_, .reg i) => exact i.elim0
  | (_, .dma i) => exact i.elim0

/-- The reference `ReferenceFfn` runs, leaves its arguments alone, and ends with every counter at zero. -/
theorem frame_ReferenceFfnIdeal [h : Cert.ReferenceFfnIdeal.Facts] : Cert.quiescent_ReferenceFfnIdeal := by
  intro m g _
  refine (θ_run _ _ _).mono (fun r h => ⟨fun c => (h c).2, ?_⟩) (Cert.ReferenceFfnIdeal.Value.run (F := Ideal) m g)
  funext s
  match s with
  | (_, .reg i) => exact i.elim0
  | (_, .dma i) => exact i.elim0

/-- The reference `ReferenceProj` runs, leaves its arguments alone, and ends with every counter at zero. -/
theorem frame_ReferenceProjIdeal [h : Cert.ReferenceProjIdeal.Facts] : Cert.quiescent_ReferenceProjIdeal := by
  intro m g _
  refine (θ_run _ _ _).mono (fun r h => ⟨fun c => (h c).2, ?_⟩) (Cert.ReferenceProjIdeal.Value.run (F := Ideal) m g)
  funext s
  match s with
  | (_, .reg i) => exact i.elim0
  | (_, .dma i) => exact i.elim0

/-- The reference `ReferenceOut` runs, leaves its arguments alone, and ends with every counter at zero. -/
theorem frame_ReferenceOutIdeal [h : Cert.ReferenceOutIdeal.Facts] : Cert.quiescent_ReferenceOutIdeal := by
  intro m g _
  refine (θ_run _ _ _).mono (fun r h => ⟨fun c => (h c).2, ?_⟩) (Cert.ReferenceOutIdeal.Value.run (F := Ideal) m g)
  funext s
  match s with
  | (_, .reg i) => exact i.elim0
  | (_, .dma i) => exact i.elim0

/-- The expert call over the extended reals runs, leaves its arguments alone, and ends with every counter at zero, when every tile's expert is one of the eight. -/
theorem frame_KernelMoeIdeal [h : Cert.KernelMoeIdeal.Facts] [hP : Cert.Pre_experts_in_range.Facts] : Cert.quiescent_KernelMoeIdeal := by
  intro m g hpre
  have hO : Cert.KernelMoeIdeal.Run.Inside m :=
    Cert.KernelMoeIdeal.Run.inside_of _ (fun k => Cert.KernelMoeIdeal.Run.expert_lt _ _ _ _ _ _ (hpre 0) k)
  exact (θ_run _ _ _).mono (fun r h => ⟨fun c => (h.1 c).2, h.2⟩) (Cert.KernelMoeIdeal.Run.run m g hO)

/-- The reference `ReferenceMoe` runs, leaves its arguments alone, and ends with every counter at zero. -/
theorem frame_ReferenceMoeIdeal [h : Cert.ReferenceMoeIdeal.Facts] : Cert.quiescent_ReferenceMoeIdeal := by
  intro m g _
  refine (θ_run _ _ _).mono (fun r h => ⟨fun c => (h c).2, ?_⟩) (Cert.ReferenceMoeIdeal.Value.run (F := Ideal) m g)
  funext s
  match s with
  | (_, .reg i) => exact i.elim0
  | (_, .dma i) => exact i.elim0

/-- The reference `ReferenceMix` runs, leaves its arguments alone, and ends with every counter at zero. -/
theorem frame_ReferenceMixIdeal [h : Cert.ReferenceMixIdeal.Facts] : Cert.quiescent_ReferenceMixIdeal := by
  intro m g _
  refine (θ_run _ _ _).mono (fun r h => ⟨fun c => (h c).2.2.2.2.2.2.2.2.2, ?_⟩) (Cert.ReferenceMixIdeal.Value.run (F := Ideal) m g)
  funext s
  match s with
  | (_, .reg i) => exact i.elim0
  | (_, .dma i) => exact i.elim0

/-- The reference `ReferenceScan` runs, leaves its arguments alone, and ends with every counter at zero. -/
theorem frame_ReferenceScanIdeal [h : Cert.ReferenceScanIdeal.Facts] : Cert.quiescent_ReferenceScanIdeal := by
  intro m g _
  refine (θ_run _ _ _).mono (fun r h => ⟨fun c => (h c).2.2, ?_⟩) (Cert.ReferenceScanIdeal.Value.run (F := Ideal) m g)
  funext s
  match s with
  | (_, .reg i) => exact i.elim0
  | (_, .dma i) => exact i.elim0

/-- Every claim of this directory: the frames and the idealizations, then the value claims of the calls. -/
theorem claim : Cert.Claim := ⟨Cert.Kernel.Gen.facts, Cert.KernelIdeal.Gen.facts, Cert.ReferenceIdeal.Gen.facts, Cert.KernelFfn.Gen.facts, Cert.KernelFfnIdeal.Gen.facts, Cert.ReferenceFfnIdeal.Gen.facts, Cert.KernelProj.Gen.facts, Cert.KernelProjIdeal.Gen.facts, Cert.ReferenceProjIdeal.Gen.facts, Cert.KernelOut.Gen.facts, Cert.KernelOutIdeal.Gen.facts, Cert.ReferenceOutIdeal.Gen.facts,
    Cert.KernelMoe.Gen.facts, Cert.KernelMoeIdeal.Gen.facts, Cert.ReferenceMoeIdeal.Gen.facts, Cert.KernelMix.Gen.facts, Cert.KernelMixIdeal.Gen.facts, Cert.ReferenceMixIdeal.Gen.facts, Cert.KernelScan.Gen.facts, Cert.KernelScanIdeal.Gen.facts, Cert.ReferenceScanIdeal.Gen.facts,
    Cert.Pre_finite_scores.Gen.facts, Cert.Pre_experts_in_range.Gen.facts, Cert.Pre_finite_rows.Gen.facts, Cert.Pre_finite_scan.Gen.facts,
    fun m ρ _ => Cert.Kernel.Gen.frame m ρ,
    fun m ρ _ => Cert.KernelIdeal.Gen.frame m ρ,
    fun m ρ _ => Cert.KernelIdeal.Gen.frame m ρ,
    Cert.Proof.frame_ReferenceIdeal,
    fun m ρ _ => Cert.Proof.frame_ReferenceIdeal m ρ trivial,
    fun m ρ _ => Cert.KernelFfn.Gen.frame m ρ,
    fun m ρ _ => Cert.KernelFfnIdeal.Gen.frame m ρ,
    Cert.Proof.frame_ReferenceFfnIdeal,
    fun m ρ _ => Cert.KernelProj.Gen.frame m ρ,
    fun m ρ _ => Cert.KernelProjIdeal.Gen.frame m ρ,
    Cert.Proof.frame_ReferenceProjIdeal,
    fun m ρ _ => Cert.KernelOut.Gen.frame m ρ,
    fun m ρ _ => Cert.KernelOutIdeal.Gen.frame m ρ,
    Cert.Proof.frame_ReferenceOutIdeal,
    Cert.KernelMoeIdeal.Run.frame_KernelMoe (hh := Cert.KernelMoe.Gen.facts) (hi := Cert.KernelMoeIdeal.Gen.facts),
    Cert.Proof.frame_KernelMoeIdeal,
    Cert.Proof.frame_ReferenceMoeIdeal,
    fun m ρ _ => Cert.Proof.frame_ReferenceMoeIdeal m ρ trivial,
    fun m ρ _ => Cert.KernelMix.Gen.frame m ρ,
    fun m ρ _ => Cert.KernelMixIdeal.Gen.frame m ρ,
    fun m ρ _ => Cert.KernelMixIdeal.Gen.frame m ρ,
    Cert.Proof.frame_ReferenceMixIdeal,
    fun m ρ _ => Cert.Proof.frame_ReferenceMixIdeal m ρ trivial,
    fun m ρ _ => Cert.KernelScan.Gen.frame m ρ,
    fun m ρ _ => Cert.KernelScanIdeal.Gen.frame m ρ,
    fun m ρ _ => Cert.KernelScanIdeal.Gen.frame m ρ,
    Cert.Proof.frame_ReferenceScanIdeal,
    fun m ρ _ => Cert.Proof.frame_ReferenceScanIdeal m ρ trivial,
    trivial, Cert.Layer.attn_algebraic,
    trivial, Cert.Layer.ffn_algebraic,
    trivial, Cert.Layer.proj_algebraic,
    trivial, Cert.Layer.out_algebraic,
    trivial, Cert.Layer.moe_algebraic,
    trivial, Cert.Layer.mix_algebraic,
    trivial, Cert.KernelScanIdeal.Value.scan_algebraic⟩

end Cert.Proof

end
